-- ==== Defs.lean ====
def Pre_Fox (m : (ℓ : Loc Cert.Fox.nD Cert.Fox.τ Cert.Fox.sig) → Buf (Elt Bits) ℓ) : Prop :=
  True

def Pre_FoxIdeal (m : (ℓ : Loc Cert.FoxIdeal.nD Cert.FoxIdeal.τ Cert.FoxIdeal.sig) → Buf (Elt Ideal) ℓ) : Prop :=
  True

def Pre_FoxIdeal_fox_finite [hPre_fox_finite : Cert.Pre_fox_finite.Facts] (m : (ℓ : Loc Cert.FoxIdeal.nD Cert.FoxIdeal.τ Cert.FoxIdeal.sig) → Buf (Elt Ideal) ℓ) : Prop :=
  ∀ c : Dev Cert.FoxIdeal.nD,
    (Cert.Pre_fox_finite.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1))) = (fun _ => 1#1)

def Pre_FoxRefIdeal (m : (ℓ : Loc Cert.FoxRefIdeal.nD Cert.FoxRefIdeal.τ Cert.FoxRefIdeal.sig) → Buf (Elt Ideal) ℓ) : Prop :=
  True

def Pre_FoxRefIdeal_fox_finite [hPre_fox_finite : Cert.Pre_fox_finite.Facts] (m : (ℓ : Loc Cert.FoxRefIdeal.nD Cert.FoxRefIdeal.τ Cert.FoxRefIdeal.sig) → Buf (Elt Ideal) ℓ) : Prop :=
  ∀ c : Dev Cert.FoxRefIdeal.nD,
    (Cert.Pre_fox_finite.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1))) = (fun _ => 1#1)

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Moba (m : (ℓ : Loc Cert.Moba.nD Cert.Moba.τ Cert.Moba.sig) → Buf (Elt Bits) ℓ) : Prop :=
  True

def Pre_MobaIdeal (m : (ℓ : Loc Cert.MobaIdeal.nD Cert.MobaIdeal.τ Cert.MobaIdeal.sig) → Buf (Elt Ideal) ℓ) : Prop :=
  True

def Pre_MobaIdeal_moba_finite [hPre_moba_finite : Cert.Pre_moba_finite.Facts] (m : (ℓ : Loc Cert.MobaIdeal.nD Cert.MobaIdeal.τ Cert.MobaIdeal.sig) → Buf (Elt Ideal) ℓ) : Prop :=
  ∀ c : Dev Cert.MobaIdeal.nD,
    (Cert.Pre_moba_finite.fn (F := Ideal) (m ((c.tc : Thread Cert.MobaIdeal.nD Cert.MobaIdeal.τ).loc Cert.MobaIdeal.main_arg0))) = (fun _ => 1#1)

def Pre_MobaRefIdeal (m : (ℓ : Loc Cert.MobaRefIdeal.nD Cert.MobaRefIdeal.τ Cert.MobaRefIdeal.sig) → Buf (Elt Ideal) ℓ) : Prop :=
  True

def Pre_MobaRefIdeal_moba_finite [hPre_moba_finite : Cert.Pre_moba_finite.Facts] (m : (ℓ : Loc Cert.MobaRefIdeal.nD Cert.MobaRefIdeal.τ Cert.MobaRefIdeal.sig) → Buf (Elt Ideal) ℓ) : Prop :=
  ∀ c : Dev Cert.MobaRefIdeal.nD,
    (Cert.Pre_moba_finite.fn (F := Ideal) (m ((c.tc : Thread Cert.MobaRefIdeal.nD Cert.MobaRefIdeal.τ).loc Cert.MobaRefIdeal.main_arg0))) = (fun _ => 1#1)

def Pre_Csum (m : (ℓ : Loc Cert.Csum.nD Cert.Csum.τ Cert.Csum.sig) → Buf (Elt Bits) ℓ) : Prop :=
  True

def Pre_CsumIdeal (m : (ℓ : Loc Cert.CsumIdeal.nD Cert.CsumIdeal.τ Cert.CsumIdeal.sig) → Buf (Elt Ideal) ℓ) : Prop :=
  True

def Pre_CsumIdeal_cumsum_below [hPre_cumsum_below : Cert.Pre_cumsum_below.Facts] (m : (ℓ : Loc Cert.CsumIdeal.nD Cert.CsumIdeal.τ Cert.CsumIdeal.sig) → Buf (Elt Ideal) ℓ) : Prop :=
  ∀ c : Dev Cert.CsumIdeal.nD,
    (Cert.Pre_cumsum_below.fn (F := Ideal) (m ((c.tc : Thread Cert.CsumIdeal.nD Cert.CsumIdeal.τ).loc Cert.CsumIdeal.main_arg0))) = (fun _ => 1#1)

def Pre_CsumRefIdeal (m : (ℓ : Loc Cert.CsumRefIdeal.nD Cert.CsumRefIdeal.τ Cert.CsumRefIdeal.sig) → Buf (Elt Ideal) ℓ) : Prop :=
  True

def Pre_CsumRefIdeal_cumsum_below [hPre_cumsum_below : Cert.Pre_cumsum_below.Facts] (m : (ℓ : Loc Cert.CsumRefIdeal.nD Cert.CsumRefIdeal.τ Cert.CsumRefIdeal.sig) → Buf (Elt Ideal) ℓ) : Prop :=
  ∀ c : Dev Cert.CsumRefIdeal.nD,
    (Cert.Pre_cumsum_below.fn (F := Ideal) (m ((c.tc : Thread Cert.CsumRefIdeal.nD Cert.CsumRefIdeal.τ).loc Cert.CsumRefIdeal.main_arg0))) = (fun _ => 1#1)

def Pre_Dsa (m : (ℓ : Loc Cert.Dsa.nD Cert.Dsa.τ Cert.Dsa.sig) → Buf (Elt Bits) ℓ) : Prop :=
  True

def quiescent_Fox [hFox : Cert.Fox.Facts] : Prop :=
  ∀ (m : (ℓ : Loc Cert.Fox.nD Cert.Fox.τ Cert.Fox.sig) → Buf (Elt Bits) ℓ) (g : Dev Cert.Fox.nD → PrngReg), Pre_Fox m →
    θ_run (Cert.Fox.defs (F := Bits)) (onTc (τ := Cert.Fox.τ) (Cert.Fox.main (F := Bits))) ⟨m, fun _ => 0, g⟩ (fun r => (∀ c : Dev Cert.Fox.nD,
      r.2.mem ((c.tc : Thread Cert.Fox.nD Cert.Fox.τ).loc Cert.Fox.main_arg0) = m ((c.tc : Thread Cert.Fox.nD Cert.Fox.τ).loc Cert.Fox.main_arg0)
      ∧ r.2.mem ((c.tc : Thread Cert.Fox.nD Cert.Fox.τ).loc Cert.Fox.main_arg1) = m ((c.tc : Thread Cert.Fox.nD Cert.Fox.τ).loc Cert.Fox.main_arg1))
      ∧ r.2.sem = fun _ => 0)

def quiescent_FoxIdeal [hFoxIdeal : Cert.FoxIdeal.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1))
      ∧ r.2.sem = fun _ => 0)

def quiescent_FoxIdeal_pre_fox_finite [hFoxIdeal : Cert.FoxIdeal.Facts] [hPre_fox_finite : Cert.Pre_fox_finite.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal_fox_finite m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1))
      ∧ r.2.sem = fun _ => 0)

def quiescent_FoxRefIdeal [hFoxRefIdeal : Cert.FoxRefIdeal.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1))
      ∧ r.2.sem = fun _ => 0)

def quiescent_FoxRefIdeal_pre_fox_finite [hFoxRefIdeal : Cert.FoxRefIdeal.Facts] [hPre_fox_finite : Cert.Pre_fox_finite.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal_fox_finite m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6)
      ∧ r.2.mem ((c.tc : Thread Cert.Out.nD Cert.Out.τ).loc Cert.Out.main_arg7) = m ((c.tc : Thread Cert.Out.nD Cert.Out.τ).loc Cert.Out.main_arg7))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
      ∧ r.2.mem ((c.tc : Thread Cert.OutIdeal.nD Cert.OutIdeal.τ).loc Cert.OutIdeal.main_arg7) = m ((c.tc : Thread Cert.OutIdeal.nD Cert.OutIdeal.τ).loc Cert.OutIdeal.main_arg7))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6)
      ∧ r.2.mem ((c.tc : Thread Cert.OutRefIdeal.nD Cert.OutRefIdeal.τ).loc Cert.OutRefIdeal.main_arg7) = m ((c.tc : Thread Cert.OutRefIdeal.nD Cert.OutRefIdeal.τ).loc Cert.OutRefIdeal.main_arg7))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3))
      ∧ r.2.sem = fun _ => 0)

def quiescent_Moba [hMoba : Cert.Moba.Facts] : Prop :=
  ∀ (m : (ℓ : Loc Cert.Moba.nD Cert.Moba.τ Cert.Moba.sig) → Buf (Elt Bits) ℓ) (g : Dev Cert.Moba.nD → PrngReg), Pre_Moba m →
    θ_run (Cert.Moba.defs (F := Bits)) (onTc (τ := Cert.Moba.τ) (Cert.Moba.main (F := Bits))) ⟨m, fun _ => 0, g⟩ (fun r => (∀ c : Dev Cert.Moba.nD,
      r.2.mem ((c.tc : Thread Cert.Moba.nD Cert.Moba.τ).loc Cert.Moba.main_arg0) = m ((c.tc : Thread Cert.Moba.nD Cert.Moba.τ).loc Cert.Moba.main_arg0))
      ∧ r.2.sem = fun _ => 0)

def quiescent_MobaIdeal [hMobaIdeal : Cert.MobaIdeal.Facts] : Prop :=
  ∀ (m : (ℓ : Loc Cert.MobaIdeal.nD Cert.MobaIdeal.τ Cert.MobaIdeal.sig) → Buf (Elt Ideal) ℓ) (g : Dev Cert.MobaIdeal.nD → PrngReg), Pre_MobaIdeal m →
    θ_run (Cert.MobaIdeal.defs (F := Ideal)) (onTc (τ := Cert.MobaIdeal.τ) (Cert.MobaIdeal.main (F := Ideal))) ⟨m, fun _ => 0, g⟩ (fun r => (∀ c : Dev Cert.MobaIdeal.nD,
      r.2.mem ((c.tc : Thread Cert.MobaIdeal.nD Cert.MobaIdeal.τ).loc Cert.MobaIdeal.main_arg0) = m ((c.tc : Thread Cert.MobaIdeal.nD Cert.MobaIdeal.τ).loc Cert.MobaIdeal.main_arg0))
      ∧ r.2.sem = fun _ => 0)

def quiescent_MobaIdeal_pre_moba_finite [hMobaIdeal : Cert.MobaIdeal.Facts] [hPre_moba_finite : Cert.Pre_moba_finite.Facts] : Prop :=
  ∀ (m : (ℓ : Loc Cert.MobaIdeal.nD Cert.MobaIdeal.τ Cert.MobaIdeal.sig) → Buf (Elt Ideal) ℓ) (g : Dev Cert.MobaIdeal.nD → PrngReg), Pre_MobaIdeal_moba_finite m →
    θ_run (Cert.MobaIdeal.defs (F := Ideal)) (onTc (τ := Cert.MobaIdeal.τ) (Cert.MobaIdeal.main (F := Ideal))) ⟨m, fun _ => 0, g⟩ (fun r => (∀ c : Dev Cert.MobaIdeal.nD,
      r.2.mem ((c.tc : Thread Cert.MobaIdeal.nD Cert.MobaIdeal.τ).loc Cert.MobaIdeal.main_arg0) = m ((c.tc : Thread Cert.MobaIdeal.nD Cert.MobaIdeal.τ).loc Cert.MobaIdeal.main_arg0))
      ∧ r.2.sem = fun _ => 0)

def quiescent_MobaRefIdeal [hMobaRefIdeal : Cert.MobaRefIdeal.Facts] : Prop :=
  ∀ (m : (ℓ : Loc Cert.MobaRefIdeal.nD Cert.MobaRefIdeal.τ Cert.MobaRefIdeal.sig) → Buf (Elt Ideal) ℓ) (g : Dev Cert.MobaRefIdeal.nD → PrngReg), Pre_MobaRefIdeal m →
    θ_run (Cert.MobaRefIdeal.defs (F := Ideal)) (onTc (τ := Cert.MobaRefIdeal.τ) (Cert.MobaRefIdeal.main (F := Ideal))) ⟨m, fun _ => 0, g⟩ (fun r => (∀ c : Dev Cert.MobaRefIdeal.nD,
      r.2.mem ((c.tc : Thread Cert.MobaRefIdeal.nD Cert.MobaRefIdeal.τ).loc Cert.MobaRefIdeal.main_arg0) = m ((c.tc : Thread Cert.MobaRefIdeal.nD Cert.MobaRefIdeal.τ).loc Cert.MobaRefIdeal.main_arg0))
      ∧ r.2.sem = fun _ => 0)

def quiescent_MobaRefIdeal_pre_moba_finite [hMobaRefIdeal : Cert.MobaRefIdeal.Facts] [hPre_moba_finite : Cert.Pre_moba_finite.Facts] : Prop :=
  ∀ (m : (ℓ : Loc Cert.MobaRefIdeal.nD Cert.MobaRefIdeal.τ Cert.MobaRefIdeal.sig) → Buf (Elt Ideal) ℓ) (g : Dev Cert.MobaRefIdeal.nD → PrngReg), Pre_MobaRefIdeal_moba_finite m →
    θ_run (Cert.MobaRefIdeal.defs (F := Ideal)) (onTc (τ := Cert.MobaRefIdeal.τ) (Cert.MobaRefIdeal.main (F := Ideal))) ⟨m, fun _ => 0, g⟩ (fun r => (∀ c : Dev Cert.MobaRefIdeal.nD,
      r.2.mem ((c.tc : Thread Cert.MobaRefIdeal.nD Cert.MobaRefIdeal.τ).loc Cert.MobaRefIdeal.main_arg0) = m ((c.tc : Thread Cert.MobaRefIdeal.nD Cert.MobaRefIdeal.τ).loc Cert.MobaRefIdeal.main_arg0))
      ∧ r.2.sem = fun _ => 0)

def quiescent_Csum [hCsum : Cert.Csum.Facts] : Prop :=
  ∀ (m : (ℓ : Loc Cert.Csum.nD Cert.Csum.τ Cert.Csum.sig) → Buf (Elt Bits) ℓ) (g : Dev Cert.Csum.nD → PrngReg), Pre_Csum m →
    θ_run (Cert.Csum.defs (F := Bits)) (onTc (τ := Cert.Csum.τ) (Cert.Csum.main (F := Bits))) ⟨m, fun _ => 0, g⟩ (fun r => (∀ c : Dev Cert.Csum.nD,
      r.2.mem ((c.tc : Thread Cert.Csum.nD Cert.Csum.τ).loc Cert.Csum.main_arg0) = m ((c.tc : Thread Cert.Csum.nD Cert.Csum.τ).loc Cert.Csum.main_arg0))
      ∧ r.2.sem = fun _ => 0)

def quiescent_CsumIdeal [hCsumIdeal : Cert.CsumIdeal.Facts] : Prop :=
  ∀ (m : (ℓ : Loc Cert.CsumIdeal.nD Cert.CsumIdeal.τ Cert.CsumIdeal.sig) → Buf (Elt Ideal) ℓ) (g : Dev Cert.CsumIdeal.nD → PrngReg), Pre_CsumIdeal m →
    θ_run (Cert.CsumIdeal.defs (F := Ideal)) (onTc (τ := Cert.CsumIdeal.τ) (Cert.CsumIdeal.main (F := Ideal))) ⟨m, fun _ => 0, g⟩ (fun r => (∀ c : Dev Cert.CsumIdeal.nD,
      r.2.mem ((c.tc : Thread Cert.CsumIdeal.nD Cert.CsumIdeal.τ).loc Cert.CsumIdeal.main_arg0) = m ((c.tc : Thread Cert.CsumIdeal.nD Cert.CsumIdeal.τ).loc Cert.CsumIdeal.main_arg0))
      ∧ r.2.sem = fun _ => 0)

def quiescent_CsumIdeal_pre_cumsum_below [hCsumIdeal : Cert.CsumIdeal.Facts] [hPre_cumsum_below : Cert.Pre_cumsum_below.Facts] : Prop :=
  ∀ (m : (ℓ : Loc Cert.CsumIdeal.nD Cert.CsumIdeal.τ Cert.CsumIdeal.sig) → Buf (Elt Ideal) ℓ) (g : Dev Cert.CsumIdeal.nD → PrngReg), Pre_CsumIdeal_cumsum_below m →
    θ_run (Cert.CsumIdeal.defs (F := Ideal)) (onTc (τ := Cert.CsumIdeal.τ) (Cert.CsumIdeal.main (F := Ideal))) ⟨m, fun _ => 0, g⟩ (fun r => (∀ c : Dev Cert.CsumIdeal.nD,
      r.2.mem ((c.tc : Thread Cert.CsumIdeal.nD Cert.CsumIdeal.τ).loc Cert.CsumIdeal.main_arg0) = m ((c.tc : Thread Cert.CsumIdeal.nD Cert.CsumIdeal.τ).loc Cert.CsumIdeal.main_arg0))
      ∧ r.2.sem = fun _ => 0)

def quiescent_CsumRefIdeal [hCsumRefIdeal : Cert.CsumRefIdeal.Facts] : Prop :=
  ∀ (m : (ℓ : Loc Cert.CsumRefIdeal.nD Cert.CsumRefIdeal.τ Cert.CsumRefIdeal.sig) → Buf (Elt Ideal) ℓ) (g : Dev Cert.CsumRefIdeal.nD → PrngReg), Pre_CsumRefIdeal m →
    θ_run (Cert.CsumRefIdeal.defs (F := Ideal)) (onTc (τ := Cert.CsumRefIdeal.τ) (Cert.CsumRefIdeal.main (F := Ideal))) ⟨m, fun _ => 0, g⟩ (fun r => (∀ c : Dev Cert.CsumRefIdeal.nD,
      r.2.mem ((c.tc : Thread Cert.CsumRefIdeal.nD Cert.CsumRefIdeal.τ).loc Cert.CsumRefIdeal.main_arg0) = m ((c.tc : Thread Cert.CsumRefIdeal.nD Cert.CsumRefIdeal.τ).loc Cert.CsumRefIdeal.main_arg0))
      ∧ r.2.sem = fun _ => 0)

def quiescent_CsumRefIdeal_pre_cumsum_below [hCsumRefIdeal : Cert.CsumRefIdeal.Facts] [hPre_cumsum_below : Cert.Pre_cumsum_below.Facts] : Prop :=
  ∀ (m : (ℓ : Loc Cert.CsumRefIdeal.nD Cert.CsumRefIdeal.τ Cert.CsumRefIdeal.sig) → Buf (Elt Ideal) ℓ) (g : Dev Cert.CsumRefIdeal.nD → PrngReg), Pre_CsumRefIdeal_cumsum_below m →
    θ_run (Cert.CsumRefIdeal.defs (F := Ideal)) (onTc (τ := Cert.CsumRefIdeal.τ) (Cert.CsumRefIdeal.main (F := Ideal))) ⟨m, fun _ => 0, g⟩ (fun r => (∀ c : Dev Cert.CsumRefIdeal.nD,
      r.2.mem ((c.tc : Thread Cert.CsumRefIdeal.nD Cert.CsumRefIdeal.τ).loc Cert.CsumRefIdeal.main_arg0) = m ((c.tc : Thread Cert.CsumRefIdeal.nD Cert.CsumRefIdeal.τ).loc Cert.CsumRefIdeal.main_arg0))
      ∧ r.2.sem = fun _ => 0)

def quiescent_Dsa [hDsa : Cert.Dsa.Facts] : Prop :=
  ∀ (m : (ℓ : Loc Cert.Dsa.nD Cert.Dsa.τ Cert.Dsa.sig) → Buf (Elt Bits) ℓ) (g : Dev Cert.Dsa.nD → PrngReg), Pre_Dsa m →
    θ_run (Cert.Dsa.defs (F := Bits)) (onTc (τ := Cert.Dsa.τ) (Cert.Dsa.main (F := Bits))) ⟨m, fun _ => 0, g⟩ (fun r => (∀ c : Dev Cert.Dsa.nD,
      r.2.mem ((c.tc : Thread Cert.Dsa.nD Cert.Dsa.τ).loc Cert.Dsa.main_arg0) = m ((c.tc : Thread Cert.Dsa.nD Cert.Dsa.τ).loc Cert.Dsa.main_arg0)
      ∧ r.2.mem ((c.tc : Thread Cert.Dsa.nD Cert.Dsa.τ).loc Cert.Dsa.main_arg1) = m ((c.tc : Thread Cert.Dsa.nD Cert.Dsa.τ).loc Cert.Dsa.main_arg1)
      ∧ r.2.mem ((c.tc : Thread Cert.Dsa.nD Cert.Dsa.τ).loc Cert.Dsa.main_arg2) = m ((c.tc : Thread Cert.Dsa.nD Cert.Dsa.τ).loc Cert.Dsa.main_arg2))
      ∧ r.2.sem = fun _ => 0)

def preserves_Fox_FoxIdeal : Prop :=
  IdealRules.named_const.Statement Cert.FoxIdeal.κ "mask" .f32 0xF149F2CA#32 ⊥

def algebraic_FoxIdeal_FoxRefIdeal_pre_fox_finite [hFoxIdeal : Cert.FoxIdeal.Facts] [hFoxRefIdeal : Cert.FoxRefIdeal.Facts] [hPre_fox_finite : Cert.Pre_fox_finite.Facts] : Prop :=
  ∀ (m : (ℓ : Loc Cert.FoxIdeal.nD Cert.FoxIdeal.τ Cert.FoxIdeal.sig) → Buf (Elt Ideal) ℓ) (g : Dev Cert.FoxIdeal.nD → PrngReg)
    (m' : (ℓ : Loc Cert.FoxRefIdeal.nD Cert.FoxRefIdeal.τ Cert.FoxRefIdeal.sig) → Buf (Elt Ideal) ℓ) (g' : Dev Cert.FoxRefIdeal.nD → PrngReg), Pre_FoxIdeal_fox_finite m →
    (∀ c : Dev Cert.FoxIdeal.nD,
      m' ((c.tc : Thread Cert.FoxRefIdeal.nD Cert.FoxRefIdeal.τ).loc Cert.FoxRefIdeal.main_arg0) = m ((c.tc : Thread Cert.FoxIdeal.nD Cert.FoxIdeal.τ).loc Cert.FoxIdeal.main_arg0)
      ∧ m' ((c.tc : Thread Cert.FoxRefIdeal.nD Cert.FoxRefIdeal.τ).loc Cert.FoxRefIdeal.main_arg1) = m ((c.tc : Thread Cert.FoxIdeal.nD Cert.FoxIdeal.τ).loc Cert.FoxIdeal.main_arg1)) →
    ∃ (v0 : (c : Dev Cert.FoxIdeal.nD) → Buf (Elt Ideal) ((c.tc : Thread Cert.FoxIdeal.nD Cert.FoxIdeal.τ).loc Cert.FoxIdeal.main_v2)),
      θ_run (Cert.FoxIdeal.defs (F := Ideal)) (onTc (τ := Cert.FoxIdeal.τ) (Cert.FoxIdeal.main (F := Ideal))) ⟨m, fun _ => 0, g⟩ (fun r => ∀ c : Dev Cert.FoxIdeal.nD,
          r.2.mem ((c.tc : Thread Cert.FoxIdeal.nD Cert.FoxIdeal.τ).loc Cert.FoxIdeal.main_v2) = v0 c
          ∧ r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
          ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1))
      ∧ θ_run (Cert.FoxRefIdeal.defs (F := Ideal)) (onTc (τ := Cert.FoxRefIdeal.τ) (Cert.FoxRefIdeal.main (F := Ideal))) ⟨m', fun _ => 0, g'⟩ (fun r => ∀ c : Dev Cert.FoxRefIdeal.nD,
          r.2.mem ((c.tc : Thread Cert.FoxRefIdeal.nD Cert.FoxRefIdeal.τ).loc Cert.FoxRefIdeal.main_v41) = v0 c
          ∧ r.2.mem ((c.tc : Thread Cert.FoxRefIdeal.nD Cert.FoxRefIdeal.τ).loc Cert.FoxRefIdeal.main_arg0) = m' ((c.tc : Thread Cert.FoxRefIdeal.nD Cert.FoxRefIdeal.τ).loc Cert.FoxRefIdeal.main_arg0)
          ∧ r.2.mem ((c.tc : Thread Cert.FoxRefIdeal.nD Cert.FoxRefIdeal.τ).loc Cert.FoxRefIdeal.main_arg1) = m' ((c.tc : Thread Cert.FoxRefIdeal.nD Cert.FoxRefIdeal.τ).loc Cert.FoxRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)
      ∧ m' ((c.tc : Thread Cert.OutRefIdeal.nD Cert.OutRefIdeal.τ).loc Cert.OutRefIdeal.main_arg6) = m ((c.tc : Thread Cert.OutIdeal.nD Cert.OutIdeal.τ).loc Cert.OutIdeal.main_arg6)
      ∧ m' ((c.tc : Thread Cert.OutRefIdeal.nD Cert.OutRefIdeal.τ).loc Cert.OutRefIdeal.main_arg7) = m ((c.tc : Thread Cert.OutIdeal.nD Cert.OutIdeal.τ).loc Cert.OutIdeal.main_arg7)) →
    ∃ (v0 : (c : Dev Cert.OutIdeal.nD) → Buf (Elt Ideal) ((c.tc : Thread Cert.OutIdeal.nD Cert.OutIdeal.τ).loc Cert.OutIdeal.main_v6)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v6) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
          ∧ r.2.mem ((c.tc : Thread Cert.OutIdeal.nD Cert.OutIdeal.τ).loc Cert.OutIdeal.main_arg7) = m ((c.tc : Thread Cert.OutIdeal.nD Cert.OutIdeal.τ).loc Cert.OutIdeal.main_arg7))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v48) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6)
          ∧ r.2.mem ((c.tc : Thread Cert.OutRefIdeal.nD Cert.OutRefIdeal.τ).loc Cert.OutRefIdeal.main_arg7) = m' ((c.tc : Thread Cert.OutRefIdeal.nD Cert.OutRefIdeal.τ).loc Cert.OutRefIdeal.main_arg7))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)) →
    ∃ (v0 : (c : Dev Cert.ProjIdeal.nD) → Buf (Elt Ideal) ((c.tc : Thread Cert.ProjIdeal.nD Cert.ProjIdeal.τ).loc Cert.ProjIdeal.main_v62_0)) (v1 : (c : Dev Cert.ProjIdeal.nD) → Buf (Elt Ideal) ((c.tc : Thread Cert.ProjIdeal.nD Cert.ProjIdeal.τ).loc Cert.ProjIdeal.main_v62_1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v62_0) = v0 c
          ∧ r.2.mem ((c.tc : Thread Cert.ProjIdeal.nD Cert.ProjIdeal.τ).loc Cert.ProjIdeal.main_v62_1) = v1 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v279) = v0 c
          ∧ r.2.mem ((c.tc : Thread Cert.ProjRefIdeal.nD Cert.ProjRefIdeal.τ).loc Cert.ProjRefIdeal.main_v280) = v1 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3))

def preserves_Moba_MobaIdeal : Prop :=
  IdealRules.named_const.Statement Cert.MobaIdeal.κ "mask" .f32 0xF149F2CA#32 ⊥
  ∧ IdealRules.named_const.Statement Cert.MobaIdeal.κ "floor" .f32 0xF0C9F2CA#32 ⊥
  ∧ IdealRules.named_const.Statement Cert.MobaIdeal.κ "ceiling" .f32 0x7149F2CA#32 ⊤

def algebraic_MobaIdeal_MobaRefIdeal_pre_moba_finite [hMobaIdeal : Cert.MobaIdeal.Facts] [hMobaRefIdeal : Cert.MobaRefIdeal.Facts] [hPre_moba_finite : Cert.Pre_moba_finite.Facts] : Prop :=
  ∀ (m : (ℓ : Loc Cert.MobaIdeal.nD Cert.MobaIdeal.τ Cert.MobaIdeal.sig) → Buf (Elt Ideal) ℓ) (g : Dev Cert.MobaIdeal.nD → PrngReg)
    (m' : (ℓ : Loc Cert.MobaRefIdeal.nD Cert.MobaRefIdeal.τ Cert.MobaRefIdeal.sig) → Buf (Elt Ideal) ℓ) (g' : Dev Cert.MobaRefIdeal.nD → PrngReg), Pre_MobaIdeal_moba_finite m →
    (∀ c : Dev Cert.MobaIdeal.nD,
      m' ((c.tc : Thread Cert.MobaRefIdeal.nD Cert.MobaRefIdeal.τ).loc Cert.MobaRefIdeal.main_arg0) = m ((c.tc : Thread Cert.MobaIdeal.nD Cert.MobaIdeal.τ).loc Cert.MobaIdeal.main_arg0)) →
    ∃ (v0 : (c : Dev Cert.MobaIdeal.nD) → Buf (Elt Ideal) ((c.tc : Thread Cert.MobaIdeal.nD Cert.MobaIdeal.τ).loc Cert.MobaIdeal.main_v0)),
      θ_run (Cert.MobaIdeal.defs (F := Ideal)) (onTc (τ := Cert.MobaIdeal.τ) (Cert.MobaIdeal.main (F := Ideal))) ⟨m, fun _ => 0, g⟩ (fun r => ∀ c : Dev Cert.MobaIdeal.nD,
          r.2.mem ((c.tc : Thread Cert.MobaIdeal.nD Cert.MobaIdeal.τ).loc Cert.MobaIdeal.main_v0) = v0 c
          ∧ r.2.mem ((c.tc : Thread Cert.MobaIdeal.nD Cert.MobaIdeal.τ).loc Cert.MobaIdeal.main_arg0) = m ((c.tc : Thread Cert.MobaIdeal.nD Cert.MobaIdeal.τ).loc Cert.MobaIdeal.main_arg0))
      ∧ θ_run (Cert.MobaRefIdeal.defs (F := Ideal)) (onTc (τ := Cert.MobaRefIdeal.τ) (Cert.MobaRefIdeal.main (F := Ideal))) ⟨m', fun _ => 0, g'⟩ (fun r => ∀ c : Dev Cert.MobaRefIdeal.nD,
          r.2.mem ((c.tc : Thread Cert.MobaRefIdeal.nD Cert.MobaRefIdeal.τ).loc Cert.MobaRefIdeal.main_v86) = v0 c
          ∧ r.2.mem ((c.tc : Thread Cert.MobaRefIdeal.nD Cert.MobaRefIdeal.τ).loc Cert.MobaRefIdeal.main_arg0) = m' ((c.tc : Thread Cert.MobaRefIdeal.nD Cert.MobaRefIdeal.τ).loc Cert.MobaRefIdeal.main_arg0))

def preserves_Csum_CsumIdeal : Prop :=
  True

def algebraic_CsumIdeal_CsumRefIdeal_pre_cumsum_below [hCsumIdeal : Cert.CsumIdeal.Facts] [hCsumRefIdeal : Cert.CsumRefIdeal.Facts] [hPre_cumsum_below : Cert.Pre_cumsum_below.Facts] : Prop :=
  ∀ (m : (ℓ : Loc Cert.CsumIdeal.nD Cert.CsumIdeal.τ Cert.CsumIdeal.sig) → Buf (Elt Ideal) ℓ) (g : Dev Cert.CsumIdeal.nD → PrngReg)
    (m' : (ℓ : Loc Cert.CsumRefIdeal.nD Cert.CsumRefIdeal.τ Cert.CsumRefIdeal.sig) → Buf (Elt Ideal) ℓ) (g' : Dev Cert.CsumRefIdeal.nD → PrngReg), Pre_CsumIdeal_cumsum_below m →
    (∀ c : Dev Cert.CsumIdeal.nD,
      m' ((c.tc : Thread Cert.CsumRefIdeal.nD Cert.CsumRefIdeal.τ).loc Cert.CsumRefIdeal.main_arg0) = m ((c.tc : Thread Cert.CsumIdeal.nD Cert.CsumIdeal.τ).loc Cert.CsumIdeal.main_arg0)) →
    ∃ (v0 : (c : Dev Cert.CsumIdeal.nD) → Buf (Elt Ideal) ((c.tc : Thread Cert.CsumIdeal.nD Cert.CsumIdeal.τ).loc Cert.CsumIdeal.main_v0)),
      θ_run (Cert.CsumIdeal.defs (F := Ideal)) (onTc (τ := Cert.CsumIdeal.τ) (Cert.CsumIdeal.main (F := Ideal))) ⟨m, fun _ => 0, g⟩ (fun r => ∀ c : Dev Cert.CsumIdeal.nD,
          r.2.mem ((c.tc : Thread Cert.CsumIdeal.nD Cert.CsumIdeal.τ).loc Cert.CsumIdeal.main_v0) = v0 c
          ∧ r.2.mem ((c.tc : Thread Cert.CsumIdeal.nD Cert.CsumIdeal.τ).loc Cert.CsumIdeal.main_arg0) = m ((c.tc : Thread Cert.CsumIdeal.nD Cert.CsumIdeal.τ).loc Cert.CsumIdeal.main_arg0))
      ∧ θ_run (Cert.CsumRefIdeal.defs (F := Ideal)) (onTc (τ := Cert.CsumRefIdeal.τ) (Cert.CsumRefIdeal.main (F := Ideal))) ⟨m', fun _ => 0, g'⟩ (fun r => ∀ c : Dev Cert.CsumRefIdeal.nD,
          r.2.mem ((c.tc : Thread Cert.CsumRefIdeal.nD Cert.CsumRefIdeal.τ).loc Cert.CsumRefIdeal.main_v0) = v0 c
          ∧ r.2.mem ((c.tc : Thread Cert.CsumRefIdeal.nD Cert.CsumRefIdeal.τ).loc Cert.CsumRefIdeal.main_arg0) = m' ((c.tc : Thread Cert.CsumRefIdeal.nD Cert.CsumRefIdeal.τ).loc Cert.CsumRefIdeal.main_arg0))

def Claim : Prop :=
  ∃ (hFox : Cert.Fox.Facts) (hFoxIdeal : Cert.FoxIdeal.Facts) (hFoxRefIdeal : Cert.FoxRefIdeal.Facts) (hOut : Cert.Out.Facts) (hOutIdeal : Cert.OutIdeal.Facts) (hOutRefIdeal : Cert.OutRefIdeal.Facts) (hProj : Cert.Proj.Facts) (hProjIdeal : Cert.ProjIdeal.Facts) (hProjRefIdeal : Cert.ProjRefIdeal.Facts) (hMoba : Cert.Moba.Facts) (hMobaIdeal : Cert.MobaIdeal.Facts) (hMobaRefIdeal : Cert.MobaRefIdeal.Facts) (hCsum : Cert.Csum.Facts) (hCsumIdeal : Cert.CsumIdeal.Facts) (hCsumRefIdeal : Cert.CsumRefIdeal.Facts) (hDsa : Cert.Dsa.Facts) (hPre_fox_finite : Cert.Pre_fox_finite.Facts) (hPre_moba_finite : Cert.Pre_moba_finite.Facts) (hPre_cumsum_below : Cert.Pre_cumsum_below.Facts),
    quiescent_Fox (hFox := hFox)
    ∧ quiescent_FoxIdeal (hFoxIdeal := hFoxIdeal)
    ∧ quiescent_FoxIdeal_pre_fox_finite (hFoxIdeal := hFoxIdeal) (hPre_fox_finite := hPre_fox_finite)
    ∧ quiescent_FoxRefIdeal (hFoxRefIdeal := hFoxRefIdeal)
    ∧ quiescent_FoxRefIdeal_pre_fox_finite (hFoxRefIdeal := hFoxRefIdeal) (hPre_fox_finite := hPre_fox_finite)
    ∧ quiescent_Out (hOut := hOut)
    ∧ quiescent_OutIdeal (hOutIdeal := hOutIdeal)
    ∧ quiescent_OutRefIdeal (hOutRefIdeal := hOutRefIdeal)
    ∧ quiescent_Proj (hProj := hProj)
    ∧ quiescent_ProjIdeal (hProjIdeal := hProjIdeal)
    ∧ quiescent_ProjRefIdeal (hProjRefIdeal := hProjRefIdeal)
    ∧ quiescent_Moba (hMoba := hMoba)
    ∧ quiescent_MobaIdeal (hMobaIdeal := hMobaIdeal)
    ∧ quiescent_MobaIdeal_pre_moba_finite (hMobaIdeal := hMobaIdeal) (hPre_moba_finite := hPre_moba_finite)
    ∧ quiescent_MobaRefIdeal (hMobaRefIdeal := hMobaRefIdeal)
    ∧ quiescent_MobaRefIdeal_pre_moba_finite (hMobaRefIdeal := hMobaRefIdeal) (hPre_moba_finite := hPre_moba_finite)
    ∧ quiescent_Csum (hCsum := hCsum)
    ∧ quiescent_CsumIdeal (hCsumIdeal := hCsumIdeal)
    ∧ quiescent_CsumIdeal_pre_cumsum_below (hCsumIdeal := hCsumIdeal) (hPre_cumsum_below := hPre_cumsum_below)
    ∧ quiescent_CsumRefIdeal (hCsumRefIdeal := hCsumRefIdeal)
    ∧ quiescent_CsumRefIdeal_pre_cumsum_below (hCsumRefIdeal := hCsumRefIdeal) (hPre_cumsum_below := hPre_cumsum_below)
    ∧ quiescent_Dsa (hDsa := hDsa)
    ∧ preserves_Fox_FoxIdeal
    ∧ algebraic_FoxIdeal_FoxRefIdeal_pre_fox_finite (hFoxIdeal := hFoxIdeal) (hFoxRefIdeal := hFoxRefIdeal) (hPre_fox_finite := hPre_fox_finite)
    ∧ preserves_Out_OutIdeal
    ∧ algebraic_OutIdeal_OutRefIdeal (hOutIdeal := hOutIdeal) (hOutRefIdeal := hOutRefIdeal)
    ∧ preserves_Proj_ProjIdeal
    ∧ algebraic_ProjIdeal_ProjRefIdeal (hProjIdeal := hProjIdeal) (hProjRefIdeal := hProjRefIdeal)
    ∧ preserves_Moba_MobaIdeal
    ∧ algebraic_MobaIdeal_MobaRefIdeal_pre_moba_finite (hMobaIdeal := hMobaIdeal) (hMobaRefIdeal := hMobaRefIdeal) (hPre_moba_finite := hPre_moba_finite)
    ∧ preserves_Csum_CsumIdeal
    ∧ algebraic_CsumIdeal_CsumRefIdeal_pre_cumsum_below (hCsumIdeal := hCsumIdeal) (hCsumRefIdeal := hCsumRefIdeal) (hPre_cumsum_below := hPre_cumsum_below)
-- ==== Pre_cumsum_below.lean ====
abbrev S4x4096x128 : Shape := ⟨3, ![4, 4096, 128]⟩
abbrev S_ : Shape := ⟨0, ![]⟩

class Facts : Prop where
  bcast_S_S4x4096x128 : S_.BroadcastsInDim S4x4096x128 (![] : Fin 0 → Fin S4x4096x128.rank)
  reducesTo_S4x4096x128_S_d0_1_2 : S4x4096x128.ReducesTo [0, 1, 2] S_
  h_S_ : 0 < S_.numel

variable [Facts]

def fn {F : FTy → Type} [FloatOps F] (main_arg0 : FVec F S4x4096x128 .f32) : IVec S_ 1 :=
  let main_cst : FVec F S_ .f32 := constant S_ .f32 0x7F800000#32
  let main_v0 : FVec F S4x4096x128 .f32 := broadcastInDim S4x4096x128 ![] bcast_S_S4x4096x128 main_cst
  let main_v1 : IVec S4x4096x128 1 := cmpf .olt main_arg0 main_v0
  let main_c : IVec S_ 1 := constantI S_ 1 1#1
  let main_v2 : IVec S_ 1 := (fun x v => Host.reduce IntOp.andi x v reducesTo_S4x4096x128_S_d0_1_2 h_S_) main_v1 main_c
  main_v2
-- ==== Pre_fox_finite.lean ====
abbrev S4x4096x9728 : Shape := ⟨3, ![4, 4096, 9728]⟩
abbrev S4x4096x8 : Shape := ⟨3, ![4, 4096, 8]⟩
abbrev S4x4096x1024 : Shape := ⟨3, ![4, 4096, 1024]⟩
abbrev S_ : Shape := ⟨0, ![]⟩

class Facts : Prop where
  slices_S4x4096x9728_S4x4096x1024_0_0_3584 : S4x4096x9728.Slices ![0, 0, 3584] S4x4096x1024
  bitsLt_bf16_f32 : FTy.bits .bf16 < FTy.bits .f32
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S4x4096x8 : S_.BroadcastsInDim S4x4096x8 (![] : Fin 0 → Fin S4x4096x8.rank)
  reducesTo_S4x4096x8_S_d0_1_2 : S4x4096x8.ReducesTo [0, 1, 2] S_

variable [Facts]

def fn {F : FTy → Type} [FloatOps F] (main_arg0 : FVec F S4x4096x9728 .bf16) (main_arg1 : FVec F S4x4096x8 .f32) : IVec S_ 1 :=
  let main_v0 : FVec F S4x4096x1024 .bf16 := (extractStridedSlice S4x4096x1024 ![0, 0, 3584] · slices_S4x4096x9728_S4x4096x1024_0_0_3584) main_arg0
  let main_v1 : FVec F S4x4096x1024 .f32 := (extf .f32 · bitsLt_bf16_f32) main_v0
  let main_v2 : FVec F S4x4096x1024 .f32 := Host.absf main_v1
  let main_cst : FVec F S_ .f32 := constant S_ .f32 0x7F800000#32
  let main_v3 : FVec F S4x4096x1024 .f32 := broadcastInDim S4x4096x1024 ![] bcast_S_S4x4096x1024 main_cst
  let main_v4 : IVec S4x4096x1024 1 := cmpf .olt main_v2 main_v3
  let main_c : IVec S_ 1 := constantI S_ 1 1#1
  let main_v5 : IVec S_ 1 := (fun x v => Host.reduce IntOp.andi x v reducesTo_S4x4096x1024_S_d0_1_2 h_S_) main_v4 main_c
  let main_v6 : FVec F S4x4096x8 .f32 := Host.absf main_arg1
  let main_cst_0 : FVec F S_ .f32 := constant S_ .f32 0x7F800000#32
  let main_v7 : FVec F S4x4096x8 .f32 := broadcastInDim S4x4096x8 ![] bcast_S_S4x4096x8 main_cst_0
  let main_v8 : IVec S4x4096x8 1 := cmpf .olt main_v6 main_v7
  let main_c_1 : IVec S_ 1 := constantI S_ 1 1#1
  let main_v9 : IVec S_ 1 := (fun x v => Host.reduce IntOp.andi x v reducesTo_S4x4096x8_S_d0_1_2 h_S_) main_v8 main_c_1
  let main_v10 : IVec S_ 1 := andi main_v5 main_v9
  main_v10
-- ==== Pre_moba_finite.lean ====
abbrev S4x4096x9728 : Shape := ⟨3, ![4, 4096, 9728]⟩
abbrev S4x4096x1024 : Shape := ⟨3, ![4, 4096, 1024]⟩
abbrev S_ : Shape := ⟨0, ![]⟩

class Facts : Prop where
  slices_S4x4096x9728_S4x4096x1024_0_0_0 : S4x4096x9728.Slices ![0, 0, 0] S4x4096x1024
  bitsLt_bf16_f32 : FTy.bits .bf16 < FTy.bits .f32
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel

variable [Facts]

def fn {F : FTy → Type} [FloatOps F] (main_arg0 : FVec F S4x4096x9728 .bf16) : IVec S_ 1 :=
  let main_v0 : FVec F S4x4096x1024 .bf16 := (extractStridedSlice S4x4096x1024 ![0, 0, 0] · slices_S4x4096x9728_S4x4096x1024_0_0_0) main_arg0
  let main_v1 : FVec F S4x4096x1024 .f32 := (extf .f32 · bitsLt_bf16_f32) main_v0
  let main_v2 : FVec F S4x4096x1024 .f32 := Host.absf main_v1
  let main_cst : FVec F S_ .f32 := constant S_ .f32 0x7F800000#32
  let main_v3 : FVec F S4x4096x1024 .f32 := broadcastInDim S4x4096x1024 ![] bcast_S_S4x4096x1024 main_cst
  let main_v4 : IVec S4x4096x1024 1 := cmpf .olt main_v2 main_v3
  let main_c : IVec S_ 1 := constantI S_ 1 1#1
  let main_v5 : IVec S_ 1 := (fun x v => Host.reduce IntOp.andi x v reducesTo_S4x4096x1024_S_d0_1_2 h_S_) main_v4 main_c
  main_v5
-- ==== Fox.lean ====
abbrev S4x4096x9728 : Shape := ⟨3, ![4, 4096, 9728]⟩
abbrev S4x4096x8 : Shape := ⟨3, ![4, 4096, 8]⟩
abbrev S4x8x4096 : Shape := ⟨3, ![4, 8, 4096]⟩
abbrev S4x4x2x4096 : Shape := ⟨4, ![4, 4, 2, 4096]⟩
abbrev S4x4096x512 : Shape := ⟨3, ![4, 4096, 512]⟩
abbrev S1x256x128 : Shape := ⟨3, ![1, 256, 128]⟩
abbrev S1x4096x128 : Shape := ⟨3, ![1, 4096, 128]⟩
abbrev S1x1x2x4096 : Shape := ⟨4, ![1, 1, 2, 4096]⟩
abbrev S256x128 : Shape := ⟨2, ![256, 128]⟩
abbrev S256x256 : Shape := ⟨2, ![256, 256]⟩
abbrev S1x1x1x256 : Shape := ⟨4, ![1, 1, 1, 256]⟩
abbrev S1x256 : Shape := ⟨2, ![1, 256]⟩
abbrev S1x1 : Shape := ⟨2, ![1, 1]⟩
abbrev S256 : Shape := ⟨1, ![256]⟩
abbrev S256x1 : Shape := ⟨2, ![256, 1]⟩

abbrev nBuf : Space → Nat
  | .hbm => 5
  | .vmem => 10
  | .smem => 0
  | _ => 0

abbrev bufTy : (tb : Table) → Fin (tcTables nBuf tb) → BufTy
  | .hbm, ⟨0, _⟩ => ⟨S4x4096x9728, .bf16⟩
  | .hbm, ⟨1, _⟩ => ⟨S4x4096x8, .f32⟩
  | .hbm, ⟨2, _⟩ => ⟨S4x8x4096, .f32⟩
  | .hbm, ⟨3, _⟩ => ⟨S4x4x2x4096, .f32⟩
  | .hbm, ⟨4, _⟩ => ⟨S4x4096x512, .bf16⟩
  | .local _ .vmem, ⟨0, _⟩ => ⟨S1x256x128, .bf16⟩
  | .local _ .vmem, ⟨1, _⟩ => ⟨S1x256x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x1x2x4096, .f32⟩
  | .local _ .vmem, ⟨7, _⟩ => ⟨S1x1x2x4096, .f32⟩
  | .local _ .vmem, ⟨8, _⟩ => ⟨S1x256x128, .bf16⟩
  | .local _ .vmem, ⟨9, _⟩ => ⟨S1x256x128, .bf16⟩
  | _, _ => ⟨S4x4096x9728, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 16], ![false, false, false]⟩

def k0_mult1 (i : grid0.Coords) : BitVec 32 :=
  let arg2 : BitVec 32 := BitVec.ofNat 32 (i 2).val
  let c256_i32 : BitVec 32 := 256#32
  let v2 : BitVec 32 := Scalar.muli arg2 c256_i32
  v2
def k0_off1 (i : grid0.Coords) : Fin 4 → Nat :=
  let c0_2 : Index := 0#32
  let c0_3 : Index := 0#32
  let c0_4 : Index := 0#32
  let arg2 : BitVec 32 := BitVec.ofNat 32 (i 2).val
  let c256_i32 : BitVec 32 := 256#32
  let v2 : BitVec 32 := Scalar.muli arg2 c256_i32
  let v3 : BitVec 32 := v2
  let v15 : Index := Scalar.indexCast v3
  ![0, 0, 0, v15.toNat]
def k0_off2 (i : grid0.Coords) : Fin 3 → Nat :=
  let c0_5 : Index := 0#32
  let arg2 : BitVec 32 := BitVec.ofNat 32 (i 2).val
  let c256_i32 : BitVec 32 := 256#32
  let v2 : BitVec 32 := Scalar.muli arg2 c256_i32
  let v3 : BitVec 32 := v2
  let v19 : Index := Scalar.indexCast v3
  let c0_6 : Index := 0#32
  ![0, v19.toNat, 0]
@[reducible] def k0_t1_loop (i : grid0.Coords) : Scf.Loop 32 :=
  let c0_i32_14 : BitVec 32 := 0#32
  let arg2 : BitVec 32 := BitVec.ofNat 32 (i 2).val
  let v41 : BitVec 32 := Scalar.subi arg2 c0_i32_14
  let c1_i32 : BitVec 32 := 1#32
  let v43 : BitVec 32 := Scalar.divsi v41 c1_i32
  let v44 : BitVec 32 := Scalar.muli v43 c1_i32
  let v45 : BitVec 32 := Scalar.addi c0_i32_14 v44
  let c1_i32_15 : BitVec 32 := 1#32
  ⟨c0_i32_14, v45, c1_i32_15⟩
def k0_mult2 (i : grid0.Coords) (k0_t1 : Fin (k0_t1_loop i).trips) : BitVec 32 :=
  let c0_i32_14 : BitVec 32 := 0#32
  let c1_i32_15 : BitVec 32 := 1#32
  let arg8 : BitVec 32 := Scf.iv c0_i32_14 c1_i32_15 k0_t1
  let c256_i32_38 : BitVec 32 := 256#32
  let v101 : BitVec 32 := Scalar.muli arg8 c256_i32_38
  v101
def k0_off3 (i : grid0.Coords) (k0_t1 : Fin (k0_t1_loop i).trips) : Fin 3 → Nat :=
  let c0_39 : Index := 0#32
  let c0_i32_14 : BitVec 32 := 0#32
  let c1_i32_15 : BitVec 32 := 1#32
  let arg8 : BitVec 32 := Scf.iv c0_i32_14 c1_i32_15 k0_t1
  let c256_i32_38 : BitVec 32 := 256#32
  let v101 : BitVec 32 := Scalar.muli arg8 c256_i32_38
  let v102 : BitVec 32 := v101
  let v103 : Index := Scalar.indexCast v102
  let c0_40 : Index := 0#32
  ![0, v103.toNat, 0]
def k0_off4 (i : grid0.Coords) (k0_t1 : Fin (k0_t1_loop i).trips) : Fin 4 → Nat :=
  let c0_42 : Index := 0#32
  let c0_43 : Index := 0#32
  let c0_44 : Index := 0#32
  let c0_i32_14 : BitVec 32 := 0#32
  let c1_i32_15 : BitVec 32 := 1#32
  let arg8 : BitVec 32 := Scf.iv c0_i32_14 c1_i32_15 k0_t1
  let c256_i32_38 : BitVec 32 := 256#32
  let v101 : BitVec 32 := Scalar.muli arg8 c256_i32_38
  let v102 : BitVec 32 := v101
  let v107 : Index := Scalar.indexCast v102
  ![0, 0, 0, v107.toNat]
@[reducible] def k0_t2_loop (i : grid0.Coords) : Scf.Loop 32 :=
  let c0_i32_14 : BitVec 32 := 0#32
  let arg2 : BitVec 32 := BitVec.ofNat 32 (i 2).val
  let v41 : BitVec 32 := Scalar.subi arg2 c0_i32_14
  let c1_i32 : BitVec 32 := 1#32
  let v43 : BitVec 32 := Scalar.divsi v41 c1_i32
  let v44 : BitVec 32 := Scalar.muli v43 c1_i32
  let v45 : BitVec 32 := Scalar.addi c0_i32_14 v44
  let v42 : BitVec 32 := Scalar.addi c0_i32_14 v41
  let c1_i32_16 : BitVec 32 := 1#32
  ⟨v45, v42, c1_i32_16⟩
def k0_mult3 (i : grid0.Coords) (k0_t2 : Fin (k0_t2_loop i).trips) : BitVec 32 :=
  let c0_i32_14 : BitVec 32 := 0#32
  let arg2 : BitVec 32 := BitVec.ofNat 32 (i 2).val
  let v41 : BitVec 32 := Scalar.subi arg2 c0_i32_14
  let c1_i32 : BitVec 32 := 1#32
  let v43 : BitVec 32 := Scalar.divsi v41 c1_i32
  let v44 : BitVec 32 := Scalar.muli v43 c1_i32
  let v45 : BitVec 32 := Scalar.addi c0_i32_14 v44
  let c1_i32_16 : BitVec 32 := 1#32
  let arg8 : BitVec 32 := Scf.iv v45 c1_i32_16 k0_t2
  let c256_i32_38 : BitVec 32 := 256#32
  let v101 : BitVec 32 := Scalar.muli arg8 c256_i32_38
  v101
def k0_off5 (i : grid0.Coords) (k0_t2 : Fin (k0_t2_loop i).trips) : Fin 3 → Nat :=
  let c0_39 : Index := 0#32
  let c0_i32_14 : BitVec 32 := 0#32
  let arg2 : BitVec 32 := BitVec.ofNat 32 (i 2).val
  let v41 : BitVec 32 := Scalar.subi arg2 c0_i32_14
  let c1_i32 : BitVec 32 := 1#32
  let v43 : BitVec 32 := Scalar.divsi v41 c1_i32
  let v44 : BitVec 32 := Scalar.muli v43 c1_i32
  let v45 : BitVec 32 := Scalar.addi c0_i32_14 v44
  let c1_i32_16 : BitVec 32 := 1#32
  let arg8 : BitVec 32 := Scf.iv v45 c1_i32_16 k0_t2
  let c256_i32_38 : BitVec 32 := 256#32
  let v101 : BitVec 32 := Scalar.muli arg8 c256_i32_38
  let v102 : BitVec 32 := v101
  let v103 : Index := Scalar.indexCast v102
  let c0_40 : Index := 0#32
  ![0, v103.toNat, 0]
def k0_off6 (i : grid0.Coords) (k0_t2 : Fin (k0_t2_loop i).trips) : Fin 4 → Nat :=
  let c0_42 : Index := 0#32
  let c0_43 : Index := 0#32
  let c0_44 : Index := 0#32
  let c0_i32_14 : BitVec 32 := 0#32
  let arg2 : BitVec 32 := BitVec.ofNat 32 (i 2).val
  let v41 : BitVec 32 := Scalar.subi arg2 c0_i32_14
  let c1_i32 : BitVec 32 := 1#32
  let v43 : BitVec 32 := Scalar.divsi v41 c1_i32
  let v44 : BitVec 32 := Scalar.muli v43 c1_i32
  let v45 : BitVec 32 := Scalar.addi c0_i32_14 v44
  let c1_i32_16 : BitVec 32 := 1#32
  let arg8 : BitVec 32 := Scf.iv v45 c1_i32_16 k0_t2
  let c256_i32_38 : BitVec 32 := 256#32
  let v101 : BitVec 32 := Scalar.muli arg8 c256_i32_38
  let v102 : BitVec 32 := v101
  let v107 : Index := Scalar.indexCast v102
  ![0, 0, 0, v107.toNat]
def k0_off7 (i : grid0.Coords) : Fin 4 → Nat :=
  let c0_19 : Index := 0#32
  let c0_20 : Index := 0#32
  let c1 : Index := 1#32
  let arg2 : BitVec 32 := BitVec.ofNat 32 (i 2).val
  let c256_i32 : BitVec 32 := 256#32
  let v2 : BitVec 32 := Scalar.muli arg2 c256_i32
  let v3 : BitVec 32 := v2
  let v58 : Index := Scalar.indexCast v3
  ![0, 0, 1, v58.toNat]
@[reducible] def k0_t3_loop (i : grid0.Coords) : Scf.Loop 32 :=
  let c0_i32_30 : BitVec 32 := 0#32
  let arg2 : BitVec 32 := BitVec.ofNat 32 (i 2).val
  let v84 : BitVec 32 := Scalar.subi arg2 c0_i32_30
  let c1_i32_31 : BitVec 32 := 1#32
  let v86 : BitVec 32 := Scalar.divsi v84 c1_i32_31
  let v87 : BitVec 32 := Scalar.muli v86 c1_i32_31
  let v88 : BitVec 32 := Scalar.addi c0_i32_30 v87
  let c1_i32_32 : BitVec 32 := 1#32
  ⟨c0_i32_30, v88, c1_i32_32⟩
def k0_mult4 (i : grid0.Coords) (k0_t3 : Fin (k0_t3_loop i).trips) : BitVec 32 :=
  let c0_i32_30 : BitVec 32 := 0#32
  let c1_i32_32 : BitVec 32 := 1#32
  let arg8 : BitVec 32 := Scf.iv c0_i32_30 c1_i32_32 k0_t3
  let c256_i32_38 : BitVec 32 := 256#32
  let v101 : BitVec 32 := Scalar.muli arg8 c256_i32_38
  v101
def k0_off8 (i : grid0.Coords) (k0_t3 : Fin (k0_t3_loop i).trips) : Fin 3 → Nat :=
  let c0_39 : Index := 0#32
  let c0_i32_30 : BitVec 32 := 0#32
  let c1_i32_32 : BitVec 32 := 1#32
  let arg8 : BitVec 32 := Scf.iv c0_i32_30 c1_i32_32 k0_t3
  let c256_i32_38 : BitVec 32 := 256#32
  let v101 : BitVec 32 := Scalar.muli arg8 c256_i32_38
  let v102 : BitVec 32 := v101
  let v103 : Index := Scalar.indexCast v102
  let c0_40 : Index := 0#32
  ![0, v103.toNat, 0]
def k0_off9 (i : grid0.Coords) (k0_t3 : Fin (k0_t3_loop i).trips) : Fin 4 → Nat :=
  let c0_42 : Index := 0#32
  let c0_43 : Index := 0#32
  let c1_44 : Index := 1#32
  let c0_i32_30 : BitVec 32 := 0#32
  let c1_i32_32 : BitVec 32 := 1#32
  let arg8 : BitVec 32 := Scf.iv c0_i32_30 c1_i32_32 k0_t3
  let c256_i32_38 : BitVec 32 := 256#32
  let v101 : BitVec 32 := Scalar.muli arg8 c256_i32_38
  let v102 : BitVec 32 := v101
  let v107 : Index := Scalar.indexCast v102
  ![0, 0, 1, v107.toNat]
@[reducible] def k0_t4_loop (i : grid0.Coords) : Scf.Loop 32 :=
  let c0_i32_30 : BitVec 32 := 0#32
  let arg2 : BitVec 32 := BitVec.ofNat 32 (i 2).val
  let v84 : BitVec 32 := Scalar.subi arg2 c0_i32_30
  let c1_i32_31 : BitVec 32 := 1#32
  let v86 : BitVec 32 := Scalar.divsi v84 c1_i32_31
  let v87 : BitVec 32 := Scalar.muli v86 c1_i32_31
  let v88 : BitVec 32 := Scalar.addi c0_i32_30 v87
  let v85 : BitVec 32 := Scalar.addi c0_i32_30 v84
  let c1_i32_33 : BitVec 32 := 1#32
  ⟨v88, v85, c1_i32_33⟩
def k0_mult5 (i : grid0.Coords) (k0_t4 : Fin (k0_t4_loop i).trips) : BitVec 32 :=
  let c0_i32_30 : BitVec 32 := 0#32
  let arg2 : BitVec 32 := BitVec.ofNat 32 (i 2).val
  let v84 : BitVec 32 := Scalar.subi arg2 c0_i32_30
  let c1_i32_31 : BitVec 32 := 1#32
  let v86 : BitVec 32 := Scalar.divsi v84 c1_i32_31
  let v87 : BitVec 32 := Scalar.muli v86 c1_i32_31
  let v88 : BitVec 32 := Scalar.addi c0_i32_30 v87
  let c1_i32_33 : BitVec 32 := 1#32
  let arg8 : BitVec 32 := Scf.iv v88 c1_i32_33 k0_t4
  let c256_i32_38 : BitVec 32 := 256#32
  let v101 : BitVec 32 := Scalar.muli arg8 c256_i32_38
  v101
def k0_off10 (i : grid0.Coords) (k0_t4 : Fin (k0_t4_loop i).trips) : Fin 3 → Nat :=
  let c0_39 : Index := 0#32
  let c0_i32_30 : BitVec 32 := 0#32
  let arg2 : BitVec 32 := BitVec.ofNat 32 (i 2).val
  let v84 : BitVec 32 := Scalar.subi arg2 c0_i32_30
  let c1_i32_31 : BitVec 32 := 1#32
  let v86 : BitVec 32 := Scalar.divsi v84 c1_i32_31
  let v87 : BitVec 32 := Scalar.muli v86 c1_i32_31
  let v88 : BitVec 32 := Scalar.addi c0_i32_30 v87
  let c1_i32_33 : BitVec 32 := 1#32
  let arg8 : BitVec 32 := Scf.iv v88 c1_i32_33 k0_t4
  let c256_i32_38 : BitVec 32 := 256#32
  let v101 : BitVec 32 := Scalar.muli arg8 c256_i32_38
  let v102 : BitVec 32 := v101
  let v103 : Index := Scalar.indexCast v102
  let c0_40 : Index := 0#32
  ![0, v103.toNat, 0]
def k0_off11 (i : grid0.Coords) (k0_t4 : Fin (k0_t4_loop i).trips) : Fin 4 → Nat :=
  let c0_42 : Index := 0#32
  let c0_43 : Index := 0#32
  let c1_44 : Index := 1#32
  let c0_i32_30 : BitVec 32 := 0#32
  let arg2 : BitVec 32 := BitVec.ofNat 32 (i 2).val
  let v84 : BitVec 32 := Scalar.subi arg2 c0_i32_30
  let c1_i32_31 : BitVec 32 := 1#32
  let v86 : BitVec 32 := Scalar.divsi v84 c1_i32_31
  let v87 : BitVec 32 := Scalar.muli v86 c1_i32_31
  let v88 : BitVec 32 := Scalar.addi c0_i32_30 v87
  let c1_i32_33 : BitVec 32 := 1#32
  let arg8 : BitVec 32 := Scf.iv v88 c1_i32_33 k0_t4
  let c256_i32_38 : BitVec 32 := 256#32
  let v101 : BitVec 32 := Scalar.muli arg8 c256_i32_38
  let v102 : BitVec 32 := v101
  let v107 : Index := Scalar.indexCast v102
  ![0, 0, 1, v107.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c28_i32 : BitVec 32 := 28#32
  let v0 : BitVec 32 := Scalar.addi c28_i32 arg1
  let c0_i32 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c36_i32 : BitVec 32 := 36#32
  let v0 : BitVec 32 := Scalar.addi c36_i32 arg1
  let c0_i32 : BitVec 32 := 0#32
  let c0_i32_0 : BitVec 32 := 0#32
  ![arg0.toNat, c0_i32.toNat, v0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x2x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== FoxIdeal.lean ====
variable {F : FTy → Type} [FloatOps F] [Named F]
def κ : String → Option EReal := fun
  | "mask" => some ⊥
  | _ => none
-- ==== FoxRefIdeal.lean ====
abbrev S4x4096x9728 : Shape := ⟨3, ![4, 4096, 9728]⟩
abbrev S4x4096x8 : Shape := ⟨3, ![4, 4096, 8]⟩
abbrev S4x4096x512 : Shape := ⟨3, ![4, 4096, 512]⟩
abbrev S4x4096x8x64 : Shape := ⟨4, ![4, 4096, 8, 64]⟩
abbrev S4x8x4096x64 : Shape := ⟨4, ![4, 8, 4096, 64]⟩
abbrev S4x8x4096 : Shape := ⟨3, ![4, 8, 4096]⟩
abbrev S4096 : Shape := ⟨1, ![4096]⟩
abbrev S4x8x4096x4096 : Shape := ⟨4, ![4, 8, 4096, 4096]⟩
abbrev S4x8x4096x1 : Shape := ⟨4, ![4, 8, 4096, 1]⟩
abbrev S4x8x1x4096 : Shape := ⟨4, ![4, 8, 1, 4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩

abbrev nBuf : Space → Nat
  | .hbm => 51
  | .vmem => 0
  | .smem => 0
  | _ => 0

abbrev bufTy : (tb : Table) → Fin (tcTables nBuf tb) → BufTy
  | .hbm, ⟨0, _⟩ => ⟨S4x4096x9728, .bf16⟩
  | .hbm, ⟨1, _⟩ => ⟨S4x4096x8, .f32⟩
  | .hbm, ⟨2, _⟩ => ⟨S4x4096x512, .bf16⟩
  | .hbm, ⟨3, _⟩ => ⟨S4x4096x512, .f32⟩
  | .hbm, ⟨4, _⟩ => ⟨S4x4096x8x64, .f32⟩
  | .hbm, ⟨5, _⟩ => ⟨S4x8x4096x64, .f32⟩
  | .hbm, ⟨6, _⟩ => ⟨S4x4096x512, .bf16⟩
  | .hbm, ⟨7, _⟩ => ⟨S4x4096x512, .f32⟩
  | .hbm, ⟨8, _⟩ => ⟨S4x4096x8x64, .f32⟩
  | .hbm, ⟨9, _⟩ => ⟨S4x8x4096x64, .f32⟩
  | .hbm, ⟨10, _⟩ => ⟨S4x4096x512, .bf16⟩
  | .hbm, ⟨11, _⟩ => ⟨S4x4096x512, .f32⟩
  | .hbm, ⟨12, _⟩ => ⟨S4x4096x8x64, .f32⟩
  | .hbm, ⟨13, _⟩ => ⟨S4x8x4096x64, .f32⟩
  | .hbm, ⟨14, _⟩ => ⟨S4x8x4096, .f32⟩
  | .hbm, ⟨15, _⟩ => ⟨S4096, .i32⟩
  | .hbm, ⟨16, _⟩ => ⟨S4x8x4096x4096, .f32⟩
  | .hbm, ⟨17, _⟩ => ⟨S4x8x4096x1, .f32⟩
  | .hbm, ⟨18, _⟩ => ⟨S4x8x1x4096, .f32⟩
  | .hbm, ⟨19, _⟩ => ⟨S4x8x4096x4096, .f32⟩
  | .hbm, ⟨20, _⟩ => ⟨S4x8x4096x4096, .f32⟩
  | .hbm, ⟨21, _⟩ => ⟨S4x8x4096x4096, .f32⟩
  | .hbm, ⟨22, _⟩ => ⟨S4x8x4096x4096, .f32⟩
  | .hbm, ⟨23, _⟩ => ⟨S1x4096, .i32⟩
  | .hbm, ⟨24, _⟩ => ⟨S4096x1, .i32⟩
  | .hbm, ⟨25, _⟩ => ⟨S4096x4096, .i32⟩
  | .hbm, ⟨26, _⟩ => ⟨S4096x4096, .i32⟩
  | .hbm, ⟨27, _⟩ => ⟨S4096x4096, .i1⟩
  | .hbm, ⟨28, _⟩ => ⟨S_, .f32⟩
  | .hbm, ⟨29, _⟩ => ⟨S_, .f32⟩
  | .hbm, ⟨30, _⟩ => ⟨S4x8x4096x4096, .i1⟩
  | .hbm, ⟨31, _⟩ => ⟨S4x8x4096x4096, .f32⟩
  | .hbm, ⟨32, _⟩ => ⟨S4x8x4096x4096, .f32⟩
  | .hbm, ⟨33, _⟩ => ⟨S_, .f32⟩
  | .hbm, ⟨34, _⟩ => ⟨S4x8x4096, .f32⟩
  | .hbm, ⟨35, _⟩ => ⟨S_, .f32⟩
  | .hbm, ⟨36, _⟩ => ⟨S4x8x4096, .f32⟩
  | .hbm, ⟨37, _⟩ => ⟨S4x8x4096, .f32⟩
  | .hbm, ⟨38, _⟩ => ⟨S4x8x4096x1, .f32⟩
  | .hbm, ⟨39, _⟩ => ⟨S4x8x4096x4096, .f32⟩
  | .hbm, ⟨40, _⟩ => ⟨S4x8x4096x4096, .f32⟩
  | .hbm, ⟨41, _⟩ => ⟨S4x8x4096x4096, .f32⟩
  | .hbm, ⟨42, _⟩ => ⟨S_, .f32⟩
  | .hbm, ⟨43, _⟩ => ⟨S4x8x4096, .f32⟩
  | .hbm, ⟨44, _⟩ => ⟨S4x8x4096x1, .f32⟩
  | .hbm, ⟨45, _⟩ => ⟨S4x8x4096x4096, .f32⟩
  | .hbm, ⟨46, _⟩ => ⟨S4x8x4096x4096, .f32⟩
  | .hbm, ⟨47, _⟩ => ⟨S4x8x4096x64, .f32⟩
  | .hbm, ⟨48, _⟩ => ⟨S4x4096x8x64, .f32⟩
  | .hbm, ⟨49, _⟩ => ⟨S4x4096x512, .f32⟩
  | .hbm, ⟨50, _⟩ => ⟨S4x4096x512, .bf16⟩
  | _, _ => ⟨S4x4096x9728, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_cst : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v26 : Ref sig .tc := ⟨.hbm, 32, rfl⟩
abbrev main_cst_0 : Ref sig .tc := ⟨.hbm, 33, rfl⟩
abbrev main_v27 : Ref sig .tc := ⟨.hbm, 34, rfl⟩
abbrev main_cst_1 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_2 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩

abbrev nD : Nat := 1
abbrev τ : Topo := Topo.v7x

variable {F : FTy → Type} [FloatOps F]
-- ==== Out.lean ====
abbrev S4x4096x512 : Shape := ⟨3, ![4, 4096, 512]⟩
abbrev S16384x9728 : Shape := ⟨2, ![16384, 9728]⟩
abbrev S16384x1024 : Shape := ⟨2, ![16384, 1024]⟩
abbrev S3x512x1024 : Shape := ⟨3, ![3, 512, 1024]⟩
abbrev S1024x1024 : Shape := ⟨2, ![1024, 1024]⟩
abbrev S1024 : Shape := ⟨1, ![1024]⟩
abbrev S16384x512 : Shape := ⟨2, ![16384, 512]⟩
abbrev S1x1024 : Shape := ⟨2, ![1, 1024]⟩
abbrev S512x512 : Shape := ⟨2, ![512, 512]⟩
abbrev S512x1024 : Shape := ⟨2, ![512, 1024]⟩
abbrev S1x512x1024 : Shape := ⟨3, ![1, 512, 1024]⟩
abbrev S512 : Shape := ⟨1, ![512]⟩
abbrev S512x1 : Shape := ⟨2, ![512, 1]⟩

abbrev nBuf : Space → Nat
  | .hbm => 15
  | .vmem => 25
  | .smem => 0
  | _ => 0

abbrev bufTy : (tb : Table) → Fin (tcTables nBuf tb) → BufTy
  | .hbm, ⟨0, _⟩ => ⟨S4x4096x512, .bf16⟩
  | .hbm, ⟨1, _⟩ => ⟨S4x4096x512, .bf16⟩
  | .hbm, ⟨2, _⟩ => ⟨S4x4096x512, .bf16⟩
  | .hbm, ⟨3, _⟩ => ⟨S16384x9728, .bf16⟩
  | .hbm, ⟨4, _⟩ => ⟨S16384x1024, .f32⟩
  | .hbm, ⟨5, _⟩ => ⟨S3x512x1024, .f32⟩
  | .hbm, ⟨6, _⟩ => ⟨S1024x1024, .f32⟩
  | .hbm, ⟨7, _⟩ => ⟨S1024, .f32⟩
  | .hbm, ⟨8, _⟩ => ⟨S16384x512, .bf16⟩
  | .hbm, ⟨9, _⟩ => ⟨S16384x512, .bf16⟩
  | .hbm, ⟨10, _⟩ => ⟨S16384x512, .bf16⟩
  | .hbm, ⟨11, _⟩ => ⟨S3x512x1024, .bf16⟩
  | .hbm, ⟨12, _⟩ => ⟨S1024x1024, .bf16⟩
  | .hbm, ⟨13, _⟩ => ⟨S1x1024, .f32⟩
  | .hbm, ⟨14, _⟩ => ⟨S16384x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .f32⟩
  | .local _ .vmem, ⟨19, _⟩ => ⟨S512x1024, .f32⟩
  | .local _ .vmem, ⟨20, _⟩ => ⟨S3x512x1024, .bf16⟩
  | .local _ .vmem, ⟨21, _⟩ => ⟨S1024x1024, .bf16⟩
  | .local _ .vmem, ⟨22, _⟩ => ⟨S1x1024, .f32⟩
  | .local _ .vmem, ⟨23, _⟩ => ⟨S512x1024, .f32⟩
  | .local _ .vmem, ⟨24, _⟩ => ⟨S512x1024, .f32⟩
  | _, _ => ⟨S4x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg13_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c16_i32 : BitVec 32 := 16#32
  let c0_i32 : BitVec 32 := 0#32
  ![arg0.toNat, c16_i32.toNat]

def cc0_transform_4 (i : grid0.Coords) : Fin 2 → Nat :=
  let arg0 : BitVec 32 := BitVec.ofNat 32 (i 0).val
  let c17_i32 : BitVec 32 := 17#32
  let c0_i32 : BitVec 32 := 0#32
  ![arg0.toNat, c17_i32.toNat]

def cc0_transform_5 (i : grid0.Coords) : Fin 2 → Nat :=
  let arg0 : BitVec 32 := BitVec.ofNat 32 (i 0).val
  let c18_i32 : BitVec 32 := 18#32
  let c0_i32 : BitVec 32 := 0#32
  ![arg0.toNat, c18_i32.toNat]

def cc0_transform_6 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_7 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_8 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S3x512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== OutRefIdeal.lean ====
abbrev S4x4096x512 : Shape := ⟨3, ![4, 4096, 512]⟩
abbrev S16384x9728 : Shape := ⟨2, ![16384, 9728]⟩
abbrev S16384x1024 : Shape := ⟨2, ![16384, 1024]⟩
abbrev S3x512x1024 : Shape := ⟨3, ![3, 512, 1024]⟩
abbrev S1024x1024 : Shape := ⟨2, ![1024, 1024]⟩
abbrev S1024 : Shape := ⟨1, ![1024]⟩
abbrev S4x4096x9728 : Shape := ⟨3, ![4, 4096, 9728]⟩
abbrev S4x4096x3072 : Shape := ⟨3, ![4, 4096, 3072]⟩
abbrev S4x4096x1536 : Shape := ⟨3, ![4, 4096, 1536]⟩
abbrev S1x512x1024 : Shape := ⟨3, ![1, 512, 1024]⟩
abbrev S512x1024 : Shape := ⟨2, ![512, 1024]⟩
abbrev S4x4096x1024 : Shape := ⟨3, ![4, 4096, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩

abbrev nBuf : Space → Nat
  | .hbm => 61
  | .vmem => 0
  | .smem => 0
  | _ => 0

abbrev bufTy : (tb : Table) → Fin (tcTables nBuf tb) → BufTy
  | .hbm, ⟨0, _⟩ => ⟨S4x4096x512, .bf16⟩
  | .hbm, ⟨1, _⟩ => ⟨S4x4096x512, .bf16⟩
  | .hbm, ⟨2, _⟩ => ⟨S4x4096x512, .bf16⟩
  | .hbm, ⟨3, _⟩ => ⟨S16384x9728, .bf16⟩
  | .hbm, ⟨4, _⟩ => ⟨S16384x1024, .f32⟩
  | .hbm, ⟨5, _⟩ => ⟨S3x512x1024, .f32⟩
  | .hbm, ⟨6, _⟩ => ⟨S1024x1024, .f32⟩
  | .hbm, ⟨7, _⟩ => ⟨S1024, .f32⟩
  | .hbm, ⟨8, _⟩ => ⟨S4x4096x9728, .bf16⟩
  | .hbm, ⟨9, _⟩ => ⟨S4x4096x9728, .f32⟩
  | .hbm, ⟨10, _⟩ => ⟨S4x4096x3072, .f32⟩
  | .hbm, ⟨11, _⟩ => ⟨S4x4096x1536, .f32⟩
  | .hbm, ⟨12, _⟩ => ⟨S4x4096x512, .f32⟩
  | .hbm, ⟨13, _⟩ => ⟨S4x4096x512, .f32⟩
  | .hbm, ⟨14, _⟩ => ⟨S4x4096x512, .f32⟩
  | .hbm, ⟨15, _⟩ => ⟨S1x512x1024, .f32⟩
  | .hbm, ⟨16, _⟩ => ⟨S512x1024, .f32⟩
  | .hbm, ⟨17, _⟩ => ⟨S4x4096x1024, .f32⟩
  | .hbm, ⟨18, _⟩ => ⟨S4x4096x1024, .f32⟩
  | .hbm, ⟨19, _⟩ => ⟨S4x4096x1024, .f32⟩
  | .hbm, ⟨20, _⟩ => ⟨S_, .f32⟩
  | .hbm, ⟨21, _⟩ => ⟨S4x4096x1024, .f32⟩
  | .hbm, ⟨22, _⟩ => ⟨S4x4096x1024, .f32⟩
  | .hbm, ⟨23, _⟩ => ⟨S4x4096x512, .f32⟩
  | .hbm, ⟨24, _⟩ => ⟨S4x4096x512, .f32⟩
  | .hbm, ⟨25, _⟩ => ⟨S4x4096x512, .f32⟩
  | .hbm, ⟨26, _⟩ => ⟨S1x512x1024, .f32⟩
  | .hbm, ⟨27, _⟩ => ⟨S512x1024, .f32⟩
  | .hbm, ⟨28, _⟩ => ⟨S4x4096x1024, .f32⟩
  | .hbm, ⟨29, _⟩ => ⟨S4x4096x1024, .f32⟩
  | .hbm, ⟨30, _⟩ => ⟨S4x4096x1024, .f32⟩
  | .hbm, ⟨31, _⟩ => ⟨S4x4096x1024, .f32⟩
  | .hbm, ⟨32, _⟩ => ⟨S4x4096x512, .f32⟩
  | .hbm, ⟨33, _⟩ => ⟨S4x4096x512, .f32⟩
  | .hbm, ⟨34, _⟩ => ⟨S4x4096x512, .f32⟩
  | .hbm, ⟨35, _⟩ => ⟨S1x512x1024, .f32⟩
  | .hbm, ⟨36, _⟩ => ⟨S512x1024, .f32⟩
  | .hbm, ⟨37, _⟩ => ⟨S4x4096x1024, .f32⟩
  | .hbm, ⟨38, _⟩ => ⟨S4x4096x1024, .f32⟩
  | .hbm, ⟨39, _⟩ => ⟨S4x4096x1024, .f32⟩
  | .hbm, ⟨40, _⟩ => ⟨S4x4096x1024, .f32⟩
  | .hbm, ⟨41, _⟩ => ⟨S4x4096x1024, .f32⟩
  | .hbm, ⟨42, _⟩ => ⟨S4x4096x1024, .f32⟩
  | .hbm, ⟨43, _⟩ => ⟨S4x4096x1024, .f32⟩
  | .hbm, ⟨44, _⟩ => ⟨S4x4096x1024, .f32⟩
  | .hbm, ⟨45, _⟩ => ⟨S_, .f32⟩
  | .hbm, ⟨46, _⟩ => ⟨S4x4096, .f32⟩
  | .hbm, ⟨47, _⟩ => ⟨S4x4096x1, .f32⟩
  | .hbm, ⟨48, _⟩ => ⟨S_, .f32⟩
  | .hbm, ⟨49, _⟩ => ⟨S4x4096x1, .f32⟩
  | .hbm, ⟨50, _⟩ => ⟨S4x4096x1, .f32⟩
  | .hbm, ⟨51, _⟩ => ⟨S_, .f32⟩
  | .hbm, ⟨52, _⟩ => ⟨S4x4096x1, .f32⟩
  | .hbm, ⟨53, _⟩ => ⟨S4x4096x1, .f32⟩
  | .hbm, ⟨54, _⟩ => ⟨S4x4096x1, .f32⟩
  | .hbm, ⟨55, _⟩ => ⟨S4x4096x1024, .f32⟩
  | .hbm, ⟨56, _⟩ => ⟨S4x4096x1024, .f32⟩
  | .hbm, ⟨57, _⟩ => ⟨S1x1x1024, .f32⟩
  | .hbm, ⟨58, _⟩ => ⟨S4x4096x1024, .f32⟩
  | .hbm, ⟨59, _⟩ => ⟨S4x4096x1024, .f32⟩
  | .hbm, ⟨60, _⟩ => ⟨S16384x1024, .f32⟩
  | _, _ => ⟨S4x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_0 : Ref sig .tc := ⟨.hbm, 45, rfl⟩
abbrev main_v36 : Ref sig .tc := ⟨.hbm, 46, rfl⟩
abbrev main_v37 : Ref sig .tc := ⟨.hbm, 47, rfl⟩
abbrev main_cst_1 : Ref sig .tc := ⟨.hbm, 48, rfl⟩
abbrev main_v38 : Ref sig .tc := ⟨.hbm, 49, rfl⟩
abbrev main_v39 : Ref sig .tc := ⟨.hbm, 50, rfl⟩
abbrev main_cst_2 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩

abbrev nD : Nat := 1
abbrev τ : Topo := Topo.v7x

variable {F : FTy → Type} [FloatOps F]
-- ==== Proj.lean ====
abbrev S4x4096x1024 : Shape := ⟨3, ![4, 4096, 1024]⟩
abbrev S1024 : Shape := ⟨1, ![1024]⟩
abbrev S1024x9808 : Shape := ⟨2, ![1024, 9808]⟩
abbrev S8 : Shape := ⟨1, ![8]⟩
abbrev S_ : Shape := ⟨0, ![]⟩
abbrev S4096 : Shape := ⟨1, ![4096]⟩
abbrev S4096x1 : Shape := ⟨2, ![4096, 1]⟩
abbrev S1x8 : Shape := ⟨2, ![1, 8]⟩
abbrev S4096x8 : Shape := ⟨2, ![4096, 8]⟩
abbrev S4096x48 : Shape := ⟨2, ![4096, 48]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S16384x1024 : Shape := ⟨2, ![16384, 1024]⟩
abbrev S1024x512 : Shape := ⟨2, ![1024, 512]⟩
abbrev S1024x3072 : Shape := ⟨2, ![1024, 3072]⟩
abbrev S1024x9728 : Shape := ⟨2, ![1024, 9728]⟩
abbrev S1024x80 : Shape := ⟨2, ![1024, 80]⟩
abbrev S1024x128 : Shape := ⟨2, ![1024, 128]⟩
abbrev S1x128 : Shape := ⟨2, ![1, 128]⟩
abbrev S1 : Shape := ⟨1, ![1]⟩
abbrev S2 : Shape := ⟨1, ![2]⟩
abbrev S1x1024 : Shape := ⟨2, ![1, 1024]⟩
abbrev S16384x9728 : Shape := ⟨2, ![16384, 9728]⟩
abbrev S16384x128 : Shape := ⟨2, ![16384, 128]⟩
abbrev S1024x1024 : Shape := ⟨2, ![1024, 1024]⟩
abbrev S1024x1 : Shape := ⟨2, ![1024, 1]⟩

abbrev nBuf : Space → Nat
  | .hbm => 80
  | .vmem => 18
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x9808, .f32⟩
  | .hbm, ⟨3, _⟩ => ⟨S8, .f32⟩
  | .hbm, ⟨4, _⟩ => ⟨S8, .f32⟩
  | .hbm, ⟨5, _⟩ => ⟨S_, .f32⟩
  | .hbm, ⟨6, _⟩ => ⟨S8, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S4096, .i32⟩
  | .hbm, ⟨19, _⟩ => ⟨S4096, .f32⟩
  | .hbm, ⟨20, _⟩ => ⟨S4096x1, .f32⟩
  | .hbm, ⟨21, _⟩ => ⟨S1x8, .f32⟩
  | .hbm, ⟨22, _⟩ => ⟨S4096x8, .f32⟩
  | .hbm, ⟨23, _⟩ => ⟨S4096x8, .f32⟩
  | .hbm, ⟨24, _⟩ => ⟨S4096x8, .f32⟩
  | .hbm, ⟨25, _⟩ => ⟨S4096x8, .f32⟩
  | .hbm, ⟨26, _⟩ => ⟨S4096x8, .f32⟩
  | .hbm, ⟨27, _⟩ => ⟨S_, .f32⟩
  | .hbm, ⟨28, _⟩ => ⟨S4096x48, .f32⟩
  | .hbm, ⟨29, _⟩ => ⟨S_, .f32⟩
  | .hbm, ⟨30, _⟩ => ⟨S4096x8, .f32⟩
  | .hbm, ⟨31, _⟩ => ⟨S_, .f32⟩
  | .hbm, ⟨32, _⟩ => ⟨S4096x48, .f32⟩
  | .hbm, ⟨33, _⟩ => ⟨S4096x48, .f32⟩
  | .hbm, ⟨34, _⟩ => ⟨S4096x64, .f32⟩
  | .hbm, ⟨35, _⟩ => ⟨S1x4096x1x64, .f32⟩
  | .hbm, ⟨36, _⟩ => ⟨S1x4096x2x64, .f32⟩
  | .hbm, ⟨37, _⟩ => ⟨S4096x128, .f32⟩
  | .hbm, ⟨38, _⟩ => ⟨S4096x8, .f32⟩
  | .hbm, ⟨39, _⟩ => ⟨S4096x64, .f32⟩
  | .hbm, ⟨40, _⟩ => ⟨S1x4096x1x64, .f32⟩
  | .hbm, ⟨41, _⟩ => ⟨S1x4096x2x64, .f32⟩
  | .hbm, ⟨42, _⟩ => ⟨S4096x128, .f32⟩
  | .hbm, ⟨43, _⟩ => ⟨S4096x64, .f32⟩
  | .hbm, ⟨44, _⟩ => ⟨S1x4096x1x64, .f32⟩
  | .hbm, ⟨45, _⟩ => ⟨S1x4096x2x64, .f32⟩
  | .hbm, ⟨46, _⟩ => ⟨S4096x128, .f32⟩
  | .hbm, ⟨47, _⟩ => ⟨S16384x1024, .f32⟩
  | .hbm, ⟨48, _⟩ => ⟨S1024x512, .f32⟩
  | .hbm, ⟨49, _⟩ => ⟨S1024x512, .f32⟩
  | .hbm, ⟨50, _⟩ => ⟨S1024x512, .f32⟩
  | .hbm, ⟨51, _⟩ => ⟨S1024x512, .f32⟩
  | .hbm, ⟨52, _⟩ => ⟨S1024x512, .f32⟩
  | .hbm, ⟨53, _⟩ => ⟨S1024x512, .f32⟩
  | .hbm, ⟨54, _⟩ => ⟨S1024x512, .f32⟩
  | .hbm, ⟨55, _⟩ => ⟨S1024x512, .f32⟩
  | .hbm, ⟨56, _⟩ => ⟨S1024x512, .f32⟩
  | .hbm, ⟨57, _⟩ => ⟨S1024x512, .f32⟩
  | .hbm, ⟨58, _⟩ => ⟨S1024x3072, .f32⟩
  | .hbm, ⟨59, _⟩ => ⟨S1024x512, .f32⟩
  | .hbm, ⟨60, _⟩ => ⟨S1024x512, .f32⟩
  | .hbm, ⟨61, _⟩ => ⟨S1024x512, .f32⟩
  | .hbm, ⟨62, _⟩ => ⟨S1024x9728, .f32⟩
  | .hbm, ⟨63, _⟩ => ⟨S1024x80, .f32⟩
  | .hbm, ⟨64, _⟩ => ⟨S_, .i32⟩
  | .hbm, ⟨65, _⟩ => ⟨S_, .f32⟩
  | .hbm, ⟨66, _⟩ => ⟨S1024x128, .f32⟩
  | .hbm, ⟨67, _⟩ => ⟨S1024x9728, .bf16⟩
  | .hbm, ⟨68, _⟩ => ⟨S1024x128, .bf16⟩
  | .hbm, ⟨69, _⟩ => ⟨S_, .f32⟩
  | .hbm, ⟨70, _⟩ => ⟨S1x128, .f32⟩
  | .hbm, ⟨71, _⟩ => ⟨S_, .i32⟩
  | .hbm, ⟨72, _⟩ => ⟨S1, .i32⟩
  | .hbm, ⟨73, _⟩ => ⟨S_, .i32⟩
  | .hbm, ⟨74, _⟩ => ⟨S1, .i32⟩
  | .hbm, ⟨75, _⟩ => ⟨S2, .i32⟩
  | .hbm, ⟨76, _⟩ => ⟨S1x128, .f32⟩
  | .hbm, ⟨77, _⟩ => ⟨S1x1024, .f32⟩
  | .hbm, ⟨78, _⟩ => ⟨S16384x9728, .bf16⟩
  | .hbm, ⟨79, _⟩ => ⟨S16384x128, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S1024x128, .bf16⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1x128, .f32⟩
  | .local _ .vmem, ⟨13, _⟩ => ⟨S1024x512, .bf16⟩
  | .local _ .vmem, ⟨14, _⟩ => ⟨S1024x512, .bf16⟩
  | .local _ .vmem, ⟨15, _⟩ => ⟨S1024x128, .f32⟩
  | .local _ .vmem, ⟨16, _⟩ => ⟨S1024x128, .f32⟩
  | .local _ .vmem, ⟨17, _⟩ => ⟨S1024x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_c : Ref sig .tc := ⟨.hbm, 64, rfl⟩
abbrev main_call0_v0 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_cst_6 : Ref sig .tc := ⟨.hbm, 69, rfl⟩
abbrev main_v56 : Ref sig .tc := ⟨.hbm, 70, rfl⟩
abbrev main_c_7 : Ref sig .tc := ⟨.hbm, 71, rfl⟩
abbrev main_v57 : Ref sig .tc := ⟨.hbm, 72, rfl⟩
abbrev main_c_8 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62_0 : Ref sig .tc := ⟨.hbm, 78, rfl⟩
abbrev main_v62_1 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![16, 19], ![false, false]⟩

def k0_cond2 (i : grid0.Coords) : BitVec 1 :=
  let arg1 : BitVec 32 := BitVec.ofNat 32 (i 1).val
  let c4_i32 : BitVec 32 := 4#32
  let v13 : BitVec 1 := Scalar.cmpi .sle arg1 c4_i32
  let v14 : BitVec 32 := Scalar.extui v13
  let c0_i32_10 : BitVec 32 := 0#32
  let v15 : BitVec 1 := Scalar.cmpi .ne v14 c0_i32_10
  v15

def k0_cond3 (i : grid0.Coords) : BitVec 1 :=
  let arg1 : BitVec 32 := BitVec.ofNat 32 (i 1).val
  let c4_i32_11 : BitVec 32 := 4#32
  let v16 : BitVec 1 := Scalar.cmpi .sgt arg1 c4_i32_11
  let c10_i32 : BitVec 32 := 10#32
  let v17 : BitVec 1 := Scalar.cmpi .slt arg1 c10_i32
  let v18 : BitVec 1 := Scalar.andi v16 v17
  let v19 : BitVec 32 := Scalar.extui v18
  let c0_i32_12 : BitVec 32 := 0#32
  let v20 : BitVec 1 := Scalar.cmpi .ne v19 c0_i32_12
  v20

def k0_cond4 (i : grid0.Coords) : BitVec 1 :=
  let arg1 : BitVec 32 := BitVec.ofNat 32 (i 1).val
  let c10_i32_13 : BitVec 32 := 10#32
  let v21 : BitVec 1 := Scalar.cmpi .sge arg1 c10_i32_13
  let c16_i32 : BitVec 32 := 16#32
  let v22 : BitVec 1 := Scalar.cmpi .slt arg1 c16_i32
  let v23 : BitVec 1 := Scalar.andi v21 v22
  let v24 : BitVec 32 := Scalar.extui v23
  let c0_i32_14 : BitVec 32 := 0#32
  let v25 : BitVec 1 := Scalar.cmpi .ne v24 c0_i32_14
  v25

def k0_cond5 (i : grid0.Coords) : BitVec 1 :=
  let arg1 : BitVec 32 := BitVec.ofNat 32 (i 1).val
  let c16_i32_15 : BitVec 32 := 16#32
  let v26 : BitVec 1 := Scalar.cmpi .sge arg1 c16_i32_15
  let v27 : BitVec 32 := Scalar.extui v26
  let c0_i32_16 : BitVec 32 := 0#32
  let v28 : BitVec 1 := Scalar.cmpi .ne v27 c0_i32_16
  v28

def k0_cond1 (i : grid0.Coords) : BitVec 1 :=
  let arg1 : BitVec 32 := BitVec.ofNat 32 (i 1).val
  let c0_i32 : BitVec 32 := 0#32
  let v6 : BitVec 1 := Scalar.cmpi .eq arg1 c0_i32
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ProjRefIdeal.lean ====
abbrev S4x4096x1024 : Shape := ⟨3, ![4, 4096, 1024]⟩
abbrev S1024 : Shape := ⟨1, ![1024]⟩
abbrev S1024x9808 : Shape := ⟨2, ![1024, 9808]⟩
abbrev S8 : Shape := ⟨1, ![8]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x9808 : Shape := ⟨3, ![4, 4096, 9808]⟩
abbrev S4x4096x512 : Shape := ⟨3, ![4, 4096, 512]⟩
abbrev S4x4096x64 : Shape := ⟨3, ![4, 4096, 64]⟩
abbrev S4x4096x8 : Shape := ⟨3, ![4, 4096, 8]⟩
abbrev S4x4096x3072 : Shape := ⟨3, ![4, 4096, 3072]⟩
abbrev S4x4096x8x64 : Shape := ⟨4, ![4, 4096, 8, 64]⟩
abbrev S4096 : Shape := ⟨1, ![4096]⟩
abbrev S4096x1 : Shape := ⟨2, ![4096, 1]⟩
abbrev S1x8 : Shape := ⟨2, ![1, 8]⟩
abbrev S4096x8 : Shape := ⟨2, ![4096, 8]⟩
abbrev S1x4096x1x8 : Shape := ⟨4, ![1, 4096, 1, 8]⟩
abbrev S4x4096x8x8 : Shape := ⟨4, ![4, 4096, 8, 8]⟩
abbrev S4x4096x8x48 : Shape := ⟨4, ![4, 4096, 8, 48]⟩
abbrev S4x4096x9728 : Shape := ⟨3, ![4, 4096, 9728]⟩
abbrev S4x4096x48 : Shape := ⟨3, ![4, 4096, 48]⟩
abbrev S4x4096x1x64 : Shape := ⟨4, ![4, 4096, 1, 64]⟩
abbrev S4x4096x1x8 : Shape := ⟨4, ![4, 4096, 1, 8]⟩
abbrev S4x4096x1x48 : Shape := ⟨4, ![4, 4096, 1, 48]⟩
abbrev S1x1x8 : Shape := ⟨3, ![1, 1, 8]⟩
abbrev S4x4096x128 : Shape := ⟨3, ![4, 4096, 128]⟩
abbrev S16384x9728 : Shape := ⟨2, ![16384, 9728]⟩
abbrev S16384x128 : Shape := ⟨2, ![16384, 128]⟩

abbrev nBuf : Space → Nat
  | .hbm => 373
  | .vmem => 0
  | .smem => 0
  | _ => 0

abbrev hbmTy0_0 (i : Nat) : BufTy := match i % 128 with
  | 0 => ⟨S4x4096x1024, .f32⟩
  | 1 => ⟨S1024, .f32⟩
  | 2 => ⟨S1024x9808, .f32⟩
  | 3 => ⟨S8, .f32⟩
  | 4 => ⟨S4x4096x1024, .f32⟩
  | 5 => ⟨S_, .f32⟩
  | 6 => ⟨S4x4096, .f32⟩
  | 7 => ⟨S4x4096x1, .f32⟩
  | 8 => ⟨S_, .f32⟩
  | 9 => ⟨S4x4096x1, .f32⟩
  | 10 => ⟨S4x4096x1, .f32⟩
  | 11 => ⟨S_, .f32⟩
  | 12 => ⟨S4x4096x1, .f32⟩
  | 13 => ⟨S4x4096x1, .f32⟩
  | 14 => ⟨S4x4096x1, .f32⟩
  | 15 => ⟨S4x4096x1024, .f32⟩
  | 16 => ⟨S4x4096x1024, .f32⟩
  | 17 => ⟨S1x1x1024, .f32⟩
  | 18 => ⟨S4x4096x1024, .f32⟩
  | 19 => ⟨S4x4096x1024, .f32⟩
  | 20 => ⟨S4x4096x9808, .f32⟩
  | 21 => ⟨S4x4096x512, .f32⟩
  | 22 => ⟨S4x4096x512, .f32⟩
  | 23 => ⟨S4x4096x512, .f32⟩
  | 24 => ⟨S4x4096x512, .f32⟩
  | 25 => ⟨S4x4096x512, .f32⟩
  | 26 => ⟨S4x4096x512, .f32⟩
  | 27 => ⟨S4x4096x512, .f32⟩
  | 28 => ⟨S4x4096x512, .f32⟩
  | 29 => ⟨S4x4096x512, .f32⟩
  | 30 => ⟨S4x4096x512, .f32⟩
  | 31 => ⟨S4x4096x512, .f32⟩
  | 32 => ⟨S4x4096x512, .f32⟩
  | 33 => ⟨S4x4096x512, .f32⟩
  | 34 => ⟨S4x4096x64, .f32⟩
  | 35 => ⟨S4x4096x8, .f32⟩
  | 36 => ⟨S4x4096x8, .f32⟩
  | 37 => ⟨S4x4096x3072, .f32⟩
  | 38 => ⟨S4x4096x8x64, .f32⟩
  | 39 => ⟨S8, .f32⟩
  | 40 => ⟨S_, .f32⟩
  | 41 => ⟨S8, .f32⟩
  | 42 => ⟨S8, .f32⟩
  | 43 => ⟨S_, .f32⟩
  | 44 => ⟨S8, .f32⟩
  | 45 => ⟨S8, .f32⟩
  | 46 => ⟨S8, .f32⟩
  | 47 => ⟨S_, .f32⟩
  | 48 => ⟨S8, .f32⟩
  | 49 => ⟨S8, .f32⟩
  | 50 => ⟨S_, .f32⟩
  | 51 => ⟨S8, .f32⟩
  | 52 => ⟨S8, .f32⟩
  | 53 => ⟨S4096, .i32⟩
  | 54 => ⟨S4096, .f32⟩
  | 55 => ⟨S4096x1, .f32⟩
  | 56 => ⟨S1x8, .f32⟩
  | 57 => ⟨S4096x8, .f32⟩
  | 58 => ⟨S4096x8, .f32⟩
  | 59 => ⟨S4096x8, .f32⟩
  | 60 => ⟨S4096x8, .f32⟩
  | 61 => ⟨S1x4096x1x8, .f32⟩
  | 62 => ⟨S4096x8, .f32⟩
  | 63 => ⟨S1x4096x1x8, .f32⟩
  | 64 => ⟨S4x4096x8x8, .f32⟩
  | 65 => ⟨S4x4096x8x8, .f32⟩
  | 66 => ⟨S4x4096x8x8, .f32⟩
  | 67 => ⟨S4x4096x8x8, .f32⟩
  | 68 => ⟨S4x4096x8x8, .f32⟩
  | 69 => ⟨S4x4096x8x8, .f32⟩
  | 70 => ⟨S4x4096x8x8, .f32⟩
  | 71 => ⟨S4x4096x8x8, .f32⟩
  | 72 => ⟨S4x4096x8x8, .f32⟩
  | 73 => ⟨S4x4096x8x8, .f32⟩
  | 74 => ⟨S4x4096x8x8, .f32⟩
  | 75 => ⟨S4x4096x8x8, .f32⟩
  | 76 => ⟨S4x4096x8x48, .f32⟩
  | 77 => ⟨S4x4096x8x64, .f32⟩
  | 78 => ⟨S4x4096x512, .f32⟩
  | 79 => ⟨S_, .f32⟩
  | 80 => ⟨S4x4096x512, .f32⟩
  | 81 => ⟨S4x4096x512, .f32⟩
  | 82 => ⟨S4x4096x8x64, .f32⟩
  | 83 => ⟨S8, .f32⟩
  | 84 => ⟨S_, .f32⟩
  | 85 => ⟨S8, .f32⟩
  | 86 => ⟨S8, .f32⟩
  | 87 => ⟨S_, .f32⟩
  | 88 => ⟨S8, .f32⟩
  | 89 => ⟨S8, .f32⟩
  | 90 => ⟨S8, .f32⟩
  | 91 => ⟨S_, .f32⟩
  | 92 => ⟨S8, .f32⟩
  | 93 => ⟨S8, .f32⟩
  | 94 => ⟨S_, .f32⟩
  | 95 => ⟨S8, .f32⟩
  | 96 => ⟨S8, .f32⟩
  | 97 => ⟨S4096, .i32⟩
  | 98 => ⟨S4096, .f32⟩
  | 99 => ⟨S4096x1, .f32⟩
  | 100 => ⟨S1x8, .f32⟩
  | 101 => ⟨S4096x8, .f32⟩
  | 102 => ⟨S4096x8, .f32⟩
  | 103 => ⟨S4096x8, .f32⟩
  | 104 => ⟨S4096x8, .f32⟩
  | 105 => ⟨S1x4096x1x8, .f32⟩
  | 106 => ⟨S4096x8, .f32⟩
  | 107 => ⟨S1x4096x1x8, .f32⟩
  | 108 => ⟨S4x4096x8x8, .f32⟩
  | 109 => ⟨S4x4096x8x8, .f32⟩
  | 110 => ⟨S4x4096x8x8, .f32⟩
  | 111 => ⟨S4x4096x8x8, .f32⟩
  | 112 => ⟨S4x4096x8x8, .f32⟩
  | 113 => ⟨S4x4096x8x8, .f32⟩
  | 114 => ⟨S4x4096x8x8, .f32⟩
  | 115 => ⟨S4x4096x8x8, .f32⟩
  | 116 => ⟨S4x4096x8x8, .f32⟩
  | 117 => ⟨S4x4096x8x8, .f32⟩
  | 118 => ⟨S4x4096x8x8, .f32⟩
  | 119 => ⟨S4x4096x8x8, .f32⟩
  | 120 => ⟨S4x4096x8x48, .f32⟩
  | 121 => ⟨S4x4096x8x64, .f32⟩
  | 122 => ⟨S4x4096x512, .f32⟩
  | 123 => ⟨S4x4096x8x64, .f32⟩
  | 124 => ⟨S8, .f32⟩
  | 125 => ⟨S_, .f32⟩
  | 126 => ⟨S8, .f32⟩
  | 127 => ⟨S8, .f32⟩
  | _ => ⟨S4x4096x1024, .f32⟩

abbrev hbmTy0_1 (i : Nat) : BufTy := match i % 128 with
  | 0 => ⟨S_, .f32⟩
  | 1 => ⟨S8, .f32⟩
  | 2 => ⟨S8, .f32⟩
  | 3 => ⟨S8, .f32⟩
  | 4 => ⟨S_, .f32⟩
  | 5 => ⟨S8, .f32⟩
  | 6 => ⟨S8, .f32⟩
  | 7 => ⟨S_, .f32⟩
  | 8 => ⟨S8, .f32⟩
  | 9 => ⟨S8, .f32⟩
  | 10 => ⟨S4096, .i32⟩
  | 11 => ⟨S4096, .f32⟩
  | 12 => ⟨S4096x1, .f32⟩
  | 13 => ⟨S1x8, .f32⟩
  | 14 => ⟨S4096x8, .f32⟩
  | 15 => ⟨S4096x8, .f32⟩
  | 16 => ⟨S4096x8, .f32⟩
  | 17 => ⟨S4096x8, .f32⟩
  | 18 => ⟨S1x4096x1x8, .f32⟩
  | 19 => ⟨S4096x8, .f32⟩
  | 20 => ⟨S1x4096x1x8, .f32⟩
  | 21 => ⟨S4x4096x8x8, .f32⟩
  | 22 => ⟨S4x4096x8x8, .f32⟩
  | 23 => ⟨S4x4096x8x8, .f32⟩
  | 24 => ⟨S4x4096x8x8, .f32⟩
  | 25 => ⟨S4x4096x8x8, .f32⟩
  | 26 => ⟨S4x4096x8x8, .f32⟩
  | 27 => ⟨S4x4096x8x8, .f32⟩
  | 28 => ⟨S4x4096x8x8, .f32⟩
  | 29 => ⟨S4x4096x8x8, .f32⟩
  | 30 => ⟨S4x4096x8x8, .f32⟩
  | 31 => ⟨S4x4096x8x8, .f32⟩
  | 32 => ⟨S4x4096x8x8, .f32⟩
  | 33 => ⟨S4x4096x8x48, .f32⟩
  | 34 => ⟨S4x4096x8x64, .f32⟩
  | 35 => ⟨S4x4096x512, .f32⟩
  | 36 => ⟨S_, .f32⟩
  | 37 => ⟨S4x4096x512, .f32⟩
  | 38 => ⟨S4x4096x512, .f32⟩
  | 39 => ⟨S4x4096x8x64, .f32⟩
  | 40 => ⟨S8, .f32⟩
  | 41 => ⟨S_, .f32⟩
  | 42 => ⟨S8, .f32⟩
  | 43 => ⟨S8, .f32⟩
  | 44 => ⟨S_, .f32⟩
  | 45 => ⟨S8, .f32⟩
  | 46 => ⟨S8, .f32⟩
  | 47 => ⟨S8, .f32⟩
  | 48 => ⟨S_, .f32⟩
  | 49 => ⟨S8, .f32⟩
  | 50 => ⟨S8, .f32⟩
  | 51 => ⟨S_, .f32⟩
  | 52 => ⟨S8, .f32⟩
  | 53 => ⟨S8, .f32⟩
  | 54 => ⟨S4096, .i32⟩
  | 55 => ⟨S4096, .f32⟩
  | 56 => ⟨S4096x1, .f32⟩
  | 57 => ⟨S1x8, .f32⟩
  | 58 => ⟨S4096x8, .f32⟩
  | 59 => ⟨S4096x8, .f32⟩
  | 60 => ⟨S4096x8, .f32⟩
  | 61 => ⟨S4096x8, .f32⟩
  | 62 => ⟨S1x4096x1x8, .f32⟩
  | 63 => ⟨S4096x8, .f32⟩
  | 64 => ⟨S1x4096x1x8, .f32⟩
  | 65 => ⟨S4x4096x8x8, .f32⟩
  | 66 => ⟨S4x4096x8x8, .f32⟩
  | 67 => ⟨S4x4096x8x8, .f32⟩
  | 68 => ⟨S4x4096x8x8, .f32⟩
  | 69 => ⟨S4x4096x8x8, .f32⟩
  | 70 => ⟨S4x4096x8x8, .f32⟩
  | 71 => ⟨S4x4096x8x8, .f32⟩
  | 72 => ⟨S4x4096x8x8, .f32⟩
  | 73 => ⟨S4x4096x8x8, .f32⟩
  | 74 => ⟨S4x4096x8x8, .f32⟩
  | 75 => ⟨S4x4096x8x8, .f32⟩
  | 76 => ⟨S4x4096x8x8, .f32⟩
  | 77 => ⟨S4x4096x8x48, .f32⟩
  | 78 => ⟨S4x4096x8x64, .f32⟩
  | 79 => ⟨S4x4096x512, .f32⟩
  | 80 => ⟨S4x4096x8x64, .f32⟩
  | 81 => ⟨S8, .f32⟩
  | 82 => ⟨S_, .f32⟩
  | 83 => ⟨S8, .f32⟩
  | 84 => ⟨S8, .f32⟩
  | 85 => ⟨S_, .f32⟩
  | 86 => ⟨S8, .f32⟩
  | 87 => ⟨S8, .f32⟩
  | 88 => ⟨S8, .f32⟩
  | 89 => ⟨S_, .f32⟩
  | 90 => ⟨S8, .f32⟩
  | 91 => ⟨S8, .f32⟩
  | 92 => ⟨S_, .f32⟩
  | 93 => ⟨S8, .f32⟩
  | 94 => ⟨S8, .f32⟩
  | 95 => ⟨S4096, .i32⟩
  | 96 => ⟨S4096, .f32⟩
  | 97 => ⟨S4096x1, .f32⟩
  | 98 => ⟨S1x8, .f32⟩
  | 99 => ⟨S4096x8, .f32⟩
  | 100 => ⟨S4096x8, .f32⟩
  | 101 => ⟨S4096x8, .f32⟩
  | 102 => ⟨S4096x8, .f32⟩
  | 103 => ⟨S1x4096x1x8, .f32⟩
  | 104 => ⟨S4096x8, .f32⟩
  | 105 => ⟨S1x4096x1x8, .f32⟩
  | 106 => ⟨S4x4096x8x8, .f32⟩
  | 107 => ⟨S4x4096x8x8, .f32⟩
  | 108 => ⟨S4x4096x8x8, .f32⟩
  | 109 => ⟨S4x4096x8x8, .f32⟩
  | 110 => ⟨S4x4096x8x8, .f32⟩
  | 111 => ⟨S4x4096x8x8, .f32⟩
  | 112 => ⟨S4x4096x8x8, .f32⟩
  | 113 => ⟨S4x4096x8x8, .f32⟩
  | 114 => ⟨S4x4096x8x8, .f32⟩
  | 115 => ⟨S4x4096x8x8, .f32⟩
  | 116 => ⟨S4x4096x8x8, .f32⟩
  | 117 => ⟨S4x4096x8x8, .f32⟩
  | 118 => ⟨S4x4096x8x48, .f32⟩
  | 119 => ⟨S4x4096x8x64, .f32⟩
  | 120 => ⟨S4x4096x512, .f32⟩
  | 121 => ⟨S_, .f32⟩
  | 122 => ⟨S4x4096x512, .f32⟩
  | 123 => ⟨S4x4096x512, .f32⟩
  | 124 => ⟨S4x4096x3072, .f32⟩
  | 125 => ⟨S4x4096x3072, .f32⟩
  | 126 => ⟨S_, .f32⟩
  | 127 => ⟨S4x4096x3072, .f32⟩
  | _ => ⟨S4x4096x1024, .f32⟩

abbrev hbmTy0_2 (i : Nat) : BufTy := match i % 128 with
  | 0 => ⟨S4x4096x3072, .f32⟩
  | 1 => ⟨S_, .f32⟩
  | 2 => ⟨S4x4096x3072, .f32⟩
  | 3 => ⟨S4x4096x3072, .f32⟩
  | 4 => ⟨S4x4096x512, .f32⟩
  | 5 => ⟨S4x4096x512, .f32⟩
  | 6 => ⟨S_, .f32⟩
  | 7 => ⟨S4x4096x512, .f32⟩
  | 8 => ⟨S4x4096x512, .f32⟩
  | 9 => ⟨S_, .f32⟩
  | 10 => ⟨S4x4096x512, .f32⟩
  | 11 => ⟨S4x4096x512, .f32⟩
  | 12 => ⟨S4x4096x512, .f32⟩
  | 13 => ⟨S4x4096x512, .f32⟩
  | 14 => ⟨S4x4096x512, .f32⟩
  | 15 => ⟨S_, .f32⟩
  | 16 => ⟨S4x4096x512, .f32⟩
  | 17 => ⟨S4x4096x512, .f32⟩
  | 18 => ⟨S_, .f32⟩
  | 19 => ⟨S4x4096x512, .f32⟩
  | 20 => ⟨S4x4096x512, .f32⟩
  | 21 => ⟨S4x4096x512, .f32⟩
  | 22 => ⟨S4x4096x512, .f32⟩
  | 23 => ⟨S4x4096x512, .f32⟩
  | 24 => ⟨S_, .f32⟩
  | 25 => ⟨S4x4096x512, .f32⟩
  | 26 => ⟨S4x4096x512, .f32⟩
  | 27 => ⟨S_, .f32⟩
  | 28 => ⟨S4x4096x512, .f32⟩
  | 29 => ⟨S4x4096x512, .f32⟩
  | 30 => ⟨S4x4096x512, .f32⟩
  | 31 => ⟨S4x4096x9728, .f32⟩
  | 32 => ⟨S_, .f32⟩
  | 33 => ⟨S4x4096x48, .f32⟩
  | 34 => ⟨S4x4096x48, .f32⟩
  | 35 => ⟨S_, .f32⟩
  | 36 => ⟨S4x4096x48, .f32⟩
  | 37 => ⟨S4x4096x48, .f32⟩
  | 38 => ⟨S4x4096x48, .f32⟩
  | 39 => ⟨S4x4096x48, .f32⟩
  | 40 => ⟨S4x4096x48, .i1⟩
  | 41 => ⟨S4x4096x48, .f32⟩
  | 42 => ⟨S4x4096x48, .f32⟩
  | 43 => ⟨S4x4096x48, .f32⟩
  | 44 => ⟨S4x4096x48, .f32⟩
  | 45 => ⟨S4x4096x48, .f32⟩
  | 46 => ⟨S4x4096x48, .f32⟩
  | 47 => ⟨S4x4096x48, .f32⟩
  | 48 => ⟨S4x4096x48, .f32⟩
  | 49 => ⟨S4x4096x48, .f32⟩
  | 50 => ⟨S4x4096x1x64, .f32⟩
  | 51 => ⟨S8, .f32⟩
  | 52 => ⟨S_, .f32⟩
  | 53 => ⟨S8, .f32⟩
  | 54 => ⟨S8, .f32⟩
  | 55 => ⟨S_, .f32⟩
  | 56 => ⟨S8, .f32⟩
  | 57 => ⟨S8, .f32⟩
  | 58 => ⟨S8, .f32⟩
  | 59 => ⟨S_, .f32⟩
  | 60 => ⟨S8, .f32⟩
  | 61 => ⟨S8, .f32⟩
  | 62 => ⟨S_, .f32⟩
  | 63 => ⟨S8, .f32⟩
  | 64 => ⟨S8, .f32⟩
  | 65 => ⟨S4096, .i32⟩
  | 66 => ⟨S4096, .f32⟩
  | 67 => ⟨S4096x1, .f32⟩
  | 68 => ⟨S1x8, .f32⟩
  | 69 => ⟨S4096x8, .f32⟩
  | 70 => ⟨S4096x8, .f32⟩
  | 71 => ⟨S4096x8, .f32⟩
  | 72 => ⟨S4096x8, .f32⟩
  | 73 => ⟨S1x4096x1x8, .f32⟩
  | 74 => ⟨S4096x8, .f32⟩
  | 75 => ⟨S1x4096x1x8, .f32⟩
  | 76 => ⟨S4x4096x1x8, .f32⟩
  | 77 => ⟨S4x4096x1x8, .f32⟩
  | 78 => ⟨S4x4096x1x8, .f32⟩
  | 79 => ⟨S4x4096x1x8, .f32⟩
  | 80 => ⟨S4x4096x1x8, .f32⟩
  | 81 => ⟨S4x4096x1x8, .f32⟩
  | 82 => ⟨S4x4096x1x8, .f32⟩
  | 83 => ⟨S4x4096x1x8, .f32⟩
  | 84 => ⟨S4x4096x1x8, .f32⟩
  | 85 => ⟨S4x4096x1x8, .f32⟩
  | 86 => ⟨S4x4096x1x8, .f32⟩
  | 87 => ⟨S4x4096x1x8, .f32⟩
  | 88 => ⟨S4x4096x1x48, .f32⟩
  | 89 => ⟨S4x4096x1x64, .f32⟩
  | 90 => ⟨S4x4096x64, .f32⟩
  | 91 => ⟨S_, .f32⟩
  | 92 => ⟨S4x4096x8, .f32⟩
  | 93 => ⟨S4x4096x8, .f32⟩
  | 94 => ⟨S1x1x8, .f32⟩
  | 95 => ⟨S4x4096x8, .f32⟩
  | 96 => ⟨S4x4096x8, .f32⟩
  | 97 => ⟨S4x4096x8, .f32⟩
  | 98 => ⟨S_, .f32⟩
  | 99 => ⟨S4x4096x8, .f32⟩
  | 100 => ⟨S4x4096x8, .f32⟩
  | 101 => ⟨S4x4096x8, .f32⟩
  | 102 => ⟨S4x4096x8, .f32⟩
  | 103 => ⟨S4x4096x8, .i1⟩
  | 104 => ⟨S4x4096x8, .f32⟩
  | 105 => ⟨S4x4096x8, .f32⟩
  | 106 => ⟨S4x4096x8, .f32⟩
  | 107 => ⟨S4x4096x8, .f32⟩
  | 108 => ⟨S4x4096x8, .f32⟩
  | 109 => ⟨S4x4096x8, .f32⟩
  | 110 => ⟨S4x4096x8, .f32⟩
  | 111 => ⟨S4x4096x8, .f32⟩
  | 112 => ⟨S4x4096x8, .f32⟩
  | 113 => ⟨S4x4096x128, .f32⟩
  | 114 => ⟨S4x4096x9728, .bf16⟩
  | 115 => ⟨S16384x9728, .bf16⟩
  | 116 => ⟨S16384x128, .f32⟩
  | _ => ⟨S4x4096x1024, .f32⟩

abbrev hbmTy (i : Nat) : BufTy := match i / 128 with
  | 0 => hbmTy0_0 i
  | 1 => hbmTy0_1 i
  | 2 => hbmTy0_2 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_2 : Ref sig .tc := ⟨.hbm, 40, rfl⟩
abbrev main_v33 : Ref sig .tc := ⟨.hbm, 41, rfl⟩
abbrev main_v34 : Ref sig .tc := ⟨.hbm, 42, rfl⟩
abbrev main_cst_3 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_4 : Ref sig .tc := ⟨.hbm, 47, rfl⟩
abbrev main_v38 : Ref sig .tc := ⟨.hbm, 48, rfl⟩
abbrev main_v39 : Ref sig .tc := ⟨.hbm, 49, rfl⟩
abbrev main_cst_5 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_cst_6 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_cst_7 : Ref sig .tc := ⟨.hbm, 84, rfl⟩
abbrev main_v72 : Ref sig .tc := ⟨.hbm, 85, rfl⟩
abbrev main_v73 : Ref sig .tc := ⟨.hbm, 86, rfl⟩
abbrev main_cst_8 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_cst_9 : Ref sig .tc := ⟨.hbm, 91, rfl⟩
abbrev main_v77 : Ref sig .tc := ⟨.hbm, 92, rfl⟩
abbrev main_v78 : Ref sig .tc := ⟨.hbm, 93, rfl⟩
abbrev main_cst_10 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_cst_11 : Ref sig .tc := ⟨.hbm, 125, rfl⟩
abbrev main_v109 : Ref sig .tc := ⟨.hbm, 126, rfl⟩
abbrev main_v110 : Ref sig .tc := ⟨.hbm, 127, rfl⟩
abbrev main_cst_12 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_cst_13 : Ref sig .tc := ⟨.hbm, 132, rfl⟩
abbrev main_v114 : Ref sig .tc := ⟨.hbm, 133, rfl⟩
abbrev main_v115 : Ref sig .tc := ⟨.hbm, 134, rfl⟩
abbrev main_cst_14 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_v134 : Ref sig .tc := ⟨.hbm, 154, rfl⟩
abbrev main_v135 : Ref sig .tc := ⟨.hbm, 155, rfl⟩
abbrev main_v136 : Ref sig .tc := ⟨.hbm, 156, rfl⟩
abbrev main_v137 : Ref sig .tc := ⟨.hbm, 157, rfl⟩
abbrev main_v138 : Ref sig .tc := ⟨.hbm, 158, rfl⟩
abbrev main_v139 : Ref sig .tc := ⟨.hbm, 159, rfl⟩
abbrev main_v140 : Ref sig .tc := ⟨.hbm, 160, rfl⟩
abbrev main_v141 : Ref sig .tc := ⟨.hbm, 161, rfl⟩
abbrev main_v142 : Ref sig .tc := ⟨.hbm, 162, rfl⟩
abbrev main_v143 : Ref sig .tc := ⟨.hbm, 163, rfl⟩
abbrev main_cst_15 : Ref sig .tc := ⟨.hbm, 164, rfl⟩
abbrev main_v144 : Ref sig .tc := ⟨.hbm, 165, rfl⟩
abbrev main_v145 : Ref sig .tc := ⟨.hbm, 166, rfl⟩
abbrev main_v146 : Ref sig .tc := ⟨.hbm, 167, rfl⟩
abbrev main_v147 : Ref sig .tc := ⟨.hbm, 168, rfl⟩
abbrev main_cst_16 : Ref sig .tc := ⟨.hbm, 169, rfl⟩
abbrev main_v148 : Ref sig .tc := ⟨.hbm, 170, rfl⟩
abbrev main_v149 : Ref sig .tc := ⟨.hbm, 171, rfl⟩
abbrev main_cst_17 : Ref sig .tc := ⟨.hbm, 172, rfl⟩
abbrev main_v150 : Ref sig .tc := ⟨.hbm, 173, rfl⟩
abbrev main_v151 : Ref sig .tc := ⟨.hbm, 174, rfl⟩
abbrev main_v152 : Ref sig .tc := ⟨.hbm, 175, rfl⟩
abbrev main_cst_18 : Ref sig .tc := ⟨.hbm, 176, rfl⟩
abbrev main_v153 : Ref sig .tc := ⟨.hbm, 177, rfl⟩
abbrev main_v154 : Ref sig .tc := ⟨.hbm, 178, rfl⟩
abbrev main_cst_19 : Ref sig .tc := ⟨.hbm, 179, rfl⟩
abbrev main_v155 : Ref sig .tc := ⟨.hbm, 180, rfl⟩
abbrev main_v156 : Ref sig .tc := ⟨.hbm, 181, rfl⟩
abbrev main_v157 : Ref sig .tc := ⟨.hbm, 182, rfl⟩
abbrev main_v158 : Ref sig .tc := ⟨.hbm, 183, rfl⟩
abbrev main_v159 : Ref sig .tc := ⟨.hbm, 184, rfl⟩
abbrev main_v160 : Ref sig .tc := ⟨.hbm, 185, rfl⟩
abbrev main_v161 : Ref sig .tc := ⟨.hbm, 186, rfl⟩
abbrev main_v162 : Ref sig .tc := ⟨.hbm, 187, rfl⟩
abbrev main_v163 : Ref sig .tc := ⟨.hbm, 188, rfl⟩
abbrev main_v164 : Ref sig .tc := ⟨.hbm, 189, rfl⟩
abbrev main_v165 : Ref sig .tc := ⟨.hbm, 190, rfl⟩
abbrev main_v166 : Ref sig .tc := ⟨.hbm, 191, rfl⟩
abbrev main_v167 : Ref sig .tc := ⟨.hbm, 192, rfl⟩
abbrev main_v168 : Ref sig .tc := ⟨.hbm, 193, rfl⟩
abbrev main_v169 : Ref sig .tc := ⟨.hbm, 194, rfl⟩
abbrev main_v170 : Ref sig .tc := ⟨.hbm, 195, rfl⟩
abbrev main_v171 : Ref sig .tc := ⟨.hbm, 196, rfl⟩
abbrev main_v172 : Ref sig .tc := ⟨.hbm, 197, rfl⟩
abbrev main_v173 : Ref sig .tc := ⟨.hbm, 198, rfl⟩
abbrev main_v174 : Ref sig .tc := ⟨.hbm, 199, rfl⟩
abbrev main_v175 : Ref sig .tc := ⟨.hbm, 200, rfl⟩
abbrev main_v176 : Ref sig .tc := ⟨.hbm, 201, rfl⟩
abbrev main_v177 : Ref sig .tc := ⟨.hbm, 202, rfl⟩
abbrev main_v178 : Ref sig .tc := ⟨.hbm, 203, rfl⟩
abbrev main_v179 : Ref sig .tc := ⟨.hbm, 204, rfl⟩
abbrev main_v180 : Ref sig .tc := ⟨.hbm, 205, rfl⟩
abbrev main_v181 : Ref sig .tc := ⟨.hbm, 206, rfl⟩
abbrev main_v182 : Ref sig .tc := ⟨.hbm, 207, rfl⟩
abbrev main_v183 : Ref sig .tc := ⟨.hbm, 208, rfl⟩
abbrev main_v184 : Ref sig .tc := ⟨.hbm, 209, rfl⟩
abbrev main_cst_20 : Ref sig .tc := ⟨.hbm, 210, rfl⟩
abbrev main_v185 : Ref sig .tc := ⟨.hbm, 211, rfl⟩
abbrev main_v186 : Ref sig .tc := ⟨.hbm, 212, rfl⟩
abbrev main_cst_21 : Ref sig .tc := ⟨.hbm, 213, rfl⟩
abbrev main_v187 : Ref sig .tc := ⟨.hbm, 214, rfl⟩
abbrev main_v188 : Ref sig .tc := ⟨.hbm, 215, rfl⟩
abbrev main_v189 : Ref sig .tc := ⟨.hbm, 216, rfl⟩
abbrev main_cst_22 : Ref sig .tc := ⟨.hbm, 217, rfl⟩
abbrev main_v190 : Ref sig .tc := ⟨.hbm, 218, rfl⟩
abbrev main_v191 : Ref sig .tc := ⟨.hbm, 219, rfl⟩
abbrev main_cst_23 : Ref sig .tc := ⟨.hbm, 220, rfl⟩
abbrev main_v192 : Ref sig .tc := ⟨.hbm, 221, rfl⟩
abbrev main_v193 : Ref sig .tc := ⟨.hbm, 222, rfl⟩
abbrev main_v194 : Ref sig .tc := ⟨.hbm, 223, rfl⟩
abbrev main_v195 : Ref sig .tc := ⟨.hbm, 224, rfl⟩
abbrev main_v196 : Ref sig .tc := ⟨.hbm, 225, rfl⟩
abbrev main_v197 : Ref sig .tc := ⟨.hbm, 226, rfl⟩
abbrev main_v198 : Ref sig .tc := ⟨.hbm, 227, rfl⟩
abbrev main_v199 : Ref sig .tc := ⟨.hbm, 228, rfl⟩
abbrev main_v200 : Ref sig .tc := ⟨.hbm, 229, rfl⟩
abbrev main_v201 : Ref sig .tc := ⟨.hbm, 230, rfl⟩
abbrev main_v202 : Ref sig .tc := ⟨.hbm, 231, rfl⟩
abbrev main_v203 : Ref sig .tc := ⟨.hbm, 232, rfl⟩
abbrev main_v204 : Ref sig .tc := ⟨.hbm, 233, rfl⟩
abbrev main_v205 : Ref sig .tc := ⟨.hbm, 234, rfl⟩
abbrev main_v206 : Ref sig .tc := ⟨.hbm, 235, rfl⟩
abbrev main_v207 : Ref sig .tc := ⟨.hbm, 236, rfl⟩
abbrev main_v208 : Ref sig .tc := ⟨.hbm, 237, rfl⟩
abbrev main_v209 : Ref sig .tc := ⟨.hbm, 238, rfl⟩
abbrev main_v210 : Ref sig .tc := ⟨.hbm, 239, rfl⟩
abbrev main_v211 : Ref sig .tc := ⟨.hbm, 240, rfl⟩
abbrev main_v212 : Ref sig .tc := ⟨.hbm, 241, rfl⟩
abbrev main_v213 : Ref sig .tc := ⟨.hbm, 242, rfl⟩
abbrev main_v214 : Ref sig .tc := ⟨.hbm, 243, rfl⟩
abbrev main_v215 : Ref sig .tc := ⟨.hbm, 244, rfl⟩
abbrev main_v216 : Ref sig .tc := ⟨.hbm, 245, rfl⟩
abbrev main_v217 : Ref sig .tc := ⟨.hbm, 246, rfl⟩
abbrev main_v218 : Ref sig .tc := ⟨.hbm, 247, rfl⟩
abbrev main_v219 : Ref sig .tc := ⟨.hbm, 248, rfl⟩
abbrev main_cst_24 : Ref sig .tc := ⟨.hbm, 249, rfl⟩
abbrev main_v220 : Ref sig .tc := ⟨.hbm, 250, rfl⟩
abbrev main_v221 : Ref sig .tc := ⟨.hbm, 251, rfl⟩
abbrev main_v222 : Ref sig .tc := ⟨.hbm, 252, rfl⟩
abbrev main_v223 : Ref sig .tc := ⟨.hbm, 253, rfl⟩
abbrev main_cst_25 : Ref sig .tc := ⟨.hbm, 254, rfl⟩
abbrev main_v224 : Ref sig .tc := ⟨.hbm, 255, rfl⟩
abbrev main_v225 : Ref sig .tc := ⟨.hbm, 256, rfl⟩
abbrev main_cst_26 : Ref sig .tc := ⟨.hbm, 257, rfl⟩
abbrev main_v226 : Ref sig .tc := ⟨.hbm, 258, rfl⟩
abbrev main_v227 : Ref sig .tc := ⟨.hbm, 259, rfl⟩
abbrev main_call0_v0 : Ref sig .tc := ⟨.hbm, 260, rfl⟩
abbrev main_call0_v1 : Ref sig .tc := ⟨.hbm, 261, rfl⟩
abbrev main_call0_cst : Ref sig .tc := ⟨.hbm, 262, rfl⟩
abbrev main_call0_v2 : Ref sig .tc := ⟨.hbm, 263, rfl⟩
abbrev main_call0_v3 : Ref sig .tc := ⟨.hbm, 264, rfl⟩
abbrev main_call0_cst_0 : Ref sig .tc := ⟨.hbm, 265, rfl⟩
abbrev main_call0_v4 : Ref sig .tc := ⟨.hbm, 266, rfl⟩
abbrev main_call0_v5 : Ref sig .tc := ⟨.hbm, 267, rfl⟩
abbrev main_v228 : Ref sig .tc := ⟨.hbm, 268, rfl⟩
abbrev main_call1_v0 : Ref sig .tc := ⟨.hbm, 269, rfl⟩
abbrev main_call1_v1 : Ref sig .tc := ⟨.hbm, 270, rfl⟩
abbrev main_call1_cst : Ref sig .tc := ⟨.hbm, 271, rfl⟩
abbrev main_call1_v2 : Ref sig .tc := ⟨.hbm, 272, rfl⟩
abbrev main_call1_v3 : Ref sig .tc := ⟨.hbm, 273, rfl⟩
abbrev main_call1_cst_0 : Ref sig .tc := ⟨.hbm, 274, rfl⟩
abbrev main_call1_v4 : Ref sig .tc := ⟨.hbm, 275, rfl⟩
abbrev main_call1_v5 : Ref sig .tc := ⟨.hbm, 276, rfl⟩
abbrev main_v229 : Ref sig .tc := ⟨.hbm, 277, rfl⟩
abbrev main_call2_v0 : Ref sig .tc := ⟨.hbm, 278, rfl⟩
abbrev main_call2_v1 : Ref sig .tc := ⟨.hbm, 279, rfl⟩
abbrev main_call2_cst : Ref sig .tc := ⟨.hbm, 280, rfl⟩
abbrev main_call2_v2 : Ref sig .tc := ⟨.hbm, 281, rfl⟩
abbrev main_call2_v3 : Ref sig .tc := ⟨.hbm, 282, rfl⟩
abbrev main_call2_cst_0 : Ref sig .tc := ⟨.hbm, 283, rfl⟩
abbrev main_call2_v4 : Ref sig .tc := ⟨.hbm, 284, rfl⟩
abbrev main_call2_v5 : Ref sig .tc := ⟨.hbm, 285, rfl⟩
abbrev main_v230 : Ref sig .tc := ⟨.hbm, 286, rfl⟩
abbrev main_v231 : Ref sig .tc := ⟨.hbm, 287, rfl⟩
abbrev main_cst_27 : Ref sig .tc := ⟨.hbm, 288, rfl⟩
abbrev main_v232 : Ref sig .tc := ⟨.hbm, 289, rfl⟩
abbrev main_call3_v0 : Ref sig .tc := ⟨.hbm, 290, rfl⟩
abbrev main_call3_call0_cst : Ref sig .tc := ⟨.hbm, 291, rfl⟩
abbrev main_call3_call0_v0 : Ref sig .tc := ⟨.hbm, 292, rfl⟩
abbrev main_call3_call0_v1 : Ref sig .tc := ⟨.hbm, 293, rfl⟩
abbrev main_call3_call0_v2 : Ref sig .tc := ⟨.hbm, 294, rfl⟩
abbrev main_call3_call0_v3 : Ref sig .tc := ⟨.hbm, 295, rfl⟩
abbrev main_call3_call0_v4 : Ref sig .tc := ⟨.hbm, 296, rfl⟩
abbrev main_call3_call0_v5 : Ref sig .tc := ⟨.hbm, 297, rfl⟩
abbrev main_call3_call0_v6 : Ref sig .tc := ⟨.hbm, 298, rfl⟩
abbrev main_call3_call0_v7 : Ref sig .tc := ⟨.hbm, 299, rfl⟩
abbrev main_call3_call0_v8 : Ref sig .tc := ⟨.hbm, 300, rfl⟩
abbrev main_call3_call0_v9 : Ref sig .tc := ⟨.hbm, 301, rfl⟩
abbrev main_call3_call0_v10 : Ref sig .tc := ⟨.hbm, 302, rfl⟩
abbrev main_call3_call0_v11 : Ref sig .tc := ⟨.hbm, 303, rfl⟩
abbrev main_call3_v1 : Ref sig .tc := ⟨.hbm, 304, rfl⟩
abbrev main_v233 : Ref sig .tc := ⟨.hbm, 305, rfl⟩
abbrev main_v234 : Ref sig .tc := ⟨.hbm, 306, rfl⟩
abbrev main_v235 : Ref sig .tc := ⟨.hbm, 307, rfl⟩
abbrev main_cst_28 : Ref sig .tc := ⟨.hbm, 308, rfl⟩
abbrev main_v236 : Ref sig .tc := ⟨.hbm, 309, rfl⟩
abbrev main_v237 : Ref sig .tc := ⟨.hbm, 310, rfl⟩
abbrev main_cst_29 : Ref sig .tc := ⟨.hbm, 311, rfl⟩
abbrev main_v238 : Ref sig .tc := ⟨.hbm, 312, rfl⟩
abbrev main_v239 : Ref sig .tc := ⟨.hbm, 313, rfl⟩
abbrev main_v240 : Ref sig .tc := ⟨.hbm, 314, rfl⟩
abbrev main_cst_30 : Ref sig .tc := ⟨.hbm, 315, rfl⟩
abbrev main_v241 : Ref sig .tc := ⟨.hbm, 316, rfl⟩
abbrev main_v242 : Ref sig .tc := ⟨.hbm, 317, rfl⟩
abbrev main_cst_31 : Ref sig .tc := ⟨.hbm, 318, rfl⟩
abbrev main_v243 : Ref sig .tc := ⟨.hbm, 319, rfl⟩
abbrev main_v244 : Ref sig .tc := ⟨.hbm, 320, rfl⟩
abbrev main_v245 : Ref sig .tc := ⟨.hbm, 321, rfl⟩
abbrev main_v246 : Ref sig .tc := ⟨.hbm, 322, rfl⟩
abbrev main_v247 : Ref sig .tc := ⟨.hbm, 323, rfl⟩
abbrev main_v248 : Ref sig .tc := ⟨.hbm, 324, rfl⟩
abbrev main_v249 : Ref sig .tc := ⟨.hbm, 325, rfl⟩
abbrev main_v250 : Ref sig .tc := ⟨.hbm, 326, rfl⟩
abbrev main_v251 : Ref sig .tc := ⟨.hbm, 327, rfl⟩
abbrev main_v252 : Ref sig .tc := ⟨.hbm, 328, rfl⟩
abbrev main_v253 : Ref sig .tc := ⟨.hbm, 329, rfl⟩
abbrev main_v254 : Ref sig .tc := ⟨.hbm, 330, rfl⟩
abbrev main_v255 : Ref sig .tc := ⟨.hbm, 331, rfl⟩
abbrev main_v256 : Ref sig .tc := ⟨.hbm, 332, rfl⟩
abbrev main_v257 : Ref sig .tc := ⟨.hbm, 333, rfl⟩
abbrev main_v258 : Ref sig .tc := ⟨.hbm, 334, rfl⟩
abbrev main_v259 : Ref sig .tc := ⟨.hbm, 335, rfl⟩
abbrev main_v260 : Ref sig .tc := ⟨.hbm, 336, rfl⟩
abbrev main_v261 : Ref sig .tc := ⟨.hbm, 337, rfl⟩
abbrev main_v262 : Ref sig .tc := ⟨.hbm, 338, rfl⟩
abbrev main_v263 : Ref sig .tc := ⟨.hbm, 339, rfl⟩
abbrev main_v264 : Ref sig .tc := ⟨.hbm, 340, rfl⟩
abbrev main_v265 : Ref sig .tc := ⟨.hbm, 341, rfl⟩
abbrev main_v266 : Ref sig .tc := ⟨.hbm, 342, rfl⟩
abbrev main_v267 : Ref sig .tc := ⟨.hbm, 343, rfl⟩
abbrev main_v268 : Ref sig .tc := ⟨.hbm, 344, rfl⟩
abbrev main_v269 : Ref sig .tc := ⟨.hbm, 345, rfl⟩
abbrev main_v270 : Ref sig .tc := ⟨.hbm, 346, rfl⟩
abbrev main_cst_32 : Ref sig .tc := ⟨.hbm, 347, rfl⟩
abbrev main_v271 : Ref sig .tc := ⟨.hbm, 348, rfl⟩
abbrev main_v272 : Ref sig .tc := ⟨.hbm, 349, rfl⟩
abbrev main_v273 : Ref sig .tc := ⟨.hbm, 350, rfl⟩
abbrev main_v274 : Ref sig .tc := ⟨.hbm, 351, rfl⟩
abbrev main_v275 : Ref sig .tc := ⟨.hbm, 352, rfl⟩
abbrev main_call4_v0 : Ref sig .tc := ⟨.hbm, 353, rfl⟩
abbrev main_call4_call0_cst : Ref sig .tc := ⟨.hbm, 354, rfl⟩
abbrev main_call4_call0_v0 : Ref sig .tc := ⟨.hbm, 355, rfl⟩
abbrev main_call4_call0_v1 : Ref sig .tc := ⟨.hbm, 356, rfl⟩
abbrev main_call4_call0_v2 : Ref sig .tc := ⟨.hbm, 357, rfl⟩
abbrev main_call4_call0_v3 : Ref sig .tc := ⟨.hbm, 358, rfl⟩
abbrev main_call4_call0_v4 : Ref sig .tc := ⟨.hbm, 359, rfl⟩
abbrev main_call4_call0_v5 : Ref sig .tc := ⟨.hbm, 360, rfl⟩
abbrev main_call4_call0_v6 : Ref sig .tc := ⟨.hbm, 361, rfl⟩
abbrev main_call4_call0_v7 : Ref sig .tc := ⟨.hbm, 362, rfl⟩
abbrev main_call4_call0_v8 : Ref sig .tc := ⟨.hbm, 363, rfl⟩
abbrev main_call4_call0_v9 : Ref sig .tc := ⟨.hbm, 364, rfl⟩
abbrev main_call4_call0_v10 : Ref sig .tc := ⟨.hbm, 365, rfl⟩
abbrev main_call4_call0_v11 : Ref sig .tc := ⟨.hbm, 366, rfl⟩
abbrev main_call4_v1 : Ref sig .tc := ⟨.hbm, 367, rfl⟩
abbrev main_v276 : Ref sig .tc := ⟨.hbm, 368, rfl⟩
abbrev main_v277 : Ref sig .tc := ⟨.hbm, 369, rfl⟩
abbrev main_v278 : Ref sig .tc := ⟨.hbm, 370, rfl⟩
abbrev main_v279 : Ref sig .tc := ⟨.hbm, 371, rfl⟩
abbrev main_v280 : Ref sig .tc := ⟨.hbm, 372, rfl⟩

abbrev nD : Nat := 1
abbrev τ : Topo := Topo.v7x

variable {F : FTy → Type} [FloatOps F]
-- ==== Moba.lean ====
abbrev S4x4096x9728 : Shape := ⟨3, ![4, 4096, 9728]⟩
abbrev S4x4096x512 : Shape := ⟨3, ![4, 4096, 512]⟩
abbrev S1x256x128 : Shape := ⟨3, ![1, 256, 128]⟩
abbrev S1x4096x128 : Shape := ⟨3, ![1, 4096, 128]⟩
abbrev S128x128 : Shape := ⟨2, ![128, 128]⟩
abbrev S256x128 : Shape := ⟨2, ![256, 128]⟩
abbrev S128 : Shape := ⟨1, ![128]⟩
abbrev S1x128 : Shape := ⟨2, ![1, 128]⟩
abbrev S256x256 : Shape := ⟨2, ![256, 256]⟩
abbrev S256 : Shape := ⟨1, ![256]⟩
abbrev S256x1 : Shape := ⟨2, ![256, 1]⟩

abbrev nBuf : Space → Nat
  | .hbm => 2
  | .vmem => 9
  | .smem => 0
  | _ => 0

abbrev bufTy : (tb : Table) → Fin (tcTables nBuf tb) → BufTy
  | .hbm, ⟨0, _⟩ => ⟨S4x4096x9728, .bf16⟩
  | .hbm, ⟨1, _⟩ => ⟨S4x4096x512, .bf16⟩
  | .local _ .vmem, ⟨0, _⟩ => ⟨S1x256x128, .bf16⟩
  | .local _ .vmem, ⟨1, _⟩ => ⟨S1x256x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x256x128, .bf16⟩
  | .local _ .vmem, ⟨7, _⟩ => ⟨S1x256x128, .bf16⟩
  | .local _ .vmem, ⟨8, _⟩ => ⟨S128x128, .f32⟩
  | _, _ => ⟨S4x4096x9728, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 16], ![false, false, false]⟩

def k0_mult1 (i : grid0.Coords) : BitVec 32 :=
  let arg2 : BitVec 32 := BitVec.ofNat 32 (i 2).val
  let c256_i32 : BitVec 32 := 256#32
  let v7 : BitVec 32 := Scalar.muli arg2 c256_i32
  v7
def k0_off1 (i : grid0.Coords) : Fin 3 → Nat :=
  let c0_26 : Index := 0#32
  let arg2 : BitVec 32 := BitVec.ofNat 32 (i 2).val
  let c256_i32 : BitVec 32 := 256#32
  let v7 : BitVec 32 := Scalar.muli arg2 c256_i32
  let v8 : BitVec 32 := v7
  let v83 : Index := Scalar.indexCast v8
  let c0_27 : Index := 0#32
  ![0, v83.toNat, 0]
@[reducible] def k0_t1_loop (i : grid0.Coords) : Scf.Loop 32 :=
  let c0_i32_35 : BitVec 32 := 0#32
  let arg2 : BitVec 32 := BitVec.ofNat 32 (i 2).val
  let v101 : BitVec 32 := Scalar.subi arg2 c0_i32_35
  let c1_i32 : BitVec 32 := 1#32
  let v103 : BitVec 32 := Scalar.divsi v101 c1_i32
  let v104 : BitVec 32 := Scalar.muli v103 c1_i32
  let v105 : BitVec 32 := Scalar.addi c0_i32_35 v104
  let c1_i32_36 : BitVec 32 := 1#32
  ⟨c0_i32_35, v105, c1_i32_36⟩
def k0_mult2 (i : grid0.Coords) (k0_t1 : Fin (k0_t1_loop i).trips) : BitVec 32 :=
  let c0_i32_35 : BitVec 32 := 0#32
  let c1_i32_36 : BitVec 32 := 1#32
  let arg8 : BitVec 32 := Scf.iv c0_i32_35 c1_i32_36 k0_t1
  let c256_i32_77 : BitVec 32 := 256#32
  let v214 : BitVec 32 := Scalar.muli arg8 c256_i32_77
  v214
def k0_off2 (i : grid0.Coords) (k0_t1 : Fin (k0_t1_loop i).trips) : Fin 3 → Nat :=
  let c0_81 : Index := 0#32
  let c0_i32_35 : BitVec 32 := 0#32
  let c1_i32_36 : BitVec 32 := 1#32
  let arg8 : BitVec 32 := Scf.iv c0_i32_35 c1_i32_36 k0_t1
  let c256_i32_77 : BitVec 32 := 256#32
  let v214 : BitVec 32 := Scalar.muli arg8 c256_i32_77
  let v215 : BitVec 32 := v214
  let v224 : Index := Scalar.indexCast v215
  let c0_82 : Index := 0#32
  ![0, v224.toNat, 0]
@[reducible] def k0_t2_loop (i : grid0.Coords) : Scf.Loop 32 :=
  let c0_i32_35 : BitVec 32 := 0#32
  let arg2 : BitVec 32 := BitVec.ofNat 32 (i 2).val
  let v101 : BitVec 32 := Scalar.subi arg2 c0_i32_35
  let c1_i32 : BitVec 32 := 1#32
  let v103 : BitVec 32 := Scalar.divsi v101 c1_i32
  let v104 : BitVec 32 := Scalar.muli v103 c1_i32
  let v105 : BitVec 32 := Scalar.addi c0_i32_35 v104
  let v102 : BitVec 32 := Scalar.addi c0_i32_35 v101
  let c1_i32_37 : BitVec 32 := 1#32
  ⟨v105, v102, c1_i32_37⟩
def k0_mult3 (i : grid0.Coords) (k0_t2 : Fin (k0_t2_loop i).trips) : BitVec 32 :=
  let c0_i32_35 : BitVec 32 := 0#32
  let arg2 : BitVec 32 := BitVec.ofNat 32 (i 2).val
  let v101 : BitVec 32 := Scalar.subi arg2 c0_i32_35
  let c1_i32 : BitVec 32 := 1#32
  let v103 : BitVec 32 := Scalar.divsi v101 c1_i32
  let v104 : BitVec 32 := Scalar.muli v103 c1_i32
  let v105 : BitVec 32 := Scalar.addi c0_i32_35 v104
  let c1_i32_37 : BitVec 32 := 1#32
  let arg8 : BitVec 32 := Scf.iv v105 c1_i32_37 k0_t2
  let c256_i32_77 : BitVec 32 := 256#32
  let v214 : BitVec 32 := Scalar.muli arg8 c256_i32_77
  v214
def k0_off3 (i : grid0.Coords) (k0_t2 : Fin (k0_t2_loop i).trips) : Fin 3 → Nat :=
  let c0_81 : Index := 0#32
  let c0_i32_35 : BitVec 32 := 0#32
  let arg2 : BitVec 32 := BitVec.ofNat 32 (i 2).val
  let v101 : BitVec 32 := Scalar.subi arg2 c0_i32_35
  let c1_i32 : BitVec 32 := 1#32
  let v103 : BitVec 32 := Scalar.divsi v101 c1_i32
  let v104 : BitVec 32 := Scalar.muli v103 c1_i32
  let v105 : BitVec 32 := Scalar.addi c0_i32_35 v104
  let c1_i32_37 : BitVec 32 := 1#32
  let arg8 : BitVec 32 := Scf.iv v105 c1_i32_37 k0_t2
  let c256_i32_77 : BitVec 32 := 256#32
  let v214 : BitVec 32 := Scalar.muli arg8 c256_i32_77
  let v215 : BitVec 32 := v214
  let v224 : Index := Scalar.indexCast v215
  let c0_82 : Index := 0#32
  ![0, v224.toNat, 0]
@[reducible] def k0_t3_loop (i : grid0.Coords) : Scf.Loop 32 :=
  let c0_i32_69 : BitVec 32 := 0#32
  let arg2 : BitVec 32 := BitVec.ofNat 32 (i 2).val
  let v197 : BitVec 32 := Scalar.subi arg2 c0_i32_69
  let c1_i32_70 : BitVec 32 := 1#32
  let v199 : BitVec 32 := Scalar.divsi v197 c1_i32_70
  let v200 : BitVec 32 := Scalar.muli v199 c1_i32_70
  let v201 : BitVec 32 := Scalar.addi c0_i32_69 v200
  let c1_i32_71 : BitVec 32 := 1#32
  ⟨c0_i32_69, v201, c1_i32_71⟩
def k0_mult4 (i : grid0.Coords) (k0_t3 : Fin (k0_t3_loop i).trips) : BitVec 32 :=
  let c0_i32_69 : BitVec 32 := 0#32
  let c1_i32_71 : BitVec 32 := 1#32
  let arg8 : BitVec 32 := Scf.iv c0_i32_69 c1_i32_71 k0_t3
  let c256_i32_77 : BitVec 32 := 256#32
  let v214 : BitVec 32 := Scalar.muli arg8 c256_i32_77
  v214
def k0_off4 (i : grid0.Coords) (k0_t3 : Fin (k0_t3_loop i).trips) : Fin 3 → Nat :=
  let c0_81 : Index := 0#32
  let c0_i32_69 : BitVec 32 := 0#32
  let c1_i32_71 : BitVec 32 := 1#32
  let arg8 : BitVec 32 := Scf.iv c0_i32_69 c1_i32_71 k0_t3
  let c256_i32_77 : BitVec 32 := 256#32
  let v214 : BitVec 32 := Scalar.muli arg8 c256_i32_77
  let v215 : BitVec 32 := v214
  let v224 : Index := Scalar.indexCast v215
  let c0_82 : Index := 0#32
  ![0, v224.toNat, 0]
@[reducible] def k0_t4_loop (i : grid0.Coords) : Scf.Loop 32 :=
  let c0_i32_69 : BitVec 32 := 0#32
  let arg2 : BitVec 32 := BitVec.ofNat 32 (i 2).val
  let v197 : BitVec 32 := Scalar.subi arg2 c0_i32_69
  let c1_i32_70 : BitVec 32 := 1#32
  let v199 : BitVec 32 := Scalar.divsi v197 c1_i32_70
  let v200 : BitVec 32 := Scalar.muli v199 c1_i32_70
  let v201 : BitVec 32 := Scalar.addi c0_i32_69 v200
  let v198 : BitVec 32 := Scalar.addi c0_i32_69 v197
  let c1_i32_72 : BitVec 32 := 1#32
  ⟨v201, v198, c1_i32_72⟩
def k0_mult5 (i : grid0.Coords) (k0_t4 : Fin (k0_t4_loop i).trips) : BitVec 32 :=
  let c0_i32_69 : BitVec 32 := 0#32
  let arg2 : BitVec 32 := BitVec.ofNat 32 (i 2).val
  let v197 : BitVec 32 := Scalar.subi arg2 c0_i32_69
  let c1_i32_70 : BitVec 32 := 1#32
  let v199 : BitVec 32 := Scalar.divsi v197 c1_i32_70
  let v200 : BitVec 32 := Scalar.muli v199 c1_i32_70
  let v201 : BitVec 32 := Scalar.addi c0_i32_69 v200
  let c1_i32_72 : BitVec 32 := 1#32
  let arg8 : BitVec 32 := Scf.iv v201 c1_i32_72 k0_t4
  let c256_i32_77 : BitVec 32 := 256#32
  let v214 : BitVec 32 := Scalar.muli arg8 c256_i32_77
  v214
def k0_off5 (i : grid0.Coords) (k0_t4 : Fin (k0_t4_loop i).trips) : Fin 3 → Nat :=
  let c0_81 : Index := 0#32
  let c0_i32_69 : BitVec 32 := 0#32
  let arg2 : BitVec 32 := BitVec.ofNat 32 (i 2).val
  let v197 : BitVec 32 := Scalar.subi arg2 c0_i32_69
  let c1_i32_70 : BitVec 32 := 1#32
  let v199 : BitVec 32 := Scalar.divsi v197 c1_i32_70
  let v200 : BitVec 32 := Scalar.muli v199 c1_i32_70
  let v201 : BitVec 32 := Scalar.addi c0_i32_69 v200
  let c1_i32_72 : BitVec 32 := 1#32
  let arg8 : BitVec 32 := Scf.iv v201 c1_i32_72 k0_t4
  let c256_i32_77 : BitVec 32 := 256#32
  let v214 : BitVec 32 := Scalar.muli arg8 c256_i32_77
  let v215 : BitVec 32 := v214
  let v224 : Index := Scalar.indexCast v215
  let c0_82 : Index := 0#32
  ![0, v224.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi c20_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== MobaIdeal.lean ====
variable {F : FTy → Type} [FloatOps F] [Named F]
def κ : String → Option EReal := fun
  | "ceiling" => some ⊤
  | "floor" => some ⊥
  | "mask" => some ⊥
  | _ => none
-- ==== MobaRefIdeal.lean ====
abbrev S4x4096x9728 : Shape := ⟨3, ![4, 4096, 9728]⟩
abbrev S4x4096x512 : Shape := ⟨3, ![4, 4096, 512]⟩
abbrev S4x4096x8x64 : Shape := ⟨4, ![4, 4096, 8, 64]⟩
abbrev S4x8x4096x64 : Shape := ⟨4, ![4, 8, 4096, 64]⟩
abbrev S4096 : Shape := ⟨1, ![4096]⟩
abbrev S16 : Shape := ⟨1, ![16]⟩
abbrev S16x256 : Shape := ⟨2, ![16, 256]⟩
abbrev S4x8x16x256x64 : Shape := ⟨5, ![4, 8, 16, 256, 64]⟩
abbrev S_ : Shape := ⟨0, ![]⟩
abbrev S4x8x16x64 : Shape := ⟨4, ![4, 8, 16, 64]⟩
abbrev S4x8x4096x16 : Shape := ⟨4, ![4, 8, 4096, 16]⟩
abbrev S1x16 : Shape := ⟨2, ![1, 16]⟩
abbrev S4096x1 : Shape := ⟨2, ![4096, 1]⟩
abbrev S4096x16 : Shape := ⟨2, ![4096, 16]⟩
abbrev S4x8x4096x1x16 : Shape := ⟨5, ![4, 8, 4096, 1, 16]⟩
abbrev S4x8x4096x16x1 : Shape := ⟨5, ![4, 8, 4096, 16, 1]⟩
abbrev S4x8x4096x16x16 : Shape := ⟨5, ![4, 8, 4096, 16, 16]⟩
abbrev S16x1 : Shape := ⟨2, ![16, 1]⟩
abbrev S16x16 : Shape := ⟨2, ![16, 16]⟩
abbrev S1x1x1x16x16 : Shape := ⟨5, ![1, 1, 1, 16, 16]⟩
abbrev S1x4096 : Shape := ⟨2, ![1, 4096]⟩
abbrev S4096x4096 : Shape := ⟨2, ![4096, 4096]⟩
abbrev S4x8x4096x4096 : Shape := ⟨4, ![4, 8, 4096, 4096]⟩
abbrev S4x8x4096x16x256 : Shape := ⟨5, ![4, 8, 4096, 16, 256]⟩
abbrev S1x1x4096x4096 : Shape := ⟨4, ![1, 1, 4096, 4096]⟩
abbrev S4x8x4096 : Shape := ⟨3, ![4, 8, 4096]⟩
abbrev S4x8x4096x1 : Shape := ⟨4, ![4, 8, 4096, 1]⟩

abbrev nBuf : Space → Nat
  | .hbm => 107
  | .vmem => 0
  | .smem => 0
  | _ => 0

abbrev bufTy : (tb : Table) → Fin (tcTables nBuf tb) → BufTy
  | .hbm, ⟨0, _⟩ => ⟨S4x4096x9728, .bf16⟩
  | .hbm, ⟨1, _⟩ => ⟨S4x4096x512, .bf16⟩
  | .hbm, ⟨2, _⟩ => ⟨S4x4096x512, .f32⟩
  | .hbm, ⟨3, _⟩ => ⟨S4x4096x8x64, .f32⟩
  | .hbm, ⟨4, _⟩ => ⟨S4x8x4096x64, .f32⟩
  | .hbm, ⟨5, _⟩ => ⟨S4x4096x512, .bf16⟩
  | .hbm, ⟨6, _⟩ => ⟨S4x4096x512, .f32⟩
  | .hbm, ⟨7, _⟩ => ⟨S4x4096x8x64, .f32⟩
  | .hbm, ⟨8, _⟩ => ⟨S4x8x4096x64, .f32⟩
  | .hbm, ⟨9, _⟩ => ⟨S4x4096x512, .bf16⟩
  | .hbm, ⟨10, _⟩ => ⟨S4x4096x512, .f32⟩
  | .hbm, ⟨11, _⟩ => ⟨S4x4096x8x64, .f32⟩
  | .hbm, ⟨12, _⟩ => ⟨S4x8x4096x64, .f32⟩
  | .hbm, ⟨13, _⟩ => ⟨S4096, .i32⟩
  | .hbm, ⟨14, _⟩ => ⟨S16, .i32⟩
  | .hbm, ⟨15, _⟩ => ⟨S16x256, .i32⟩
  | .hbm, ⟨16, _⟩ => ⟨S4096, .i32⟩
  | .hbm, ⟨17, _⟩ => ⟨S4x8x16x256x64, .f32⟩
  | .hbm, ⟨18, _⟩ => ⟨S_, .f32⟩
  | .hbm, ⟨19, _⟩ => ⟨S4x8x16x64, .f32⟩
  | .hbm, ⟨20, _⟩ => ⟨S_, .f32⟩
  | .hbm, ⟨21, _⟩ => ⟨S4x8x16x64, .f32⟩
  | .hbm, ⟨22, _⟩ => ⟨S4x8x16x64, .f32⟩
  | .hbm, ⟨23, _⟩ => ⟨S4x8x4096x16, .f32⟩
  | .hbm, ⟨24, _⟩ => ⟨S1x16, .i32⟩
  | .hbm, ⟨25, _⟩ => ⟨S4096x1, .i32⟩
  | .hbm, ⟨26, _⟩ => ⟨S4096x16, .i32⟩
  | .hbm, ⟨27, _⟩ => ⟨S4096x16, .i32⟩
  | .hbm, ⟨28, _⟩ => ⟨S4096x16, .i1⟩
  | .hbm, ⟨29, _⟩ => ⟨S_, .f32⟩
  | .hbm, ⟨30, _⟩ => ⟨S_, .f32⟩
  | .hbm, ⟨31, _⟩ => ⟨S4x8x4096x16, .i1⟩
  | .hbm, ⟨32, _⟩ => ⟨S4x8x4096x16, .f32⟩
  | .hbm, ⟨33, _⟩ => ⟨S4x8x4096x16, .f32⟩
  | .hbm, ⟨34, _⟩ => ⟨S4x8x4096x1x16, .f32⟩
  | .hbm, ⟨35, _⟩ => ⟨S4x8x4096x16x1, .f32⟩
  | .hbm, ⟨36, _⟩ => ⟨S4x8x4096x16x16, .f32⟩
  | .hbm, ⟨37, _⟩ => ⟨S4x8x4096x16x16, .f32⟩
  | .hbm, ⟨38, _⟩ => ⟨S4x8x4096x16x16, .i1⟩
  | .hbm, ⟨39, _⟩ => ⟨S4x8x4096x1x16, .f32⟩
  | .hbm, ⟨40, _⟩ => ⟨S4x8x4096x16x1, .f32⟩
  | .hbm, ⟨41, _⟩ => ⟨S4x8x4096x16x16, .f32⟩
  | .hbm, ⟨42, _⟩ => ⟨S4x8x4096x16x16, .f32⟩
  | .hbm, ⟨43, _⟩ => ⟨S4x8x4096x16x16, .i1⟩
  | .hbm, ⟨44, _⟩ => ⟨S1x16, .i32⟩
  | .hbm, ⟨45, _⟩ => ⟨S16x1, .i32⟩
  | .hbm, ⟨46, _⟩ => ⟨S16x16, .i32⟩
  | .hbm, ⟨47, _⟩ => ⟨S16x16, .i32⟩
  | .hbm, ⟨48, _⟩ => ⟨S16x16, .i1⟩
  | .hbm, ⟨49, _⟩ => ⟨S1x1x1x16x16, .i1⟩
  | .hbm, ⟨50, _⟩ => ⟨S4x8x4096x16x16, .i1⟩
  | .hbm, ⟨51, _⟩ => ⟨S4x8x4096x16x16, .i1⟩
  | .hbm, ⟨52, _⟩ => ⟨S4x8x4096x16x16, .i1⟩
  | .hbm, ⟨53, _⟩ => ⟨S_, .f32⟩
  | .hbm, ⟨54, _⟩ => ⟨S_, .f32⟩
  | .hbm, ⟨55, _⟩ => ⟨S4x8x4096x16x16, .f32⟩
  | .hbm, ⟨56, _⟩ => ⟨S4x8x4096x16x16, .f32⟩
  | .hbm, ⟨57, _⟩ => ⟨S4x8x4096x16x16, .f32⟩
  | .hbm, ⟨58, _⟩ => ⟨S4x8x4096x16x16, .f32⟩
  | .hbm, ⟨59, _⟩ => ⟨S_, .f32⟩
  | .hbm, ⟨60, _⟩ => ⟨S4x8x4096x16, .f32⟩
  | .hbm, ⟨61, _⟩ => ⟨S_, .f32⟩
  | .hbm, ⟨62, _⟩ => ⟨S4x8x4096x16, .f32⟩
  | .hbm, ⟨63, _⟩ => ⟨S4x8x4096x16, .i1⟩
  | .hbm, ⟨64, _⟩ => ⟨S_, .f32⟩
  | .hbm, ⟨65, _⟩ => ⟨S4x8x4096x16, .f32⟩
  | .hbm, ⟨66, _⟩ => ⟨S4x8x4096x16, .i1⟩
  | .hbm, ⟨67, _⟩ => ⟨S4x8x4096x16, .i1⟩
  | .hbm, ⟨68, _⟩ => ⟨S1x4096, .i32⟩
  | .hbm, ⟨69, _⟩ => ⟨S4096x1, .i32⟩
  | .hbm, ⟨70, _⟩ => ⟨S4096x4096, .i32⟩
  | .hbm, ⟨71, _⟩ => ⟨S4096x4096, .i32⟩
  | .hbm, ⟨72, _⟩ => ⟨S4096x4096, .i1⟩
  | .hbm, ⟨73, _⟩ => ⟨S1x4096, .i32⟩
  | .hbm, ⟨74, _⟩ => ⟨S4096x1, .i32⟩
  | .hbm, ⟨75, _⟩ => ⟨S4096x4096, .i32⟩
  | .hbm, ⟨76, _⟩ => ⟨S4096x4096, .i32⟩
  | .hbm, ⟨77, _⟩ => ⟨S4096x4096, .i1⟩
  | .hbm, ⟨78, _⟩ => ⟨S4096x4096, .i1⟩
  | .hbm, ⟨79, _⟩ => ⟨S4x8x4096x4096, .f32⟩
  | .hbm, ⟨80, _⟩ => ⟨S4x8x4096x16x256, .i1⟩
  | .hbm, ⟨81, _⟩ => ⟨S4x8x4096x4096, .i1⟩
  | .hbm, ⟨82, _⟩ => ⟨S1x1x4096x4096, .i1⟩
  | .hbm, ⟨83, _⟩ => ⟨S4x8x4096x4096, .i1⟩
  | .hbm, ⟨84, _⟩ => ⟨S4x8x4096x4096, .i1⟩
  | .hbm, ⟨85, _⟩ => ⟨S_, .f32⟩
  | .hbm, ⟨86, _⟩ => ⟨S_, .f32⟩
  | .hbm, ⟨87, _⟩ => ⟨S4x8x4096x4096, .f32⟩
  | .hbm, ⟨88, _⟩ => ⟨S4x8x4096x4096, .f32⟩
  | .hbm, ⟨89, _⟩ => ⟨S_, .f32⟩
  | .hbm, ⟨90, _⟩ => ⟨S4x8x4096, .f32⟩
  | .hbm, ⟨91, _⟩ => ⟨S_, .f32⟩
  | .hbm, ⟨92, _⟩ => ⟨S4x8x4096, .f32⟩
  | .hbm, ⟨93, _⟩ => ⟨S4x8x4096, .f32⟩
  | .hbm, ⟨94, _⟩ => ⟨S4x8x4096x1, .f32⟩
  | .hbm, ⟨95, _⟩ => ⟨S4x8x4096x4096, .f32⟩
  | .hbm, ⟨96, _⟩ => ⟨S4x8x4096x4096, .f32⟩
  | .hbm, ⟨97, _⟩ => ⟨S4x8x4096x4096, .f32⟩
  | .hbm, ⟨98, _⟩ => ⟨S_, .f32⟩
  | .hbm, ⟨99, _⟩ => ⟨S4x8x4096, .f32⟩
  | .hbm, ⟨100, _⟩ => ⟨S4x8x4096x1, .f32⟩
  | .hbm, ⟨101, _⟩ => ⟨S4x8x4096x4096, .f32⟩
  | .hbm, ⟨102, _⟩ => ⟨S4x8x4096x4096, .f32⟩
  | .hbm, ⟨103, _⟩ => ⟨S4x8x4096x64, .f32⟩
  | .hbm, ⟨104, _⟩ => ⟨S4x4096x8x64, .f32⟩
  | .hbm, ⟨105, _⟩ => ⟨S4x4096x512, .f32⟩
  | .hbm, ⟨106, _⟩ => ⟨S4x4096x512, .bf16⟩
  | _, _ => ⟨S4x4096x9728, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_cst : Ref sig .tc := ⟨.hbm, 18, rfl⟩
abbrev main_v17 : Ref sig .tc := ⟨.hbm, 19, rfl⟩
abbrev main_cst_0 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_cst_1 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_cst_2 : Ref sig .tc := ⟨.hbm, 53, rfl⟩
abbrev main_cst_3 : Ref sig .tc := ⟨.hbm, 54, rfl⟩
abbrev main_call1_v0 : Ref sig .tc := ⟨.hbm, 55, rfl⟩
abbrev main_call1_v1 : Ref sig .tc := ⟨.hbm, 56, rfl⟩
abbrev main_v46 : Ref sig .tc := ⟨.hbm, 57, rfl⟩
abbrev main_v47 : Ref sig .tc := ⟨.hbm, 58, rfl⟩
abbrev main_cst_4 : Ref sig .tc := ⟨.hbm, 59, rfl⟩
abbrev main_v48 : Ref sig .tc := ⟨.hbm, 60, rfl⟩
abbrev main_cst_5 : Ref sig .tc := ⟨.hbm, 61, rfl⟩
abbrev main_v49 : Ref sig .tc := ⟨.hbm, 62, rfl⟩
abbrev main_v50 : Ref sig .tc := ⟨.hbm, 63, rfl⟩
abbrev main_cst_6 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_cst_7 : Ref sig .tc := ⟨.hbm, 85, rfl⟩
abbrev main_call2_v0 : Ref sig .tc := ⟨.hbm, 86, rfl⟩
abbrev main_call2_v1 : Ref sig .tc := ⟨.hbm, 87, rfl⟩
abbrev main_v71 : Ref sig .tc := ⟨.hbm, 88, rfl⟩
abbrev main_cst_8 : Ref sig .tc := ⟨.hbm, 89, rfl⟩
abbrev main_v72 : Ref sig .tc := ⟨.hbm, 90, rfl⟩
abbrev main_cst_9 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_cst_10 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩

abbrev nD : Nat := 1
abbrev τ : Topo := Topo.v7x

variable {F : FTy → Type} [FloatOps F]
-- ==== Csum.lean ====
abbrev S4x4096x128 : Shape := ⟨3, ![4, 4096, 128]⟩
abbrev S1x512x128 : Shape := ⟨3, ![1, 512, 128]⟩
abbrev S8x128 : Shape := ⟨2, ![8, 128]⟩
abbrev S512x128 : Shape := ⟨2, ![512, 128]⟩
abbrev S512x512 : Shape := ⟨2, ![512, 512]⟩
abbrev S1x128 : Shape := ⟨2, ![1, 128]⟩

abbrev nBuf : Space → Nat
  | .hbm => 2
  | .vmem => 5
  | .smem => 0
  | _ => 0

abbrev bufTy : (tb : Table) → Fin (tcTables nBuf tb) → BufTy
  | .hbm, ⟨0, _⟩ => ⟨S4x4096x128, .f32⟩
  | .hbm, ⟨1, _⟩ => ⟨S4x4096x128, .f32⟩
  | .local _ .vmem, ⟨0, _⟩ => ⟨S1x512x128, .f32⟩
  | .local _ .vmem, ⟨1, _⟩ => ⟨S1x512x128, .f32⟩
  | .local _ .vmem, ⟨2, _⟩ => ⟨S1x512x128, .f32⟩
  | .local _ .vmem, ⟨3, _⟩ => ⟨S1x512x128, .f32⟩
  | .local _ .vmem, ⟨4, _⟩ => ⟨S8x128, .f32⟩
  | _, _ => ⟨S4x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== CsumRefIdeal.lean ====
abbrev S4x4096x128 : Shape := ⟨3, ![4, 4096, 128]⟩
abbrev S_ : Shape := ⟨0, ![]⟩

abbrev nBuf : Space → Nat
  | .hbm => 4
  | .vmem => 0
  | .smem => 0
  | _ => 0

abbrev bufTy : (tb : Table) → Fin (tcTables nBuf tb) → BufTy
  | .hbm, ⟨0, _⟩ => ⟨S4x4096x128, .f32⟩
  | .hbm, ⟨1, _⟩ => ⟨S_, .f32⟩
  | .hbm, ⟨2, _⟩ => ⟨S_, .f32⟩
  | .hbm, ⟨3, _⟩ => ⟨S4x4096x128, .f32⟩
  | _, _ => ⟨S4x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_call0_cst : Ref sig .tc := ⟨.hbm, 1, rfl⟩
abbrev main_call0_call0_v0 : Ref sig .tc := ⟨.hbm, 2, rfl⟩
abbrev main_v0 : Ref sig .tc := ⟨.hbm, 3, rfl⟩

abbrev nD : Nat := 1
abbrev τ : Topo := Topo.v7x

variable {F : FTy → Type} [FloatOps F]
-- ==== Dsa.lean ====
abbrev S4x4096x9728 : Shape := ⟨3, ![4, 4096, 9728]⟩
abbrev S4x4096x128 : Shape := ⟨3, ![4, 4096, 128]⟩
abbrev S4x4096x512 : Shape := ⟨3, ![4, 4096, 512]⟩
abbrev S1x256x512 : Shape := ⟨3, ![1, 256, 512]⟩
abbrev S1x4096x512 : Shape := ⟨3, ![1, 4096, 512]⟩
abbrev S1x4096x128 : Shape := ⟨3, ![1, 4096, 128]⟩
abbrev S1x256x128 : Shape := ⟨3, ![1, 256, 128]⟩
abbrev S256x4096 : Shape := ⟨2, ![256, 4096]⟩
abbrev S256x256 : Shape := ⟨2, ![256, 256]⟩
abbrev S256x128 : Shape := ⟨2, ![256, 128]⟩
abbrev S256x1 : Shape := ⟨2, ![256, 1]⟩
abbrev S256 : Shape := ⟨1, ![256]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 4
  | .vmem => 15
  | .smem => 0
  | _ => 0

abbrev bufTy : (tb : Table) → Fin (tcTables nBuf tb) → BufTy
  | .hbm, ⟨0, _⟩ => ⟨S4x4096x9728, .bf16⟩
  | .hbm, ⟨1, _⟩ => ⟨S4x4096x128, .bf16⟩
  | .hbm, ⟨2, _⟩ => ⟨S4x4096x128, .f32⟩
  | .hbm, ⟨3, _⟩ => ⟨S4x4096x512, .bf16⟩
  | .local _ .vmem, ⟨0, _⟩ => ⟨S1x256x512, .bf16⟩
  | .local _ .vmem, ⟨1, _⟩ => ⟨S1x256x512, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x4096x512, .bf16⟩
  | .local _ .vmem, ⟨5, _⟩ => ⟨S1x4096x512, .bf16⟩
  | .local _ .vmem, ⟨6, _⟩ => ⟨S1x256x512, .bf16⟩
  | .local _ .vmem, ⟨7, _⟩ => ⟨S1x256x512, .bf16⟩
  | .local _ .vmem, ⟨8, _⟩ => ⟨S1x4096x128, .bf16⟩
  | .local _ .vmem, ⟨9, _⟩ => ⟨S1x4096x128, .bf16⟩
  | .local _ .vmem, ⟨10, _⟩ => ⟨S1x256x128, .f32⟩
  | .local _ .vmem, ⟨11, _⟩ => ⟨S1x256x128, .f32⟩
  | .local _ .vmem, ⟨12, _⟩ => ⟨S1x256x512, .bf16⟩
  | .local _ .vmem, ⟨13, _⟩ => ⟨S1x256x512, .bf16⟩
  | .local _ .vmem, ⟨14, _⟩ => ⟨S256x4096, .i32⟩
  | _, _ => ⟨S4x4096x9728, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [BitOps F]

abbrev grid0 : Pipeline.Grid := ⟨2, ![4, 16], ![false, false]⟩

@[reducible] def k0_t1_loop (i : grid0.Coords) : Scf.Loop 32 :=
  let c0_i32 : BitVec 32 := 0#32
  let arg1 : BitVec 32 := BitVec.ofNat 32 (i 1).val
  let c1_i32 : BitVec 32 := 1#32
  let v0 : BitVec 32 := Scalar.addi arg1 c1_i32
  let v7 : BitVec 32 := Scalar.subi v0 c0_i32
  let c1_i32_3 : BitVec 32 := 1#32
  let v9 : BitVec 32 := Scalar.divsi v7 c1_i32_3
  let v10 : BitVec 32 := Scalar.muli v9 c1_i32_3
  let v11 : BitVec 32 := Scalar.addi c0_i32 v10
  let c1_i32_4 : BitVec 32 := 1#32
  ⟨c0_i32, v11, c1_i32_4⟩
def k0_mult1 (i : grid0.Coords) (k0_t1 : Fin (k0_t1_loop i).trips) : BitVec 32 :=
  let c0_i32 : BitVec 32 := 0#32
  let c1_i32_4 : BitVec 32 := 1#32
  let arg10 : BitVec 32 := Scf.iv c0_i32 c1_i32_4 k0_t1
  let c256_i32_134 : BitVec 32 := 256#32
  let v265 : BitVec 32 := Scalar.muli arg10 c256_i32_134
  v265
def k0_off1 (i : grid0.Coords) (k0_t1 : Fin (k0_t1_loop i).trips) : Fin 3 → Nat :=
  let c0_135 : Index := 0#32
  let c0_i32 : BitVec 32 := 0#32
  let c1_i32_4 : BitVec 32 := 1#32
  let arg10 : BitVec 32 := Scf.iv c0_i32 c1_i32_4 k0_t1
  let c256_i32_134 : BitVec 32 := 256#32
  let v265 : BitVec 32 := Scalar.muli arg10 c256_i32_134
  let v266 : BitVec 32 := v265
  let v267 : Index := Scalar.indexCast v266
  let c0_136 : Index := 0#32
  ![0, v267.toNat, 0]
def k0_off2 (i : grid0.Coords) (k0_t1 : Fin (k0_t1_loop i).trips) : Fin 2 → Nat :=
  let c0_206 : Index := 0#32
  let c0_i32 : BitVec 32 := 0#32
  let c1_i32_4 : BitVec 32 := 1#32
  let arg10 : BitVec 32 := Scf.iv c0_i32 c1_i32_4 k0_t1
  let c256_i32_134 : BitVec 32 := 256#32
  let v265 : BitVec 32 := Scalar.muli arg10 c256_i32_134
  let v266 : BitVec 32 := v265
  let v422 : Index := Scalar.indexCast v266
  ![0, v422.toNat]
@[reducible] def k0_t2_loop (i : grid0.Coords) : Scf.Loop 32 :=
  let c0_i32 : BitVec 32 := 0#32
  let arg1 : BitVec 32 := BitVec.ofNat 32 (i 1).val
  let c1_i32 : BitVec 32 := 1#32
  let v0 : BitVec 32 := Scalar.addi arg1 c1_i32
  let v7 : BitVec 32 := Scalar.subi v0 c0_i32
  let c1_i32_3 : BitVec 32 := 1#32
  let v9 : BitVec 32 := Scalar.divsi v7 c1_i32_3
  let v10 : BitVec 32 := Scalar.muli v9 c1_i32_3
  let v11 : BitVec 32 := Scalar.addi c0_i32 v10
  let v8 : BitVec 32 := Scalar.addi c0_i32 v7
  let c1_i32_5 : BitVec 32 := 1#32
  ⟨v11, v8, c1_i32_5⟩
def k0_mult2 (i : grid0.Coords) (k0_t2 : Fin (k0_t2_loop i).trips) : BitVec 32 :=
  let c0_i32 : BitVec 32 := 0#32
  let arg1 : BitVec 32 := BitVec.ofNat 32 (i 1).val
  let c1_i32 : BitVec 32 := 1#32
  let v0 : BitVec 32 := Scalar.addi arg1 c1_i32
  let v7 : BitVec 32 := Scalar.subi v0 c0_i32
  let c1_i32_3 : BitVec 32 := 1#32
  let v9 : BitVec 32 := Scalar.divsi v7 c1_i32_3
  let v10 : BitVec 32 := Scalar.muli v9 c1_i32_3
  let v11 : BitVec 32 := Scalar.addi c0_i32 v10
  let c1_i32_5 : BitVec 32 := 1#32
  let arg10 : BitVec 32 := Scf.iv v11 c1_i32_5 k0_t2
  let c256_i32_134 : BitVec 32 := 256#32
  let v265 : BitVec 32 := Scalar.muli arg10 c256_i32_134
  v265
def k0_off3 (i : grid0.Coords) (k0_t2 : Fin (k0_t2_loop i).trips) : Fin 3 → Nat :=
  let c0_135 : Index := 0#32
  let c0_i32 : BitVec 32 := 0#32
  let arg1 : BitVec 32 := BitVec.ofNat 32 (i 1).val
  let c1_i32 : BitVec 32 := 1#32
  let v0 : BitVec 32 := Scalar.addi arg1 c1_i32
  let v7 : BitVec 32 := Scalar.subi v0 c0_i32
  let c1_i32_3 : BitVec 32 := 1#32
  let v9 : BitVec 32 := Scalar.divsi v7 c1_i32_3
  let v10 : BitVec 32 := Scalar.muli v9 c1_i32_3
  let v11 : BitVec 32 := Scalar.addi c0_i32 v10
  let c1_i32_5 : BitVec 32 := 1#32
  let arg10 : BitVec 32 := Scf.iv v11 c1_i32_5 k0_t2
  let c256_i32_134 : BitVec 32 := 256#32
  let v265 : BitVec 32 := Scalar.muli arg10 c256_i32_134
  let v266 : BitVec 32 := v265
  let v267 : Index := Scalar.indexCast v266
  let c0_136 : Index := 0#32
  ![0, v267.toNat, 0]
def k0_off4 (i : grid0.Coords) (k0_t2 : Fin (k0_t2_loop i).trips) : Fin 2 → Nat :=
  let c0_206 : Index := 0#32
  let c0_i32 : BitVec 32 := 0#32
  let arg1 : BitVec 32 := BitVec.ofNat 32 (i 1).val
  let c1_i32 : BitVec 32 := 1#32
  let v0 : BitVec 32 := Scalar.addi arg1 c1_i32
  let v7 : BitVec 32 := Scalar.subi v0 c0_i32
  let c1_i32_3 : BitVec 32 := 1#32
  let v9 : BitVec 32 := Scalar.divsi v7 c1_i32_3
  let v10 : BitVec 32 := Scalar.muli v9 c1_i32_3
  let v11 : BitVec 32 := Scalar.addi c0_i32 v10
  let c1_i32_5 : BitVec 32 := 1#32
  let arg10 : BitVec 32 := Scf.iv v11 c1_i32_5 k0_t2
  let c256_i32_134 : BitVec 32 := 256#32
  let v265 : BitVec 32 := Scalar.muli arg10 c256_i32_134
  let v266 : BitVec 32 := v265
  let v422 : Index := Scalar.indexCast v266
  ![0, v422.toNat]
@[reducible] def k0_t3_loop (i : grid0.Coords) : Scf.Loop 32 :=
  let c0_i32_6 : BitVec 32 := 0#32
  let arg1 : BitVec 32 := BitVec.ofNat 32 (i 1).val
  let c1_i32 : BitVec 32 := 1#32
  let v0 : BitVec 32 := Scalar.addi arg1 c1_i32
  let v15 : BitVec 32 := Scalar.subi v0 c0_i32_6
  let c1_i32_7 : BitVec 32 := 1#32
  let v17 : BitVec 32 := Scalar.divsi v15 c1_i32_7
  let v18 : BitVec 32 := Scalar.muli v17 c1_i32_7
  let v19 : BitVec 32 := Scalar.addi c0_i32_6 v18
  let c1_i32_8 : BitVec 32 := 1#32
  ⟨c0_i32_6, v19, c1_i32_8⟩
def k0_mult3 (i : grid0.Coords) (k0_t3 : Fin (k0_t3_loop i).trips) : BitVec 32 :=
  let c0_i32_6 : BitVec 32 := 0#32
  let c1_i32_8 : BitVec 32 := 1#32
  let arg10 : BitVec 32 := Scf.iv c0_i32_6 c1_i32_8 k0_t3
  let c256_i32_134 : BitVec 32 := 256#32
  let v265 : BitVec 32 := Scalar.muli arg10 c256_i32_134
  v265
def k0_off5 (i : grid0.Coords) (k0_t3 : Fin (k0_t3_loop i).trips) : Fin 2 → Nat :=
  let c0_135 : Index := 0#32
  let c0_i32_6 : BitVec 32 := 0#32
  let c1_i32_8 : BitVec 32 := 1#32
  let arg10 : BitVec 32 := Scf.iv c0_i32_6 c1_i32_8 k0_t3
  let c256_i32_134 : BitVec 32 := 256#32
  let v265 : BitVec 32 := Scalar.muli arg10 c256_i32_134
  let v266 : BitVec 32 := v265
  let v267 : Index := Scalar.indexCast v266
  ![0, v267.toNat]
@[reducible] def k0_t4_loop (i : grid0.Coords) : Scf.Loop 32 :=
  let c0_i32_6 : BitVec 32 := 0#32
  let arg1 : BitVec 32 := BitVec.ofNat 32 (i 1).val
  let c1_i32 : BitVec 32 := 1#32
  let v0 : BitVec 32 := Scalar.addi arg1 c1_i32
  let v15 : BitVec 32 := Scalar.subi v0 c0_i32_6
  let c1_i32_7 : BitVec 32 := 1#32
  let v17 : BitVec 32 := Scalar.divsi v15 c1_i32_7
  let v18 : BitVec 32 := Scalar.muli v17 c1_i32_7
  let v19 : BitVec 32 := Scalar.addi c0_i32_6 v18
  let v16 : BitVec 32 := Scalar.addi c0_i32_6 v15
  let c1_i32_9 : BitVec 32 := 1#32
  ⟨v19, v16, c1_i32_9⟩
def k0_mult4 (i : grid0.Coords) (k0_t4 : Fin (k0_t4_loop i).trips) : BitVec 32 :=
  let c0_i32_6 : BitVec 32 := 0#32
  let arg1 : BitVec 32 := BitVec.ofNat 32 (i 1).val
  let c1_i32 : BitVec 32 := 1#32
  let v0 : BitVec 32 := Scalar.addi arg1 c1_i32
  let v15 : BitVec 32 := Scalar.subi v0 c0_i32_6
  let c1_i32_7 : BitVec 32 := 1#32
  let v17 : BitVec 32 := Scalar.divsi v15 c1_i32_7
  let v18 : BitVec 32 := Scalar.muli v17 c1_i32_7
  let v19 : BitVec 32 := Scalar.addi c0_i32_6 v18
  let c1_i32_9 : BitVec 32 := 1#32
  let arg10 : BitVec 32 := Scf.iv v19 c1_i32_9 k0_t4
  let c256_i32_134 : BitVec 32 := 256#32
  let v265 : BitVec 32 := Scalar.muli arg10 c256_i32_134
  v265
def k0_off6 (i : grid0.Coords) (k0_t4 : Fin (k0_t4_loop i).trips) : Fin 2 → Nat :=
  let c0_135 : Index := 0#32
  let c0_i32_6 : BitVec 32 := 0#32
  let arg1 : BitVec 32 := BitVec.ofNat 32 (i 1).val
  let c1_i32 : BitVec 32 := 1#32
  let v0 : BitVec 32 := Scalar.addi arg1 c1_i32
  let v15 : BitVec 32 := Scalar.subi v0 c0_i32_6
  let c1_i32_7 : BitVec 32 := 1#32
  let v17 : BitVec 32 := Scalar.divsi v15 c1_i32_7
  let v18 : BitVec 32 := Scalar.muli v17 c1_i32_7
  let v19 : BitVec 32 := Scalar.addi c0_i32_6 v18
  let c1_i32_9 : BitVec 32 := 1#32
  let arg10 : BitVec 32 := Scf.iv v19 c1_i32_9 k0_t4
  let c256_i32_134 : BitVec 32 := 256#32
  let v265 : BitVec 32 := Scalar.muli arg10 c256_i32_134
  let v266 : BitVec 32 := v265
  let v267 : Index := Scalar.indexCast v266
  ![0, v267.toNat]
@[reducible] def k0_t5_loop : Scf.Loop 32 :=
  let c0_i32_14 : BitVec 32 := 0#32
  let c31_i32 : BitVec 32 := 31#32
  let v35 : BitVec 32 := Scalar.addi c0_i32_14 c31_i32
  let c1_i32_15 : BitVec 32 := 1#32
  ⟨c0_i32_14, v35, c1_i32_15⟩
@[reducible] def k0_t6_loop (i : grid0.Coords) : Scf.Loop 32 :=
  let c0_i32_136 : BitVec 32 := 0#32
  let arg1 : BitVec 32 := BitVec.ofNat 32 (i 1).val
  let c1_i32 : BitVec 32 := 1#32
  let v0 : BitVec 32 := Scalar.addi arg1 c1_i32
  let v270 : BitVec 32 := Scalar.subi v0 c0_i32_136
  let c1_i32_137 : BitVec 32 := 1#32
  let v272 : BitVec 32 := Scalar.divsi v270 c1_i32_137
  let v273 : BitVec 32 := Scalar.muli v272 c1_i32_137
  let v274 : BitVec 32 := Scalar.addi c0_i32_136 v273
  let c1_i32_138 : BitVec 32 := 1#32
  ⟨c0_i32_136, v274, c1_i32_138⟩
def k0_mult5 (i : grid0.Coords) (k0_t6 : Fin (k0_t6_loop i).trips) : BitVec 32 :=
  let c0_i32_136 : BitVec 32 := 0#32
  let c1_i32_138 : BitVec 32 := 1#32
  let arg13 : BitVec 32 := Scf.iv c0_i32_136 c1_i32_138 k0_t6
  let c256_i32_142 : BitVec 32 := 256#32
  let v283 : BitVec 32 := Scalar.muli arg13 c256_i32_142
  v283
def k0_off7 (i : grid0.Coords) (k0_t6 : Fin (k0_t6_loop i).trips) : Fin 2 → Nat :=
  let c0_143 : Index := 0#32
  let c0_i32_136 : BitVec 32 := 0#32
  let c1_i32_138 : BitVec 32 := 1#32
  let arg13 : BitVec 32 := Scf.iv c0_i32_136 c1_i32_138 k0_t6
  let c256_i32_142 : BitVec 32 := 256#32
  let v283 : BitVec 32 := Scalar.muli arg13 c256_i32_142
  let v284 : BitVec 32 := v283
  let v285 : Index := Scalar.indexCast v284
  ![0, v285.toNat]
@[reducible] def k0_t7_loop (i : grid0.Coords) : Scf.Loop 32 :=
  let c0_i32_136 : BitVec 32 := 0#32
  let arg1 : BitVec 32 := BitVec.ofNat 32 (i 1).val
  let c1_i32 : BitVec 32 := 1#32
  let v0 : BitVec 32 := Scalar.addi arg1 c1_i32
  let v270 : BitVec 32 := Scalar.subi v0 c0_i32_136
  let c1_i32_137 : BitVec 32 := 1#32
  let v272 : BitVec 32 := Scalar.divsi v270 c1_i32_137
  let v273 : BitVec 32 := Scalar.muli v272 c1_i32_137
  let v274 : BitVec 32 := Scalar.addi c0_i32_136 v273
  let v271 : BitVec 32 := Scalar.addi c0_i32_136 v270
  let c1_i32_139 : BitVec 32 := 1#32
  ⟨v274, v271, c1_i32_139⟩
def k0_mult6 (i : grid0.Coords) (k0_t7 : Fin (k0_t7_loop i).trips) : BitVec 32 :=
  let c0_i32_136 : BitVec 32 := 0#32
  let arg1 : BitVec 32 := BitVec.ofNat 32 (i 1).val
  let c1_i32 : BitVec 32 := 1#32
  let v0 : BitVec 32 := Scalar.addi arg1 c1_i32
  let v270 : BitVec 32 := Scalar.subi v0 c0_i32_136
  let c1_i32_137 : BitVec 32 := 1#32
  let v272 : BitVec 32 := Scalar.divsi v270 c1_i32_137
  let v273 : BitVec 32 := Scalar.muli v272 c1_i32_137
  let v274 : BitVec 32 := Scalar.addi c0_i32_136 v273
  let c1_i32_139 : BitVec 32 := 1#32
  let arg13 : BitVec 32 := Scf.iv v274 c1_i32_139 k0_t7
  let c256_i32_142 : BitVec 32 := 256#32
  let v283 : BitVec 32 := Scalar.muli arg13 c256_i32_142
  v283
def k0_off8 (i : grid0.Coords) (k0_t7 : Fin (k0_t7_loop i).trips) : Fin 2 → Nat :=
  let c0_143 : Index := 0#32
  let c0_i32_136 : BitVec 32 := 0#32
  let arg1 : BitVec 32 := BitVec.ofNat 32 (i 1).val
  let c1_i32 : BitVec 32 := 1#32
  let v0 : BitVec 32 := Scalar.addi arg1 c1_i32
  let v270 : BitVec 32 := Scalar.subi v0 c0_i32_136
  let c1_i32_137 : BitVec 32 := 1#32
  let v272 : BitVec 32 := Scalar.divsi v270 c1_i32_137
  let v273 : BitVec 32 := Scalar.muli v272 c1_i32_137
  let v274 : BitVec 32 := Scalar.addi c0_i32_136 v273
  let c1_i32_139 : BitVec 32 := 1#32
  let arg13 : BitVec 32 := Scf.iv v274 c1_i32_139 k0_t7
  let c256_i32_142 : BitVec 32 := 256#32
  let v283 : BitVec 32 := Scalar.muli arg13 c256_i32_142
  let v284 : BitVec 32 := v283
  let v285 : Index := Scalar.indexCast v284
  ![0, v285.toNat]
@[reducible] def k0_t8_loop (i : grid0.Coords) : Scf.Loop 32 :=
  let c0_i32_135 : BitVec 32 := 0#32
  let arg1 : BitVec 32 := BitVec.ofNat 32 (i 1).val
  let c1_i32 : BitVec 32 := 1#32
  let v0 : BitVec 32 := Scalar.addi arg1 c1_i32
  let v266 : BitVec 32 := Scalar.subi v0 c0_i32_135
  let c1_i32_136 : BitVec 32 := 1#32
  let v268 : BitVec 32 := Scalar.divsi v266 c1_i32_136
  let v269 : BitVec 32 := Scalar.muli v268 c1_i32_136
  let v270 : BitVec 32 := Scalar.addi c0_i32_135 v269
  let c1_i32_137 : BitVec 32 := 1#32
  ⟨c0_i32_135, v270, c1_i32_137⟩
def k0_mult7 (i : grid0.Coords) (k0_t8 : Fin (k0_t8_loop i).trips) : BitVec 32 :=
  let c0_i32_135 : BitVec 32 := 0#32
  let c1_i32_137 : BitVec 32 := 1#32
  let arg10 : BitVec 32 := Scf.iv c0_i32_135 c1_i32_137 k0_t8
  let c256_i32_147 : BitVec 32 := 256#32
  let v284 : BitVec 32 := Scalar.muli arg10 c256_i32_147
  v284
def k0_off9 (i : grid0.Coords) (k0_t8 : Fin (k0_t8_loop i).trips) : Fin 2 → Nat :=
  let c0_148 : Index := 0#32
  let c0_i32_135 : BitVec 32 := 0#32
  let c1_i32_137 : BitVec 32 := 1#32
  let arg10 : BitVec 32 := Scf.iv c0_i32_135 c1_i32_137 k0_t8
  let c256_i32_147 : BitVec 32 := 256#32
  let v284 : BitVec 32 := Scalar.muli arg10 c256_i32_147
  let v285 : BitVec 32 := v284
  let v286 : Index := Scalar.indexCast v285
  ![0, v286.toNat]
@[reducible] def k0_t9_loop (i : grid0.Coords) : Scf.Loop 32 :=
  let c0_i32_135 : BitVec 32 := 0#32
  let arg1 : BitVec 32 := BitVec.ofNat 32 (i 1).val
  let c1_i32 : BitVec 32 := 1#32
  let v0 : BitVec 32 := Scalar.addi arg1 c1_i32
  let v266 : BitVec 32 := Scalar.subi v0 c0_i32_135
  let c1_i32_136 : BitVec 32 := 1#32
  let v268 : BitVec 32 := Scalar.divsi v266 c1_i32_136
  let v269 : BitVec 32 := Scalar.muli v268 c1_i32_136
  let v270 : BitVec 32 := Scalar.addi c0_i32_135 v269
  let v267 : BitVec 32 := Scalar.addi c0_i32_135 v266
  let c1_i32_138 : BitVec 32 := 1#32
  ⟨v270, v267, c1_i32_138⟩
def k0_mult8 (i : grid0.Coords) (k0_t9 : Fin (k0_t9_loop i).trips) : BitVec 32 :=
  let c0_i32_135 : BitVec 32 := 0#32
  let arg1 : BitVec 32 := BitVec.ofNat 32 (i 1).val
  let c1_i32 : BitVec 32 := 1#32
  let v0 : BitVec 32 := Scalar.addi arg1 c1_i32
  let v266 : BitVec 32 := Scalar.subi v0 c0_i32_135
  let c1_i32_136 : BitVec 32 := 1#32
  let v268 : BitVec 32 := Scalar.divsi v266 c1_i32_136
  let v269 : BitVec 32 := Scalar.muli v268 c1_i32_136
  let v270 : BitVec 32 := Scalar.addi c0_i32_135 v269
  let c1_i32_138 : BitVec 32 := 1#32
  let arg10 : BitVec 32 := Scf.iv v270 c1_i32_138 k0_t9
  let c256_i32_147 : BitVec 32 := 256#32
  let v284 : BitVec 32 := Scalar.muli arg10 c256_i32_147
  v284
def k0_off10 (i : grid0.Coords) (k0_t9 : Fin (k0_t9_loop i).trips) : Fin 2 → Nat :=
  let c0_148 : Index := 0#32
  let c0_i32_135 : BitVec 32 := 0#32
  let arg1 : BitVec 32 := BitVec.ofNat 32 (i 1).val
  let c1_i32 : BitVec 32 := 1#32
  let v0 : BitVec 32 := Scalar.addi arg1 c1_i32
  let v266 : BitVec 32 := Scalar.subi v0 c0_i32_135
  let c1_i32_136 : BitVec 32 := 1#32
  let v268 : BitVec 32 := Scalar.divsi v266 c1_i32_136
  let v269 : BitVec 32 := Scalar.muli v268 c1_i32_136
  let v270 : BitVec 32 := Scalar.addi c0_i32_135 v269
  let c1_i32_138 : BitVec 32 := 1#32
  let arg10 : BitVec 32 := Scf.iv v270 c1_i32_138 k0_t9
  let c256_i32_147 : BitVec 32 := 256#32
  let v284 : BitVec 32 := Scalar.muli arg10 c256_i32_147
  let v285 : BitVec 32 := v284
  let v286 : Index := Scalar.indexCast v285
  ![0, v286.toNat]
@[reducible] def k0_t10_loop : Scf.Loop 32 :=
  let c0_i32_142 : BitVec 32 := 0#32
  let c13_i32 : BitVec 32 := 13#32
  let v278 : BitVec 32 := Scalar.addi c0_i32_142 c13_i32
  let c1_i32_143 : BitVec 32 := 1#32
  ⟨c0_i32_142, v278, c1_i32_143⟩
@[reducible] def k0_t11_loop (i : grid0.Coords) : Scf.Loop 32 :=
  let c0_i32_149 : BitVec 32 := 0#32
  let arg1 : BitVec 32 := BitVec.ofNat 32 (i 1).val
  let c1_i32 : BitVec 32 := 1#32
  let v0 : BitVec 32 := Scalar.addi arg1 c1_i32
  let v289 : BitVec 32 := Scalar.subi v0 c0_i32_149
  let c1_i32_150 : BitVec 32 := 1#32
  let v291 : BitVec 32 := Scalar.divsi v289 c1_i32_150
  let v292 : BitVec 32 := Scalar.muli v291 c1_i32_150
  let v293 : BitVec 32 := Scalar.addi c0_i32_149 v292
  let c1_i32_151 : BitVec 32 := 1#32
  ⟨c0_i32_149, v293, c1_i32_151⟩
def k0_mult9 (i : grid0.Coords) (k0_t11 : Fin (k0_t11_loop i).trips) : BitVec 32 :=
  let c0_i32_149 : BitVec 32 := 0#32
  let c1_i32_151 : BitVec 32 := 1#32
  let arg12 : BitVec 32 := Scf.iv c0_i32_149 c1_i32_151 k0_t11
  let c256_i32_154 : BitVec 32 := 256#32
  let v300 : BitVec 32 := Scalar.muli arg12 c256_i32_154
  v300
def k0_off11 (i : grid0.Coords) (k0_t11 : Fin (k0_t11_loop i).trips) : Fin 2 → Nat :=
  let c0_155 : Index := 0#32
  let c0_i32_149 : BitVec 32 := 0#32
  let c1_i32_151 : BitVec 32 := 1#32
  let arg12 : BitVec 32 := Scf.iv c0_i32_149 c1_i32_151 k0_t11
  let c256_i32_154 : BitVec 32 := 256#32
  let v300 : BitVec 32 := Scalar.muli arg12 c256_i32_154
  let v301 : BitVec 32 := v300
  let v302 : Index := Scalar.indexCast v301
  ![0, v302.toNat]
@[reducible] def k0_t12_loop (i : grid0.Coords) : Scf.Loop 32 :=
  let c0_i32_149 : BitVec 32 := 0#32
  let arg1 : BitVec 32 := BitVec.ofNat 32 (i 1).val
  let c1_i32 : BitVec 32 := 1#32
  let v0 : BitVec 32 := Scalar.addi arg1 c1_i32
  let v289 : BitVec 32 := Scalar.subi v0 c0_i32_149
  let c1_i32_150 : BitVec 32 := 1#32
  let v291 : BitVec 32 := Scalar.divsi v289 c1_i32_150
  let v292 : BitVec 32 := Scalar.muli v291 c1_i32_150
  let v293 : BitVec 32 := Scalar.addi c0_i32_149 v292
  let v290 : BitVec 32 := Scalar.addi c0_i32_149 v289
  let c1_i32_152 : BitVec 32 := 1#32
  ⟨v293, v290, c1_i32_152⟩
def k0_mult10 (i : grid0.Coords) (k0_t12 : Fin (k0_t12_loop i).trips) : BitVec 32 :=
  let c0_i32_149 : BitVec 32 := 0#32
  let arg1 : BitVec 32 := BitVec.ofNat 32 (i 1).val
  let c1_i32 : BitVec 32 := 1#32
  let v0 : BitVec 32 := Scalar.addi arg1 c1_i32
  let v289 : BitVec 32 := Scalar.subi v0 c0_i32_149
  let c1_i32_150 : BitVec 32 := 1#32
  let v291 : BitVec 32 := Scalar.divsi v289 c1_i32_150
  let v292 : BitVec 32 := Scalar.muli v291 c1_i32_150
  let v293 : BitVec 32 := Scalar.addi c0_i32_149 v292
  let c1_i32_152 : BitVec 32 := 1#32
  let arg12 : BitVec 32 := Scf.iv v293 c1_i32_152 k0_t12
  let c256_i32_154 : BitVec 32 := 256#32
  let v300 : BitVec 32 := Scalar.muli arg12 c256_i32_154
  v300
def k0_off12 (i : grid0.Coords) (k0_t12 : Fin (k0_t12_loop i).trips) : Fin 2 → Nat :=
  let c0_155 : Index := 0#32
  let c0_i32_149 : BitVec 32 := 0#32
  let arg1 : BitVec 32 := BitVec.ofNat 32 (i 1).val
  let c1_i32 : BitVec 32 := 1#32
  let v0 : BitVec 32 := Scalar.addi arg1 c1_i32
  let v289 : BitVec 32 := Scalar.subi v0 c0_i32_149
  let c1_i32_150 : BitVec 32 := 1#32
  let v291 : BitVec 32 := Scalar.divsi v289 c1_i32_150
  let v292 : BitVec 32 := Scalar.muli v291 c1_i32_150
  let v293 : BitVec 32 := Scalar.addi c0_i32_149 v292
  let c1_i32_152 : BitVec 32 := 1#32
  let arg12 : BitVec 32 := Scf.iv v293 c1_i32_152 k0_t12
  let c256_i32_154 : BitVec 32 := 256#32
  let v300 : BitVec 32 := Scalar.muli arg12 c256_i32_154
  let v301 : BitVec 32 := v300
  let v302 : Index := Scalar.indexCast v301
  ![0, v302.toNat]
@[reducible] def k0_t13_loop (i : grid0.Coords) : Scf.Loop 32 :=
  let c0_i32_26 : BitVec 32 := 0#32
  let arg1 : BitVec 32 := BitVec.ofNat 32 (i 1).val
  let c1_i32 : BitVec 32 := 1#32
  let v0 : BitVec 32 := Scalar.addi arg1 c1_i32
  let v58 : BitVec 32 := Scalar.subi v0 c0_i32_26
  let c1_i32_28 : BitVec 32 := 1#32
  let v60 : BitVec 32 := Scalar.divsi v58 c1_i32_28
  let v61 : BitVec 32 := Scalar.muli v60 c1_i32_28
  let v62 : BitVec 32 := Scalar.addi c0_i32_26 v61
  let c1_i32_29 : BitVec 32 := 1#32
  ⟨c0_i32_26, v62, c1_i32_29⟩
def k0_mult11 (i : grid0.Coords) (k0_t13 : Fin (k0_t13_loop i).trips) : BitVec 32 :=
  let c0_i32_26 : BitVec 32 := 0#32
  let c1_i32_29 : BitVec 32 := 1#32
  let arg10 : BitVec 32 := Scf.iv c0_i32_26 c1_i32_29 k0_t13
  let c256_i32_134 : BitVec 32 := 256#32
  let v265 : BitVec 32 := Scalar.muli arg10 c256_i32_134
  v265
def k0_off13 (i : grid0.Coords) (k0_t13 : Fin (k0_t13_loop i).trips) : Fin 2 → Nat :=
  let c0_135 : Index := 0#32
  let c0_i32_26 : BitVec 32 := 0#32
  let c1_i32_29 : BitVec 32 := 1#32
  let arg10 : BitVec 32 := Scf.iv c0_i32_26 c1_i32_29 k0_t13
  let c256_i32_134 : BitVec 32 := 256#32
  let v265 : BitVec 32 := Scalar.muli arg10 c256_i32_134
  let v266 : BitVec 32 := v265
  let v267 : Index := Scalar.indexCast v266
  ![0, v267.toNat]
@[reducible] def k0_t14_loop (i : grid0.Coords) : Scf.Loop 32 :=
  let c0_i32_26 : BitVec 32 := 0#32
  let arg1 : BitVec 32 := BitVec.ofNat 32 (i 1).val
  let c1_i32 : BitVec 32 := 1#32
  let v0 : BitVec 32 := Scalar.addi arg1 c1_i32
  let v58 : BitVec 32 := Scalar.subi v0 c0_i32_26
  let c1_i32_28 : BitVec 32 := 1#32
  let v60 : BitVec 32 := Scalar.divsi v58 c1_i32_28
  let v61 : BitVec 32 := Scalar.muli v60 c1_i32_28
  let v62 : BitVec 32 := Scalar.addi c0_i32_26 v61
  let v59 : BitVec 32 := Scalar.addi c0_i32_26 v58
  let c1_i32_30 : BitVec 32 := 1#32
  ⟨v62, v59, c1_i32_30⟩
def k0_mult12 (i : grid0.Coords) (k0_t14 : Fin (k0_t14_loop i).trips) : BitVec 32 :=
  let c0_i32_26 : BitVec 32 := 0#32
  let arg1 : BitVec 32 := BitVec.ofNat 32 (i 1).val
  let c1_i32 : BitVec 32 := 1#32
  let v0 : BitVec 32 := Scalar.addi arg1 c1_i32
  let v58 : BitVec 32 := Scalar.subi v0 c0_i32_26
  let c1_i32_28 : BitVec 32 := 1#32
  let v60 : BitVec 32 := Scalar.divsi v58 c1_i32_28
  let v61 : BitVec 32 := Scalar.muli v60 c1_i32_28
  let v62 : BitVec 32 := Scalar.addi c0_i32_26 v61
  let c1_i32_30 : BitVec 32 := 1#32
  let arg10 : BitVec 32 := Scf.iv v62 c1_i32_30 k0_t14
  let c256_i32_134 : BitVec 32 := 256#32
  let v265 : BitVec 32 := Scalar.muli arg10 c256_i32_134
  v265
def k0_off14 (i : grid0.Coords) (k0_t14 : Fin (k0_t14_loop i).trips) : Fin 2 → Nat :=
  let c0_135 : Index := 0#32
  let c0_i32_26 : BitVec 32 := 0#32
  let arg1 : BitVec 32 := BitVec.ofNat 32 (i 1).val
  let c1_i32 : BitVec 32 := 1#32
  let v0 : BitVec 32 := Scalar.addi arg1 c1_i32
  let v58 : BitVec 32 := Scalar.subi v0 c0_i32_26
  let c1_i32_28 : BitVec 32 := 1#32
  let v60 : BitVec 32 := Scalar.divsi v58 c1_i32_28
  let v61 : BitVec 32 := Scalar.muli v60 c1_i32_28
  let v62 : BitVec 32 := Scalar.addi c0_i32_26 v61
  let c1_i32_30 : BitVec 32 := 1#32
  let arg10 : BitVec 32 := Scf.iv v62 c1_i32_30 k0_t14
  let c256_i32_134 : BitVec 32 := 256#32
  let v265 : BitVec 32 := Scalar.muli arg10 c256_i32_134
  let v266 : BitVec 32 := v265
  let v267 : Index := Scalar.indexCast v266
  ![0, v267.toNat]
@[reducible] def k0_t15_loop (i : grid0.Coords) : Scf.Loop 32 :=
  let c0_i32_39 : BitVec 32 := 0#32
  let arg1 : BitVec 32 := BitVec.ofNat 32 (i 1).val
  let c1_i32 : BitVec 32 := 1#32
  let v0 : BitVec 32 := Scalar.addi arg1 c1_i32
  let v78 : BitVec 32 := Scalar.subi v0 c0_i32_39
  let c1_i32_40 : BitVec 32 := 1#32
  let v80 : BitVec 32 := Scalar.divsi v78 c1_i32_40
  let v81 : BitVec 32 := Scalar.muli v80 c1_i32_40
  let v82 : BitVec 32 := Scalar.addi c0_i32_39 v81
  let c1_i32_41 : BitVec 32 := 1#32
  ⟨c0_i32_39, v82, c1_i32_41⟩
def k0_mult13 (i : grid0.Coords) (k0_t15 : Fin (k0_t15_loop i).trips) : BitVec 32 :=
  let c0_i32_39 : BitVec 32 := 0#32
  let c1_i32_41 : BitVec 32 := 1#32
  let arg10 : BitVec 32 := Scf.iv c0_i32_39 c1_i32_41 k0_t15
  let c256_i32_134 : BitVec 32 := 256#32
  let v265 : BitVec 32 := Scalar.muli arg10 c256_i32_134
  v265
def k0_off15 (i : grid0.Coords) (k0_t15 : Fin (k0_t15_loop i).trips) : Fin 3 → Nat :=
  let c0_135 : Index := 0#32
  let c0_i32_39 : BitVec 32 := 0#32
  let c1_i32_41 : BitVec 32 := 1#32
  let arg10 : BitVec 32 := Scf.iv c0_i32_39 c1_i32_41 k0_t15
  let c256_i32_134 : BitVec 32 := 256#32
  let v265 : BitVec 32 := Scalar.muli arg10 c256_i32_134
  let v266 : BitVec 32 := v265
  let v267 : Index := Scalar.indexCast v266
  let c0_136 : Index := 0#32
  ![0, v267.toNat, 0]
def k0_off16 (i : grid0.Coords) (k0_t15 : Fin (k0_t15_loop i).trips) : Fin 2 → Nat :=
  let c0_138 : Index := 0#32
  let c0_i32_39 : BitVec 32 := 0#32
  let c1_i32_41 : BitVec 32 := 1#32
  let arg10 : BitVec 32 := Scf.iv c0_i32_39 c1_i32_41 k0_t15
  let c256_i32_134 : BitVec 32 := 256#32
  let v265 : BitVec 32 := Scalar.muli arg10 c256_i32_134
  let v266 : BitVec 32 := v265
  let v271 : Index := Scalar.indexCast v266
  ![0, v271.toNat]
@[reducible] def k0_t16_loop (i : grid0.Coords) : Scf.Loop 32 :=
  let c0_i32_39 : BitVec 32 := 0#32
  let arg1 : BitVec 32 := BitVec.ofNat 32 (i 1).val
  let c1_i32 : BitVec 32 := 1#32
  let v0 : BitVec 32 := Scalar.addi arg1 c1_i32
  let v78 : BitVec 32 := Scalar.subi v0 c0_i32_39
  let c1_i32_40 : BitVec 32 := 1#32
  let v80 : BitVec 32 := Scalar.divsi v78 c1_i32_40
  let v81 : BitVec 32 := Scalar.muli v80 c1_i32_40
  let v82 : BitVec 32 := Scalar.addi c0_i32_39 v81
  let v79 : BitVec 32 := Scalar.addi c0_i32_39 v78
  let c1_i32_42 : BitVec 32 := 1#32
  ⟨v82, v79, c1_i32_42⟩
def k0_mult14 (i : grid0.Coords) (k0_t16 : Fin (k0_t16_loop i).trips) : BitVec 32 :=
  let c0_i32_39 : BitVec 32 := 0#32
  let arg1 : BitVec 32 := BitVec.ofNat 32 (i 1).val
  let c1_i32 : BitVec 32 := 1#32
  let v0 : BitVec 32 := Scalar.addi arg1 c1_i32
  let v78 : BitVec 32 := Scalar.subi v0 c0_i32_39
  let c1_i32_40 : BitVec 32 := 1#32
  let v80 : BitVec 32 := Scalar.divsi v78 c1_i32_40
  let v81 : BitVec 32 := Scalar.muli v80 c1_i32_40
  let v82 : BitVec 32 := Scalar.addi c0_i32_39 v81
  let c1_i32_42 : BitVec 32 := 1#32
  let arg10 : BitVec 32 := Scf.iv v82 c1_i32_42 k0_t16
  let c256_i32_134 : BitVec 32 := 256#32
  let v265 : BitVec 32 := Scalar.muli arg10 c256_i32_134
  v265
def k0_off17 (i : grid0.Coords) (k0_t16 : Fin (k0_t16_loop i).trips) : Fin 3 → Nat :=
  let c0_135 : Index := 0#32
  let c0_i32_39 : BitVec 32 := 0#32
  let arg1 : BitVec 32 := BitVec.ofNat 32 (i 1).val
  let c1_i32 : BitVec 32 := 1#32
  let v0 : BitVec 32 := Scalar.addi arg1 c1_i32
  let v78 : BitVec 32 := Scalar.subi v0 c0_i32_39
  let c1_i32_40 : BitVec 32 := 1#32
  let v80 : BitVec 32 := Scalar.divsi v78 c1_i32_40
  let v81 : BitVec 32 := Scalar.muli v80 c1_i32_40
  let v82 : BitVec 32 := Scalar.addi c0_i32_39 v81
  let c1_i32_42 : BitVec 32 := 1#32
  let arg10 : BitVec 32 := Scf.iv v82 c1_i32_42 k0_t16
  let c256_i32_134 : BitVec 32 := 256#32
  let v265 : BitVec 32 := Scalar.muli arg10 c256_i32_134
  let v266 : BitVec 32 := v265
  let v267 : Index := Scalar.indexCast v266
  let c0_136 : Index := 0#32
  ![0, v267.toNat, 0]
def k0_off18 (i : grid0.Coords) (k0_t16 : Fin (k0_t16_loop i).trips) : Fin 2 → Nat :=
  let c0_138 : Index := 0#32
  let c0_i32_39 : BitVec 32 := 0#32
  let arg1 : BitVec 32 := BitVec.ofNat 32 (i 1).val
  let c1_i32 : BitVec 32 := 1#32
  let v0 : BitVec 32 := Scalar.addi arg1 c1_i32
  let v78 : BitVec 32 := Scalar.subi v0 c0_i32_39
  let c1_i32_40 : BitVec 32 := 1#32
  let v80 : BitVec 32 := Scalar.divsi v78 c1_i32_40
  let v81 : BitVec 32 := Scalar.muli v80 c1_i32_40
  let v82 : BitVec 32 := Scalar.addi c0_i32_39 v81
  let c1_i32_42 : BitVec 32 := 1#32
  let arg10 : BitVec 32 := Scf.iv v82 c1_i32_42 k0_t16
  let c256_i32_134 : BitVec 32 := 256#32
  let v265 : BitVec 32 := Scalar.muli arg10 c256_i32_134
  let v266 : BitVec 32 := v265
  let v271 : Index := Scalar.indexCast v266
  ![0, v271.toNat]
@[reducible] def k0_t17_loop (i : grid0.Coords) : Scf.Loop 32 :=
  let c0_i32_48 : BitVec 32 := 0#32
  let arg1 : BitVec 32 := BitVec.ofNat 32 (i 1).val
  let c1_i32 : BitVec 32 := 1#32
  let v0 : BitVec 32 := Scalar.addi arg1 c1_i32
  let v98 : BitVec 32 := Scalar.subi v0 c0_i32_48
  let c1_i32_49 : BitVec 32 := 1#32
  let v100 : BitVec 32 := Scalar.divsi v98 c1_i32_49
  let v101 : BitVec 32 := Scalar.muli v100 c1_i32_49
  let v102 : BitVec 32 := Scalar.addi c0_i32_48 v101
  let c1_i32_50 : BitVec 32 := 1#32
  ⟨c0_i32_48, v102, c1_i32_50⟩
def k0_mult15 (i : grid0.Coords) (k0_t17 : Fin (k0_t17_loop i).trips) : BitVec 32 :=
  let c0_i32_48 : BitVec 32 := 0#32
  let c1_i32_50 : BitVec 32 := 1#32
  let arg10 : BitVec 32 := Scf.iv c0_i32_48 c1_i32_50 k0_t17
  let c256_i32_134 : BitVec 32 := 256#32
  let v265 : BitVec 32 := Scalar.muli arg10 c256_i32_134
  v265
def k0_off19 (i : grid0.Coords) (k0_t17 : Fin (k0_t17_loop i).trips) : Fin 3 → Nat :=
  let c0_135 : Index := 0#32
  let c0_i32_48 : BitVec 32 := 0#32
  let c1_i32_50 : BitVec 32 := 1#32
  let arg10 : BitVec 32 := Scf.iv c0_i32_48 c1_i32_50 k0_t17
  let c256_i32_134 : BitVec 32 := 256#32
  let v265 : BitVec 32 := Scalar.muli arg10 c256_i32_134
  let v266 : BitVec 32 := v265
  let v267 : Index := Scalar.indexCast v266
  let c0_136 : Index := 0#32
  ![0, v267.toNat, 0]
def k0_off20 (i : grid0.Coords) (k0_t17 : Fin (k0_t17_loop i).trips) : Fin 2 → Nat :=
  let c0_138 : Index := 0#32
  let c0_i32_48 : BitVec 32 := 0#32
  let c1_i32_50 : BitVec 32 := 1#32
  let arg10 : BitVec 32 := Scf.iv c0_i32_48 c1_i32_50 k0_t17
  let c256_i32_134 : BitVec 32 := 256#32
  let v265 : BitVec 32 := Scalar.muli arg10 c256_i32_134
  let v266 : BitVec 32 := v265
  let v271 : Index := Scalar.indexCast v266
  ![0, v271.toNat]
@[reducible] def k0_t18_loop (i : grid0.Coords) : Scf.Loop 32 :=
  let c0_i32_48 : BitVec 32 := 0#32
  let arg1 : BitVec 32 := BitVec.ofNat 32 (i 1).val
  let c1_i32 : BitVec 32 := 1#32
  let v0 : BitVec 32 := Scalar.addi arg1 c1_i32
  let v98 : BitVec 32 := Scalar.subi v0 c0_i32_48
  let c1_i32_49 : BitVec 32 := 1#32
  let v100 : BitVec 32 := Scalar.divsi v98 c1_i32_49
  let v101 : BitVec 32 := Scalar.muli v100 c1_i32_49
  let v102 : BitVec 32 := Scalar.addi c0_i32_48 v101
  let v99 : BitVec 32 := Scalar.addi c0_i32_48 v98
  let c1_i32_51 : BitVec 32 := 1#32
  ⟨v102, v99, c1_i32_51⟩
def k0_mult16 (i : grid0.Coords) (k0_t18 : Fin (k0_t18_loop i).trips) : BitVec 32 :=
  let c0_i32_48 : BitVec 32 := 0#32
  let arg1 : BitVec 32 := BitVec.ofNat 32 (i 1).val
  let c1_i32 : BitVec 32 := 1#32
  let v0 : BitVec 32 := Scalar.addi arg1 c1_i32
  let v98 : BitVec 32 := Scalar.subi v0 c0_i32_48
  let c1_i32_49 : BitVec 32 := 1#32
  let v100 : BitVec 32 := Scalar.divsi v98 c1_i32_49
  let v101 : BitVec 32 := Scalar.muli v100 c1_i32_49
  let v102 : BitVec 32 := Scalar.addi c0_i32_48 v101
  let c1_i32_51 : BitVec 32 := 1#32
  let arg10 : BitVec 32 := Scf.iv v102 c1_i32_51 k0_t18
  let c256_i32_134 : BitVec 32 := 256#32
  let v265 : BitVec 32 := Scalar.muli arg10 c256_i32_134
  v265
def k0_off21 (i : grid0.Coords) (k0_t18 : Fin (k0_t18_loop i).trips) : Fin 3 → Nat :=
  let c0_135 : Index := 0#32
  let c0_i32_48 : BitVec 32 := 0#32
  let arg1 : BitVec 32 := BitVec.ofNat 32 (i 1).val
  let c1_i32 : BitVec 32 := 1#32
  let v0 : BitVec 32 := Scalar.addi arg1 c1_i32
  let v98 : BitVec 32 := Scalar.subi v0 c0_i32_48
  let c1_i32_49 : BitVec 32 := 1#32
  let v100 : BitVec 32 := Scalar.divsi v98 c1_i32_49
  let v101 : BitVec 32 := Scalar.muli v100 c1_i32_49
  let v102 : BitVec 32 := Scalar.addi c0_i32_48 v101
  let c1_i32_51 : BitVec 32 := 1#32
  let arg10 : BitVec 32 := Scf.iv v102 c1_i32_51 k0_t18
  let c256_i32_134 : BitVec 32 := 256#32
  let v265 : BitVec 32 := Scalar.muli arg10 c256_i32_134
  let v266 : BitVec 32 := v265
  let v267 : Index := Scalar.indexCast v266
  let c0_136 : Index := 0#32
  ![0, v267.toNat, 0]
def k0_off22 (i : grid0.Coords) (k0_t18 : Fin (k0_t18_loop i).trips) : Fin 2 → Nat :=
  let c0_138 : Index := 0#32
  let c0_i32_48 : BitVec 32 := 0#32
  let arg1 : BitVec 32 := BitVec.ofNat 32 (i 1).val
  let c1_i32 : BitVec 32 := 1#32
  let v0 : BitVec 32 := Scalar.addi arg1 c1_i32
  let v98 : BitVec 32 := Scalar.subi v0 c0_i32_48
  let c1_i32_49 : BitVec 32 := 1#32
  let v100 : BitVec 32 := Scalar.divsi v98 c1_i32_49
  let v101 : BitVec 32 := Scalar.muli v100 c1_i32_49
  let v102 : BitVec 32 := Scalar.addi c0_i32_48 v101
  let c1_i32_51 : BitVec 32 := 1#32
  let arg10 : BitVec 32 := Scf.iv v102 c1_i32_51 k0_t18
  let c256_i32_134 : BitVec 32 := 256#32
  let v265 : BitVec 32 := Scalar.muli arg10 c256_i32_134
  let v266 : BitVec 32 := v265
  let v271 : Index := Scalar.indexCast v266
  ![0, v271.toNat]
@[reducible] def k0_t19_loop (i : grid0.Coords) : Scf.Loop 32 :=
  let c0_i32_64 : BitVec 32 := 0#32
  let arg1 : BitVec 32 := BitVec.ofNat 32 (i 1).val
  let c1_i32 : BitVec 32 := 1#32
  let v0 : BitVec 32 := Scalar.addi arg1 c1_i32
  let v128 : BitVec 32 := Scalar.subi v0 c0_i32_64
  let c1_i32_65 : BitVec 32 := 1#32
  let v130 : BitVec 32 := Scalar.divsi v128 c1_i32_65
  let v131 : BitVec 32 := Scalar.muli v130 c1_i32_65
  let v132 : BitVec 32 := Scalar.addi c0_i32_64 v131
  let c1_i32_66 : BitVec 32 := 1#32
  ⟨c0_i32_64, v132, c1_i32_66⟩
def k0_mult17 (i : grid0.Coords) (k0_t19 : Fin (k0_t19_loop i).trips) : BitVec 32 :=
  let c0_i32_64 : BitVec 32 := 0#32
  let c1_i32_66 : BitVec 32 := 1#32
  let arg10 : BitVec 32 := Scf.iv c0_i32_64 c1_i32_66 k0_t19
  let c256_i32_134 : BitVec 32 := 256#32
  let v265 : BitVec 32 := Scalar.muli arg10 c256_i32_134
  v265
def k0_off23 (i : grid0.Coords) (k0_t19 : Fin (k0_t19_loop i).trips) : Fin 3 → Nat :=
  let c0_135 : Index := 0#32
  let c0_i32_64 : BitVec 32 := 0#32
  let c1_i32_66 : BitVec 32 := 1#32
  let arg10 : BitVec 32 := Scf.iv c0_i32_64 c1_i32_66 k0_t19
  let c256_i32_134 : BitVec 32 := 256#32
  let v265 : BitVec 32 := Scalar.muli arg10 c256_i32_134
  let v266 : BitVec 32 := v265
  let v267 : Index := Scalar.indexCast v266
  let c128_136 : Index := 128#32
  ![0, v267.toNat, 128]
def k0_off24 (i : grid0.Coords) (k0_t19 : Fin (k0_t19_loop i).trips) : Fin 2 → Nat :=
  let c0_138 : Index := 0#32
  let c0_i32_64 : BitVec 32 := 0#32
  let c1_i32_66 : BitVec 32 := 1#32
  let arg10 : BitVec 32 := Scf.iv c0_i32_64 c1_i32_66 k0_t19
  let c256_i32_134 : BitVec 32 := 256#32
  let v265 : BitVec 32 := Scalar.muli arg10 c256_i32_134
  let v266 : BitVec 32 := v265
  let v271 : Index := Scalar.indexCast v266
  ![0, v271.toNat]
@[reducible] def k0_t20_loop (i : grid0.Coords) : Scf.Loop 32 :=
  let c0_i32_64 : BitVec 32 := 0#32
  let arg1 : BitVec 32 := BitVec.ofNat 32 (i 1).val
  let c1_i32 : BitVec 32 := 1#32
  let v0 : BitVec 32 := Scalar.addi arg1 c1_i32
  let v128 : BitVec 32 := Scalar.subi v0 c0_i32_64
  let c1_i32_65 : BitVec 32 := 1#32
  let v130 : BitVec 32 := Scalar.divsi v128 c1_i32_65
  let v131 : BitVec 32 := Scalar.muli v130 c1_i32_65
  let v132 : BitVec 32 := Scalar.addi c0_i32_64 v131
  let v129 : BitVec 32 := Scalar.addi c0_i32_64 v128
  let c1_i32_67 : BitVec 32 := 1#32
  ⟨v132, v129, c1_i32_67⟩
def k0_mult18 (i : grid0.Coords) (k0_t20 : Fin (k0_t20_loop i).trips) : BitVec 32 :=
  let c0_i32_64 : BitVec 32 := 0#32
  let arg1 : BitVec 32 := BitVec.ofNat 32 (i 1).val
  let c1_i32 : BitVec 32 := 1#32
  let v0 : BitVec 32 := Scalar.addi arg1 c1_i32
  let v128 : BitVec 32 := Scalar.subi v0 c0_i32_64
  let c1_i32_65 : BitVec 32 := 1#32
  let v130 : BitVec 32 := Scalar.divsi v128 c1_i32_65
  let v131 : BitVec 32 := Scalar.muli v130 c1_i32_65
  let v132 : BitVec 32 := Scalar.addi c0_i32_64 v131
  let c1_i32_67 : BitVec 32 := 1#32
  let arg10 : BitVec 32 := Scf.iv v132 c1_i32_67 k0_t20
  let c256_i32_134 : BitVec 32 := 256#32
  let v265 : BitVec 32 := Scalar.muli arg10 c256_i32_134
  v265
def k0_off25 (i : grid0.Coords) (k0_t20 : Fin (k0_t20_loop i).trips) : Fin 3 → Nat :=
  let c0_135 : Index := 0#32
  let c0_i32_64 : BitVec 32 := 0#32
  let arg1 : BitVec 32 := BitVec.ofNat 32 (i 1).val
  let c1_i32 : BitVec 32 := 1#32
  let v0 : BitVec 32 := Scalar.addi arg1 c1_i32
  let v128 : BitVec 32 := Scalar.subi v0 c0_i32_64
  let c1_i32_65 : BitVec 32 := 1#32
  let v130 : BitVec 32 := Scalar.divsi v128 c1_i32_65
  let v131 : BitVec 32 := Scalar.muli v130 c1_i32_65
  let v132 : BitVec 32 := Scalar.addi c0_i32_64 v131
  let c1_i32_67 : BitVec 32 := 1#32
  let arg10 : BitVec 32 := Scf.iv v132 c1_i32_67 k0_t20
  let c256_i32_134 : BitVec 32 := 256#32
  let v265 : BitVec 32 := Scalar.muli arg10 c256_i32_134
  let v266 : BitVec 32 := v265
  let v267 : Index := Scalar.indexCast v266
  let c128_136 : Index := 128#32
  ![0, v267.toNat, 128]
def k0_off26 (i : grid0.Coords) (k0_t20 : Fin (k0_t20_loop i).trips) : Fin 2 → Nat :=
  let c0_138 : Index := 0#32
  let c0_i32_64 : BitVec 32 := 0#32
  let arg1 : BitVec 32 := BitVec.ofNat 32 (i 1).val
  let c1_i32 : BitVec 32 := 1#32
  let v0 : BitVec 32 := Scalar.addi arg1 c1_i32
  let v128 : BitVec 32 := Scalar.subi v0 c0_i32_64
  let c1_i32_65 : BitVec 32 := 1#32
  let v130 : BitVec 32 := Scalar.divsi v128 c1_i32_65
  let v131 : BitVec 32 := Scalar.muli v130 c1_i32_65
  let v132 : BitVec 32 := Scalar.addi c0_i32_64 v131
  let c1_i32_67 : BitVec 32 := 1#32
  let arg10 : BitVec 32 := Scf.iv v132 c1_i32_67 k0_t20
  let c256_i32_134 : BitVec 32 := 256#32
  let v265 : BitVec 32 := Scalar.muli arg10 c256_i32_134
  let v266 : BitVec 32 := v265
  let v271 : Index := Scalar.indexCast v266
  ![0, v271.toNat]
@[reducible] def k0_t21_loop (i : grid0.Coords) : Scf.Loop 32 :=
  let c0_i32_74 : BitVec 32 := 0#32
  let arg1 : BitVec 32 := BitVec.ofNat 32 (i 1).val
  let c1_i32 : BitVec 32 := 1#32
  let v0 : BitVec 32 := Scalar.addi arg1 c1_i32
  let v148 : BitVec 32 := Scalar.subi v0 c0_i32_74
  let c1_i32_75 : BitVec 32 := 1#32
  let v150 : BitVec 32 := Scalar.divsi v148 c1_i32_75
  let v151 : BitVec 32 := Scalar.muli v150 c1_i32_75
  let v152 : BitVec 32 := Scalar.addi c0_i32_74 v151
  let c1_i32_76 : BitVec 32 := 1#32
  ⟨c0_i32_74, v152, c1_i32_76⟩
def k0_mult19 (i : grid0.Coords) (k0_t21 : Fin (k0_t21_loop i).trips) : BitVec 32 :=
  let c0_i32_74 : BitVec 32 := 0#32
  let c1_i32_76 : BitVec 32 := 1#32
  let arg10 : BitVec 32 := Scf.iv c0_i32_74 c1_i32_76 k0_t21
  let c256_i32_134 : BitVec 32 := 256#32
  let v265 : BitVec 32 := Scalar.muli arg10 c256_i32_134
  v265
def k0_off27 (i : grid0.Coords) (k0_t21 : Fin (k0_t21_loop i).trips) : Fin 3 → Nat :=
  let c0_135 : Index := 0#32
  let c0_i32_74 : BitVec 32 := 0#32
  let c1_i32_76 : BitVec 32 := 1#32
  let arg10 : BitVec 32 := Scf.iv c0_i32_74 c1_i32_76 k0_t21
  let c256_i32_134 : BitVec 32 := 256#32
  let v265 : BitVec 32 := Scalar.muli arg10 c256_i32_134
  let v266 : BitVec 32 := v265
  let v267 : Index := Scalar.indexCast v266
  let c128_136 : Index := 128#32
  ![0, v267.toNat, 128]
def k0_off28 (i : grid0.Coords) (k0_t21 : Fin (k0_t21_loop i).trips) : Fin 2 → Nat :=
  let c0_138 : Index := 0#32
  let c0_i32_74 : BitVec 32 := 0#32
  let c1_i32_76 : BitVec 32 := 1#32
  let arg10 : BitVec 32 := Scf.iv c0_i32_74 c1_i32_76 k0_t21
  let c256_i32_134 : BitVec 32 := 256#32
  let v265 : BitVec 32 := Scalar.muli arg10 c256_i32_134
  let v266 : BitVec 32 := v265
  let v271 : Index := Scalar.indexCast v266
  ![0, v271.toNat]
@[reducible] def k0_t22_loop (i : grid0.Coords) : Scf.Loop 32 :=
  let c0_i32_74 : BitVec 32 := 0#32
  let arg1 : BitVec 32 := BitVec.ofNat 32 (i 1).val
  let c1_i32 : BitVec 32 := 1#32
  let v0 : BitVec 32 := Scalar.addi arg1 c1_i32
  let v148 : BitVec 32 := Scalar.subi v0 c0_i32_74
  let c1_i32_75 : BitVec 32 := 1#32
  let v150 : BitVec 32 := Scalar.divsi v148 c1_i32_75
  let v151 : BitVec 32 := Scalar.muli v150 c1_i32_75
  let v152 : BitVec 32 := Scalar.addi c0_i32_74 v151
  let v149 : BitVec 32 := Scalar.addi c0_i32_74 v148
  let c1_i32_77 : BitVec 32 := 1#32
  ⟨v152, v149, c1_i32_77⟩
def k0_mult20 (i : grid0.Coords) (k0_t22 : Fin (k0_t22_loop i).trips) : BitVec 32 :=
  let c0_i32_74 : BitVec 32 := 0#32
  let arg1 : BitVec 32 := BitVec.ofNat 32 (i 1).val
  let c1_i32 : BitVec 32 := 1#32
  let v0 : BitVec 32 := Scalar.addi arg1 c1_i32
  let v148 : BitVec 32 := Scalar.subi v0 c0_i32_74
  let c1_i32_75 : BitVec 32 := 1#32
  let v150 : BitVec 32 := Scalar.divsi v148 c1_i32_75
  let v151 : BitVec 32 := Scalar.muli v150 c1_i32_75
  let v152 : BitVec 32 := Scalar.addi c0_i32_74 v151
  let c1_i32_77 : BitVec 32 := 1#32
  let arg10 : BitVec 32 := Scf.iv v152 c1_i32_77 k0_t22
  let c256_i32_134 : BitVec 32 := 256#32
  let v265 : BitVec 32 := Scalar.muli arg10 c256_i32_134
  v265
def k0_off29 (i : grid0.Coords) (k0_t22 : Fin (k0_t22_loop i).trips) : Fin 3 → Nat :=
  let c0_135 : Index := 0#32
  let c0_i32_74 : BitVec 32 := 0#32
  let arg1 : BitVec 32 := BitVec.ofNat 32 (i 1).val
  let c1_i32 : BitVec 32 := 1#32
  let v0 : BitVec 32 := Scalar.addi arg1 c1_i32
  let v148 : BitVec 32 := Scalar.subi v0 c0_i32_74
  let c1_i32_75 : BitVec 32 := 1#32
  let v150 : BitVec 32 := Scalar.divsi v148 c1_i32_75
  let v151 : BitVec 32 := Scalar.muli v150 c1_i32_75
  let v152 : BitVec 32 := Scalar.addi c0_i32_74 v151
  let c1_i32_77 : BitVec 32 := 1#32
  let arg10 : BitVec 32 := Scf.iv v152 c1_i32_77 k0_t22
  let c256_i32_134 : BitVec 32 := 256#32
  let v265 : BitVec 32 := Scalar.muli arg10 c256_i32_134
  let v266 : BitVec 32 := v265
  let v267 : Index := Scalar.indexCast v266
  let c128_136 : Index := 128#32
  ![0, v267.toNat, 128]
def k0_off30 (i : grid0.Coords) (k0_t22 : Fin (k0_t22_loop i).trips) : Fin 2 → Nat :=
  let c0_138 : Index := 0#32
  let c0_i32_74 : BitVec 32 := 0#32
  let arg1 : BitVec 32 := BitVec.ofNat 32 (i 1).val
  let c1_i32 : BitVec 32 := 1#32
  let v0 : BitVec 32 := Scalar.addi arg1 c1_i32
  let v148 : BitVec 32 := Scalar.subi v0 c0_i32_74
  let c1_i32_75 : BitVec 32 := 1#32
  let v150 : BitVec 32 := Scalar.divsi v148 c1_i32_75
  let v151 : BitVec 32 := Scalar.muli v150 c1_i32_75
  let v152 : BitVec 32 := Scalar.addi c0_i32_74 v151
  let c1_i32_77 : BitVec 32 := 1#32
  let arg10 : BitVec 32 := Scf.iv v152 c1_i32_77 k0_t22
  let c256_i32_134 : BitVec 32 := 256#32
  let v265 : BitVec 32 := Scalar.muli arg10 c256_i32_134
  let v266 : BitVec 32 := v265
  let v271 : Index := Scalar.indexCast v266
  ![0, v271.toNat]
@[reducible] def k0_t23_loop (i : grid0.Coords) : Scf.Loop 32 :=
  let c0_i32_90 : BitVec 32 := 0#32
  let arg1 : BitVec 32 := BitVec.ofNat 32 (i 1).val
  let c1_i32 : BitVec 32 := 1#32
  let v0 : BitVec 32 := Scalar.addi arg1 c1_i32
  let v178 : BitVec 32 := Scalar.subi v0 c0_i32_90
  let c1_i32_91 : BitVec 32 := 1#32
  let v180 : BitVec 32 := Scalar.divsi v178 c1_i32_91
  let v181 : BitVec 32 := Scalar.muli v180 c1_i32_91
  let v182 : BitVec 32 := Scalar.addi c0_i32_90 v181
  let c1_i32_92 : BitVec 32 := 1#32
  ⟨c0_i32_90, v182, c1_i32_92⟩
def k0_mult21 (i : grid0.Coords) (k0_t23 : Fin (k0_t23_loop i).trips) : BitVec 32 :=
  let c0_i32_90 : BitVec 32 := 0#32
  let c1_i32_92 : BitVec 32 := 1#32
  let arg10 : BitVec 32 := Scf.iv c0_i32_90 c1_i32_92 k0_t23
  let c256_i32_134 : BitVec 32 := 256#32
  let v265 : BitVec 32 := Scalar.muli arg10 c256_i32_134
  v265
def k0_off31 (i : grid0.Coords) (k0_t23 : Fin (k0_t23_loop i).trips) : Fin 3 → Nat :=
  let c0_135 : Index := 0#32
  let c0_i32_90 : BitVec 32 := 0#32
  let c1_i32_92 : BitVec 32 := 1#32
  let arg10 : BitVec 32 := Scf.iv c0_i32_90 c1_i32_92 k0_t23
  let c256_i32_134 : BitVec 32 := 256#32
  let v265 : BitVec 32 := Scalar.muli arg10 c256_i32_134
  let v266 : BitVec 32 := v265
  let v267 : Index := Scalar.indexCast v266
  let c256_136 : Index := 256#32
  ![0, v267.toNat, 256]
def k0_off32 (i : grid0.Coords) (k0_t23 : Fin (k0_t23_loop i).trips) : Fin 2 → Nat :=
  let c0_138 : Index := 0#32
  let c0_i32_90 : BitVec 32 := 0#32
  let c1_i32_92 : BitVec 32 := 1#32
  let arg10 : BitVec 32 := Scf.iv c0_i32_90 c1_i32_92 k0_t23
  let c256_i32_134 : BitVec 32 := 256#32
  let v265 : BitVec 32 := Scalar.muli arg10 c256_i32_134
  let v266 : BitVec 32 := v265
  let v271 : Index := Scalar.indexCast v266
  ![0, v271.toNat]
@[reducible] def k0_t24_loop (i : grid0.Coords) : Scf.Loop 32 :=
  let c0_i32_90 : BitVec 32 := 0#32
  let arg1 : BitVec 32 := BitVec.ofNat 32 (i 1).val
  let c1_i32 : BitVec 32 := 1#32
  let v0 : BitVec 32 := Scalar.addi arg1 c1_i32
  let v178 : BitVec 32 := Scalar.subi v0 c0_i32_90
  let c1_i32_91 : BitVec 32 := 1#32
  let v180 : BitVec 32 := Scalar.divsi v178 c1_i32_91
  let v181 : BitVec 32 := Scalar.muli v180 c1_i32_91
  let v182 : BitVec 32 := Scalar.addi c0_i32_90 v181
  let v179 : BitVec 32 := Scalar.addi c0_i32_90 v178
  let c1_i32_93 : BitVec 32 := 1#32
  ⟨v182, v179, c1_i32_93⟩
def k0_mult22 (i : grid0.Coords) (k0_t24 : Fin (k0_t24_loop i).trips) : BitVec 32 :=
  let c0_i32_90 : BitVec 32 := 0#32
  let arg1 : BitVec 32 := BitVec.ofNat 32 (i 1).val
  let c1_i32 : BitVec 32 := 1#32
  let v0 : BitVec 32 := Scalar.addi arg1 c1_i32
  let v178 : BitVec 32 := Scalar.subi v0 c0_i32_90
  let c1_i32_91 : BitVec 32 := 1#32
  let v180 : BitVec 32 := Scalar.divsi v178 c1_i32_91
  let v181 : BitVec 32 := Scalar.muli v180 c1_i32_91
  let v182 : BitVec 32 := Scalar.addi c0_i32_90 v181
  let c1_i32_93 : BitVec 32 := 1#32
  let arg10 : BitVec 32 := Scf.iv v182 c1_i32_93 k0_t24
  let c256_i32_134 : BitVec 32 := 256#32
  let v265 : BitVec 32 := Scalar.muli arg10 c256_i32_134
  v265
def k0_off33 (i : grid0.Coords) (k0_t24 : Fin (k0_t24_loop i).trips) : Fin 3 → Nat :=
  let c0_135 : Index := 0#32
  let c0_i32_90 : BitVec 32 := 0#32
  let arg1 : BitVec 32 := BitVec.ofNat 32 (i 1).val
  let c1_i32 : BitVec 32 := 1#32
  let v0 : BitVec 32 := Scalar.addi arg1 c1_i32
  let v178 : BitVec 32 := Scalar.subi v0 c0_i32_90
  let c1_i32_91 : BitVec 32 := 1#32
  let v180 : BitVec 32 := Scalar.divsi v178 c1_i32_91
  let v181 : BitVec 32 := Scalar.muli v180 c1_i32_91
  let v182 : BitVec 32 := Scalar.addi c0_i32_90 v181
  let c1_i32_93 : BitVec 32 := 1#32
  let arg10 : BitVec 32 := Scf.iv v182 c1_i32_93 k0_t24
  let c256_i32_134 : BitVec 32 := 256#32
  let v265 : BitVec 32 := Scalar.muli arg10 c256_i32_134
  let v266 : BitVec 32 := v265
  let v267 : Index := Scalar.indexCast v266
  let c256_136 : Index := 256#32
  ![0, v267.toNat, 256]
def k0_off34 (i : grid0.Coords) (k0_t24 : Fin (k0_t24_loop i).trips) : Fin 2 → Nat :=
  let c0_138 : Index := 0#32
  let c0_i32_90 : BitVec 32 := 0#32
  let arg1 : BitVec 32 := BitVec.ofNat 32 (i 1).val
  let c1_i32 : BitVec 32 := 1#32
  let v0 : BitVec 32 := Scalar.addi arg1 c1_i32
  let v178 : BitVec 32 := Scalar.subi v0 c0_i32_90
  let c1_i32_91 : BitVec 32 := 1#32
  let v180 : BitVec 32 := Scalar.divsi v178 c1_i32_91
  let v181 : BitVec 32 := Scalar.muli v180 c1_i32_91
  let v182 : BitVec 32 := Scalar.addi c0_i32_90 v181
  let c1_i32_93 : BitVec 32 := 1#32
  let arg10 : BitVec 32 := Scf.iv v182 c1_i32_93 k0_t24
  let c256_i32_134 : BitVec 32 := 256#32
  let v265 : BitVec 32 := Scalar.muli arg10 c256_i32_134
  let v266 : BitVec 32 := v265
  let v271 : Index := Scalar.indexCast v266
  ![0, v271.toNat]
@[reducible] def k0_t25_loop (i : grid0.Coords) : Scf.Loop 32 :=
  let c0_i32_100 : BitVec 32 := 0#32
  let arg1 : BitVec 32 := BitVec.ofNat 32 (i 1).val
  let c1_i32 : BitVec 32 := 1#32
  let v0 : BitVec 32 := Scalar.addi arg1 c1_i32
  let v198 : BitVec 32 := Scalar.subi v0 c0_i32_100
  let c1_i32_101 : BitVec 32 := 1#32
  let v200 : BitVec 32 := Scalar.divsi v198 c1_i32_101
  let v201 : BitVec 32 := Scalar.muli v200 c1_i32_101
  let v202 : BitVec 32 := Scalar.addi c0_i32_100 v201
  let c1_i32_102 : BitVec 32 := 1#32
  ⟨c0_i32_100, v202, c1_i32_102⟩
def k0_mult23 (i : grid0.Coords) (k0_t25 : Fin (k0_t25_loop i).trips) : BitVec 32 :=
  let c0_i32_100 : BitVec 32 := 0#32
  let c1_i32_102 : BitVec 32 := 1#32
  let arg10 : BitVec 32 := Scf.iv c0_i32_100 c1_i32_102 k0_t25
  let c256_i32_134 : BitVec 32 := 256#32
  let v265 : BitVec 32 := Scalar.muli arg10 c256_i32_134
  v265
def k0_off35 (i : grid0.Coords) (k0_t25 : Fin (k0_t25_loop i).trips) : Fin 3 → Nat :=
  let c0_135 : Index := 0#32
  let c0_i32_100 : BitVec 32 := 0#32
  let c1_i32_102 : BitVec 32 := 1#32
  let arg10 : BitVec 32 := Scf.iv c0_i32_100 c1_i32_102 k0_t25
  let c256_i32_134 : BitVec 32 := 256#32
  let v265 : BitVec 32 := Scalar.muli arg10 c256_i32_134
  let v266 : BitVec 32 := v265
  let v267 : Index := Scalar.indexCast v266
  let c256_136 : Index := 256#32
  ![0, v267.toNat, 256]
def k0_off36 (i : grid0.Coords) (k0_t25 : Fin (k0_t25_loop i).trips) : Fin 2 → Nat :=
  let c0_138 : Index := 0#32
  let c0_i32_100 : BitVec 32 := 0#32
  let c1_i32_102 : BitVec 32 := 1#32
  let arg10 : BitVec 32 := Scf.iv c0_i32_100 c1_i32_102 k0_t25
  let c256_i32_134 : BitVec 32 := 256#32
  let v265 : BitVec 32 := Scalar.muli arg10 c256_i32_134
  let v266 : BitVec 32 := v265
  let v271 : Index := Scalar.indexCast v266
  ![0, v271.toNat]
@[reducible] def k0_t26_loop (i : grid0.Coords) : Scf.Loop 32 :=
  let c0_i32_100 : BitVec 32 := 0#32
  let arg1 : BitVec 32 := BitVec.ofNat 32 (i 1).val
  let c1_i32 : BitVec 32 := 1#32
  let v0 : BitVec 32 := Scalar.addi arg1 c1_i32
  let v198 : BitVec 32 := Scalar.subi v0 c0_i32_100
  let c1_i32_101 : BitVec 32 := 1#32
  let v200 : BitVec 32 := Scalar.divsi v198 c1_i32_101
  let v201 : BitVec 32 := Scalar.muli v200 c1_i32_101
  let v202 : BitVec 32 := Scalar.addi c0_i32_100 v201
  let v199 : BitVec 32 := Scalar.addi c0_i32_100 v198
  let c1_i32_103 : BitVec 32 := 1#32
  ⟨v202, v199, c1_i32_103⟩
def k0_mult24 (i : grid0.Coords) (k0_t26 : Fin (k0_t26_loop i).trips) : BitVec 32 :=
  let c0_i32_100 : BitVec 32 := 0#32
  let arg1 : BitVec 32 := BitVec.ofNat 32 (i 1).val
  let c1_i32 : BitVec 32 := 1#32
  let v0 : BitVec 32 := Scalar.addi arg1 c1_i32
  let v198 : BitVec 32 := Scalar.subi v0 c0_i32_100
  let c1_i32_101 : BitVec 32 := 1#32
  let v200 : BitVec 32 := Scalar.divsi v198 c1_i32_101
  let v201 : BitVec 32 := Scalar.muli v200 c1_i32_101
  let v202 : BitVec 32 := Scalar.addi c0_i32_100 v201
  let c1_i32_103 : BitVec 32 := 1#32
  let arg10 : BitVec 32 := Scf.iv v202 c1_i32_103 k0_t26
  let c256_i32_134 : BitVec 32 := 256#32
  let v265 : BitVec 32 := Scalar.muli arg10 c256_i32_134
  v265
def k0_off37 (i : grid0.Coords) (k0_t26 : Fin (k0_t26_loop i).trips) : Fin 3 → Nat :=
  let c0_135 : Index := 0#32
  let c0_i32_100 : BitVec 32 := 0#32
  let arg1 : BitVec 32 := BitVec.ofNat 32 (i 1).val
  let c1_i32 : BitVec 32 := 1#32
  let v0 : BitVec 32 := Scalar.addi arg1 c1_i32
  let v198 : BitVec 32 := Scalar.subi v0 c0_i32_100
  let c1_i32_101 : BitVec 32 := 1#32
  let v200 : BitVec 32 := Scalar.divsi v198 c1_i32_101
  let v201 : BitVec 32 := Scalar.muli v200 c1_i32_101
  let v202 : BitVec 32 := Scalar.addi c0_i32_100 v201
  let c1_i32_103 : BitVec 32 := 1#32
  let arg10 : BitVec 32 := Scf.iv v202 c1_i32_103 k0_t26
  let c256_i32_134 : BitVec 32 := 256#32
  let v265 : BitVec 32 := Scalar.muli arg10 c256_i32_134
  let v266 : BitVec 32 := v265
  let v267 : Index := Scalar.indexCast v266
  let c256_136 : Index := 256#32
  ![0, v267.toNat, 256]
def k0_off38 (i : grid0.Coords) (k0_t26 : Fin (k0_t26_loop i).trips) : Fin 2 → Nat :=
  let c0_138 : Index := 0#32
  let c0_i32_100 : BitVec 32 := 0#32
  let arg1 : BitVec 32 := BitVec.ofNat 32 (i 1).val
  let c1_i32 : BitVec 32 := 1#32
  let v0 : BitVec 32 := Scalar.addi arg1 c1_i32
  let v198 : BitVec 32 := Scalar.subi v0 c0_i32_100
  let c1_i32_101 : BitVec 32 := 1#32
  let v200 : BitVec 32 := Scalar.divsi v198 c1_i32_101
  let v201 : BitVec 32 := Scalar.muli v200 c1_i32_101
  let v202 : BitVec 32 := Scalar.addi c0_i32_100 v201
  let c1_i32_103 : BitVec 32 := 1#32
  let arg10 : BitVec 32 := Scf.iv v202 c1_i32_103 k0_t26
  let c256_i32_134 : BitVec 32 := 256#32
  let v265 : BitVec 32 := Scalar.muli arg10 c256_i32_134
  let v266 : BitVec 32 := v265
  let v271 : Index := Scalar.indexCast v266
  ![0, v271.toNat]
@[reducible] def k0_t27_loop (i : grid0.Coords) : Scf.Loop 32 :=
  let c0_i32_116 : BitVec 32 := 0#32
  let arg1 : BitVec 32 := BitVec.ofNat 32 (i 1).val
  let c1_i32 : BitVec 32 := 1#32
  let v0 : BitVec 32 := Scalar.addi arg1 c1_i32
  let v228 : BitVec 32 := Scalar.subi v0 c0_i32_116
  let c1_i32_117 : BitVec 32 := 1#32
  let v230 : BitVec 32 := Scalar.divsi v228 c1_i32_117
  let v231 : BitVec 32 := Scalar.muli v230 c1_i32_117
  let v232 : BitVec 32 := Scalar.addi c0_i32_116 v231
  let c1_i32_118 : BitVec 32 := 1#32
  ⟨c0_i32_116, v232, c1_i32_118⟩
def k0_mult25 (i : grid0.Coords) (k0_t27 : Fin (k0_t27_loop i).trips) : BitVec 32 :=
  let c0_i32_116 : BitVec 32 := 0#32
  let c1_i32_118 : BitVec 32 := 1#32
  let arg10 : BitVec 32 := Scf.iv c0_i32_116 c1_i32_118 k0_t27
  let c256_i32_134 : BitVec 32 := 256#32
  let v265 : BitVec 32 := Scalar.muli arg10 c256_i32_134
  v265
def k0_off39 (i : grid0.Coords) (k0_t27 : Fin (k0_t27_loop i).trips) : Fin 3 → Nat :=
  let c0_135 : Index := 0#32
  let c0_i32_116 : BitVec 32 := 0#32
  let c1_i32_118 : BitVec 32 := 1#32
  let arg10 : BitVec 32 := Scf.iv c0_i32_116 c1_i32_118 k0_t27
  let c256_i32_134 : BitVec 32 := 256#32
  let v265 : BitVec 32 := Scalar.muli arg10 c256_i32_134
  let v266 : BitVec 32 := v265
  let v267 : Index := Scalar.indexCast v266
  let c384_136 : Index := 384#32
  ![0, v267.toNat, 384]
def k0_off40 (i : grid0.Coords) (k0_t27 : Fin (k0_t27_loop i).trips) : Fin 2 → Nat :=
  let c0_138 : Index := 0#32
  let c0_i32_116 : BitVec 32 := 0#32
  let c1_i32_118 : BitVec 32 := 1#32
  let arg10 : BitVec 32 := Scf.iv c0_i32_116 c1_i32_118 k0_t27
  let c256_i32_134 : BitVec 32 := 256#32
  let v265 : BitVec 32 := Scalar.muli arg10 c256_i32_134
  let v266 : BitVec 32 := v265
  let v271 : Index := Scalar.indexCast v266
  ![0, v271.toNat]
@[reducible] def k0_t28_loop (i : grid0.Coords) : Scf.Loop 32 :=
  let c0_i32_116 : BitVec 32 := 0#32
  let arg1 : BitVec 32 := BitVec.ofNat 32 (i 1).val
  let c1_i32 : BitVec 32 := 1#32
  let v0 : BitVec 32 := Scalar.addi arg1 c1_i32
  let v228 : BitVec 32 := Scalar.subi v0 c0_i32_116
  let c1_i32_117 : BitVec 32 := 1#32
  let v230 : BitVec 32 := Scalar.divsi v228 c1_i32_117
  let v231 : BitVec 32 := Scalar.muli v230 c1_i32_117
  let v232 : BitVec 32 := Scalar.addi c0_i32_116 v231
  let v229 : BitVec 32 := Scalar.addi c0_i32_116 v228
  let c1_i32_119 : BitVec 32 := 1#32
  ⟨v232, v229, c1_i32_119⟩
def k0_mult26 (i : grid0.Coords) (k0_t28 : Fin (k0_t28_loop i).trips) : BitVec 32 :=
  let c0_i32_116 : BitVec 32 := 0#32
  let arg1 : BitVec 32 := BitVec.ofNat 32 (i 1).val
  let c1_i32 : BitVec 32 := 1#32
  let v0 : BitVec 32 := Scalar.addi arg1 c1_i32
  let v228 : BitVec 32 := Scalar.subi v0 c0_i32_116
  let c1_i32_117 : BitVec 32 := 1#32
  let v230 : BitVec 32 := Scalar.divsi v228 c1_i32_117
  let v231 : BitVec 32 := Scalar.muli v230 c1_i32_117
  let v232 : BitVec 32 := Scalar.addi c0_i32_116 v231
  let c1_i32_119 : BitVec 32 := 1#32
  let arg10 : BitVec 32 := Scf.iv v232 c1_i32_119 k0_t28
  let c256_i32_134 : BitVec 32 := 256#32
  let v265 : BitVec 32 := Scalar.muli arg10 c256_i32_134
  v265
def k0_off41 (i : grid0.Coords) (k0_t28 : Fin (k0_t28_loop i).trips) : Fin 3 → Nat :=
  let c0_135 : Index := 0#32
  let c0_i32_116 : BitVec 32 := 0#32
  let arg1 : BitVec 32 := BitVec.ofNat 32 (i 1).val
  let c1_i32 : BitVec 32 := 1#32
  let v0 : BitVec 32 := Scalar.addi arg1 c1_i32
  let v228 : BitVec 32 := Scalar.subi v0 c0_i32_116
  let c1_i32_117 : BitVec 32 := 1#32
  let v230 : BitVec 32 := Scalar.divsi v228 c1_i32_117
  let v231 : BitVec 32 := Scalar.muli v230 c1_i32_117
  let v232 : BitVec 32 := Scalar.addi c0_i32_116 v231
  let c1_i32_119 : BitVec 32 := 1#32
  let arg10 : BitVec 32 := Scf.iv v232 c1_i32_119 k0_t28
  let c256_i32_134 : BitVec 32 := 256#32
  let v265 : BitVec 32 := Scalar.muli arg10 c256_i32_134
  let v266 : BitVec 32 := v265
  let v267 : Index := Scalar.indexCast v266
  let c384_136 : Index := 384#32
  ![0, v267.toNat, 384]
def k0_off42 (i : grid0.Coords) (k0_t28 : Fin (k0_t28_loop i).trips) : Fin 2 → Nat :=
  let c0_138 : Index := 0#32
  let c0_i32_116 : BitVec 32 := 0#32
  let arg1 : BitVec 32 := BitVec.ofNat 32 (i 1).val
  let c1_i32 : BitVec 32 := 1#32
  let v0 : BitVec 32 := Scalar.addi arg1 c1_i32
  let v228 : BitVec 32 := Scalar.subi v0 c0_i32_116
  let c1_i32_117 : BitVec 32 := 1#32
  let v230 : BitVec 32 := Scalar.divsi v228 c1_i32_117
  let v231 : BitVec 32 := Scalar.muli v230 c1_i32_117
  let v232 : BitVec 32 := Scalar.addi c0_i32_116 v231
  let c1_i32_119 : BitVec 32 := 1#32
  let arg10 : BitVec 32 := Scf.iv v232 c1_i32_119 k0_t28
  let c256_i32_134 : BitVec 32 := 256#32
  let v265 : BitVec 32 := Scalar.muli arg10 c256_i32_134
  let v266 : BitVec 32 := v265
  let v271 : Index := Scalar.indexCast v266
  ![0, v271.toNat]
@[reducible] def k0_t29_loop (i : grid0.Coords) : Scf.Loop 32 :=
  let c0_i32_126 : BitVec 32 := 0#32
  let arg1 : BitVec 32 := BitVec.ofNat 32 (i 1).val
  let c1_i32 : BitVec 32 := 1#32
  let v0 : BitVec 32 := Scalar.addi arg1 c1_i32
  let v248 : BitVec 32 := Scalar.subi v0 c0_i32_126
  let c1_i32_127 : BitVec 32 := 1#32
  let v250 : BitVec 32 := Scalar.divsi v248 c1_i32_127
  let v251 : BitVec 32 := Scalar.muli v250 c1_i32_127
  let v252 : BitVec 32 := Scalar.addi c0_i32_126 v251
  let c1_i32_128 : BitVec 32 := 1#32
  ⟨c0_i32_126, v252, c1_i32_128⟩
def k0_mult27 (i : grid0.Coords) (k0_t29 : Fin (k0_t29_loop i).trips) : BitVec 32 :=
  let c0_i32_126 : BitVec 32 := 0#32
  let c1_i32_128 : BitVec 32 := 1#32
  let arg10 : BitVec 32 := Scf.iv c0_i32_126 c1_i32_128 k0_t29
  let c256_i32_134 : BitVec 32 := 256#32
  let v265 : BitVec 32 := Scalar.muli arg10 c256_i32_134
  v265
def k0_off43 (i : grid0.Coords) (k0_t29 : Fin (k0_t29_loop i).trips) : Fin 3 → Nat :=
  let c0_135 : Index := 0#32
  let c0_i32_126 : BitVec 32 := 0#32
  let c1_i32_128 : BitVec 32 := 1#32
  let arg10 : BitVec 32 := Scf.iv c0_i32_126 c1_i32_128 k0_t29
  let c256_i32_134 : BitVec 32 := 256#32
  let v265 : BitVec 32 := Scalar.muli arg10 c256_i32_134
  let v266 : BitVec 32 := v265
  let v267 : Index := Scalar.indexCast v266
  let c384_136 : Index := 384#32
  ![0, v267.toNat, 384]
def k0_off44 (i : grid0.Coords) (k0_t29 : Fin (k0_t29_loop i).trips) : Fin 2 → Nat :=
  let c0_138 : Index := 0#32
  let c0_i32_126 : BitVec 32 := 0#32
  let c1_i32_128 : BitVec 32 := 1#32
  let arg10 : BitVec 32 := Scf.iv c0_i32_126 c1_i32_128 k0_t29
  let c256_i32_134 : BitVec 32 := 256#32
  let v265 : BitVec 32 := Scalar.muli arg10 c256_i32_134
  let v266 : BitVec 32 := v265
  let v271 : Index := Scalar.indexCast v266
  ![0, v271.toNat]
@[reducible] def k0_t30_loop (i : grid0.Coords) : Scf.Loop 32 :=
  let c0_i32_126 : BitVec 32 := 0#32
  let arg1 : BitVec 32 := BitVec.ofNat 32 (i 1).val
  let c1_i32 : BitVec 32 := 1#32
  let v0 : BitVec 32 := Scalar.addi arg1 c1_i32
  let v248 : BitVec 32 := Scalar.subi v0 c0_i32_126
  let c1_i32_127 : BitVec 32 := 1#32
  let v250 : BitVec 32 := Scalar.divsi v248 c1_i32_127
  let v251 : BitVec 32 := Scalar.muli v250 c1_i32_127
  let v252 : BitVec 32 := Scalar.addi c0_i32_126 v251
  let v249 : BitVec 32 := Scalar.addi c0_i32_126 v248
  let c1_i32_129 : BitVec 32 := 1#32
  ⟨v252, v249, c1_i32_129⟩
def k0_mult28 (i : grid0.Coords) (k0_t30 : Fin (k0_t30_loop i).trips) : BitVec 32 :=
  let c0_i32_126 : BitVec 32 := 0#32
  let arg1 : BitVec 32 := BitVec.ofNat 32 (i 1).val
  let c1_i32 : BitVec 32 := 1#32
  let v0 : BitVec 32 := Scalar.addi arg1 c1_i32
  let v248 : BitVec 32 := Scalar.subi v0 c0_i32_126
  let c1_i32_127 : BitVec 32 := 1#32
  let v250 : BitVec 32 := Scalar.divsi v248 c1_i32_127
  let v251 : BitVec 32 := Scalar.muli v250 c1_i32_127
  let v252 : BitVec 32 := Scalar.addi c0_i32_126 v251
  let c1_i32_129 : BitVec 32 := 1#32
  let arg10 : BitVec 32 := Scf.iv v252 c1_i32_129 k0_t30
  let c256_i32_134 : BitVec 32 := 256#32
  let v265 : BitVec 32 := Scalar.muli arg10 c256_i32_134
  v265
def k0_off45 (i : grid0.Coords) (k0_t30 : Fin (k0_t30_loop i).trips) : Fin 3 → Nat :=
  let c0_135 : Index := 0#32
  let c0_i32_126 : BitVec 32 := 0#32
  let arg1 : BitVec 32 := BitVec.ofNat 32 (i 1).val
  let c1_i32 : BitVec 32 := 1#32
  let v0 : BitVec 32 := Scalar.addi arg1 c1_i32
  let v248 : BitVec 32 := Scalar.subi v0 c0_i32_126
  let c1_i32_127 : BitVec 32 := 1#32
  let v250 : BitVec 32 := Scalar.divsi v248 c1_i32_127
  let v251 : BitVec 32 := Scalar.muli v250 c1_i32_127
  let v252 : BitVec 32 := Scalar.addi c0_i32_126 v251
  let c1_i32_129 : BitVec 32 := 1#32
  let arg10 : BitVec 32 := Scf.iv v252 c1_i32_129 k0_t30
  let c256_i32_134 : BitVec 32 := 256#32
  let v265 : BitVec 32 := Scalar.muli arg10 c256_i32_134
  let v266 : BitVec 32 := v265
  let v267 : Index := Scalar.indexCast v266
  let c384_136 : Index := 384#32
  ![0, v267.toNat, 384]
def k0_off46 (i : grid0.Coords) (k0_t30 : Fin (k0_t30_loop i).trips) : Fin 2 → Nat :=
  let c0_138 : Index := 0#32
  let c0_i32_126 : BitVec 32 := 0#32
  let arg1 : BitVec 32 := BitVec.ofNat 32 (i 1).val
  let c1_i32 : BitVec 32 := 1#32
  let v0 : BitVec 32 := Scalar.addi arg1 c1_i32
  let v248 : BitVec 32 := Scalar.subi v0 c0_i32_126
  let c1_i32_127 : BitVec 32 := 1#32
  let v250 : BitVec 32 := Scalar.divsi v248 c1_i32_127
  let v251 : BitVec 32 := Scalar.muli v250 c1_i32_127
  let v252 : BitVec 32 := Scalar.addi c0_i32_126 v251
  let c1_i32_129 : BitVec 32 := 1#32
  let arg10 : BitVec 32 := Scf.iv v252 c1_i32_129 k0_t30
  let c256_i32_134 : BitVec 32 := 256#32
  let v265 : BitVec 32 := Scalar.muli arg10 c256_i32_134
  let v266 : BitVec 32 := v265
  let v271 : Index := Scalar.indexCast v266
  ![0, v271.toNat]
def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  ![arg0.toNat, c0_i32.toNat, c3_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c6_i32 : BitVec 32 := 6#32
  let c0_i32_0 : BitVec 32 := 0#32
  ![arg0.toNat, c0_i32.toNat, c6_i32.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Proof.Online.lean ====
/-
  The mathematics of a softmax-weighted sum computed tile by tile, on extended reals. No program is mentioned here.

  A row of attention carries a running maximum, a running denominator and running numerators. `Carried` says what the
  three stand for: up to the one factor `exp (κ - μ)` they are the sum of the weights seen so far and the weighted sum
  of the values seen so far. The factor cancels in the quotient, so nothing has to be known about the maximum except
  that it is a real number.
-/
module

public import Idealize.ShloMosaic.Lib.Pointwise

@[expose] public section

noncomputable section

namespace Cert.Attn

open Idealize.ShloMosaic

/-- A score `s` stands for the weight `w`, at shift `κ`: either the score is masked and the weight zero, or the score
    is a real number `σ + κ` and the weight is `exp σ`. -/
def Score (κ : ℝ) (s : EReal) (w : ℝ) : Prop :=
  (s = ⊥ ∧ w = 0) ∨ ∃ σ : ℝ, s = ((σ + κ : ℝ) : EReal) ∧ w = Real.exp σ

/-- What a row carries between tiles: the maximum is some real `μ`, the denominator is `exp (κ - μ)` times the sum `L`
    of the weights, and each numerator is the same factor times the weighted sum `A d` of the values. -/
def Carried {D : Type} (κ : ℝ) (m l : EReal) (a : D → EReal) (L : ℝ) (A : D → EReal) : Prop :=
  ∃ μ : ℝ, m = (μ : EReal) ∧ l = ((Real.exp (κ - μ) * L : ℝ) : EReal)
    ∧ ∀ d, a d = ((Real.exp (κ - μ) : ℝ) : EReal) * A d

/-- A masked score is below `⊤`, as a real one is. -/
theorem Score.ne_top {κ : ℝ} {s : EReal} {w : ℝ} (h : Score κ s w) : s < ⊤ := by
  rcases h with ⟨rfl, -⟩ | ⟨σ, rfl, -⟩
  · exact bot_lt_top
  · exact EReal.coe_lt_top _

/-- The exponential of a score minus a real maximum is the score's weight times `exp (κ - μ)`. -/
theorem Score.exp_sub {κ : ℝ} {s : EReal} {w : ℝ} (h : Score κ s w) (μ : ℝ) :
    Ideal.exp (s - (μ : EReal)) = ((Real.exp (κ - μ) * w : ℝ) : EReal) := by
  rcases h with ⟨rfl, rfl⟩ | ⟨σ, rfl, rfl⟩
  · rw [EReal.bot_sub, Ideal.exp_bot, mul_zero, EReal.coe_zero]
  · rw [← EReal.coe_sub, Ideal.exp_coe, ← Real.exp_add]
    congr 2; ring

/-- A weight is never negative. -/
theorem Score.nonneg {κ : ℝ} {s : EReal} {w : ℝ} (h : Score κ s w) : 0 ≤ w := by
  rcases h with ⟨-, rfl⟩ | ⟨σ, -, rfl⟩
  · exact le_refl _
  · exact (Real.exp_pos σ).le

/-- A real score has a positive weight. -/
theorem Score.pos {κ : ℝ} {s : EReal} {w : ℝ} (h : Score κ s w) (hs : ⊥ < s) : 0 < w := by
  rcases h with ⟨rfl, -⟩ | ⟨σ, -, rfl⟩
  · exact absurd hs (lt_irrefl _)
  · exact Real.exp_pos σ

/-- The maximum of finitely many scores, one of them real, is a real number. -/
theorem max_real {n : ℕ} {κ : ℝ} {s : Fin n → EReal} {w : Fin n → ℝ} (h : ∀ k, Score κ (s k) (w k))
    (hs : ∃ k, ⊥ < s k) : ∃ μ : ℝ, Finset.univ.fold max ⊥ s = (μ : EReal) := by
  have hb : ⊥ < Finset.univ.fold max ⊥ s := by
    obtain ⟨k, hk⟩ := hs
    exact (Finset.lt_fold_max _).2 (.inr ⟨k, Finset.mem_univ k, hk⟩)
  have ht : Finset.univ.fold max ⊥ s < ⊤ := (Finset.fold_max_lt _).2 ⟨bot_lt_top, fun k _ => (h k).ne_top⟩
  exact ⟨_, (EReal.coe_toReal ht.ne hb.ne').symm⟩

/-- A finite sum of reals is real. -/
theorem coe_sum {ι : Type} (t : Finset ι) (f : ι → ℝ) : ∑ k ∈ t, ((f k : ℝ) : EReal) = ((∑ k ∈ t, f k : ℝ) : EReal) := by
  classical
  induction t using Finset.induction_on with
  | empty => simp
  | insert a t ha ih => rw [Finset.sum_insert ha, Finset.sum_insert ha, ih, EReal.coe_add]

/-- A finite sum of products of reals is the real sum of the products. -/
theorem sum_mul_coe {n : ℕ} (f g : Fin n → ℝ) :
    ∑ k, (((f k : ℝ) : EReal) * ((g k : ℝ) : EReal)) = ((∑ k, f k * g k : ℝ) : EReal) := by
  rw [← coe_sum]; exact Finset.sum_congr rfl fun k _ => (EReal.coe_mul _ _).symm

/-- The denominators of one tile, at a real maximum. -/
theorem sum_exp {n : ℕ} {κ : ℝ} {s : Fin n → EReal} {w : Fin n → ℝ} (h : ∀ k, Score κ (s k) (w k)) (μ : ℝ) :
    ∑ k, Ideal.exp (s k - (μ : EReal)) = ((Real.exp (κ - μ) * ∑ k, w k : ℝ) : EReal) := by
  rw [Finset.sum_congr rfl fun k _ => (h k).exp_sub μ, coe_sum, Finset.mul_sum]

/-- A nonnegative real factor goes inside a finite sum of extended reals. -/
theorem coe_mul_sum {ι : Type} (t : Finset ι) {c : ℝ} (hc : 0 ≤ c) (f : ι → EReal) :
    (c : EReal) * ∑ k ∈ t, f k = ∑ k ∈ t, (c : EReal) * f k := by
  classical
  induction t using Finset.induction_on with
  | empty => simp
  | insert a t ha ih =>
    rw [Finset.sum_insert ha, Finset.sum_insert ha,
      EReal.left_distrib_of_nonneg_of_ne_top (EReal.coe_nonneg.2 hc) (EReal.coe_ne_top c), ih]

/-- The numerators of one tile, at a real maximum; the values may be any extended reals. -/
theorem sum_exp_mul {n : ℕ} {κ : ℝ} {s : Fin n → EReal} {w : Fin n → ℝ} (h : ∀ k, Score κ (s k) (w k)) (μ : ℝ)
    (v : Fin n → EReal) :
    ∑ k, Ideal.exp (s k - (μ : EReal)) * v k
      = ((Real.exp (κ - μ) : ℝ) : EReal) * ∑ k, ((w k : ℝ) : EReal) * v k := by
  rw [coe_mul_sum _ (Real.exp_pos _).le]
  exact Finset.sum_congr rfl fun k _ => by rw [(h k).exp_sub μ, EReal.coe_mul, mul_assoc]

/-- The first tile, one of whose scores is real: what the row carries afterwards. -/
theorem Carried.init {n : ℕ} {D : Type} {κ : ℝ} {s : Fin n → EReal} {w : Fin n → ℝ} (h : ∀ k, Score κ (s k) (w k))
    (hs : ∃ k, ⊥ < s k) (v : Fin n → D → EReal) :
    Carried κ (Finset.univ.fold max ⊥ s)
      (∑ k, Ideal.exp (s k - Finset.univ.fold max ⊥ s))
      (fun d => ∑ k, Ideal.exp (s k - Finset.univ.fold max ⊥ s) * v k d)
      (∑ k, w k) (fun d => ∑ k, ((w k : ℝ) : EReal) * v k d) := by
  obtain ⟨μ, hμ⟩ := max_real h hs
  rw [hμ]
  exact ⟨μ, rfl, sum_exp h μ, fun d => sum_exp_mul h μ fun k => v k d⟩

/-- A further tile: the new maximum, the carried sums rescaled to it, the tile's own sums added. -/
theorem Carried.step {n : ℕ} {D : Type} {κ : ℝ} {m l : EReal} {a : D → EReal} {L : ℝ} {A : D → EReal}
    (hc : Carried κ m l a L A) {s : Fin n → EReal} {w : Fin n → ℝ} (h : ∀ k, Score κ (s k) (w k))
    (v : Fin n → D → EReal) :
    Carried κ (max m (Finset.univ.fold max ⊥ s))
      (Ideal.exp (m - max m (Finset.univ.fold max ⊥ s)) * l
        + ∑ k, Ideal.exp (s k - max m (Finset.univ.fold max ⊥ s)))
      (fun d => Ideal.exp (m - max m (Finset.univ.fold max ⊥ s)) * a d
        + ∑ k, Ideal.exp (s k - max m (Finset.univ.fold max ⊥ s)) * v k d)
      (L + ∑ k, w k) (fun d => A d + ∑ k, ((w k : ℝ) : EReal) * v k d) := by
  obtain ⟨μ, rfl, rfl, ha⟩ := hc
  have hb : ⊥ < max (μ : EReal) (Finset.univ.fold max ⊥ s) := lt_max_of_lt_left (EReal.bot_lt_coe μ)
  have ht : max (μ : EReal) (Finset.univ.fold max ⊥ s) < ⊤ :=
    max_lt (EReal.coe_lt_top μ) ((Finset.fold_max_lt _).2 ⟨bot_lt_top, fun k _ => (h k).ne_top⟩)
  obtain ⟨ν, hν⟩ : ∃ ν : ℝ, max (μ : EReal) (Finset.univ.fold max ⊥ s) = (ν : EReal) :=
    ⟨_, (EReal.coe_toReal ht.ne hb.ne').symm⟩
  rw [hν]
  have e : Ideal.exp ((μ : EReal) - (ν : EReal)) * ((Real.exp (κ - μ) : ℝ) : EReal)
      = ((Real.exp (κ - ν) : ℝ) : EReal) := by
    rw [← EReal.coe_sub, Ideal.exp_coe, ← EReal.coe_mul, ← Real.exp_add]
    congr 2; ring
  refine ⟨ν, rfl, ?_, fun d => ?_⟩
  · rw [EReal.coe_mul, ← mul_assoc, e, sum_exp h ν, ← EReal.coe_mul, ← EReal.coe_add, mul_add]
  · show Ideal.exp ((μ : EReal) - (ν : EReal)) * a d + ∑ k, Ideal.exp (s k - (ν : EReal)) * v k d
      = ((Real.exp (κ - ν) : ℝ) : EReal) * (A d + ∑ k, ((w k : ℝ) : EReal) * v k d)
    rw [ha d, ← mul_assoc, e, sum_exp_mul h ν (fun k => v k d),
      EReal.left_distrib_of_nonneg_of_ne_top (EReal.coe_nonneg.2 (Real.exp_pos _).le) (EReal.coe_ne_top _)]

/-- At the end the numerator over the denominator is the weighted mean: the carried factor cancels. -/
theorem Carried.div {D : Type} {κ : ℝ} {m l : EReal} {a : D → EReal} {L : ℝ} {A : D → EReal}
    (hc : Carried κ m l a L A) (hL : 0 < L) (d : D) : Ideal.div (a d) l = Ideal.div (A d) ((L : ℝ) : EReal) := by
  obtain ⟨μ, -, rfl, ha⟩ := hc
  have hE := Real.exp_pos (κ - μ)
  rw [ha d, Ideal.div_coe (mul_pos hE hL).ne', Ideal.div_coe hL.ne', mul_comm _ (A d), mul_assoc, ← EReal.coe_mul]
  congr 2
  field_simp

/-- A softmax over the whole row followed by the weighted sum of the values is the same weighted mean. -/
theorem softmax_mean {n : ℕ} {κ : ℝ} {s : Fin n → EReal} {w : Fin n → ℝ} (h : ∀ k, Score κ (s k) (w k))
    (hs : ∃ k, ⊥ < s k) (v : Fin n → EReal) :
    ∑ k, Ideal.div (Ideal.exp (s k - Finset.univ.fold max ⊥ s))
        (∑ k', Ideal.exp (s k' - Finset.univ.fold max ⊥ s)) * v k
      = Ideal.div (∑ k, ((w k : ℝ) : EReal) * v k) ((∑ k, w k : ℝ) : EReal) := by
  obtain ⟨μ, hμ⟩ := max_real h hs
  rw [hμ, sum_exp h μ]
  have hL : 0 < ∑ k, w k := by
    obtain ⟨k, hk⟩ := hs
    exact Finset.sum_pos' (fun k _ => (h k).nonneg) ⟨k, Finset.mem_univ k, (h k).pos hk⟩
  have hE := Real.exp_pos (κ - μ)
  have e : ∀ k, Ideal.div (Ideal.exp (s k - (μ : EReal))) ((Real.exp (κ - μ) * ∑ k, w k : ℝ) : EReal)
      = ((1 / ∑ k, w k : ℝ) : EReal) * ((w k : ℝ) : EReal) := fun k => by
    rw [(h k).exp_sub μ, Ideal.div_coe (mul_pos hE hL).ne', ← EReal.coe_mul, ← EReal.coe_mul]
    congr 1
    field_simp
  rw [Ideal.div_coe hL.ne', mul_comm (∑ k, ((w k : ℝ) : EReal) * v k), coe_mul_sum _ (one_div_pos.2 hL).le]
  exact Finset.sum_congr rfl fun k _ => by rw [e k, mul_assoc]

/-- A sum over a row of keys whose tiles after the `t`-th vanish is the `t`-th tile's sum and the sums of the tiles
    before it. -/
theorem sum_tiles_le {M : Type} [AddCommMonoid M] {J T N : ℕ} (hN : J * T = N) (f : Fin N → M) (t : ℕ) (ht : t < J)
    (h0 : ∀ k : Fin N, (t + 1) * T ≤ k.val → f k = 0) :
    ∑ k, f k = (∑ c : Fin T, f ⟨t * T + c.val, by
        have := c.isLt; have : (t + 1) * T ≤ J * T := Nat.mul_le_mul_right _ ht; rw [Nat.add_mul] at this; omega⟩)
      + ∑ j ∈ Finset.range t, ∑ c : Fin T, if h : j * T + c.val < N then f ⟨j * T + c.val, h⟩ else 0 := by
  subst hN
  have hlt : ∀ (j : ℕ) (c : Fin T), j < J → j * T + c.val < J * T := fun j c hj => by
    have := c.isLt; have : (j + 1) * T ≤ J * T := Nat.mul_le_mul_right _ hj; rw [Nat.add_mul] at this; omega
  rw [Fin.sum_univ_tiles J T rfl f]
  have e : ∀ j : Fin J, (∑ c : Fin T, f ⟨j.val * T + c.val, hlt j.val c j.isLt⟩)
      = (fun j : ℕ => ∑ c : Fin T, if h : j * T + c.val < J * T then f ⟨j * T + c.val, h⟩ else 0) j.val := fun j =>
    Finset.sum_congr rfl fun c _ => by
      show _ = dite _ _ _
      rw [dif_pos (hlt j.val c j.isLt)]
  refine (Finset.sum_congr rfl fun j _ => e j).trans ?_
  rw [Fin.sum_univ_eq_sum_range
    (fun j : ℕ => ∑ c : Fin T, if h : j * T + c.val < J * T then f ⟨j * T + c.val, h⟩ else 0) J]
  have hsub : Finset.range (t + 1) ⊆ Finset.range J := Finset.range_subset_range.2 ht
  rw [← Finset.sum_subset hsub, Finset.sum_range_succ, add_comm]
  · congr 1
    exact Finset.sum_congr rfl fun c _ => dif_pos (hlt t c ht)
  · intro j hj hjt
    refine Finset.sum_eq_zero fun c _ => ?_
    rw [dif_pos (hlt j c (Finset.mem_range.1 hj))]
    refine h0 _ ?_
    have : t + 1 ≤ j := by simpa using hjt
    have := Nat.mul_le_mul_right T this
    show (t + 1) * T ≤ j * T + c.val
    omega

/-- A dot product over 128 lanes of which only the first 64 are kept. -/
theorem sum_lanes_low (f : Fin 128 → ℝ) :
    (∑ e : Fin 128, if e.val < 64 then f e else 0) = ∑ e : Fin 64, f ⟨e.val, by omega⟩ := by
  rw [Fin.sum_univ_two_halves 64 64 rfl]
  have h : ∀ e : Fin 64, ¬ (64 + e.val < 64) := fun e => by omega
  simp [h]

/-- A dot product over 128 lanes of which only the last 64 are kept. -/
theorem sum_lanes_high (f : Fin 128 → ℝ) :
    (∑ e : Fin 128, if 64 ≤ e.val then f e else 0) = ∑ e : Fin 64, f ⟨64 + e.val, by omega⟩ := by
  rw [Fin.sum_univ_two_halves 64 64 rfl]
  have h : ∀ e : Fin 64, ¬ (64 ≤ e.val) := fun e => by omega
  simp [h]

end Cert.Attn

end
-- ==== Proof.FoxTile.lean ====
/-
  What the forgetting attention's vector operations say of one tile of keys, read element by element.

  Everything is stated over variable vectors whose elements are real numbers: a query tile `Q`, a key tile `K`, a value
  tile `V`, the keys' cumulative log forget gates `C` and the gate `γ` at the start of the query tile. The score of a
  query and a key is `Q · K - (C - γ)`; it stands for the weight `exp (Q · K - C)` at shift `γ`.
-/
module

public import proofs.«01_k».proof.Proof.Gen.FoxIdeal.Skeleton
public import Idealize.ShloMosaic.Lib.Pointwise
public import Idealize.ShloMosaic.Lib.WordCmp
public import proofs.«01_k».proof.Proof.Online

@[expose] public section

set_option maxRecDepth 16384

noncomputable section

namespace Cert.FoxIdeal.Tile

open Cert.FoxIdeal Cert.FoxIdeal.Gen Idealize.ShloMosaic Idealize.ShloMosaic.TcCoe Idealize.SL.Sem Cert.Attn

/-- The pattern of the maximum's starting value is `-∞`. -/
theorem neg_inf : Ideal.ofBits .f32 0xFF800000#32 = ⊥ := by
  simp [Ideal.ofBits, Ideal.ieee]

/-- The three values a loop carries for all 256 rows: maxima, denominators, numerators. -/
abbrev Carry : Type := FVec Ideal S256x1 .f32 × FVec Ideal S256x1 .f32 × FVec Ideal S256x128 .f32

/-- Every row of the carried vectors is what `Cert.Attn.Carried` says, with the row's own sums. -/
def Rows (κ : ℝ) (x : Carry) (L : Fin 256 → ℝ) (A : Fin 256 → Fin 128 → EReal) : Prop :=
  ∀ r : Fin 256, Carried κ (x.1 (ix2 r 0)) (x.2.1 (ix2 r 0)) (fun d : Fin 128 => x.2.2 (ix2 r d)) (L r) (A r)

/-- The weight of key `c` for query row `r`. -/
def weight (Q K : Fin 256 → Fin 128 → ℝ) (C : Fin 256 → ℝ) (r c : Fin 256) : ℝ :=
  Real.exp (∑ e, Q r e * K c e - C c)

section

variable {q : FVec Ideal S256x128 .bf16} {c0 : FVec Ideal S1x1 .f32} {kt vt v0 : Vec Ideal S1x256x128 .bf16}
  {ct : Vec Ideal S1x1x1x256 .f32} {Q K : Fin 256 → Fin 128 → ℝ} {V : Fin 256 → Fin 128 → EReal} {C : Fin 256 → ℝ} {γ : ℝ}

/-- A real score, as the loop's body computes it, stands for its weight. -/
theorem score_loop (hq : ∀ r e, q (ix2 r e) = ((Q r e : ℝ) : EReal)) (hk : ∀ c e, kt (ix3 0 c e) = ((K c e : ℝ) : EReal))
    (hc : ∀ c, ct (ix4 0 0 0 c) = ((C c : ℝ) : EReal)) (h0 : c0 (ix2 0 0) = ((γ : ℝ) : EReal)) (r c : Fin 256) :
    Score γ (k0_pay2 (F := Ideal) q c0 kt ct (ix2 r c)) (weight Q K C r c) := by
  refine .inr ⟨∑ e, Q r e * K c e - C c, ?_, rfl⟩
  pointwise [k0_pay2]
  rw [hc, h0, Finset.sum_congr rfl fun e _ => by rw [hq r e, hk c e], sum_mul_coe, ← EReal.coe_sub, ← EReal.coe_sub]
  congr 1; ring

/-- One trip of the loop: the carried rows take in the tile's keys. -/
theorem step (hq : ∀ r e, q (ix2 r e) = ((Q r e : ℝ) : EReal)) (hk : ∀ c e, kt (ix3 0 c e) = ((K c e : ℝ) : EReal))
    (hv : ∀ c e, vt (ix3 0 c e) = V c e)
    (hc : ∀ c, ct (ix4 0 0 0 c) = ((C c : ℝ) : EReal)) (h0 : c0 (ix2 0 0) = ((γ : ℝ) : EReal))
    {x : Carry} {L : Fin 256 → ℝ} {A : Fin 256 → Fin 128 → EReal} (hx : Rows γ x L A) :
    Rows γ (k0_pay3 q c0 x.1 kt ct, k0_pay6 q c0 x.1 x.2.1 kt ct, k0_pay7 q c0 x.1 x.2.2 kt ct vt)
      (fun r => L r + ∑ c, weight Q K C r c) (fun r d => A r d + ∑ c, ((weight Q K C r c : ℝ) : EReal) * V c d) := by
  intro r
  have h := (hx r).step (fun c => score_loop hq hk hc h0 r c) V
  have e3 : k0_pay3 q c0 x.1 kt ct (ix2 r 0)
      = max (x.1 (ix2 r 0)) (Finset.univ.fold max ⊥ fun c : Fin 256 => k0_pay2 q c0 kt ct (ix2 r c)) := by
    pointwise [k0_pay3, neg_inf]
  have e6 : k0_pay6 q c0 x.1 x.2.1 kt ct (ix2 r 0)
      = Ideal.exp (x.1 (ix2 r 0) - k0_pay3 q c0 x.1 kt ct (ix2 r 0)) * x.2.1 (ix2 r 0)
        + ∑ c : Fin 256, Ideal.exp (k0_pay2 q c0 kt ct (ix2 r c) - k0_pay3 q c0 x.1 kt ct (ix2 r 0)) := by
    pointwise [k0_pay6, k0_pay5, k0_pay4]
  have e7 : ∀ d : Fin 128, k0_pay7 q c0 x.1 x.2.2 kt ct vt (ix2 r d)
      = Ideal.exp (x.1 (ix2 r 0) - k0_pay3 q c0 x.1 kt ct (ix2 r 0)) * x.2.2 (ix2 r d)
        + ∑ c : Fin 256, Ideal.exp (k0_pay2 q c0 kt ct (ix2 r c) - k0_pay3 q c0 x.1 kt ct (ix2 r 0))
            * V c d := fun d => by
    pointwise [k0_pay7, k0_pay5, k0_pay4]
    exact congrArg _ (Finset.sum_congr rfl fun c _ => by rw [hv c d])
  rw [e3] at e6 e7
  show Carried γ (k0_pay3 q c0 x.1 kt ct (ix2 r 0)) (k0_pay6 q c0 x.1 x.2.1 kt ct (ix2 r 0))
    (fun d : Fin 128 => k0_pay7 q c0 x.1 x.2.2 kt ct vt (ix2 r d)) _ _
  rw [e3, e6, funext e7]
  exact h

/-- The first head's loop body is the second's. -/
theorem step_first (x : Carry) :
    ((k0_pay27 q c0 x.1 kt ct, k0_pay30 q c0 x.1 x.2.1 kt ct, k0_pay31 q c0 x.1 x.2.2 kt ct vt) : Carry)
      = (k0_pay3 q c0 x.1 kt ct, k0_pay6 q c0 x.1 x.2.1 kt ct, k0_pay7 q c0 x.1 x.2.2 kt ct vt) := rfl

/-- The query tile of the second head: the lanes of the first are zero. -/
theorem query_second {P : Fin 256 → Fin 128 → ℝ} (h : ∀ r e, v0 (ix3 0 r e) = ((P r e : ℝ) : EReal)) (r : Fin 256)
    (e : Fin 128) : k0_pay39 (F := Ideal) (k0_pay15 v0) (ix2 r e) = ((if 64 ≤ e.val then P r e else 0 : ℝ) : EReal) := by
  pointwise [k0_pay39, k0_pay15]
  rw [h r e]
  have := e.isLt
  have hm : IntOp.andi (IntOp.cmpi .sge (BitVec.ofNat 32 e.val) 64#32) (IntOp.cmpi .slt (BitVec.ofNat 32 e.val) 128#32)
      = if 64 ≤ e.val then 1#1 else 0#1 := by
    revert e; decide +kernel
  rw [hm]
  by_cases h6 : 64 ≤ e.val
  · rw [if_pos h6, if_pos h6]; rfl
  · rw [if_neg h6, if_neg h6]; rfl

/-- The query tile of the first head: the lanes of the second are zero. -/
theorem query_first {P : Fin 256 → Fin 128 → ℝ} (h : ∀ r e, v0 (ix3 0 r e) = ((P r e : ℝ) : EReal)) (r : Fin 256)
    (e : Fin 128) : k0_pay17 (F := Ideal) v0 (ix2 r e) = ((if e.val < 64 then P r e else 0 : ℝ) : EReal) := by
  pointwise [k0_pay17, k0_pay15]
  rw [h r e]
  have hm : IntOp.andi (IntOp.cmpi .sge (BitVec.ofNat 32 e.val) 0#32) (IntOp.cmpi .slt (BitVec.ofNat 32 e.val) 64#32)
      = if e.val < 64 then 1#1 else 0#1 := by
    revert e; decide +kernel
  rw [hm]
  by_cases h6 : e.val < 64
  · rw [if_pos h6, if_pos h6]; rfl
  · rw [if_neg h6, if_neg h6]; rfl

/-- The diagonal tile's scores: the loop's scores on and below the diagonal, `-∞` above it. -/
def diagScore (q : FVec Ideal S256x128 .bf16) (ct : Vec Ideal S1x1x1x256 .f32) (kt : Vec Ideal S1x256x128 .bf16) :
    FVec Ideal S256x256 .f32 :=
  select k0_pay16 (k0_pay2 q (k0_pay41 ct) kt ct) (broadcast S256x256 (Named.named κ "mask" 0xF149F2CA#32))

/-- The weights of the diagonal tile. -/
def diagWeight (Q K : Fin 256 → Fin 128 → ℝ) (C : Fin 256 → ℝ) (r c : Fin 256) : ℝ :=
  if c ≤ r then weight Q K C r c else 0

/-- The diagonal tile's scores stand for its weights: masked above the diagonal, real on and below it. -/
theorem score_diag (hq : ∀ r e, q (ix2 r e) = ((Q r e : ℝ) : EReal))
    (hk : ∀ c e, kt (ix3 0 c e) = ((K c e : ℝ) : EReal)) (hc : ∀ c, ct (ix4 0 0 0 c) = ((C c : ℝ) : EReal))
    (r c : Fin 256) : Score (C 0) (diagScore q ct kt (ix2 r c)) (diagWeight Q K C r c) := by
  have h0 : k0_pay41 (F := Ideal) ct (ix2 0 0) = ((C 0 : ℝ) : EReal) := by
    pointwise [k0_pay41, k0_pay40]; exact hc 0
  have e : diagScore q ct kt (ix2 r c)
      = if c.val ≤ r.val then k0_pay2 q (k0_pay41 ct) kt ct (ix2 r c) else ⊥ := by
    pointwise [diagScore, k0_pay16, κ, Named.named]
    simp (disch := word_cmp_side) only [hlo_ix]
    rfl
  rw [e]
  unfold diagWeight
  by_cases h : c ≤ r
  · rw [if_pos h, if_pos (Fin.le_def.1 h)]; exact score_loop hq hk hc h0 r c
  · rw [if_neg h, if_neg (fun h' => h (Fin.le_def.2 h'))]; exact .inl ⟨rfl, rfl⟩

/-- The diagonal element of the diagonal tile is never masked. -/
theorem diag_real (hq : ∀ r e, q (ix2 r e) = ((Q r e : ℝ) : EReal))
    (hk : ∀ c e, kt (ix3 0 c e) = ((K c e : ℝ) : EReal)) (hc : ∀ c, ct (ix4 0 0 0 c) = ((C c : ℝ) : EReal))
    (r : Fin 256) : ∃ c : Fin 256, ⊥ < diagScore q ct kt (ix2 r c) := by
  refine ⟨r, ?_⟩
  rcases score_diag hq hk hc r r with ⟨-, h⟩ | ⟨σ, h, -⟩
  · rw [diagWeight, if_pos (le_refl r)] at h; exact absurd h (Real.exp_pos _).ne'
  · rw [h]; exact EReal.bot_lt_coe _

/-- What the rows carry after the diagonal tile, given how the three vectors read at an element. -/
theorem init (hq : ∀ r e, q (ix2 r e) = ((Q r e : ℝ) : EReal))
    (hk : ∀ c e, kt (ix3 0 c e) = ((K c e : ℝ) : EReal))
    (hc : ∀ c, ct (ix4 0 0 0 c) = ((C c : ℝ) : EReal)) {x : Carry}
    (e3 : ∀ r : Fin 256, x.1 (ix2 r 0) = Finset.univ.fold max ⊥ fun c : Fin 256 => diagScore q ct kt (ix2 r c))
    (e6 : ∀ r : Fin 256, x.2.1 (ix2 r 0) = ∑ c : Fin 256, Ideal.exp (diagScore q ct kt (ix2 r c) - x.1 (ix2 r 0)))
    (e7 : ∀ (r : Fin 256) (d : Fin 128), x.2.2 (ix2 r d)
      = ∑ c : Fin 256, Ideal.exp (diagScore q ct kt (ix2 r c) - x.1 (ix2 r 0)) * V c d) :
    Rows (C 0) x (fun r => ∑ c, diagWeight Q K C r c) (fun r d => ∑ c, ((diagWeight Q K C r c : ℝ) : EReal) * V c d) := by
  intro r
  have h := Carried.init (fun c => score_diag hq hk hc r c) (diag_real hq hk hc r) V
  rw [funext (e7 r), e6 r, e3 r]
  exact h

/-- What the second head's rows carry after the diagonal tile. -/
theorem init_second (hq : ∀ r e, k0_pay39 (F := Ideal) (k0_pay15 v0) (ix2 r e) = ((Q r e : ℝ) : EReal))
    (hk : ∀ c e, kt (ix3 0 c e) = ((K c e : ℝ) : EReal)) (hv : ∀ c e, vt (ix3 0 c e) = V c e)
    (hc : ∀ c, ct (ix4 0 0 0 c) = ((C c : ℝ) : EReal)) :
    Rows (C 0) (k0_pay43 (k0_pay15 v0) k0_pay16 ct kt, k0_pay45 (k0_pay15 v0) k0_pay16 ct kt,
        k0_pay1 (k0_pay46 (k0_pay15 v0) k0_pay16 ct kt) vt)
      (fun r => ∑ c, diagWeight Q K C r c) (fun r d => ∑ c, ((diagWeight Q K C r c : ℝ) : EReal) * V c d) := by
  have es : k0_pay42 (F := Ideal) (k0_pay15 v0) k0_pay16 ct kt = diagScore (k0_pay39 (k0_pay15 v0)) ct kt := rfl
  refine init hq hk hc (fun r => ?_) (fun r => ?_) (fun r d => ?_)
  · rw [← es]; dsimp only; pointwise [k0_pay43, neg_inf]
  · rw [← es]; dsimp only; pointwise [k0_pay45, k0_pay44]
  · rw [← es]; dsimp only; pointwise [k0_pay1, k0_pay46, k0_pay44]
    exact Finset.sum_congr rfl fun c _ => by rw [hv c d]

/-- What the first head's rows carry after the diagonal tile. -/
theorem init_first (hq : ∀ r e, k0_pay17 (F := Ideal) v0 (ix2 r e) = ((Q r e : ℝ) : EReal))
    (hk : ∀ c e, kt (ix3 0 c e) = ((K c e : ℝ) : EReal)) (hv : ∀ c e, vt (ix3 0 c e) = V c e)
    (hc : ∀ c, ct (ix4 0 0 0 c) = ((C c : ℝ) : EReal)) :
    Rows (C 0) (k0_pay21 v0 ct kt, k0_pay23 v0 ct kt, k0_pay25 (k0_pay24 v0 ct kt) vt)
      (fun r => ∑ c, diagWeight Q K C r c) (fun r d => ∑ c, ((diagWeight Q K C r c : ℝ) : EReal) * V c d) := by
  have es : k0_pay20 (F := Ideal) v0 ct kt = diagScore (k0_pay17 v0) ct kt := rfl
  refine init hq hk hc (fun r => ?_) (fun r => ?_) (fun r d => ?_)
  · rw [← es]; dsimp only; pointwise [k0_pay21, neg_inf]
  · rw [← es]; dsimp only; pointwise [k0_pay23, k0_pay22]
  · rw [← es]; dsimp only; pointwise [k0_pay25, k0_pay24, k0_pay22]
    exact Finset.sum_congr rfl fun c _ => by rw [hv c d]

end

/-- The stored block: each head's numerators over its denominators, the first head's lanes from the first. -/
theorem merge (v49 : FVec Ideal S256x128 .f32) (l : FVec Ideal S256x1 .f32) (a : FVec Ideal S256x128 .f32) (r : Fin 256)
    (d : Fin 128) : k0_pay14 (F := Ideal) v49 l a (ix3 0 r d)
      = if d.val < 64 then v49 (ix2 r d) else Ideal.div (a (ix2 r d)) (l (ix2 r 0)) := by
  pointwise [k0_pay14]
  simp (disch := word_cmp_side) only [hlo_ix]

/-- The first head's quotient. -/
theorem quotient (l : FVec Ideal S256x1 .f32) (a : FVec Ideal S256x128 .f32) (r : Fin 256) (d : Fin 128) :
    k0_pay38 (F := Ideal) l a (ix2 r d) = Ideal.div (a (ix2 r d)) (l (ix2 r 0)) := by
  pointwise [k0_pay38]

end Cert.FoxIdeal.Tile

end
-- ==== Proof.FoxLoop.lean ====
/-
  The forgetting attention's loops over the earlier key tiles: what the carried rows stand for after any number of trips.
-/
module

public import proofs.«01_k».proof.Proof.Gen.FoxIdeal.Value
public import Idealize.ShloMosaic.Lib.Pipeline.ValueKit
public import Idealize.ShloMosaic.Lib.LoopRemainder
public import proofs.«01_k».proof.Proof.FoxTile

@[expose] public section

set_option maxRecDepth 16384

noncomputable section

namespace Cert.FoxIdeal.Tile

open Cert.FoxIdeal Cert.FoxIdeal.Gen Idealize.ShloMosaic Idealize.ShloMosaic.TcCoe Idealize.SL.Sem Cert.Attn
open Idealize.ShloMosaic.Pipeline (Dat)

/-- The loop over the earlier tiles makes as many trips as the query tile's number. -/
theorem trips_eq : ∀ n : Fin 16, Scf.trips (0#32) (Scalar.addi (0#32)
    (Scalar.muli (Scalar.divsi (Scalar.subi (BitVec.ofNat 32 n.val) 0#32) 1#32) 1#32)) 1#32 = n.val := by
  decide +kernel

/-- The weight of key `k` for query row `r`, before the causal mask. -/
def fullWeight (Q : Fin 256 → Fin 128 → ℝ) (K : Fin 4096 → Fin 128 → ℝ) (C : Fin 4096 → ℝ) (r : Fin 256)
    (k : Fin 4096) : ℝ := Real.exp (∑ e, Q r e * K k e - C k)

/-- The denominators of the first `n` tiles. -/
def headSum (Q : Fin 256 → Fin 128 → ℝ) (K : Fin 4096 → Fin 128 → ℝ) (C : Fin 4096 → ℝ) (n : ℕ) (r : Fin 256) : ℝ :=
  ∑ j ∈ Finset.range n, ∑ c : Fin 256,
    if h : j * 256 + c.val < 4096 then fullWeight Q K C r ⟨j * 256 + c.val, h⟩ else 0

/-- The numerators of the first `n` tiles. -/
def headVal (Q : Fin 256 → Fin 128 → ℝ) (K : Fin 4096 → Fin 128 → ℝ) (V : Fin 4096 → Fin 128 → EReal) (C : Fin 4096 → ℝ) (n : ℕ) (r : Fin 256)
    (d : Fin 128) : EReal :=
  ∑ j ∈ Finset.range n, ∑ c : Fin 256,
    if h : j * 256 + c.val < 4096 then
      ((fullWeight Q K C r ⟨j * 256 + c.val, h⟩ : ℝ) : EReal) * V ⟨j * 256 + c.val, h⟩ d else 0

/-- Row `c` of tile `j`, as a position among all keys. -/
def pos (j : ℕ) (hj : j < 16) (c : Fin 256) : Fin 4096 := ⟨j * 256 + c.val, by have := c.isLt; omega⟩

section

variable {Q : Fin 256 → Fin 128 → ℝ} {K : Fin 4096 → Fin 128 → ℝ} {V : Fin 4096 → Fin 128 → EReal} {C : Fin 4096 → ℝ}

/-- One more key tile adds its weights. -/
theorem headSum_succ (n : ℕ) (hn : n < 16) (r : Fin 256) :
    headSum Q K C (n + 1) r = headSum Q K C n r + ∑ c, weight Q (fun c => K (pos n hn c)) (fun c => C (pos n hn c)) r c := by
  unfold headSum
  rw [Finset.sum_range_succ]
  congr 1
  exact Finset.sum_congr rfl fun c _ => dif_pos (pos n hn c).isLt

/-- One more key tile adds its weighted values. -/
theorem headVal_succ (n : ℕ) (hn : n < 16) (r : Fin 256) (d : Fin 128) :
    headVal Q K V C (n + 1) r d = headVal Q K V C n r d
      + ∑ c, ((weight Q (fun c => K (pos n hn c)) (fun c => C (pos n hn c)) r c : ℝ) : EReal) * V (pos n hn c) d := by
  unfold headVal
  rw [Finset.sum_range_succ]
  congr 1
  exact Finset.sum_congr rfl fun c _ => dif_pos (pos n hn c).isLt

end

/-- The second head's loop: after `n` trips the rows carry the initial sums and those of the first `n` tiles. -/
theorem loop_t3 (𝒱 : Variants) (c : Dev nD) (bd : Option 𝒱.V) (i : grid0.Coords) (arg3 : Memref sig .tc .vmem S1x256x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x1x2x4096 .f32) (harg6 : arg6.IsWhole) (arg7 : Memref sig .tc .vmem S1x256x128 .bf16) (harg7 : arg7.IsWhole)
    (v57 : FVec Ideal S256x128 .bf16) (v61 : FVec Ideal S1x1 .f32) (x1 x2 : Vec Ideal S1x4096x128 .bf16) (x3 : Vec Ideal S1x1x2x4096 .f32)
    {Q : Fin 256 → Fin 128 → ℝ} {K : Fin 4096 → Fin 128 → ℝ} {V : Fin 4096 → Fin 128 → EReal} {C : Fin 4096 → ℝ} {γ : ℝ}
    (hq : ∀ r e, v57 (ix2 r e) = ((Q r e : ℝ) : EReal)) (h0 : v61 (ix2 0 0) = ((γ : ℝ) : EReal))
    (hk : ∀ k e, x1 (ix3 0 k e) = ((K k e : ℝ) : EReal)) (hv : ∀ k e, x2 (ix3 0 k e) = V k e)
    (hc : ∀ k, x3 (ix4 0 0 1 k) = ((C k : ℝ) : EReal))
    (init : Carry) {L : Fin 256 → ℝ} {A : Fin 256 → Fin 128 → EReal} (hi : Rows γ init L A) :
    ∀ n : ℕ, n ≤ (i 2).val → Rows γ (st_k0_t3 (F := Ideal) 𝒱 c bd i arg3 harg3 arg4 harg4 arg5 harg5 arg6 harg6 arg7 harg7 v57 v61 (harg4.unread x1) (harg5.unread x2) (harg6.unread x3) init n)
      (fun r => L r + headSum Q K C n r) (fun r d => A r d + headVal Q K V C n r d) := by
  intro n
  induction n with
  | zero =>
    intro _
    have e : (fun r => L r + headSum Q K C 0 r) = L := funext fun r => by simp [headSum]
    have e' : (fun r d => A r d + headVal Q K V C 0 r d) = A := funext fun r => funext fun d => by simp [headVal]
    rw [st_k0_t3_zero, e, e']
    exact hi
  | succ n ih =>
    intro hn
    have h16 : (i 2).val < 16 := (i 2).isLt
    have hn16 : n < 16 := by omega
    have ht : n < (k0_t3_loop i).trips := by
      have := trips_eq ⟨(i 2).val, h16⟩
      show n < Scf.trips _ _ _
      rw [this]; exact hn
    replace ih := ih (by omega)
    rw [st_k0_t3_succ (F := Ideal) 𝒱 c bd i arg3 harg3 arg4 harg4 arg5 harg5 arg6 harg6 arg7 harg7 v57 v61 (harg4.unread x1) (harg5.unread x2) (harg6.unread x3) init ⟨n, ht⟩]
    show Rows γ ((trip_k0_t3 (F := Ideal) 𝒱 c bd i arg3 harg3 arg4 harg4 arg5 harg5 arg6 harg6 arg7 harg7 v57 v61 (harg4.unread x1) (harg5.unread x2) (harg6.unread x3) ⟨n, ht⟩).1 (st_k0_t3 (F := Ideal) 𝒱 c bd i arg3 harg3 arg4 harg4 arg5 harg5 arg6 harg6 arg7 harg7 v57 v61 (harg4.unread x1) (harg5.unread x2) (harg6.unread x3) init n)) _ _
    generalize st_k0_t3 (F := Ideal) 𝒱 c bd i arg3 harg3 arg4 harg4 arg5 harg5 arg6 harg6 arg7 harg7 v57 v61 (harg4.unread x1) (harg5.unread x2) (harg6.unread x3) init n = acc at ih ⊢
    have e : (fun r => L r + headSum Q K C (n + 1) r) = fun r => (L r + headSum Q K C n r)
        + ∑ c, weight Q (fun c => K (pos n hn16 c)) (fun c => C (pos n hn16 c)) r c := funext fun r => by
      rw [headSum_succ n hn16, add_assoc]
    have e' : (fun r d => A r d + headVal Q K V C (n + 1) r d) = fun r d => (A r d + headVal Q K V C n r d)
        + ∑ c, ((weight Q (fun c => K (pos n hn16 c)) (fun c => C (pos n hn16 c)) r c : ℝ) : EReal) * V (pos n hn16 c) d :=
      funext fun r => funext fun d => by rw [headVal_succ n hn16, add_assoc]
    rw [e, e']
    unfold trip_k0_t3
    dsimp only
    frame_out
    refine (step hq ?_ ?_ ?_ h0 ih)
    · intro c e
      pointwise
      rw [← hk]
      congr 1
      blk_ext [pos, k0_off8_eq]
    · intro c e
      pointwise
      rw [← hv]
      congr 1
      blk_ext [pos, k0_off8_eq]
    · intro c
      pointwise
      rw [← hc]
      congr 1
      blk_ext [pos, k0_off9_eq]

/-- The first head's loop: after `n` trips the rows carry the initial sums and those of the first `n` tiles. -/
theorem loop_t1 (𝒱 : Variants) (c : Dev nD) (bd : Option 𝒱.V) (i : grid0.Coords) (arg3 : Memref sig .tc .vmem S1x256x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x1x2x4096 .f32) (harg6 : arg6.IsWhole) (arg7 : Memref sig .tc .vmem S1x256x128 .bf16) (harg7 : arg7.IsWhole)
    (arg2 : BitVec 32) (v1 : FVec Ideal S256x128 .bf16) (v3 : BitVec 32) (v6 : IVec S256x256 1) (v14 : FVec Ideal S256x128 .bf16) (v18 : FVec Ideal S1x1 .f32) (v30 v35 : FVec Ideal S256x1 .f32) (v36 : FVec Ideal S256x256 .bf16) (v38 : Vec Ideal S1x256x128 .bf16) (x1 x2 : Vec Ideal S1x4096x128 .bf16) (x3 : Vec Ideal S1x1x2x4096 .f32)
    {Q : Fin 256 → Fin 128 → ℝ} {K : Fin 4096 → Fin 128 → ℝ} {V : Fin 4096 → Fin 128 → EReal} {C : Fin 4096 → ℝ} {γ : ℝ}
    (hq : ∀ r e, v14 (ix2 r e) = ((Q r e : ℝ) : EReal)) (h0 : v18 (ix2 0 0) = ((γ : ℝ) : EReal))
    (hk : ∀ k e, x1 (ix3 0 k e) = ((K k e : ℝ) : EReal)) (hv : ∀ k e, x2 (ix3 0 k e) = V k e)
    (hc : ∀ k, x3 (ix4 0 0 0 k) = ((C k : ℝ) : EReal))
    (init : Carry) {L : Fin 256 → ℝ} {A : Fin 256 → Fin 128 → EReal} (hi : Rows γ init L A) :
    ∀ n : ℕ, n ≤ (i 2).val → Rows γ (st_k0_t1 (F := Ideal) 𝒱 c bd i arg3 harg3 arg4 harg4 arg5 harg5 arg6 harg6 arg7 harg7 arg2 v1 v3 v6 v14 v18 v30 v35 v36 v38 (harg4.unread x1) (harg5.unread x2) (harg6.unread x3) init n)
      (fun r => L r + headSum Q K C n r) (fun r d => A r d + headVal Q K V C n r d) := by
  intro n
  induction n with
  | zero =>
    intro _
    have e : (fun r => L r + headSum Q K C 0 r) = L := funext fun r => by simp [headSum]
    have e' : (fun r d => A r d + headVal Q K V C 0 r d) = A := funext fun r => funext fun d => by simp [headVal]
    rw [st_k0_t1_zero, e, e']
    exact hi
  | succ n ih =>
    intro hn
    have h16 : (i 2).val < 16 := (i 2).isLt
    have hn16 : n < 16 := by omega
    have ht : n < (k0_t1_loop i).trips := by
      have := trips_eq ⟨(i 2).val, h16⟩
      show n < Scf.trips _ _ _
      rw [this]; exact hn
    replace ih := ih (by omega)
    rw [st_k0_t1_succ (F := Ideal) 𝒱 c bd i arg3 harg3 arg4 harg4 arg5 harg5 arg6 harg6 arg7 harg7 arg2 v1 v3 v6 v14 v18 v30 v35 v36 v38 (harg4.unread x1) (harg5.unread x2) (harg6.unread x3) init ⟨n, ht⟩]
    show Rows γ ((trip_k0_t1 (F := Ideal) 𝒱 c bd i arg3 harg3 arg4 harg4 arg5 harg5 arg6 harg6 arg7 harg7 arg2 v1 v3 v6 v14 v18 v30 v35 v36 v38 (harg4.unread x1) (harg5.unread x2) (harg6.unread x3) ⟨n, ht⟩).1 (st_k0_t1 (F := Ideal) 𝒱 c bd i arg3 harg3 arg4 harg4 arg5 harg5 arg6 harg6 arg7 harg7 arg2 v1 v3 v6 v14 v18 v30 v35 v36 v38 (harg4.unread x1) (harg5.unread x2) (harg6.unread x3) init n)) _ _
    generalize st_k0_t1 (F := Ideal) 𝒱 c bd i arg3 harg3 arg4 harg4 arg5 harg5 arg6 harg6 arg7 harg7 arg2 v1 v3 v6 v14 v18 v30 v35 v36 v38 (harg4.unread x1) (harg5.unread x2) (harg6.unread x3) init n = acc at ih ⊢
    have e : (fun r => L r + headSum Q K C (n + 1) r) = fun r => (L r + headSum Q K C n r)
        + ∑ c, weight Q (fun c => K (pos n hn16 c)) (fun c => C (pos n hn16 c)) r c := funext fun r => by
      rw [headSum_succ n hn16, add_assoc]
    have e' : (fun r d => A r d + headVal Q K V C (n + 1) r d) = fun r d => (A r d + headVal Q K V C n r d)
        + ∑ c, ((weight Q (fun c => K (pos n hn16 c)) (fun c => C (pos n hn16 c)) r c : ℝ) : EReal) * V (pos n hn16 c) d :=
      funext fun r => funext fun d => by rw [headVal_succ n hn16, add_assoc]
    rw [e, e']
    unfold trip_k0_t1
    dsimp only
    frame_out
    rw [step_first]
    refine (step hq ?_ ?_ ?_ h0 ih)
    · intro c e
      pointwise
      rw [← hk]
      congr 1
      blk_ext [pos, k0_off3_eq]
    · intro c e
      pointwise
      rw [← hv]
      congr 1
      blk_ext [pos, k0_off3_eq]
    · intro c
      pointwise
      rw [← hc]
      congr 1
      blk_ext [pos, k0_off4_eq]

/-- The causal weight of key `k` for query row `r` of query tile `n`. -/
def causal (Q : Fin 256 → Fin 128 → ℝ) (K : Fin 4096 → Fin 128 → ℝ) (C : Fin 4096 → ℝ) (n : ℕ) (r : Fin 256)
    (k : Fin 4096) : ℝ := if k.val ≤ n * 256 + r.val then fullWeight Q K C r k else 0

/-- The row's diagonal tile and the tiles before it make up the sum over all keys, of anything that is zero at weight
    zero. -/
theorem total {M : Type} [AddCommMonoid M] (f : ℝ → Fin 4096 → M) (h0 : ∀ k, f 0 k = 0) (Q : Fin 256 → Fin 128 → ℝ)
    (K : Fin 4096 → Fin 128 → ℝ) (C : Fin 4096 → ℝ) (n : ℕ) (hn : n < 16) (r : Fin 256) :
    ∑ k, f (causal Q K C n r k) k
      = ∑ c, f (diagWeight Q (fun c => K (pos n hn c)) (fun c => C (pos n hn c)) r c) (pos n hn c)
        + ∑ j ∈ Finset.range n, ∑ c : Fin 256, if h : j * 256 + c.val < 4096 then
            f (fullWeight Q K C r ⟨j * 256 + c.val, h⟩) ⟨j * 256 + c.val, h⟩ else 0 := by
  rw [sum_tiles_le (J := 16) (T := 256) (by decide) _ n hn (fun k hk => by
    rw [causal, if_neg (by have := r.isLt; omega), h0])]
  congr 1
  · refine Finset.sum_congr rfl fun c _ => ?_
    show f (causal Q K C n r (pos n hn c)) (pos n hn c) = _
    congr 1
    unfold causal diagWeight
    by_cases h : c ≤ r
    · have h' : c.val ≤ r.val := h
      rw [if_pos h, if_pos (by show n * 256 + c.val ≤ _; omega)]; rfl
    · have h' : ¬ c.val ≤ r.val := h
      rw [if_neg h, if_neg (by show ¬ (n * 256 + c.val ≤ _); omega)]
  · refine Finset.sum_congr rfl fun j hj => Finset.sum_congr rfl fun c _ => ?_
    have hj' := Finset.mem_range.1 hj
    have h : j * 256 + c.val < 4096 := by have := c.isLt; omega
    rw [dif_pos h, dif_pos h, causal, if_pos (by show j * 256 + c.val ≤ _; have := c.isLt; omega)]

/-- The denominators: the sum of the causal weights. -/
theorem total_sum (Q : Fin 256 → Fin 128 → ℝ) (K : Fin 4096 → Fin 128 → ℝ) (C : Fin 4096 → ℝ) (n : ℕ) (hn : n < 16)
    (r : Fin 256) :
    ∑ c, diagWeight Q (fun c => K (pos n hn c)) (fun c => C (pos n hn c)) r c + headSum Q K C n r
      = ∑ k, causal Q K C n r k :=
  (total (fun w _ => w) (fun _ => rfl) Q K C n hn r).symm

/-- A row's causal weights have a positive sum: the row sees itself. -/
theorem causal_pos (Q : Fin 256 → Fin 128 → ℝ) (K : Fin 4096 → Fin 128 → ℝ) (C : Fin 4096 → ℝ) (n : ℕ) (hn : n < 16)
    (r : Fin 256) : 0 < ∑ k, causal Q K C n r k := by
  refine Finset.sum_pos' (fun k _ => ?_) ⟨pos n hn r, Finset.mem_univ _, ?_⟩
  · unfold causal; split_ifs
    · exact (Real.exp_pos _).le
    · exact le_refl _
  · rw [causal, if_pos (by show n * 256 + r.val ≤ _; exact le_refl _)]; exact Real.exp_pos _

/-- From the carried rows after all tiles: the quotient is the causal mean of the values. -/
theorem mean_of_rows {γ : ℝ} {x : Carry} {Q : Fin 256 → Fin 128 → ℝ} {K : Fin 4096 → Fin 128 → ℝ} {V : Fin 4096 → Fin 128 → EReal}
    {C : Fin 4096 → ℝ} {n : ℕ} (hn : n < 16)
    (hx : Rows γ x
      (fun r => ∑ c, diagWeight Q (fun c => K (pos n hn c)) (fun c => C (pos n hn c)) r c + headSum Q K C n r)
      (fun r d => ∑ c, ((diagWeight Q (fun c => K (pos n hn c)) (fun c => C (pos n hn c)) r c : ℝ) : EReal) * V (pos n hn c) d
        + headVal Q K V C n r d)) (r : Fin 256) (d : Fin 128) :
    Ideal.div (x.2.2 (ix2 r d)) (x.2.1 (ix2 r 0))
      = Ideal.div (∑ k, ((causal Q K C n r k : ℝ) : EReal) * V k d) ((∑ k, causal Q K C n r k : ℝ) : EReal) := by
  have h := hx r
  dsimp only at h
  rw [total_sum] at h
  rw [h.div (causal_pos Q K C n hn r) d, total (fun w k => ((w : ℝ) : EReal) * V k d) (fun k => by rw [EReal.coe_zero, zero_mul]) Q K C n hn r]
  rfl

end Cert.FoxIdeal.Tile

end
-- ==== Proof.FoxPoint.lean ====
/-
  The forgetting attention's output tile at one point: every element is the causal mean of the values.
-/
module

public import proofs.«01_k».proof.Proof.FoxLoop

@[expose] public section

set_option maxRecDepth 16384

noncomputable section

namespace Cert.FoxIdeal.Tile

open Cert.FoxIdeal Cert.FoxIdeal.Gen Idealize.ShloMosaic Idealize.ShloMosaic.TcCoe Idealize.SL.Sem Cert.Attn
open Idealize.ShloMosaic.Pipeline (Dat)

/-- The query rows of head `h`: the other head's lanes are zero. -/
def headQ (P : Fin 256 → Fin 128 → ℝ) (h : Fin 2) (r : Fin 256) (e : Fin 128) : ℝ :=
  if h = 0 then (if e.val < 64 then P r e else 0) else (if 64 ≤ e.val then P r e else 0)

/-- The tile's element at row `r`, lane `d`: the causal mean of the values of the lane's head. -/
theorem out_apply (c : Dev nD) (i : grid0.Coords) (arg3 : Memref sig .tc .vmem S1x256x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x1x2x4096 .f32) (harg6 : arg6.IsWhole) (arg7 : Memref sig .tc .vmem S1x256x128 .bf16) (harg7 : arg7.IsWhole)
    (x0 : Vec Ideal S1x256x128 .bf16) (x1 x2 : Vec Ideal S1x4096x128 .bf16) (x3 : Vec Ideal S1x1x2x4096 .f32)
    {P : Fin 256 → Fin 128 → ℝ} {K : Fin 4096 → Fin 128 → ℝ} {V : Fin 4096 → Fin 128 → EReal} {C : Fin 2 → Fin 4096 → ℝ}
    (hq : ∀ r e, x0 (ix3 0 r e) = ((P r e : ℝ) : EReal))
    (hk : ∀ k e, x1 (ix3 0 k e) = ((K k e : ℝ) : EReal)) (hv : ∀ k e, x2 (ix3 0 k e) = V k e)
    (hc : ∀ h k, x3 (ix4 0 0 h k) = ((C h k : ℝ) : EReal)) (r : Fin 256) (d : Fin 128) (h : Fin 2)
    (hh : h.val = d.val / 64) :
    out0_A_4 (F := Ideal) c i arg3 harg3 arg4 harg4 arg5 harg5 arg6 harg6 arg7 harg7 x0 x1 x2 x3 (ix3 0 r d)
      = Ideal.div (∑ k, ((causal (headQ P h) K (C h) (i 2).val r k : ℝ) : EReal) * V k d) ((∑ k, causal (headQ P h) K (C h) (i 2).val r k : ℝ) : EReal) := by
  have h16 : (i 2).val < 16 := (i 2).isLt
  have hd := d.isLt
  frame_out
  rw [merge]
  by_cases h6 : d.val < 64
  · obtain rfl : h = 0 := Fin.ext (by show h.val = 0; omega)
    have hQ : ∀ r e, k0_pay17 (F := Ideal) x0 (ix2 r e) = ((headQ P 0 r e : ℝ) : EReal) := fun r e => by
      rw [headQ, if_pos rfl]; exact query_first hq r e
    rw [if_pos h6, quotient, Scf.rem_trips, st_k0_t2_zero]
    refine mean_of_rows (γ := C 0 (pos (i 2).val h16 0)) h16 ?_ r d
    rw [trips_eq ⟨(i 2).val, h16⟩]
    refine loop_t1 _ c _ i arg3 harg3 arg4 harg4 arg5 harg5 arg6 harg6 arg7 harg7 _ _ _ _ _ _ _ _ _ _ x1 x2 x3 hQ ?_ hk hv (hc 0) _ ?_ _ (le_refl _)
    · pointwise [k0_pay19, k0_pay18]
      rw [← hc]
      congr 1
      blk_ext [pos, k0_off1_eq]
    · refine init_first (Q := headQ P 0) (K := fun c => K (pos (i 2).val h16 c)) (V := fun c => V (pos (i 2).val h16 c))
        (C := fun c => C 0 (pos (i 2).val h16 c)) hQ (fun c e => ?_) (fun c e => ?_) (fun c => ?_)
      · pointwise
        rw [← hk]
        congr 1
        blk_ext [pos, k0_off2_eq]
      · pointwise
        rw [← hv]
        congr 1
        blk_ext [pos, k0_off2_eq]
      · pointwise
        rw [← hc]
        congr 1
        blk_ext [pos, k0_off1_eq]
  · obtain rfl : h = 1 := Fin.ext (by show h.val = 1; omega)
    have hQ : ∀ r e, k0_pay39 (F := Ideal) (k0_pay15 x0) (ix2 r e) = ((headQ P 1 r e : ℝ) : EReal) := fun r e => by
      rw [headQ, if_neg (by decide)]; exact query_second hq r e
    rw [if_neg h6, Scf.rem_trips, st_k0_t4_zero]
    refine mean_of_rows (γ := C 1 (pos (i 2).val h16 0)) h16 ?_ r d
    rw [trips_eq ⟨(i 2).val, h16⟩]
    refine loop_t3 _ c _ i arg3 harg3 arg4 harg4 arg5 harg5 arg6 harg6 arg7 harg7 _ _ x1 x2 x3 hQ ?_ hk hv (hc 1) _ ?_ _ (le_refl _)
    · pointwise [k0_pay41, k0_pay40]
      rw [← hc]
      congr 1
      blk_ext [pos, k0_off7_eq]
    · refine init_second (Q := headQ P 1) (K := fun c => K (pos (i 2).val h16 c)) (V := fun c => V (pos (i 2).val h16 c))
        (C := fun c => C 1 (pos (i 2).val h16 c)) hQ (fun c e => ?_) (fun c e => ?_) (fun c => ?_)
      · pointwise
        rw [← hk]
        congr 1
        blk_ext [pos, k0_off2_eq]
      · pointwise
        rw [← hv]
        congr 1
        blk_ext [pos, k0_off2_eq]
      · pointwise
        rw [← hc]
        congr 1
        blk_ext [pos, k0_off7_eq]

end Cert.FoxIdeal.Tile

end
-- ==== Proof.FoxSpec.lean ====
/-
  Forgetting attention with real scores: what both programs compute, element by element.
-/
module

public import proofs.«01_k».proof.Proof.Online

@[expose] public section

noncomputable section

namespace Cert.Attn

/-- The weight of key position `k` for query position `p` in head `h` of batch row `b`: zero above the diagonal, else
    the exponential of the query's product with the key, less the accumulated gate at the key. The query sits in lanes
    3584 onwards of `X`, the key in lanes 4096 onwards, 64 lanes a head; `G` is the accumulated gate. -/
def foxWeight (X : Fin 4 → Fin 4096 → Fin 9728 → ℝ) (G : Fin 4 → Fin 4096 → Fin 8 → ℝ) (b : Fin 4) (p : Fin 4096)
    (h : Fin 8) (k : Fin 4096) : ℝ :=
  if k.val ≤ p.val then
    Real.exp (∑ e : Fin 64, X b p ⟨3584 + (64 * h.val + e.val), by omega⟩ * X b k ⟨4096 + (64 * h.val + e.val), by omega⟩
      - G b k h)
  else 0

/-- The weighted mean of the values `W` in lane `f` of the output; the values may be any extended reals. -/
def foxMean (X : Fin 4 → Fin 4096 → Fin 9728 → ℝ) (G : Fin 4 → Fin 4096 → Fin 8 → ℝ)
    (W : Fin 4 → Fin 4096 → Fin 512 → EReal) (b : Fin 4) (p : Fin 4096) (f : Fin 512) : EReal :=
  Idealize.ShloMosaic.Ideal.div (∑ k, ((foxWeight X G b p ⟨f.val / 64, by omega⟩ k : ℝ) : EReal) * W b k f)
    ((∑ k, foxWeight X G b p ⟨f.val / 64, by omega⟩ k : ℝ) : EReal)

end Cert.Attn

end
-- ==== Proof.FoxFinal.lean ====
/-
  The forgetting attention's result array: every element is the weighted mean of the values.
-/
module

public import proofs.«01_k».proof.Proof.FoxPoint
public import proofs.«01_k».proof.Proof.FoxSpec

@[expose] public section

set_option maxRecDepth 16384

noncomputable section

namespace Cert.FoxIdeal.Tile

open Cert.FoxIdeal Cert.FoxIdeal.Gen Idealize.ShloMosaic Idealize.ShloMosaic.TcCoe Idealize.SL.Sem Cert.Attn
open Idealize.ShloMosaic.Pipeline (Dat)

/-- Which blocks a point works on, in closed form. -/
theorem idx : ∀ t : Fin cfg0.N,
    win0_0.index t = ![t.val / 64, t.val % 16, 28 + t.val / 16 % 4]
    ∧ win0_1.index t = ![t.val / 64, 0, 32 + t.val / 16 % 4]
    ∧ win0_2.index t = ![t.val / 64, 0, 36 + t.val / 16 % 4]
    ∧ win0_3.index t = ![t.val / 64, t.val / 16 % 4, 0, 0]
    ∧ win0_4.index t = ![t.val / 64, t.val % 16, t.val / 16 % 4]
    ∧ (grid0.coords t 2).val = t.val % 16 := (by decide +kernel : ∀ t : Fin grid0.N, _)

/-- The causal weights of a tile's row, over the block's lanes, are the weights of the specification. -/
theorem causal_eq (X : Fin 4 → Fin 4096 → Fin 9728 → ℝ) (G : Fin 4 → Fin 4096 → Fin 8 → ℝ) (b : Fin 4) (g : Fin 4)
    (n : ℕ) (hn : n < 16) (h : Fin 2) (r : Fin 256) (k : Fin 4096) :
    causal (headQ (fun r e => X b (pos n hn r) ⟨3584 + (128 * g.val + e.val), by omega⟩) h)
      (fun k e => X b k ⟨4096 + (128 * g.val + e.val), by omega⟩) (fun k => G b k ⟨2 * g.val + h.val, by omega⟩) n r k
    = foxWeight X G b (pos n hn r) ⟨2 * g.val + h.val, by omega⟩ k := by
  unfold causal foxWeight
  refine ite_congr rfl (fun _ => ?_) fun _ => rfl
  unfold fullWeight
  congr 2
  obtain rfl | rfl : h = 0 ∨ h = 1 := by omega
  · simp only [headQ, if_pos, ite_mul, zero_mul]
    rw [sum_lanes_low]
    refine Finset.sum_congr rfl fun e _ => ?_
    congr 2 <;> (apply Fin.ext; show _ + _ = _ + _; simp; omega)
  · simp only [headQ, if_neg (by decide : ¬ (1 : Fin 2) = 0), ite_mul, zero_mul]
    rw [sum_lanes_high]
    refine Finset.sum_congr rfl fun e _ => ?_
    congr 2 <;> (apply Fin.ext; show _ + _ = _ + _; simp; omega)

variable (m : (ℓ : Loc nD τ sig) → Buf (Elt Ideal) ℓ)

/-- The result array, when the queries, the keys and the accumulated gates are real. -/
theorem final (c : Dev nD) (X : Fin 4 → Fin 4096 → Fin 9728 → ℝ) (G : Fin 4 → Fin 4096 → Fin 8 → ℝ)
    (W : Fin 4 → Fin 4096 → Fin 512 → EReal)
    (hX : ∀ b p (f : Fin 9728), 3584 ≤ f.val → f.val < 4608 →
      (m ((c : Thread nD τ).loc main_arg0) : FVec Ideal S4x4096x9728 .bf16) (ix3 b p f) = ((X b p f : ℝ) : EReal))
    (hW : ∀ b k (f : Fin 512), (m ((c : Thread nD τ).loc main_arg0) : FVec Ideal S4x4096x9728 .bf16)
      (ix3 b k ⟨4608 + f.val, by omega⟩) = W b k f)
    (hG : ∀ b p h, (m ((c : Thread nD τ).loc main_arg1) : FVec Ideal S4x4096x8 .f32) (ix3 b p h) = ((G b p h : ℝ) : EReal)) :
    (dats m 0 c).arrAt 4 (cfgs 0).N
      = (fun y : S4x4096x512.Idx => foxMean X G W (y 0) (y 1) (y 2) : FVec Ideal S4x4096x512 .bf16) := by
  refine (dats m 0 c).arrAt_eq_of_covers 4 _ (by decide +kernel) fun t _ y => ?_
  obtain ⟨i0, i1, i2, i3, i4, i5⟩ := idx t
  have ht : t.val < 256 := t.isLt
  rw [after0_4]
  unfold outsAt0
  blk_simp
  idx_vars y
  obtain rfl : y0 = 0 := Subsingleton.elim _ _
  have hn : t.val % 16 < 16 := by omega
  obtain ⟨b, hb⟩ : ∃ b : Fin 4, b.val = t.val / 64 := ⟨⟨t.val / 64, by omega⟩, rfl⟩
  obtain ⟨g, hg⟩ : ∃ g : Fin 4, g.val = t.val / 16 % 4 := ⟨⟨t.val / 16 % 4, by omega⟩, rfl⟩
  refine (out_apply c _ _ _ _ _ _ _ _ _ _ _ _ _ _ _
    (P := fun r e => X b (pos (t.val % 16) hn r) ⟨3584 + (128 * g.val + e.val), by omega⟩)
    (K := fun k e => X b k ⟨4096 + (128 * g.val + e.val), by omega⟩)
    (V := fun k e => W b k ⟨128 * g.val + e.val, by omega⟩)
    (C := fun h k => G b k ⟨2 * g.val + h.val, by omega⟩)
    (fun r e => ?_) (fun k e => ?_) (fun k e => ?_) (fun h k => ?_) y1 y2 ⟨y2.val / 64, by omega⟩ rfl).trans ?_
  · refine Eq.trans ?_ (hX b (pos (t.val % 16) hn r) ⟨3584 + (128 * g.val + e.val), by omega⟩ (by show _ ≤ _ + _; omega)
      (by show _ + _ < _; omega))
    blk_point [iblk, V, i0, pos, hb, hg]
  · refine Eq.trans ?_ (hX b k ⟨4096 + (128 * g.val + e.val), by omega⟩ (by show _ ≤ _ + _; omega)
      (by show _ + _ < _; omega))
    blk_point [iblk, V, i1, hb, hg]
  · refine Eq.trans ?_ (hW b k ⟨128 * g.val + e.val, by omega⟩)
    blk_point [iblk, V, i2, hb, hg]
  · refine Eq.trans ?_ (hG b k ⟨2 * g.val + h.val, by omega⟩)
    blk_simp [iblk]
    entry_read
    pointwise
    blk_ext [i3, hb, hg]
  · rw [i5]
    have e : ((View.whole main_v2).slice (win0_4.rect t)).emb (ix3 0 y1 y2)
        = (ix3 b (pos (t.val % 16) hn y1) (⟨128 * g.val + y2.val, by omega⟩ : Fin 512) : S4x4096x512.Idx) := by
      blk_ext [i4, pos, hb, hg]
    rw [e]
    show _ = foxMean X G W b (pos (t.val % 16) hn y1) ⟨128 * g.val + y2.val, by omega⟩
    have eh : (⟨(128 * g.val + y2.val) / 64, by omega⟩ : Fin 8) = ⟨2 * g.val + y2.val / 64, by omega⟩ :=
      Fin.ext (by show _ / _ = _ + _; omega)
    unfold foxMean
    dsimp only
    rw [eh]
    congr 1
    · exact Finset.sum_congr rfl fun k _ => by rw [← causal_eq X G b g (t.val % 16) hn ⟨y2.val / 64, by omega⟩ y1 k]
    · exact congrArg _ <| Finset.sum_congr rfl fun k _ => causal_eq X G b g (t.val % 16) hn ⟨y2.val / 64, by omega⟩ y1 k

end Cert.FoxIdeal.Tile

end
-- ==== Proof.FoxRef.lean ====
/-
  The forgetting attention's reference: every element is the weighted mean of the values.
-/
module

public import proofs.«01_k».proof.Proof.Gen.FoxRefIdeal.Run
public import Idealize.ShloMosaic.Lib.Pointwise
public import Idealize.ShloMosaic.Lib.WordCmp
public import proofs.«01_k».proof.Proof.FoxSpec

@[expose] public section

set_option maxRecDepth 16384

noncomputable section

namespace Cert.FoxRefIdeal.Val

open Cert.FoxRefIdeal Cert.FoxRefIdeal.Gen Idealize.ShloMosaic Idealize.ShloMosaic.TcCoe Idealize.SL.Sem Cert.Attn

/-- The pattern of minus infinity. -/
theorem neg_inf : Ideal.ofBits .f32 0xFF800000#32 = ⊥ := by
  simp [Ideal.ofBits, Ideal.ieee]

/-- The masked scores of every head, query and key. -/
def scores (x : FVec Ideal S4x4096x9728 .bf16) (g : FVec Ideal S4x4096x8 .f32) : FVec Ideal S4x8x4096x4096 .f32 :=
  select (broadcastInDim S4x8x4096x4096 ![2, 3] bcast_S4096x4096_S4x8x4096x4096_2_3 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))) (addf (Host.dotGeneral dot_S4x8x4096x64_S4x8x4096x64_S4x8x4096x4096_3_3_2_2_01_01 none (transpose S4x8x4096x64 [0, 2, 1, 3] (shapeCast _ (extf .f32 (extractStridedSlice S4x4096x512 ![0, 0, 3584] x slices_S4x4096x9728_S4x4096x512_0_0_3584) bitsLt_bf16_f32) shapeCasts_S4x4096x512_S4x4096x8x64) transposes_S4x4096x8x64_S4x8x4096x64_0_2_1_3) (transpose S4x8x4096x64 [0, 2, 1, 3] (shapeCast _ (extf .f32 (extractStridedSlice S4x4096x512 ![0, 0, 4096] x slices_S4x4096x9728_S4x4096x512_0_0_4096) bitsLt_bf16_f32) shapeCasts_S4x4096x512_S4x4096x8x64) transposes_S4x4096x8x64_S4x8x4096x64_0_2_1_3)) (subf (broadcastInDim S4x8x4096x4096 ![0, 1, 2, 3] bcast_S4x8x4096x1_S4x8x4096x4096_0_1_2_3 (broadcastInDim S4x8x4096x1 ![0, 1, 2] bcast_S4x8x4096_S4x8x4096x1_0_1_2 (transpose S4x8x4096 [0, 2, 1] g transposes_S4x4096x8_S4x8x4096_0_2_1))) (broadcastInDim S4x8x4096x4096 ![0, 1, 2, 3] bcast_S4x8x1x4096_S4x8x4096x4096_0_1_2_3 (broadcastInDim S4x8x1x4096 ![0, 1, 3] bcast_S4x8x4096_S4x8x1x4096_0_1_3 (transpose S4x8x4096 [0, 2, 1] g transposes_S4x4096x8_S4x8x4096_0_2_1))))) (broadcastInDim S4x8x4096x4096 ![] bcast_S_S4x8x4096x4096 (id (constant S_ .f32 0xFF800000#32)))

/-- A row's greatest score. -/
def rowMax (s : FVec Ideal S4x8x4096x4096 .f32) : FVec Ideal S4x8x4096 .f32 :=
  Host.reduce FloatOps.maximumf s (constant S_ .f32 0xFF800000#32) reducesTo_S4x8x4096x4096_S4x8x4096_d3 h_S_

/-- The exponentials of the scores less their row's maximum. -/
def expo (s : FVec Ideal S4x8x4096x4096 .f32) : FVec Ideal S4x8x4096x4096 .f32 :=
  Host.exp (subf s (broadcastInDim S4x8x4096x4096 ![0, 1, 2, 3] bcast_S4x8x4096x1_S4x8x4096x4096_0_1_2_3 (broadcastInDim S4x8x4096x1 ![0, 1, 2] bcast_S4x8x4096_S4x8x4096x1_0_1_2 (maximumf (broadcastInDim S4x8x4096 ![] bcast_S_S4x8x4096 (constant S_ .f32 0xFF800000#32)) (rowMax s)))))

/-- The exponentials divided by their row's sum, times the values, heads side by side. -/
def mean (w : FVec Ideal S4x8x4096x4096 .f32) (x : FVec Ideal S4x4096x9728 .bf16) : FVec Ideal S4x4096x512 .bf16 :=
  truncf .bf16 (shapeCast _ (transpose S4x4096x8x64 [0, 2, 1, 3] (Host.dotGeneral dot_S4x8x4096x4096_S4x8x4096x64_S4x8x4096x64_3_2_2_3_01_01 none (Host.divf w (broadcastInDim S4x8x4096x4096 ![0, 1, 2, 3] bcast_S4x8x4096x1_S4x8x4096x4096_0_1_2_3 (broadcastInDim S4x8x4096x1 ![0, 1, 2] bcast_S4x8x4096_S4x8x4096x1_0_1_2 (Host.reduceAdd w (constant S_ .f32 0x00000000#32) reducesTo_S4x8x4096x4096_S4x8x4096_d3 h_S_)))) (transpose S4x8x4096x64 [0, 2, 1, 3] (shapeCast _ (extf .f32 (extractStridedSlice S4x4096x512 ![0, 0, 4608] x slices_S4x4096x9728_S4x4096x512_0_0_4608) bitsLt_bf16_f32) shapeCasts_S4x4096x512_S4x4096x8x64) transposes_S4x4096x8x64_S4x8x4096x64_0_2_1_3)) transposes_S4x8x4096x64_S4x4096x8x64_0_2_1_3) shapeCasts_S4x4096x8x64_S4x4096x512) bitsLt_bf16_f32

/-- The reference's scores at an element. -/
theorem scores_apply (x : FVec Ideal S4x4096x9728 .bf16) (g : FVec Ideal S4x4096x8 .f32) (b : Fin 4) (h : Fin 8)
    (p k : Fin 4096) : scores x g (ix4 b h p k) = if k.val ≤ p.val then
      ∑ e : Fin 64, x (ix3 b p ⟨3584 + (64 * h.val + e.val), by omega⟩) * x (ix3 b k ⟨4096 + (64 * h.val + e.val), by omega⟩)
        + (g (ix3 b p h) - g (ix3 b k h)) else ⊥ := by
  pointwise [scores, id, constant, neg_inf]
  simp (disch := word_cmp_side) only [hlo_ix]
  simp only [Nat.mul_comm h.val 64]

/-- The reference's row maximum at an element. -/
theorem rowMax_apply (s : FVec Ideal S4x8x4096x4096 .f32) (b : Fin 4) (h : Fin 8) (p : Fin 4096) :
    rowMax s (ix3 b h p) = Finset.univ.fold max ⊥ fun k : Fin 4096 => s (ix4 b h p k) := by
  have hr : S4x8x4096x4096.Reduces [3] S4x8x4096 := by decide
  rw [← neg_inf]
  refine (Host.reduce_eq_fold_single _ _ _ _ hr _ _).trans ?_
  refine congrArg (fun f => Finset.univ.fold max (Ideal.ofBits .f32 0xFF800000#32) f) (funext fun k => ?_)
  show s (hr.lift (ix3 b h p) k) = _
  congr 1
  funext a
  fin_cases a <;> rfl

/-- A row's greatest score, not below `-∞`. -/
def floor (v : FVec Ideal S4x8x4096 .f32) : FVec Ideal S4x8x4096 .f32 :=
  maximumf (broadcastInDim S4x8x4096 ![] bcast_S_S4x8x4096 (constant S_ .f32 0xFF800000#32)) v

/-- One value a row, spread over the row's keys. -/
def spread (v : FVec Ideal S4x8x4096 .f32) : FVec Ideal S4x8x4096x4096 .f32 :=
  broadcastInDim S4x8x4096x4096 ![0, 1, 2, 3] bcast_S4x8x4096x1_S4x8x4096x4096_0_1_2_3
    (broadcastInDim S4x8x4096x1 ![0, 1, 2] bcast_S4x8x4096_S4x8x4096x1_0_1_2 v)

/-- The maximum, with minus infinity as its floor, is itself. -/
theorem floor_apply (v : FVec Ideal S4x8x4096 .f32) (b : Fin 4) (h : Fin 8) (p : Fin 4096) :
    floor v (ix3 b h p) = v (ix3 b h p) := by
  have e : floor v (ix3 b h p) = max (Ideal.ofBits .f32 0xFF800000#32) (v (ix3 b h p)) := by
    pointwise [floor]
  rw [e, neg_inf]
  exact max_bot_left _

/-- A row's number, spread over the keys. -/
theorem spread_apply (v : FVec Ideal S4x8x4096 .f32) (b : Fin 4) (h : Fin 8) (p k : Fin 4096) :
    spread v (ix4 b h p k) = v (ix3 b h p) := by
  pointwise [spread]

/-- The reference's exponentials at an element. -/
theorem expo_apply (s : FVec Ideal S4x8x4096x4096 .f32) (b : Fin 4) (h : Fin 8) (p k : Fin 4096) :
    expo s (ix4 b h p k) = Ideal.exp (s (ix4 b h p k) - Finset.univ.fold max ⊥ fun k => s (ix4 b h p k)) := by
  have e : expo s = Host.exp (subf s (spread (floor (rowMax s)))) := rfl
  rw [e]
  pointwise [spread_apply]
  rw [floor_apply, rowMax_apply]

/-- The reference's weighted values at an element. -/
theorem mean_apply (w : FVec Ideal S4x8x4096x4096 .f32) (x : FVec Ideal S4x4096x9728 .bf16) (b : Fin 4) (p : Fin 4096)
    (f : Fin 512) : mean w x (ix3 b p f) = ∑ k : Fin 4096, Ideal.div (w (ix4 b ⟨f.val / 64, by omega⟩ p k))
      (∑ k' : Fin 4096, w (ix4 b ⟨f.val / 64, by omega⟩ p k')) * x (ix3 b k ⟨4608 + f.val, by omega⟩) := by
  pointwise [mean]

variable (m : (ℓ : Loc nD τ sig) → Buf (Elt Ideal) ℓ)

/-- The reference's result, when the queries, the keys and the accumulated gates are real. -/
theorem result (c : Dev nD) (X : Fin 4 → Fin 4096 → Fin 9728 → ℝ) (G : Fin 4 → Fin 4096 → Fin 8 → ℝ)
    (W : Fin 4 → Fin 4096 → Fin 512 → EReal)
    (hX : ∀ b p (f : Fin 9728), 3584 ≤ f.val → f.val < 4608 →
      (m ((c : Thread nD τ).loc main_arg0) : FVec Ideal S4x4096x9728 .bf16) (ix3 b p f) = ((X b p f : ℝ) : EReal))
    (hW : ∀ b k (f : Fin 512), (m ((c : Thread nD τ).loc main_arg0) : FVec Ideal S4x4096x9728 .bf16)
      (ix3 b k ⟨4608 + f.val, by omega⟩) = W b k f)
    (hG : ∀ b p h, (m ((c : Thread nD τ).loc main_arg1) : FVec Ideal S4x4096x8 .f32) (ix3 b p h) = ((G b p h : ℝ) : EReal)) :
    Value.res_main_v41 m c
      = (fun y : S4x4096x512.Idx => foxMean X G W (y 0) (y 1) (y 2) : FVec Ideal S4x4096x512 .bf16) := by
  have e : Value.res_main_v41 m c = mean (expo (scores (m ((c : Thread nD τ).loc main_arg0)) (m ((c : Thread nD τ).loc main_arg1))))
      (m ((c : Thread nD τ).loc main_arg0)) := rfl
  rw [e]
  generalize (m ((c : Thread nD τ).loc main_arg0) : FVec Ideal S4x4096x9728 .bf16) = x at hX hW ⊢
  generalize (m ((c : Thread nD τ).loc main_arg1) : FVec Ideal S4x4096x8 .f32) = g at hG ⊢
  funext y
  idx_vars y
  rw [mean_apply]
  simp only [expo_apply]
  have hs : ∀ k, Score (G y0 y1 ⟨y2.val / 64, by omega⟩) (scores x g (ix4 y0 ⟨y2.val / 64, by omega⟩ y1 k))
      (foxWeight X G y0 y1 ⟨y2.val / 64, by omega⟩ k) := by
    intro k
    rw [scores_apply, foxWeight]
    by_cases hk : k.val ≤ y1.val
    · rw [if_pos hk, if_pos hk]
      refine .inr ⟨_, ?_, rfl⟩
      rw [hG, hG, Finset.sum_congr rfl fun e _ => by
          rw [hX y0 y1 _ (by show _ ≤ _ + _; omega) (by show _ + _ < _; omega),
            hX y0 k _ (by show _ ≤ _ + _; omega) (by show _ + _ < _; omega)],
        sum_mul_coe, ← EReal.coe_sub, ← EReal.coe_add]
      congr 1; ring
    · rw [if_neg hk, if_neg hk]
      exact .inl ⟨rfl, rfl⟩
  simp only [hW]
  refine softmax_mean hs ⟨y1, ?_⟩ _
  rcases hs y1 with ⟨-, h0⟩ | ⟨σ, h1, -⟩
  · rw [foxWeight, if_pos (le_refl _)] at h0
    exact absurd h0 (Real.exp_pos _).ne'
  · rw [h1]; exact EReal.bot_lt_coe _

end Cert.FoxRefIdeal.Val

end
-- ==== Proof.FoxPre.lean ====
/-
  The precondition, read at an element: the queries, keys and gates the forgetting attention reads are real numbers.
-/
module

public import proofs.«01_k».proof.Proof.Gen.Pre_fox_finite
public import Idealize.ShloMosaic.Lib.Pointwise
public import Idealize.ShloMosaic.Lib.ReduceAll
public import Idealize.ShloMosaic.Lib.Affine

@[expose] public section

set_option maxRecDepth 16384

noncomputable section

namespace Cert.Pre_fox_finite

open Cert.Pre_fox_finite.Gen Idealize.ShloMosaic Idealize.ShloMosaic.TcCoe Idealize.SL.Sem

/-- The pattern of plus infinity. -/
theorem pos_inf : Ideal.ofBits .f32 0x7F800000#32 = ⊤ := by
  simp [Ideal.ofBits, Ideal.ieee]

/-- An extended real whose absolute value is below `⊤` is a real. -/
theorem real_of_abs {x : EReal} (h : max x (-x) < ⊤) : x = ((x.toReal : ℝ) : EReal) := by
  refine (EReal.coe_toReal ?_ ?_).symm
  · rintro rfl; simp at h
  · rintro rfl; simp at h

/-- A comparison's word that is one. -/
theorem lt_of_word {p : Prop} [Decidable p] (h : BitVec.ofBool (decide p) = 1#1) : p := by
  by_contra hp
  rw [decide_eq_false hp] at h
  exact absurd h (by decide)

/-- Where the precondition holds, the lanes 3584 to 4608 of the first argument are real, and so is the second. -/
theorem real (x : FVec Ideal S4x4096x9728 .bf16) (g : FVec Ideal S4x4096x8 .f32)
    (h : fn (F := Ideal) x g = fun _ => 1#1) :
    (∀ (b : Fin 4) (p : Fin 4096) (f : Fin 9728), 3584 ≤ f.val → f.val < 4608 →
        x (ix3 b p f) = (((x (ix3 b p f)).toReal : ℝ) : EReal))
    ∧ ∀ (b : Fin 4) (p : Fin 4096) (k : Fin 8), g (ix3 b p k) = (((g (ix3 b p k)).toReal : ℝ) : EReal) := by
  have h0 := congrFun h ix0
  dsimp only [fn] at h0
  obtain ⟨h1, h2⟩ := IntOp.andi_eq_one.1 h0
  refine ⟨fun b p f h3 h5 => ?_, fun b p k => ?_⟩
  · have e := Host.reduce_andi_all _ _ _ _ _ h1 (ix3 b p (⟨f.val - 3584, by omega⟩ : Fin 1024))
    pointwise [pos_inf] at e
    have ef : (⟨3584 + (f.val - 3584), by omega⟩ : Fin 9728) = f := Fin.ext (by show 3584 + (f.val - 3584) = _; omega)
    rw [ef] at e
    exact real_of_abs (lt_of_word e)
  · have e := Host.reduce_andi_all _ _ _ _ _ h2 (ix3 b p k)
    pointwise [pos_inf] at e
    exact real_of_abs (lt_of_word e)

end Cert.Pre_fox_finite

end
-- ==== Proof.OutSpec.lean ====
/-
  What the output call computes for one token: the gated branches projected and merged, the output projection with
  its residual, and the final normalisation.
-/
module

public import Idealize.ShloMosaic.Lib.Pointwise

@[expose] public section

noncomputable section

namespace Cert.Merge

open Idealize.ShloMosaic

/-- One branch's output times its gate, projected to channel `d`, times the merge gate of that channel. -/
def branch (o g : Fin 512 → EReal) (w : Fin 512 → EReal) (mg : EReal) : EReal :=
  (∑ k : Fin 512, o k * g k * w k) * mg

/-- The residual plus the output projection of the merged channels, at channel `e`. -/
def mixed (x : Fin 1024 → EReal) (u : Fin 1024 → EReal) (w : Fin 1024 → Fin 1024 → EReal) (e : Fin 1024) : EReal :=
  x e + ∑ d : Fin 1024, u d * w d e

/-- A token's channels divided by their root mean square, times the gain, at channel `e`. -/
def normed (u : Fin 1024 → EReal) (gain : EReal) (e : Fin 1024) : EReal :=
  u e * Ideal.rsqrt (Ideal.div (∑ d : Fin 1024, u d * u d) (Ideal.ofBits .f32 0x44800000#32) + Ideal.ofBits .f32 0x358637BD#32) * gain

/-- The three branches' shares of a token's merged channel `d`, added up. -/
def merged (o₀ o₁ o₂ : Fin 512 → EReal) (p : Fin 9728 → EReal) (w : Fin 3 → Fin 512 → Fin 1024 → EReal) (d : Fin 1024) : EReal :=
  branch o₀ (fun k => p ⟨8192 + k.val, by omega⟩) (fun k => w 0 k d) (p ⟨5120 + d.val, by omega⟩)
  + branch o₁ (fun k => p ⟨8192 + (512 + k.val), by omega⟩) (fun k => w 1 k d) (p ⟨5120 + (1024 + d.val), by omega⟩)
  + branch o₂ (fun k => p ⟨8192 + (1024 + k.val), by omega⟩) (fun k => w 2 k d) (p ⟨5120 + (2048 + d.val), by omega⟩)

/-- A token's result at channel `e`, from its branch outputs, its row of the input projection, and its residual. -/
def token (o₀ o₁ o₂ : Fin 512 → EReal) (p : Fin 9728 → EReal) (x : Fin 1024 → EReal) (w : Fin 3 → Fin 512 → Fin 1024 → EReal)
    (wo : Fin 1024 → Fin 1024 → EReal) (gain : Fin 1024 → EReal) (e : Fin 1024) : EReal :=
  normed (mixed x (merged o₀ o₁ o₂ p w) wo) (gain e) e

/-- The call's result at row `n` (batch and token in one) and channel `e`, from the call's arrays. -/
def table (oa ob oc : Fin 4 → Fin 4096 → Fin 512 → EReal) (p : Fin 16384 → Fin 9728 → EReal) (x : Fin 16384 → Fin 1024 → EReal)
    (w : Fin 3 → Fin 512 → Fin 1024 → EReal) (wo : Fin 1024 → Fin 1024 → EReal) (gain : Fin 1024 → EReal)
    (n : Fin 16384) (e : Fin 1024) : EReal :=
  token (oa ⟨n.val / 4096, by omega⟩ ⟨n.val % 4096, by omega⟩) (ob ⟨n.val / 4096, by omega⟩ ⟨n.val % 4096, by omega⟩)
    (oc ⟨n.val / 4096, by omega⟩ ⟨n.val % 4096, by omega⟩) (p n) (x n) w wo gain e

end Cert.Merge

end
-- ==== Proof.OutRef.lean ====
/-
  The reference of the output call, element by element.
-/
module

public import proofs.«01_k».proof.Proof.Gen.OutRefIdeal.Run
public import Idealize.ShloMosaic.Lib.Pointwise
public import proofs.«01_k».proof.Proof.OutSpec

@[expose] public section

set_option maxRecDepth 16384

noncomputable section

namespace Cert.OutRefIdeal.Val

open Cert.OutRefIdeal Cert.OutRefIdeal.Gen Idealize.ShloMosaic Idealize.ShloMosaic.TcCoe Idealize.SL.Sem
open Cert.Merge (branch mixed normed token table)

/-- The zero pattern reads zero. -/
theorem zero_bits : Ideal.ofBits .f32 0x00000000#32 = 0 := by
  simp [Ideal.ofBits, Ideal.ieee]

/-- The projection's array, by batch and token. -/
def sections (p : FVec Ideal S16384x9728 .bf16) : FVec Ideal S4x4096x9728 .f32 :=
  extf .f32 (shapeCast _ p shapeCasts_S16384x9728_S4x4096x9728) bitsLt_bf16_f32

/-- The first branch's share of the merged channels. -/
def first (o : FVec Ideal S4x4096x512 .bf16) (p : FVec Ideal S4x4096x9728 .f32) (w : FVec Ideal S3x512x1024 .f32) : FVec Ideal S4x4096x1024 .f32 :=
  mulf (extractStridedSlice S4x4096x1024 ![0, 0, 0] (extractStridedSlice S4x4096x3072 ![0, 0, 5120] p slices_S4x4096x9728_S4x4096x3072_0_0_5120) slices_S4x4096x3072_S4x4096x1024_0_0_0) (Host.dotGeneral dot_S4x4096x512_S512x1024_S4x4096x1024_2_0_01_1_n_n none (mulf (extf .f32 o bitsLt_bf16_f32) (extractStridedSlice S4x4096x512 ![0, 0, 0] (extractStridedSlice S4x4096x1536 ![0, 0, 8192] p slices_S4x4096x9728_S4x4096x1536_0_0_8192) slices_S4x4096x1536_S4x4096x512_0_0_0)) (shapeCast _ (extractStridedSlice S1x512x1024 ![0, 0, 0] w slices_S3x512x1024_S1x512x1024_0_0_0) shapeCasts_S1x512x1024_S512x1024))

/-- The second branch's share of the merged channels. -/
def second (o : FVec Ideal S4x4096x512 .bf16) (p : FVec Ideal S4x4096x9728 .f32) (w : FVec Ideal S3x512x1024 .f32) : FVec Ideal S4x4096x1024 .f32 :=
  mulf (extractStridedSlice S4x4096x1024 ![0, 0, 1024] (extractStridedSlice S4x4096x3072 ![0, 0, 5120] p slices_S4x4096x9728_S4x4096x3072_0_0_5120) slices_S4x4096x3072_S4x4096x1024_0_0_1024) (Host.dotGeneral dot_S4x4096x512_S512x1024_S4x4096x1024_2_0_01_1_n_n none (mulf (extf .f32 o bitsLt_bf16_f32) (extractStridedSlice S4x4096x512 ![0, 0, 512] (extractStridedSlice S4x4096x1536 ![0, 0, 8192] p slices_S4x4096x9728_S4x4096x1536_0_0_8192) slices_S4x4096x1536_S4x4096x512_0_0_512)) (shapeCast _ (extractStridedSlice S1x512x1024 ![1, 0, 0] w slices_S3x512x1024_S1x512x1024_1_0_0) shapeCasts_S1x512x1024_S512x1024))

/-- The third branch's share of the merged channels. -/
def third (o : FVec Ideal S4x4096x512 .bf16) (p : FVec Ideal S4x4096x9728 .f32) (w : FVec Ideal S3x512x1024 .f32) : FVec Ideal S4x4096x1024 .f32 :=
  mulf (extractStridedSlice S4x4096x1024 ![0, 0, 2048] (extractStridedSlice S4x4096x3072 ![0, 0, 5120] p slices_S4x4096x9728_S4x4096x3072_0_0_5120) slices_S4x4096x3072_S4x4096x1024_0_0_2048) (Host.dotGeneral dot_S4x4096x512_S512x1024_S4x4096x1024_2_0_01_1_n_n none (mulf (extf .f32 o bitsLt_bf16_f32) (extractStridedSlice S4x4096x512 ![0, 0, 1024] (extractStridedSlice S4x4096x1536 ![0, 0, 8192] p slices_S4x4096x9728_S4x4096x1536_0_0_8192) slices_S4x4096x1536_S4x4096x512_0_0_1024)) (shapeCast _ (extractStridedSlice S1x512x1024 ![2, 0, 0] w slices_S3x512x1024_S1x512x1024_2_0_0) shapeCasts_S1x512x1024_S512x1024))

/-- The branches' shares added up. -/
def merged (a b d : FVec Ideal S4x4096x1024 .f32) : FVec Ideal S4x4096x1024 .f32 :=
  addf (addf (addf (broadcastInDim S4x4096x1024 ![] bcast_S_S4x4096x1024 (constant S_ .f32 0x00000000#32)) a) b) d

/-- The residual plus the output projection. -/
def project (x : FVec Ideal S16384x1024 .f32) (u : FVec Ideal S4x4096x1024 .f32) (w : FVec Ideal S1024x1024 .f32) : FVec Ideal S4x4096x1024 .f32 :=
  addf (shapeCast _ x shapeCasts_S16384x1024_S4x4096x1024) (Host.dotGeneral dot_S4x4096x1024_S1024x1024_S4x4096x1024_2_0_01_1_n_n none u w)

/-- The final normalisation. -/
def norm (u : FVec Ideal S4x4096x1024 .f32) (gain : FVec Ideal S1024 .f32) : FVec Ideal S16384x1024 .f32 :=
  shapeCast _ (mulf (mulf u (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf u u) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 gain))) shapeCasts_S4x4096x1024_S16384x1024

/-- The gates, with batch and token apart. -/
theorem sections_apply (p : FVec Ideal S16384x9728 .bf16) (b : Fin 4) (s : Fin 4096) (f : Fin 9728) :
    sections p (ix3 b s f) = p (ix2 ⟨b.val * 4096 + s.val, by omega⟩ f) := by
  pointwise [sections]

/-- The first branch's share at an element. -/
theorem first_apply (o : FVec Ideal S4x4096x512 .bf16) (p : FVec Ideal S4x4096x9728 .f32) (w : FVec Ideal S3x512x1024 .f32)
    (b : Fin 4) (s : Fin 4096) (d : Fin 1024) : first o p w (ix3 b s d) = branch (fun k => o (ix3 b s k))
      (fun k => p (ix3 b s ⟨8192 + k.val, by omega⟩)) (fun k => w (ix3 0 k d)) (p (ix3 b s ⟨5120 + d.val, by omega⟩)) := by
  rw [branch, mul_comm]
  pointwise [first]

/-- The second branch's share at an element. -/
theorem second_apply (o : FVec Ideal S4x4096x512 .bf16) (p : FVec Ideal S4x4096x9728 .f32) (w : FVec Ideal S3x512x1024 .f32)
    (b : Fin 4) (s : Fin 4096) (d : Fin 1024) : second o p w (ix3 b s d) = branch (fun k => o (ix3 b s k))
      (fun k => p (ix3 b s ⟨8192 + (512 + k.val), by omega⟩)) (fun k => w (ix3 1 k d)) (p (ix3 b s ⟨5120 + (1024 + d.val), by omega⟩)) := by
  rw [branch, mul_comm]
  pointwise [second]

/-- The third branch's share at an element. -/
theorem third_apply (o : FVec Ideal S4x4096x512 .bf16) (p : FVec Ideal S4x4096x9728 .f32) (w : FVec Ideal S3x512x1024 .f32)
    (b : Fin 4) (s : Fin 4096) (d : Fin 1024) : third o p w (ix3 b s d) = branch (fun k => o (ix3 b s k))
      (fun k => p (ix3 b s ⟨8192 + (1024 + k.val), by omega⟩)) (fun k => w (ix3 2 k d)) (p (ix3 b s ⟨5120 + (2048 + d.val), by omega⟩)) := by
  rw [branch, mul_comm]
  pointwise [third]

/-- The branches' sum at an element. -/
theorem merged_apply (a b d : FVec Ideal S4x4096x1024 .f32) (i : Fin 4) (s : Fin 4096) (e : Fin 1024) :
    merged a b d (ix3 i s e) = a (ix3 i s e) + b (ix3 i s e) + d (ix3 i s e) := by
  pointwise [merged, zero_bits]

/-- The residual and the output projection at an element. -/
theorem project_apply (x : FVec Ideal S16384x1024 .f32) (u : FVec Ideal S4x4096x1024 .f32) (w : FVec Ideal S1024x1024 .f32)
    (b : Fin 4) (s : Fin 4096) (e : Fin 1024) : project x u w (ix3 b s e)
      = mixed (fun d => x (ix2 ⟨b.val * 4096 + s.val, by omega⟩ d)) (fun d => u (ix3 b s d)) (fun d e => w (ix2 d e)) e := by
  unfold mixed
  pointwise [project]

/-- The final norm at an element. -/
theorem norm_apply (u : FVec Ideal S4x4096x1024 .f32) (gain : FVec Ideal S1024 .f32) (n : Fin 16384) (e : Fin 1024) :
    norm u gain (ix2 n e) = normed (fun d => u (ix3 ⟨n.val / 4096, by omega⟩ ⟨n.val % 4096, by omega⟩ d)) (gain (ix1 e)) e := by
  unfold normed
  pointwise [norm]

variable (m : (ℓ : Loc nD τ sig) → Buf (Elt Ideal) ℓ)

/-- The reference's result, stage by stage. -/
theorem split (c : Dev nD) : Value.res_main_v48 m c = norm (project (m ((c : Thread nD τ).loc main_arg4))
    (merged (first (m ((c : Thread nD τ).loc main_arg0)) (sections (m ((c : Thread nD τ).loc main_arg3))) (m ((c : Thread nD τ).loc main_arg5)))
      (second (m ((c : Thread nD τ).loc main_arg1)) (sections (m ((c : Thread nD τ).loc main_arg3))) (m ((c : Thread nD τ).loc main_arg5)))
      (third (m ((c : Thread nD τ).loc main_arg2)) (sections (m ((c : Thread nD τ).loc main_arg3))) (m ((c : Thread nD τ).loc main_arg5))))
    (m ((c : Thread nD τ).loc main_arg6))) (m ((c : Thread nD τ).loc main_arg7)) := rfl

/-- The reference's result: each token's channels as the specification has them. -/
theorem result (c : Dev nD) : Value.res_main_v48 m c = (fun y : S16384x1024.Idx =>
    table (fun b s k => (m ((c : Thread nD τ).loc main_arg0) : FVec Ideal S4x4096x512 .bf16) (ix3 b s k))
      (fun b s k => (m ((c : Thread nD τ).loc main_arg1) : FVec Ideal S4x4096x512 .bf16) (ix3 b s k))
      (fun b s k => (m ((c : Thread nD τ).loc main_arg2) : FVec Ideal S4x4096x512 .bf16) (ix3 b s k))
      (fun n f => (m ((c : Thread nD τ).loc main_arg3) : FVec Ideal S16384x9728 .bf16) (ix2 n f))
      (fun n d => (m ((c : Thread nD τ).loc main_arg4) : FVec Ideal S16384x1024 .f32) (ix2 n d))
      (fun n k d => (m ((c : Thread nD τ).loc main_arg5) : FVec Ideal S3x512x1024 .f32) (ix3 n k d))
      (fun d e => (m ((c : Thread nD τ).loc main_arg6) : FVec Ideal S1024x1024 .f32) (ix2 d e))
      (fun e => (m ((c : Thread nD τ).loc main_arg7) : FVec Ideal S1024 .f32) (ix1 e)) (y 0) (y 1) : FVec Ideal S16384x1024 .f32) := by
  rw [split]
  funext y
  idx_vars y
  rw [norm_apply]
  unfold table token
  have hn : (⟨(⟨y0.val / 4096, by omega⟩ : Fin 4).val * 4096 + (⟨y0.val % 4096, by omega⟩ : Fin 4096).val, by show _ / _ * _ + _ % _ < _; omega⟩ : Fin 16384) = y0 :=
    Fin.ext (by show _ / _ * _ + _ % _ = _; omega)
  refine congrArg (fun u => normed u _ y1) (funext fun d => ?_)
  rw [project_apply, hn]
  refine congrArg (fun u => mixed _ u _ d) (funext fun e => ?_)
  rw [merged_apply, first_apply, second_apply, third_apply]
  simp only [sections_apply, hn]
  rfl

end Cert.OutRefIdeal.Val

end
-- ==== Proof.OutTile.lean ====
/-
  The output call's result array, element by element.
-/
module

public import proofs.«01_k».proof.Proof.Gen.OutIdeal.Value
public import Idealize.ShloMosaic.Lib.Pipeline.ValueKit
public import Idealize.ShloMosaic.Lib.Pointwise
public import Idealize.ShloMosaic.Lib.Claim
public import proofs.«01_k».proof.Proof.OutSpec

@[expose] public section

set_option maxRecDepth 16384

noncomputable section

namespace Cert.OutIdeal.Tile

open Cert.OutIdeal Cert.OutIdeal.Gen Idealize.ShloMosaic Idealize.ShloMosaic.TcCoe Idealize.SL.Sem Cert.Merge
open Idealize.ShloMosaic.Pipeline (Dat)

/-- The first two branches' shares of a merged channel. -/
theorem pay2_apply (v0 v3 : Vec Ideal S512x512 .bf16) (v7 : Vec Ideal S1x512x1024 .bf16) (v10 : Vec Ideal S512x1024 .bf16)
    (v13 v16 : Vec Ideal S512x512 .bf16) (v20 : Vec Ideal S1x512x1024 .bf16) (v23 : Vec Ideal S512x1024 .bf16) (r : Fin 512) (d : Fin 1024) :
    k0_pay2 (F := Ideal) v0 v3 v7 v10 v13 v16 v20 v23 (ix2 r d)
      = branch (fun k => v0 (ix2 r k)) (fun k => v3 (ix2 r k)) (fun k => v7 (ix3 0 k d)) (v10 (ix2 r d))
        + branch (fun k => v13 (ix2 r k)) (fun k => v16 (ix2 r k)) (fun k => v20 (ix3 0 k d)) (v23 (ix2 r d)) := by
  unfold branch
  pointwise [k0_pay2]

/-- The third branch's gated output. -/
theorem pay3_apply (v27 v30 : Vec Ideal S512x512 .bf16) (r k : Fin 512) :
    k0_pay3 (F := Ideal) v27 v30 (ix2 r k) = (v27 (ix2 r k) : EReal) * v30 (ix2 r k) := by
  pointwise [k0_pay3]

/-- The third branch's share added, the output projection, and the normalisation. -/
theorem pay1_apply (v26 : FVec Ideal S512x1024 .f32) (v33 : FVec Ideal S512x512 .bf16) (v34 : Vec Ideal S1x512x1024 .bf16)
    (v37 : Vec Ideal S512x1024 .bf16) (v41 : Vec Ideal S512x1024 .f32) (v43 : Vec Ideal S1024x1024 .bf16) (v57 : Vec Ideal S1x1024 .f32)
    (r : Fin 512) (e : Fin 1024) : k0_pay1 (F := Ideal) v26 v33 v34 v37 v41 v43 v57 (ix2 r e)
      = normed (mixed (fun d => v41 (ix2 r d)) (fun d => v26 (ix2 r d) + (∑ k : Fin 512, v33 (ix2 r k) * v34 (ix3 0 k d)) * v37 (ix2 r d))
          (fun d e => v43 (ix2 d e))) (v57 (ix2 0 e)) e := by
  unfold normed mixed
  pointwise [k0_pay1]

/-- Which blocks a point works on, in closed form. -/
theorem idx : ∀ t : Fin cfg0.N,
    win0_0.index t = ![t.val, 0] ∧ win0_1.index t = ![t.val, 0] ∧ win0_2.index t = ![t.val, 0]
    ∧ win0_3.index t = ![t.val, 16] ∧ win0_4.index t = ![t.val, 17] ∧ win0_5.index t = ![t.val, 18]
    ∧ win0_6.index t = ![t.val, 5] ∧ win0_7.index t = ![t.val, 6] ∧ win0_8.index t = ![t.val, 7]
    ∧ win0_9.index t = ![t.val, 0] ∧ win0_10.index t = ![0, 0, 0] ∧ win0_11.index t = ![0, 0] ∧ win0_12.index t = ![0, 0]
    ∧ win0_13.index t = ![t.val, 0] := (by decide +kernel : ∀ t : Fin grid0.N, _)

variable (m : (ℓ : Loc nD τ sig) → Buf (Elt Ideal) ℓ)

/-- The first branch's block. -/
theorem read0 (c : Dev nD) (t : Fin cfg0.N) (r k : Fin 512) :
    (iblk m c 0 t : Vec Ideal S512x512 .bf16) (ix2 r k) = (m ((c : Thread nD τ).loc main_arg0) : FVec Ideal S4x4096x512 .bf16)
      (ix3 ⟨(512 * t.val + r.val) / 4096, by have : t.val < 32 := t.isLt; omega⟩ ⟨(512 * t.val + r.val) % 4096, by omega⟩ k) := by
  have ht : t.val < 32 := t.isLt
  obtain ⟨i0, i1, i2, -⟩ := idx t
  blk_simp [iblk]
  entry_read
  pointwise
  blk_ext [i0]

/-- The second branch's block. -/
theorem read1 (c : Dev nD) (t : Fin cfg0.N) (r k : Fin 512) :
    (iblk m c 1 t : Vec Ideal S512x512 .bf16) (ix2 r k) = (m ((c : Thread nD τ).loc main_arg1) : FVec Ideal S4x4096x512 .bf16)
      (ix3 ⟨(512 * t.val + r.val) / 4096, by have : t.val < 32 := t.isLt; omega⟩ ⟨(512 * t.val + r.val) % 4096, by omega⟩ k) := by
  have ht : t.val < 32 := t.isLt
  obtain ⟨i0, i1, i2, -⟩ := idx t
  blk_simp [iblk]
  entry_read
  pointwise
  blk_ext [i1]

/-- The third branch's block. -/
theorem read2 (c : Dev nD) (t : Fin cfg0.N) (r k : Fin 512) :
    (iblk m c 2 t : Vec Ideal S512x512 .bf16) (ix2 r k) = (m ((c : Thread nD τ).loc main_arg2) : FVec Ideal S4x4096x512 .bf16)
      (ix3 ⟨(512 * t.val + r.val) / 4096, by have : t.val < 32 := t.isLt; omega⟩ ⟨(512 * t.val + r.val) % 4096, by omega⟩ k) := by
  have ht : t.val < 32 := t.isLt
  obtain ⟨i0, i1, i2, -⟩ := idx t
  blk_simp [iblk]
  entry_read
  pointwise
  blk_ext [i2]

/-- The first branch's own gates. -/
theorem read3 (c : Dev nD) (t : Fin cfg0.N) (r k : Fin 512) :
    (iblk m c 3 t : Vec Ideal S512x512 .bf16) (ix2 r k) = (m ((c : Thread nD τ).loc main_arg3) : FVec Ideal S16384x9728 .bf16)
      (ix2 ⟨512 * t.val + r.val, by have : t.val < 32 := t.isLt; omega⟩ ⟨8192 + k.val, by omega⟩) := by
  have ht : t.val < 32 := t.isLt
  obtain ⟨-, -, -, i3, i4, i5, -⟩ := idx t
  blk_point [iblk, V, i3]

/-- The second branch's own gates. -/
theorem read4 (c : Dev nD) (t : Fin cfg0.N) (r k : Fin 512) :
    (iblk m c 4 t : Vec Ideal S512x512 .bf16) (ix2 r k) = (m ((c : Thread nD τ).loc main_arg3) : FVec Ideal S16384x9728 .bf16)
      (ix2 ⟨512 * t.val + r.val, by have : t.val < 32 := t.isLt; omega⟩ ⟨8192 + (512 + k.val), by omega⟩) := by
  have ht : t.val < 32 := t.isLt
  obtain ⟨-, -, -, i3, i4, i5, -⟩ := idx t
  blk_point [iblk, V, i4]

/-- The third branch's own gates. -/
theorem read5 (c : Dev nD) (t : Fin cfg0.N) (r k : Fin 512) :
    (iblk m c 5 t : Vec Ideal S512x512 .bf16) (ix2 r k) = (m ((c : Thread nD τ).loc main_arg3) : FVec Ideal S16384x9728 .bf16)
      (ix2 ⟨512 * t.val + r.val, by have : t.val < 32 := t.isLt; omega⟩ ⟨8192 + (1024 + k.val), by omega⟩) := by
  have ht : t.val < 32 := t.isLt
  obtain ⟨-, -, -, i3, i4, i5, -⟩ := idx t
  blk_point [iblk, V, i5]

/-- The first branch's merge gates. -/
theorem read6 (c : Dev nD) (t : Fin cfg0.N) (r : Fin 512) (d : Fin 1024) :
    (X0_6 m c t : Vec Ideal S512x1024 .bf16) (ix2 r d) = (m ((c : Thread nD τ).loc main_arg3) : FVec Ideal S16384x9728 .bf16)
      (ix2 ⟨512 * t.val + r.val, by have : t.val < 32 := t.isLt; omega⟩ ⟨5120 + d.val, by omega⟩) := by
  have ht : t.val < 32 := t.isLt
  obtain ⟨-, -, -, -, -, -, i6, i7, i8, -⟩ := idx t
  unfold X0_6 Pipeline.Window.fill
  rw [dif_pos (moved0_6 t (ix2 r d))]
  refine Eq.trans (b := V m c main_arg3 _) rfl ?_
  rw [V_main_arg3]
  refine congrArg (m ((c : Thread nD τ).loc main_arg3) : FVec Ideal S16384x9728 .bf16) ?_
  blk_ext [i6]

/-- The second branch's merge gates. -/
theorem read7 (c : Dev nD) (t : Fin cfg0.N) (r : Fin 512) (d : Fin 1024) :
    (X0_7 m c t : Vec Ideal S512x1024 .bf16) (ix2 r d) = (m ((c : Thread nD τ).loc main_arg3) : FVec Ideal S16384x9728 .bf16)
      (ix2 ⟨512 * t.val + r.val, by have : t.val < 32 := t.isLt; omega⟩ ⟨5120 + (1024 + d.val), by omega⟩) := by
  have ht : t.val < 32 := t.isLt
  obtain ⟨-, -, -, -, -, -, i6, i7, i8, -⟩ := idx t
  unfold X0_7 Pipeline.Window.fill
  rw [dif_pos (moved0_7 t (ix2 r d))]
  refine Eq.trans (b := V m c main_arg3 _) rfl ?_
  rw [V_main_arg3]
  refine congrArg (m ((c : Thread nD τ).loc main_arg3) : FVec Ideal S16384x9728 .bf16) ?_
  blk_ext [i7]

/-- The third branch's merge gates. -/
theorem read8 (c : Dev nD) (t : Fin cfg0.N) (r : Fin 512) (d : Fin 1024) :
    (X0_8 m c t : Vec Ideal S512x1024 .bf16) (ix2 r d) = (m ((c : Thread nD τ).loc main_arg3) : FVec Ideal S16384x9728 .bf16)
      (ix2 ⟨512 * t.val + r.val, by have : t.val < 32 := t.isLt; omega⟩ ⟨5120 + (2048 + d.val), by omega⟩) := by
  have ht : t.val < 32 := t.isLt
  obtain ⟨-, -, -, -, -, -, i6, i7, i8, -⟩ := idx t
  unfold X0_8 Pipeline.Window.fill
  rw [dif_pos (moved0_8 t (ix2 r d))]
  refine Eq.trans (b := V m c main_arg3 _) rfl ?_
  rw [V_main_arg3]
  refine congrArg (m ((c : Thread nD τ).loc main_arg3) : FVec Ideal S16384x9728 .bf16) ?_
  blk_ext [i8]

/-- The residual. -/
theorem read9 (c : Dev nD) (t : Fin cfg0.N) (r : Fin 512) (d : Fin 1024) :
    (iblk m c 9 t : Vec Ideal S512x1024 .f32) (ix2 r d) = (m ((c : Thread nD τ).loc main_arg4) : FVec Ideal S16384x1024 .f32)
      (ix2 ⟨512 * t.val + r.val, by have : t.val < 32 := t.isLt; omega⟩ d) := by
  have ht : t.val < 32 := t.isLt
  obtain ⟨-, -, -, -, -, -, -, -, -, i9, -⟩ := idx t
  blk_point [iblk, V, i9]

/-- The branches' projections. -/
theorem read10 (c : Dev nD) (t : Fin cfg0.N) (n : Fin 3) (k : Fin 512) (d : Fin 1024) :
    (iblk m c 10 t : Vec Ideal S3x512x1024 .bf16) (ix3 n k d) = (m ((c : Thread nD τ).loc main_arg5) : FVec Ideal S3x512x1024 .f32) (ix3 n k d) := by
  obtain ⟨-, -, -, -, -, -, -, -, -, -, i10, i11, i12, -⟩ := idx t
  blk_simp [iblk]
  entry_read
  pointwise
  blk_ext [i10]

/-- The output projection. -/
theorem read11 (c : Dev nD) (t : Fin cfg0.N) (d e : Fin 1024) :
    (iblk m c 11 t : Vec Ideal S1024x1024 .bf16) (ix2 d e) = (m ((c : Thread nD τ).loc main_arg6) : FVec Ideal S1024x1024 .f32) (ix2 d e) := by
  obtain ⟨-, -, -, -, -, -, -, -, -, -, i10, i11, i12, -⟩ := idx t
  blk_simp [iblk]
  entry_read
  pointwise
  blk_ext [i11]

/-- The gain. -/
theorem read12 (c : Dev nD) (t : Fin cfg0.N) (e : Fin 1024) :
    (iblk m c 12 t : Vec Ideal S1x1024 .f32) (ix2 0 e) = (m ((c : Thread nD τ).loc main_arg7) : FVec Ideal S1024 .f32) (ix1 e) := by
  obtain ⟨-, -, -, -, -, -, -, -, -, -, i10, i11, i12, -⟩ := idx t
  blk_simp [iblk]
  entry_read
  pointwise
  blk_ext [i12]

/-- Branch 0's projection as the body loads it. -/
theorem weight0 (c : Dev nD) (t : Fin cfg0.N) (k : Fin 512) (d : Fin 1024) :
    (View.ld (iblk m c 10 t : Vec Ideal S3x512x1024 .bf16) (Rect.unit ![0, 0, 0] ![1, 512, 1024] inb_S3x512x1024_S1x512x1024_0_0_0)
      : Vec Ideal S1x512x1024 .bf16) (ix3 0 k d) = (m ((c : Thread nD τ).loc main_arg5) : FVec Ideal S3x512x1024 .f32) (ix3 0 k d) := by
  refine Eq.trans ?_ (read10 m c t 0 k d)
  pointwise

/-- Branch 1's projection as the body loads it. -/
theorem weight1 (c : Dev nD) (t : Fin cfg0.N) (k : Fin 512) (d : Fin 1024) :
    (View.ld (iblk m c 10 t : Vec Ideal S3x512x1024 .bf16) (Rect.unit ![1, 0, 0] ![1, 512, 1024] inb_S3x512x1024_S1x512x1024_1_0_0)
      : Vec Ideal S1x512x1024 .bf16) (ix3 0 k d) = (m ((c : Thread nD τ).loc main_arg5) : FVec Ideal S3x512x1024 .f32) (ix3 1 k d) := by
  refine Eq.trans ?_ (read10 m c t 1 k d)
  pointwise

/-- Branch 2's projection as the body loads it. -/
theorem weight2 (c : Dev nD) (t : Fin cfg0.N) (k : Fin 512) (d : Fin 1024) :
    (View.ld (iblk m c 10 t : Vec Ideal S3x512x1024 .bf16) (Rect.unit ![2, 0, 0] ![1, 512, 1024] inb_S3x512x1024_S1x512x1024_2_0_0)
      : Vec Ideal S1x512x1024 .bf16) (ix3 0 k d) = (m ((c : Thread nD τ).loc main_arg5) : FVec Ideal S3x512x1024 .f32) (ix3 2 k d) := by
  refine Eq.trans ?_ (read10 m c t 2 k d)
  pointwise

/-- The result array: each token's channels as the specification has them. -/
theorem final (c : Dev nD) : (dats m 0 c).arrAt 13 (cfgs 0).N = (fun y : S16384x1024.Idx =>
    table (fun b s k => (m ((c : Thread nD τ).loc main_arg0) : FVec Ideal S4x4096x512 .bf16) (ix3 b s k))
      (fun b s k => (m ((c : Thread nD τ).loc main_arg1) : FVec Ideal S4x4096x512 .bf16) (ix3 b s k))
      (fun b s k => (m ((c : Thread nD τ).loc main_arg2) : FVec Ideal S4x4096x512 .bf16) (ix3 b s k))
      (fun n f => (m ((c : Thread nD τ).loc main_arg3) : FVec Ideal S16384x9728 .bf16) (ix2 n f))
      (fun n d => (m ((c : Thread nD τ).loc main_arg4) : FVec Ideal S16384x1024 .f32) (ix2 n d))
      (fun n k d => (m ((c : Thread nD τ).loc main_arg5) : FVec Ideal S3x512x1024 .f32) (ix3 n k d))
      (fun d e => (m ((c : Thread nD τ).loc main_arg6) : FVec Ideal S1024x1024 .f32) (ix2 d e))
      (fun e => (m ((c : Thread nD τ).loc main_arg7) : FVec Ideal S1024 .f32) (ix1 e)) (y 0) (y 1) : FVec Ideal S16384x1024 .f32) := by
  refine (dats m 0 c).arrAt_eq_of_covers 13 _ (by decide +kernel) fun t _ y => ?_
  obtain ⟨i0, i1, i2, i3, i4, i5, i6, i7, i8, i9, i10, i11, i12, i13⟩ := idx t
  have ht : t.val < 32 := t.isLt
  rw [after0_13]
  unfold outsAt0
  blk_simp
  idx_vars y
  have e : ((View.whole main_v6).slice (win0_13.rect t)).emb (ix2 y0 y1)
      = (ix2 (⟨512 * t.val + y0.val, by omega⟩ : Fin 16384) y1 : S16384x1024.Idx) := by
    blk_ext [i13]
  rw [e]
  show _ = table _ _ _ _ _ _ _ _ (⟨512 * t.val + y0.val, by omega⟩ : Fin 16384) y1
  frame_out
  rw [pay1_apply]
  unfold table token
  rw [read12]
  refine congrArg (fun u => normed u _ y1) (funext fun e => ?_)
  unfold mixed
  refine congrArg₂ (· + ·) (read9 m c t y0 e) (Finset.sum_congr rfl fun d _ => congrArg₂ (· * ·) ?_ (read11 m c t d e))
  show k0_pay2 _ _ _ _ _ _ _ _ (ix2 y0 d) + (∑ k, _ * _) * _ = _
  rw [pay2_apply]
  unfold merged branch
  refine congrArg₂ (· + ·) (congrArg₂ (· + ·) (congrArg₂ (· * ·) (Finset.sum_congr rfl fun k _ => ?_) (read6 m c t y0 d))
    (congrArg₂ (· * ·) (Finset.sum_congr rfl fun k _ => ?_) (read7 m c t y0 d)))
    (congrArg₂ (· * ·) (Finset.sum_congr rfl fun k _ => ?_) (read8 m c t y0 d))
  · exact congrArg₂ (· * ·) (congrArg₂ (· * ·) (read0 m c t y0 k) (read3 m c t y0 k)) (weight0 m c t k d)
  · exact congrArg₂ (· * ·) (congrArg₂ (· * ·) (read1 m c t y0 k) (read4 m c t y0 k)) (weight1 m c t k d)
  · rw [pay3_apply]
    exact congrArg₂ (· * ·) (congrArg₂ (· * ·) (read2 m c t y0 k) (read5 m c t y0 k)) (weight2 m c t k d)

end Cert.OutIdeal.Tile

end
-- ==== Proof.MobaPick.lean ====
/-
  Taking the three best of a row: repeated "maximum, first lane that attains it, strike it out" picks exactly the
  lanes that fewer than three lanes are ahead of.
-/
module

public import Idealize.ShloMosaic.Lib.Pointwise

@[expose] public section

noncomputable section

namespace Cert.Pick

variable {N : ℕ}

/-- Lane `n'` is ahead of lane `n`: it is greater, or equal and earlier. -/
def Ahead (g : Fin N → EReal) (n' n : Fin N) : Prop := g n < g n' ∨ (g n' = g n ∧ n' < n)

open Classical in
/-- How many lanes are ahead of lane `n`. -/
def rank (g : Fin N → EReal) (n : Fin N) : ℕ := (Finset.univ.filter fun n' => Ahead g n' n).card

/-- Lane `n` is among the best `k`: it is not `-∞` and fewer than `k` lanes are ahead of it. -/
def Best (g : Fin N → EReal) (k : ℕ) (n : Fin N) : Prop := rank g n < k ∧ ⊥ < g n

/-- No lane is ahead of itself. -/
theorem Ahead.irrefl (g : Fin N → EReal) (n : Fin N) : ¬ Ahead g n n := by
  rintro (h | ⟨-, h⟩) <;> exact lt_irrefl _ h

/-- Being ahead is transitive. -/
theorem Ahead.trans {g : Fin N → EReal} {a b c : Fin N} (h : Ahead g a b) (h' : Ahead g b c) : Ahead g a c := by
  rcases h with h | ⟨h, i⟩ <;> rcases h' with h' | ⟨h', i'⟩
  · exact .inl (h'.trans h)
  · exact .inl (h' ▸ h)
  · exact .inl (h ▸ h')
  · exact .inr ⟨h.trans h', i.trans i'⟩

/-- Of two lanes one is ahead of the other. -/
theorem Ahead.total (g : Fin N → EReal) {a b : Fin N} (h : a ≠ b) : Ahead g a b ∨ Ahead g b a := by
  rcases lt_trichotomy (g a) (g b) with e | e | e
  · exact .inr (.inl e)
  · rcases lt_or_gt_of_ne h with i | i
    · exact .inl (.inr ⟨e, i⟩)
    · exact .inr (.inr ⟨e.symm, i⟩)
  · exact .inl (.inl e)

/-- A lane ahead of another has fewer lanes ahead of it. -/
theorem rank_lt {g : Fin N → EReal} {a b : Fin N} (h : Ahead g a b) : rank g a < rank g b := by
  classical
  unfold rank
  refine Finset.card_lt_card ⟨fun x hx => ?_, fun hs => ?_⟩
  · rw [Finset.mem_filter] at hx ⊢
    exact ⟨hx.1, hx.2.trans h⟩
  · have := hs (Finset.mem_filter.2 ⟨Finset.mem_univ a, h⟩)
    exact Ahead.irrefl g a (Finset.mem_filter.1 this).2

/-- No two lanes have the same number of lanes ahead of them. -/
theorem rank_inj (g : Fin N → EReal) : Function.Injective (rank g) := by
  intro a b h
  by_contra hn
  rcases Ahead.total g hn with h' | h'
  · exact absurd (rank_lt h') (by omega)
  · exact absurd (rank_lt h') (by omega)

/-- What the rounds carry after `k` of them: the best `k` lanes struck out of the row, and marked with a one. -/
def State (g0 : Fin N → EReal) (k : ℕ) (g sel : Fin N → EReal) : Prop :=
  ∀ n, (Best g0 k n → g n = ⊥ ∧ sel n = 1) ∧ (¬ Best g0 k n → g n = g0 n ∧ sel n = 0)

/-- Before the first round nothing is struck out. -/
theorem State.zero (g0 : Fin N → EReal) : State g0 0 g0 (fun _ => 0) :=
  fun n => ⟨fun h => absurd h.1 (Nat.not_lt_zero _), fun _ => ⟨rfl, rfl⟩⟩

/-- The maximum of the row, when it is not `-∞`, is attained at a first lane. -/
theorem exists_first (g : Fin N → EReal) (h : ⊥ < Finset.univ.fold max ⊥ g) :
    ∃ n, g n = Finset.univ.fold max ⊥ g ∧ ∀ n', g n' = Finset.univ.fold max ⊥ g → n ≤ n' := by
  classical
  have hne : (Finset.univ.filter fun n => g n = Finset.univ.fold max ⊥ g).Nonempty := by
    have := (Finset.le_fold_max (Finset.univ.fold max ⊥ g)).1 (le_refl _)
    rcases this with h' | ⟨n, -, hn⟩
    · exact absurd h (not_lt.2 h')
    · exact ⟨n, Finset.mem_filter.2 ⟨Finset.mem_univ n, le_antisymm ((Finset.le_fold_max _).2 (.inr ⟨n, Finset.mem_univ n, le_refl _⟩)) hn⟩⟩
  refine ⟨Finset.min' _ hne, (Finset.mem_filter.1 (Finset.min'_mem _ hne)).2, fun n' h' => Finset.min'_le _ _ ?_⟩
  exact Finset.mem_filter.2 ⟨Finset.mem_univ n', h'⟩

/-- The least of the lane numbers that attain the maximum is the first such lane's. -/
theorem first_eq {g : Fin 128 → EReal} {mx : EReal} {n : Fin 128} (hn : g n = mx) (hmin : ∀ n', g n' = mx → n ≤ n')
    {l : Fin 128 → EReal} (hl : ∀ n', l n' = if g n' = mx then (((n'.val : ℕ) : ℝ) : EReal) else ((128 : ℝ) : EReal)) :
    Finset.univ.fold min ⊤ l = (((n.val : ℕ) : ℝ) : EReal) := by
  refine le_antisymm ?_ ?_
  · refine (Finset.fold_min_le _).2 (.inr ⟨n, Finset.mem_univ n, ?_⟩)
    rw [hl, if_pos hn]
  · refine (Finset.le_fold_min _).2 ⟨le_top, fun n' _ => ?_⟩
    rw [hl]
    split_ifs with h
    · exact EReal.coe_le_coe_iff.2 (Nat.cast_le.2 (hmin n' h))
    · refine EReal.coe_le_coe_iff.2 ?_
      have : (n.val : ℝ) ≤ ((128 : ℕ) : ℝ) := Nat.cast_le.2 (le_of_lt n.isLt)
      simpa using this

/-- One round. -/
theorem State.step {g0 g sel g' sel' l : Fin 128 → EReal} {k : ℕ} (hs : State g0 k g sel) {mx first : EReal}
    (hmx : mx = Finset.univ.fold max ⊥ g)
    (hl : ∀ n, l n = if g n = mx then (((n.val : ℕ) : ℝ) : EReal) else ((128 : ℝ) : EReal))
    (hf : first = Finset.univ.fold min ⊤ l)
    (hg : ∀ n : Fin 128, g' n = if (((n.val : ℕ) : ℝ) : EReal) = first then ⊥ else g n)
    (hsel : ∀ n : Fin 128, sel' n = if (((n.val : ℕ) : ℝ) : EReal) = first then (if ⊥ < mx then 1 else sel n) else sel n) :
    State g0 (k + 1) g' sel' := by
  classical
  by_cases hb : ⊥ < mx
  · obtain ⟨a, ha, hmin⟩ := exists_first g (hmx ▸ hb)
    rw [← hmx] at ha hmin
    have hfa : first = (((a.val : ℕ) : ℝ) : EReal) := hf.trans (first_eq ha hmin hl)
    have hit : ∀ n : Fin 128, (((n.val : ℕ) : ℝ) : EReal) = first ↔ n = a := fun n => by
      rw [hfa, EReal.coe_eq_coe_iff, Nat.cast_inj]; exact ⟨fun h => Fin.ext h, fun h => h ▸ rfl⟩
    have hle : ∀ n, g n ≤ mx := fun n => hmx ▸ (Finset.le_fold_max _).2 (.inr ⟨n, Finset.mem_univ n, le_refl _⟩)
    have hna : ¬ Best g0 k a := fun h => by
      have := ((hs a).1 h).1; rw [ha] at this; exact absurd this hb.ne'
    have ga : g0 a = mx := ((hs a).2 hna).1.symm.trans ha
    have hahead : ∀ n', Ahead g0 n' a → Best g0 k n' := by
      intro n' h
      by_contra hn
      have e := ((hs n').2 hn).1
      rcases h with h | ⟨h, hi⟩
      · rw [ga, ← e] at h; exact absurd h (not_lt.2 (hle n'))
      · exact absurd hi (not_lt.2 (hmin n' (e.trans (h.trans ga))))
    have hrank : rank g0 a ≤ k := by
      have := Finset.card_le_card_of_injOn (s := Finset.univ.filter fun n' => Ahead g0 n' a) (t := Finset.range k) (rank g0)
        (fun n' hn' => Finset.mem_coe.2 (Finset.mem_range.2 (hahead n' (Finset.mem_filter.1 (Finset.mem_coe.1 hn')).2).1)) (fun x _ y _ h => rank_inj g0 h)
      rw [Finset.card_range] at this
      exact this
    have hnext : ∀ n, Best g0 (k + 1) n ↔ Best g0 k n ∨ n = a := by
      intro n
      constructor
      · intro h
        by_contra hn
        rw [not_or] at hn
        have hk : rank g0 n = k := by
          have h1 := h.1
          by_contra hne
          exact hn.1 ⟨by omega, h.2⟩
        rcases Ahead.total g0 hn.2 with h' | h'
        · have := rank_lt h'; omega
        · exact hna ⟨hk ▸ rank_lt h', ga ▸ hb⟩
      · rintro (h | rfl)
        · exact ⟨Nat.lt_succ_of_lt h.1, h.2⟩
        · exact ⟨Nat.lt_succ_of_le hrank, ga ▸ hb⟩
    intro n
    rw [hnext, hg, hsel]
    simp only [hit, hb, if_true]
    by_cases e : n = a
    · subst e; simp
    · simp only [e, or_false, if_false]; exact hs n
  · have hbot : ∀ n, g n = ⊥ := fun n => by
      have : g n ≤ mx := hmx ▸ (Finset.le_fold_max _).2 (.inr ⟨n, Finset.mem_univ n, le_refl _⟩)
      exact le_bot_iff.1 (this.trans (not_lt.1 hb))
    have hnext : ∀ n, Best g0 (k + 1) n ↔ Best g0 k n := by
      intro n
      refine ⟨fun h => ?_, fun h => ⟨Nat.lt_succ_of_lt h.1, h.2⟩⟩
      by_contra hn
      have := ((hs n).2 hn).1
      rw [hbot n] at this
      exact absurd this h.2.ne
    intro n
    have e1 : g' n = g n := by rw [hg]; split_ifs; exacts [(hbot n).symm, rfl]
    have e2 : sel' n = sel n := by rw [hsel, if_neg hb, ite_self]
    rw [hnext, e1, e2]
    exact hs n

/-- Lanes at `-∞` past the sixteenth change nothing: the best of the 128 lanes are the best of the first sixteen. -/
theorem best_pad {g : Fin 128 → EReal} (h : ∀ n : Fin 128, 16 ≤ n.val → g n = ⊥) (k : ℕ) (n : Fin 16) :
    Best g k ⟨n.val, by omega⟩ ↔ Best (fun n : Fin 16 => g ⟨n.val, by omega⟩) k n := by
  classical
  unfold Best
  refine and_congr_left fun hb => ?_
  have e : rank g ⟨n.val, by omega⟩ = rank (fun n : Fin 16 => g ⟨n.val, by omega⟩) n := by
    unfold rank
    symm
    refine Finset.card_bij (fun a _ => (⟨a.val, by omega⟩ : Fin 128)) (fun a ha => ?_) (fun a _ b _ e => Fin.ext (Fin.mk.inj e)) fun b hb' => ?_
    · rw [Finset.mem_filter] at ha ⊢
      exact ⟨Finset.mem_univ _, ha.2⟩
    · have hA := (Finset.mem_filter.1 hb').2
      have hlt : b.val < 16 := by
        by_contra hc
        have e := h b (by omega)
        rcases hA with h1 | ⟨h1, -⟩
        · rw [e] at h1; exact absurd h1 not_lt_bot
        · rw [e] at h1; exact absurd h1 hb.ne
      exact ⟨⟨b.val, hlt⟩, Finset.mem_filter.2 ⟨Finset.mem_univ _, hA⟩, rfl⟩
  rw [e]

/-- The count of the lanes ahead, as a sum of ones. -/
theorem rank_sum (g : Fin N → EReal) (n : Fin N) [∀ n', Decidable (Ahead g n' n)] :
    (∑ n', if Ahead g n' n then (1 : EReal) else 0) = (((rank g n : ℕ) : ℝ) : EReal) := by
  classical
  have e : ∀ s : Finset (Fin N), (∑ n' ∈ s, if Ahead g n' n then (1 : EReal) else 0)
      = ((((s.filter fun n' => Ahead g n' n).card : ℕ) : ℝ) : EReal) := by
    intro s
    induction s using Finset.induction_on with
    | empty => simp
    | insert a s ha ih =>
      rw [Finset.sum_insert ha, ih, Finset.filter_insert]
      by_cases h : Ahead g a n
      · rw [if_pos h, if_pos h, Finset.card_insert_of_notMem (fun hm => ha (Finset.mem_filter.1 hm).1)]
        push_cast
        rw [add_comm]
      · rw [if_neg h, if_neg h, zero_add]
  rw [e]
  unfold rank
  congr!

end Cert.Pick

end
-- ==== Proof.MobaTile.lean ====
/-
  What the block-sparse attention's vector operations say of one tile, read element by element: the choice of the
  earlier key blocks each query row attends to, and one tile of keys.

  Everything is stated over variable vectors whose elements are real numbers: a query tile `Q`, a key tile `K`, a value
  tile `V`. A tile a row has not picked counts with all its scores at `-∞`.
-/
module

public import proofs.«01_k».proof.Proof.Gen.MobaIdeal.Skeleton
public import Idealize.ShloMosaic.Lib.Pointwise
public import Idealize.ShloMosaic.Lib.WordCmp
public import proofs.«01_k».proof.Proof.Online
public import proofs.«01_k».proof.Proof.MobaPick

@[expose] public section

set_option maxRecDepth 16384

noncomputable section

namespace Cert.MobaIdeal.Tile

open Cert.MobaIdeal Cert.MobaIdeal.Gen Idealize.ShloMosaic Idealize.ShloMosaic.TcCoe Idealize.SL.Sem Cert.Attn Cert.Pick

/-- The pattern of a maximum's starting value is `-∞`. -/
theorem neg_inf : Ideal.ofBits .f32 0xFF800000#32 = ⊥ := by
  simp [Ideal.ofBits, Ideal.ieee]

/-- The pattern of a minimum's starting value is `+∞`. -/
theorem pos_inf : Ideal.ofBits .f32 0x7F800000#32 = ⊤ := by
  simp [Ideal.ofBits, Ideal.ieee]

/-- The pattern that stands behind every lane number is 128. -/
theorem lanes : Ideal.ofBits .f32 0x43000000#32 = ((128 : ℝ) : EReal) := by
  simp [Ideal.ofBits, Ideal.ieee]
  rw [← EReal.coe_mul]
  norm_num

/-- The pattern a mark is compared with is a half. -/
theorem half : Ideal.ofBits .f32 0x3F000000#32 = ((1 / 2 : ℝ) : EReal) := by
  simp [Ideal.ofBits, Ideal.ieee]
  rw [← EReal.coe_mul]
  norm_num

/-- A decided proposition as a bit. -/
theorem bit (P : Prop) [Decidable P] : BitVec.ofBool (decide P) = if P then 1#1 else 0#1 := by
  by_cases h : P <;> simp [h]

/-- The greatest gate of every row. -/
def rowMax (g : FVec Ideal S256x128 .f32) : FVec Ideal S256x1 .f32 :=
  shapeCast S256x1 (multiReduction .maximumf [1] S256 g 0xFF800000#32 reduces_S256x128_S256 (.inl rfl) rfl) shapeCasts_S256_S256x1

/-- The lane numbers where the row's maximum is attained, 128 elsewhere. -/
def laneAt (g : FVec Ideal S256x128 .f32) : FVec Ideal S256x128 .f32 :=
  select (cmpf .oeq g (broadcastTo S256x128 (rowMax g) broadcasts_S256x1_S256x128)) (k0_pay25 (F := Ideal))
    (broadcast S256x128 (Scalar.ofBits .f32 0x43000000#32))

/-- The first lane where the row's maximum is attained. -/
def hit (g : FVec Ideal S256x128 .f32) : IVec S256x128 1 :=
  cmpf .oeq (k0_pay25 (F := Ideal)) (broadcastTo S256x128 (shapeCast S256x1
    (multiReduction .minimumf [1] S256 (laneAt g) 0x7F800000#32 reduces_S256x128_S256 (.inl rfl) rfl) shapeCasts_S256_S256x1)
    broadcasts_S256x1_S256x128)

/-- The gates with the first best lane struck out. -/
def strike (g : FVec Ideal S256x128 .f32) : FVec Ideal S256x128 .f32 :=
  select (hit g) (broadcast S256x128 (Named.named κ "mask" 0xF149F2CA#32)) g

/-- The marks with the first best lane added, when the maximum is not `-∞`. -/
def mark (g s : FVec Ideal S256x128 .f32) : FVec Ideal S256x128 .f32 :=
  select (hit g) (select (broadcastTo S256x128 (shapeCast S256x1 (cmpf .ogt (rowMax g)
    (broadcast S256x1 (Named.named κ "floor" 0xF0C9F2CA#32))) shapeCasts_S256x1_S256x1) broadcasts_S256x1_S256x128)
    (broadcast S256x128 (Scalar.ofBits .f32 0x3F800000#32)) s) s

/-- The marks after three rounds. -/
def chosen (g : FVec Ideal S256x128 .f32) : FVec Ideal S256x128 .f32 :=
  mark (strike (strike g)) (mark (strike g) (mark g (k0_pay28 (F := Ideal))))

/-- The first head's selection is three rounds. -/
theorem chosen_first (i : grid0.Coords) (v3 : Vec Ideal S1x256x128 .bf16) (v5 : Vec Ideal S128x128 .f32) :
    k0_pay31 (F := Ideal) k0_pay25 (k0_pay27 i v3 v5) k0_pay28 (k0_pay29 i v3 v5) (k0_pay30 i v3 v5)
      (Named.named κ "floor" 0xF0C9F2CA#32) = chosen (k0_pay27 i v3 v5) := rfl

/-- The second head's selection is three rounds. -/
theorem chosen_second (a : BitVec 32) (v4 : FVec Ideal S256x128 .bf16) (v6 : FVec Ideal S128x128 .bf16) (v12 : IVec S256x128 32) :
    k0_pay65 (F := Ideal) k0_pay25
      (k0_pay61 k0_pay25 (k0_pay53 a v4 v6 v12) k0_pay54 (k0_pay55 a v4 v6 v12))
      (k0_pay63 k0_pay25 (k0_pay53 a v4 v6 v12) (k0_pay55 a v4 v6 v12))
      (k0_pay64 k0_pay25 (k0_pay53 a v4 v6 v12) (k0_pay55 a v4 v6 v12)) = chosen (k0_pay53 a v4 v6 v12) := rfl

/-- Lane numbers as extended reals. -/
theorem lane (r : Fin 256) (n : Fin 128) : k0_pay25 (F := Ideal) (ix2 r n) = (((n.val : ℕ) : ℝ) : EReal) := by
  pointwise [k0_pay25]
  have e : ∀ n : Fin 128, (BitVec.ofNat 32 n.val).toInt = (n.val : ℤ) := by decide +kernel
  show (((BitVec.ofNat 32 n.val).toInt : ℝ) : EReal) = _
  rw [e n, Int.cast_natCast]

/-- One round, read at a row. -/
theorem round {g s : FVec Ideal S256x128 .f32} {g0 : Fin 128 → EReal} {k : ℕ} {r : Fin 256}
    (h : State g0 k (fun n => g (ix2 r n)) (fun n => s (ix2 r n))) :
    State g0 (k + 1) (fun n => strike g (ix2 r n)) (fun n => mark g s (ix2 r n)) := by
  have em : rowMax g (ix2 r 0) = Finset.univ.fold max ⊥ fun n : Fin 128 => g (ix2 r n) := by
    pointwise [rowMax, neg_inf]
  have el : ∀ n : Fin 128, laneAt g (ix2 r n)
      = if g (ix2 r n) = rowMax g (ix2 r 0) then (((n.val : ℕ) : ℝ) : EReal) else ((128 : ℝ) : EReal) := fun n => by
    pointwise [laneAt, lane, lanes]
  have eh : ∀ n : Fin 128, hit g (ix2 r n)
      = if (((n.val : ℕ) : ℝ) : EReal) = Finset.univ.fold min ⊤ (fun n : Fin 128 => laneAt g (ix2 r n)) then 1#1 else 0#1 := fun n => by
    pointwise [hit, lane, pos_inf]
    exact bit _
  refine h.step em el rfl (fun n => ?_) (fun n => ?_)
  · pointwise [strike, κ, Named.named]
    rw [eh]
    simp only [Option.getD_some]
    split_ifs <;> rfl
  · pointwise [mark, κ, Named.named]
    rw [eh]
    simp only [Option.getD_some]
    split_ifs <;> rfl

/-- After three rounds the marks are ones at the three best lanes and zeros elsewhere. -/
theorem chosen_apply (g : FVec Ideal S256x128 .f32) (r : Fin 256) (n : Fin 128)
    [Decidable (Best (fun n => g (ix2 r n)) 3 n)] :
    chosen g (ix2 r n) = if Best (fun n => g (ix2 r n)) 3 n then 1 else 0 := by
  have h0 : State (fun n => g (ix2 r n)) 0 (fun n => g (ix2 r n)) (fun n => k0_pay28 (F := Ideal) (ix2 r n)) := by
    have : (fun n : Fin 128 => k0_pay28 (F := Ideal) (ix2 r n)) = fun _ => 0 := funext fun n => by
      pointwise [k0_pay28]
    rw [this]; exact State.zero _
  have h := round (round (round h0)) n
  split_ifs with hb
  · exact (h.1 hb).2
  · exact (h.2 hb).2

/-- Whether a trip's block is picked: its mark is one. -/
theorem picked_apply (i : grid0.Coords) {v82 : FVec Ideal S256x128 .f32} {r : Fin 256} {p : Fin 128 → Prop} [DecidablePred p]
    (h : ∀ n, v82 (ix2 r n) = if p n then 1 else 0) (j : Fin (k0_t1_loop i).trips) (hj : j.val < 128) :
    k0_pay37 (F := Ideal) i (iota .tc S256x128 32 [1] iota_S256x128_d1_w32) v82 j (ix2 r 0) = if p ⟨j.val, hj⟩ then 1#1 else 0#1 := by
  pointwise [k0_pay37]
  have e : ∀ x : Fin 128, Scalar.select (IntOp.cmpi .eq (BitVec.ofNat 32 x.val) (Scf.iv 0#32 1#32 j.val)) (v82 (ix2 r x)) (0 : EReal)
      = if x = ⟨j.val, hj⟩ then v82 (ix2 r x) else 0 := fun x => by
    have hx := x.isLt
    have hiv : Scf.iv 0#32 1#32 j.val = BitVec.ofNat 32 j.val := by simp [Scf.iv]
    rw [hiv]
    simp (disch := word_cmp_side) only [hlo_ix]
    simp only [Fin.ext_iff]
  rw [Finset.sum_congr rfl fun x _ => e x, Finset.sum_ite_eq' Finset.univ, if_pos (Finset.mem_univ _), h, half, bit]
  by_cases hp : p ⟨j.val, hj⟩
  · rw [if_pos hp, if_pos hp, if_pos]
    rw [← EReal.coe_one]; exact EReal.coe_lt_coe_iff.2 (by norm_num)
  · rw [if_neg hp, if_neg hp, if_neg]
    rw [← EReal.coe_zero, not_lt]; exact EReal.coe_le_coe_iff.2 (by norm_num)

/-- The query rows of head `h`: the other head's lanes are zero. -/
def headQ (P : Fin 256 → Fin 128 → ℝ) (h : Fin 2) (r : Fin 256) (e : Fin 128) : ℝ :=
  if h = 0 then (if e.val < 64 then P r e else 0) else (if 64 ≤ e.val then P r e else 0)

/-- The gates of a row: the earlier blocks' products with the query, `-∞` from the row's own block on. -/
def gates (Q KM : Fin 256 → Fin 128 → ℝ) (t : ℕ) (r : Fin 256) (n : Fin 128) : EReal :=
  if n.val < t then ((∑ e, Q r e * KM ⟨n.val, by omega⟩ e : ℝ) : EReal) else ⊥

/-- The three values a loop carries for all 256 rows: maxima, denominators, numerators. -/
abbrev Carry : Type := FVec Ideal S256x1 .f32 × FVec Ideal S256x1 .f32 × FVec Ideal S256x128 .f32

/-- Every row of the carried vectors is what `Cert.Attn.Carried` says, with the row's own sums. -/
def Rows (x : Carry) (L : Fin 256 → ℝ) (A : Fin 256 → Fin 128 → EReal) : Prop :=
  ∀ r : Fin 256, Carried 0 (x.1 (ix2 r 0)) (x.2.1 (ix2 r 0)) (fun d : Fin 128 => x.2.2 (ix2 r d)) (L r) (A r)

/-- The weight of key `c` for query row `r`. -/
def weight (Q K : Fin 256 → Fin 128 → ℝ) (r c : Fin 256) : ℝ := Real.exp (∑ e, Q r e * K c e)

section

variable {q : FVec Ideal S256x128 .bf16} {kt vt v0 : Vec Ideal S1x256x128 .bf16} {Q K : Fin 256 → Fin 128 → ℝ} {V : Fin 256 → Fin 128 → EReal}

/-- A score is the real product of the query and the key. -/
theorem score_real (hq : ∀ r e, q (ix2 r e) = ((Q r e : ℝ) : EReal)) (hk : ∀ c e, kt (ix3 0 c e) = ((K c e : ℝ) : EReal))
    (r c : Fin 256) : k0_pay38 (F := Ideal) q kt (ix2 r c) = ((∑ e, Q r e * K c e : ℝ) : EReal) := by
  pointwise [k0_pay38]
  rw [Finset.sum_congr rfl fun e _ => by rw [hq r e, hk c e], sum_mul_coe]

/-- One trip of the loop: the rows that have picked the tile take in its keys, the others stay as they are. -/
theorem step (i : grid0.Coords) (v12 : IVec S256x128 32) (v82 : FVec Ideal S256x128 .f32) (j : Fin (k0_t1_loop i).trips)
    (hq : ∀ r e, q (ix2 r e) = ((Q r e : ℝ) : EReal)) (hk : ∀ c e, kt (ix3 0 c e) = ((K c e : ℝ) : EReal))
    (hv : ∀ c e, vt (ix3 0 c e) = V c e) {p : Fin 256 → Prop} [DecidablePred p]
    (hp : ∀ r, k0_pay37 i v12 v82 j (ix2 r 0) = if p r then 1#1 else 0#1)
    {x : Carry} {L : Fin 256 → ℝ} {A : Fin 256 → Fin 128 → EReal} (hx : Rows x L A) :
    Rows (k0_pay39 i v12 q v82 j x.1 kt, k0_pay42 i v12 q v82 j x.1 x.2.1 kt, k0_pay43 i v12 q v82 j x.1 x.2.2 kt vt)
      (fun r => L r + ∑ c, if p r then weight Q K r c else 0)
      (fun r d => A r d + ∑ c, ((if p r then weight Q K r c else 0 : ℝ) : EReal) * V c d) := by
  intro r
  have hs : ∀ c, Score 0 (if p r then k0_pay38 (F := Ideal) q kt (ix2 r c) else ⊥) (if p r then weight Q K r c else 0) := fun c => by
    by_cases h : p r
    · rw [if_pos h, if_pos h]
      exact .inr ⟨∑ e, Q r e * K c e, by rw [score_real hq hk, add_zero], rfl⟩
    · rw [if_neg h, if_neg h]; exact .inl ⟨rfl, rfl⟩
  have h := (hx r).step hs V
  have e3 : k0_pay39 i v12 q v82 j x.1 kt (ix2 r 0)
      = max (x.1 (ix2 r 0)) (Finset.univ.fold max ⊥ fun c : Fin 256 => if p r then k0_pay38 (F := Ideal) q kt (ix2 r c) else ⊥) := by
    pointwise [k0_pay39, κ, Named.named, neg_inf]
    rw [hp]
    simp only [Option.getD_some]
    by_cases h : p r
    · simp only [h, if_true]; rfl
    · simp only [h, if_false]
      congr 1
  have ee : ∀ c : Fin 256, k0_pay40 i v12 q v82 j x.1 kt (ix2 r c)
      = Ideal.exp ((if p r then k0_pay38 (F := Ideal) q kt (ix2 r c) else ⊥) - k0_pay39 i v12 q v82 j x.1 kt (ix2 r 0)) := fun c => by
    pointwise [k0_pay40, κ, Named.named]
    rw [hp]
    simp only [Option.getD_some]
    by_cases h : p r
    · simp only [h, if_true]; rfl
    · simp only [h, if_false]
      rw [score_real hq hk, EReal.bot_sub]
      rfl
  have e6 : k0_pay42 i v12 q v82 j x.1 x.2.1 kt (ix2 r 0)
      = Ideal.exp (x.1 (ix2 r 0) - k0_pay39 i v12 q v82 j x.1 kt (ix2 r 0)) * x.2.1 (ix2 r 0)
        + ∑ c : Fin 256, k0_pay40 i v12 q v82 j x.1 kt (ix2 r c) := by
    pointwise [k0_pay42, k0_pay41]
  have e7 : ∀ d : Fin 128, k0_pay43 i v12 q v82 j x.1 x.2.2 kt vt (ix2 r d)
      = Ideal.exp (x.1 (ix2 r 0) - k0_pay39 i v12 q v82 j x.1 kt (ix2 r 0)) * x.2.2 (ix2 r d)
        + ∑ c : Fin 256, k0_pay40 i v12 q v82 j x.1 kt (ix2 r c) * V c d := fun d => by
    pointwise [k0_pay43, k0_pay41]
    exact congrArg _ (Finset.sum_congr rfl fun c _ => by rw [hv c d])
  simp only [ee] at e6 e7
  rw [e3] at e6 e7
  show Carried 0 (k0_pay39 i v12 q v82 j x.1 kt (ix2 r 0)) (k0_pay42 i v12 q v82 j x.1 x.2.1 kt (ix2 r 0))
    (fun d : Fin 128 => k0_pay43 i v12 q v82 j x.1 x.2.2 kt vt (ix2 r d)) _ _
  rw [e3, e6, funext e7]
  exact h

/-- The second head's loop body is the first's. -/
theorem step_second (i : grid0.Coords) (v12 : IVec S256x128 32) (v13 v159 : FVec Ideal S256x128 .f32)
    (v163 : FVec Ideal S256x1 .f32) (v170 : FVec Ideal S256x128 .f32) (j : Fin (k0_t3_loop i).trips) (x : Carry) :
    ((k0_pay73 i v12 v13 q v159 v163 v170 j x.1 kt, k0_pay76 i v12 v13 q v159 v163 v170 j x.1 x.2.1 kt,
      k0_pay77 i v12 v13 q v159 v163 v170 j x.1 x.2.2 kt vt) : Carry)
      = (k0_pay39 i v12 q (k0_pay65 v13 v159 v163 v170) j x.1 kt, k0_pay42 i v12 q (k0_pay65 v13 v159 v163 v170) j x.1 x.2.1 kt,
        k0_pay43 i v12 q (k0_pay65 v13 v159 v163 v170) j x.1 x.2.2 kt vt) := rfl

/-- The query tile of the second head: the lanes of the first are zero. -/
theorem query_second {P : Fin 256 → Fin 128 → ℝ} (h : ∀ r e, v0 (ix3 0 r e) = ((P r e : ℝ) : EReal)) (r : Fin 256)
    (e : Fin 128) : k0_pay52 (F := Ideal) (k0_pay22 v0) (ix2 r e) = ((headQ P 1 r e : ℝ) : EReal) := by
  rw [headQ, if_neg (by decide)]
  pointwise [k0_pay52, k0_pay22]
  rw [h r e]
  have hm : IntOp.andi (IntOp.cmpi .sge (BitVec.ofNat 32 e.val) 64#32) (IntOp.cmpi .slt (BitVec.ofNat 32 e.val) 128#32)
      = if 64 ≤ e.val then 1#1 else 0#1 := by
    revert e; decide +kernel
  rw [hm]
  by_cases h6 : 64 ≤ e.val
  · rw [if_pos h6, if_pos h6]; rfl
  · rw [if_neg h6, if_neg h6]; rfl

/-- The query tile of the first head: the lanes of the second are zero. -/
theorem query_first {P : Fin 256 → Fin 128 → ℝ} (h : ∀ r e, v0 (ix3 0 r e) = ((P r e : ℝ) : EReal)) (r : Fin 256)
    (e : Fin 128) : k0_pay26 (F := Ideal) v0 (ix2 r e) = ((headQ P 0 r e : ℝ) : EReal) := by
  rw [headQ, if_pos rfl]
  pointwise [k0_pay26, k0_pay22]
  rw [h r e]
  have hm : IntOp.andi (IntOp.cmpi .sge (BitVec.ofNat 32 e.val) 0#32) (IntOp.cmpi .slt (BitVec.ofNat 32 e.val) 64#32)
      = if e.val < 64 then 1#1 else 0#1 := by
    revert e; decide +kernel
  rw [hm]
  by_cases h6 : e.val < 64
  · rw [if_pos h6, if_pos h6]; rfl
  · rw [if_neg h6, if_neg h6]; rfl

/-- The gates of a tile, as either head computes them from its query tile and the block means. -/
theorem gates_apply {n16 : ℕ} (hn : n16 < 16) {qv : FVec Ideal S256x128 .bf16} {km : Vec Ideal S128x128 .f32} {Q KM : Fin 256 → Fin 128 → ℝ}
    (hq : ∀ r e, qv (ix2 r e) = ((Q r e : ℝ) : EReal))
    (hm : ∀ (n : Fin 128) (e : Fin 128), n.val < n16 → km (ix2 n e) = ((KM ⟨n.val, by omega⟩ e : ℝ) : EReal)) (r : Fin 256) (n : Fin 128) :
    select (cmpi .slt (iota .tc S256x128 32 [1] iota_S256x128_d1_w32) (broadcast S256x128 (BitVec.ofNat 32 n16)))
      (matmul dot_S256x128_S128x128_S256x128_1_1_0_0_n_n none qv (k0_pay23 (F := Ideal) km) (constant S256x128 .f32 0x00000000#32))
      (broadcast S256x128 (Named.named κ "mask" 0xF149F2CA#32)) (ix2 r n) = gates Q KM n16 r n := by
  have hn' := n.isLt
  pointwise [κ, Named.named, k0_pay23]
  simp (disch := word_cmp_side) only [hlo_ix]
  unfold gates
  by_cases h : n.val < n16
  · rw [if_pos h, if_pos h, Finset.sum_congr rfl fun e _ => by rw [hq r e, hm n e h], sum_mul_coe]
  · rw [if_neg h, if_neg h]; rfl

/-- The first head's gates. -/
theorem gates_first (i : grid0.Coords) {km : Vec Ideal S128x128 .f32} {P KM : Fin 256 → Fin 128 → ℝ}
    (h : ∀ r e, v0 (ix3 0 r e) = ((P r e : ℝ) : EReal))
    (hm : ∀ (n : Fin 128) (e : Fin 128), n.val < (i 2).val → km (ix2 n e) = ((KM ⟨n.val, by omega⟩ e : ℝ) : EReal)) (r : Fin 256) (n : Fin 128) :
    k0_pay27 (F := Ideal) i v0 km (ix2 r n) = gates (headQ P 0) KM (i 2).val r n :=
  gates_apply (i 2).isLt (query_first h) hm r n

/-- The second head's gates. -/
theorem gates_second (i : grid0.Coords) {km : Vec Ideal S128x128 .f32} {P KM : Fin 256 → Fin 128 → ℝ}
    (h : ∀ r e, v0 (ix3 0 r e) = ((P r e : ℝ) : EReal))
    (hm : ∀ (n : Fin 128) (e : Fin 128), n.val < (i 2).val → km (ix2 n e) = ((KM ⟨n.val, by omega⟩ e : ℝ) : EReal)) (r : Fin 256) (n : Fin 128) :
    k0_pay53 (F := Ideal) (BitVec.ofNat 32 (i 2).val) (k0_pay22 v0) (k0_pay23 km) (iota .tc S256x128 32 [1] iota_S256x128_d1_w32) (ix2 r n)
      = gates (headQ P 1) KM (i 2).val r n :=
  gates_apply (i 2).isLt (query_second h) hm r n

/-- The weights of the diagonal tile. -/
def diagWeight (Q K : Fin 256 → Fin 128 → ℝ) (r c : Fin 256) : ℝ := if c ≤ r then weight Q K r c else 0

/-- The diagonal tile's scores stand for its weights: masked above the diagonal, real on and below it. -/
theorem score_diag (hq : ∀ r e, q (ix2 r e) = ((Q r e : ℝ) : EReal))
    (hk : ∀ c e, kt (ix3 0 c e) = ((K c e : ℝ) : EReal)) (r c : Fin 256) :
    Score 0 (k0_pay32 (F := Ideal) k0_pay24 q kt (ix2 r c)) (diagWeight Q K r c) := by
  have e : k0_pay32 (F := Ideal) k0_pay24 q kt (ix2 r c) = if c.val ≤ r.val then k0_pay38 (F := Ideal) q kt (ix2 r c) else ⊥ := by
    pointwise [k0_pay32, k0_pay38, k0_pay24, κ, Named.named]
    simp (disch := word_cmp_side) only [hlo_ix]
    rfl
  rw [e]
  unfold diagWeight
  by_cases h : c ≤ r
  · rw [if_pos h, if_pos (Fin.le_def.1 h)]
    exact .inr ⟨∑ e, Q r e * K c e, by rw [score_real hq hk, add_zero], rfl⟩
  · rw [if_neg h, if_neg (fun h' => h (Fin.le_def.2 h'))]; exact .inl ⟨rfl, rfl⟩

/-- The diagonal element of the diagonal tile is never masked. -/
theorem diag_real (hq : ∀ r e, q (ix2 r e) = ((Q r e : ℝ) : EReal))
    (hk : ∀ c e, kt (ix3 0 c e) = ((K c e : ℝ) : EReal)) (r : Fin 256) :
    ∃ c : Fin 256, ⊥ < k0_pay32 (F := Ideal) k0_pay24 q kt (ix2 r c) := by
  refine ⟨r, ?_⟩
  rcases score_diag hq hk r r with ⟨-, h⟩ | ⟨σ, h, -⟩
  · rw [diagWeight, if_pos (le_refl r)] at h; exact absurd h (Real.exp_pos _).ne'
  · rw [h]; exact EReal.bot_lt_coe _

/-- What the rows carry after the diagonal tile, given how the three vectors read at an element. -/
theorem init (hq : ∀ r e, q (ix2 r e) = ((Q r e : ℝ) : EReal))
    (hk : ∀ c e, kt (ix3 0 c e) = ((K c e : ℝ) : EReal)) {x : Carry}
    (e3 : ∀ r : Fin 256, x.1 (ix2 r 0) = Finset.univ.fold max ⊥ fun c : Fin 256 => k0_pay32 (F := Ideal) k0_pay24 q kt (ix2 r c))
    (e6 : ∀ r : Fin 256, x.2.1 (ix2 r 0) = ∑ c : Fin 256, Ideal.exp (k0_pay32 (F := Ideal) k0_pay24 q kt (ix2 r c) - x.1 (ix2 r 0)))
    (e7 : ∀ (r : Fin 256) (d : Fin 128), x.2.2 (ix2 r d)
      = ∑ c : Fin 256, Ideal.exp (k0_pay32 (F := Ideal) k0_pay24 q kt (ix2 r c) - x.1 (ix2 r 0)) * V c d) :
    Rows x (fun r => ∑ c, diagWeight Q K r c) (fun r d => ∑ c, ((diagWeight Q K r c : ℝ) : EReal) * V c d) := by
  intro r
  have h := Carried.init (fun c => score_diag hq hk r c) (diag_real hq hk r) V
  rw [funext (e7 r), e6 r, e3 r]
  exact h

/-- What the first head's rows carry after the diagonal tile. -/
theorem init_first (hq : ∀ r e, q (ix2 r e) = ((Q r e : ℝ) : EReal))
    (hk : ∀ c e, kt (ix3 0 c e) = ((K c e : ℝ) : EReal)) (hv : ∀ c e, vt (ix3 0 c e) = V c e) :
    Rows (k0_pay33 k0_pay24 q kt, k0_pay35 k0_pay24 q kt, k0_pay36 k0_pay24 q kt vt)
      (fun r => ∑ c, diagWeight Q K r c) (fun r d => ∑ c, ((diagWeight Q K r c : ℝ) : EReal) * V c d) := by
  refine init hq hk (fun r => ?_) (fun r => ?_) (fun r d => ?_)
  · dsimp only; pointwise [k0_pay33, neg_inf]
  · dsimp only; pointwise [k0_pay35, k0_pay34]
  · dsimp only; pointwise [k0_pay36, k0_pay34]
    exact Finset.sum_congr rfl fun c _ => by rw [hv c d]

/-- What the second head's rows carry after the diagonal tile. -/
theorem init_second (hq : ∀ r e, q (ix2 r e) = ((Q r e : ℝ) : EReal))
    (hk : ∀ c e, kt (ix3 0 c e) = ((K c e : ℝ) : EReal)) (hv : ∀ c e, vt (ix3 0 c e) = V c e) :
    Rows (k0_pay67 k0_pay24 q kt, k0_pay69 k0_pay24 q kt, k0_pay70 k0_pay24 q kt vt)
      (fun r => ∑ c, diagWeight Q K r c) (fun r d => ∑ c, ((diagWeight Q K r c : ℝ) : EReal) * V c d) :=
  init_first hq hk hv

end

/-- The stored block: each head's numerators over its denominators, the first head's lanes from the first. -/
theorem merge (v109 : FVec Ideal S256x128 .f32) (l : FVec Ideal S256x1 .f32) (a : FVec Ideal S256x128 .f32) (r : Fin 256)
    (d : Fin 128) : k0_pay1 (F := Ideal) (k0_pay85 v109 l a) (ix3 0 r d)
      = if d.val < 64 then v109 (ix2 r d) else Ideal.div (a (ix2 r d)) (l (ix2 r 0)) := by
  pointwise [k0_pay1, k0_pay85]
  simp (disch := word_cmp_side) only [hlo_ix]

/-- The first head's quotient. -/
theorem quotient (l : FVec Ideal S256x1 .f32) (a : FVec Ideal S256x128 .f32) (r : Fin 256) (d : Fin 128) :
    k0_pay51 (F := Ideal) l a (ix2 r d) = Ideal.div (a (ix2 r d)) (l (ix2 r 0)) := by
  pointwise [k0_pay51]

end Cert.MobaIdeal.Tile

end
-- ==== Proof.MobaLoop.lean ====
/-
  The block-sparse attention's loops over the earlier key tiles: what the carried rows stand for after any number of trips.
-/
module

public import proofs.«01_k».proof.Proof.Gen.MobaIdeal.Value
public import Idealize.ShloMosaic.Lib.Pipeline.ValueKit
public import Idealize.ShloMosaic.Lib.LoopRemainder
public import proofs.«01_k».proof.Proof.MobaTile

@[expose] public section

set_option maxRecDepth 16384

noncomputable section

namespace Cert.MobaIdeal.Tile

open Cert.MobaIdeal Cert.MobaIdeal.Gen Idealize.ShloMosaic Idealize.ShloMosaic.TcCoe Idealize.SL.Sem Cert.Attn Cert.Pick
open Idealize.ShloMosaic.Pipeline (Dat)

/-- The loop over the earlier tiles makes as many trips as the query tile's number. -/
theorem trips_eq : ∀ n : Fin 16, Scf.trips (0#32) (Scalar.addi (0#32)
    (Scalar.muli (Scalar.divsi (Scalar.subi (BitVec.ofNat 32 n.val) 0#32) 1#32) 1#32)) 1#32 = n.val := by
  decide +kernel

/-- The weight of key `k` for query row `r`, before any mask. -/
def fullWeight (Q : Fin 256 → Fin 128 → ℝ) (K : Fin 4096 → Fin 128 → ℝ) (r : Fin 256) (k : Fin 4096) : ℝ :=
  Real.exp (∑ e, Q r e * K k e)

/-- Row `c` of tile `j`, as a position among all keys. -/
def pos (j : ℕ) (hj : j < 16) (c : Fin 256) : Fin 4096 := ⟨j * 256 + c.val, by have := c.isLt; omega⟩

section

variable (Q : Fin 256 → Fin 128 → ℝ) (K : Fin 4096 → Fin 128 → ℝ) (V : Fin 4096 → Fin 128 → EReal) (pk : Fin 256 → ℕ → Prop) [∀ r, DecidablePred (pk r)]

/-- The denominators of the picked tiles among the first `n`. -/
def headSum (n : ℕ) (r : Fin 256) : ℝ :=
  ∑ j ∈ Finset.range n, ∑ c : Fin 256,
    if h : j * 256 + c.val < 4096 then (if pk r j then fullWeight Q K r ⟨j * 256 + c.val, h⟩ else 0) else 0

/-- The numerators of the picked tiles among the first `n`. -/
def headVal (n : ℕ) (r : Fin 256) (d : Fin 128) : EReal :=
  ∑ j ∈ Finset.range n, ∑ c : Fin 256,
    if h : j * 256 + c.val < 4096 then
      ((if pk r j then fullWeight Q K r ⟨j * 256 + c.val, h⟩ else 0 : ℝ) : EReal) * V ⟨j * 256 + c.val, h⟩ d else 0

/-- One more key tile adds its weights, where it is picked. -/
theorem headSum_succ (n : ℕ) (hn : n < 16) (r : Fin 256) :
    headSum Q K pk (n + 1) r = headSum Q K pk n r
      + ∑ c, if pk r n then weight Q (fun c => K (pos n hn c)) r c else 0 := by
  unfold headSum
  rw [Finset.sum_range_succ]
  congr 1
  exact Finset.sum_congr rfl fun c _ => dif_pos (pos n hn c).isLt

/-- One more key tile adds its weighted values, where it is picked. -/
theorem headVal_succ (n : ℕ) (hn : n < 16) (r : Fin 256) (d : Fin 128) :
    headVal Q K V pk (n + 1) r d = headVal Q K V pk n r d
      + ∑ c, ((if pk r n then weight Q (fun c => K (pos n hn c)) r c else 0 : ℝ) : EReal) * V (pos n hn c) d := by
  unfold headVal
  rw [Finset.sum_range_succ]
  congr 1
  exact Finset.sum_congr rfl fun c _ => dif_pos (pos n hn c).isLt

end

/-- The first head's loop: after `n` trips the rows carry the initial sums and those of the picked tiles among the first `n`. -/
theorem loop_t1 (𝒱 : Variants) (c : Dev nD) (bd : Option 𝒱.V) (i : grid0.Coords) (arg3 : Memref sig .tc .vmem S1x256x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x256x128 .bf16) (harg6 : arg6.IsWhole) (arg7 : Memref sig .tc .vmem S128x128 .f32) (harg7 : arg7.IsWhole)
    (arg2 : BitVec 32) (v4 : FVec Ideal S256x128 .bf16) (v6 : FVec Ideal S128x128 .bf16) (v8 : BitVec 32) (v11 : IVec S256x256 1) (v12 : IVec S256x128 32) (v21 : FVec Ideal S256x128 .bf16) (v82 : FVec Ideal S256x128 .f32) (x1 x2 : Vec Ideal S1x4096x128 .bf16)
    {Q : Fin 256 → Fin 128 → ℝ} {K : Fin 4096 → Fin 128 → ℝ} {V : Fin 4096 → Fin 128 → EReal} {pk : Fin 256 → ℕ → Prop} [∀ r, DecidablePred (pk r)]
    (hq : ∀ r e, v21 (ix2 r e) = ((Q r e : ℝ) : EReal))
    (hk : ∀ k e, x1 (ix3 0 k e) = ((K k e : ℝ) : EReal)) (hv : ∀ k e, x2 (ix3 0 k e) = V k e)
    (hp : ∀ (j : Fin (k0_t1_loop i).trips) (r : Fin 256), k0_pay37 (F := Ideal) i v12 v82 j (ix2 r 0) = if pk r j.val then 1#1 else 0#1)
    (init : Carry) {L : Fin 256 → ℝ} {A : Fin 256 → Fin 128 → EReal} (hi : Rows init L A) :
    ∀ n : ℕ, n ≤ (i 2).val → Rows (st_k0_t1 (F := Ideal) 𝒱 c bd i arg3 harg3 arg4 harg4 arg5 harg5 arg6 harg6 arg7 harg7 arg2 v4 v6 v8 v11 v12 v21 v82 (harg4.unread x1) (harg5.unread x2) init n)
      (fun r => L r + headSum Q K pk n r) (fun r d => A r d + headVal Q K V pk n r d) := by
  intro n
  induction n with
  | zero =>
    intro _
    have e : (fun r => L r + headSum Q K pk 0 r) = L := funext fun r => by simp [headSum]
    have e' : (fun r d => A r d + headVal Q K V pk 0 r d) = A := funext fun r => funext fun d => by simp [headVal]
    rw [st_k0_t1_zero, e, e']
    exact hi
  | succ n ih =>
    intro hn
    have h16 : (i 2).val < 16 := (i 2).isLt
    have hn16 : n < 16 := by omega
    have ht : n < (k0_t1_loop i).trips := by
      have := trips_eq ⟨(i 2).val, h16⟩
      show n < Scf.trips _ _ _
      rw [this]; exact hn
    replace ih := ih (by omega)
    rw [st_k0_t1_succ (F := Ideal) 𝒱 c bd i arg3 harg3 arg4 harg4 arg5 harg5 arg6 harg6 arg7 harg7 arg2 v4 v6 v8 v11 v12 v21 v82 (harg4.unread x1) (harg5.unread x2) init ⟨n, ht⟩]
    show Rows ((trip_k0_t1 (F := Ideal) 𝒱 c bd i arg3 harg3 arg4 harg4 arg5 harg5 arg6 harg6 arg7 harg7 arg2 v4 v6 v8 v11 v12 v21 v82 (harg4.unread x1) (harg5.unread x2) ⟨n, ht⟩).1 (st_k0_t1 (F := Ideal) 𝒱 c bd i arg3 harg3 arg4 harg4 arg5 harg5 arg6 harg6 arg7 harg7 arg2 v4 v6 v8 v11 v12 v21 v82 (harg4.unread x1) (harg5.unread x2) init n)) _ _
    generalize st_k0_t1 (F := Ideal) 𝒱 c bd i arg3 harg3 arg4 harg4 arg5 harg5 arg6 harg6 arg7 harg7 arg2 v4 v6 v8 v11 v12 v21 v82 (harg4.unread x1) (harg5.unread x2) init n = acc at ih ⊢
    have e : (fun r => L r + headSum Q K pk (n + 1) r) = fun r => (L r + headSum Q K pk n r)
        + ∑ c, if pk r n then weight Q (fun c => K (pos n hn16 c)) r c else 0 := funext fun r => by
      rw [headSum_succ Q K pk n hn16, add_assoc]
    have e' : (fun r d => A r d + headVal Q K V pk (n + 1) r d) = fun r d => (A r d + headVal Q K V pk n r d)
        + ∑ c, ((if pk r n then weight Q (fun c => K (pos n hn16 c)) r c else 0 : ℝ) : EReal) * V (pos n hn16 c) d :=
      funext fun r => funext fun d => by rw [headVal_succ Q K V pk n hn16, add_assoc]
    rw [e, e']
    unfold trip_k0_t1
    dsimp only
    frame_out
    refine (step i v12 _ ⟨n, ht⟩ hq ?_ ?_ (hp ⟨n, ht⟩) ih)
    · intro c e
      pointwise
      rw [← hk]
      congr 1
      blk_ext [pos, k0_off2_eq]
    · intro c e
      pointwise
      rw [← hv]
      congr 1
      blk_ext [pos, k0_off2_eq]

/-- The second head's loop: after `n` trips the rows carry the initial sums and those of the picked tiles among the first `n`. -/
theorem loop_t3 (𝒱 : Variants) (c : Dev nD) (bd : Option 𝒱.V) (i : grid0.Coords) (arg3 : Memref sig .tc .vmem S1x256x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x256x128 .bf16) (harg6 : arg6.IsWhole) (arg7 : Memref sig .tc .vmem S128x128 .f32) (harg7 : arg7.IsWhole)
    (arg2 : BitVec 32) (v8 : BitVec 32) (v11 : IVec S256x256 1) (v12 : IVec S256x128 32) (v13 v109 : FVec Ideal S256x128 .f32) (v117 : FVec Ideal S256x128 .bf16) (v159 : FVec Ideal S256x128 .f32) (v163 : FVec Ideal S256x1 .f32) (v170 : FVec Ideal S256x128 .f32) (x1 x2 : Vec Ideal S1x4096x128 .bf16)
    {Q : Fin 256 → Fin 128 → ℝ} {K : Fin 4096 → Fin 128 → ℝ} {V : Fin 4096 → Fin 128 → EReal} {pk : Fin 256 → ℕ → Prop} [∀ r, DecidablePred (pk r)]
    (hq : ∀ r e, v117 (ix2 r e) = ((Q r e : ℝ) : EReal))
    (hk : ∀ k e, x1 (ix3 0 k e) = ((K k e : ℝ) : EReal)) (hv : ∀ k e, x2 (ix3 0 k e) = V k e)
    (hp : ∀ (j : Fin (k0_t1_loop i).trips) (r : Fin 256), k0_pay37 (F := Ideal) i v12 (k0_pay65 v13 v159 v163 v170) j (ix2 r 0) = if pk r j.val then 1#1 else 0#1)
    (init : Carry) {L : Fin 256 → ℝ} {A : Fin 256 → Fin 128 → EReal} (hi : Rows init L A) :
    ∀ n : ℕ, n ≤ (i 2).val → Rows (st_k0_t3 (F := Ideal) 𝒱 c bd i arg3 harg3 arg4 harg4 arg5 harg5 arg6 harg6 arg7 harg7 arg2 v8 v11 v12 v13 v109 v117 v159 v163 v170 (harg4.unread x1) (harg5.unread x2) init n)
      (fun r => L r + headSum Q K pk n r) (fun r d => A r d + headVal Q K V pk n r d) := by
  intro n
  induction n with
  | zero =>
    intro _
    have e : (fun r => L r + headSum Q K pk 0 r) = L := funext fun r => by simp [headSum]
    have e' : (fun r d => A r d + headVal Q K V pk 0 r d) = A := funext fun r => funext fun d => by simp [headVal]
    rw [st_k0_t3_zero, e, e']
    exact hi
  | succ n ih =>
    intro hn
    have h16 : (i 2).val < 16 := (i 2).isLt
    have hn16 : n < 16 := by omega
    have ht : n < (k0_t3_loop i).trips := by
      have := trips_eq ⟨(i 2).val, h16⟩
      show n < Scf.trips _ _ _
      rw [this]; exact hn
    replace ih := ih (by omega)
    rw [st_k0_t3_succ (F := Ideal) 𝒱 c bd i arg3 harg3 arg4 harg4 arg5 harg5 arg6 harg6 arg7 harg7 arg2 v8 v11 v12 v13 v109 v117 v159 v163 v170 (harg4.unread x1) (harg5.unread x2) init ⟨n, ht⟩]
    show Rows ((trip_k0_t3 (F := Ideal) 𝒱 c bd i arg3 harg3 arg4 harg4 arg5 harg5 arg6 harg6 arg7 harg7 arg2 v8 v11 v12 v13 v109 v117 v159 v163 v170 (harg4.unread x1) (harg5.unread x2) ⟨n, ht⟩).1 (st_k0_t3 (F := Ideal) 𝒱 c bd i arg3 harg3 arg4 harg4 arg5 harg5 arg6 harg6 arg7 harg7 arg2 v8 v11 v12 v13 v109 v117 v159 v163 v170 (harg4.unread x1) (harg5.unread x2) init n)) _ _
    generalize st_k0_t3 (F := Ideal) 𝒱 c bd i arg3 harg3 arg4 harg4 arg5 harg5 arg6 harg6 arg7 harg7 arg2 v8 v11 v12 v13 v109 v117 v159 v163 v170 (harg4.unread x1) (harg5.unread x2) init n = acc at ih ⊢
    have e : (fun r => L r + headSum Q K pk (n + 1) r) = fun r => (L r + headSum Q K pk n r)
        + ∑ c, if pk r n then weight Q (fun c => K (pos n hn16 c)) r c else 0 := funext fun r => by
      rw [headSum_succ Q K pk n hn16, add_assoc]
    have e' : (fun r d => A r d + headVal Q K V pk (n + 1) r d) = fun r d => (A r d + headVal Q K V pk n r d)
        + ∑ c, ((if pk r n then weight Q (fun c => K (pos n hn16 c)) r c else 0 : ℝ) : EReal) * V (pos n hn16 c) d :=
      funext fun r => funext fun d => by rw [headVal_succ Q K V pk n hn16, add_assoc]
    rw [e, e']
    unfold trip_k0_t3
    dsimp only
    frame_out
    rw [step_second]
    refine (step i v12 _ ⟨n, ht⟩ hq ?_ ?_ (hp ⟨n, ht⟩) ih)
    · intro c e
      pointwise
      rw [← hk]
      congr 1
      blk_ext [pos, k0_off4_eq]
    · intro c e
      pointwise
      rw [← hv]
      congr 1
      blk_ext [pos, k0_off4_eq]

section

variable (Q : Fin 256 → Fin 128 → ℝ) (K : Fin 4096 → Fin 128 → ℝ) (V : Fin 4096 → Fin 128 → EReal) (pk : Fin 256 → ℕ → Prop) [∀ r, DecidablePred (pk r)]

/-- The masked weight of key `k` for query row `r` of query tile `n`: kept in the row's own block up to itself, and in
    the picked blocks. -/
def kept (n : ℕ) (r : Fin 256) (k : Fin 4096) : ℝ :=
  if (k.val / 256 = n ∧ k.val ≤ n * 256 + r.val) ∨ pk r (k.val / 256) then fullWeight Q K r k else 0

/-- The row's diagonal tile and the tiles before it make up the sum over all keys, of anything that is zero at weight
    zero. -/
theorem total {M : Type} [AddCommMonoid M] (f : ℝ → Fin 4096 → M) (h0 : ∀ k, f 0 k = 0) (n : ℕ) (hn : n < 16) (r : Fin 256)
    (hpk : ∀ j, pk r j → j < n) :
    ∑ k, f (kept Q K pk n r k) k
      = ∑ c, f (diagWeight Q (fun c => K (pos n hn c)) r c) (pos n hn c)
        + ∑ j ∈ Finset.range n, ∑ c : Fin 256, if h : j * 256 + c.val < 4096 then
            f (if pk r j then fullWeight Q K r ⟨j * 256 + c.val, h⟩ else 0) ⟨j * 256 + c.val, h⟩ else 0 := by
  rw [sum_tiles_le (J := 16) (T := 256) (by decide) _ n hn (fun k hk => by
    rw [kept, if_neg (fun h => by
      have := r.isLt
      rcases h with h | h
      · omega
      · have := hpk _ h; omega), h0])]
  congr 1
  · refine Finset.sum_congr rfl fun c _ => ?_
    have hc := c.isLt
    have ed : (pos n hn c).val / 256 = n := by show (n * 256 + c.val) / 256 = n; omega
    show f (kept Q K pk n r (pos n hn c)) (pos n hn c) = _
    congr 1
    unfold kept diagWeight
    rw [ed]
    by_cases h : c ≤ r
    · have h' : c.val ≤ r.val := h
      rw [if_pos h, if_pos (.inl ⟨rfl, by show n * 256 + c.val ≤ _; omega⟩)]; rfl
    · have h' : ¬ c.val ≤ r.val := h
      rw [if_neg h, if_neg]
      rintro (⟨-, h1⟩ | h1)
      · have h2 : n * 256 + c.val ≤ n * 256 + r.val := h1
        omega
      · exact absurd (hpk _ h1) (lt_irrefl _)
  · refine Finset.sum_congr rfl fun j hj => Finset.sum_congr rfl fun c _ => ?_
    have hj' := Finset.mem_range.1 hj
    have hc := c.isLt
    have h : j * 256 + c.val < 4096 := by omega
    have ed : (j * 256 + c.val) / 256 = j := by omega
    rw [dif_pos h, dif_pos h]
    congr 1
    unfold kept
    dsimp only
    rw [ed]
    exact ite_congr (propext ⟨fun h => h.resolve_left fun h => by omega, .inr⟩) (fun _ => rfl) fun _ => rfl

/-- The denominators: the sum of the kept weights. -/
theorem total_sum (n : ℕ) (hn : n < 16) (r : Fin 256) (hpk : ∀ j, pk r j → j < n) :
    ∑ c, diagWeight Q (fun c => K (pos n hn c)) r c + headSum Q K pk n r = ∑ k, kept Q K pk n r k :=
  (total Q K pk (fun w _ => w) (fun _ => rfl) n hn r hpk).symm

/-- A row's kept weights have a positive sum: the row sees itself. -/
theorem kept_pos (n : ℕ) (hn : n < 16) (r : Fin 256) : 0 < ∑ k, kept Q K pk n r k := by
  refine Finset.sum_pos' (fun k _ => ?_) ⟨pos n hn r, Finset.mem_univ _, ?_⟩
  · unfold kept; split_ifs
    · exact (Real.exp_pos _).le
    · exact le_refl _
  · rw [kept, if_pos (.inl ⟨by show (n * 256 + r.val) / 256 = n; have := r.isLt; omega, le_refl (n * 256 + r.val)⟩)]
    exact Real.exp_pos _

/-- From the carried rows after all tiles: the quotient is the mean of the values under the kept weights. -/
theorem mean_of_rows {x : Carry} {n : ℕ} (hn : n < 16) (hpk : ∀ r j, pk r j → j < n)
    (hx : Rows x
      (fun r => ∑ c, diagWeight Q (fun c => K (pos n hn c)) r c + headSum Q K pk n r)
      (fun r d => ∑ c, ((diagWeight Q (fun c => K (pos n hn c)) r c : ℝ) : EReal) * V (pos n hn c) d
        + headVal Q K V pk n r d)) (r : Fin 256) (d : Fin 128) :
    Ideal.div (x.2.2 (ix2 r d)) (x.2.1 (ix2 r 0))
      = Ideal.div (∑ k, ((kept Q K pk n r k : ℝ) : EReal) * V k d) ((∑ k, kept Q K pk n r k : ℝ) : EReal) := by
  have h := hx r
  dsimp only at h
  rw [total_sum Q K pk n hn r (hpk r)] at h
  rw [h.div (kept_pos Q K pk n hn r) d, total Q K pk (fun w k => ((w : ℝ) : EReal) * V k d) (fun k => by rw [EReal.coe_zero, zero_mul]) n hn r (hpk r)]
  rfl

end

end Cert.MobaIdeal.Tile

end
-- ==== Proof.MobaPoint.lean ====
/-
  The block-sparse attention's output tile at one point: every element is the mean of the values over the kept keys.
-/
module

public import proofs.«01_k».proof.Proof.MobaLoop

@[expose] public section

set_option maxRecDepth 16384

noncomputable section

namespace Cert.MobaIdeal.Tile

open Cert.MobaIdeal Cert.MobaIdeal.Gen Idealize.ShloMosaic Idealize.ShloMosaic.TcCoe Idealize.SL.Sem Cert.Attn Cert.Pick
open Idealize.ShloMosaic.Pipeline (Dat)

/-- Query row `r` of tile `t` picks block `j`: it is among the three best of the earlier blocks. -/
def Picks (Q KM : Fin 256 → Fin 128 → ℝ) (t : ℕ) (r : Fin 256) (j : ℕ) : Prop :=
  ∃ h : j < 128, Best (gates Q KM t r) 3 ⟨j, h⟩

/-- Only earlier blocks are picked. -/
theorem Picks.lt {Q KM : Fin 256 → Fin 128 → ℝ} {t : ℕ} {r : Fin 256} {j : ℕ} (h : Picks Q KM t r j) : j < t := by
  obtain ⟨hj, -, hb⟩ := h
  by_contra hc
  rw [gates, if_neg hc] at hb
  exact lt_irrefl _ hb

open Classical in
/-- The bit of a trip says whether its block is picked. -/
theorem picked_trip (i : grid0.Coords) {g : FVec Ideal S256x128 .f32} {Q KM : Fin 256 → Fin 128 → ℝ}
    (hg : ∀ r n, g (ix2 r n) = gates Q KM (i 2).val r n) (j : Fin (k0_t1_loop i).trips) (r : Fin 256) :
    k0_pay37 (F := Ideal) i (iota .tc S256x128 32 [1] iota_S256x128_d1_w32) (chosen g) j (ix2 r 0)
      = if Picks Q KM (i 2).val r j.val then 1#1 else 0#1 := by
  have h16 : (i 2).val < 16 := (i 2).isLt
  have ht : (k0_t1_loop i).trips = (i 2).val := trips_eq ⟨(i 2).val, h16⟩
  have hj : j.val < 128 := by have := j.isLt; omega
  have e : (fun n => g (ix2 r n)) = gates Q KM (i 2).val r := funext fun n => hg r n
  rw [picked_apply i (p := fun n => Best (gates Q KM (i 2).val r) 3 n) (fun n => by rw [← e]; exact chosen_apply g r n) j hj]
  exact ite_congr (propext ⟨fun h => ⟨hj, h⟩, fun ⟨_, h⟩ => h⟩) (fun _ => rfl) fun _ => rfl

open Classical in
/-- The element at row `r`, lane `d` of a tile that is not its row's first, whose scratch holds the block means `KM`. -/
theorem out_B (c : Dev nD) (i : grid0.Coords) (arg3 : Memref sig .tc .vmem S1x256x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x256x128 .bf16) (harg6 : arg6.IsWhole) (arg7 : Memref sig .tc .vmem S128x128 .f32) (harg7 : arg7.IsWhole) (hc0 : ¬cond0_0 i)
    (x0 : Vec Ideal S1x256x128 .bf16) (x1 x2 : Vec Ideal S1x4096x128 .bf16) (xs0 : Vec Ideal S128x128 .f32)
    {P KM : Fin 256 → Fin 128 → ℝ} {K : Fin 4096 → Fin 128 → ℝ} {V : Fin 4096 → Fin 128 → EReal}
    (hq : ∀ r e, x0 (ix3 0 r e) = ((P r e : ℝ) : EReal))
    (hk : ∀ k e, x1 (ix3 0 k e) = ((K k e : ℝ) : EReal)) (hv : ∀ k e, x2 (ix3 0 k e) = V k e)
    (hm : ∀ (n : Fin 128) (e : Fin 128), n.val < (i 2).val → xs0 (ix2 n e) = ((KM ⟨n.val, by omega⟩ e : ℝ) : EReal)) (r : Fin 256) (d : Fin 128) (h : Fin 2)
    (hh : h.val = d.val / 64) :
    out0_B_3 (F := Ideal) c i arg3 harg3 arg4 harg4 arg5 harg5 arg6 harg6 arg7 harg7 hc0 x0 x1 x2 xs0 (ix3 0 r d)
      = Ideal.div (∑ k, ((kept (headQ P h) K (Picks (headQ P h) KM (i 2).val) (i 2).val r k : ℝ) : EReal) * V k d) ((∑ k, kept (headQ P h) K (Picks (headQ P h) KM (i 2).val) (i 2).val r k : ℝ) : EReal) := by
  have h16 : (i 2).val < 16 := (i 2).isLt
  have hd := d.isLt
  frame_out
  rw [merge]
  by_cases h6 : d.val < 64
  · obtain rfl : h = 0 := Fin.ext (by show h.val = 0; omega)
    rw [if_pos h6, quotient, Scf.rem_trips, st_k0_t2_zero]
    refine mean_of_rows (headQ P 0) K V _ h16 (fun _ _ h => h.lt) ?_ r d
    rw [trips_eq ⟨(i 2).val, h16⟩]
    refine loop_t1 _ c _ i arg3 harg3 arg4 harg4 arg5 harg5 arg6 harg6 arg7 harg7 _ _ _ _ _ _ _ _ x1 x2 (query_first hq) hk hv (fun j r => ?_) _ ?_ _ (le_refl _)
    · rw [chosen_first]
      exact picked_trip i (gates_first i hq hm) j r
    · refine init_first (Q := headQ P 0) (K := fun c => K (pos (i 2).val h16 c)) (V := fun c => V (pos (i 2).val h16 c))
        (query_first hq) (fun c e => ?_) (fun c e => ?_)
      · pointwise
        rw [← hk]
        congr 1
        blk_ext [pos, k0_off1_eq]
      · pointwise
        rw [← hv]
        congr 1
        blk_ext [pos, k0_off1_eq]
  · obtain rfl : h = 1 := Fin.ext (by show h.val = 1; omega)
    rw [if_neg h6, Scf.rem_trips, st_k0_t4_zero]
    refine mean_of_rows (headQ P 1) K V _ h16 (fun _ _ h => h.lt) ?_ r d
    rw [trips_eq ⟨(i 2).val, h16⟩]
    refine loop_t3 _ c _ i arg3 harg3 arg4 harg4 arg5 harg5 arg6 harg6 arg7 harg7 _ _ _ _ _ _ _ _ _ _ x1 x2 (query_second hq) hk hv (fun j r => ?_) _ ?_ _ (le_refl _)
    · rw [chosen_second]
      exact picked_trip i (gates_second i hq hm) j r
    · refine init_second (Q := headQ P 1) (K := fun c => K (pos (i 2).val h16 c)) (V := fun c => V (pos (i 2).val h16 c))
        (query_second hq) (fun c e => ?_) (fun c e => ?_)
      · pointwise
        rw [← hk]
        congr 1
        blk_ext [pos, k0_off1_eq]
      · pointwise
        rw [← hv]
        congr 1
        blk_ext [pos, k0_off1_eq]

open Classical in
/-- The element at row `r`, lane `d` of a row's first tile, which has no earlier block. -/
theorem out_A (c : Dev nD) (i : grid0.Coords) (arg3 : Memref sig .tc .vmem S1x256x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x256x128 .bf16) (harg6 : arg6.IsWhole) (arg7 : Memref sig .tc .vmem S128x128 .f32) (harg7 : arg7.IsWhole) (hc0 : cond0_0 i)
    (x0 : Vec Ideal S1x256x128 .bf16) (x1 x2 : Vec Ideal S1x4096x128 .bf16)
    {P KM : Fin 256 → Fin 128 → ℝ} {K : Fin 4096 → Fin 128 → ℝ} {V : Fin 4096 → Fin 128 → EReal}
    (hq : ∀ r e, x0 (ix3 0 r e) = ((P r e : ℝ) : EReal))
    (hk : ∀ k e, x1 (ix3 0 k e) = ((K k e : ℝ) : EReal)) (hv : ∀ k e, x2 (ix3 0 k e) = V k e)
    (h0 : (i 2).val = 0) (r : Fin 256) (d : Fin 128) (h : Fin 2)
    (hh : h.val = d.val / 64) :
    out0_A_3 (F := Ideal) c i arg3 harg3 arg4 harg4 arg5 harg5 arg6 harg6 arg7 harg7 hc0 x0 x1 x2 (ix3 0 r d)
      = Ideal.div (∑ k, ((kept (headQ P h) K (Picks (headQ P h) KM (i 2).val) (i 2).val r k : ℝ) : EReal) * V k d) ((∑ k, kept (headQ P h) K (Picks (headQ P h) KM (i 2).val) (i 2).val r k : ℝ) : EReal) := by
  have h16 : (i 2).val < 16 := (i 2).isLt
  have hd := d.isLt
  frame_out
  rw [merge]
  by_cases h6 : d.val < 64
  · obtain rfl : h = 0 := Fin.ext (by show h.val = 0; omega)
    rw [if_pos h6, quotient, Scf.rem_trips, st_k0_t2_zero]
    refine mean_of_rows (headQ P 0) K V _ h16 (fun _ _ h => h.lt) ?_ r d
    rw [trips_eq ⟨(i 2).val, h16⟩]
    refine loop_t1 _ c _ i arg3 harg3 arg4 harg4 arg5 harg5 arg6 harg6 arg7 harg7 _ _ _ _ _ _ _ _ x1 x2 (query_first hq) hk hv (fun j r => ?_) _ ?_ _ (le_refl _)
    · rw [chosen_first]
      exact picked_trip i (gates_first i hq (fun n e h => absurd h (by omega))) j r
    · refine init_first (Q := headQ P 0) (K := fun c => K (pos (i 2).val h16 c)) (V := fun c => V (pos (i 2).val h16 c))
        (query_first hq) (fun c e => ?_) (fun c e => ?_)
      · pointwise
        rw [← hk]
        congr 1
        blk_ext [pos, k0_off1_eq]
      · pointwise
        rw [← hv]
        congr 1
        blk_ext [pos, k0_off1_eq]
  · obtain rfl : h = 1 := Fin.ext (by show h.val = 1; omega)
    rw [if_neg h6, Scf.rem_trips, st_k0_t4_zero]
    refine mean_of_rows (headQ P 1) K V _ h16 (fun _ _ h => h.lt) ?_ r d
    rw [trips_eq ⟨(i 2).val, h16⟩]
    refine loop_t3 _ c _ i arg3 harg3 arg4 harg4 arg5 harg5 arg6 harg6 arg7 harg7 _ _ _ _ _ _ _ _ _ _ x1 x2 (query_second hq) hk hv (fun j r => ?_) _ ?_ _ (le_refl _)
    · rw [chosen_second]
      exact picked_trip i (gates_second i hq (fun n e h => absurd h (by omega))) j r
    · refine init_second (Q := headQ P 1) (K := fun c => K (pos (i 2).val h16 c)) (V := fun c => V (pos (i 2).val h16 c))
        (query_second hq) (fun c e => ?_) (fun c e => ?_)
      · pointwise
        rw [← hk]
        congr 1
        blk_ext [pos, k0_off1_eq]
      · pointwise
        rw [← hv]
        congr 1
        blk_ext [pos, k0_off1_eq]

end Cert.MobaIdeal.Tile

end
-- ==== Proof.MobaMeans.lean ====
/-
  What a row's first tile leaves in the scratch of the block-sparse attention: the means of the sixteen key blocks.
-/
module

public import proofs.«01_k».proof.Proof.MobaLoop

@[expose] public section

set_option maxRecDepth 16384

noncomputable section

namespace Cert.MobaIdeal.Tile

open Cert.MobaIdeal Cert.MobaIdeal.Gen Idealize.ShloMosaic Idealize.ShloMosaic.TcCoe Idealize.SL.Sem Cert.Attn Cert.Pick
open Idealize.ShloMosaic.Pipeline (Dat)

/-- What a list of stores leaves at an index: when some of the later stores `L` cover it and all of them write `v` there,
    the earlier stores `L'` do not matter. -/
theorem canon_front {S : Shape} {e : EltTy} (y : S.Idx) (v : Elt Ideal e) (L' L : List (View.Piece (Elt Ideal) S e))
    (hv : ∀ p ∈ L, ∀ x : p.1.shape.Idx, p.1.emb x = y → p.2 x = v) (hc : ∃ p ∈ L, y ∈ p.1.set) :
    View.canon (L ++ L') y = v := by
  induction L with
  | nil => obtain ⟨p, hp, -⟩ := hc; exact absurd hp List.not_mem_nil
  | cons q L ih =>
    rw [List.cons_append]
    by_cases hq : y ∈ q.1.set
    · obtain ⟨x, rfl⟩ := q.1.exists_idx_of_mem hq
      exact (View.canon_cons_emb q.1 q.2 (L ++ L') x).trans (hv q List.mem_cons_self x rfl)
    · rw [View.canon_cons_of_not_mem _ _ hq]
      refine ih (fun p hp => hv p (List.mem_cons_of_mem _ hp)) ?_
      obtain ⟨p, hp, hy⟩ := hc
      exact ⟨p, (List.mem_cons.1 hp).resolve_left fun h => hq (h ▸ hy), hy⟩

/-- The pattern of the block mean's factor is the inverse of the block's length. -/
theorem inv256 : Ideal.ofBits .f32 0x3B800000#32 = ((1 / 256 : ℝ) : EReal) := by
  simp [Ideal.ofBits, Ideal.ieee]
  rw [← EReal.coe_mul]
  norm_num

/-- The mean of one block of keys, as the kernel's first tile of a row computes it. -/
theorem row_mean {v : Vec Ideal S1x256x128 .bf16} {Kj : Fin 256 → Fin 128 → ℝ}
    (hv : ∀ c e, v (ix3 0 c e) = ((Kj c e : ℝ) : EReal)) (e : Fin 128) :
    k0_pay3 (F := Ideal) v (ix2 0 e) = (((∑ c, Kj c e) / 256 : ℝ) : EReal) := by
  pointwise [k0_pay3]
  rw [Finset.sum_congr rfl fun c _ => hv c e, coe_sum, inv256, ← EReal.coe_mul]
  congr 1; ring

/-- The store of row `j` of the block means writes the mean of block `j`. -/
theorem row_piece {k : Vec Ideal S1x4096x128 .bf16} {K : Fin 4096 → Fin 128 → ℝ}
    (hk : ∀ p e, k (ix3 0 p e) = ((K p e : ℝ) : EReal)) (n : Fin 128) (hn : n.val < 16) (e : Fin 128) (j : ℕ) (hj : j < 16)
    (hin : ∀ a, (![0, j * 256, 0] : Fin 3 → ℕ) a + (![1, 256, 128] : Fin 3 → ℕ) a ≤ S1x4096x128.size a) (x : S1x128.Idx)
    (h0 : j + 1 * (x 0).val = n.val) (h1 : 0 + 1 * (x 1).val = e.val) :
    k0_pay3 (F := Ideal) (View.ld k (Rect.unit (s := S1x4096x128) ![0, j * 256, 0] ![1, 256, 128] hin)) x
      = (((∑ c, K (pos n.val hn c) e) / 256 : ℝ) : EReal) := by
  idx_vars x
  have e1 : x1 = e := Fin.ext (by have h : 0 + 1 * x1.val = e.val := h1; omega)
  have e0 : n.val = j := by have h : j + 1 * x0.val = n.val := h0; have := x0.isLt; omega
  obtain rfl : x0 = 0 := Subsingleton.elim _ _
  subst e1
  refine row_mean (Kj := fun c e => K (pos n.val hn c) e) (fun c e => ?_) x1
  rw [← hk]
  pointwise
  congr 1
  blk_ext [pos, e0]

/-- The store of row `j` covers row `j`. -/
theorem row_mem (n e : Fin 128) (j : ℕ) (h : n.val = j)
    (hin : ∀ a, (![j, 0] : Fin 2 → ℕ) a + (![1, 128] : Fin 2 → ℕ) a ≤ S128x128.size a) :
    (ix2 n e : S128x128.Idx) ∈ (Rect.unit (s := S128x128) ![j, 0] ![1, 128] hin).set := by
  have : (ix2 n e : S128x128.Idx) = (Rect.unit (s := S128x128) ![j, 0] ![1, 128] hin).idx (ix2 (0 : Fin 1) e : S1x128.Idx) := by
    funext a
    match a with
    | ⟨0, _⟩ => exact Fin.ext (by show n.val = j + 1 * 0; omega)
    | ⟨1, _⟩ => exact Fin.ext (by show e.val = 0 + 1 * e.val; omega)
  rw [this]
  exact (Rect.unit (s := S128x128) ![j, 0] ![1, 128] hin).idx_mem _

/-- What a row's first tile leaves in the scratch: in row `n`, the mean of block `n`. -/
theorem sout_A (c : Dev nD) (i : grid0.Coords) (arg3 : Memref sig .tc .vmem S1x256x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x256x128 .bf16) (harg6 : arg6.IsWhole) (arg7 : Memref sig .tc .vmem S128x128 .f32) (harg7 : arg7.IsWhole) (hc0 : cond0_0 i)
    (x0 : Vec Ideal S1x256x128 .bf16) (x1 x2 : Vec Ideal S1x4096x128 .bf16) {K : Fin 4096 → Fin 128 → ℝ}
    (hk : ∀ k e, x1 (ix3 0 k e) = ((K k e : ℝ) : EReal)) (n : Fin 128) (hn : n.val < 16) (e : Fin 128) :
    sout0_A_0 (F := Ideal) c i arg3 harg3 arg4 harg4 arg5 harg5 arg6 harg6 arg7 harg7 hc0 x0 x1 x2 (ix2 n e)
      = (((∑ c, K (pos n.val hn c) e) / 256 : ℝ) : EReal) := by
  frame_out
  rw [← List.take_append_drop 16 (_ :: _)]
  refine canon_front _ _ _ _ ?_ ?_
  · intro p hp
    simp only [List.take_succ_cons, List.take_zero, List.mem_cons, List.not_mem_nil, or_false] at hp
    rcases hp with rfl | rfl | rfl | rfl | rfl | rfl | rfl | rfl | rfl | rfl | rfl | rfl | rfl | rfl | rfl | rfl
    · exact fun x hx => row_piece hk n hn e 15 (by decide) (by decide) x (congrArg (fun y : S128x128.Idx => (y 0).val) hx) (congrArg (fun y : S128x128.Idx => (y 1).val) hx)
    · exact fun x hx => row_piece hk n hn e 14 (by decide) (by decide) x (congrArg (fun y : S128x128.Idx => (y 0).val) hx) (congrArg (fun y : S128x128.Idx => (y 1).val) hx)
    · exact fun x hx => row_piece hk n hn e 13 (by decide) (by decide) x (congrArg (fun y : S128x128.Idx => (y 0).val) hx) (congrArg (fun y : S128x128.Idx => (y 1).val) hx)
    · exact fun x hx => row_piece hk n hn e 12 (by decide) (by decide) x (congrArg (fun y : S128x128.Idx => (y 0).val) hx) (congrArg (fun y : S128x128.Idx => (y 1).val) hx)
    · exact fun x hx => row_piece hk n hn e 11 (by decide) (by decide) x (congrArg (fun y : S128x128.Idx => (y 0).val) hx) (congrArg (fun y : S128x128.Idx => (y 1).val) hx)
    · exact fun x hx => row_piece hk n hn e 10 (by decide) (by decide) x (congrArg (fun y : S128x128.Idx => (y 0).val) hx) (congrArg (fun y : S128x128.Idx => (y 1).val) hx)
    · exact fun x hx => row_piece hk n hn e 9 (by decide) (by decide) x (congrArg (fun y : S128x128.Idx => (y 0).val) hx) (congrArg (fun y : S128x128.Idx => (y 1).val) hx)
    · exact fun x hx => row_piece hk n hn e 8 (by decide) (by decide) x (congrArg (fun y : S128x128.Idx => (y 0).val) hx) (congrArg (fun y : S128x128.Idx => (y 1).val) hx)
    · exact fun x hx => row_piece hk n hn e 7 (by decide) (by decide) x (congrArg (fun y : S128x128.Idx => (y 0).val) hx) (congrArg (fun y : S128x128.Idx => (y 1).val) hx)
    · exact fun x hx => row_piece hk n hn e 6 (by decide) (by decide) x (congrArg (fun y : S128x128.Idx => (y 0).val) hx) (congrArg (fun y : S128x128.Idx => (y 1).val) hx)
    · exact fun x hx => row_piece hk n hn e 5 (by decide) (by decide) x (congrArg (fun y : S128x128.Idx => (y 0).val) hx) (congrArg (fun y : S128x128.Idx => (y 1).val) hx)
    · exact fun x hx => row_piece hk n hn e 4 (by decide) (by decide) x (congrArg (fun y : S128x128.Idx => (y 0).val) hx) (congrArg (fun y : S128x128.Idx => (y 1).val) hx)
    · exact fun x hx => row_piece hk n hn e 3 (by decide) (by decide) x (congrArg (fun y : S128x128.Idx => (y 0).val) hx) (congrArg (fun y : S128x128.Idx => (y 1).val) hx)
    · exact fun x hx => row_piece hk n hn e 2 (by decide) (by decide) x (congrArg (fun y : S128x128.Idx => (y 0).val) hx) (congrArg (fun y : S128x128.Idx => (y 1).val) hx)
    · exact fun x hx => row_piece hk n hn e 1 (by decide) (by decide) x (congrArg (fun y : S128x128.Idx => (y 0).val) hx) (congrArg (fun y : S128x128.Idx => (y 1).val) hx)
    · exact fun x hx => row_piece hk n hn e 0 (by decide) (by decide) x (congrArg (fun y : S128x128.Idx => (y 0).val) hx) (congrArg (fun y : S128x128.Idx => (y 1).val) hx)
  · simp only [List.take_succ_cons, List.take_zero]
    obtain h | h | h | h | h | h | h | h | h | h | h | h | h | h | h | h :
      n.val = 15 ∨ n.val = 14 ∨ n.val = 13 ∨ n.val = 12 ∨ n.val = 11 ∨ n.val = 10 ∨ n.val = 9 ∨ n.val = 8 ∨ n.val = 7 ∨ n.val = 6 ∨ n.val = 5 ∨ n.val = 4 ∨ n.val = 3 ∨ n.val = 2 ∨ n.val = 1 ∨ n.val = 0 := by omega
    · exact ⟨_, .head _, row_mem n e 15 h (by decide)⟩
    · exact ⟨_, .tail _ (.head _), row_mem n e 14 h (by decide)⟩
    · exact ⟨_, .tail _ (.tail _ (.head _)), row_mem n e 13 h (by decide)⟩
    · exact ⟨_, .tail _ (.tail _ (.tail _ (.head _))), row_mem n e 12 h (by decide)⟩
    · exact ⟨_, .tail _ (.tail _ (.tail _ (.tail _ (.head _)))), row_mem n e 11 h (by decide)⟩
    · exact ⟨_, .tail _ (.tail _ (.tail _ (.tail _ (.tail _ (.head _))))), row_mem n e 10 h (by decide)⟩
    · exact ⟨_, .tail _ (.tail _ (.tail _ (.tail _ (.tail _ (.tail _ (.head _)))))), row_mem n e 9 h (by decide)⟩
    · exact ⟨_, .tail _ (.tail _ (.tail _ (.tail _ (.tail _ (.tail _ (.tail _ (.head _))))))), row_mem n e 8 h (by decide)⟩
    · exact ⟨_, .tail _ (.tail _ (.tail _ (.tail _ (.tail _ (.tail _ (.tail _ (.tail _ (.head _)))))))), row_mem n e 7 h (by decide)⟩
    · exact ⟨_, .tail _ (.tail _ (.tail _ (.tail _ (.tail _ (.tail _ (.tail _ (.tail _ (.tail _ (.head _))))))))), row_mem n e 6 h (by decide)⟩
    · exact ⟨_, .tail _ (.tail _ (.tail _ (.tail _ (.tail _ (.tail _ (.tail _ (.tail _ (.tail _ (.tail _ (.head _)))))))))), row_mem n e 5 h (by decide)⟩
    · exact ⟨_, .tail _ (.tail _ (.tail _ (.tail _ (.tail _ (.tail _ (.tail _ (.tail _ (.tail _ (.tail _ (.tail _ (.head _))))))))))), row_mem n e 4 h (by decide)⟩
    · exact ⟨_, .tail _ (.tail _ (.tail _ (.tail _ (.tail _ (.tail _ (.tail _ (.tail _ (.tail _ (.tail _ (.tail _ (.tail _ (.head _)))))))))))), row_mem n e 3 h (by decide)⟩
    · exact ⟨_, .tail _ (.tail _ (.tail _ (.tail _ (.tail _ (.tail _ (.tail _ (.tail _ (.tail _ (.tail _ (.tail _ (.tail _ (.tail _ (.head _))))))))))))), row_mem n e 2 h (by decide)⟩
    · exact ⟨_, .tail _ (.tail _ (.tail _ (.tail _ (.tail _ (.tail _ (.tail _ (.tail _ (.tail _ (.tail _ (.tail _ (.tail _ (.tail _ (.tail _ (.head _)))))))))))))), row_mem n e 1 h (by decide)⟩
    · exact ⟨_, .tail _ (.tail _ (.tail _ (.tail _ (.tail _ (.tail _ (.tail _ (.tail _ (.tail _ (.tail _ (.tail _ (.tail _ (.tail _ (.tail _ (.tail _ (.head _))))))))))))))), row_mem n e 0 h (by decide)⟩

end Cert.MobaIdeal.Tile

end
-- ==== Proof.MobaSpec.lean ====
/-
  Block-sparse attention with real scores: what both programs compute, element by element.
-/
module

public import proofs.«01_k».proof.Proof.Online
public import proofs.«01_k».proof.Proof.MobaPick

@[expose] public section

noncomputable section

namespace Cert.Attn

open Cert.Pick

/-- Lane `e` of the mean key of block `n` for head `h`: the keys sit in lanes 512 onwards of `X`, 64 lanes a head. -/
def mobaMeanKey (X : Fin 4 → Fin 4096 → Fin 9728 → ℝ) (b : Fin 4) (h : Fin 8) (n : Fin 16) (e : Fin 64) : ℝ :=
  (∑ c : Fin 256, X b ⟨n.val * 256 + c.val, by omega⟩ ⟨512 + (64 * h.val + e.val), by omega⟩) / 256

/-- The gate of block `n` for query position `p`: the query's product with the block's mean key when the block comes
    before the query's own, `-∞` otherwise. -/
def mobaGate (X : Fin 4 → Fin 4096 → Fin 9728 → ℝ) (b : Fin 4) (p : Fin 4096) (h : Fin 8) (n : Fin 16) : EReal :=
  if n.val < p.val / 256 then
    ((∑ e : Fin 64, X b p ⟨64 * h.val + e.val, by omega⟩ * mobaMeanKey X b h n e : ℝ) : EReal)
  else ⊥

open Classical in
/-- The weight of key position `k` for query position `p` in head `h`: the exponential of the query's product with the
    key when the key is in the query's own block and not after it, or in one of the three blocks of best gate; else zero. -/
def mobaWeight (X : Fin 4 → Fin 4096 → Fin 9728 → ℝ) (b : Fin 4) (p : Fin 4096) (h : Fin 8) (k : Fin 4096) : ℝ :=
  if (k.val / 256 = p.val / 256 ∧ k.val ≤ p.val) ∨ Best (mobaGate X b p h) 3 ⟨k.val / 256, by omega⟩ then
    Real.exp (∑ e : Fin 64, X b p ⟨64 * h.val + e.val, by omega⟩ * X b k ⟨512 + (64 * h.val + e.val), by omega⟩)
  else 0

/-- The weighted mean of the values `W` in lane `f` of the output; the values may be any extended reals. -/
def mobaMean (X : Fin 4 → Fin 4096 → Fin 9728 → ℝ) (W : Fin 4 → Fin 4096 → Fin 512 → EReal) (b : Fin 4) (p : Fin 4096)
    (f : Fin 512) : EReal :=
  Idealize.ShloMosaic.Ideal.div (∑ k, ((mobaWeight X b p ⟨f.val / 64, by omega⟩ k : ℝ) : EReal) * W b k f)
    ((∑ k, mobaWeight X b p ⟨f.val / 64, by omega⟩ k : ℝ) : EReal)

end Cert.Attn

end
-- ==== Proof.MobaFinal.lean ====
/-
  The block-sparse attention's result array: every element is the weighted mean of the values.
-/
module

public import proofs.«01_k».proof.Proof.MobaPoint
public import proofs.«01_k».proof.Proof.MobaMeans
public import proofs.«01_k».proof.Proof.MobaSpec

@[expose] public section

set_option maxRecDepth 16384

noncomputable section

namespace Cert.MobaIdeal.Tile

open Cert.MobaIdeal Cert.MobaIdeal.Gen Idealize.ShloMosaic Idealize.ShloMosaic.TcCoe Idealize.SL.Sem Cert.Attn Cert.Pick
open Idealize.ShloMosaic.Pipeline (Dat)

/-- Which blocks a point works on, in closed form. -/
theorem idx : ∀ t : Fin cfg0.N,
    win0_0.index t = ![t.val / 64, t.val % 16, t.val / 16 % 4]
    ∧ win0_1.index t = ![t.val / 64, 0, 4 + t.val / 16 % 4]
    ∧ win0_2.index t = ![t.val / 64, 0, 20 + t.val / 16 % 4]
    ∧ win0_3.index t = ![t.val / 64, t.val % 16, t.val / 16 % 4]
    ∧ (grid0.coords t 2).val = t.val % 16 := (by decide +kernel : ∀ t : Fin grid0.N, _)

/-- The mean of key block `n` in lane `e` of lane group `g`, zero past the sixteenth block. -/
def meanRow (X : Fin 4 → Fin 4096 → Fin 9728 → ℝ) (b g : Fin 4) (n : Fin 256) (e : Fin 128) : ℝ :=
  if hn : n.val < 16 then (∑ c, X b (pos n.val hn c) ⟨512 + (128 * g.val + e.val), by omega⟩) / 256 else 0

/-- The query lanes of one head against any other lanes: a sum over the head's 64 lanes. -/
theorem head_sum (X : Fin 4 → Fin 4096 → Fin 9728 → ℝ) (b g : Fin 4) (n : ℕ) (hn : n < 16) (h : Fin 2) (r : Fin 256)
    (f : Fin 128 → ℝ) :
    ∑ e, headQ (fun r e => X b (pos n hn r) ⟨128 * g.val + e.val, by omega⟩) h r e * f e
      = ∑ e : Fin 64, X b (pos n hn r) ⟨64 * (2 * g.val + h.val) + e.val, by omega⟩ * f ⟨64 * h.val + e.val, by omega⟩ := by
  obtain rfl | rfl : h = 0 ∨ h = 1 := by omega
  · simp only [headQ, if_pos, ite_mul, zero_mul]
    rw [sum_lanes_low]
    refine Finset.sum_congr rfl fun e _ => ?_
    congr 2 <;> (apply Fin.ext; simp; try omega)
  · simp only [headQ, if_neg (by decide : ¬ (1 : Fin 2) = 0), ite_mul, zero_mul]
    rw [sum_lanes_high]
    refine Finset.sum_congr rfl fun e _ => ?_
    congr 2 <;> (apply Fin.ext; simp; try omega)

/-- The blocks a tile's row picks, over the block's lanes, are those of the specification. -/
theorem picks_iff (X : Fin 4 → Fin 4096 → Fin 9728 → ℝ) (b g : Fin 4) (n : ℕ) (hn : n < 16) (h : Fin 2) (r : Fin 256)
    (j : Fin 16) :
    Picks (headQ (fun r e => X b (pos n hn r) ⟨128 * g.val + e.val, by omega⟩) h) (meanRow X b g) n r j.val
      ↔ Best (mobaGate X b (pos n hn r) ⟨2 * g.val + h.val, by omega⟩) 3 j := by
  have hp : (pos n hn r).val / 256 = n := by show (n * 256 + r.val) / 256 = n; omega
  have e : (fun k : Fin 16 => gates (headQ (fun r e => X b (pos n hn r) ⟨128 * g.val + e.val, by omega⟩) h)
      (meanRow X b g) n r ⟨k.val, by omega⟩) = mobaGate X b (pos n hn r) ⟨2 * g.val + h.val, by omega⟩ := by
    funext k
    unfold gates mobaGate
    rw [hp]
    refine ite_congr rfl (fun _ => ?_) fun _ => rfl
    rw [head_sum]
    congr 1
    refine Finset.sum_congr rfl fun e _ => ?_
    congr 1
    unfold meanRow mobaMeanKey
    rw [dif_pos k.isLt]
    congr 1
    refine Finset.sum_congr rfl fun c _ => ?_
    congr 1
    apply Fin.ext
    show 512 + (128 * g.val + (64 * h.val + e.val)) = 512 + (64 * (2 * g.val + h.val) + e.val)
    omega
  have hb := best_pad (g := gates (headQ (fun r e => X b (pos n hn r) ⟨128 * g.val + e.val, by omega⟩) h)
    (meanRow X b g) n r) (fun k hk => if_neg (by omega)) 3 j
  rw [e] at hb
  exact ⟨fun ⟨_, h⟩ => hb.1 h, fun h => ⟨_, hb.2 h⟩⟩

open Classical in
/-- The weights of a tile's row, over the block's lanes, are the weights of the specification. -/
theorem kept_eq (X : Fin 4 → Fin 4096 → Fin 9728 → ℝ) (b g : Fin 4) (n : ℕ) (hn : n < 16) (h : Fin 2) (r : Fin 256)
    (k : Fin 4096) :
    kept (headQ (fun r e => X b (pos n hn r) ⟨128 * g.val + e.val, by omega⟩) h)
      (fun k e => X b k ⟨512 + (128 * g.val + e.val), by omega⟩)
      (Picks (headQ (fun r e => X b (pos n hn r) ⟨128 * g.val + e.val, by omega⟩) h) (meanRow X b g) n) n r k
    = mobaWeight X b (pos n hn r) ⟨2 * g.val + h.val, by omega⟩ k := by
  have hp : (pos n hn r).val / 256 = n := by show (n * 256 + r.val) / 256 = n; omega
  unfold kept mobaWeight
  rw [hp]
  refine ite_congr (propext (or_congr Iff.rfl (picks_iff X b g n hn h r ⟨k.val / 256, by omega⟩))) (fun _ => ?_) fun _ => rfl
  unfold fullWeight
  rw [head_sum]
  congr 1
  refine Finset.sum_congr rfl fun e _ => ?_
  dsimp only
  congr 2
  apply Fin.ext
  show 512 + (128 * g.val + (64 * h.val + e.val)) = 512 + (64 * (2 * g.val + h.val) + e.val)
  omega

variable (m : (ℓ : Loc nD τ sig) → Buf (Elt Ideal) ℓ)

section

variable (c : Dev nD) (X : Fin 4 → Fin 4096 → Fin 9728 → ℝ)
  (hX : ∀ b p (f : Fin 9728), f.val < 1024 →
    (m ((c : Thread nD τ).loc main_arg0) : FVec Ideal S4x4096x9728 .bf16) (ix3 b p f) = ((X b p f : ℝ) : EReal))
  (t : Fin cfg0.N) (b g : Fin 4) (hb : b.val = t.val / 64) (hg : g.val = t.val / 16 % 4)

include hX hb hg

/-- A point's query block is real. -/
theorem blk_q (n : ℕ) (hn : n < 16) (en : n = t.val % 16) (r : Fin 256) (e : Fin 128) :
    (iblk m c 0 t : Vec Ideal S1x256x128 .bf16) (ix3 0 r e)
      = ((X b (pos n hn r) ⟨128 * g.val + e.val, by omega⟩ : ℝ) : EReal) := by
  obtain ⟨i0, i1, i2, i3, i4⟩ := idx t
  refine Eq.trans ?_ (hX b (pos n hn r) ⟨128 * g.val + e.val, by omega⟩ (by show _ + _ < _; omega))
  blk_point [iblk, V, i0, pos, hb, hg, en]

/-- A point's keys are real. -/
theorem blk_k (k : Fin 4096) (e : Fin 128) :
    (iblk m c 1 t : Vec Ideal S1x4096x128 .bf16) (ix3 0 k e)
      = ((X b k ⟨512 + (128 * g.val + e.val), by omega⟩ : ℝ) : EReal) := by
  obtain ⟨i0, i1, i2, i3, i4⟩ := idx t
  refine Eq.trans ?_ (hX b k ⟨512 + (128 * g.val + e.val), by omega⟩ (by show _ + _ < _; omega))
  blk_point [iblk, V, i1, hb, hg]

end

/-- A point's values. -/
theorem blk_v (c : Dev nD) (W : Fin 4 → Fin 4096 → Fin 512 → EReal)
    (hW : ∀ b k (f : Fin 512), (m ((c : Thread nD τ).loc main_arg0) : FVec Ideal S4x4096x9728 .bf16)
      (ix3 b k ⟨2560 + f.val, by omega⟩) = W b k f)
    (t : Fin cfg0.N) (b g : Fin 4) (hb : b.val = t.val / 64) (hg : g.val = t.val / 16 % 4) (k : Fin 4096) (e : Fin 128) :
    (iblk m c 2 t : Vec Ideal S1x4096x128 .bf16) (ix3 0 k e) = W b k ⟨128 * g.val + e.val, by omega⟩ := by
  obtain ⟨i0, i1, i2, i3, i4⟩ := idx t
  refine Eq.trans ?_ (hW b k ⟨128 * g.val + e.val, by omega⟩)
  blk_point [iblk, V, i2, hb, hg]

/-- After every point the scratch holds the block means of the point's own lanes. -/
theorem means (c : Dev nD) (X : Fin 4 → Fin 4096 → Fin 9728 → ℝ)
    (hX : ∀ b p (f : Fin 9728), f.val < 1024 →
      (m ((c : Thread nD τ).loc main_arg0) : FVec Ideal S4x4096x9728 .bf16) (ix3 b p f) = ((X b p f : ℝ) : EReal))
    (n : ℕ) : ∀ (ht : n < cfg0.N) (b g : Fin 4), b.val = n / 64 → g.val = n / 16 % 4 → ∀ (j : Fin 128) (e : Fin 128),
      j.val < 16 → (outsAt0 m c n ht).2 (ix2 j e) = ((meanRow X b g ⟨j.val, by omega⟩ e : ℝ) : EReal) := by
  induction n using Nat.strong_induction_on with
  | _ n ih =>
    intro ht b g hb hg j e hj
    by_cases h0 : n % 16 = 0
    · rw [outsAt0_A m c ⟨n, ht⟩ h0]
      dsimp only
      rw [sout_A c _ _ _ _ _ _ _ _ _ _ _ _ _ _ _ (blk_k m c X hX ⟨n, ht⟩ b g hb hg) j hj e]
      unfold meanRow
      rw [dif_pos hj]
    · rw [outsAt0_B m c ⟨n, ht⟩ h0]
      exact ih (n - 1) (by omega) _ b g (by omega) (by omega) j e hj

/-- The result array, when the queries and the keys are real. -/
theorem final (c : Dev nD) (X : Fin 4 → Fin 4096 → Fin 9728 → ℝ) (W : Fin 4 → Fin 4096 → Fin 512 → EReal)
    (hX : ∀ b p (f : Fin 9728), f.val < 1024 →
      (m ((c : Thread nD τ).loc main_arg0) : FVec Ideal S4x4096x9728 .bf16) (ix3 b p f) = ((X b p f : ℝ) : EReal))
    (hW : ∀ b k (f : Fin 512), (m ((c : Thread nD τ).loc main_arg0) : FVec Ideal S4x4096x9728 .bf16)
      (ix3 b k ⟨2560 + f.val, by omega⟩) = W b k f) :
    (dats m 0 c).arrAt 3 (cfgs 0).N
      = (fun y : S4x4096x512.Idx => mobaMean X W (y 0) (y 1) (y 2) : FVec Ideal S4x4096x512 .bf16) := by
  classical
  refine (dats m 0 c).arrAt_eq_of_covers 3 _ (by decide +kernel) fun t _ y => ?_
  obtain ⟨i0, i1, i2, i3, i4⟩ := idx t
  have ht : t.val < 256 := t.isLt
  rw [after0_3]
  idx_vars y
  obtain rfl : y0 = 0 := Subsingleton.elim _ _
  have hn : (grid0.coords t 2).val < 16 := (grid0.coords t 2).isLt
  obtain ⟨b, hb⟩ : ∃ b : Fin 4, b.val = t.val / 64 := ⟨⟨t.val / 64, by omega⟩, rfl⟩
  obtain ⟨g, hg⟩ : ∃ g : Fin 4, g.val = t.val / 16 % 4 := ⟨⟨t.val / 16 % 4, by omega⟩, rfl⟩
  have key : (outsAt0 m c t.val t.isLt).1 (ix3 0 y1 y2)
      = mobaMean X W b (pos (grid0.coords t 2).val hn y1) ⟨128 * g.val + y2.val, by omega⟩ := by
    have eh : (⟨(128 * g.val + y2.val) / 64, by omega⟩ : Fin 8) = ⟨2 * g.val + y2.val / 64, by omega⟩ :=
      Fin.ext (by show _ / _ = _ + _; omega)
    have es : Ideal.div (∑ k, ((kept (headQ (fun r e => X b (pos (grid0.coords t 2).val hn r) ⟨128 * g.val + e.val, by omega⟩) ⟨y2.val / 64, by omega⟩)
          (fun k e => X b k ⟨512 + (128 * g.val + e.val), by omega⟩)
          (Picks (headQ (fun r e => X b (pos (grid0.coords t 2).val hn r) ⟨128 * g.val + e.val, by omega⟩) ⟨y2.val / 64, by omega⟩)
            (meanRow X b g) (grid0.coords t 2).val) (grid0.coords t 2).val y1 k : ℝ) : EReal) * W b k ⟨128 * g.val + y2.val, by omega⟩)
        ((∑ k, kept (headQ (fun r e => X b (pos (grid0.coords t 2).val hn r) ⟨128 * g.val + e.val, by omega⟩) ⟨y2.val / 64, by omega⟩)
          (fun k e => X b k ⟨512 + (128 * g.val + e.val), by omega⟩)
          (Picks (headQ (fun r e => X b (pos (grid0.coords t 2).val hn r) ⟨128 * g.val + e.val, by omega⟩) ⟨y2.val / 64, by omega⟩)
            (meanRow X b g) (grid0.coords t 2).val) (grid0.coords t 2).val y1 k : ℝ) : EReal)
        = mobaMean X W b (pos (grid0.coords t 2).val hn y1) ⟨128 * g.val + y2.val, by omega⟩ := by
      unfold mobaMean
      dsimp only
      rw [eh]
      congr 1
      · exact Finset.sum_congr rfl fun k _ => by rw [← kept_eq X b g (grid0.coords t 2).val hn ⟨y2.val / 64, by omega⟩ y1 k]
      · exact congrArg _ <| Finset.sum_congr rfl fun k _ => kept_eq X b g (grid0.coords t 2).val hn ⟨y2.val / 64, by omega⟩ y1 k
    rw [← es]
    by_cases h0 : t.val % 16 = 0
    · rw [outsAt0_A m c t h0]
      dsimp only
      rw [out_A c (grid0.coords t) _ _ _ _ _ _ _ _ _ _ ((hcond0_0 t).mpr h0) (iblk m c 0 t) (iblk m c 1 t) (iblk m c 2 t)
        (P := fun r e => X b (pos (grid0.coords t 2).val hn r) ⟨128 * g.val + e.val, by omega⟩)
        (K := fun k e => X b k ⟨512 + (128 * g.val + e.val), by omega⟩)
        (V := fun k e => W b k ⟨128 * g.val + e.val, by omega⟩)
        (KM := meanRow X b g) (fun r e => blk_q m c X hX t b g hb hg _ hn i4 r e)
        (blk_k m c X hX t b g hb hg) (blk_v m c W hW t b g hb hg)
        (i4.trans h0) y1 y2 ⟨y2.val / 64, by omega⟩ rfl]
    · rw [outsAt0_B m c t h0]
      dsimp only
      rw [out_B c (grid0.coords t) _ _ _ _ _ _ _ _ _ _ (fun h => h0 ((hcond0_0 t).mp h)) (iblk m c 0 t) (iblk m c 1 t)
        (iblk m c 2 t) _
        (P := fun r e => X b (pos (grid0.coords t 2).val hn r) ⟨128 * g.val + e.val, by omega⟩)
        (K := fun k e => X b k ⟨512 + (128 * g.val + e.val), by omega⟩)
        (V := fun k e => W b k ⟨128 * g.val + e.val, by omega⟩)
        (KM := meanRow X b g) (fun r e => blk_q m c X hX t b g hb hg _ hn i4 r e)
        (blk_k m c X hX t b g hb hg) (blk_v m c W hW t b g hb hg)
        (fun n e hlt => means m c X hX (t.val - 1) _ b g (by omega) (by omega) n e (by omega)) y1 y2 ⟨y2.val / 64, by omega⟩ rfl]
  have e : ((View.whole main_v0).slice (win0_3.rect t)).emb (ix3 0 y1 y2)
      = (ix3 b (pos (grid0.coords t 2).val hn y1) (⟨128 * g.val + y2.val, by omega⟩ : Fin 512) : S4x4096x512.Idx) := by
    blk_ext [i3, i4, pos, hb, hg]
  rw [e]
  exact key

end Cert.MobaIdeal.Tile

end
-- ==== Proof.MobaRef.lean ====
/-
  The block-sparse attention's reference: every element is the weighted mean of the values.
-/
module

public import proofs.«01_k».proof.Proof.Gen.MobaRefIdeal.Run
public import Idealize.ShloMosaic.Lib.Pointwise
public import Idealize.ShloMosaic.Lib.WordCmp
public import proofs.«01_k».proof.Proof.MobaSpec

@[expose] public section

set_option maxRecDepth 16384

noncomputable section

namespace Cert.MobaRefIdeal.Val

open Cert.MobaRefIdeal Cert.MobaRefIdeal.Gen Idealize.ShloMosaic Idealize.ShloMosaic.TcCoe Idealize.SL.Sem Cert.Attn Cert.Pick

/-- The pattern of minus infinity. -/
theorem neg_inf : Ideal.ofBits .f32 0xFF800000#32 = ⊥ := by
  simp [Ideal.ofBits, Ideal.ieee]

/-- The pattern of the number 256. -/
theorem two_fifty_six : Ideal.ofBits .f32 0x43800000#32 = ((256 : ℝ) : EReal) := by
  simp [Ideal.ofBits, Ideal.ieee]
  rw [← EReal.coe_mul]; norm_num

/-- The pattern of the number 3. -/
theorem three : Ideal.ofBits .f32 0x40400000#32 = ((3 : ℝ) : EReal) := by
  simp [Ideal.ofBits, Ideal.ieee]
  rw [← EReal.coe_mul]; norm_num

/-- The pattern of the number 1. -/
theorem one : Ideal.ofBits .f32 0x3F800000#32 = 1 := by
  simp [Ideal.ofBits, Ideal.ieee]
  rw [← EReal.coe_mul, ← EReal.coe_one]; norm_num

/-- The `or` of two decided bits. -/
theorem bit_or (P Q : Prop) [Decidable P] [Decidable Q] :
    IntOp.ori (BitVec.ofBool (decide P)) (BitVec.ofBool (decide Q)) = BitVec.ofBool (decide (P ∨ Q)) := by
  by_cases hp : P <;> by_cases hq : Q <;> simp [hp, hq, IntOp.ori]

/-- The `and` of two decided bits. -/
theorem bit_and (P Q : Prop) [Decidable P] [Decidable Q] :
    IntOp.andi (BitVec.ofBool (decide P)) (BitVec.ofBool (decide Q)) = BitVec.ofBool (decide (P ∧ Q)) := by
  by_cases hp : P <;> by_cases hq : Q <;> simp [hp, hq, IntOp.andi]

/-- A selection by a decided bit. -/
theorem bit_select {α : Type} (P : Prop) [Decidable P] (a b : α) :
    Scalar.select (BitVec.ofBool (decide P)) a b = if P then a else b := by
  by_cases hp : P <;> simp [hp, Scalar.select]

/-- Equivalent propositions decide to the same bit. -/
theorem bit_congr {P Q : Prop} [Decidable P] [Decidable Q] (h : P ↔ Q) :
    BitVec.ofBool (decide P) = BitVec.ofBool (decide Q) := by
  rw [decide_eq_decide.2 h]

/-- The block each position belongs to. -/
def own : IVec S4096 32 :=
  shapeCast _ (broadcastInDim S16x256 ![0] bcast_S16_S16x256_0 (iotaInDim S16 32 0)) shapeCasts_S16x256_S4096

/-- The queries, head by head. -/
def queries (x : FVec Ideal S4x4096x9728 .bf16) : FVec Ideal S4x8x4096x64 .f32 :=
  transpose S4x8x4096x64 [0, 2, 1, 3] (shapeCast _ (extf .f32 (extractStridedSlice S4x4096x512 ![0, 0, 0] x slices_S4x4096x9728_S4x4096x512_0_0_0) bitsLt_bf16_f32) shapeCasts_S4x4096x512_S4x4096x8x64) transposes_S4x4096x8x64_S4x8x4096x64_0_2_1_3

/-- The keys, head by head. -/
def keys (x : FVec Ideal S4x4096x9728 .bf16) : FVec Ideal S4x8x4096x64 .f32 :=
  transpose S4x8x4096x64 [0, 2, 1, 3] (shapeCast _ (extf .f32 (extractStridedSlice S4x4096x512 ![0, 0, 512] x slices_S4x4096x9728_S4x4096x512_0_0_512) bitsLt_bf16_f32) shapeCasts_S4x4096x512_S4x4096x8x64) transposes_S4x4096x8x64_S4x8x4096x64_0_2_1_3

/-- The mean key of every block. -/
def meanKeys (k : FVec Ideal S4x8x4096x64 .f32) : FVec Ideal S4x8x16x64 .f32 :=
  Host.divf (Host.reduceAdd (shapeCast S4x8x16x256x64 k shapeCasts_S4x8x4096x64_S4x8x16x256x64) (constant S_ .f32 0x00000000#32) reducesTo_S4x8x16x256x64_S4x8x16x64_d3 h_S_) (broadcastInDim S4x8x16x64 ![] bcast_S_S4x8x16x64 (constant S_ .f32 0x43800000#32))

/-- The gates: every query against every earlier block's mean key. -/
def gate (q : FVec Ideal S4x8x4096x64 .f32) (km : FVec Ideal S4x8x16x64 .f32) : FVec Ideal S4x8x4096x16 .f32 :=
  select (broadcastInDim S4x8x4096x16 ![2, 3] bcast_S4096x16_S4x8x4096x16_2_3 (cmpi .slt (broadcastInDim S4096x16 ![0, 1] bcast_S1x16_S4096x16_0_1 (broadcastInDim S1x16 ![1] bcast_S16_S1x16_1 (iotaInDim S16 32 0))) (broadcastInDim S4096x16 ![0, 1] bcast_S4096x1_S4096x16_0_1 (broadcastInDim S4096x1 ![0] bcast_S4096_S4096x1_0 own))))
    (Host.dotGeneral dot_S4x8x4096x64_S4x8x16x64_S4x8x4096x16_3_3_2_2_01_01 none q km)
    (broadcastInDim S4x8x4096x16 ![] bcast_S_S4x8x4096x16 (id (constant S_ .f32 0xFF800000#32)))

/-- A row's gates along the last of two block axes. -/
def gLast (g : FVec Ideal S4x8x4096x16 .f32) : FVec Ideal S4x8x4096x16x16 .f32 :=
  broadcastInDim S4x8x4096x16x16 ![0, 1, 2, 3, 4] bcast_S4x8x4096x1x16_S4x8x4096x16x16_0_1_2_3_4 (broadcastInDim S4x8x4096x1x16 ![0, 1, 2, 4] bcast_S4x8x4096x16_S4x8x4096x1x16_0_1_2_4 g)

/-- A row's gates along the first of two block axes. -/
def gFirst (g : FVec Ideal S4x8x4096x16 .f32) : FVec Ideal S4x8x4096x16x16 .f32 :=
  broadcastInDim S4x8x4096x16x16 ![0, 1, 2, 3, 4] bcast_S4x8x4096x16x1_S4x8x4096x16x16_0_1_2_3_4 (broadcastInDim S4x8x4096x16x1 ![0, 1, 2, 3] bcast_S4x8x4096x16_S4x8x4096x16x1_0_1_2_3 g)

/-- Whether the second block's number is the smaller. -/
def earlier : IVec S4x8x4096x16x16 1 :=
  broadcastInDim S4x8x4096x16x16 ![0, 1, 2, 3, 4] bcast_S1x1x1x16x16_S4x8x4096x16x16_0_1_2_3_4 (broadcastInDim S1x1x1x16x16 ![3, 4] bcast_S16x16_S1x1x1x16x16_3_4 (cmpi .slt (broadcastInDim S16x16 ![0, 1] bcast_S1x16_S16x16_0_1 (broadcastInDim S1x16 ![1] bcast_S16_S1x16_1 (iotaInDim S16 32 0))) (broadcastInDim S16x16 ![0, 1] bcast_S16x1_S16x16_0_1 (broadcastInDim S16x1 ![0] bcast_S16_S16x1_0 (iotaInDim S16 32 0)))))

/-- One where the second block is ahead of the first, else zero. -/
def aheads (g : FVec Ideal S4x8x4096x16 .f32) : FVec Ideal S4x8x4096x16x16 .f32 :=
  select (ori (cmpf .ogt (gLast g) (gFirst g)) (andi (cmpf .oeq (gLast g) (gFirst g)) earlier))
    (broadcastInDim S4x8x4096x16x16 ![] bcast_S_S4x8x4096x16x16 (constant S_ .f32 0x3F800000#32))
    (broadcastInDim S4x8x4096x16x16 ![] bcast_S_S4x8x4096x16x16 (constant S_ .f32 0x00000000#32))

/-- How many blocks are ahead of each. -/
def ranks (a : FVec Ideal S4x8x4096x16x16 .f32) : FVec Ideal S4x8x4096x16 .f32 :=
  Host.reduceAdd (id a) (constant S_ .f32 0x00000000#32) reducesTo_S4x8x4096x16x16_S4x8x4096x16_d4 h_S_

/-- The picked blocks: fewer than three ahead, and a gate above `-∞`. -/
def picked (r g : FVec Ideal S4x8x4096x16 .f32) : IVec S4x8x4096x16 1 :=
  andi (cmpf .olt r (broadcastInDim S4x8x4096x16 ![] bcast_S_S4x8x4096x16 (constant S_ .f32 0x40400000#32)))
    (cmpf .ogt g (broadcastInDim S4x8x4096x16 ![] bcast_S_S4x8x4096x16 (constant S_ .f32 0xFF800000#32)))

/-- The keys of a query's own block that are not after it. -/
def diag : IVec S4096x4096 1 :=
  andi (cmpi .eq (broadcastInDim S4096x4096 ![0, 1] bcast_S1x4096_S4096x4096_0_1 (broadcastInDim S1x4096 ![1] bcast_S4096_S1x4096_1 own)) (broadcastInDim S4096x4096 ![0, 1] bcast_S4096x1_S4096x4096_0_1 (broadcastInDim S4096x1 ![0] bcast_S4096_S4096x1_0 own)))
    (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))

/-- The kept keys of every query. -/
def keeps (d : IVec S4096x4096 1) (pk : IVec S4x8x4096x16 1) : IVec S4x8x4096x4096 1 :=
  ori (broadcastInDim S4x8x4096x4096 ![0, 1, 2, 3] bcast_S1x1x4096x4096_S4x8x4096x4096_0_1_2_3 (broadcastInDim S1x1x4096x4096 ![2, 3] bcast_S4096x4096_S1x1x4096x4096_2_3 d))
    (shapeCast _ (broadcastInDim S4x8x4096x16x256 ![0, 1, 2, 3] bcast_S4x8x4096x16_S4x8x4096x16x256_0_1_2_3 pk) shapeCasts_S4x8x4096x16x256_S4x8x4096x4096)

/-- The scores, `-∞` at the keys not kept. -/
def scores (kp : IVec S4x8x4096x4096 1) (q k : FVec Ideal S4x8x4096x64 .f32) : FVec Ideal S4x8x4096x4096 .f32 :=
  select kp (Host.dotGeneral dot_S4x8x4096x64_S4x8x4096x64_S4x8x4096x4096_3_3_2_2_01_01 none q k)
    (broadcastInDim S4x8x4096x4096 ![] bcast_S_S4x8x4096x4096 (id (constant S_ .f32 0xFF800000#32)))

/-- A row's greatest score. -/
def rowMax (s : FVec Ideal S4x8x4096x4096 .f32) : FVec Ideal S4x8x4096 .f32 :=
  Host.reduce FloatOps.maximumf s (constant S_ .f32 0xFF800000#32) reducesTo_S4x8x4096x4096_S4x8x4096_d3 h_S_

/-- The exponentials of the scores less their row's maximum. -/
def expo (s : FVec Ideal S4x8x4096x4096 .f32) : FVec Ideal S4x8x4096x4096 .f32 :=
  Host.exp (subf s (broadcastInDim S4x8x4096x4096 ![0, 1, 2, 3] bcast_S4x8x4096x1_S4x8x4096x4096_0_1_2_3 (broadcastInDim S4x8x4096x1 ![0, 1, 2] bcast_S4x8x4096_S4x8x4096x1_0_1_2 (maximumf (broadcastInDim S4x8x4096 ![] bcast_S_S4x8x4096 (constant S_ .f32 0xFF800000#32)) (rowMax s)))))

/-- The exponentials divided by their row's sum, times the values, heads side by side. -/
def mean (w : FVec Ideal S4x8x4096x4096 .f32) (x : FVec Ideal S4x4096x9728 .bf16) : FVec Ideal S4x4096x512 .bf16 :=
  truncf .bf16 (shapeCast _ (transpose S4x4096x8x64 [0, 2, 1, 3] (Host.dotGeneral dot_S4x8x4096x4096_S4x8x4096x64_S4x8x4096x64_3_2_2_3_01_01 none (Host.divf w (broadcastInDim S4x8x4096x4096 ![0, 1, 2, 3] bcast_S4x8x4096x1_S4x8x4096x4096_0_1_2_3 (broadcastInDim S4x8x4096x1 ![0, 1, 2] bcast_S4x8x4096_S4x8x4096x1_0_1_2 (Host.reduceAdd w (constant S_ .f32 0x00000000#32) reducesTo_S4x8x4096x4096_S4x8x4096_d3 h_S_)))) (transpose S4x8x4096x64 [0, 2, 1, 3] (shapeCast _ (extf .f32 (extractStridedSlice S4x4096x512 ![0, 0, 2560] x slices_S4x4096x9728_S4x4096x512_0_0_2560) bitsLt_bf16_f32) shapeCasts_S4x4096x512_S4x4096x8x64) transposes_S4x4096x8x64_S4x8x4096x64_0_2_1_3)) transposes_S4x8x4096x64_S4x4096x8x64_0_2_1_3) shapeCasts_S4x4096x8x64_S4x4096x512) bitsLt_bf16_f32

/-- The reference's row maximum at an element. -/
theorem rowMax_apply (s : FVec Ideal S4x8x4096x4096 .f32) (b : Fin 4) (h : Fin 8) (p : Fin 4096) :
    rowMax s (ix3 b h p) = Finset.univ.fold max ⊥ fun k : Fin 4096 => s (ix4 b h p k) := by
  have hr : S4x8x4096x4096.Reduces [3] S4x8x4096 := by decide
  rw [← neg_inf]
  refine (Host.reduce_eq_fold_single _ _ _ _ hr _ _).trans ?_
  refine congrArg (fun f => Finset.univ.fold max (Ideal.ofBits .f32 0xFF800000#32) f) (funext fun k => ?_)
  show s (hr.lift (ix3 b h p) k) = _
  congr 1
  funext a
  fin_cases a <;> rfl

/-- A row's greatest score, not below `-∞`. -/
def floor (v : FVec Ideal S4x8x4096 .f32) : FVec Ideal S4x8x4096 .f32 :=
  maximumf (broadcastInDim S4x8x4096 ![] bcast_S_S4x8x4096 (constant S_ .f32 0xFF800000#32)) v

/-- One value a row, spread over the row's keys. -/
def spread (v : FVec Ideal S4x8x4096 .f32) : FVec Ideal S4x8x4096x4096 .f32 :=
  broadcastInDim S4x8x4096x4096 ![0, 1, 2, 3] bcast_S4x8x4096x1_S4x8x4096x4096_0_1_2_3
    (broadcastInDim S4x8x4096x1 ![0, 1, 2] bcast_S4x8x4096_S4x8x4096x1_0_1_2 v)

/-- The maximum, with minus infinity as its floor, is itself. -/
theorem floor_apply (v : FVec Ideal S4x8x4096 .f32) (b : Fin 4) (h : Fin 8) (p : Fin 4096) :
    floor v (ix3 b h p) = v (ix3 b h p) := by
  have e : floor v (ix3 b h p) = max (Ideal.ofBits .f32 0xFF800000#32) (v (ix3 b h p)) := by
    pointwise [floor]
  rw [e, neg_inf]
  exact max_bot_left _

/-- A row's number, spread over the keys. -/
theorem spread_apply (v : FVec Ideal S4x8x4096 .f32) (b : Fin 4) (h : Fin 8) (p k : Fin 4096) :
    spread v (ix4 b h p k) = v (ix3 b h p) := by
  pointwise [spread]

/-- The reference's exponentials at an element. -/
theorem expo_apply (s : FVec Ideal S4x8x4096x4096 .f32) (b : Fin 4) (h : Fin 8) (p k : Fin 4096) :
    expo s (ix4 b h p k) = Ideal.exp (s (ix4 b h p k) - Finset.univ.fold max ⊥ fun k => s (ix4 b h p k)) := by
  have e : expo s = Host.exp (subf s (spread (floor (rowMax s)))) := rfl
  rw [e]
  pointwise [spread_apply]
  rw [floor_apply, rowMax_apply]

/-- The reference's weighted values at an element. -/
theorem mean_apply (w : FVec Ideal S4x8x4096x4096 .f32) (x : FVec Ideal S4x4096x9728 .bf16) (b : Fin 4) (p : Fin 4096)
    (f : Fin 512) : mean w x (ix3 b p f) = ∑ k : Fin 4096, Ideal.div (w (ix4 b ⟨f.val / 64, by omega⟩ p k))
      (∑ k' : Fin 4096, w (ix4 b ⟨f.val / 64, by omega⟩ p k')) * x (ix3 b k ⟨2560 + f.val, by omega⟩) := by
  pointwise [mean]

variable (m : (ℓ : Loc nD τ sig) → Buf (Elt Ideal) ℓ)

/-- The reference's result, written with the steps named above. -/
theorem result_eq (c : Dev nD) (x : FVec Ideal S4x4096x9728 .bf16) (hx : m ((c : Thread nD τ).loc main_arg0) = x) :
    Value.res_main_v86 m c = mean (expo (scores (keeps diag (picked (ranks (aheads (gate (queries x) (meanKeys (keys x)))))
      (gate (queries x) (meanKeys (keys x))))) (queries x) (keys x))) x := by
  subst hx
  rfl

/-- The block of a position. -/
theorem own_apply (p : Fin 4096) : own (ix1 p) = BitVec.ofNat 32 (p.val / 256) := by
  pointwise [own]

/-- A query's lane. -/
theorem queries_apply (x : FVec Ideal S4x4096x9728 .bf16) (b : Fin 4) (h : Fin 8) (p : Fin 4096) (e : Fin 64) :
    queries x (ix4 b h p e) = x (ix3 b p ⟨64 * h.val + e.val, by omega⟩) := by
  pointwise [queries]
  simp only [Nat.mul_comm h.val 64]

/-- A key's lane. -/
theorem keys_apply (x : FVec Ideal S4x4096x9728 .bf16) (b : Fin 4) (h : Fin 8) (p : Fin 4096) (e : Fin 64) :
    keys x (ix4 b h p e) = x (ix3 b p ⟨512 + (64 * h.val + e.val), by omega⟩) := by
  pointwise [keys]
  simp only [Nat.mul_comm h.val 64]

/-- A block's mean key. -/
theorem meanKeys_apply (k : FVec Ideal S4x8x4096x64 .f32) (b : Fin 4) (h : Fin 8) (n : Fin 16) (e : Fin 64) :
    meanKeys k (ix4 b h n e) = Ideal.div (∑ c : Fin 256, k (ix4 b h ⟨n.val * 256 + c.val, by omega⟩ e)) ((256 : ℝ) : EReal) := by
  pointwise [meanKeys, constant, two_fifty_six]

/-- A gate. -/
theorem gate_apply (q : FVec Ideal S4x8x4096x64 .f32) (km : FVec Ideal S4x8x16x64 .f32) (b : Fin 4) (h : Fin 8) (p : Fin 4096)
    (n : Fin 16) : gate q km (ix4 b h p n)
      = if n.val < p.val / 256 then ∑ e : Fin 64, q (ix4 b h p e) * km (ix4 b h n e) else ⊥ := by
  pointwise [gate, own_apply, id, constant, neg_inf]
  simp (disch := word_cmp_side) only [hlo_ix]

/-- The gates spread along the last axis. -/
theorem gLast_apply (g : FVec Ideal S4x8x4096x16 .f32) (b : Fin 4) (h : Fin 8) (p : Fin 4096) (n n' : Fin 16) :
    gLast g (ix5 b h p n n') = g (ix4 b h p n') := by
  pointwise [gLast]

/-- The gates spread along the first axis. -/
theorem gFirst_apply (g : FVec Ideal S4x8x4096x16 .f32) (b : Fin 4) (h : Fin 8) (p : Fin 4096) (n n' : Fin 16) :
    gFirst g (ix5 b h p n n') = g (ix4 b h p n) := by
  pointwise [gFirst]

/-- The order of the blocks. -/
theorem earlier_apply (b : Fin 4) (h : Fin 8) (p : Fin 4096) (n n' : Fin 16) :
    earlier (ix5 b h p n n') = BitVec.ofBool (decide (n'.val < n.val)) := by
  pointwise [earlier]
  simp (disch := word_cmp_side) only [hlo_ix]

open Classical in
/-- Who is ahead of whom. -/
theorem aheads_apply (g : FVec Ideal S4x8x4096x16 .f32) (b : Fin 4) (h : Fin 8) (p : Fin 4096) (n n' : Fin 16) :
    aheads g (ix5 b h p n n') = if Ahead (fun n => g (ix4 b h p n)) n' n then 1 else 0 := by
  pointwise [aheads, gLast_apply, gFirst_apply, earlier_apply, constant, one]
  rw [bit_and, bit_or, bit_select]
  exact ite_congr rfl (fun _ => rfl) fun _ => rfl

/-- A rank is a sum of ones. -/
theorem ranks_apply (a : FVec Ideal S4x8x4096x16x16 .f32) (b : Fin 4) (h : Fin 8) (p : Fin 4096) (n : Fin 16) :
    ranks a (ix4 b h p n) = ∑ n' : Fin 16, a (ix5 b h p n n') := by
  pointwise [ranks, constant]
  rfl

open Classical in
/-- The picked blocks. -/
theorem picked_apply (g : FVec Ideal S4x8x4096x16 .f32) (b : Fin 4) (h : Fin 8) (p : Fin 4096) (n : Fin 16) :
    picked (ranks (aheads g)) g (ix4 b h p n) = BitVec.ofBool (decide (Best (fun n => g (ix4 b h p n)) 3 n)) := by
  pointwise [picked, constant, three, neg_inf]
  rw [ranks_apply]
  simp only [aheads_apply]
  rw [rank_sum, bit_and]
  refine bit_congr (and_congr ?_ Iff.rfl)
  rw [EReal.coe_lt_coe_iff]
  exact_mod_cast Iff.rfl

/-- The own block's keys. -/
theorem diag_apply (p k : Fin 4096) :
    diag (ix2 p k) = BitVec.ofBool (decide (k.val / 256 = p.val / 256 ∧ k.val ≤ p.val)) := by
  pointwise [diag, own_apply]
  simp (disch := word_cmp_side) only [hlo_ix]
  rw [Bool.decide_and]

/-- The kept keys. -/
theorem keeps_apply (d : IVec S4096x4096 1) (pk : IVec S4x8x4096x16 1) (b : Fin 4) (h : Fin 8) (p k : Fin 4096) :
    keeps d pk (ix4 b h p k) = IntOp.ori (d (ix2 p k)) (pk (ix4 b h p ⟨k.val / 256, by omega⟩)) := by
  pointwise [keeps]

/-- A score. -/
theorem scores_apply (kp : IVec S4x8x4096x4096 1) (q k : FVec Ideal S4x8x4096x64 .f32) (b : Fin 4) (h : Fin 8)
    (p j : Fin 4096) (P : Prop) [Decidable P] (hp : kp (ix4 b h p j) = BitVec.ofBool (decide P)) :
    scores kp q k (ix4 b h p j) = if P then ∑ e : Fin 64, q (ix4 b h p e) * k (ix4 b h j e) else ⊥ := by
  pointwise [scores, id, constant, neg_inf]
  rw [hp, bit_select]

section

variable (x : FVec Ideal S4x4096x9728 .bf16) (X : Fin 4 → Fin 4096 → Fin 9728 → ℝ)
  (hX : ∀ b p (f : Fin 9728), f.val < 1024 → x (ix3 b p f) = ((X b p f : ℝ) : EReal))

include hX

/-- The reference's gates are the specification's. -/
theorem gate_spec (b : Fin 4) (h : Fin 8) (p : Fin 4096) (n : Fin 16) :
    gate (queries x) (meanKeys (keys x)) (ix4 b h p n) = mobaGate X b p h n := by
  rw [gate_apply, mobaGate]
  refine ite_congr rfl (fun _ => ?_) fun _ => rfl
  rw [← sum_mul_coe]
  refine Finset.sum_congr rfl fun e _ => ?_
  rw [queries_apply, hX b p _ (by show _ + _ < _; omega), meanKeys_apply]
  congr 1
  rw [Finset.sum_congr rfl fun c _ => by
      rw [keys_apply, hX b _ _ (by show _ + _ < _; omega)], coe_sum, mobaMeanKey]
  rw [Ideal.div_coe (by norm_num), ← EReal.coe_mul, mul_one_div]

/-- The reference's scores are `-∞` where the specification's weight is zero, and elsewhere its logarithms. -/
theorem score_spec (b : Fin 4) (h : Fin 8) (p k : Fin 4096) :
    Score 0 (scores (keeps diag (picked (ranks (aheads (gate (queries x) (meanKeys (keys x)))))
      (gate (queries x) (meanKeys (keys x))))) (queries x) (keys x) (ix4 b h p k)) (mobaWeight X b p h k) := by
  classical
  have eg : (fun n => gate (queries x) (meanKeys (keys x)) (ix4 b h p n)) = mobaGate X b p h :=
    funext fun n => gate_spec x X hX b h p n
  rw [scores_apply _ _ _ b h p k ((k.val / 256 = p.val / 256 ∧ k.val ≤ p.val) ∨ Best (mobaGate X b p h) 3 ⟨k.val / 256, by omega⟩)
    (by rw [keeps_apply, diag_apply, picked_apply, eg, bit_or]), mobaWeight]
  split
  · refine .inr ⟨_, ?_, rfl⟩
    rw [Finset.sum_congr rfl fun e _ => by
        rw [queries_apply, keys_apply, hX b p _ (by show _ + _ < _; omega),
          hX b k _ (by show _ + _ < _; omega)], sum_mul_coe]
    congr 1; ring
  · exact .inl ⟨rfl, rfl⟩

end

/-- The reference's result, when its argument is real in the sections read. -/
theorem result (c : Dev nD) (X : Fin 4 → Fin 4096 → Fin 9728 → ℝ) (W : Fin 4 → Fin 4096 → Fin 512 → EReal)
    (hX : ∀ b p (f : Fin 9728), f.val < 1024 →
      (m ((c : Thread nD τ).loc main_arg0) : FVec Ideal S4x4096x9728 .bf16) (ix3 b p f) = ((X b p f : ℝ) : EReal))
    (hW : ∀ b k (f : Fin 512), (m ((c : Thread nD τ).loc main_arg0) : FVec Ideal S4x4096x9728 .bf16)
      (ix3 b k ⟨2560 + f.val, by omega⟩) = W b k f) :
    Value.res_main_v86 m c
      = (fun y : S4x4096x512.Idx => mobaMean X W (y 0) (y 1) (y 2) : FVec Ideal S4x4096x512 .bf16) := by
  rw [result_eq m c _ rfl]
  generalize (m ((c : Thread nD τ).loc main_arg0) : FVec Ideal S4x4096x9728 .bf16) = x at hX hW ⊢
  funext y
  idx_vars y
  rw [mean_apply]
  simp only [expo_apply]
  have hs := score_spec x X hX y0 ⟨y2.val / 64, by omega⟩ y1
  simp only [hW]
  refine softmax_mean hs ⟨y1, ?_⟩ _
  rcases hs y1 with ⟨-, h0⟩ | ⟨σ, h1, -⟩
  · rw [mobaWeight, if_pos (.inl ⟨rfl, le_refl _⟩)] at h0
    exact absurd h0 (Real.exp_pos _).ne'
  · rw [h1]; exact EReal.bot_lt_coe _

end Cert.MobaRefIdeal.Val

end
-- ==== Proof.MobaPre.lean ====
/-
  The precondition, read at an element: the queries and keys the block-sparse attention reads are real numbers.
-/
module

public import proofs.«01_k».proof.Proof.Gen.Pre_moba_finite
public import Idealize.ShloMosaic.Lib.Pointwise
public import Idealize.ShloMosaic.Lib.ReduceAll
public import Idealize.ShloMosaic.Lib.Affine

@[expose] public section

set_option maxRecDepth 16384

noncomputable section

namespace Cert.Pre_moba_finite

open Cert.Pre_moba_finite.Gen Idealize.ShloMosaic Idealize.ShloMosaic.TcCoe Idealize.SL.Sem

/-- The pattern of plus infinity. -/
theorem pos_inf : Ideal.ofBits .f32 0x7F800000#32 = ⊤ := by
  simp [Ideal.ofBits, Ideal.ieee]

/-- An extended real whose absolute value is below `⊤` is a real. -/
theorem real_of_abs {x : EReal} (h : max x (-x) < ⊤) : x = ((x.toReal : ℝ) : EReal) := by
  refine (EReal.coe_toReal ?_ ?_).symm
  · rintro rfl; simp at h
  · rintro rfl; simp at h

/-- A comparison's word that is one. -/
theorem lt_of_word {p : Prop} [Decidable p] (h : BitVec.ofBool (decide p) = 1#1) : p := by
  by_contra hp
  rw [decide_eq_false hp] at h
  exact absurd h (by decide)

/-- Where the precondition holds, the lanes below 1024 of the argument are real. -/
theorem real (x : FVec Ideal S4x4096x9728 .bf16) (h : fn (F := Ideal) x = fun _ => 1#1)
    (b : Fin 4) (p : Fin 4096) (f : Fin 9728) (hf : f.val < 1024) :
    x (ix3 b p f) = (((x (ix3 b p f)).toReal : ℝ) : EReal) := by
  have h0 := congrFun h ix0
  dsimp only [fn] at h0
  have e := Host.reduce_andi_all _ _ _ _ _ h0 (ix3 b p (⟨f.val, hf⟩ : Fin 1024))
  pointwise [pos_inf] at e
  exact real_of_abs (lt_of_word e)

end Cert.Pre_moba_finite

end
-- ==== Proof.ProjSpec.lean ====
/-
  What the input projection computes for one token: the normalised row times a column of the weights, and what each
  section of the result makes of its columns.
-/
module

public import Idealize.ShloMosaic.Lib.Pointwise
public import proofs.«01_k».proof.Proof.OutSpec

@[expose] public section

noncomputable section

namespace Cert.Project

open Idealize.ShloMosaic
open Cert.Merge (normed)

/-- A token's normalised row times one column of the weights. -/
def logit (x g w : Fin 1024 → EReal) : EReal := ∑ d : Fin 1024, normed x (g d) d * w d

/-- The rotary angle of position `s` at frequency `k`. -/
def angle (s : Fin 4096) (k : Fin 8) : EReal :=
  FloatOps.sitofp (F := Ideal) .f32 (BitVec.ofNat 32 s.val)
    * Ideal.pow (Ideal.ofBits .f32 0x48F42400#32)
      (Ideal.div (-(Ideal.ofBits .f32 0x40000000#32 * FloatOps.sitofp (F := Ideal) .f32 (BitVec.ofNat 32 k.val))) (Ideal.ofBits .f32 0x41800000#32))

/-- The rotary embedding of one head: the first eight channels paired with the next eight, the rest as they are. -/
def turned (s : Fin 4096) (z : Fin 64 → EReal) (e : Fin 64) : EReal :=
  if h : e.val < 8 then z e * Ideal.cos (angle s ⟨e.val, h⟩) - z ⟨e.val + 8, by omega⟩ * Ideal.sin (angle s ⟨e.val, h⟩)
  else if h' : e.val < 16 then z e * Ideal.cos (angle s ⟨e.val - 8, by omega⟩) + z ⟨e.val - 8, by omega⟩ * Ideal.sin (angle s ⟨e.val - 8, by omega⟩)
  else z e

/-- The table of cosines: ones past the sixteenth channel. -/
def cosAt (s : Fin 4096) (e : Fin 64) : EReal :=
  if h : e.val < 8 then Ideal.cos (angle s ⟨e.val, h⟩) else if h' : e.val < 16 then Ideal.cos (angle s ⟨e.val - 8, by omega⟩) else 1

/-- The table of sines against the channel eight further on. -/
def sinAhead (s : Fin 4096) (e : Fin 64) : EReal := if h : e.val < 8 then -Ideal.sin (angle s ⟨e.val, h⟩) else 0

/-- The table of sines against the channel eight back. -/
def sinBack (s : Fin 4096) (e : Fin 64) : EReal :=
  if h : e.val < 8 then 0 else if h' : e.val < 16 then Ideal.sin (angle s ⟨e.val - 8, by omega⟩) else 0

/-- Two heads side by side, rotated by the three tables with whole-row shifts, are the rotary embedding of each: where a
    shift crosses from one head into the other its table is zero. -/
theorem turned_of_tables (s : Fin 4096) (z : Fin 128 → EReal) (l : Fin 128) :
    z l * cosAt s ⟨l.val % 64, by omega⟩ + z ⟨(l.val + 8) % 128, by omega⟩ * sinAhead s ⟨l.val % 64, by omega⟩
        + z ⟨(l.val + 120) % 128, by omega⟩ * sinBack s ⟨l.val % 64, by omega⟩
      = turned s (fun e => z ⟨l.val / 64 * 64 + e.val, by omega⟩) ⟨l.val % 64, by omega⟩ := by
  have hl : (⟨l.val / 64 * 64 + l.val % 64, by omega⟩ : Fin 128) = l := Fin.ext (by show _ / _ * _ + _ % _ = _; omega)
  unfold turned cosAt sinAhead sinBack
  simp only [hl]
  by_cases h : l.val % 64 < 8
  · have e : (⟨(l.val + 8) % 128, by omega⟩ : Fin 128) = ⟨l.val / 64 * 64 + (l.val % 64 + 8), by omega⟩ :=
      Fin.ext (by show (_ + _) % _ = _ / _ * _ + (_ % _ + _); omega)
    simp only [h, ↓reduceDIte, e, mul_zero, add_zero, mul_neg, sub_eq_add_neg]
  · by_cases h' : l.val % 64 < 16
    · have e : (⟨(l.val + 120) % 128, by omega⟩ : Fin 128) = ⟨l.val / 64 * 64 + (l.val % 64 - 8), by omega⟩ :=
        Fin.ext (by show (_ + _) % _ = _ / _ * _ + (_ % _ - _); omega)
      simp only [h, h', ↓reduceDIte, e, mul_zero, add_zero]
    · simp only [h, h', ↓reduceDIte, mul_zero, add_zero, mul_one]

/-- The logistic function. -/
def squash (z : EReal) : EReal := Ideal.div 1 (1 + Ideal.exp (-z))

/-- The logarithm of the logistic function. -/
def logSquash (z : EReal) : EReal := min z 0 - Ideal.log1p (Ideal.exp (-(max z (-z))))

/-- A real above zero has a logarithm. -/
theorem log_ne_bot (r : ℝ) (h : 0 < r) : Ideal.log (r : EReal) ≠ ⊥ := by
  rw [show Ideal.log (r : EReal) = (if r ≤ 0 then ⊥ else (Real.log r : EReal)) from rfl, if_neg (not_le.mpr h)]
  exact EReal.coe_ne_bot _

/-- One plus an exponential has a logarithm. -/
theorem log1p_exp_ne_bot (y : EReal) : Ideal.log1p (Ideal.exp y) ≠ ⊥ := by
  unfold Ideal.log1p
  induction y with
  | bot =>
    rw [show Ideal.exp ⊥ = 0 from rfl, add_zero]
    exact log_ne_bot 1 one_pos
  | top =>
    rw [show Ideal.exp ⊤ = ⊤ from rfl, show (1 : EReal) + ⊤ = ⊤ from rfl, show Ideal.log ⊤ = ⊤ from rfl]
    exact bot_lt_top.ne'
  | coe r =>
    rw [show (1 : EReal) + Ideal.exp (r : EReal) = ((1 + Real.exp r : ℝ) : EReal) from rfl]
    exact log_ne_bot _ (by positivity)

/-- The same logarithm by way of the negated argument. -/
theorem logSquash_of (z : EReal) : -(max (-z) 0 + Ideal.log1p (Ideal.exp (-(max (-z) z)))) = logSquash z := by
  unfold logSquash
  rw [EReal.neg_add (Or.inl (ne_of_gt (lt_of_lt_of_le EReal.bot_lt_zero (le_max_right _ _)))) (Or.inr (log1p_exp_ne_bot _)), max_comm (-z) z]
  refine congrArg (· - _) ?_
  rcases le_total z 0 with h | h
  · rw [max_eq_left (EReal.neg_nonneg.mpr h), neg_neg, min_eq_left h]
  · rw [max_eq_right (EReal.neg_le_zero.mpr h), neg_zero, min_eq_right h]

/-- Where in the weights each of the result's sections of 512 columns begins. -/
def start : Fin 19 → ℕ := ![0, 512, 2048, 2560, 6144, 1024, 3072, 4096, 4608, 5120, 6736, 7248, 7760, 8272, 8784, 9296, 1536, 3584, 5632]

/-- Each section lies inside the weights. -/
theorem start_le : ∀ j : Fin 19, start j + 512 ≤ 9808 := by decide

/-- What section `j` of the result makes of its 512 columns `z`, at column `l`: the first five are rotated (the first and third
    scaled), the next five kept (the eighth scaled), the six merge sections squashed, and the last three gate themselves. -/
def sectionAt (s : Fin 4096) (j : Fin 19) (z : Fin 512 → EReal) (l : Fin 512) : EReal :=
  if j.val < 5 then turned s (fun e => z ⟨l.val / 64 * 64 + e.val, by omega⟩) ⟨l.val % 64, by omega⟩
      * (if j.val = 0 ∨ j.val = 2 then Ideal.ofBits .f32 0x3E000000#32 else 1)
  else if j.val < 10 then z l * (if j.val = 7 then Ideal.ofBits .f32 0x3E000000#32 else 1)
  else if j.val < 16 then squash (z l)
  else z l * squash (z l)

/-- The packed result at row `n` and column `f`. -/
def packedTable (x : Fin 16384 → Fin 1024 → EReal) (g : Fin 1024 → EReal) (w : Fin 1024 → Fin 9808 → EReal) (n : Fin 16384) (f : Fin 9728) : EReal :=
  sectionAt ⟨n.val % 4096, by omega⟩ ⟨f.val / 512, by omega⟩
    (fun l => logit (x n) g (fun d => w d ⟨start ⟨f.val / 512, by omega⟩ + l.val, by have := start_le ⟨f.val / 512, by omega⟩; omega⟩))
    ⟨f.val % 512, by omega⟩

/-- What the 128 spare columns make of their 80 columns `z`: the index key rotated, the index weights scaled, the forget gate's
    logarithm, and past those the same of zero. -/
def spareAt (s : Fin 4096) (z : Fin 80 → EReal) (b : Fin 8 → EReal) (l : Fin 128) : EReal :=
  if h : l.val < 64 then turned s (fun e => z ⟨e.val, by omega⟩) ⟨l.val, h⟩
  else if h' : l.val < 72 then z ⟨l.val, by omega⟩ * Ideal.ofBits .f32 0x3D3504F3#32
  else if h'' : l.val < 80 then logSquash (z ⟨l.val, h''⟩ + b ⟨l.val - 72, by omega⟩)
  else logSquash 0

/-- The spare columns at row `n` and column `l`. -/
def spareTable (x : Fin 16384 → Fin 1024 → EReal) (g : Fin 1024 → EReal) (w : Fin 1024 → Fin 9808 → EReal) (b : Fin 8 → EReal)
    (n : Fin 16384) (l : Fin 128) : EReal :=
  spareAt ⟨n.val % 4096, by omega⟩ (fun k => logit (x n) g (fun d => w d ⟨6656 + k.val, by omega⟩)) b l

end Cert.Project

end
-- ==== Proof.ProjRef.lean ====
/-
  The reference of the input projection, element by element.
-/
module

public import proofs.«01_k».proof.Proof.Gen.ProjRefIdeal.Run
public import Idealize.ShloMosaic.Lib.Pointwise
public import Idealize.ShloMosaic.Lib.Pipeline.ValueKit
public import proofs.«01_k».proof.Proof.ProjSpec

@[expose] public section

set_option maxRecDepth 16384

noncomputable section

namespace Cert.ProjRefIdeal.Val

open Cert.ProjRefIdeal Cert.ProjRefIdeal.Gen Idealize.ShloMosaic Idealize.ShloMosaic.TcCoe Idealize.SL.Sem
open Cert.Merge (normed)
open Cert.Project

/-- The pattern of one reads one. -/
theorem one_bits : Ideal.ofBits .f32 0x3F800000#32 = 1 := by
  simp [Ideal.ofBits, Ideal.ieee]
  rw [← EReal.coe_mul, ← EReal.coe_one]
  norm_num

/-- The pattern of zero reads zero. -/
theorem zero_bits : Ideal.ofBits .f32 0x00000000#32 = 0 := by
  simp [Ideal.ofBits, Ideal.ieee]

/-- The rotary angles. -/
def angles : FVec Ideal S4096x8 .f32 :=
  mulf (broadcastInDim S4096x8 ![0, 1] bcast_S4096x1_S4096x8_0_1 (broadcastInDim S4096x1 ![0] bcast_S4096_S4096x1_0 (sitofp .f32 (iotaInDim S4096 32 0)))) (broadcastInDim S4096x8 ![0, 1] bcast_S1x8_S4096x8_0_1 (broadcastInDim S1x8 ![1] bcast_S8_S1x8_1 (Host.powf (broadcastInDim S8 ![] bcast_S_S8 (constant S_ .f32 0x48F42400#32)) (Host.divf (Host.negf (addf (broadcastInDim S8 ![] bcast_S_S8 (constant S_ .f32 0x00000000#32)) (mulf (broadcastInDim S8 ![] bcast_S_S8 (constant S_ .f32 0x40000000#32)) (sitofp .f32 (iotaInDim S8 32 0))))) (broadcastInDim S8 ![] bcast_S_S8 (constant S_ .f32 0x41800000#32))))))

/-- The rotary angles at an element. -/
theorem angles_apply (s : Fin 4096) (k : Fin 8) : angles (ix2 s k) = angle s k := by
  unfold angle
  pointwise [angles]

/-- The normalised rows times the weights. -/
def product (x : FVec Ideal S4x4096x1024 .f32) (g : FVec Ideal S1024 .f32) (w : FVec Ideal S1024x9808 .f32) : FVec Ideal S4x4096x9808 .f32 :=
  Host.dotGeneral dot_S4x4096x1024_S1024x9808_S4x4096x9808_2_0_01_1_n_n none (mulf (mulf x (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf x x) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 g))) w

/-- The product at an element. -/
theorem product_apply (x : FVec Ideal S4x4096x1024 .f32) (g : FVec Ideal S1024 .f32) (w : FVec Ideal S1024x9808 .f32) (b : Fin 4) (s : Fin 4096) (f : Fin 9808) :
    product x g w (ix3 b s f) = logit (fun e => x (ix3 b s e)) (fun d => g (ix1 d)) (fun d => w (ix2 d f)) := by
  unfold logit normed
  pointwise [product]

/-- The rotary embedding of a section's eight heads, head by head, -/
def heads8 (h : FVec Ideal S4x4096x8x64 .f32) : FVec Ideal S4x4096x8x64 .f32 :=
  concatenate S4x4096x8x64 3 [⟨S4x4096x8x8, subf (mulf (extractStridedSlice S4x4096x8x8 ![0, 0, 0, 0] h slices_S4x4096x8x64_S4x4096x8x8_0_0_0_0) (broadcastInDim S4x4096x8x8 ![0, 1, 2, 3] bcast_S1x4096x1x8_S4x4096x8x8_0_1_2_3 (broadcastInDim S1x4096x1x8 ![1, 3] bcast_S4096x8_S1x4096x1x8_1_3 (Host.cos angles)))) (mulf (extractStridedSlice S4x4096x8x8 ![0, 0, 0, 8] h slices_S4x4096x8x64_S4x4096x8x8_0_0_0_8) (broadcastInDim S4x4096x8x8 ![0, 1, 2, 3] bcast_S1x4096x1x8_S4x4096x8x8_0_1_2_3 (broadcastInDim S1x4096x1x8 ![1, 3] bcast_S4096x8_S1x4096x1x8_1_3 (Host.sin angles))))⟩,
    ⟨S4x4096x8x8, addf (mulf (extractStridedSlice S4x4096x8x8 ![0, 0, 0, 8] h slices_S4x4096x8x64_S4x4096x8x8_0_0_0_8) (broadcastInDim S4x4096x8x8 ![0, 1, 2, 3] bcast_S1x4096x1x8_S4x4096x8x8_0_1_2_3 (broadcastInDim S1x4096x1x8 ![1, 3] bcast_S4096x8_S1x4096x1x8_1_3 (Host.cos angles)))) (mulf (extractStridedSlice S4x4096x8x8 ![0, 0, 0, 0] h slices_S4x4096x8x64_S4x4096x8x8_0_0_0_0) (broadcastInDim S4x4096x8x8 ![0, 1, 2, 3] bcast_S1x4096x1x8_S4x4096x8x8_0_1_2_3 (broadcastInDim S1x4096x1x8 ![1, 3] bcast_S4096x8_S1x4096x1x8_1_3 (Host.sin angles))))⟩,
    ⟨S4x4096x8x48, extractStridedSlice S4x4096x8x48 ![0, 0, 0, 16] h slices_S4x4096x8x64_S4x4096x8x48_0_0_0_16⟩] concatenates_S4x4096x8x8_S4x4096x8x8_S4x4096x8x48_S4x4096x8x64_d3

/-- Eight heads rotated, at an element. -/
theorem heads8_apply (h : FVec Ideal S4x4096x8x64 .f32) (b : Fin 4) (s : Fin 4096) (k : Fin 8) (e : Fin 64) :
    heads8 h (ix4 b s k e) = turned s (fun e => h (ix4 b s k e)) e := by
  unfold turned
  pointwise [heads8, angles_apply]
  by_cases h1 : e.val < 8
  · simp only [h1, ↓reduceDIte]; refine congrArg₂ (· - ·) ?_ (congrArg₂ (· * ·) (congrArg h ?_) ?_) <;> first | rfl | blk_ext
  · by_cases h2 : e.val < 16
    · have h3 : e.val - 8 < 8 := by omega
      simp only [h1, h2, h3, ↓reduceDIte]
      refine congrArg₂ (· + ·) (congrArg₂ (· * ·) (congrArg h ?_) ?_) ?_ <;> first | rfl | exact congrArg (ix4 b s k) (Fin.ext (by show 8 + (_ - 8) = _; omega))
    · have h3 : ¬ e.val - 8 < 8 := by omega
      simp only [h1, h2, h3, ↓reduceDIte]
      exact congrArg h (congrArg (ix4 b s k) (Fin.ext (by show 16 + (_ - 8 - 8) = _; omega)))

/-- and as the section's 512 columns. -/
def turn8 (h : FVec Ideal S4x4096x512 .f32) : FVec Ideal S4x4096x512 .f32 :=
  shapeCast _ (heads8 (shapeCast _ h shapeCasts_S4x4096x512_S4x4096x8x64)) shapeCasts_S4x4096x8x64_S4x4096x512

/-- A section of eight heads rotated, at an element. -/
theorem turn8_apply (h : FVec Ideal S4x4096x512 .f32) (b : Fin 4) (s : Fin 4096) (l : Fin 512) :
    turn8 h (ix3 b s l) = turned s (fun e => h (ix3 b s ⟨l.val / 64 * 64 + e.val, by omega⟩)) ⟨l.val % 64, by omega⟩ := by
  refine Eq.trans (b := heads8 (shapeCast _ h shapeCasts_S4x4096x512_S4x4096x8x64) (ix4 b s ⟨l.val / 64, by omega⟩ ⟨l.val % 64, by omega⟩)) ?_ ?_
  · pointwise [turn8]
  · rw [heads8_apply]
    refine congrArg (fun z => turned s z _) (funext fun e => ?_)
    pointwise

/-- The rotary embedding of the one index key head, -/
def heads1 (h : FVec Ideal S4x4096x1x64 .f32) : FVec Ideal S4x4096x1x64 .f32 :=
  concatenate S4x4096x1x64 3 [⟨S4x4096x1x8, subf (mulf (extractStridedSlice S4x4096x1x8 ![0, 0, 0, 0] h slices_S4x4096x1x64_S4x4096x1x8_0_0_0_0) (broadcastInDim S4x4096x1x8 ![0, 1, 2, 3] bcast_S1x4096x1x8_S4x4096x1x8_0_1_2_3 (broadcastInDim S1x4096x1x8 ![1, 3] bcast_S4096x8_S1x4096x1x8_1_3 (Host.cos angles)))) (mulf (extractStridedSlice S4x4096x1x8 ![0, 0, 0, 8] h slices_S4x4096x1x64_S4x4096x1x8_0_0_0_8) (broadcastInDim S4x4096x1x8 ![0, 1, 2, 3] bcast_S1x4096x1x8_S4x4096x1x8_0_1_2_3 (broadcastInDim S1x4096x1x8 ![1, 3] bcast_S4096x8_S1x4096x1x8_1_3 (Host.sin angles))))⟩,
    ⟨S4x4096x1x8, addf (mulf (extractStridedSlice S4x4096x1x8 ![0, 0, 0, 8] h slices_S4x4096x1x64_S4x4096x1x8_0_0_0_8) (broadcastInDim S4x4096x1x8 ![0, 1, 2, 3] bcast_S1x4096x1x8_S4x4096x1x8_0_1_2_3 (broadcastInDim S1x4096x1x8 ![1, 3] bcast_S4096x8_S1x4096x1x8_1_3 (Host.cos angles)))) (mulf (extractStridedSlice S4x4096x1x8 ![0, 0, 0, 0] h slices_S4x4096x1x64_S4x4096x1x8_0_0_0_0) (broadcastInDim S4x4096x1x8 ![0, 1, 2, 3] bcast_S1x4096x1x8_S4x4096x1x8_0_1_2_3 (broadcastInDim S1x4096x1x8 ![1, 3] bcast_S4096x8_S1x4096x1x8_1_3 (Host.sin angles))))⟩,
    ⟨S4x4096x1x48, extractStridedSlice S4x4096x1x48 ![0, 0, 0, 16] h slices_S4x4096x1x64_S4x4096x1x48_0_0_0_16⟩] concatenates_S4x4096x1x8_S4x4096x1x8_S4x4096x1x48_S4x4096x1x64_d3

/-- One head rotated, at an element. -/
theorem heads1_apply (h : FVec Ideal S4x4096x1x64 .f32) (b : Fin 4) (s : Fin 4096) (e : Fin 64) :
    heads1 h (ix4 b s 0 e) = turned s (fun e => h (ix4 b s 0 e)) e := by
  unfold turned
  pointwise [heads1, angles_apply]
  by_cases h1 : e.val < 8
  · simp only [h1, ↓reduceDIte]; refine congrArg₂ (· - ·) ?_ (congrArg₂ (· * ·) (congrArg h ?_) ?_) <;> first | rfl | blk_ext
  · by_cases h2 : e.val < 16
    · have h3 : e.val - 8 < 8 := by omega
      simp only [h1, h2, h3, ↓reduceDIte]
      refine congrArg₂ (· + ·) (congrArg₂ (· * ·) (congrArg h ?_) ?_) ?_ <;> first | rfl | exact congrArg (ix4 b s 0) (Fin.ext (by show 8 + (_ - 8) = _; omega))
    · have h3 : ¬ e.val - 8 < 8 := by omega
      simp only [h1, h2, h3, ↓reduceDIte]
      exact congrArg h (congrArg (ix4 b s 0) (Fin.ext (by show 16 + (_ - 8 - 8) = _; omega)))

/-- and as its 64 columns. -/
def turn1 (h : FVec Ideal S4x4096x64 .f32) : FVec Ideal S4x4096x64 .f32 :=
  shapeCast _ (heads1 (shapeCast _ h shapeCasts_S4x4096x64_S4x4096x1x64)) shapeCasts_S4x4096x1x64_S4x4096x64

/-- The index key rotated, at an element. -/
theorem turn1_apply (h : FVec Ideal S4x4096x64 .f32) (b : Fin 4) (s : Fin 4096) (l : Fin 64) :
    turn1 h (ix3 b s l) = turned s (fun e => h (ix3 b s e)) l := by
  refine Eq.trans (b := heads1 (shapeCast _ h shapeCasts_S4x4096x64_S4x4096x1x64) (ix4 b s 0 l)) ?_ ?_
  · pointwise [turn1]
  · rw [heads1_apply]
    refine congrArg (fun z => turned s z _) (funext fun e => ?_)
    pointwise

/-- A section that gates itself. -/
def gate (h : FVec Ideal S4x4096x512 .f32) : FVec Ideal S4x4096x512 .f32 :=
  mulf h (Host.divf (broadcastInDim S4x4096x512 ![] bcast_S_S4x4096x512 (constant S_ .f32 0x3F800000#32)) (addf (broadcastInDim S4x4096x512 ![] bcast_S_S4x4096x512 (constant S_ .f32 0x3F800000#32)) (Host.exp (Host.negf h))))

/-- A section that gates itself, at an element. -/
theorem gate_apply (h : FVec Ideal S4x4096x512 .f32) (b : Fin 4) (s : Fin 4096) (l : Fin 512) :
    gate h (ix3 b s l) = h (ix3 b s l) * squash (h (ix3 b s l)) := by
  unfold squash
  pointwise [gate, one_bits]

/-- The merge sections. -/
def merge (h : FVec Ideal S4x4096x3072 .f32) : FVec Ideal S4x4096x3072 .f32 :=
  Host.divf (broadcastInDim S4x4096x3072 ![] bcast_S_S4x4096x3072 (constant S_ .f32 0x3F800000#32)) (addf (broadcastInDim S4x4096x3072 ![] bcast_S_S4x4096x3072 (constant S_ .f32 0x3F800000#32)) (Host.exp (Host.negf h)))

/-- The merge gates at an element. -/
theorem merge_apply (h : FVec Ideal S4x4096x3072 .f32) (b : Fin 4) (s : Fin 4096) (l : Fin 3072) :
    merge h (ix3 b s l) = squash (h (ix3 b s l)) := by
  unfold squash
  pointwise [merge, one_bits]

/-- A section times the attention scale. -/
def eighth (h : FVec Ideal S4x4096x512 .f32) : FVec Ideal S4x4096x512 .f32 :=
  mulf h (broadcastInDim S4x4096x512 ![] bcast_S_S4x4096x512 (constant S_ .f32 0x3E000000#32))

/-- A scaled section at an element. -/
theorem eighth_apply (h : FVec Ideal S4x4096x512 .f32) (b : Fin 4) (s : Fin 4096) (l : Fin 512) :
    eighth h (ix3 b s l) = h (ix3 b s l) * Ideal.ofBits .f32 0x3E000000#32 := by
  pointwise [eighth]

/-- The fourteen sections side by side. -/
def joined (u0 u1 u2 u3 u4 u5 u6 u7 u8 u9 u11 u12 u13 : FVec Ideal S4x4096x512 .f32) (u10 : FVec Ideal S4x4096x3072 .f32) : FVec Ideal S4x4096x9728 .f32 :=
  concatenate S4x4096x9728 2 [⟨S4x4096x512, u0⟩, ⟨S4x4096x512, u1⟩, ⟨S4x4096x512, u2⟩, ⟨S4x4096x512, u3⟩, ⟨S4x4096x512, u4⟩, ⟨S4x4096x512, u5⟩, ⟨S4x4096x512, u6⟩, ⟨S4x4096x512, u7⟩, ⟨S4x4096x512, u8⟩, ⟨S4x4096x512, u9⟩, ⟨S4x4096x3072, u10⟩, ⟨S4x4096x512, u11⟩, ⟨S4x4096x512, u12⟩, ⟨S4x4096x512, u13⟩] concatenates_S4x4096x512_S4x4096x512_S4x4096x512_S4x4096x512_S4x4096x512_S4x4096x512_S4x4096x512_S4x4096x512_S4x4096x512_S4x4096x512_S4x4096x3072_S4x4096x512_S4x4096x512_S4x4096x512_S4x4096x9728_d2

/-- Section 0 of the packed columns. -/
theorem joined_0 (u0 u1 u2 u3 u4 u5 u6 u7 u8 u9 u11 u12 u13 : FVec Ideal S4x4096x512 .f32) (u10 : FVec Ideal S4x4096x3072 .f32) (b : Fin 4) (s : Fin 4096) (l : Fin 512) :
    joined u0 u1 u2 u3 u4 u5 u6 u7 u8 u9 u11 u12 u13 u10 (ix3 b s ⟨0 + l.val, by omega⟩) = u0 (ix3 b s l) := by
  exact concatenate_apply_piece (t := S4x4096x9728) 2 _ _ _ 0 (by show 0 < 14; omega) S4x4096x512 u0 rfl rfl 0 (by rfl) (ix3 b s l)
    (fun q hq => match q with
      | ⟨0, _⟩ => rfl
      | ⟨1, _⟩ => rfl
      | ⟨2, _⟩ => absurd rfl hq) (rfl)

/-- Section 1 of the packed columns. -/
theorem joined_1 (u0 u1 u2 u3 u4 u5 u6 u7 u8 u9 u11 u12 u13 : FVec Ideal S4x4096x512 .f32) (u10 : FVec Ideal S4x4096x3072 .f32) (b : Fin 4) (s : Fin 4096) (l : Fin 512) :
    joined u0 u1 u2 u3 u4 u5 u6 u7 u8 u9 u11 u12 u13 u10 (ix3 b s ⟨512 + l.val, by omega⟩) = u1 (ix3 b s l) := by
  exact concatenate_apply_piece (t := S4x4096x9728) 2 _ _ _ 1 (by show 1 < 14; omega) S4x4096x512 u1 rfl rfl 512 (by rfl) (ix3 b s l)
    (fun q hq => match q with
      | ⟨0, _⟩ => rfl
      | ⟨1, _⟩ => rfl
      | ⟨2, _⟩ => absurd rfl hq) (rfl)

/-- Section 2 of the packed columns. -/
theorem joined_2 (u0 u1 u2 u3 u4 u5 u6 u7 u8 u9 u11 u12 u13 : FVec Ideal S4x4096x512 .f32) (u10 : FVec Ideal S4x4096x3072 .f32) (b : Fin 4) (s : Fin 4096) (l : Fin 512) :
    joined u0 u1 u2 u3 u4 u5 u6 u7 u8 u9 u11 u12 u13 u10 (ix3 b s ⟨1024 + l.val, by omega⟩) = u2 (ix3 b s l) := by
  exact concatenate_apply_piece (t := S4x4096x9728) 2 _ _ _ 2 (by show 2 < 14; omega) S4x4096x512 u2 rfl rfl 1024 (by rfl) (ix3 b s l)
    (fun q hq => match q with
      | ⟨0, _⟩ => rfl
      | ⟨1, _⟩ => rfl
      | ⟨2, _⟩ => absurd rfl hq) (rfl)

/-- Section 3 of the packed columns. -/
theorem joined_3 (u0 u1 u2 u3 u4 u5 u6 u7 u8 u9 u11 u12 u13 : FVec Ideal S4x4096x512 .f32) (u10 : FVec Ideal S4x4096x3072 .f32) (b : Fin 4) (s : Fin 4096) (l : Fin 512) :
    joined u0 u1 u2 u3 u4 u5 u6 u7 u8 u9 u11 u12 u13 u10 (ix3 b s ⟨1536 + l.val, by omega⟩) = u3 (ix3 b s l) := by
  exact concatenate_apply_piece (t := S4x4096x9728) 2 _ _ _ 3 (by show 3 < 14; omega) S4x4096x512 u3 rfl rfl 1536 (by rfl) (ix3 b s l)
    (fun q hq => match q with
      | ⟨0, _⟩ => rfl
      | ⟨1, _⟩ => rfl
      | ⟨2, _⟩ => absurd rfl hq) (rfl)

/-- Section 4 of the packed columns. -/
theorem joined_4 (u0 u1 u2 u3 u4 u5 u6 u7 u8 u9 u11 u12 u13 : FVec Ideal S4x4096x512 .f32) (u10 : FVec Ideal S4x4096x3072 .f32) (b : Fin 4) (s : Fin 4096) (l : Fin 512) :
    joined u0 u1 u2 u3 u4 u5 u6 u7 u8 u9 u11 u12 u13 u10 (ix3 b s ⟨2048 + l.val, by omega⟩) = u4 (ix3 b s l) := by
  exact concatenate_apply_piece (t := S4x4096x9728) 2 _ _ _ 4 (by show 4 < 14; omega) S4x4096x512 u4 rfl rfl 2048 (by rfl) (ix3 b s l)
    (fun q hq => match q with
      | ⟨0, _⟩ => rfl
      | ⟨1, _⟩ => rfl
      | ⟨2, _⟩ => absurd rfl hq) (rfl)

/-- Section 5 of the packed columns. -/
theorem joined_5 (u0 u1 u2 u3 u4 u5 u6 u7 u8 u9 u11 u12 u13 : FVec Ideal S4x4096x512 .f32) (u10 : FVec Ideal S4x4096x3072 .f32) (b : Fin 4) (s : Fin 4096) (l : Fin 512) :
    joined u0 u1 u2 u3 u4 u5 u6 u7 u8 u9 u11 u12 u13 u10 (ix3 b s ⟨2560 + l.val, by omega⟩) = u5 (ix3 b s l) := by
  exact concatenate_apply_piece (t := S4x4096x9728) 2 _ _ _ 5 (by show 5 < 14; omega) S4x4096x512 u5 rfl rfl 2560 (by rfl) (ix3 b s l)
    (fun q hq => match q with
      | ⟨0, _⟩ => rfl
      | ⟨1, _⟩ => rfl
      | ⟨2, _⟩ => absurd rfl hq) (rfl)

/-- Section 6 of the packed columns. -/
theorem joined_6 (u0 u1 u2 u3 u4 u5 u6 u7 u8 u9 u11 u12 u13 : FVec Ideal S4x4096x512 .f32) (u10 : FVec Ideal S4x4096x3072 .f32) (b : Fin 4) (s : Fin 4096) (l : Fin 512) :
    joined u0 u1 u2 u3 u4 u5 u6 u7 u8 u9 u11 u12 u13 u10 (ix3 b s ⟨3072 + l.val, by omega⟩) = u6 (ix3 b s l) := by
  exact concatenate_apply_piece (t := S4x4096x9728) 2 _ _ _ 6 (by show 6 < 14; omega) S4x4096x512 u6 rfl rfl 3072 (by rfl) (ix3 b s l)
    (fun q hq => match q with
      | ⟨0, _⟩ => rfl
      | ⟨1, _⟩ => rfl
      | ⟨2, _⟩ => absurd rfl hq) (rfl)

/-- Section 7 of the packed columns. -/
theorem joined_7 (u0 u1 u2 u3 u4 u5 u6 u7 u8 u9 u11 u12 u13 : FVec Ideal S4x4096x512 .f32) (u10 : FVec Ideal S4x4096x3072 .f32) (b : Fin 4) (s : Fin 4096) (l : Fin 512) :
    joined u0 u1 u2 u3 u4 u5 u6 u7 u8 u9 u11 u12 u13 u10 (ix3 b s ⟨3584 + l.val, by omega⟩) = u7 (ix3 b s l) := by
  exact concatenate_apply_piece (t := S4x4096x9728) 2 _ _ _ 7 (by show 7 < 14; omega) S4x4096x512 u7 rfl rfl 3584 (by rfl) (ix3 b s l)
    (fun q hq => match q with
      | ⟨0, _⟩ => rfl
      | ⟨1, _⟩ => rfl
      | ⟨2, _⟩ => absurd rfl hq) (rfl)

/-- Section 8 of the packed columns. -/
theorem joined_8 (u0 u1 u2 u3 u4 u5 u6 u7 u8 u9 u11 u12 u13 : FVec Ideal S4x4096x512 .f32) (u10 : FVec Ideal S4x4096x3072 .f32) (b : Fin 4) (s : Fin 4096) (l : Fin 512) :
    joined u0 u1 u2 u3 u4 u5 u6 u7 u8 u9 u11 u12 u13 u10 (ix3 b s ⟨4096 + l.val, by omega⟩) = u8 (ix3 b s l) := by
  exact concatenate_apply_piece (t := S4x4096x9728) 2 _ _ _ 8 (by show 8 < 14; omega) S4x4096x512 u8 rfl rfl 4096 (by rfl) (ix3 b s l)
    (fun q hq => match q with
      | ⟨0, _⟩ => rfl
      | ⟨1, _⟩ => rfl
      | ⟨2, _⟩ => absurd rfl hq) (rfl)

/-- Section 9 of the packed columns. -/
theorem joined_9 (u0 u1 u2 u3 u4 u5 u6 u7 u8 u9 u11 u12 u13 : FVec Ideal S4x4096x512 .f32) (u10 : FVec Ideal S4x4096x3072 .f32) (b : Fin 4) (s : Fin 4096) (l : Fin 512) :
    joined u0 u1 u2 u3 u4 u5 u6 u7 u8 u9 u11 u12 u13 u10 (ix3 b s ⟨4608 + l.val, by omega⟩) = u9 (ix3 b s l) := by
  exact concatenate_apply_piece (t := S4x4096x9728) 2 _ _ _ 9 (by show 9 < 14; omega) S4x4096x512 u9 rfl rfl 4608 (by rfl) (ix3 b s l)
    (fun q hq => match q with
      | ⟨0, _⟩ => rfl
      | ⟨1, _⟩ => rfl
      | ⟨2, _⟩ => absurd rfl hq) (rfl)

/-- Section 10 of the packed columns. -/
theorem joined_10 (u0 u1 u2 u3 u4 u5 u6 u7 u8 u9 u11 u12 u13 : FVec Ideal S4x4096x512 .f32) (u10 : FVec Ideal S4x4096x3072 .f32) (b : Fin 4) (s : Fin 4096) (l : Fin 512) :
    joined u0 u1 u2 u3 u4 u5 u6 u7 u8 u9 u11 u12 u13 u10 (ix3 b s ⟨5120 + l.val, by omega⟩) = u10 (ix3 b s ⟨0 + l.val, by omega⟩) := by
  exact concatenate_apply_piece (t := S4x4096x9728) 2 _ _ _ 10 (by show 10 < 14; omega) S4x4096x3072 u10 rfl rfl 5120 (by rfl) (ix3 b s ⟨0 + l.val, by omega⟩)
    (fun q hq => match q with
      | ⟨0, _⟩ => rfl
      | ⟨1, _⟩ => rfl
      | ⟨2, _⟩ => absurd rfl hq) (show 5120 + (0 + l.val) = 5120 + l.val by omega)

/-- Section 11 of the packed columns. -/
theorem joined_11 (u0 u1 u2 u3 u4 u5 u6 u7 u8 u9 u11 u12 u13 : FVec Ideal S4x4096x512 .f32) (u10 : FVec Ideal S4x4096x3072 .f32) (b : Fin 4) (s : Fin 4096) (l : Fin 512) :
    joined u0 u1 u2 u3 u4 u5 u6 u7 u8 u9 u11 u12 u13 u10 (ix3 b s ⟨5632 + l.val, by omega⟩) = u10 (ix3 b s ⟨512 + l.val, by omega⟩) := by
  exact concatenate_apply_piece (t := S4x4096x9728) 2 _ _ _ 10 (by show 10 < 14; omega) S4x4096x3072 u10 rfl rfl 5120 (by rfl) (ix3 b s ⟨512 + l.val, by omega⟩)
    (fun q hq => match q with
      | ⟨0, _⟩ => rfl
      | ⟨1, _⟩ => rfl
      | ⟨2, _⟩ => absurd rfl hq) (show 5120 + (512 + l.val) = 5632 + l.val by omega)

/-- Section 12 of the packed columns. -/
theorem joined_12 (u0 u1 u2 u3 u4 u5 u6 u7 u8 u9 u11 u12 u13 : FVec Ideal S4x4096x512 .f32) (u10 : FVec Ideal S4x4096x3072 .f32) (b : Fin 4) (s : Fin 4096) (l : Fin 512) :
    joined u0 u1 u2 u3 u4 u5 u6 u7 u8 u9 u11 u12 u13 u10 (ix3 b s ⟨6144 + l.val, by omega⟩) = u10 (ix3 b s ⟨1024 + l.val, by omega⟩) := by
  exact concatenate_apply_piece (t := S4x4096x9728) 2 _ _ _ 10 (by show 10 < 14; omega) S4x4096x3072 u10 rfl rfl 5120 (by rfl) (ix3 b s ⟨1024 + l.val, by omega⟩)
    (fun q hq => match q with
      | ⟨0, _⟩ => rfl
      | ⟨1, _⟩ => rfl
      | ⟨2, _⟩ => absurd rfl hq) (show 5120 + (1024 + l.val) = 6144 + l.val by omega)

/-- Section 13 of the packed columns. -/
theorem joined_13 (u0 u1 u2 u3 u4 u5 u6 u7 u8 u9 u11 u12 u13 : FVec Ideal S4x4096x512 .f32) (u10 : FVec Ideal S4x4096x3072 .f32) (b : Fin 4) (s : Fin 4096) (l : Fin 512) :
    joined u0 u1 u2 u3 u4 u5 u6 u7 u8 u9 u11 u12 u13 u10 (ix3 b s ⟨6656 + l.val, by omega⟩) = u10 (ix3 b s ⟨1536 + l.val, by omega⟩) := by
  exact concatenate_apply_piece (t := S4x4096x9728) 2 _ _ _ 10 (by show 10 < 14; omega) S4x4096x3072 u10 rfl rfl 5120 (by rfl) (ix3 b s ⟨1536 + l.val, by omega⟩)
    (fun q hq => match q with
      | ⟨0, _⟩ => rfl
      | ⟨1, _⟩ => rfl
      | ⟨2, _⟩ => absurd rfl hq) (show 5120 + (1536 + l.val) = 6656 + l.val by omega)

/-- Section 14 of the packed columns. -/
theorem joined_14 (u0 u1 u2 u3 u4 u5 u6 u7 u8 u9 u11 u12 u13 : FVec Ideal S4x4096x512 .f32) (u10 : FVec Ideal S4x4096x3072 .f32) (b : Fin 4) (s : Fin 4096) (l : Fin 512) :
    joined u0 u1 u2 u3 u4 u5 u6 u7 u8 u9 u11 u12 u13 u10 (ix3 b s ⟨7168 + l.val, by omega⟩) = u10 (ix3 b s ⟨2048 + l.val, by omega⟩) := by
  exact concatenate_apply_piece (t := S4x4096x9728) 2 _ _ _ 10 (by show 10 < 14; omega) S4x4096x3072 u10 rfl rfl 5120 (by rfl) (ix3 b s ⟨2048 + l.val, by omega⟩)
    (fun q hq => match q with
      | ⟨0, _⟩ => rfl
      | ⟨1, _⟩ => rfl
      | ⟨2, _⟩ => absurd rfl hq) (show 5120 + (2048 + l.val) = 7168 + l.val by omega)

/-- Section 15 of the packed columns. -/
theorem joined_15 (u0 u1 u2 u3 u4 u5 u6 u7 u8 u9 u11 u12 u13 : FVec Ideal S4x4096x512 .f32) (u10 : FVec Ideal S4x4096x3072 .f32) (b : Fin 4) (s : Fin 4096) (l : Fin 512) :
    joined u0 u1 u2 u3 u4 u5 u6 u7 u8 u9 u11 u12 u13 u10 (ix3 b s ⟨7680 + l.val, by omega⟩) = u10 (ix3 b s ⟨2560 + l.val, by omega⟩) := by
  exact concatenate_apply_piece (t := S4x4096x9728) 2 _ _ _ 10 (by show 10 < 14; omega) S4x4096x3072 u10 rfl rfl 5120 (by rfl) (ix3 b s ⟨2560 + l.val, by omega⟩)
    (fun q hq => match q with
      | ⟨0, _⟩ => rfl
      | ⟨1, _⟩ => rfl
      | ⟨2, _⟩ => absurd rfl hq) (show 5120 + (2560 + l.val) = 7680 + l.val by omega)

/-- Section 16 of the packed columns. -/
theorem joined_16 (u0 u1 u2 u3 u4 u5 u6 u7 u8 u9 u11 u12 u13 : FVec Ideal S4x4096x512 .f32) (u10 : FVec Ideal S4x4096x3072 .f32) (b : Fin 4) (s : Fin 4096) (l : Fin 512) :
    joined u0 u1 u2 u3 u4 u5 u6 u7 u8 u9 u11 u12 u13 u10 (ix3 b s ⟨8192 + l.val, by omega⟩) = u11 (ix3 b s l) := by
  exact concatenate_apply_piece (t := S4x4096x9728) 2 _ _ _ 11 (by show 11 < 14; omega) S4x4096x512 u11 rfl rfl 8192 (by change (List.map _ [S4x4096x512, S4x4096x512, S4x4096x512, S4x4096x512, S4x4096x512, S4x4096x512, S4x4096x512, S4x4096x512, S4x4096x512, S4x4096x512, S4x4096x3072]).sum = 8192; decide +kernel) (ix3 b s l)
    (fun q hq => match q with
      | ⟨0, _⟩ => rfl
      | ⟨1, _⟩ => rfl
      | ⟨2, _⟩ => absurd rfl hq) (rfl)

/-- Section 17 of the packed columns. -/
theorem joined_17 (u0 u1 u2 u3 u4 u5 u6 u7 u8 u9 u11 u12 u13 : FVec Ideal S4x4096x512 .f32) (u10 : FVec Ideal S4x4096x3072 .f32) (b : Fin 4) (s : Fin 4096) (l : Fin 512) :
    joined u0 u1 u2 u3 u4 u5 u6 u7 u8 u9 u11 u12 u13 u10 (ix3 b s ⟨8704 + l.val, by omega⟩) = u12 (ix3 b s l) := by
  exact concatenate_apply_piece (t := S4x4096x9728) 2 _ _ _ 12 (by show 12 < 14; omega) S4x4096x512 u12 rfl rfl 8704 (by change (List.map _ [S4x4096x512, S4x4096x512, S4x4096x512, S4x4096x512, S4x4096x512, S4x4096x512, S4x4096x512, S4x4096x512, S4x4096x512, S4x4096x512, S4x4096x3072, S4x4096x512]).sum = 8704; decide +kernel) (ix3 b s l)
    (fun q hq => match q with
      | ⟨0, _⟩ => rfl
      | ⟨1, _⟩ => rfl
      | ⟨2, _⟩ => absurd rfl hq) (rfl)

/-- Section 18 of the packed columns. -/
theorem joined_18 (u0 u1 u2 u3 u4 u5 u6 u7 u8 u9 u11 u12 u13 : FVec Ideal S4x4096x512 .f32) (u10 : FVec Ideal S4x4096x3072 .f32) (b : Fin 4) (s : Fin 4096) (l : Fin 512) :
    joined u0 u1 u2 u3 u4 u5 u6 u7 u8 u9 u11 u12 u13 u10 (ix3 b s ⟨9216 + l.val, by omega⟩) = u13 (ix3 b s l) := by
  exact concatenate_apply_piece (t := S4x4096x9728) 2 _ _ _ 13 (by show 13 < 14; omega) S4x4096x512 u13 rfl rfl 9216 (by change (List.map _ [S4x4096x512, S4x4096x512, S4x4096x512, S4x4096x512, S4x4096x512, S4x4096x512, S4x4096x512, S4x4096x512, S4x4096x512, S4x4096x512, S4x4096x3072, S4x4096x512, S4x4096x512]).sum = 9216; decide +kernel) (ix3 b s l)
    (fun q hq => match q with
      | ⟨0, _⟩ => rfl
      | ⟨1, _⟩ => rfl
      | ⟨2, _⟩ => absurd rfl hq) (rfl)

/-- The packed result from the product. -/
def packed (p : FVec Ideal S4x4096x9808 .f32) : FVec Ideal S4x4096x9728 .f32 :=
  joined (eighth (turn8 (extractStridedSlice S4x4096x512 ![0, 0, 0] p slices_S4x4096x9808_S4x4096x512_0_0_0))) (turn8 (extractStridedSlice S4x4096x512 ![0, 0, 512] p slices_S4x4096x9808_S4x4096x512_0_0_512)) (eighth (turn8 (extractStridedSlice S4x4096x512 ![0, 0, 2048] p slices_S4x4096x9808_S4x4096x512_0_0_2048))) (turn8 (extractStridedSlice S4x4096x512 ![0, 0, 2560] p slices_S4x4096x9808_S4x4096x512_0_0_2560)) (turn8 (extractStridedSlice S4x4096x512 ![0, 0, 6144] p slices_S4x4096x9808_S4x4096x512_0_0_6144)) (extractStridedSlice S4x4096x512 ![0, 0, 1024] p slices_S4x4096x9808_S4x4096x512_0_0_1024) (extractStridedSlice S4x4096x512 ![0, 0, 3072] p slices_S4x4096x9808_S4x4096x512_0_0_3072) (eighth (extractStridedSlice S4x4096x512 ![0, 0, 4096] p slices_S4x4096x9808_S4x4096x512_0_0_4096)) (extractStridedSlice S4x4096x512 ![0, 0, 4608] p slices_S4x4096x9808_S4x4096x512_0_0_4608) (extractStridedSlice S4x4096x512 ![0, 0, 5120] p slices_S4x4096x9808_S4x4096x512_0_0_5120) (gate (extractStridedSlice S4x4096x512 ![0, 0, 1536] p slices_S4x4096x9808_S4x4096x512_0_0_1536)) (gate (extractStridedSlice S4x4096x512 ![0, 0, 3584] p slices_S4x4096x9808_S4x4096x512_0_0_3584)) (gate (extractStridedSlice S4x4096x512 ![0, 0, 5632] p slices_S4x4096x9808_S4x4096x512_0_0_5632)) (merge (extractStridedSlice S4x4096x3072 ![0, 0, 6736] p slices_S4x4096x9808_S4x4096x3072_0_0_6736))

/-- What the reference makes of section 0. -/
theorem packed_0 (p : FVec Ideal S4x4096x9808 .f32) (b : Fin 4) (s : Fin 4096) (l : Fin 512) :
    packed p (ix3 b s ⟨0 + l.val, by omega⟩) = sectionAt s 0 (fun l => p (ix3 b s ⟨0 + l.val, by omega⟩)) l := by
  unfold packed
  rw [joined_0]
  rw [eighth_apply, turn8_apply]
  unfold sectionAt
  simp only [show (((0 : Fin 19)).val) = 0 from rfl, Nat.reduceLT, Nat.reduceEqDiff, or_true, true_or, or_false, false_or, or_self, ↓reduceIte, mul_one]
  refine congrArg₂ (· * ·) (congrArg (fun z => turned s z _) (funext fun e => ?_)) rfl
  pointwise

/-- What the reference makes of section 1. -/
theorem packed_1 (p : FVec Ideal S4x4096x9808 .f32) (b : Fin 4) (s : Fin 4096) (l : Fin 512) :
    packed p (ix3 b s ⟨512 + l.val, by omega⟩) = sectionAt s 1 (fun l => p (ix3 b s ⟨512 + l.val, by omega⟩)) l := by
  unfold packed
  rw [joined_1]
  rw [turn8_apply]
  unfold sectionAt
  simp only [show (((1 : Fin 19)).val) = 1 from rfl, Nat.reduceLT, Nat.reduceEqDiff, or_true, true_or, or_false, false_or, or_self, ↓reduceIte, mul_one]
  refine congrArg (fun z => turned s z _) (funext fun e => ?_)
  pointwise

/-- What the reference makes of section 2. -/
theorem packed_2 (p : FVec Ideal S4x4096x9808 .f32) (b : Fin 4) (s : Fin 4096) (l : Fin 512) :
    packed p (ix3 b s ⟨1024 + l.val, by omega⟩) = sectionAt s 2 (fun l => p (ix3 b s ⟨2048 + l.val, by omega⟩)) l := by
  unfold packed
  rw [joined_2]
  rw [eighth_apply, turn8_apply]
  unfold sectionAt
  simp only [show (((2 : Fin 19)).val) = 2 from rfl, Nat.reduceLT, Nat.reduceEqDiff, or_true, true_or, or_false, false_or, or_self, ↓reduceIte, mul_one]
  refine congrArg₂ (· * ·) (congrArg (fun z => turned s z _) (funext fun e => ?_)) rfl
  pointwise

/-- What the reference makes of section 3. -/
theorem packed_3 (p : FVec Ideal S4x4096x9808 .f32) (b : Fin 4) (s : Fin 4096) (l : Fin 512) :
    packed p (ix3 b s ⟨1536 + l.val, by omega⟩) = sectionAt s 3 (fun l => p (ix3 b s ⟨2560 + l.val, by omega⟩)) l := by
  unfold packed
  rw [joined_3]
  rw [turn8_apply]
  unfold sectionAt
  simp only [show (((3 : Fin 19)).val) = 3 from rfl, Nat.reduceLT, Nat.reduceEqDiff, or_true, true_or, or_false, false_or, or_self, ↓reduceIte, mul_one]
  refine congrArg (fun z => turned s z _) (funext fun e => ?_)
  pointwise

/-- What the reference makes of section 4. -/
theorem packed_4 (p : FVec Ideal S4x4096x9808 .f32) (b : Fin 4) (s : Fin 4096) (l : Fin 512) :
    packed p (ix3 b s ⟨2048 + l.val, by omega⟩) = sectionAt s 4 (fun l => p (ix3 b s ⟨6144 + l.val, by omega⟩)) l := by
  unfold packed
  rw [joined_4]
  rw [turn8_apply]
  unfold sectionAt
  simp only [show (((4 : Fin 19)).val) = 4 from rfl, Nat.reduceLT, Nat.reduceEqDiff, or_true, true_or, or_false, false_or, or_self, ↓reduceIte, mul_one]
  refine congrArg (fun z => turned s z _) (funext fun e => ?_)
  pointwise

/-- What the reference makes of section 5. -/
theorem packed_5 (p : FVec Ideal S4x4096x9808 .f32) (b : Fin 4) (s : Fin 4096) (l : Fin 512) :
    packed p (ix3 b s ⟨2560 + l.val, by omega⟩) = sectionAt s 5 (fun l => p (ix3 b s ⟨1024 + l.val, by omega⟩)) l := by
  unfold packed
  rw [joined_5]
  unfold sectionAt
  simp only [show (((5 : Fin 19)).val) = 5 from rfl, Nat.reduceLT, Nat.reduceEqDiff, or_true, true_or, or_false, false_or, or_self, ↓reduceIte, mul_one]
  pointwise

/-- What the reference makes of section 6. -/
theorem packed_6 (p : FVec Ideal S4x4096x9808 .f32) (b : Fin 4) (s : Fin 4096) (l : Fin 512) :
    packed p (ix3 b s ⟨3072 + l.val, by omega⟩) = sectionAt s 6 (fun l => p (ix3 b s ⟨3072 + l.val, by omega⟩)) l := by
  unfold packed
  rw [joined_6]
  unfold sectionAt
  simp only [show (((6 : Fin 19)).val) = 6 from rfl, Nat.reduceLT, Nat.reduceEqDiff, or_true, true_or, or_false, false_or, or_self, ↓reduceIte, mul_one]
  pointwise

/-- What the reference makes of section 7. -/
theorem packed_7 (p : FVec Ideal S4x4096x9808 .f32) (b : Fin 4) (s : Fin 4096) (l : Fin 512) :
    packed p (ix3 b s ⟨3584 + l.val, by omega⟩) = sectionAt s 7 (fun l => p (ix3 b s ⟨4096 + l.val, by omega⟩)) l := by
  unfold packed
  rw [joined_7]
  rw [eighth_apply]
  unfold sectionAt
  simp only [show (((7 : Fin 19)).val) = 7 from rfl, Nat.reduceLT, Nat.reduceEqDiff, or_true, true_or, or_false, false_or, or_self, ↓reduceIte, mul_one]
  pointwise

/-- What the reference makes of section 8. -/
theorem packed_8 (p : FVec Ideal S4x4096x9808 .f32) (b : Fin 4) (s : Fin 4096) (l : Fin 512) :
    packed p (ix3 b s ⟨4096 + l.val, by omega⟩) = sectionAt s 8 (fun l => p (ix3 b s ⟨4608 + l.val, by omega⟩)) l := by
  unfold packed
  rw [joined_8]
  unfold sectionAt
  simp only [show (((8 : Fin 19)).val) = 8 from rfl, Nat.reduceLT, Nat.reduceEqDiff, or_true, true_or, or_false, false_or, or_self, ↓reduceIte, mul_one]
  pointwise

/-- What the reference makes of section 9. -/
theorem packed_9 (p : FVec Ideal S4x4096x9808 .f32) (b : Fin 4) (s : Fin 4096) (l : Fin 512) :
    packed p (ix3 b s ⟨4608 + l.val, by omega⟩) = sectionAt s 9 (fun l => p (ix3 b s ⟨5120 + l.val, by omega⟩)) l := by
  unfold packed
  rw [joined_9]
  unfold sectionAt
  simp only [show (((9 : Fin 19)).val) = 9 from rfl, Nat.reduceLT, Nat.reduceEqDiff, or_true, true_or, or_false, false_or, or_self, ↓reduceIte, mul_one]
  pointwise

/-- What the reference makes of section 10. -/
theorem packed_10 (p : FVec Ideal S4x4096x9808 .f32) (b : Fin 4) (s : Fin 4096) (l : Fin 512) :
    packed p (ix3 b s ⟨5120 + l.val, by omega⟩) = sectionAt s 10 (fun l => p (ix3 b s ⟨6736 + l.val, by omega⟩)) l := by
  unfold packed
  rw [joined_10]
  rw [merge_apply]
  unfold sectionAt
  simp only [show (((10 : Fin 19)).val) = 10 from rfl, Nat.reduceLT, Nat.reduceEqDiff, or_true, true_or, or_false, false_or, or_self, ↓reduceIte, mul_one]
  pointwise

/-- What the reference makes of section 11. -/
theorem packed_11 (p : FVec Ideal S4x4096x9808 .f32) (b : Fin 4) (s : Fin 4096) (l : Fin 512) :
    packed p (ix3 b s ⟨5632 + l.val, by omega⟩) = sectionAt s 11 (fun l => p (ix3 b s ⟨7248 + l.val, by omega⟩)) l := by
  unfold packed
  rw [joined_11]
  rw [merge_apply]
  unfold sectionAt
  simp only [show (((11 : Fin 19)).val) = 11 from rfl, Nat.reduceLT, Nat.reduceEqDiff, or_true, true_or, or_false, false_or, or_self, ↓reduceIte, mul_one]
  pointwise
  exact congrArg squash (congrArg p (congrArg (ix3 b s) (Fin.ext (by show 6736 + (512 + l.val) = 7248 + l.val; omega))))

/-- What the reference makes of section 12. -/
theorem packed_12 (p : FVec Ideal S4x4096x9808 .f32) (b : Fin 4) (s : Fin 4096) (l : Fin 512) :
    packed p (ix3 b s ⟨6144 + l.val, by omega⟩) = sectionAt s 12 (fun l => p (ix3 b s ⟨7760 + l.val, by omega⟩)) l := by
  unfold packed
  rw [joined_12]
  rw [merge_apply]
  unfold sectionAt
  simp only [show (((12 : Fin 19)).val) = 12 from rfl, Nat.reduceLT, Nat.reduceEqDiff, or_true, true_or, or_false, false_or, or_self, ↓reduceIte, mul_one]
  pointwise
  exact congrArg squash (congrArg p (congrArg (ix3 b s) (Fin.ext (by show 6736 + (1024 + l.val) = 7760 + l.val; omega))))

/-- What the reference makes of section 13. -/
theorem packed_13 (p : FVec Ideal S4x4096x9808 .f32) (b : Fin 4) (s : Fin 4096) (l : Fin 512) :
    packed p (ix3 b s ⟨6656 + l.val, by omega⟩) = sectionAt s 13 (fun l => p (ix3 b s ⟨8272 + l.val, by omega⟩)) l := by
  unfold packed
  rw [joined_13]
  rw [merge_apply]
  unfold sectionAt
  simp only [show (((13 : Fin 19)).val) = 13 from rfl, Nat.reduceLT, Nat.reduceEqDiff, or_true, true_or, or_false, false_or, or_self, ↓reduceIte, mul_one]
  pointwise
  exact congrArg squash (congrArg p (congrArg (ix3 b s) (Fin.ext (by show 6736 + (1536 + l.val) = 8272 + l.val; omega))))

/-- What the reference makes of section 14. -/
theorem packed_14 (p : FVec Ideal S4x4096x9808 .f32) (b : Fin 4) (s : Fin 4096) (l : Fin 512) :
    packed p (ix3 b s ⟨7168 + l.val, by omega⟩) = sectionAt s 14 (fun l => p (ix3 b s ⟨8784 + l.val, by omega⟩)) l := by
  unfold packed
  rw [joined_14]
  rw [merge_apply]
  unfold sectionAt
  simp only [show (((14 : Fin 19)).val) = 14 from rfl, Nat.reduceLT, Nat.reduceEqDiff, or_true, true_or, or_false, false_or, or_self, ↓reduceIte, mul_one]
  pointwise
  exact congrArg squash (congrArg p (congrArg (ix3 b s) (Fin.ext (by show 6736 + (2048 + l.val) = 8784 + l.val; omega))))

/-- What the reference makes of section 15. -/
theorem packed_15 (p : FVec Ideal S4x4096x9808 .f32) (b : Fin 4) (s : Fin 4096) (l : Fin 512) :
    packed p (ix3 b s ⟨7680 + l.val, by omega⟩) = sectionAt s 15 (fun l => p (ix3 b s ⟨9296 + l.val, by omega⟩)) l := by
  unfold packed
  rw [joined_15]
  rw [merge_apply]
  unfold sectionAt
  simp only [show (((15 : Fin 19)).val) = 15 from rfl, Nat.reduceLT, Nat.reduceEqDiff, or_true, true_or, or_false, false_or, or_self, ↓reduceIte, mul_one]
  pointwise
  exact congrArg squash (congrArg p (congrArg (ix3 b s) (Fin.ext (by show 6736 + (2560 + l.val) = 9296 + l.val; omega))))

/-- What the reference makes of section 16. -/
theorem packed_16 (p : FVec Ideal S4x4096x9808 .f32) (b : Fin 4) (s : Fin 4096) (l : Fin 512) :
    packed p (ix3 b s ⟨8192 + l.val, by omega⟩) = sectionAt s 16 (fun l => p (ix3 b s ⟨1536 + l.val, by omega⟩)) l := by
  unfold packed
  rw [joined_16]
  rw [gate_apply]
  unfold sectionAt
  simp only [show (((16 : Fin 19)).val) = 16 from rfl, Nat.reduceLT, Nat.reduceEqDiff, or_true, true_or, or_false, false_or, or_self, ↓reduceIte, mul_one]
  pointwise

/-- What the reference makes of section 17. -/
theorem packed_17 (p : FVec Ideal S4x4096x9808 .f32) (b : Fin 4) (s : Fin 4096) (l : Fin 512) :
    packed p (ix3 b s ⟨8704 + l.val, by omega⟩) = sectionAt s 17 (fun l => p (ix3 b s ⟨3584 + l.val, by omega⟩)) l := by
  unfold packed
  rw [joined_17]
  rw [gate_apply]
  unfold sectionAt
  simp only [show (((17 : Fin 19)).val) = 17 from rfl, Nat.reduceLT, Nat.reduceEqDiff, or_true, true_or, or_false, false_or, or_self, ↓reduceIte, mul_one]
  pointwise

/-- What the reference makes of section 18. -/
theorem packed_18 (p : FVec Ideal S4x4096x9808 .f32) (b : Fin 4) (s : Fin 4096) (l : Fin 512) :
    packed p (ix3 b s ⟨9216 + l.val, by omega⟩) = sectionAt s 18 (fun l => p (ix3 b s ⟨5632 + l.val, by omega⟩)) l := by
  unfold packed
  rw [joined_18]
  rw [gate_apply]
  unfold sectionAt
  simp only [show (((18 : Fin 19)).val) = 18 from rfl, Nat.reduceLT, Nat.reduceEqDiff, or_true, true_or, or_false, false_or, or_self, ↓reduceIte, mul_one]
  pointwise

/-- Every column of the packed result. -/
theorem packed_apply (p : FVec Ideal S4x4096x9808 .f32) (b : Fin 4) (s : Fin 4096) (j : Fin 19) (l : Fin 512) :
    packed p (ix3 b s ⟨512 * j.val + l.val, by omega⟩)
      = sectionAt s j (fun l => p (ix3 b s ⟨start j + l.val, by have := start_le j; omega⟩)) l := by
  obtain ⟨j, hj⟩ := j
  interval_cases j
  · exact packed_0 p b s l
  · exact packed_1 p b s l
  · exact packed_2 p b s l
  · exact packed_3 p b s l
  · exact packed_4 p b s l
  · exact packed_5 p b s l
  · exact packed_6 p b s l
  · exact packed_7 p b s l
  · exact packed_8 p b s l
  · exact packed_9 p b s l
  · exact packed_10 p b s l
  · exact packed_11 p b s l
  · exact packed_12 p b s l
  · exact packed_13 p b s l
  · exact packed_14 p b s l
  · exact packed_15 p b s l
  · exact packed_16 p b s l
  · exact packed_17 p b s l
  · exact packed_18 p b s l

/-- The logarithm of the logistic function, as the reference spells it. -/
def logs {t : Shape} (z : FVec Ideal t .f32) (o : FVec Ideal t .f32) : FVec Ideal t .f32 :=
  Host.negf (select (cmpf .une (subf (Host.negf z) o) (subf (Host.negf z) o)) (addf (Host.negf z) o)
    (addf (maximumf (Host.negf z) o) (Host.log1p (Host.exp (Host.negf (Host.absf (subf (Host.negf z) o)))))))

/-- The 128 spare columns, from the product. -/
def spares (p : FVec Ideal S4x4096x9808 .f32) (b : FVec Ideal S8 .f32) : FVec Ideal S4x4096x128 .f32 :=
  concatenate S4x4096x128 2 [⟨S4x4096x64, turn1 (extractStridedSlice S4x4096x64 ![0, 0, 6656] p slices_S4x4096x9808_S4x4096x64_0_0_6656)⟩,
    ⟨S4x4096x8, mulf (extractStridedSlice S4x4096x8 ![0, 0, 6720] p slices_S4x4096x9808_S4x4096x8_0_0_6720) (broadcastInDim S4x4096x8 ![] bcast_S_S4x4096x8 (constant S_ .f32 0x3D3504F3#32))⟩,
    ⟨S4x4096x8, logs (addf (extractStridedSlice S4x4096x8 ![0, 0, 6728] p slices_S4x4096x9808_S4x4096x8_0_0_6728) (broadcastInDim S4x4096x8 ![0, 1, 2] bcast_S1x1x8_S4x4096x8_0_1_2 (broadcastInDim S1x1x8 ![2] bcast_S8_S1x1x8_2 b))) (broadcastInDim S4x4096x8 ![] bcast_S_S4x4096x8 (constant S_ .f32 0x00000000#32))⟩,
    ⟨S4x4096x48, logs (broadcastInDim S4x4096x48 ![] bcast_S_S4x4096x48 (constant S_ .f32 0x00000000#32)) (broadcastInDim S4x4096x48 ![] bcast_S_S4x4096x48 (constant S_ .f32 0x00000000#32))⟩] concatenates_S4x4096x64_S4x4096x8_S4x4096x8_S4x4096x48_S4x4096x128_d2

/-- The absolute value is the larger of a number and its negative. -/
theorem absf_eq (z : EReal) : FloatOps.absf (F := Ideal) (φ := .f32) z = max z (-z) := rfl

/-- Every spare column. -/
theorem spares_apply (p : FVec Ideal S4x4096x9808 .f32) (g : FVec Ideal S8 .f32) (b : Fin 4) (s : Fin 4096) (l : Fin 128) :
    spares p g (ix3 b s l) = spareAt s (fun k => p (ix3 b s ⟨6656 + k.val, by omega⟩)) (fun k => g (ix1 k)) l := by
  unfold spareAt
  pointwise [spares, logs, turn1_apply, zero_bits]
  by_cases h1 : l.val < 64
  · simp only [h1, ↓reduceDIte]
  by_cases h2 : l.val < 72
  · have h2' : l.val - 64 < 8 := by omega
    simp only [h1, h2, h2', ↓reduceDIte]
    exact congrArg (fun k => p (ix3 b s k) * _) (Fin.ext (by show 6720 + (_ - 64) = 6656 + _; omega))
  have h2' : ¬ l.val - 64 < 8 := by omega
  by_cases h3 : l.val < 80
  · have h3' : l.val - 64 - 8 < 8 := by omega
    simp only [h1, h2, h2', h3, h3', ↓reduceDIte, ne_eq, not_true_eq_false, ↓reduceIte]
    rw [← logSquash_of]
    have e1 : (⟨6728 + (l.val - 64 - 8), by omega⟩ : Fin 9808) = ⟨6656 + l.val, by omega⟩ := Fin.ext (by show 6728 + (_ - 64 - 8) = 6656 + _; omega)
    have e2 : (⟨l.val - 64 - 8, by omega⟩ : Fin 8) = ⟨l.val - 72, by omega⟩ := Fin.ext (by show _ - 64 - 8 = _ - 72; omega)
    rw [e1, e2]
    rw [absf_eq, neg_neg]
  · have h3' : ¬ l.val - 64 - 8 < 8 := by omega
    simp only [h1, h2, h2', h3, h3', ↓reduceDIte, ne_eq, not_true_eq_false, ↓reduceIte]
    rw [← logSquash_of]
    rw [absf_eq, neg_neg]

variable (m : (ℓ : Loc nD τ sig) → Buf (Elt Ideal) ℓ)

open Idealize.ShloMosaic.StableHlo in
theorem split_product (c : Dev nD) : Value.res_main_v13 (launchContents m c) = product (m ((c : Thread nD τ).loc main_arg0)) (m ((c : Thread nD τ).loc main_arg1)) (m ((c : Thread nD τ).loc main_arg2)) := rfl

open Idealize.ShloMosaic.StableHlo in
theorem split_packed (c : Dev nD) : Value.res_main_v231 (launchContents m c) = packed (Value.res_main_v13 (launchContents m c)) := rfl

/-- The first result, entry by entry. -/
theorem packed_result (p : FVec Ideal S4x4096x9808 .f32) (x : FVec Ideal S4x4096x1024 .f32) (g : FVec Ideal S1024 .f32) (w : FVec Ideal S1024x9808 .f32)
    (hp : p = product x g w) (n : Fin 16384) (f : Fin 9728) :
    shapeCast S16384x9728 (truncf .bf16 (packed p) bitsLt_bf16_f32 : FVec Ideal S4x4096x9728 .bf16) shapeCasts_S4x4096x9728_S16384x9728 (ix2 n f)
      = packedTable (fun n d => x (ix3 ⟨n.val / 4096, by omega⟩ ⟨n.val % 4096, by omega⟩ d)) (fun d => g (ix1 d)) (fun d k => w (ix2 d k)) n f := by
  subst hp
  unfold packedTable
  pointwise
  have hf : f = (⟨512 * (⟨f.val / 512, by omega⟩ : Fin 19).val + (⟨f.val % 512, by omega⟩ : Fin 512).val, by
      show 512 * (f.val / 512) + f.val % 512 < 9728; omega⟩ : Fin 9728) :=
    Fin.ext (by show _ = 512 * (f.val / 512) + f.val % 512; omega)
  refine (congrArg (fun k => packed (product x g w) (ix3 _ _ k)) hf).trans ((packed_apply _ _ _ _ _).trans ?_)
  exact congrArg (fun z => sectionAt _ _ z _) (funext fun l => product_apply x g w _ _ _)

/-- The second result, entry by entry. -/
theorem spares_result (p : FVec Ideal S4x4096x9808 .f32) (x : FVec Ideal S4x4096x1024 .f32) (g : FVec Ideal S1024 .f32) (w : FVec Ideal S1024x9808 .f32)
    (b : FVec Ideal S8 .f32) (hp : p = product x g w) (n : Fin 16384) (l : Fin 128) :
    shapeCast S16384x128 (spares p b) shapeCasts_S4x4096x128_S16384x128 (ix2 n l)
      = spareTable (fun n d => x (ix3 ⟨n.val / 4096, by omega⟩ ⟨n.val % 4096, by omega⟩ d)) (fun d => g (ix1 d)) (fun d k => w (ix2 d k)) (fun k => b (ix1 k)) n l := by
  subst hp
  unfold spareTable
  pointwise [spares_apply, product_apply]

open Idealize.ShloMosaic.StableHlo in
/-- What the program leaves in its first result. -/
theorem first (c : Dev nD) : (shapeCast S16384x9728 (truncf .bf16 (Value.res_main_v231 (launchContents m c)) bitsLt_bf16_f32) shapeCasts_S4x4096x9728_S16384x9728 : FVec Ideal S16384x9728 .bf16) = fun y =>
    packedTable (fun n d => (m ((c.tc : Thread nD τ).loc main_arg0)) (ix3 ⟨n.val / 4096, by omega⟩ ⟨n.val % 4096, by omega⟩ d)) (fun d => (m ((c.tc : Thread nD τ).loc main_arg1)) (ix1 d)) (fun d k => (m ((c.tc : Thread nD τ).loc main_arg2)) (ix2 d k)) (y 0) (y 1) := by
  funext y
  idx_vars y
  exact packed_result _ _ _ _ (split_product m c) y0 y1

open Idealize.ShloMosaic.StableHlo in
/-- What the program leaves in its second result. -/
theorem second (c : Dev nD) : (shapeCast S16384x128 ((concatenate S4x4096x128 2 [⟨S4x4096x64, ((shapeCast _ ((concatenate S4x4096x1x64 3 [⟨S4x4096x1x8, ((subf (mulf (Value.res_main_v256 (launchContents m c)) (broadcastInDim S4x4096x1x8 ![0, 1, 2, 3] bcast_S1x4096x1x8_S4x4096x1x8_0_1_2_3 (Value.res_main_v253 (launchContents m c)))) (mulf (Value.res_main_v257 (launchContents m c)) (broadcastInDim S4x4096x1x8 ![0, 1, 2, 3] bcast_S1x4096x1x8_S4x4096x1x8_0_1_2_3 (Value.res_main_v255 (launchContents m c))))) : (⟨S4x4096x1x8, .f32⟩ : BufTy).Contents (Elt Ideal))⟩, ⟨S4x4096x1x8, ((addf (mulf (Value.res_main_v257 (launchContents m c)) (broadcastInDim S4x4096x1x8 ![0, 1, 2, 3] bcast_S1x4096x1x8_S4x4096x1x8_0_1_2_3 (Value.res_main_v253 (launchContents m c)))) (mulf (Value.res_main_v256 (launchContents m c)) (broadcastInDim S4x4096x1x8 ![0, 1, 2, 3] bcast_S1x4096x1x8_S4x4096x1x8_0_1_2_3 (Value.res_main_v255 (launchContents m c))))) : (⟨S4x4096x1x8, .f32⟩ : BufTy).Contents (Elt Ideal))⟩, ⟨S4x4096x1x48, ((extractStridedSlice S4x4096x1x48 ![0, 0, 0, 16] (Value.res_main_v234 (launchContents m c)) slices_S4x4096x1x64_S4x4096x1x48_0_0_0_16) : (⟨S4x4096x1x48, .f32⟩ : BufTy).Contents (Elt Ideal))⟩] concatenates_S4x4096x1x8_S4x4096x1x8_S4x4096x1x48_S4x4096x1x64_d3 : (⟨S4x4096x1x64, .f32⟩ : BufTy).Contents (Elt Ideal))) shapeCasts_S4x4096x1x64_S4x4096x64) : (⟨S4x4096x64, .f32⟩ : BufTy).Contents (Elt Ideal))⟩, ⟨S4x4096x8, ((mulf (extractStridedSlice S4x4096x8 ![0, 0, 6720] (Value.res_main_v13 (launchContents m c)) slices_S4x4096x9808_S4x4096x8_0_0_6720) (broadcastInDim S4x4096x8 ![] bcast_S_S4x4096x8 (constant S_ .f32 0x3D3504F3#32))) : (⟨S4x4096x8, .f32⟩ : BufTy).Contents (Elt Ideal))⟩, ⟨S4x4096x8, ((Host.negf (select (cmpf .une (Value.res_main_call4_call0_v3 (launchContents m c)) (Value.res_main_call4_call0_v3 (launchContents m c))) (addf (Value.res_main_call4_v0 (launchContents m c)) (broadcastInDim S4x4096x8 ![] bcast_S_S4x4096x8 (Value.res_main_call4_call0_cst (launchContents m c)))) (addf (maximumf (Value.res_main_call4_v0 (launchContents m c)) (broadcastInDim S4x4096x8 ![] bcast_S_S4x4096x8 (Value.res_main_call4_call0_cst (launchContents m c)))) (Host.log1p (Host.exp (Host.negf (Host.absf (Value.res_main_call4_call0_v3 (launchContents m c))))))))) : (⟨S4x4096x8, .f32⟩ : BufTy).Contents (Elt Ideal))⟩, ⟨S4x4096x48, ((Host.negf (select (cmpf .une (Value.res_main_call3_call0_v3 (launchContents m c)) (Value.res_main_call3_call0_v3 (launchContents m c))) (addf (Value.res_main_call3_v0 (launchContents m c)) (broadcastInDim S4x4096x48 ![] bcast_S_S4x4096x48 (Value.res_main_call3_call0_cst (launchContents m c)))) (addf (maximumf (Value.res_main_call3_v0 (launchContents m c)) (broadcastInDim S4x4096x48 ![] bcast_S_S4x4096x48 (Value.res_main_call3_call0_cst (launchContents m c)))) (Host.log1p (Host.exp (Host.negf (Host.absf (Value.res_main_call3_call0_v3 (launchContents m c))))))))) : (⟨S4x4096x48, .f32⟩ : BufTy).Contents (Elt Ideal))⟩] concatenates_S4x4096x64_S4x4096x8_S4x4096x8_S4x4096x48_S4x4096x128_d2 : (⟨S4x4096x128, .f32⟩ : BufTy).Contents (Elt Ideal))) shapeCasts_S4x4096x128_S16384x128 : FVec Ideal S16384x128 .f32) = fun y =>
    spareTable (fun n d => (m ((c.tc : Thread nD τ).loc main_arg0)) (ix3 ⟨n.val / 4096, by omega⟩ ⟨n.val % 4096, by omega⟩ d)) (fun d => (m ((c.tc : Thread nD τ).loc main_arg1)) (ix1 d)) (fun d k => (m ((c.tc : Thread nD τ).loc main_arg2)) (ix2 d k)) (fun k => (m ((c.tc : Thread nD τ).loc main_arg3)) (ix1 k)) (y 0) (y 1) := by
  funext y
  idx_vars y
  exact spares_result _ _ _ _ _ (split_product m c) y0 y1

end Cert.ProjRefIdeal.Val

end
-- ==== Proof.ProjIdealBody.lean ====
/-
  The input projection's body, case by case: what one grid point leaves in its buffers.
-/
module

public import proofs.«01_k».proof.Proof.Gen.ProjIdeal.Skeleton
public import proofs.«01_k».proof.Proof.Gen.ProjIdeal.Frame
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.ProjIdeal.Body

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole of a buffer, as one rectangle. -/
abbrev rX : Rect S1024x1024 := Rect.unit (s := S1024x1024) ![0, 0] S1024x1024.size inb_S1024x1024_S1024x1024_0_0
/-- The gain row. -/
abbrev rG : Rect S1x1024 := Rect.unit (s := S1x1024) ![0, 0] S1x1024.size inb_S1x1024_S1x1024_0_0
/-- A block of the packed weights, and of the packed result. -/
abbrev rP : Rect S1024x512 := Rect.unit (s := S1024x512) ![0, 0] S1024x512.size inb_S1024x512_S1024x512_0_0
/-- A block 128 lanes wide. -/
abbrev rL : Rect S1024x128 := Rect.unit (s := S1024x128) ![0, 0] S1024x128.size inb_S1024x128_S1024x128_0_0
/-- The bias row. -/
abbrev rB : Rect S1x128 := Rect.unit (s := S1x128) ![0, 0] S1x128.size inb_S1x128_S1x128_0_0

/-- The normalised rows of a tile, as the scratch holds them. -/
def hidden (x0 : Vec F S1024x1024 .f32) (x1 : Vec F S1x1024 .f32) : Vec F S1024x1024 .bf16 :=
  View.canon [⟨rX, k0_pay10 (View.ld x0 rX) (View.ld x1 rG)⟩]

/-- The 128 spare columns of a tile: the rotated index key, the index weights and the forget gate's logarithm. -/
def spare (g : Vec F S1024x1024 .bf16) (x3 : Vec F S1024x128 .bf16) (x4 x5 x6 : Vec F S1024x128 .f32) (x7 : Vec F S1x128 .f32) :
    Vec F S1024x128 .f32 :=
  View.canon [⟨rL, k0_pay4 (View.ld x5 rL) (View.ld x6 rL) (k0_pay11 (View.ld g rX) (View.ld x3 rL))
    (iota .tc S1024x128 32 [1] iota_S1024x128_d1_w32) (k0_pay12 (View.ld g rX) (View.ld x3 rL) (View.ld x7 rB)) k0_pay13
    (k0_pay14 (k0_pay1 (View.ld x4 rL)) (View.ld g rX) (View.ld x3 rL))⟩]

/-- A rotated block of the packed result, stored as four slabs of 128 lanes. -/
def rotated (i : grid0.Coords) (g : Vec F S1024x1024 .bf16) (x2 : Vec F S1024x512 .bf16) (x4 x5 x6 : Vec F S1024x128 .f32) :
    Vec F S1024x512 .bf16 :=
  View.canon [
    ⟨Rect.unit (s := S1024x512) ![0, 384] S1024x128.size inb_S1024x512_S1024x128_0_384,
      k0_pay6 (View.ld x4 rL) (View.ld x5 rL) (View.ld x6 rL) (k0_pay15 (BitVec.ofNat 32 (i 1).val)) (k0_pay19 (k0_pay5 (View.ld g rX) (View.ld x2 rP)))⟩,
    ⟨Rect.unit (s := S1024x512) ![0, 256] S1024x128.size inb_S1024x512_S1024x128_0_256,
      k0_pay18 (BitVec.ofNat 32 (i 1).val) (k0_pay1 (View.ld x4 rL)) (k0_pay2 (View.ld x5 rL)) (k0_pay3 (View.ld x6 rL)) (k0_pay5 (View.ld g rX) (View.ld x2 rP))⟩,
    ⟨Rect.unit (s := S1024x512) ![0, 128] S1024x128.size inb_S1024x512_S1024x128_0_128,
      k0_pay17 (BitVec.ofNat 32 (i 1).val) (k0_pay1 (View.ld x4 rL)) (k0_pay2 (View.ld x5 rL)) (k0_pay3 (View.ld x6 rL)) (k0_pay5 (View.ld g rX) (View.ld x2 rP))⟩,
    ⟨Rect.unit (s := S1024x512) ![0, 0] S1024x128.size inb_S1024x512_S1024x128_0_0,
      k0_pay16 (BitVec.ofNat 32 (i 1).val) (k0_pay1 (View.ld x4 rL)) (k0_pay2 (View.ld x5 rL)) (k0_pay3 (View.ld x6 rL)) (k0_pay5 (View.ld g rX) (View.ld x2 rP))⟩]

/-- A block of the packed result that is only scaled. -/
def scaled (i : grid0.Coords) (g : Vec F S1024x1024 .bf16) (x2 : Vec F S1024x512 .bf16) : Vec F S1024x512 .bf16 :=
  View.canon [⟨rP, k0_pay7 i (View.ld g rX) (View.ld x2 rP)⟩]

/-- A block of the packed result that is a sigmoid. -/
def squashed (g : Vec F S1024x1024 .bf16) (x2 : Vec F S1024x512 .bf16) : Vec F S1024x512 .bf16 :=
  View.canon [⟨rP, k0_pay8 (View.ld g rX) (View.ld x2 rP)⟩]

/-- A block of the packed result that gates itself. -/
def gated (g : Vec F S1024x1024 .bf16) (x2 : Vec F S1024x512 .bf16) : Vec F S1024x512 .bf16 :=
  View.canon [⟨rP, k0_pay9 (View.ld g rX) (View.ld x2 rP)⟩]

set_option maxHeartbeats 4000000 in
/-- The first point of a row tile: it normalises the rows, writes the spare columns, and rotates its block. -/
theorem runA (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x512 .bf16) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1x128 .f32) (harg9 : arg9.IsWhole) (arg10 : Memref sig .tc .vmem S1024x512 .bf16) (harg10 : arg10.IsWhole) (arg11 : Memref sig .tc .vmem S1024x128 .f32) (harg11 : arg11.IsWhole) (arg12 : Memref sig .tc .vmem S1024x1024 .bf16) (harg12 : arg12.IsWhole)
    (hc1 : k0_cond1 i = 1#1) (hc2 : k0_cond2 i = 1#1) (hc3 : ¬k0_cond3 i = 1#1) (hc4 : ¬k0_cond4 i = 1#1) (hc5 : ¬k0_cond5 i = 1#1)
    (x0 : Vec F S1024x1024 .f32) (x1 : Vec F S1x1024 .f32) (x2 : Vec F S1024x512 .bf16) (x3 : Vec F S1024x128 .bf16)
    (x4 x5 x6 : Vec F S1024x128 .f32) (x7 : Vec F S1x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
        ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
            ∗ owns (c : Thread nD τ) arg10 fullShare (rotated i (hidden x0 x1) x2 x4 x5 x6) ∗ owns (c : Thread nD τ) arg11 fullShare (spare (hidden x0 x1) x3 x4 x5 x6 x7) ∗ owns (c : Thread nD τ) arg12 fullShare (hidden x0 x1)) -∗ K ⟨⟩))
      ⊢ wp frame (wpE (defs₀ (F := F)) Variants.none c none) E (cc0_proj i arg2 harg2 arg3 harg3 arg4 harg4 arg5 harg5 arg6 harg6 arg7 harg7 arg8 harg8 arg9 harg9 arg10 harg10 arg11 harg11 arg12 harg12) K := by
  simp only [cc0_proj_eq_skeleton]; unfold cc0_proj_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%ds, %fs, -, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  sl_exec (disch := first | sl_exact hc1 | sl_exact hc2 | sl_exact hc3 | sl_exact hc4 | sl_exact hc5)
  sl_step
  iapply Hk
  isplitl [H0]; · iexists _; isplitr; · ipureintro; exact harg2.read_unread _
                  iexact H0
  isplitl [H1]; · iexists _; isplitr; · ipureintro; exact harg3.read_unread _
                  iexact H1
  isplitl [H2]; · iexists _; isplitr; · ipureintro; exact harg4.read_unread _
                  iexact H2
  isplitl [H3]; · iexists _; isplitr; · ipureintro; exact harg5.read_unread _
                  iexact H3
  isplitl [H4]; · iexists _; isplitr; · ipureintro; exact harg6.read_unread _
                  iexact H4
  isplitl [H5]; · iexists _; isplitr; · ipureintro; exact harg7.read_unread _
                  iexact H5
  isplitl [H6]; · iexists _; isplitr; · ipureintro; exact harg8.read_unread _
                  iexact H6
  isplitl [H7]; · iexists _; isplitr; · ipureintro; exact harg9.read_unread _
                  iexact H7
  isplitl [H8]
  · iexists _; isplitr
    swap; · iexact H8
    ipureintro
    refine (View.read_writes_eq_canon (Val := Elt F) _ _ _ ?_).trans ?_
    · exact View.cover_of_tiledL _ S1024x128.size (by sl_kernel_rfl)
    (try delta runA.sl.r); (try delta runA.sl.v53); (try delta runA.sl.r_1); (try delta runA.sl.r_2); (try delta runA.sl.r_3); (try delta runA.sl.r_4); (try delta runA.sl.v9); (try delta runA.sl.v49); (try delta runA.sl.HS_1); simp only [View.readCov_eq_canon', View.readAt_eq_ld, hf0, hf1, hf2, hf3, hf4, hf5, hf6, hf7]; rfl
  isplitl [H9]
  · iexists _; isplitr
    swap; · iexact H9
    ipureintro
    refine (View.read_writes_eq_canon (Val := Elt F) _ _ _ ?_).trans ?_
    · exact View.cover_of_tiledL _ S1024x128.size (by sl_kernel_rfl)
    (try delta runA.sl.r); (try delta runA.sl.v53); (try delta runA.sl.r_1); (try delta runA.sl.r_2); (try delta runA.sl.r_3); (try delta runA.sl.r_4); (try delta runA.sl.v9); (try delta runA.sl.v49); (try delta runA.sl.HS_1); simp only [View.readCov_eq_canon', View.readAt_eq_ld, hf0, hf1, hf2, hf3, hf4, hf5, hf6, hf7]; rfl
  iexists _; isplitr
  swap; · iexact HS
  ipureintro
  refine (View.read_writes_eq_canon (Val := Elt F) _ _ _ ?_).trans ?_
  · exact View.cover_of_tiledL _ S1024x1024.size (by sl_kernel_rfl)
  (try delta runA.sl.r); (try delta runA.sl.v53); (try delta runA.sl.r_1); (try delta runA.sl.r_2); (try delta runA.sl.r_3); (try delta runA.sl.r_4); (try delta runA.sl.v9); (try delta runA.sl.v49); (try delta runA.sl.HS_1); simp only [View.readCov_eq_canon', View.readAt_eq_ld, hf0, hf1, hf2, hf3, hf4, hf5, hf6, hf7]; rfl

set_option maxHeartbeats 4000000 in
/-- A later point whose block is rotated. -/
theorem runB (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x512 .bf16) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1x128 .f32) (harg9 : arg9.IsWhole) (arg10 : Memref sig .tc .vmem S1024x512 .bf16) (harg10 : arg10.IsWhole) (arg11 : Memref sig .tc .vmem S1024x128 .f32) (harg11 : arg11.IsWhole) (arg12 : Memref sig .tc .vmem S1024x1024 .bf16) (harg12 : arg12.IsWhole)
    (hc1 : ¬k0_cond1 i = 1#1) (hc2 : k0_cond2 i = 1#1) (hc3 : ¬k0_cond3 i = 1#1) (hc4 : ¬k0_cond4 i = 1#1) (hc5 : ¬k0_cond5 i = 1#1)
    (x0 : Vec F S1024x1024 .f32) (x1 : Vec F S1x1024 .f32) (x2 : Vec F S1024x512 .bf16) (x3 : Vec F S1024x128 .bf16)
    (x4 x5 x6 : Vec F S1024x128 .f32) (x7 : Vec F S1x128 .f32) (x9 : Vec F S1024x128 .f32) (g : Vec F S1024x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
        ∗ (∃ d, owns (c : Thread nD τ) arg10 fullShare d) ∗ owns (c : Thread nD τ) arg11 fullShare x9 ∗ owns (c : Thread nD τ) arg12 fullShare g
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
            ∗ owns (c : Thread nD τ) arg10 fullShare (rotated i g x2 x4 x5 x6) ∗ owns (c : Thread nD τ) arg11 fullShare x9 ∗ owns (c : Thread nD τ) arg12 fullShare g) -∗ K ⟨⟩))
      ⊢ wp frame (wpE (defs₀ (F := F)) Variants.none c none) E (cc0_proj i arg2 harg2 arg3 harg3 arg4 harg4 arg5 harg5 arg6 harg6 arg7 harg7 arg8 harg8 arg9 harg9 arg10 harg10 arg11 harg11 arg12 harg12) K := by
  simp only [cc0_proj_eq_skeleton]; unfold cc0_proj_skel
  simp only [k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hf9; obtain rfl := harg12.eq_unread hfs
  sl_exec (disch := first | sl_exact hc1 | sl_exact hc2 | sl_exact hc3 | sl_exact hc4 | sl_exact hc5)
  sl_step
  iapply Hk
  isplitl [H0]; · iexists _; isplitr; · ipureintro; exact harg2.read_unread _
                  iexact H0
  isplitl [H1]; · iexists _; isplitr; · ipureintro; exact harg3.read_unread _
                  iexact H1
  isplitl [H2]; · iexists _; isplitr; · ipureintro; exact harg4.read_unread _
                  iexact H2
  isplitl [H3]; · iexists _; isplitr; · ipureintro; exact harg5.read_unread _
                  iexact H3
  isplitl [H4]; · iexists _; isplitr; · ipureintro; exact harg6.read_unread _
                  iexact H4
  isplitl [H5]; · iexists _; isplitr; · ipureintro; exact harg7.read_unread _
                  iexact H5
  isplitl [H6]; · iexists _; isplitr; · ipureintro; exact harg8.read_unread _
                  iexact H6
  isplitl [H7]; · iexists _; isplitr; · ipureintro; exact harg9.read_unread _
                  iexact H7
  isplitl [H8]
  · iexists _; isplitr
    swap; · iexact H8
    ipureintro
    refine (View.read_writes_eq_canon (Val := Elt F) _ _ _ ?_).trans ?_
    · exact View.cover_of_tiledL _ S1024x128.size (by sl_kernel_rfl)
    delta runB.sl.r runB.sl.r_1; simp only [View.readAt_eq_ld, hf2, hf4, hf5, hf6, hfs]; rfl
  isplitl [H9]; · iexists _; isplitr; · ipureintro; exact harg11.read_unread _
                  iexact H9
  iexists _; isplitr; · ipureintro; exact harg12.read_unread _
  iexact HS

set_option maxHeartbeats 4000000 in
/-- A point whose block is only scaled. -/
theorem runC (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x512 .bf16) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1x128 .f32) (harg9 : arg9.IsWhole) (arg10 : Memref sig .tc .vmem S1024x512 .bf16) (harg10 : arg10.IsWhole) (arg11 : Memref sig .tc .vmem S1024x128 .f32) (harg11 : arg11.IsWhole) (arg12 : Memref sig .tc .vmem S1024x1024 .bf16) (harg12 : arg12.IsWhole)
    (hc1 : ¬k0_cond1 i = 1#1) (hc2 : ¬k0_cond2 i = 1#1) (hc3 : k0_cond3 i = 1#1) (hc4 : ¬k0_cond4 i = 1#1) (hc5 : ¬k0_cond5 i = 1#1)
    (x0 : Vec F S1024x1024 .f32) (x1 : Vec F S1x1024 .f32) (x2 : Vec F S1024x512 .bf16) (x3 : Vec F S1024x128 .bf16)
    (x4 x5 x6 : Vec F S1024x128 .f32) (x7 : Vec F S1x128 .f32) (x9 : Vec F S1024x128 .f32) (g : Vec F S1024x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
        ∗ (∃ d, owns (c : Thread nD τ) arg10 fullShare d) ∗ owns (c : Thread nD τ) arg11 fullShare x9 ∗ owns (c : Thread nD τ) arg12 fullShare g
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
            ∗ owns (c : Thread nD τ) arg10 fullShare (scaled i g x2) ∗ owns (c : Thread nD τ) arg11 fullShare x9 ∗ owns (c : Thread nD τ) arg12 fullShare g) -∗ K ⟨⟩))
      ⊢ wp frame (wpE (defs₀ (F := F)) Variants.none c none) E (cc0_proj i arg2 harg2 arg3 harg3 arg4 harg4 arg5 harg5 arg6 harg6 arg7 harg7 arg8 harg8 arg9 harg9 arg10 harg10 arg11 harg11 arg12 harg12) K := by
  simp only [cc0_proj_eq_skeleton]; unfold cc0_proj_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hf9; obtain rfl := harg12.eq_unread hfs
  sl_exec (disch := first | sl_exact hc1 | sl_exact hc2 | sl_exact hc3 | sl_exact hc4 | sl_exact hc5)
  sl_step
  iapply Hk
  isplitl [H0]; · iexists _; isplitr; · ipureintro; exact harg2.read_unread _
                  iexact H0
  isplitl [H1]; · iexists _; isplitr; · ipureintro; exact harg3.read_unread _
                  iexact H1
  isplitl [H2]; · iexists _; isplitr; · ipureintro; exact harg4.read_unread _
                  iexact H2
  isplitl [H3]; · iexists _; isplitr; · ipureintro; exact harg5.read_unread _
                  iexact H3
  isplitl [H4]; · iexists _; isplitr; · ipureintro; exact harg6.read_unread _
                  iexact H4
  isplitl [H5]; · iexists _; isplitr; · ipureintro; exact harg7.read_unread _
                  iexact H5
  isplitl [H6]; · iexists _; isplitr; · ipureintro; exact harg8.read_unread _
                  iexact H6
  isplitl [H7]; · iexists _; isplitr; · ipureintro; exact harg9.read_unread _
                  iexact H7
  isplitl [H8]
  · iexists _; isplitr
    swap; · iexact H8
    ipureintro
    refine (View.read_writes_eq_canon (Val := Elt F) _ _ _ ?_).trans ?_
    · exact View.cover_of_tiledL _ S1024x512.size (by sl_kernel_rfl)
    simp only [View.readAt_eq_ld, hf2, hfs]; rfl
  isplitl [H9]; · iexists _; isplitr; · ipureintro; exact harg11.read_unread _
                  iexact H9
  iexists _; isplitr; · ipureintro; exact harg12.read_unread _
  iexact HS

set_option maxHeartbeats 4000000 in
/-- A point whose block is a sigmoid. -/
theorem runD (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x512 .bf16) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1x128 .f32) (harg9 : arg9.IsWhole) (arg10 : Memref sig .tc .vmem S1024x512 .bf16) (harg10 : arg10.IsWhole) (arg11 : Memref sig .tc .vmem S1024x128 .f32) (harg11 : arg11.IsWhole) (arg12 : Memref sig .tc .vmem S1024x1024 .bf16) (harg12 : arg12.IsWhole)
    (hc1 : ¬k0_cond1 i = 1#1) (hc2 : ¬k0_cond2 i = 1#1) (hc3 : ¬k0_cond3 i = 1#1) (hc4 : k0_cond4 i = 1#1) (hc5 : ¬k0_cond5 i = 1#1)
    (x0 : Vec F S1024x1024 .f32) (x1 : Vec F S1x1024 .f32) (x2 : Vec F S1024x512 .bf16) (x3 : Vec F S1024x128 .bf16)
    (x4 x5 x6 : Vec F S1024x128 .f32) (x7 : Vec F S1x128 .f32) (x9 : Vec F S1024x128 .f32) (g : Vec F S1024x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
        ∗ (∃ d, owns (c : Thread nD τ) arg10 fullShare d) ∗ owns (c : Thread nD τ) arg11 fullShare x9 ∗ owns (c : Thread nD τ) arg12 fullShare g
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
            ∗ owns (c : Thread nD τ) arg10 fullShare (squashed g x2) ∗ owns (c : Thread nD τ) arg11 fullShare x9 ∗ owns (c : Thread nD τ) arg12 fullShare g) -∗ K ⟨⟩))
      ⊢ wp frame (wpE (defs₀ (F := F)) Variants.none c none) E (cc0_proj i arg2 harg2 arg3 harg3 arg4 harg4 arg5 harg5 arg6 harg6 arg7 harg7 arg8 harg8 arg9 harg9 arg10 harg10 arg11 harg11 arg12 harg12) K := by
  simp only [cc0_proj_eq_skeleton]; unfold cc0_proj_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hf9; obtain rfl := harg12.eq_unread hfs
  sl_exec (disch := first | sl_exact hc1 | sl_exact hc2 | sl_exact hc3 | sl_exact hc4 | sl_exact hc5)
  sl_step
  iapply Hk
  isplitl [H0]; · iexists _; isplitr; · ipureintro; exact harg2.read_unread _
                  iexact H0
  isplitl [H1]; · iexists _; isplitr; · ipureintro; exact harg3.read_unread _
                  iexact H1
  isplitl [H2]; · iexists _; isplitr; · ipureintro; exact harg4.read_unread _
                  iexact H2
  isplitl [H3]; · iexists _; isplitr; · ipureintro; exact harg5.read_unread _
                  iexact H3
  isplitl [H4]; · iexists _; isplitr; · ipureintro; exact harg6.read_unread _
                  iexact H4
  isplitl [H5]; · iexists _; isplitr; · ipureintro; exact harg7.read_unread _
                  iexact H5
  isplitl [H6]; · iexists _; isplitr; · ipureintro; exact harg8.read_unread _
                  iexact H6
  isplitl [H7]; · iexists _; isplitr; · ipureintro; exact harg9.read_unread _
                  iexact H7
  isplitl [H8]
  · iexists _; isplitr
    swap; · iexact H8
    ipureintro
    refine (View.read_writes_eq_canon (Val := Elt F) _ _ _ ?_).trans ?_
    · exact View.cover_of_tiledL _ S1024x512.size (by sl_kernel_rfl)
    simp only [View.readAt_eq_ld, hf2, hfs]; rfl
  isplitl [H9]; · iexists _; isplitr; · ipureintro; exact harg11.read_unread _
                  iexact H9
  iexists _; isplitr; · ipureintro; exact harg12.read_unread _
  iexact HS

set_option maxHeartbeats 4000000 in
/-- A point whose block gates itself. -/
theorem runE (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x512 .bf16) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1x128 .f32) (harg9 : arg9.IsWhole) (arg10 : Memref sig .tc .vmem S1024x512 .bf16) (harg10 : arg10.IsWhole) (arg11 : Memref sig .tc .vmem S1024x128 .f32) (harg11 : arg11.IsWhole) (arg12 : Memref sig .tc .vmem S1024x1024 .bf16) (harg12 : arg12.IsWhole)
    (hc1 : ¬k0_cond1 i = 1#1) (hc2 : ¬k0_cond2 i = 1#1) (hc3 : ¬k0_cond3 i = 1#1) (hc4 : ¬k0_cond4 i = 1#1) (hc5 : k0_cond5 i = 1#1)
    (x0 : Vec F S1024x1024 .f32) (x1 : Vec F S1x1024 .f32) (x2 : Vec F S1024x512 .bf16) (x3 : Vec F S1024x128 .bf16)
    (x4 x5 x6 : Vec F S1024x128 .f32) (x7 : Vec F S1x128 .f32) (x9 : Vec F S1024x128 .f32) (g : Vec F S1024x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
        ∗ (∃ d, owns (c : Thread nD τ) arg10 fullShare d) ∗ owns (c : Thread nD τ) arg11 fullShare x9 ∗ owns (c : Thread nD τ) arg12 fullShare g
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
            ∗ owns (c : Thread nD τ) arg10 fullShare (gated g x2) ∗ owns (c : Thread nD τ) arg11 fullShare x9 ∗ owns (c : Thread nD τ) arg12 fullShare g) -∗ K ⟨⟩))
      ⊢ wp frame (wpE (defs₀ (F := F)) Variants.none c none) E (cc0_proj i arg2 harg2 arg3 harg3 arg4 harg4 arg5 harg5 arg6 harg6 arg7 harg7 arg8 harg8 arg9 harg9 arg10 harg10 arg11 harg11 arg12 harg12) K := by
  simp only [cc0_proj_eq_skeleton]; unfold cc0_proj_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hf9; obtain rfl := harg12.eq_unread hfs
  sl_exec (disch := first | sl_exact hc1 | sl_exact hc2 | sl_exact hc3 | sl_exact hc4 | sl_exact hc5)
  sl_step
  iapply Hk
  isplitl [H0]; · iexists _; isplitr; · ipureintro; exact harg2.read_unread _
                  iexact H0
  isplitl [H1]; · iexists _; isplitr; · ipureintro; exact harg3.read_unread _
                  iexact H1
  isplitl [H2]; · iexists _; isplitr; · ipureintro; exact harg4.read_unread _
                  iexact H2
  isplitl [H3]; · iexists _; isplitr; · ipureintro; exact harg5.read_unread _
                  iexact H3
  isplitl [H4]; · iexists _; isplitr; · ipureintro; exact harg6.read_unread _
                  iexact H4
  isplitl [H5]; · iexists _; isplitr; · ipureintro; exact harg7.read_unread _
                  iexact H5
  isplitl [H6]; · iexists _; isplitr; · ipureintro; exact harg8.read_unread _
                  iexact H6
  isplitl [H7]; · iexists _; isplitr; · ipureintro; exact harg9.read_unread _
                  iexact H7
  isplitl [H8]
  · iexists _; isplitr
    swap; · iexact H8
    ipureintro
    refine (View.read_writes_eq_canon (Val := Elt F) _ _ _ ?_).trans ?_
    · exact View.cover_of_tiledL _ S1024x512.size (by sl_kernel_rfl)
    simp only [View.readAt_eq_ld, hf2, hfs]; rfl
  isplitl [H9]; · iexists _; isplitr; · ipureintro; exact harg11.read_unread _
                  iexact H9
  iexists _; isplitr; · ipureintro; exact harg12.read_unread _
  iexact HS

end Cert.ProjIdeal.Body

end
-- ==== Proof.ProjIdealRun.lean ====
/-
  The input projection's run: what every grid point finds and leaves, and what the launch ends with.
-/
module

public import proofs.«01_k».proof.Proof.ProjIdealBody
public import proofs.«01_k».proof.Proof.Gen.ProjIdeal.Frame
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.ProjIdeal.Run

open Cert.ProjIdeal Cert.ProjIdeal.Gen Cert.ProjIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A row tile's first point. -/
theorem on1 : ∀ t : Fin cfg0.N, k0_cond1 (grid0.coords t) = 1#1 ↔ t.val % 19 = 0 :=
  (by decide +kernel : ∀ t : Fin grid0.N, k0_cond1 (grid0.coords t) = 1#1 ↔ t.val % 19 = 0)
/-- The points with a rotated block. -/
theorem on2 : ∀ t : Fin cfg0.N, k0_cond2 (grid0.coords t) = 1#1 ↔ t.val % 19 ≤ 4 :=
  (by decide +kernel : ∀ t : Fin grid0.N, k0_cond2 (grid0.coords t) = 1#1 ↔ t.val % 19 ≤ 4)
/-- The points with a scaled block. -/
theorem on3 : ∀ t : Fin cfg0.N, k0_cond3 (grid0.coords t) = 1#1 ↔ (5 ≤ t.val % 19 ∧ t.val % 19 ≤ 9) :=
  (by decide +kernel : ∀ t : Fin grid0.N, k0_cond3 (grid0.coords t) = 1#1 ↔ (5 ≤ t.val % 19 ∧ t.val % 19 ≤ 9))
/-- The points with a sigmoid block. -/
theorem on4 : ∀ t : Fin cfg0.N, k0_cond4 (grid0.coords t) = 1#1 ↔ (10 ≤ t.val % 19 ∧ t.val % 19 ≤ 15) :=
  (by decide +kernel : ∀ t : Fin grid0.N, k0_cond4 (grid0.coords t) = 1#1 ↔ (10 ≤ t.val % 19 ∧ t.val % 19 ≤ 15))
/-- The points whose block gates itself. -/
theorem on5 : ∀ t : Fin cfg0.N, k0_cond5 (grid0.coords t) = 1#1 ↔ 16 ≤ t.val % 19 :=
  (by decide +kernel : ∀ t : Fin grid0.N, k0_cond5 (grid0.coords t) = 1#1 ↔ 16 ≤ t.val % 19)

/-- A point is one of the grid's 304. -/
theorem lt304 (t : Fin cfg0.N) : t.val < 304 := lt_of_lt_of_eq t.isLt (show cfg0.N = 304 from N_0)

/-- The first point of a point's row tile. -/
def base (t : Fin cfg0.N) : Fin cfg0.N := ⟨19 * (t.val / 19), lt_of_le_of_lt (Nat.mul_div_le _ _) t.isLt⟩

/-- A row tile's first point is its own. -/
theorem base_first (t : Fin cfg0.N) (h : t.val % 19 = 0) : base t = t := Fin.ext (by unfold base; simp only; omega)
/-- Successive points of one row tile have the same first point. -/
theorem base_next (t t' : Fin cfg0.N) (h : t'.val = t.val + 1) (hm : t'.val % 19 ≠ 0) : base t' = base t :=
  Fin.ext (by unfold base; simp only; omega)

/-- The normalised rows the scratch holds through a row tile. -/
def hid (c : Dev nD) (t : Fin cfg0.N) : Vec F S1024x1024 .bf16 := hidden (iblk m c 0 (base t)) (iblk m c 1 (base t))

/-- The spare columns a row tile's first point writes. -/
def small (c : Dev nD) (t : Fin cfg0.N) : Vec F S1024x128 .f32 :=
  spare (hid m c t) (iblk m c 3 (base t)) (iblk m c 4 (base t)) (iblk m c 5 (base t)) (iblk m c 6 (base t)) (iblk m c 7 (base t))

/-- The block of the packed result a point writes. -/
def packed (c : Dev nD) (t : Fin cfg0.N) : Vec F S1024x512 .bf16 :=
  if t.val % 19 ≤ 4 then rotated (grid0.coords t) (hid m c t) (iblk m c 2 t) (iblk m c 4 t) (iblk m c 5 t) (iblk m c 6 t)
  else if t.val % 19 ≤ 9 then scaled (grid0.coords t) (hid m c t) (iblk m c 2 t)
  else if t.val % 19 ≤ 15 then squashed (hid m c t) (iblk m c 2 t)
  else gated (hid m c t) (iblk m c 2 t)

/-- What is kept between points: within a row tile the normalised rows in the scratch, between row tiles nothing in particular. -/
def kept (c : Dev nD) (n : ℕ) (hn : n ≤ cfg0.N) : sProp 𝕄 :=
  if h : n % 19 = 0 then Pipeline.ΦA spec0 c
  else iprop(owns (c : Thread nD τ) (Memref.whole cc0_scratch0 : Memref sig .tc .vmem S1024x1024 .bf16) fullShare
      (hid m c ⟨n, lt_of_le_of_ne hn (fun e => h (by rw [e, show cfg0.N = 304 from N_0]))⟩) ∗ (∃ r, prngReg c r))

/-- Nothing in particular: the scratch at some contents. -/
theorem rest_eq (c : Dev nD) :
    (Pipeline.ΦA spec0 c : sProp 𝕄)
      = iprop((∃ d, owns (c : Thread nD τ) (Memref.whole cc0_scratch0 : Memref sig .tc .vmem S1024x1024 .bf16) fullShare d) ∗ (∃ r, prngReg c r)) := by
  unfold Pipeline.ΦA; rw [scopedRest0_eq]; simp only [owns_whole]; try rfl

/-- After any point the invariant follows from the tile's rows in the scratch. -/
theorem keep (c : Dev nD) (t : Fin cfg0.N) :
    iprop(owns (c : Thread nD τ) (Memref.whole cc0_scratch0 : Memref sig .tc .vmem S1024x1024 .bf16) fullShare (hid m c t) ∗ (∃ r, prngReg c r))
      ⊢ kept m c (t.val + 1) t.isLt := by
  unfold kept
  by_cases h : (t.val + 1) % 19 = 0
  · rw [dif_pos h, rest_eq]
    iintro ⟨H, Hg⟩
    isplitl [H]
    · iexists _; iexact H
    iexact Hg
  · rw [dif_neg h]
    have hlt : t.val + 1 < cfg0.N := lt_of_lt_of_eq (show t.val + 1 < 304 by have := lt304 t; omega) (show cfg0.N = 304 from N_0).symm
    rw [show hid m c ⟨t.val + 1, hlt⟩ = hid m c t from by
      unfold hid; rw [base_next t ⟨t.val + 1, hlt⟩ rfl h]]

/-- The proof data: the arrays as the launch finds them; after a point each input buffer its block, the packed result's buffer
    the point's block, the spare columns' buffer the row tile's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => packed m c t
    | ⟨9, _⟩ => small m c t
  Φ t := kept m c t.val (Nat.le_of_lt_succ t.isLt)
  q _ := fullShare
  owed _ := 0

/-- The arrays the launch begins with. -/
theorem A_eq (c : Dev nD) (w : Fin cfg0.W) : (dats m 0 c).A w = V m c (Pipeline.arrRef spec0 w) := by dsimp only [dats]

/-- What a point leaves in window 0's buffer. -/
theorem after0 (c : Dev nD) (t : Fin cfg0.N) : (dats m 0 c).after 0 t = iblk m c 0 t := by dsimp only [dats]
/-- What a point leaves in window 1's buffer. -/
theorem after1 (c : Dev nD) (t : Fin cfg0.N) : (dats m 0 c).after 1 t = iblk m c 1 t := by dsimp only [dats]
/-- What a point leaves in window 2's buffer. -/
theorem after2 (c : Dev nD) (t : Fin cfg0.N) : (dats m 0 c).after 2 t = iblk m c 2 t := by dsimp only [dats]
/-- What a point leaves in window 3's buffer. -/
theorem after3 (c : Dev nD) (t : Fin cfg0.N) : (dats m 0 c).after 3 t = iblk m c 3 t := by dsimp only [dats]
/-- What a point leaves in window 4's buffer. -/
theorem after4 (c : Dev nD) (t : Fin cfg0.N) : (dats m 0 c).after 4 t = iblk m c 4 t := by dsimp only [dats]
/-- What a point leaves in window 5's buffer. -/
theorem after5 (c : Dev nD) (t : Fin cfg0.N) : (dats m 0 c).after 5 t = iblk m c 5 t := by dsimp only [dats]
/-- What a point leaves in window 6's buffer. -/
theorem after6 (c : Dev nD) (t : Fin cfg0.N) : (dats m 0 c).after 6 t = iblk m c 6 t := by dsimp only [dats]
/-- What a point leaves in window 7's buffer. -/
theorem after7 (c : Dev nD) (t : Fin cfg0.N) : (dats m 0 c).after 7 t = iblk m c 7 t := by dsimp only [dats]
/-- What a point leaves in window 8's buffer. -/
theorem after8 (c : Dev nD) (t : Fin cfg0.N) : (dats m 0 c).after 8 t = packed m c t := by dsimp only [dats]
/-- What a point leaves in window 9's buffer. -/
theorem after9 (c : Dev nD) (t : Fin cfg0.N) : (dats m 0 c).after 9 t = small m c t := by dsimp only [dats]

/-- What a point finds in window 0's buffer. -/
theorem before0 (c : Dev nD) (t : Fin cfg0.N) (d) : (dats m 0 c).before 0 t d = iblk m c 0 t :=
  before0_0_of m (dats m 0 c) (A_eq m c 0) (after0 m c) t d
/-- What a point finds in window 1's buffer. -/
theorem before1 (c : Dev nD) (t : Fin cfg0.N) (d) : (dats m 0 c).before 1 t d = iblk m c 1 t :=
  before0_1_of m (dats m 0 c) (A_eq m c 1) (after1 m c) t d
/-- What a point finds in window 2's buffer. -/
theorem before2 (c : Dev nD) (t : Fin cfg0.N) (d) : (dats m 0 c).before 2 t d = iblk m c 2 t :=
  before0_2_of m (dats m 0 c) (A_eq m c 2) (after2 m c) t d
/-- What a point finds in window 3's buffer. -/
theorem before3 (c : Dev nD) (t : Fin cfg0.N) (d) : (dats m 0 c).before 3 t d = iblk m c 3 t :=
  before0_3_of m (dats m 0 c) (A_eq m c 3) (after3 m c) t d
/-- What a point finds in window 4's buffer. -/
theorem before4 (c : Dev nD) (t : Fin cfg0.N) (d) : (dats m 0 c).before 4 t d = iblk m c 4 t :=
  before0_4_of m (dats m 0 c) (A_eq m c 4) (after4 m c) t d
/-- What a point finds in window 5's buffer. -/
theorem before5 (c : Dev nD) (t : Fin cfg0.N) (d) : (dats m 0 c).before 5 t d = iblk m c 5 t :=
  before0_5_of m (dats m 0 c) (A_eq m c 5) (after5 m c) t d
/-- What a point finds in window 6's buffer. -/
theorem before6 (c : Dev nD) (t : Fin cfg0.N) (d) : (dats m 0 c).before 6 t d = iblk m c 6 t :=
  before0_6_of m (dats m 0 c) (A_eq m c 6) (after6 m c) t d
/-- What a point finds in window 7's buffer. -/
theorem before7 (c : Dev nD) (t : Fin cfg0.N) (d) : (dats m 0 c).before 7 t d = iblk m c 7 t :=
  before0_7_of m (dats m 0 c) (A_eq m c 7) (after7 m c) t d

/-- Where the spare columns are written. -/
theorem idle9 : ∀ t : Fin cfg0.N, cfg0.idle 9 (grid0.coords t) = true ↔ t.val % 19 ≠ 0 :=
  (by decide +kernel : ∀ t : Fin cfg0.N, cfg0.idle 9 (grid0.coords t) = true ↔ t.val % 19 ≠ 0)
/-- Every point writes its block of the packed result. -/
theorem live8 : ∀ t : Fin cfg0.N, cfg0.idle 8 (grid0.coords t) = false :=
  (by decide +kernel : ∀ t : Fin cfg0.N, cfg0.idle 8 (grid0.coords t) = false)

/-- Whether the spare columns' buffer has yet to be written since the row tile began, at a given position. -/
def freshAt (n : ℕ) : Bool := n % 19 = 0
/-- How that is carried from a point to the next. -/
theorem freshAt_step : ∀ t : Fin cfg0.N,
    freshAt (t.val + 1) = ((cfg0.win 9).flush t || (cfg0.idle 9 (cfg0.grid.coords t) && freshAt t.val)) := by decide +kernel
/-- After a row tile's first point the spare columns' buffer has been written. -/
theorem fresh9 (t : Fin cfg0.N) (h : t.val % 19 ≠ 0) : cfg0.fresh 9 t.val = false := by
  rw [Pipeline.Cfg.fresh_tab cfg0 9 freshAt rfl freshAt_step t.val (Nat.le_of_lt t.isLt)]
  exact decide_eq_false h

/-- Within a row tile the spare columns stay as its first point left them. -/
theorem small_prev (c : Dev nD) (t : Fin cfg0.N) (h : t.val % 19 ≠ 0) (hl : t.val - 1 < cfg0.N) : small m c ⟨t.val - 1, hl⟩ = small m c t := by
  have e : base t = base ⟨t.val - 1, hl⟩ := base_next ⟨t.val - 1, hl⟩ t (by show t.val = t.val - 1 + 1; omega) h
  unfold small hid
  rw [e]

/-- After a row tile's first point the spare columns' buffer holds what that point left. -/
theorem before9 (c : Dev nD) (t : Fin cfg0.N) (h : t.val % 19 ≠ 0) (d) : (dats m 0 c).before 9 t d = small m c t := by
  rw [Dat.before_out_traj _ 9 rfl (fun _ _ => rfl) (fun t' _ hi _ => by
      rw [after9, after9]; exact (small_prev m c t' ((idle9 t').mp hi) _).symm) t.val t rfl d,
    if_neg (by rw [fresh9 t h]; exact Bool.false_ne_true), after9]
  exact small_prev m c t h _

/-- What a point is called with, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

/-- What a point returns, spelled out. -/
theorem post_of (c : Dev nD) (t : Fin cfg0.N) :
    iprop(kept m c (t.val + 1) t.isLt ∗ (dats m 0 c).owesAt () t.castSucc ∗ owns (c : Thread nD τ) (win0_0.stage (cfg0.slots t 0)) fullShare (iblk m c 0 t) ∗ owns (c : Thread nD τ) (win0_1.stage (cfg0.slots t 1)) fullShare (iblk m c 1 t) ∗ owns (c : Thread nD τ) (win0_2.stage (cfg0.slots t 2)) fullShare (iblk m c 2 t) ∗ owns (c : Thread nD τ) (win0_3.stage (cfg0.slots t 3)) fullShare (iblk m c 3 t) ∗ owns (c : Thread nD τ) (win0_4.stage (cfg0.slots t 4)) fullShare (iblk m c 4 t) ∗ owns (c : Thread nD τ) (win0_5.stage (cfg0.slots t 5)) fullShare (iblk m c 5 t) ∗ owns (c : Thread nD τ) (win0_6.stage (cfg0.slots t 6)) fullShare (iblk m c 6 t) ∗ owns (c : Thread nD τ) (win0_7.stage (cfg0.slots t 7)) fullShare (iblk m c 7 t)
      ∗ owns (c : Thread nD τ) (win0_8.stage (cfg0.slots t 8)) fullShare (packed m c t) ∗ owns (c : Thread nD τ) (win0_9.stage (cfg0.slots t 9)) fullShare (small m c t)) ⊢ bodyPost m c t := by
  unfold bodyPost
  rw [show (dats m 0 c).leavesExact 0 t = owns (c : Thread nD τ) (win0_0.stage (cfg0.slots t 0)) fullShare (iblk m c 0 t) from by
    unfold Dat.leavesExact; rw [show cfg0.idle 0 (grid0.coords t) = false from rfl, after0]]
  rw [show (dats m 0 c).leavesExact 1 t = owns (c : Thread nD τ) (win0_1.stage (cfg0.slots t 1)) fullShare (iblk m c 1 t) from by
    unfold Dat.leavesExact; rw [show cfg0.idle 1 (grid0.coords t) = false from rfl, after1]]
  rw [show (dats m 0 c).leavesExact 2 t = owns (c : Thread nD τ) (win0_2.stage (cfg0.slots t 2)) fullShare (iblk m c 2 t) from by
    unfold Dat.leavesExact; rw [show cfg0.idle 2 (grid0.coords t) = false from rfl, after2]]
  rw [show (dats m 0 c).leavesExact 3 t = owns (c : Thread nD τ) (win0_3.stage (cfg0.slots t 3)) fullShare (iblk m c 3 t) from by
    unfold Dat.leavesExact; rw [show cfg0.idle 3 (grid0.coords t) = false from rfl, after3]]
  rw [show (dats m 0 c).leavesExact 4 t = owns (c : Thread nD τ) (win0_4.stage (cfg0.slots t 4)) fullShare (iblk m c 4 t) from by
    unfold Dat.leavesExact; rw [show cfg0.idle 4 (grid0.coords t) = false from rfl, after4]]
  rw [show (dats m 0 c).leavesExact 5 t = owns (c : Thread nD τ) (win0_5.stage (cfg0.slots t 5)) fullShare (iblk m c 5 t) from by
    unfold Dat.leavesExact; rw [show cfg0.idle 5 (grid0.coords t) = false from rfl, after5]]
  rw [show (dats m 0 c).leavesExact 6 t = owns (c : Thread nD τ) (win0_6.stage (cfg0.slots t 6)) fullShare (iblk m c 6 t) from by
    unfold Dat.leavesExact; rw [show cfg0.idle 6 (grid0.coords t) = false from rfl, after6]]
  rw [show (dats m 0 c).leavesExact 7 t = owns (c : Thread nD τ) (win0_7.stage (cfg0.slots t 7)) fullShare (iblk m c 7 t) from by
    unfold Dat.leavesExact; rw [show cfg0.idle 7 (grid0.coords t) = false from rfl, after7]]
  rw [show (dats m 0 c).leavesExact 8 t = owns (c : Thread nD τ) (win0_8.stage (cfg0.slots t 8)) fullShare (packed m c t) from by
    unfold Dat.leavesExact; rw [live8, after8]]
  have h9 : owns (c : Thread nD τ) (win0_9.stage (cfg0.slots t 9)) fullShare (small m c t) ⊢ (dats m 0 c).leavesExact 9 t := by
    unfold Dat.leavesExact
    cases hi : cfg0.idle 9 (grid0.coords t)
    · simp only [hi]; rw [after9]
    · cases hf : (cfg0.win 9).flush t
      · simp only [hi, hf]; iintro H; iexists (fun _ => Classical.arbitrary _); rw [before9 m c t ((idle9 t).mp hi)]; iexact H
      · simp only [hi, hf]; rw [after9]
  rw [show (dats m 0 c).owesAt () t.succ = (dats m 0 c).owesAt () t.castSucc from rfl]
  rw [show (dats m 0 c).Φ t.succ = kept m c (t.val + 1) t.isLt from rfl]
  iintro ⟨HS, Ho, H0, H1, H2, H3, H4, H5, H6, H7, H8, H9⟩
  isplitl [HS]; · iexact HS
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iapply h9; iexact H9

set_option maxHeartbeats 4000000 in
/-- A row tile's first point. -/
theorem body_first (c : Dev nD) (t : Fin cfg0.N) (h : t.val % 19 = 0) :
    bodyPre m c t ⊢ wp frame (wpE (defs₀ (F := F)) Variants.none c none) Set.univ (bodyAt0 t) (fun _ => bodyPost m c t) := by
  refine BIBase.Entails.trans ?_ (wp_mono _ _ _ fun _ => post_of m c t)
  unfold bodyPre bodyAt0
  simp only [before0, before1, before2, before3, before4, before5, before6, before7]
  rw [show (dats m 0 c).Φ t.castSucc = kept m c t.val (Nat.le_of_lt t.isLt) from rfl]
  rw [show kept m c t.val (Nat.le_of_lt t.isLt) = Pipeline.ΦA spec0 c from by unfold kept; rw [dif_pos h], rest_eq]
  rw [show packed m c t = rotated (grid0.coords t) (hidden (iblk m c 0 t) (iblk m c 1 t)) (iblk m c 2 t) (iblk m c 4 t) (iblk m c 5 t) (iblk m c 6 t) from by
    unfold packed hid; rw [if_pos (by omega), base_first t h]]
  rw [show small m c t = spare (hidden (iblk m c 0 t) (iblk m c 1 t)) (iblk m c 3 t) (iblk m c 4 t) (iblk m c 5 t) (iblk m c 6 t) (iblk m c 7 t) from by
    unfold small hid; rw [base_first t h]]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (runA c (grid0.coords t) _ _ _ _ _ _ _ _ _ _ _ _ _ _ _ _ _ _ _ _ _ _ ((on1 t).mpr h) ((on2 t).mpr (by omega))
    (fun e => absurd ((on3 t).mp e) (by omega)) (fun e => absurd ((on4 t).mp e) (by omega)) (fun e => absurd ((on5 t).mp e) (by omega))
    (iblk m c 0 t) (iblk m c 1 t) (iblk m c 2 t) (iblk m c 3 t) (iblk m c 4 t) (iblk m c 5 t) (iblk m c 6 t) (iblk m c 7 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [HS]; · iexact HS
  iintro ⟨H0, H1, H2, H3, H4, H5, H6, H7, H8, H9, HS⟩
  isplitl [HS Hg]
  · iapply (keep m c t)
    isplitl [HS]
    · rw [show hid m c t = hidden (iblk m c 0 t) (iblk m c 1 t) from by unfold hid; rw [base_first t h]]; iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

set_option maxHeartbeats 4000000 in
/-- A later point, for whatever block of the packed result it writes. -/
theorem body_later (c : Dev nD) (t : Fin cfg0.N) (h : t.val % 19 ≠ 0)
    (hrun : ∀ K : PUnit → sProp 𝕄, iprop(owns (c : Thread nD τ) (win0_0.stage (cfg0.slots t 0)) fullShare (iblk m c 0 t) ∗ owns (c : Thread nD τ) (win0_1.stage (cfg0.slots t 1)) fullShare (iblk m c 1 t) ∗ owns (c : Thread nD τ) (win0_2.stage (cfg0.slots t 2)) fullShare (iblk m c 2 t) ∗ owns (c : Thread nD τ) (win0_3.stage (cfg0.slots t 3)) fullShare (iblk m c 3 t) ∗ owns (c : Thread nD τ) (win0_4.stage (cfg0.slots t 4)) fullShare (iblk m c 4 t) ∗ owns (c : Thread nD τ) (win0_5.stage (cfg0.slots t 5)) fullShare (iblk m c 5 t) ∗ owns (c : Thread nD τ) (win0_6.stage (cfg0.slots t 6)) fullShare (iblk m c 6 t) ∗ owns (c : Thread nD τ) (win0_7.stage (cfg0.slots t 7)) fullShare (iblk m c 7 t)
        ∗ (∃ d, owns (c : Thread nD τ) (win0_8.stage (cfg0.slots t 8)) fullShare d) ∗ owns (c : Thread nD τ) (win0_9.stage (cfg0.slots t 9)) fullShare (small m c t) ∗ owns (c : Thread nD τ) (Memref.whole cc0_scratch0 : Memref sig .tc .vmem S1024x1024 .bf16) fullShare (hid m c t)
        ∗ (iprop(owns (c : Thread nD τ) (win0_0.stage (cfg0.slots t 0)) fullShare (iblk m c 0 t) ∗ owns (c : Thread nD τ) (win0_1.stage (cfg0.slots t 1)) fullShare (iblk m c 1 t) ∗ owns (c : Thread nD τ) (win0_2.stage (cfg0.slots t 2)) fullShare (iblk m c 2 t) ∗ owns (c : Thread nD τ) (win0_3.stage (cfg0.slots t 3)) fullShare (iblk m c 3 t) ∗ owns (c : Thread nD τ) (win0_4.stage (cfg0.slots t 4)) fullShare (iblk m c 4 t) ∗ owns (c : Thread nD τ) (win0_5.stage (cfg0.slots t 5)) fullShare (iblk m c 5 t) ∗ owns (c : Thread nD τ) (win0_6.stage (cfg0.slots t 6)) fullShare (iblk m c 6 t) ∗ owns (c : Thread nD τ) (win0_7.stage (cfg0.slots t 7)) fullShare (iblk m c 7 t)
            ∗ owns (c : Thread nD τ) (win0_8.stage (cfg0.slots t 8)) fullShare (packed m c t) ∗ owns (c : Thread nD τ) (win0_9.stage (cfg0.slots t 9)) fullShare (small m c t) ∗ owns (c : Thread nD τ) (Memref.whole cc0_scratch0 : Memref sig .tc .vmem S1024x1024 .bf16) fullShare (hid m c t)) -∗ K ⟨⟩))
      ⊢ wp frame (wpE (defs₀ (F := F)) Variants.none c none) Set.univ (bodyAt0 t) K) :
    bodyPre m c t ⊢ wp frame (wpE (defs₀ (F := F)) Variants.none c none) Set.univ (bodyAt0 t) (fun _ => bodyPost m c t) := by
  refine BIBase.Entails.trans ?_ (wp_mono _ _ _ fun _ => post_of m c t)
  unfold bodyPre
  simp only [before0, before1, before2, before3, before4, before5, before6, before7, before9 m c t h]
  rw [show (dats m 0 c).Φ t.castSucc = kept m c t.val (Nat.le_of_lt t.isLt) from rfl]
  rw [show kept m c t.val (Nat.le_of_lt t.isLt) = iprop(owns (c : Thread nD τ) (Memref.whole cc0_scratch0 : Memref sig .tc .vmem S1024x1024 .bf16) fullShare (hid m c t) ∗ (∃ r, prngReg c r)) from by
    unfold kept; rw [dif_neg h]]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (hrun _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexact H9
  isplitl [HS]; · iexact HS
  iintro ⟨H0, H1, H2, H3, H4, H5, H6, H7, H8, H9, HS⟩
  isplitl [HS Hg]
  · iapply (keep m c t)
    isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

set_option maxHeartbeats 4000000 in
/-- The body, at any point. -/
theorem sound_body (c : Dev nD) (t : Fin cfg0.N) :
    bodyPre m c t ⊢ wp frame (wpE (defs₀ (F := F)) Variants.none c none) Set.univ (bodyAt0 t) (fun _ => bodyPost m c t) := by
  have hlt := lt304 t
  by_cases h : t.val % 19 = 0
  · exact body_first m c t h
  refine body_later m c t h fun K => ?_
  have n1 : ¬ k0_cond1 (grid0.coords t) = 1#1 := fun e => h ((on1 t).mp e)
  by_cases h2 : t.val % 19 ≤ 4
  · rw [show packed m c t = _ from if_pos h2]
    exact runB c (grid0.coords t) _ _ _ _ _ _ _ _ _ _ _ _ _ _ _ _ _ _ _ _ _ _ n1 ((on2 t).mpr h2)
      (fun e => absurd ((on3 t).mp e) (by omega)) (fun e => absurd ((on4 t).mp e) (by omega)) (fun e => absurd ((on5 t).mp e) (by omega)) _ _ _ _ _ _ _ _ _ _ Set.univ K
  by_cases h3 : t.val % 19 ≤ 9
  · rw [show packed m c t = _ from (if_neg h2).trans (if_pos h3)]
    exact runC c (grid0.coords t) _ _ _ _ _ _ _ _ _ _ _ _ _ _ _ _ _ _ _ _ _ _ n1 (fun e => absurd ((on2 t).mp e) (by omega))
      ((on3 t).mpr (by omega)) (fun e => absurd ((on4 t).mp e) (by omega)) (fun e => absurd ((on5 t).mp e) (by omega)) _ _ _ _ _ _ _ _ _ _ Set.univ K
  by_cases h4 : t.val % 19 ≤ 15
  · rw [show packed m c t = _ from (if_neg h2).trans ((if_neg h3).trans (if_pos h4))]
    exact runD c (grid0.coords t) _ _ _ _ _ _ _ _ _ _ _ _ _ _ _ _ _ _ _ _ _ _ n1 (fun e => absurd ((on2 t).mp e) (by omega))
      (fun e => absurd ((on3 t).mp e) (by omega)) ((on4 t).mpr (by omega)) (fun e => absurd ((on5 t).mp e) (by omega)) _ _ _ _ _ _ _ _ _ _ Set.univ K
  · rw [show packed m c t = _ from (if_neg h2).trans ((if_neg h3).trans (if_neg h4))]
    exact runE c (grid0.coords t) _ _ _ _ _ _ _ _ _ _ _ _ _ _ _ _ _ _ _ _ _ _ n1 (fun e => absurd ((on2 t).mp e) (by omega))
      (fun e => absurd ((on3 t).mp e) (by omega)) (fun e => absurd ((on4 t).mp e) (by omega)) ((on5 t).mpr (by omega)) _ _ _ _ _ _ _ _ _ _ Set.univ K

/-- The launch calls the body at each point. -/
theorem defs_row (t : Fin cfg0.N) : defs₀ (F := F) .tc cfg0.body (cfg0.bodyArgs t (cfg0.slots t)) = bodyAt0 t := by
  unfold defs₀; rw [Defs.onTc_tc]

/-- The body's obligation, at every point. -/
theorem obligation (c : Dev nD) : BodyObligation (dats (F := F) m 0 c) (defs₀ (F := F)) Variants.none () Set.univ := fun t => by
  rw [bigSep_W0, bigSep_W0, defs_row]
  exact triple_restated (sound_body m c t) rfl .rfl fun _ => .rfl

/-- The invariant before the first point, and after the last, is nothing in particular. -/
theorem ends (c : Dev nD) (t : Fin (cfg0.N + 1)) (h : t.val % 19 = 0) : (dats m 0 c).Φ t = Pipeline.ΦA spec0 c := by
  show kept m c t.val (Nat.le_of_lt_succ t.isLt) = _
  unfold kept; rw [dif_pos h]

set_option backward.isDefEq.respectTransparency.types false in
/-- The launch: every array ends as the proof data says, every counter at zero. -/
theorem run : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m)
    (hin := fun c => (ends m c 0 rfl) ▸ Entails.refl _)
    (hout := fun c => (ends m c (Fin.last cfg0.N) (by rw [Fin.val_last, show cfg0.N = 304 from N_0])) ▸ Entails.refl _)

/-- The arguments end as they began, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run m ρ)))
    ((θ_run defs _ _).mono (fun _ h => h.2) (run m ρ))

/-- The run with the two result arrays named and the arguments unchanged. -/
theorem run_blocks : θ_run defs (onTc (τ := τ) (main (F := F))) ⟨m, fun _ => 0, ρ⟩ (fun r => ∀ c : Dev nD,
      r.2.mem ((c : Thread nD τ).loc main_v62_0) = (dats m 0 c).arrAt 8 cfg0.N
      ∧ r.2.mem ((c : Thread nD τ).loc main_v62_1) = (dats m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h.1.1 c).1 8, (h.1.1 c).1 9, h.2 c⟩)
    (θ_run_and (run m ρ) (frame_of m ρ (dats m) (A_eq m) ((θ_run defs _ _).mono (fun _ h => h.1) (run m ρ))))

end Cert.ProjIdeal.Run

end
-- ==== Proof.ProjReads.lean ====
/-
  What each block the input projection's tiles load holds, in terms of the arguments.
-/
module

public import proofs.«01_k».proof.Proof.ProjIdealRun
public import Idealize.ShloMosaic.Lib.Pipeline.ValueKit
public import Idealize.ShloMosaic.Lib.Pointwise
public import Idealize.ShloMosaic.Lib.WordCmp
public import Idealize.ShloMosaic.Lib.Claim
public import Idealize.ShloMosaic.Lib.KernelVsHost
public import Idealize.ShloMosaic.Lib.Routing.OpsOne
public import proofs.«01_k».proof.Proof.ProjSpec

@[expose] public section

set_option maxRecDepth 16384

noncomputable section

namespace Cert.ProjIdeal.Reads

open Cert.ProjIdeal Cert.ProjIdeal.Gen Cert.ProjIdeal.Run Idealize.ShloMosaic Idealize.ShloMosaic.TcCoe Idealize.SL.Sem Cert.Project
open Idealize.ShloMosaic.Pipeline (Dat)

/-- Which blocks a point works on, in closed form. -/
theorem idx : ∀ t : Fin cfg0.N,
    win0_0.index t = ![t.val / 19, 0] ∧ win0_1.index t = ![0, 0] ∧ win0_2.index t = ![0, t.val % 19] ∧ win0_3.index t = ![0, 0]
    ∧ win0_4.index t = ![t.val / 19 % 4, 0] ∧ win0_5.index t = ![t.val / 19 % 4, 0] ∧ win0_6.index t = ![t.val / 19 % 4, 0]
    ∧ win0_7.index t = ![0, 0] ∧ win0_8.index t = ![t.val / 19, t.val % 19] ∧ win0_9.index t = ![t.val / 19, 0] := (by decide +kernel : ∀ t : Fin grid0.N, _)

/-- The pattern of one reads one. -/
theorem one_bits : Ideal.ofBits .f32 0x3F800000#32 = 1 := by
  simp [Ideal.ofBits, Ideal.ieee]
  rw [← EReal.coe_mul, ← EReal.coe_one]; norm_num

variable (m : (ℓ : Loc nD τ sig) → Buf (Elt Ideal) ℓ)

/-- A row tile. -/
theorem read0 (c : Dev nD) (t : Fin cfg0.N) (r d : Fin 1024) :
    (iblk m c 0 t : Vec Ideal S1024x1024 .f32) (ix2 r d) = (m ((c : Thread nD τ).loc main_arg0) : FVec Ideal S4x4096x1024 .f32)
      (ix3 ⟨(1024 * (t.val / 19) + r.val) / 4096, by have := lt304 t; omega⟩ ⟨(1024 * (t.val / 19) + r.val) % 4096, by omega⟩ d) := by
  have ht := lt304 t
  obtain ⟨i0, i1, i2, -⟩ := idx t
  blk_simp [iblk]
  unfold V
  simp only [hostOps0, hostOps0_1, hostOps0_2, List.flatten_cons, List.flatten_nil, List.append_nil, List.cons_append, List.nil_append]
  entry_read
  pointwise
  blk_ext [i0]

/-- The gain. -/
theorem read1 (c : Dev nD) (t : Fin cfg0.N) (d : Fin 1024) :
    (iblk m c 1 t : Vec Ideal S1x1024 .f32) (ix2 0 d) = (m ((c : Thread nD τ).loc main_arg1) : FVec Ideal S1024 .f32) (ix1 d) := by
  obtain ⟨i0, i1, i2, -⟩ := idx t
  blk_simp [iblk]
  unfold V
  simp only [hostOps0, hostOps0_1, hostOps0_2, List.flatten_cons, List.flatten_nil, List.append_nil, List.cons_append, List.nil_append]
  entry_read
  pointwise
  blk_ext [i1]

/-- The spare columns' weights. -/
theorem read3 (c : Dev nD) (t : Fin cfg0.N) (d : Fin 1024) (l : Fin 128) :
    (iblk m c 3 t : Vec Ideal S1024x128 .bf16) (ix2 d l)
      = if h : l.val < 80 then (m ((c : Thread nD τ).loc main_arg2) : FVec Ideal S1024x9808 .f32) (ix2 d ⟨6656 + l.val, by omega⟩) else (0 : EReal) := by
  obtain ⟨i0, i1, i2, i3, -⟩ := idx t
  blk_simp [iblk]
  unfold V
  simp only [hostOps0, hostOps0_1, hostOps0_2, List.flatten_cons, List.flatten_nil, List.append_nil, List.cons_append, List.nil_append]
  entry_read
  change pad S1024x128 ![0, 0] ![0, 48] ![0, 0]
    (extractStridedSlice S1024x80 ![0, 6656] (m (c, Proc.tc.devRef main_arg2)) slices_S1024x9808_S1024x80_0_6656)
    (sitofp (F := Ideal) FTy.f32 (constantI S_ 32 0#32)) pads_S1024x80_S1024x128_000_0480 h_S_
      (((View.whole main_v55).slice (win0_3.rect t)).emb (ix2 d l)) = _
  rw [show (((View.whole main_v55).slice (win0_3.rect t)).emb (ix2 d l)) = (ix2 d l : S1024x128.Idx) from by blk_ext [i3]]
  by_cases h : l.val < 80
  · rw [dif_pos h, pad_apply_of_inside _ _ _ _ _ _ _ _ (ix2 d ⟨l.val, h⟩) (by intro k; fin_cases k <;> simp)]
    pointwise
  · rw [dif_neg h, pad_apply_of_not_inside _ _ _ _ _ _ _ _ (1 : Fin 2) (by simp; omega)]
    pointwise
    show (((0#32 : BitVec 32).toInt : ℝ) : EReal) = 0
    simp

/-- Where one of the eight gate biases lands in the row of 128: after the 72 columns before it. -/
theorem lands (idx : IVec S2 32) (k : Fin 8) (l : Fin 128) (h0 : (idx (ix1 (0 : Fin 2))).toInt = 0) (h1 : (idx (ix1 (1 : Fin 2))).toInt = 72) :
    scatter_S1x128_S2_S8_0_0_01_0.resultIdx? (ix1 k) idx = some (ix2 0 l : S1x128.Idx) ↔ 72 + k.val = l.val := by
  have w0 : scatter_S1x128_S2_S8_0_0_01_0.window (ix1 k) 0 = 0 := rfl
  have w1 : scatter_S1x128_S2_S8_0_0_01_0.window (ix1 k) 1 = k.val := rfl
  have s0 : scatter_S1x128_S2_S8_0_0_01_0.start (ix1 k) idx 0 = 0 := (Routing.start_pair (R := 1) (C := 128) _ rfl rfl idx _ 0).trans h0
  have s1 : scatter_S1x128_S2_S8_0_0_01_0.start (ix1 k) idx 1 = 72 := (Routing.start_pair (R := 1) (C := 128) _ rfl rfl idx _ 1).trans h1
  refine (Routing.resultIdx?_ix2 (R := 1) (C := 128) scatter_S1x128_S2_S8_0_0_01_0 (ix1 k) idx 0 l).trans ?_
  constructor
  · rintro ⟨-, q⟩
    have q' : (72 : Int) + (k.val : Int) = (l.val : Int) := by rw [← q]; exact congrArg₂ (fun a b : Int => a + b) s1.symm (congrArg _ w1.symm)
    omega
  · intro q
    refine ⟨?_, ?_⟩
    · exact congrArg₂ (fun a b : Int => a + b) s0 (congrArg (fun n : Nat => (n : Int)) w0)
    · refine (congrArg₂ (fun a b : Int => a + b) s1 (congrArg (fun n : Nat => (n : Int)) w1)).trans ?_
      show (72 : Int) + (k.val : Int) = (l.val : Int)
      omega

/-- The bias. -/
theorem read7 (c : Dev nD) (t : Fin cfg0.N) (l : Fin 128) :
    (iblk m c 7 t : Vec Ideal S1x128 .f32) (ix2 0 l)
      = if h : 72 ≤ l.val ∧ l.val < 80 then (m ((c : Thread nD τ).loc main_arg3) : FVec Ideal S8 .f32) (ix1 ⟨l.val - 72, by omega⟩) else (0 : EReal) := by
  obtain ⟨-, -, -, -, -, -, -, i7, -⟩ := idx t
  blk_simp [iblk]
  unfold V
  simp only [hostOps0, hostOps0_1, hostOps0_2, List.flatten_cons, List.flatten_nil, List.append_nil, List.cons_append, List.nil_append]
  entry_read
  rw [show (((View.whole main_v60).slice (win0_7.rect t)).emb (ix2 0 l)) = (ix2 0 l : S1x128.Idx) from by blk_ext [i7]]
  by_cases h : 72 ≤ l.val ∧ l.val < 80
  · rw [dif_pos h]
    refine Routing.scatter_set_hit _ _ _ _ _ _ (fun k hk => ?_) (ix1 ⟨l.val - 72, by omega⟩) ((lands _ _ _ (by pointwise; simp) (by pointwise; simp)).2 ?_)
    · idx_vars k
      have q := (lands _ _ _ (by pointwise; simp) (by pointwise; simp)).1 hk
      exact congrArg (fun j : Fin 8 => (m ((c : Thread nD τ).loc main_arg3) : FVec Ideal S8 .f32) (ix1 j)) (Fin.ext (by show k0.val = l.val - 72; omega))
    · exact Nat.add_sub_cancel' h.1
  · rw [dif_neg h, Routing.scatter_set_miss _ _ _ _ _ (fun k hk => ?_)]
    · pointwise
    · idx_vars k
      have q := (lands _ _ _ (by pointwise; simp) (by pointwise; simp)).1 hk
      have := k0.isLt
      omega

end Cert.ProjIdeal.Reads

end
-- ==== Proof.ProjTables.lean ====
/-
  What the rotation tables' blocks of the input projection hold.
-/
module

public import proofs.«01_k».proof.Proof.ProjReads
public import Idealize.ShloMosaic.Lib.Pipeline.ValueKit
public import Idealize.ShloMosaic.Lib.Pointwise
public import Idealize.ShloMosaic.Lib.WordCmp
public import Idealize.ShloMosaic.Lib.StableHlo.RunRead
public import Idealize.ShloMosaic.Lib.Claim
public import Idealize.ShloMosaic.Lib.Routing.OpsSet
public import proofs.«01_k».proof.Proof.ProjSpec

@[expose] public section

set_option maxRecDepth 16384

noncomputable section

namespace Cert.ProjIdeal.Reads

open Cert.ProjIdeal Cert.ProjIdeal.Gen Cert.ProjIdeal.Run Idealize.ShloMosaic Idealize.ShloMosaic.TcCoe Idealize.SL.Sem Cert.Project
open Idealize.ShloMosaic.Pipeline (Dat)

variable (m : (ℓ : Loc nD τ sig) → Buf (Elt Ideal) ℓ)

set_option maxHeartbeats 2000000 in
/-- The table of cosines. -/
theorem read4 (c : Dev nD) (t : Fin cfg0.N) (r : Fin 1024) (l : Fin 128) :
    (iblk m c 4 t : Vec Ideal S1024x128 .f32) (ix2 r l)
      = cosAt ⟨(1024 * (t.val / 19) + r.val) % 4096, by omega⟩ ⟨l.val % 64, by omega⟩ := by
  have ht := lt304 t
  obtain ⟨-, -, -, -, i4, i5, i6, -⟩ := idx t
  unfold cosAt angle
  blk_simp [iblk]
  unfold V
  simp only [hostOps0, hostOps0_1, hostOps0_2, List.flatten_cons, List.flatten_nil, List.append_nil, List.cons_append, List.nil_append]
  after_reads_simp
  rw [show (((View.whole main_v26).slice (win0_4.rect t)).emb (ix2 r l)) = (ix2 ⟨(1024 * (t.val / 19) + r.val) % 4096, by omega⟩ l : S4096x128.Idx) from by blk_ext [i4]]
  pointwise
  after_reads_simp
  pointwise
  try simp only [zero_add, add_zero]
  split_ifs <;> first | rfl | omega

set_option maxHeartbeats 2000000 in
/-- The table of sines that multiply the entry eight ahead. -/
theorem read5 (c : Dev nD) (t : Fin cfg0.N) (r : Fin 1024) (l : Fin 128) :
    (iblk m c 5 t : Vec Ideal S1024x128 .f32) (ix2 r l)
      = sinAhead ⟨(1024 * (t.val / 19) + r.val) % 4096, by omega⟩ ⟨l.val % 64, by omega⟩ := by
  have ht := lt304 t
  obtain ⟨-, -, -, -, i4, i5, i6, -⟩ := idx t
  unfold sinAhead angle
  blk_simp [iblk]
  unfold V
  simp only [hostOps0, hostOps0_1, hostOps0_2, List.flatten_cons, List.flatten_nil, List.append_nil, List.cons_append, List.nil_append]
  after_reads_simp
  rw [show (((View.whole main_v31).slice (win0_5.rect t)).emb (ix2 r l)) = (ix2 ⟨(1024 * (t.val / 19) + r.val) % 4096, by omega⟩ l : S4096x128.Idx) from by blk_ext [i5]]
  pointwise
  after_reads_simp
  pointwise
  try simp only [zero_add, add_zero]
  split_ifs <;> first | rfl | omega

set_option maxHeartbeats 2000000 in
/-- The table of sines that multiply the entry eight back. -/
theorem read6 (c : Dev nD) (t : Fin cfg0.N) (r : Fin 1024) (l : Fin 128) :
    (iblk m c 6 t : Vec Ideal S1024x128 .f32) (ix2 r l)
      = sinBack ⟨(1024 * (t.val / 19) + r.val) % 4096, by omega⟩ ⟨l.val % 64, by omega⟩ := by
  have ht := lt304 t
  obtain ⟨-, -, -, -, i4, i5, i6, -⟩ := idx t
  unfold sinBack angle
  blk_simp [iblk]
  unfold V
  simp only [hostOps0, hostOps0_1, hostOps0_2, List.flatten_cons, List.flatten_nil, List.append_nil, List.cons_append, List.nil_append]
  after_reads_simp
  rw [show (((View.whole main_v35).slice (win0_6.rect t)).emb (ix2 r l)) = (ix2 ⟨(1024 * (t.val / 19) + r.val) % 4096, by omega⟩ l : S4096x128.Idx) from by blk_ext [i6]]
  pointwise
  after_reads_simp
  pointwise
  try simp only [zero_add, add_zero]
  split_ifs <;> first | rfl | omega

end Cert.ProjIdeal.Reads

end
-- ==== Proof.ProjWeights.lean ====
/-
  What the blocks of the input projection's packed weights hold.
-/
module

public import proofs.«01_k».proof.Proof.ProjReads
public import Idealize.ShloMosaic.Lib.Pipeline.ValueKit
public import Idealize.ShloMosaic.Lib.Pointwise
public import Idealize.ShloMosaic.Lib.WordCmp
public import Idealize.ShloMosaic.Lib.StableHlo.RunRead
public import Idealize.ShloMosaic.Lib.Claim
public import Idealize.ShloMosaic.Lib.Routing.OpsSet
public import proofs.«01_k».proof.Proof.ProjSpec

@[expose] public section

set_option maxRecDepth 16384

noncomputable section

namespace Cert.ProjIdeal.Reads

open Cert.ProjIdeal Cert.ProjIdeal.Gen Cert.ProjIdeal.Run Idealize.ShloMosaic Idealize.ShloMosaic.TcCoe Idealize.SL.Sem Cert.Project
open Idealize.ShloMosaic.Pipeline (Dat)

variable (m : (ℓ : Loc nD τ sig) → Buf (Elt Ideal) ℓ)

/-- The fourteen packed slices of the weights side by side. -/
def joined (u0 u1 u2 u3 u4 u5 u6 u7 u8 u9 u11 u12 u13 : FVec Ideal S1024x512 .f32) (u10 : FVec Ideal S1024x3072 .f32) : FVec Ideal S1024x9728 .f32 :=
  concatenate S1024x9728 1 [⟨S1024x512, u0⟩, ⟨S1024x512, u1⟩, ⟨S1024x512, u2⟩, ⟨S1024x512, u3⟩, ⟨S1024x512, u4⟩, ⟨S1024x512, u5⟩, ⟨S1024x512, u6⟩, ⟨S1024x512, u7⟩, ⟨S1024x512, u8⟩, ⟨S1024x512, u9⟩, ⟨S1024x3072, u10⟩, ⟨S1024x512, u11⟩, ⟨S1024x512, u12⟩, ⟨S1024x512, u13⟩] concatenates_S1024x512_S1024x512_S1024x512_S1024x512_S1024x512_S1024x512_S1024x512_S1024x512_S1024x512_S1024x512_S1024x3072_S1024x512_S1024x512_S1024x512_S1024x9728_d1

/-- Section 0 of the packed weights. -/
theorem joined_0 (u0 u1 u2 u3 u4 u5 u6 u7 u8 u9 u11 u12 u13 : FVec Ideal S1024x512 .f32) (u10 : FVec Ideal S1024x3072 .f32) (d : Fin 1024) (l : Fin 512) :
    joined u0 u1 u2 u3 u4 u5 u6 u7 u8 u9 u11 u12 u13 u10 (ix2 d ⟨0 + l.val, by omega⟩) = u0 (ix2 d l) := by
  exact concatenate_apply_piece (t := S1024x9728) 1 _ _ _ 0 (by show 0 < 14; omega) S1024x512 u0 rfl rfl 0 (by rfl) (ix2 d l)
    (fun q hq => match q with
      | ⟨0, _⟩ => rfl
      | ⟨1, _⟩ => absurd rfl hq) (rfl)

/-- Section 1 of the packed weights. -/
theorem joined_1 (u0 u1 u2 u3 u4 u5 u6 u7 u8 u9 u11 u12 u13 : FVec Ideal S1024x512 .f32) (u10 : FVec Ideal S1024x3072 .f32) (d : Fin 1024) (l : Fin 512) :
    joined u0 u1 u2 u3 u4 u5 u6 u7 u8 u9 u11 u12 u13 u10 (ix2 d ⟨512 + l.val, by omega⟩) = u1 (ix2 d l) := by
  exact concatenate_apply_piece (t := S1024x9728) 1 _ _ _ 1 (by show 1 < 14; omega) S1024x512 u1 rfl rfl 512 (by rfl) (ix2 d l)
    (fun q hq => match q with
      | ⟨0, _⟩ => rfl
      | ⟨1, _⟩ => absurd rfl hq) (rfl)

/-- Section 2 of the packed weights. -/
theorem joined_2 (u0 u1 u2 u3 u4 u5 u6 u7 u8 u9 u11 u12 u13 : FVec Ideal S1024x512 .f32) (u10 : FVec Ideal S1024x3072 .f32) (d : Fin 1024) (l : Fin 512) :
    joined u0 u1 u2 u3 u4 u5 u6 u7 u8 u9 u11 u12 u13 u10 (ix2 d ⟨1024 + l.val, by omega⟩) = u2 (ix2 d l) := by
  exact concatenate_apply_piece (t := S1024x9728) 1 _ _ _ 2 (by show 2 < 14; omega) S1024x512 u2 rfl rfl 1024 (by rfl) (ix2 d l)
    (fun q hq => match q with
      | ⟨0, _⟩ => rfl
      | ⟨1, _⟩ => absurd rfl hq) (rfl)

/-- Section 3 of the packed weights. -/
theorem joined_3 (u0 u1 u2 u3 u4 u5 u6 u7 u8 u9 u11 u12 u13 : FVec Ideal S1024x512 .f32) (u10 : FVec Ideal S1024x3072 .f32) (d : Fin 1024) (l : Fin 512) :
    joined u0 u1 u2 u3 u4 u5 u6 u7 u8 u9 u11 u12 u13 u10 (ix2 d ⟨1536 + l.val, by omega⟩) = u3 (ix2 d l) := by
  exact concatenate_apply_piece (t := S1024x9728) 1 _ _ _ 3 (by show 3 < 14; omega) S1024x512 u3 rfl rfl 1536 (by rfl) (ix2 d l)
    (fun q hq => match q with
      | ⟨0, _⟩ => rfl
      | ⟨1, _⟩ => absurd rfl hq) (rfl)

/-- Section 4 of the packed weights. -/
theorem joined_4 (u0 u1 u2 u3 u4 u5 u6 u7 u8 u9 u11 u12 u13 : FVec Ideal S1024x512 .f32) (u10 : FVec Ideal S1024x3072 .f32) (d : Fin 1024) (l : Fin 512) :
    joined u0 u1 u2 u3 u4 u5 u6 u7 u8 u9 u11 u12 u13 u10 (ix2 d ⟨2048 + l.val, by omega⟩) = u4 (ix2 d l) := by
  exact concatenate_apply_piece (t := S1024x9728) 1 _ _ _ 4 (by show 4 < 14; omega) S1024x512 u4 rfl rfl 2048 (by rfl) (ix2 d l)
    (fun q hq => match q with
      | ⟨0, _⟩ => rfl
      | ⟨1, _⟩ => absurd rfl hq) (rfl)

/-- Section 5 of the packed weights. -/
theorem joined_5 (u0 u1 u2 u3 u4 u5 u6 u7 u8 u9 u11 u12 u13 : FVec Ideal S1024x512 .f32) (u10 : FVec Ideal S1024x3072 .f32) (d : Fin 1024) (l : Fin 512) :
    joined u0 u1 u2 u3 u4 u5 u6 u7 u8 u9 u11 u12 u13 u10 (ix2 d ⟨2560 + l.val, by omega⟩) = u5 (ix2 d l) := by
  exact concatenate_apply_piece (t := S1024x9728) 1 _ _ _ 5 (by show 5 < 14; omega) S1024x512 u5 rfl rfl 2560 (by rfl) (ix2 d l)
    (fun q hq => match q with
      | ⟨0, _⟩ => rfl
      | ⟨1, _⟩ => absurd rfl hq) (rfl)

/-- Section 6 of the packed weights. -/
theorem joined_6 (u0 u1 u2 u3 u4 u5 u6 u7 u8 u9 u11 u12 u13 : FVec Ideal S1024x512 .f32) (u10 : FVec Ideal S1024x3072 .f32) (d : Fin 1024) (l : Fin 512) :
    joined u0 u1 u2 u3 u4 u5 u6 u7 u8 u9 u11 u12 u13 u10 (ix2 d ⟨3072 + l.val, by omega⟩) = u6 (ix2 d l) := by
  exact concatenate_apply_piece (t := S1024x9728) 1 _ _ _ 6 (by show 6 < 14; omega) S1024x512 u6 rfl rfl 3072 (by rfl) (ix2 d l)
    (fun q hq => match q with
      | ⟨0, _⟩ => rfl
      | ⟨1, _⟩ => absurd rfl hq) (rfl)

/-- Section 7 of the packed weights. -/
theorem joined_7 (u0 u1 u2 u3 u4 u5 u6 u7 u8 u9 u11 u12 u13 : FVec Ideal S1024x512 .f32) (u10 : FVec Ideal S1024x3072 .f32) (d : Fin 1024) (l : Fin 512) :
    joined u0 u1 u2 u3 u4 u5 u6 u7 u8 u9 u11 u12 u13 u10 (ix2 d ⟨3584 + l.val, by omega⟩) = u7 (ix2 d l) := by
  exact concatenate_apply_piece (t := S1024x9728) 1 _ _ _ 7 (by show 7 < 14; omega) S1024x512 u7 rfl rfl 3584 (by rfl) (ix2 d l)
    (fun q hq => match q with
      | ⟨0, _⟩ => rfl
      | ⟨1, _⟩ => absurd rfl hq) (rfl)

/-- Section 8 of the packed weights. -/
theorem joined_8 (u0 u1 u2 u3 u4 u5 u6 u7 u8 u9 u11 u12 u13 : FVec Ideal S1024x512 .f32) (u10 : FVec Ideal S1024x3072 .f32) (d : Fin 1024) (l : Fin 512) :
    joined u0 u1 u2 u3 u4 u5 u6 u7 u8 u9 u11 u12 u13 u10 (ix2 d ⟨4096 + l.val, by omega⟩) = u8 (ix2 d l) := by
  exact concatenate_apply_piece (t := S1024x9728) 1 _ _ _ 8 (by show 8 < 14; omega) S1024x512 u8 rfl rfl 4096 (by rfl) (ix2 d l)
    (fun q hq => match q with
      | ⟨0, _⟩ => rfl
      | ⟨1, _⟩ => absurd rfl hq) (rfl)

/-- Section 9 of the packed weights. -/
theorem joined_9 (u0 u1 u2 u3 u4 u5 u6 u7 u8 u9 u11 u12 u13 : FVec Ideal S1024x512 .f32) (u10 : FVec Ideal S1024x3072 .f32) (d : Fin 1024) (l : Fin 512) :
    joined u0 u1 u2 u3 u4 u5 u6 u7 u8 u9 u11 u12 u13 u10 (ix2 d ⟨4608 + l.val, by omega⟩) = u9 (ix2 d l) := by
  exact concatenate_apply_piece (t := S1024x9728) 1 _ _ _ 9 (by show 9 < 14; omega) S1024x512 u9 rfl rfl 4608 (by rfl) (ix2 d l)
    (fun q hq => match q with
      | ⟨0, _⟩ => rfl
      | ⟨1, _⟩ => absurd rfl hq) (rfl)

/-- Section 10 of the packed weights. -/
theorem joined_10 (u0 u1 u2 u3 u4 u5 u6 u7 u8 u9 u11 u12 u13 : FVec Ideal S1024x512 .f32) (u10 : FVec Ideal S1024x3072 .f32) (d : Fin 1024) (l : Fin 512) :
    joined u0 u1 u2 u3 u4 u5 u6 u7 u8 u9 u11 u12 u13 u10 (ix2 d ⟨5120 + l.val, by omega⟩) = u10 (ix2 d ⟨0 + l.val, by omega⟩) := by
  exact concatenate_apply_piece (t := S1024x9728) 1 _ _ _ 10 (by show 10 < 14; omega) S1024x3072 u10 rfl rfl 5120 (by rfl) (ix2 d ⟨0 + l.val, by omega⟩)
    (fun q hq => match q with
      | ⟨0, _⟩ => rfl
      | ⟨1, _⟩ => absurd rfl hq) (show 5120 + (0 + l.val) = 5120 + l.val by omega)

/-- Section 11 of the packed weights. -/
theorem joined_11 (u0 u1 u2 u3 u4 u5 u6 u7 u8 u9 u11 u12 u13 : FVec Ideal S1024x512 .f32) (u10 : FVec Ideal S1024x3072 .f32) (d : Fin 1024) (l : Fin 512) :
    joined u0 u1 u2 u3 u4 u5 u6 u7 u8 u9 u11 u12 u13 u10 (ix2 d ⟨5632 + l.val, by omega⟩) = u10 (ix2 d ⟨512 + l.val, by omega⟩) := by
  exact concatenate_apply_piece (t := S1024x9728) 1 _ _ _ 10 (by show 10 < 14; omega) S1024x3072 u10 rfl rfl 5120 (by rfl) (ix2 d ⟨512 + l.val, by omega⟩)
    (fun q hq => match q with
      | ⟨0, _⟩ => rfl
      | ⟨1, _⟩ => absurd rfl hq) (show 5120 + (512 + l.val) = 5632 + l.val by omega)

/-- Section 12 of the packed weights. -/
theorem joined_12 (u0 u1 u2 u3 u4 u5 u6 u7 u8 u9 u11 u12 u13 : FVec Ideal S1024x512 .f32) (u10 : FVec Ideal S1024x3072 .f32) (d : Fin 1024) (l : Fin 512) :
    joined u0 u1 u2 u3 u4 u5 u6 u7 u8 u9 u11 u12 u13 u10 (ix2 d ⟨6144 + l.val, by omega⟩) = u10 (ix2 d ⟨1024 + l.val, by omega⟩) := by
  exact concatenate_apply_piece (t := S1024x9728) 1 _ _ _ 10 (by show 10 < 14; omega) S1024x3072 u10 rfl rfl 5120 (by rfl) (ix2 d ⟨1024 + l.val, by omega⟩)
    (fun q hq => match q with
      | ⟨0, _⟩ => rfl
      | ⟨1, _⟩ => absurd rfl hq) (show 5120 + (1024 + l.val) = 6144 + l.val by omega)

/-- Section 13 of the packed weights. -/
theorem joined_13 (u0 u1 u2 u3 u4 u5 u6 u7 u8 u9 u11 u12 u13 : FVec Ideal S1024x512 .f32) (u10 : FVec Ideal S1024x3072 .f32) (d : Fin 1024) (l : Fin 512) :
    joined u0 u1 u2 u3 u4 u5 u6 u7 u8 u9 u11 u12 u13 u10 (ix2 d ⟨6656 + l.val, by omega⟩) = u10 (ix2 d ⟨1536 + l.val, by omega⟩) := by
  exact concatenate_apply_piece (t := S1024x9728) 1 _ _ _ 10 (by show 10 < 14; omega) S1024x3072 u10 rfl rfl 5120 (by rfl) (ix2 d ⟨1536 + l.val, by omega⟩)
    (fun q hq => match q with
      | ⟨0, _⟩ => rfl
      | ⟨1, _⟩ => absurd rfl hq) (show 5120 + (1536 + l.val) = 6656 + l.val by omega)

/-- Section 14 of the packed weights. -/
theorem joined_14 (u0 u1 u2 u3 u4 u5 u6 u7 u8 u9 u11 u12 u13 : FVec Ideal S1024x512 .f32) (u10 : FVec Ideal S1024x3072 .f32) (d : Fin 1024) (l : Fin 512) :
    joined u0 u1 u2 u3 u4 u5 u6 u7 u8 u9 u11 u12 u13 u10 (ix2 d ⟨7168 + l.val, by omega⟩) = u10 (ix2 d ⟨2048 + l.val, by omega⟩) := by
  exact concatenate_apply_piece (t := S1024x9728) 1 _ _ _ 10 (by show 10 < 14; omega) S1024x3072 u10 rfl rfl 5120 (by rfl) (ix2 d ⟨2048 + l.val, by omega⟩)
    (fun q hq => match q with
      | ⟨0, _⟩ => rfl
      | ⟨1, _⟩ => absurd rfl hq) (show 5120 + (2048 + l.val) = 7168 + l.val by omega)

/-- Section 15 of the packed weights. -/
theorem joined_15 (u0 u1 u2 u3 u4 u5 u6 u7 u8 u9 u11 u12 u13 : FVec Ideal S1024x512 .f32) (u10 : FVec Ideal S1024x3072 .f32) (d : Fin 1024) (l : Fin 512) :
    joined u0 u1 u2 u3 u4 u5 u6 u7 u8 u9 u11 u12 u13 u10 (ix2 d ⟨7680 + l.val, by omega⟩) = u10 (ix2 d ⟨2560 + l.val, by omega⟩) := by
  exact concatenate_apply_piece (t := S1024x9728) 1 _ _ _ 10 (by show 10 < 14; omega) S1024x3072 u10 rfl rfl 5120 (by rfl) (ix2 d ⟨2560 + l.val, by omega⟩)
    (fun q hq => match q with
      | ⟨0, _⟩ => rfl
      | ⟨1, _⟩ => absurd rfl hq) (show 5120 + (2560 + l.val) = 7680 + l.val by omega)

/-- Section 16 of the packed weights. -/
theorem joined_16 (u0 u1 u2 u3 u4 u5 u6 u7 u8 u9 u11 u12 u13 : FVec Ideal S1024x512 .f32) (u10 : FVec Ideal S1024x3072 .f32) (d : Fin 1024) (l : Fin 512) :
    joined u0 u1 u2 u3 u4 u5 u6 u7 u8 u9 u11 u12 u13 u10 (ix2 d ⟨8192 + l.val, by omega⟩) = u11 (ix2 d l) := by
  exact concatenate_apply_piece (t := S1024x9728) 1 _ _ _ 11 (by show 11 < 14; omega) S1024x512 u11 rfl rfl 8192 (by change (List.map _ [S1024x512, S1024x512, S1024x512, S1024x512, S1024x512, S1024x512, S1024x512, S1024x512, S1024x512, S1024x512, S1024x3072]).sum = 8192; decide +kernel) (ix2 d l)
    (fun q hq => match q with
      | ⟨0, _⟩ => rfl
      | ⟨1, _⟩ => absurd rfl hq) (rfl)

/-- Section 17 of the packed weights. -/
theorem joined_17 (u0 u1 u2 u3 u4 u5 u6 u7 u8 u9 u11 u12 u13 : FVec Ideal S1024x512 .f32) (u10 : FVec Ideal S1024x3072 .f32) (d : Fin 1024) (l : Fin 512) :
    joined u0 u1 u2 u3 u4 u5 u6 u7 u8 u9 u11 u12 u13 u10 (ix2 d ⟨8704 + l.val, by omega⟩) = u12 (ix2 d l) := by
  exact concatenate_apply_piece (t := S1024x9728) 1 _ _ _ 12 (by show 12 < 14; omega) S1024x512 u12 rfl rfl 8704 (by change (List.map _ [S1024x512, S1024x512, S1024x512, S1024x512, S1024x512, S1024x512, S1024x512, S1024x512, S1024x512, S1024x512, S1024x3072, S1024x512]).sum = 8704; decide +kernel) (ix2 d l)
    (fun q hq => match q with
      | ⟨0, _⟩ => rfl
      | ⟨1, _⟩ => absurd rfl hq) (rfl)

/-- Section 18 of the packed weights. -/
theorem joined_18 (u0 u1 u2 u3 u4 u5 u6 u7 u8 u9 u11 u12 u13 : FVec Ideal S1024x512 .f32) (u10 : FVec Ideal S1024x3072 .f32) (d : Fin 1024) (l : Fin 512) :
    joined u0 u1 u2 u3 u4 u5 u6 u7 u8 u9 u11 u12 u13 u10 (ix2 d ⟨9216 + l.val, by omega⟩) = u13 (ix2 d l) := by
  exact concatenate_apply_piece (t := S1024x9728) 1 _ _ _ 13 (by show 13 < 14; omega) S1024x512 u13 rfl rfl 9216 (by change (List.map _ [S1024x512, S1024x512, S1024x512, S1024x512, S1024x512, S1024x512, S1024x512, S1024x512, S1024x512, S1024x512, S1024x3072, S1024x512, S1024x512]).sum = 9216; decide +kernel) (ix2 d l)
    (fun q hq => match q with
      | ⟨0, _⟩ => rfl
      | ⟨1, _⟩ => absurd rfl hq) (rfl)

/-- The packed weights as the host puts them together. -/
def wide (c : Dev nD) : FVec Ideal S1024x9728 .f32 :=
  joined (extractStridedSlice S1024x512 ![0, 0] (m ((c : Thread nD τ).loc main_arg2)) slices_S1024x9808_S1024x512_0_0) (extractStridedSlice S1024x512 ![0, 512] (m ((c : Thread nD τ).loc main_arg2)) slices_S1024x9808_S1024x512_0_512) (extractStridedSlice S1024x512 ![0, 2048] (m ((c : Thread nD τ).loc main_arg2)) slices_S1024x9808_S1024x512_0_2048) (extractStridedSlice S1024x512 ![0, 2560] (m ((c : Thread nD τ).loc main_arg2)) slices_S1024x9808_S1024x512_0_2560) (extractStridedSlice S1024x512 ![0, 6144] (m ((c : Thread nD τ).loc main_arg2)) slices_S1024x9808_S1024x512_0_6144) (extractStridedSlice S1024x512 ![0, 1024] (m ((c : Thread nD τ).loc main_arg2)) slices_S1024x9808_S1024x512_0_1024) (extractStridedSlice S1024x512 ![0, 3072] (m ((c : Thread nD τ).loc main_arg2)) slices_S1024x9808_S1024x512_0_3072) (extractStridedSlice S1024x512 ![0, 4096] (m ((c : Thread nD τ).loc main_arg2)) slices_S1024x9808_S1024x512_0_4096) (extractStridedSlice S1024x512 ![0, 4608] (m ((c : Thread nD τ).loc main_arg2)) slices_S1024x9808_S1024x512_0_4608) (extractStridedSlice S1024x512 ![0, 5120] (m ((c : Thread nD τ).loc main_arg2)) slices_S1024x9808_S1024x512_0_5120) (extractStridedSlice S1024x512 ![0, 1536] (m ((c : Thread nD τ).loc main_arg2)) slices_S1024x9808_S1024x512_0_1536) (extractStridedSlice S1024x512 ![0, 3584] (m ((c : Thread nD τ).loc main_arg2)) slices_S1024x9808_S1024x512_0_3584) (extractStridedSlice S1024x512 ![0, 5632] (m ((c : Thread nD τ).loc main_arg2)) slices_S1024x9808_S1024x512_0_5632) (extractStridedSlice S1024x3072 ![0, 6736] (m ((c : Thread nD τ).loc main_arg2)) slices_S1024x9808_S1024x3072_0_6736)

/-- The packed weights' section `j` is a slice of the weights. -/
theorem wide_apply (c : Dev nD) (d : Fin 1024) (j : Fin 19) (l : Fin 512) :
    wide m c (ix2 d ⟨512 * j.val + l.val, by omega⟩)
      = (m ((c : Thread nD τ).loc main_arg2) : FVec Ideal S1024x9808 .f32) (ix2 d ⟨start j + l.val, by have := start_le j; omega⟩) := by
  obtain ⟨j, hj⟩ := j
  unfold wide
  interval_cases j
  · exact (joined_0 _ _ _ _ _ _ _ _ _ _ _ _ _ _ d l).trans (by pointwise; first | rfl | exact congrArg (fun k => (m ((c : Thread nD τ).loc main_arg2) : FVec Ideal S1024x9808 .f32) (ix2 d k)) (Fin.ext (by show _ = _; simp [start]; try omega)))
  · exact (joined_1 _ _ _ _ _ _ _ _ _ _ _ _ _ _ d l).trans (by pointwise; first | rfl | exact congrArg (fun k => (m ((c : Thread nD τ).loc main_arg2) : FVec Ideal S1024x9808 .f32) (ix2 d k)) (Fin.ext (by show _ = _; simp [start]; try omega)))
  · exact (joined_2 _ _ _ _ _ _ _ _ _ _ _ _ _ _ d l).trans (by pointwise; first | rfl | exact congrArg (fun k => (m ((c : Thread nD τ).loc main_arg2) : FVec Ideal S1024x9808 .f32) (ix2 d k)) (Fin.ext (by show _ = _; simp [start]; try omega)))
  · exact (joined_3 _ _ _ _ _ _ _ _ _ _ _ _ _ _ d l).trans (by pointwise; first | rfl | exact congrArg (fun k => (m ((c : Thread nD τ).loc main_arg2) : FVec Ideal S1024x9808 .f32) (ix2 d k)) (Fin.ext (by show _ = _; simp [start]; try omega)))
  · exact (joined_4 _ _ _ _ _ _ _ _ _ _ _ _ _ _ d l).trans (by pointwise; first | rfl | exact congrArg (fun k => (m ((c : Thread nD τ).loc main_arg2) : FVec Ideal S1024x9808 .f32) (ix2 d k)) (Fin.ext (by show _ = _; simp [start]; try omega)))
  · exact (joined_5 _ _ _ _ _ _ _ _ _ _ _ _ _ _ d l).trans (by pointwise; first | rfl | exact congrArg (fun k => (m ((c : Thread nD τ).loc main_arg2) : FVec Ideal S1024x9808 .f32) (ix2 d k)) (Fin.ext (by show _ = _; simp [start]; try omega)))
  · exact (joined_6 _ _ _ _ _ _ _ _ _ _ _ _ _ _ d l).trans (by pointwise; first | rfl | exact congrArg (fun k => (m ((c : Thread nD τ).loc main_arg2) : FVec Ideal S1024x9808 .f32) (ix2 d k)) (Fin.ext (by show _ = _; simp [start]; try omega)))
  · exact (joined_7 _ _ _ _ _ _ _ _ _ _ _ _ _ _ d l).trans (by pointwise; first | rfl | exact congrArg (fun k => (m ((c : Thread nD τ).loc main_arg2) : FVec Ideal S1024x9808 .f32) (ix2 d k)) (Fin.ext (by show _ = _; simp [start]; try omega)))
  · exact (joined_8 _ _ _ _ _ _ _ _ _ _ _ _ _ _ d l).trans (by pointwise; first | rfl | exact congrArg (fun k => (m ((c : Thread nD τ).loc main_arg2) : FVec Ideal S1024x9808 .f32) (ix2 d k)) (Fin.ext (by show _ = _; simp [start]; try omega)))
  · exact (joined_9 _ _ _ _ _ _ _ _ _ _ _ _ _ _ d l).trans (by pointwise; first | rfl | exact congrArg (fun k => (m ((c : Thread nD τ).loc main_arg2) : FVec Ideal S1024x9808 .f32) (ix2 d k)) (Fin.ext (by show _ = _; simp [start]; try omega)))
  · exact (joined_10 _ _ _ _ _ _ _ _ _ _ _ _ _ _ d l).trans (by pointwise; first | rfl | exact congrArg (fun k => (m ((c : Thread nD τ).loc main_arg2) : FVec Ideal S1024x9808 .f32) (ix2 d k)) (Fin.ext (by show _ = _; simp [start]; try omega)))
  · exact (joined_11 _ _ _ _ _ _ _ _ _ _ _ _ _ _ d l).trans (by pointwise; first | rfl | exact congrArg (fun k => (m ((c : Thread nD τ).loc main_arg2) : FVec Ideal S1024x9808 .f32) (ix2 d k)) (Fin.ext (by show _ = _; simp [start]; try omega)))
  · exact (joined_12 _ _ _ _ _ _ _ _ _ _ _ _ _ _ d l).trans (by pointwise; first | rfl | exact congrArg (fun k => (m ((c : Thread nD τ).loc main_arg2) : FVec Ideal S1024x9808 .f32) (ix2 d k)) (Fin.ext (by show _ = _; simp [start]; try omega)))
  · exact (joined_13 _ _ _ _ _ _ _ _ _ _ _ _ _ _ d l).trans (by pointwise; first | rfl | exact congrArg (fun k => (m ((c : Thread nD τ).loc main_arg2) : FVec Ideal S1024x9808 .f32) (ix2 d k)) (Fin.ext (by show _ = _; simp [start]; try omega)))
  · exact (joined_14 _ _ _ _ _ _ _ _ _ _ _ _ _ _ d l).trans (by pointwise; first | rfl | exact congrArg (fun k => (m ((c : Thread nD τ).loc main_arg2) : FVec Ideal S1024x9808 .f32) (ix2 d k)) (Fin.ext (by show _ = _; simp [start]; try omega)))
  · exact (joined_15 _ _ _ _ _ _ _ _ _ _ _ _ _ _ d l).trans (by pointwise; first | rfl | exact congrArg (fun k => (m ((c : Thread nD τ).loc main_arg2) : FVec Ideal S1024x9808 .f32) (ix2 d k)) (Fin.ext (by show _ = _; simp [start]; try omega)))
  · exact (joined_16 _ _ _ _ _ _ _ _ _ _ _ _ _ _ d l).trans (by pointwise; first | rfl | exact congrArg (fun k => (m ((c : Thread nD τ).loc main_arg2) : FVec Ideal S1024x9808 .f32) (ix2 d k)) (Fin.ext (by show _ = _; simp [start]; try omega)))
  · exact (joined_17 _ _ _ _ _ _ _ _ _ _ _ _ _ _ d l).trans (by pointwise; first | rfl | exact congrArg (fun k => (m ((c : Thread nD τ).loc main_arg2) : FVec Ideal S1024x9808 .f32) (ix2 d k)) (Fin.ext (by show _ = _; simp [start]; try omega)))
  · exact (joined_18 _ _ _ _ _ _ _ _ _ _ _ _ _ _ d l).trans (by pointwise; first | rfl | exact congrArg (fun k => (m ((c : Thread nD τ).loc main_arg2) : FVec Ideal S1024x9808 .f32) (ix2 d k)) (Fin.ext (by show _ = _; simp [start]; try omega)))

set_option maxHeartbeats 2000000 in
/-- The packed weights, of the arguments. -/
theorem weights (c : Dev nD) : (V m c main_v54 : FVec Ideal S1024x9728 .bf16) = truncf .bf16 (wide m c) bitsLt_bf16_f32 := by
  unfold V wide
  simp only [hostOps0, hostOps0_1, hostOps0_2, List.flatten_cons, List.flatten_nil, List.append_nil, List.cons_append, List.nil_append]
  after_reads_simp
  refine congrArg (fun z : FVec Ideal S1024x9728 .f32 => truncf (F := Ideal) .bf16 z _) ?_
  change joined _ _ _ _ _ _ _ _ _ _ _ _ _ _ = _
  congr 1 <;> (dsimp only [Matrix.cons_val]; after_reads_simp)

/-- The weights. -/
theorem read2 (c : Dev nD) (t : Fin cfg0.N) (d : Fin 1024) (l : Fin 512) :
    (iblk m c 2 t : Vec Ideal S1024x512 .bf16) (ix2 d l)
      = (m ((c : Thread nD τ).loc main_arg2) : FVec Ideal S1024x9808 .f32) (ix2 d ⟨start ⟨t.val % 19, by omega⟩ + l.val, by have := start_le ⟨t.val % 19, by omega⟩; omega⟩) := by
  obtain ⟨i0, i1, i2, -⟩ := idx t
  blk_simp [iblk]
  rw [weights]
  have e : (((View.whole main_v54).slice (win0_2.rect t)).emb (ix2 d l)) = (ix2 d ⟨512 * (⟨t.val % 19, by omega⟩ : Fin 19).val + l.val, by show 512 * (t.val % 19) + l.val < 9728; omega⟩ : S1024x9728.Idx) := by blk_ext [i2]
  rw [e]
  exact wide_apply m c d ⟨t.val % 19, by omega⟩ l

end Cert.ProjIdeal.Reads

end
-- ==== Proof.ProjTile.lean ====
/-
  The input projection's tiles: what each of the body's payloads computes, entry by entry, and what the blocks it stores hold.
-/
module

public import proofs.«01_k».proof.Proof.ProjIdealBody
public import Idealize.ShloMosaic.Lib.Pipeline.ValueKit
public import Idealize.ShloMosaic.Lib.Pointwise
public import Idealize.ShloMosaic.Lib.WordCmp
public import Idealize.ShloMosaic.Lib.Claim
public import proofs.«01_k».proof.Proof.ProjSpec

@[expose] public section

set_option maxRecDepth 16384

noncomputable section

namespace Cert.ProjIdeal.Tile

open Cert.ProjIdeal Cert.ProjIdeal.Gen Cert.ProjIdeal.Body Idealize.ShloMosaic Idealize.ShloMosaic.TcCoe Idealize.SL.Sem Cert.Project
open Cert.Merge (normed)

/-- The pattern of one reads one. -/
theorem one_bits : Ideal.ofBits .f32 0x3F800000#32 = 1 := by
  simp [Ideal.ofBits, Ideal.ieee]
  rw [← EReal.coe_mul, ← EReal.coe_one]; norm_num

/-- The normalised rows. -/
theorem pay10_apply (v29 : Vec Ideal S1024x1024 .f32) (v41 : Vec Ideal S1x1024 .f32) (r d : Fin 1024) :
    k0_pay10 (F := Ideal) v29 v41 (ix2 r d) = normed (fun e => v29 (ix2 r e)) (v41 (ix2 0 d)) d := by
  unfold normed
  pointwise [k0_pay10]

/-- A block of the product. -/
theorem pay5_apply (v9 : Vec Ideal S1024x1024 .bf16) (v10 : Vec Ideal S1024x512 .bf16) (r : Fin 1024) (l : Fin 512) :
    k0_pay5 (F := Ideal) v9 v10 (ix2 r l) = ∑ d : Fin 1024, (v9 (ix2 r d) : EReal) * v10 (ix2 d l) := by
  pointwise [k0_pay5]

/-- The spare columns' product. -/
theorem pay11_apply (v9 : Vec Ideal S1024x1024 .bf16) (v10 : Vec Ideal S1024x128 .bf16) (r : Fin 1024) (l : Fin 128) :
    k0_pay11 (F := Ideal) v9 v10 (ix2 r l) = ∑ d : Fin 1024, (v9 (ix2 r d) : EReal) * v10 (ix2 d l) := by
  pointwise [k0_pay11]

/-- A scaled block. -/
theorem pay7_apply (i : grid0.Coords) (v9 : Vec Ideal S1024x1024 .bf16) (v10 : Vec Ideal S1024x512 .bf16) (r : Fin 1024) (l : Fin 512) :
    k0_pay7 (F := Ideal) i v9 v10 (ix2 r l)
      = k0_pay5 (F := Ideal) v9 v10 (ix2 r l) * (if (i 1).val = 7 then Ideal.ofBits .f32 0x3E000000#32 else 1) := by
  have hi : (i 1).val < 19 := (i 1).isLt
  rw [← one_bits]
  pointwise [k0_pay7]
  simp (disch := word_cmp_side) only [hlo_ix]

/-- A squashed block. -/
theorem pay8_apply (v9 : Vec Ideal S1024x1024 .bf16) (v10 : Vec Ideal S1024x512 .bf16) (r : Fin 1024) (l : Fin 512) :
    k0_pay8 (F := Ideal) v9 v10 (ix2 r l) = squash (k0_pay5 (F := Ideal) v9 v10 (ix2 r l)) := by
  unfold squash
  pointwise [k0_pay8]
  rfl

/-- A block that gates itself. -/
theorem pay9_apply (v9 : Vec Ideal S1024x1024 .bf16) (v10 : Vec Ideal S1024x512 .bf16) (r : Fin 1024) (l : Fin 512) :
    k0_pay9 (F := Ideal) v9 v10 (ix2 r l) = k0_pay5 (F := Ideal) v9 v10 (ix2 r l) * squash (k0_pay5 (F := Ideal) v9 v10 (ix2 r l)) := by
  unfold squash
  pointwise [k0_pay9]
  rfl

/-- The absolute value is the larger of a number and its negative. -/
theorem absf_eq (z : EReal) : FloatOps.absf (F := Ideal) (φ := .f32) z = max z (-z) := rfl

/-- The forget gate's logarithm. -/
theorem pay12_apply (v49 : Vec Ideal S1024x1024 .bf16) (v50 : Vec Ideal S1024x128 .bf16) (v54 : Vec Ideal S1x128 .f32) (r : Fin 1024) (l : Fin 128) :
    k0_pay12 (F := Ideal) v49 v50 v54 (ix2 r l) = logSquash (k0_pay11 (F := Ideal) v49 v50 (ix2 r l) + v54 (ix2 0 l)) := by
  unfold logSquash
  pointwise [k0_pay12]
  rw [absf_eq, zero_sub]

/-- The first slab of a rotated block. -/
theorem slab0_apply (j : Fin 19) (v0 v2 v4 : Vec Ideal S1024x128 .f32) (v12 : FVec Ideal S1024x512 .f32) (s : Fin 4096) (r : Fin 1024) (l : Fin 128)
    (c1 : v0 (ix2 r l) = cosAt s ⟨l.val % 64, by omega⟩) (c3 : v2 (ix2 r l) = sinAhead s ⟨l.val % 64, by omega⟩)
    (c5 : v4 (ix2 r l) = sinBack s ⟨l.val % 64, by omega⟩) :
    k0_pay16 (F := Ideal) (BitVec.ofNat 32 j.val) (k0_pay1 v0) (k0_pay2 v2) (k0_pay3 v4) v12 (ix2 r l)
      = turned s (fun e => v12 (ix2 r ⟨0 + (l.val / 64 * 64 + e.val), by omega⟩)) ⟨l.val % 64, by omega⟩
        * (if j.val = 0 ∨ j.val = 2 then Ideal.ofBits .f32 0x3E000000#32 else 1) := by
  rw [← turned_of_tables s (fun k => v12 (ix2 r ⟨0 + k.val, by omega⟩)) l, ← one_bits, ← c1, ← c3, ← c5]
  pointwise [k0_pay16, k0_pay15, k0_pay1, k0_pay2, k0_pay3, k0_pay19]
  simp (disch := word_cmp_side) only [hlo_ix]
  simp only [show l.val + 128 - 120 = l.val + 8 from by omega, show l.val + 128 - 8 = l.val + 120 from by omega]

/-- The second slab of a rotated block. -/
theorem slab1_apply (j : Fin 19) (v0 v2 v4 : Vec Ideal S1024x128 .f32) (v12 : FVec Ideal S1024x512 .f32) (s : Fin 4096) (r : Fin 1024) (l : Fin 128)
    (c1 : v0 (ix2 r l) = cosAt s ⟨l.val % 64, by omega⟩) (c3 : v2 (ix2 r l) = sinAhead s ⟨l.val % 64, by omega⟩)
    (c5 : v4 (ix2 r l) = sinBack s ⟨l.val % 64, by omega⟩) :
    k0_pay17 (F := Ideal) (BitVec.ofNat 32 j.val) (k0_pay1 v0) (k0_pay2 v2) (k0_pay3 v4) v12 (ix2 r l)
      = turned s (fun e => v12 (ix2 r ⟨128 + (l.val / 64 * 64 + e.val), by omega⟩)) ⟨l.val % 64, by omega⟩
        * (if j.val = 0 ∨ j.val = 2 then Ideal.ofBits .f32 0x3E000000#32 else 1) := by
  rw [← turned_of_tables s (fun k => v12 (ix2 r ⟨128 + k.val, by omega⟩)) l, ← one_bits, ← c1, ← c3, ← c5]
  pointwise [k0_pay17, k0_pay15, k0_pay1, k0_pay2, k0_pay3, k0_pay19]
  simp (disch := word_cmp_side) only [hlo_ix]
  simp only [show l.val + 128 - 120 = l.val + 8 from by omega, show l.val + 128 - 8 = l.val + 120 from by omega]

/-- The third slab of a rotated block. -/
theorem slab2_apply (j : Fin 19) (v0 v2 v4 : Vec Ideal S1024x128 .f32) (v12 : FVec Ideal S1024x512 .f32) (s : Fin 4096) (r : Fin 1024) (l : Fin 128)
    (c1 : v0 (ix2 r l) = cosAt s ⟨l.val % 64, by omega⟩) (c3 : v2 (ix2 r l) = sinAhead s ⟨l.val % 64, by omega⟩)
    (c5 : v4 (ix2 r l) = sinBack s ⟨l.val % 64, by omega⟩) :
    k0_pay18 (F := Ideal) (BitVec.ofNat 32 j.val) (k0_pay1 v0) (k0_pay2 v2) (k0_pay3 v4) v12 (ix2 r l)
      = turned s (fun e => v12 (ix2 r ⟨256 + (l.val / 64 * 64 + e.val), by omega⟩)) ⟨l.val % 64, by omega⟩
        * (if j.val = 0 ∨ j.val = 2 then Ideal.ofBits .f32 0x3E000000#32 else 1) := by
  rw [← turned_of_tables s (fun k => v12 (ix2 r ⟨256 + k.val, by omega⟩)) l, ← one_bits, ← c1, ← c3, ← c5]
  pointwise [k0_pay18, k0_pay15, k0_pay1, k0_pay2, k0_pay3, k0_pay19]
  simp (disch := word_cmp_side) only [hlo_ix]
  simp only [show l.val + 128 - 120 = l.val + 8 from by omega, show l.val + 128 - 8 = l.val + 120 from by omega]

/-- The fourth slab of a rotated block. -/
theorem slab3_apply (j : Fin 19) (v0 v2 v4 : Vec Ideal S1024x128 .f32) (v12 : FVec Ideal S1024x512 .f32) (s : Fin 4096) (r : Fin 1024) (l : Fin 128)
    (c1 : v0 (ix2 r l) = cosAt s ⟨l.val % 64, by omega⟩) (c3 : v2 (ix2 r l) = sinAhead s ⟨l.val % 64, by omega⟩)
    (c5 : v4 (ix2 r l) = sinBack s ⟨l.val % 64, by omega⟩) :
    k0_pay6 (F := Ideal) v0 v2 v4 (k0_pay15 (BitVec.ofNat 32 j.val)) (k0_pay19 v12) (ix2 r l)
      = turned s (fun e => v12 (ix2 r ⟨384 + (l.val / 64 * 64 + e.val), by omega⟩)) ⟨l.val % 64, by omega⟩
        * (if j.val = 0 ∨ j.val = 2 then Ideal.ofBits .f32 0x3E000000#32 else 1) := by
  rw [← turned_of_tables s (fun k => v12 (ix2 r ⟨384 + k.val, by omega⟩)) l, ← one_bits, ← c1, ← c3, ← c5]
  pointwise [k0_pay6, k0_pay15, k0_pay1, k0_pay2, k0_pay3, k0_pay19]
  simp (disch := word_cmp_side) only [hlo_ix]
  simp only [show l.val + 128 - 120 = l.val + 8 from by omega, show l.val + 128 - 8 = l.val + 120 from by omega]

/-- The spare columns. -/
theorem pay4_apply (v0 v2 v4 : Vec Ideal S1024x128 .f32) (v49 : Vec Ideal S1024x1024 .bf16) (v50 : Vec Ideal S1024x128 .bf16) (v54 : Vec Ideal S1x128 .f32) (r : Fin 1024) (l : Fin 128) :
    k0_pay4 (F := Ideal) v2 v4 (k0_pay11 v49 v50) (iota .tc S1024x128 32 [1] iota_S1024x128_d1_w32) (k0_pay12 v49 v50 v54) k0_pay13 (k0_pay14 (k0_pay1 v0) v49 v50) (ix2 r l)
     = if l.val < 64 then k0_pay11 (F := Ideal) v49 v50 (ix2 r l) * v0 (ix2 r l) + k0_pay11 (F := Ideal) v49 v50 (ix2 r ⟨(l.val + 8) % 128, by omega⟩) * v2 (ix2 r l)
          + k0_pay11 (F := Ideal) v49 v50 (ix2 r ⟨(l.val + 120) % 128, by omega⟩) * v4 (ix2 r l)
       else if l.val < 72 then k0_pay11 (F := Ideal) v49 v50 (ix2 r l) * Ideal.ofBits .f32 0x3D3504F3#32
       else logSquash (k0_pay11 (F := Ideal) v49 v50 (ix2 r l) + v54 (ix2 0 l)) := by
  pointwise [k0_pay4, k0_pay2, k0_pay3, k0_pay13, k0_pay14, k0_pay1, pay12_apply]
  simp (disch := word_cmp_side) only [hlo_ix]
  simp only [show l.val + 128 - 120 = l.val + 8 from by omega, show l.val + 128 - 8 = l.val + 120 from by omega]

/-- The rows in the scratch, loaded whole. -/
theorem ldX (x : Vec Ideal S1024x1024 .bf16) : (View.ld x rX : Vec Ideal S1024x1024 .bf16) = x := by
  funext y
  idx_vars y
  pointwise

/-- A block of weights, loaded whole. -/
theorem ldP (x : Vec Ideal S1024x512 .bf16) : (View.ld x rP : Vec Ideal S1024x512 .bf16) = x := by
  funext y
  idx_vars y
  pointwise

/-- A table's block, loaded whole. -/
theorem ldL (x : Vec Ideal S1024x128 .f32) : (View.ld x rL : Vec Ideal S1024x128 .f32) = x := by
  funext y
  idx_vars y
  pointwise

/-- What the scratch holds. -/
theorem hidden_apply (x0 : Vec Ideal S1024x1024 .f32) (x1 : Vec Ideal S1x1024 .f32) (r d : Fin 1024) :
    Body.hidden x0 x1 (ix2 r d) = normed (fun e => x0 (ix2 r e)) (x1 (ix2 0 d)) d := by
  unfold Body.hidden
  frame_out
  rw [pay10_apply]

/-- A scaled block, from the rows and the weights. -/
theorem scaled_apply (i : grid0.Coords) (g : Vec Ideal S1024x1024 .bf16) (x2 : Vec Ideal S1024x512 .bf16) (r : Fin 1024) (l : Fin 512) :
    scaled i g x2 (ix2 r l) = (∑ d : Fin 1024, (g (ix2 r d) : EReal) * x2 (ix2 d l)) * (if (i 1).val = 7 then Ideal.ofBits .f32 0x3E000000#32 else 1) := by
  unfold scaled
  frame_out
  rw [pay7_apply, pay5_apply]

/-- A squashed block, from the rows and the weights. -/
theorem squashed_apply (g : Vec Ideal S1024x1024 .bf16) (x2 : Vec Ideal S1024x512 .bf16) (r : Fin 1024) (l : Fin 512) :
    squashed g x2 (ix2 r l) = squash (∑ d : Fin 1024, (g (ix2 r d) : EReal) * x2 (ix2 d l)) := by
  unfold squashed
  frame_out
  rw [pay8_apply, pay5_apply]

/-- A block that gates itself, from the rows and the weights. -/
theorem gated_apply (g : Vec Ideal S1024x1024 .bf16) (x2 : Vec Ideal S1024x512 .bf16) (r : Fin 1024) (l : Fin 512) :
    gated g x2 (ix2 r l) = (∑ d : Fin 1024, (g (ix2 r d) : EReal) * x2 (ix2 d l)) * squash (∑ d : Fin 1024, (g (ix2 r d) : EReal) * x2 (ix2 d l)) := by
  unfold gated
  frame_out
  rw [pay9_apply, pay5_apply]

/-- A rotated block, from the rows, the weights and the three tables. -/
theorem rotated_apply (i : grid0.Coords) (g : Vec Ideal S1024x1024 .bf16) (x2 : Vec Ideal S1024x512 .bf16) (x4 x5 x6 : Vec Ideal S1024x128 .f32)
    (s : Fin 4096) (r : Fin 1024) (f : Fin 512)
    (c1 : ∀ l : Fin 128, x4 (ix2 r l) = cosAt s ⟨l.val % 64, by omega⟩) (c3 : ∀ l : Fin 128, x5 (ix2 r l) = sinAhead s ⟨l.val % 64, by omega⟩)
    (c5 : ∀ l : Fin 128, x6 (ix2 r l) = sinBack s ⟨l.val % 64, by omega⟩) :
    rotated i g x2 x4 x5 x6 (ix2 r f)
      = turned s (fun e => ∑ d : Fin 1024, (g (ix2 r d) : EReal) * x2 (ix2 d ⟨f.val / 64 * 64 + e.val, by omega⟩)) ⟨f.val % 64, by omega⟩
        * (if (i 1).val = 0 ∨ (i 1).val = 2 then Ideal.ofBits .f32 0x3E000000#32 else 1) := by
  unfold rotated
  canon_tiles x h
  case piece0 =>
    idx_vars x
    have e0 : r = x0 := Fin.ext h0
    have e1 : f.val = 384 + x1.val := h1
    subst e0
    simp only [ldX, ldP, ldL]
    refine (slab3_apply (i 1) x4 x5 x6 _ s r x1 (c1 x1) (c3 x1) (c5 x1)).trans ?_
    refine congrArg₂ (fun a b => turned s a b * _) (funext fun e => ?_) (Fin.ext (by show _ % _ = _ % _; omega))
    refine (pay5_apply g x2 r _).trans (Finset.sum_congr rfl fun d _ => congrArg (fun k => (g (ix2 r d) : EReal) * x2 (ix2 d k)) (Fin.ext ?_))
    show 384 + (x1.val / 64 * 64 + e.val) = f.val / 64 * 64 + e.val
    omega
  case piece1 =>
    idx_vars x
    have e0 : r = x0 := Fin.ext h0
    have e1 : f.val = 256 + x1.val := h1
    subst e0
    simp only [ldX, ldP, ldL]
    refine (slab2_apply (i 1) x4 x5 x6 _ s r x1 (c1 x1) (c3 x1) (c5 x1)).trans ?_
    refine congrArg₂ (fun a b => turned s a b * _) (funext fun e => ?_) (Fin.ext (by show _ % _ = _ % _; omega))
    refine (pay5_apply g x2 r _).trans (Finset.sum_congr rfl fun d _ => congrArg (fun k => (g (ix2 r d) : EReal) * x2 (ix2 d k)) (Fin.ext ?_))
    show 256 + (x1.val / 64 * 64 + e.val) = f.val / 64 * 64 + e.val
    omega
  case piece2 =>
    idx_vars x
    have e0 : r = x0 := Fin.ext h0
    have e1 : f.val = 128 + x1.val := h1
    subst e0
    simp only [ldX, ldP, ldL]
    refine (slab1_apply (i 1) x4 x5 x6 _ s r x1 (c1 x1) (c3 x1) (c5 x1)).trans ?_
    refine congrArg₂ (fun a b => turned s a b * _) (funext fun e => ?_) (Fin.ext (by show _ % _ = _ % _; omega))
    refine (pay5_apply g x2 r _).trans (Finset.sum_congr rfl fun d _ => congrArg (fun k => (g (ix2 r d) : EReal) * x2 (ix2 d k)) (Fin.ext ?_))
    show 128 + (x1.val / 64 * 64 + e.val) = f.val / 64 * 64 + e.val
    omega
  case piece3 =>
    idx_vars x
    have e0 : r = x0 := Fin.ext h0
    have e1 : f.val = x1.val := h1
    subst e0
    simp only [ldX, ldP, ldL]
    refine (slab0_apply (i 1) x4 x5 x6 _ s r x1 (c1 x1) (c3 x1) (c5 x1)).trans ?_
    refine congrArg₂ (fun a b => turned s a b * _) (funext fun e => ?_) (Fin.ext (by show _ % _ = _ % _; omega))
    refine (pay5_apply g x2 r _).trans (Finset.sum_congr rfl fun d _ => congrArg (fun k => (g (ix2 r d) : EReal) * x2 (ix2 d k)) (Fin.ext ?_))
    show 0 + (x1.val / 64 * 64 + e.val) = f.val / 64 * 64 + e.val
    omega

/-- The spare columns, from the rows, the weights, the three tables and the bias. -/
theorem spare_apply (g : Vec Ideal S1024x1024 .bf16) (x3 : Vec Ideal S1024x128 .bf16) (x4 x5 x6 : Vec Ideal S1024x128 .f32) (x7 : Vec Ideal S1x128 .f32)
    (s : Fin 4096) (r : Fin 1024) (l : Fin 128)
    (c1 : ∀ l : Fin 128, x4 (ix2 r l) = cosAt s ⟨l.val % 64, by omega⟩) (c3 : ∀ l : Fin 128, x5 (ix2 r l) = sinAhead s ⟨l.val % 64, by omega⟩)
    (c5 : ∀ l : Fin 128, x6 (ix2 r l) = sinBack s ⟨l.val % 64, by omega⟩) :
    spare g x3 x4 x5 x6 x7 (ix2 r l)
      = if h : l.val < 64 then turned s (fun e => ∑ d : Fin 1024, (g (ix2 r d) : EReal) * x3 (ix2 d ⟨e.val, by omega⟩)) ⟨l.val, h⟩
        else if l.val < 72 then (∑ d : Fin 1024, (g (ix2 r d) : EReal) * x3 (ix2 d l)) * Ideal.ofBits .f32 0x3D3504F3#32
        else logSquash ((∑ d : Fin 1024, (g (ix2 r d) : EReal) * x3 (ix2 d l)) + x7 (ix2 0 l)) := by
  unfold spare
  frame_out
  rw [pay4_apply, c1, c3, c5, turned_of_tables s (fun k => k0_pay11 (F := Ideal) g x3 (ix2 r k)) l]
  by_cases h : l.val < 64
  · rw [if_pos h, dif_pos h]
    refine congrArg₂ (turned s) (funext fun e => ?_) (Fin.ext (Nat.mod_eq_of_lt h))
    refine (pay11_apply g x3 r _).trans (Finset.sum_congr rfl fun d _ => congrArg (fun k => (g (ix2 r d) : EReal) * x3 (ix2 d k)) (Fin.ext ?_))
    show l.val / 64 * 64 + e.val = e.val
    omega
  · rw [if_neg h, dif_neg h, pay11_apply]

end Cert.ProjIdeal.Tile

end
-- ==== Proof.ProjFinal.lean ====
/-
  The input projection's two results, row by row.
-/
module

public import proofs.«01_k».proof.Proof.ProjReads
public import proofs.«01_k».proof.Proof.ProjTables
public import proofs.«01_k».proof.Proof.ProjWeights
public import proofs.«01_k».proof.Proof.ProjTile
public import Idealize.ShloMosaic.Lib.Pipeline.ValueKit
public import Idealize.ShloMosaic.Lib.Pointwise
public import Idealize.ShloMosaic.Lib.WordCmp
public import Idealize.ShloMosaic.Lib.StableHlo.RunRead
public import Idealize.ShloMosaic.Lib.Claim
public import Idealize.ShloMosaic.Lib.Routing.OpsSet
public import proofs.«01_k».proof.Proof.ProjSpec

@[expose] public section

set_option maxRecDepth 16384

noncomputable section

namespace Cert.ProjIdeal.Final

open Cert.ProjIdeal Cert.ProjIdeal.Gen Cert.ProjIdeal.Run Cert.ProjIdeal.Reads Cert.ProjIdeal.Tile Idealize.ShloMosaic Idealize.ShloMosaic.TcCoe Idealize.SL.Sem Cert.Project
open Cert.ProjIdeal.Body (rotated scaled squashed gated spare)
open Cert.Merge (normed)
open Idealize.ShloMosaic.Pipeline (Dat)

variable (m : (ℓ : Loc nD τ sig) → Buf (Elt Ideal) ℓ)

/-- The tokens, batch after batch. -/
abbrev tok (c : Dev nD) (n : Fin 16384) (d : Fin 1024) : EReal :=
  (m ((c : Thread nD τ).loc main_arg0) : FVec Ideal S4x4096x1024 .f32) (ix3 ⟨n.val / 4096, by omega⟩ ⟨n.val % 4096, by omega⟩ d)
/-- The gain. -/
abbrev gain (c : Dev nD) (d : Fin 1024) : EReal := (m ((c : Thread nD τ).loc main_arg1) : FVec Ideal S1024 .f32) (ix1 d)
/-- The weights. -/
abbrev wts (c : Dev nD) (d : Fin 1024) (k : Fin 9808) : EReal := (m ((c : Thread nD τ).loc main_arg2) : FVec Ideal S1024x9808 .f32) (ix2 d k)
/-- The forget gate's bias. -/
abbrev fb (c : Dev nD) (k : Fin 8) : EReal := (m ((c : Thread nD τ).loc main_arg3) : FVec Ideal S8 .f32) (ix1 k)

/-- The token of row `r` of a point's tile. -/
def tokenOf (t : Fin cfg0.N) (r : Fin 1024) : Fin 16384 := ⟨1024 * (t.val / 19) + r.val, by have := lt304 t; omega⟩
/-- Its position in its batch. -/
def posOf (t : Fin cfg0.N) (r : Fin 1024) : Fin 4096 := ⟨(1024 * (t.val / 19) + r.val) % 4096, by omega⟩

/-- A row tile's first point has the row tile's tokens, -/
theorem tokenOf_base (t : Fin cfg0.N) (r : Fin 1024) : tokenOf (base t) r = tokenOf t r :=
  Fin.ext (by show 1024 * (19 * (t.val / 19) / 19) + r.val = 1024 * (t.val / 19) + r.val; omega)
/-- and their positions. -/
theorem posOf_base (t : Fin cfg0.N) (r : Fin 1024) : posOf (base t) r = posOf t r :=
  Fin.ext (by show (1024 * (19 * (t.val / 19) / 19) + r.val) % 4096 = (1024 * (t.val / 19) + r.val) % 4096; omega)

/-- What the scratch holds at a point: its tokens, normalised. -/
theorem hid_apply (c : Dev nD) (t : Fin cfg0.N) (r d : Fin 1024) :
    hid m c t (ix2 r d) = normed (tok m c (tokenOf t r)) (gain m c d) d := by
  unfold hid
  rw [hidden_apply, read1]
  refine congrArg (fun f : Fin 1024 → EReal => normed f (gain m c d) d) (funext fun e => ?_)
  refine (read0 m c (base t) r e).trans ?_
  rw [← tokenOf_base t r]
  rfl

/-- A point's block of the product. -/
theorem block (c : Dev nD) (t : Fin cfg0.N) (r : Fin 1024) (l : Fin 512) :
    (∑ d : Fin 1024, (hid m c t (ix2 r d) : EReal) * (iblk m c 2 t : Vec Ideal S1024x512 .bf16) (ix2 d l))
      = logit (tok m c (tokenOf t r)) (gain m c)
          (fun d => wts m c d ⟨start ⟨t.val % 19, by omega⟩ + l.val, by have := start_le ⟨t.val % 19, by omega⟩; omega⟩) :=
  Finset.sum_congr rfl fun d _ => congrArg₂ (· * ·) (hid_apply m c t r d) (read2 m c t d l)

/-- The spare columns' product. -/
theorem spareBlock (c : Dev nD) (t : Fin cfg0.N) (r : Fin 1024) (l : Fin 128) (h : l.val < 80) :
    (∑ d : Fin 1024, (hid m c t (ix2 r d) : EReal) * (iblk m c 3 (base t) : Vec Ideal S1024x128 .bf16) (ix2 d l))
      = logit (tok m c (tokenOf t r)) (gain m c) (fun d => wts m c d ⟨6656 + l.val, by omega⟩) :=
  Finset.sum_congr rfl fun d _ => congrArg₂ (· * ·) (hid_apply m c t r d) ((read3 m c (base t) d l).trans (dif_pos h))

/-- Past the eightieth column the spare product is zero. -/
theorem spareBlock_past (c : Dev nD) (t : Fin cfg0.N) (r : Fin 1024) (l : Fin 128) (h : ¬ l.val < 80) :
    (∑ d : Fin 1024, (hid m c t (ix2 r d) : EReal) * (iblk m c 3 (base t) : Vec Ideal S1024x128 .bf16) (ix2 d l)) = 0 :=
  Finset.sum_eq_zero fun d _ => by rw [show (iblk m c 3 (base t) : Vec Ideal S1024x128 .bf16) (ix2 d l) = (0 : EReal) from (read3 m c (base t) d l).trans (dif_neg h), mul_zero]

/-- The second coordinate of a point. -/
theorem coord : ∀ t : Fin cfg0.N, ((grid0.coords t) 1).val = t.val % 19 := (by decide +kernel : ∀ t : Fin grid0.N, _)

/-- The block a point writes, in its section's terms. -/
theorem packed_apply (c : Dev nD) (t : Fin cfg0.N) (r : Fin 1024) (l : Fin 512) :
    packed m c t (ix2 r l) = sectionAt (posOf t r) ⟨t.val % 19, by omega⟩
      (fun l => logit (tok m c (tokenOf t r)) (gain m c)
        (fun d => wts m c d ⟨start ⟨t.val % 19, by omega⟩ + l.val, by have := start_le ⟨t.val % 19, by omega⟩; omega⟩)) l := by
  unfold packed sectionAt
  by_cases h1 : t.val % 19 ≤ 4
  · rw [if_pos h1, if_pos (show t.val % 19 < 5 by omega)]
    rw [rotated_apply _ _ _ _ _ _ (posOf t r) r l (fun k => read4 m c t r k) (fun k => read5 m c t r k) (fun k => read6 m c t r k), coord]
    exact congrArg (fun z : Fin 64 → EReal => turned (posOf t r) z ⟨l.val % 64, by omega⟩ * (if t.val % 19 = 0 ∨ t.val % 19 = 2 then Ideal.ofBits .f32 0x3E000000#32 else 1))
      (funext fun e => block m c t r _)
  rw [if_neg h1, if_neg (show ¬ t.val % 19 < 5 by omega)]
  by_cases h2 : t.val % 19 ≤ 9
  · rw [if_pos h2, if_pos (show t.val % 19 < 10 by omega), scaled_apply, coord, block]
  rw [if_neg h2, if_neg (show ¬ t.val % 19 < 10 by omega)]
  by_cases h3 : t.val % 19 ≤ 15
  · rw [if_pos h3, if_pos (show t.val % 19 < 16 by omega), squashed_apply, block]
  rw [if_neg h3, if_neg (show ¬ t.val % 19 < 16 by omega), gated_apply, block]

/-- The spare columns a row tile leaves. -/
theorem small_apply (c : Dev nD) (t : Fin cfg0.N) (r : Fin 1024) (l : Fin 128) :
    small m c t (ix2 r l) = spareAt (posOf t r)
      (fun k => logit (tok m c (tokenOf t r)) (gain m c) (fun d => wts m c d ⟨6656 + k.val, by omega⟩)) (fb m c) l := by
  unfold small spareAt
  have c4 : ∀ k : Fin 128, (iblk m c 4 (base t) : Vec Ideal S1024x128 .f32) (ix2 r k) = cosAt (posOf t r) ⟨k.val % 64, by omega⟩ := fun k => by
    rw [← posOf_base]; exact read4 m c (base t) r k
  have c5 : ∀ k : Fin 128, (iblk m c 5 (base t) : Vec Ideal S1024x128 .f32) (ix2 r k) = sinAhead (posOf t r) ⟨k.val % 64, by omega⟩ := fun k => by
    rw [← posOf_base]; exact read5 m c (base t) r k
  have c6 : ∀ k : Fin 128, (iblk m c 6 (base t) : Vec Ideal S1024x128 .f32) (ix2 r k) = sinBack (posOf t r) ⟨k.val % 64, by omega⟩ := fun k => by
    rw [← posOf_base]; exact read6 m c (base t) r k
  rw [spare_apply _ _ _ _ _ _ (posOf t r) r l c4 c5 c6]
  by_cases h1 : l.val < 64
  · rw [dif_pos h1, dif_pos h1]
    exact congrArg (fun z : Fin 64 → EReal => turned (posOf t r) z ⟨l.val, h1⟩) (funext fun e => spareBlock m c t r _ (by show e.val < 80; omega))
  rw [dif_neg h1, dif_neg h1]
  by_cases h2 : l.val < 72
  · rw [if_pos h2, dif_pos h2, spareBlock m c t r l (by omega)]
  rw [if_neg h2, dif_neg h2, read7]
  by_cases h3 : l.val < 80
  · rw [dif_pos h3, dif_pos (⟨by omega, h3⟩ : 72 ≤ l.val ∧ l.val < 80), spareBlock m c t r l h3]
  · rw [dif_neg h3, dif_neg (fun e : 72 ≤ l.val ∧ l.val < 80 => h3 e.2), spareBlock_past m c t r l h3, add_zero]

/-- The packed result. -/
theorem final8 (c : Dev nD) : (dats m 0 c).arrAt 8 cfg0.N
    = (fun y : S16384x9728.Idx => packedTable (tok m c) (gain m c) (wts m c) (y 0) (y 1) : FVec Ideal S16384x9728 .bf16) := by
  refine (dats m 0 c).arrAt_eq_of_covers 8 _ (by decide +kernel) fun t _ y => ?_
  obtain ⟨-, -, -, -, -, -, -, -, i8, i9⟩ := idx t
  have ht := lt304 t
  rw [after8]
  blk_simp
  idx_vars y
  have e : ((View.whole main_v62_0).slice (win0_8.rect t)).emb (ix2 y0 y1)
      = (ix2 (tokenOf t y0) (⟨512 * (t.val % 19) + y1.val, by omega⟩ : Fin 9728) : S16384x9728.Idx) := by
    unfold tokenOf
    blk_ext [i8]
  rw [e]
  show _ = packedTable _ _ _ (tokenOf t y0) (⟨512 * (t.val % 19) + y1.val, by omega⟩ : Fin 9728)
  refine (packed_apply m c t y0 y1).trans ?_
  unfold packedTable
  have ej : (⟨t.val % 19, by omega⟩ : Fin 19) = ⟨(512 * (t.val % 19) + y1.val) / 512, by omega⟩ := Fin.ext (by show t.val % 19 = (512 * (t.val % 19) + y1.val) / 512; omega)
  have el : y1 = ⟨(512 * (t.val % 19) + y1.val) % 512, by omega⟩ := Fin.ext (by show y1.val = (512 * (t.val % 19) + y1.val) % 512; omega)
  exact congrArg₂ (fun (j : Fin 19) (l : Fin 512) => sectionAt (posOf t y0) j (fun k => logit (tok m c (tokenOf t y0)) (gain m c)
    (fun d => wts m c d ⟨start j + k.val, by have := start_le j; omega⟩)) l) ej el

/-- The spare columns. -/
theorem final9 (c : Dev nD) : (dats m 0 c).arrAt 9 cfg0.N
    = (fun y : S16384x128.Idx => spareTable (tok m c) (gain m c) (wts m c) (fb m c) (y 0) (y 1) : FVec Ideal S16384x128 .f32) := by
  refine (dats m 0 c).arrAt_eq_of_covers 9 _ (by decide +kernel) fun t _ y => ?_
  obtain ⟨-, -, -, -, -, -, -, -, i8, i9⟩ := idx t
  have ht := lt304 t
  rw [after9]
  blk_simp
  idx_vars y
  have e : ((View.whole main_v62_1).slice (win0_9.rect t)).emb (ix2 y0 y1) = (ix2 (tokenOf t y0) y1 : S16384x128.Idx) := by
    unfold tokenOf
    blk_ext [i9]
  rw [e]
  show _ = spareTable _ _ _ _ (tokenOf t y0) y1
  exact small_apply m c t y0 y1

end Cert.ProjIdeal.Final

end
-- ==== Proof.CsumSpec.lean ====
/-
  Prefix sums of a row of extended reals. No program is mentioned here.
-/
module

public import Idealize.ShloMosaic.Lib.Pointwise

@[expose] public section

noncomputable section

namespace Cert.Attn

/-- The sum of the first `j` numbers of the row `x`. -/
def prefixSum (x : Fin 4096 → EReal) (j : ℕ) : EReal :=
  ∑ k ∈ Finset.range j, if h : k < 4096 then x ⟨k, h⟩ else 0

/-- A sum over all positions of which only those up to `r` count is a sum over a range. -/
theorem sum_upto {n : ℕ} (f : ℕ → EReal) (r : Fin n) :
    ∑ c : Fin n, (if c ≤ r then f c.val else 0) = ∑ k ∈ Finset.range (r.val + 1), f k := by
  have e : ∀ c : Fin n, (if c ≤ r then f c.val else 0) = (fun k => if k ≤ r.val then f k else 0) c.val := fun c => rfl
  rw [Finset.sum_congr rfl fun c _ => e c, Fin.sum_univ_eq_sum_range (fun k => if k ≤ r.val then f k else 0) n,
    ← Finset.sum_filter]
  refine Finset.sum_congr (Finset.ext fun k => ?_) fun _ _ => rfl
  have := r.isLt
  rw [Finset.mem_range, Finset.mem_filter, Finset.mem_range]
  omega

/-- The sum of all numbers up to position `p` is a prefix sum. -/
theorem sum_le_eq (x : Fin 4096 → EReal) (p : Fin 4096) :
    ∑ k : Fin 4096, (if k ≤ p then x k else 0) = prefixSum x (p.val + 1) := by
  rw [prefixSum, ← sum_upto (fun k => if h : k < 4096 then x ⟨k, h⟩ else 0) p]
  exact Finset.sum_congr rfl fun k _ => by rw [dif_pos k.isLt]

/-- The prefix that ends inside chunk `q` is the prefix of the chunks before it and a sum inside the chunk. -/
theorem prefixSum_chunk (x : Fin 4096 → EReal) (q : ℕ) (hq : q < 8) (r : Fin 512) :
    ∑ c : Fin 512, (if c ≤ r then x ⟨q * 512 + c.val, by omega⟩ else 0) + prefixSum x (q * 512)
      = prefixSum x (q * 512 + r.val + 1) := by
  rw [add_assoc, prefixSum, prefixSum, Finset.sum_range_add, add_comm]
  congr 1
  rw [← sum_upto (fun k => if h : q * 512 + k < 4096 then x ⟨q * 512 + k, h⟩ else 0) r]
  exact Finset.sum_congr rfl fun c _ => by rw [dif_pos (by have := c.isLt; omega)]

/-- Split off twice what is left of a number that is not `+∞`, and the three parts add up to it again. -/
theorem parts {x : EReal} (h : x < ⊤) : x + (x - x) + ((x - x) - (x - x)) = x := by
  induction x using EReal.rec with
  | bot => simp
  | top => exact absurd h (lt_irrefl _)
  | coe x => rw [← EReal.coe_sub, ← EReal.coe_sub, ← EReal.coe_add, ← EReal.coe_add]; congr 1; ring

end Cert.Attn

end
-- ==== Proof.CsumRef.lean ====
/-
  The running sum's reference: every element is a prefix sum of its row.
-/
module

public import proofs.«01_k».proof.Proof.Gen.CsumRefIdeal.Run
public import proofs.«01_k».proof.Proof.CsumSpec
public import Idealize.ShloMosaic.Lib.Pointwise

@[expose] public section

set_option maxRecDepth 16384

noncomputable section

namespace Cert.CsumRefIdeal.Val

open Cert.CsumRefIdeal Cert.CsumRefIdeal.Gen Idealize.ShloMosaic Idealize.ShloMosaic.TcCoe Idealize.SL.Sem Cert.Attn

/-- The pattern of zero. -/
theorem zero_word : Ideal.ofBits .f32 0x00000000#32 = 0 := by
  simp [Ideal.ofBits, Ideal.ieee]

/-- Adding up a list from zero is the list's sum. -/
theorem foldl_add {ι : Type} (g : ι → EReal) (l : List ι) (v : EReal) :
    l.foldl (fun r n => r + g n) v = v + (l.map g).sum := by
  induction l generalizing v with
  | nil => simp
  | cons a l ih => rw [List.foldl_cons, ih, List.map_cons, List.sum_cons, add_assoc]

/-- A float window sum from zero, at any shapes, is the sum over the window's positions of what the padded operand
    holds there. -/
theorem window_sum {s t : Shape} (window strides lo hi : Fin s.rank → ℕ) (h : s.ReduceWindows window strides lo hi t)
    (x : s.Idx → EReal) (j : t.Idx) :
    Ideal.hostReduceWindowAdd window strides lo hi h x 0 j
      = ∑ w : (⟨s.rank, window⟩ : Shape).Idx,
        if hin : ∀ a, lo a ≤ (j (a.cast h.1.symm)).val * strides a + (w a).val
            ∧ (j (a.cast h.1.symm)).val * strides a + (w a).val - lo a < s.size a then
          x (fun a => ⟨(j (a.cast h.1.symm)).val * strides a + (w a).val - lo a, (hin a).2⟩) else 0 := by
  unfold Ideal.hostReduceWindowAdd Host.reduceWindow
  dsimp only
  rw [foldl_add, zero_add]
  exact (Fin.sum_univ_def _).symm.trans (Fintype.sum_equiv (⟨s.rank, window⟩ : Shape).rowMajor.symm _ _ fun n => by split_ifs <;> rfl)

/-- The host's float window sum is the sum above, started from the initial value's one element. -/
theorem host_window {s t u : Shape} (window strides lo hi : Fin s.rank → ℕ) (h : s.ReduceWindows window strides lo hi t)
    (hu : 0 < u.numel) (x : FVec Ideal s .f32) (v : FVec Ideal u .f32) (hv : v (Shape.Idx.first hu) = (0 : EReal)) :
    Host.reduceWindowAdd (F := Ideal) window strides lo hi x v h hu = Ideal.hostReduceWindowAdd window strides lo hi h x 0 := by
  rw [← hv]; rfl

/-- The shape of a window: the whole height of one lane. -/
abbrev Win : Shape := ⟨3, ![1, 4096, 1]⟩

/-- A window's positions are its rows. -/
def rows : Win.Idx ≃ Fin 4096 where
  toFun w := w 1
  invFun k := ix3 (0 : Fin 1) k (0 : Fin 1)
  left_inv w := by
    idx_vars w
    obtain rfl : w0 = 0 := Subsingleton.elim _ _
    obtain rfl : w2 = 0 := Subsingleton.elim _ _
    rfl
  right_inv k := rfl

/-- Moving a row on by a position and one, around the window's height. -/
theorem shift (u p : Fin 4096) : (u + (p + 1)).val = (p.val + u.val + 1) % 4096 := by
  rw [Fin.val_add, Fin.val_add]
  show (u.val + (p.val + 1) % 4096) % 4096 = _
  omega

/-- The reference's running sum at an element: the row's numbers up to the position. -/
theorem window_apply (x : FVec Ideal S4x4096x128 .f32) (v : FVec Ideal S_ .f32) (hv : v ix0 = (0 : EReal)) (b : Fin 4) (p : Fin 4096)
    (f : Fin 128) :
    Host.reduceWindowAdd (F := Ideal) (s := S4x4096x128) (t := S4x4096x128) ![1, 4096, 1] ![1, 1, 1] ![0, 4095, 0] ![0, 0, 0] x v
      reduceWindows_S4x4096x128_S4x4096x128_w1s1p0_0_w4096s1p4095_0_w1s1p0_0 h_S_ (ix3 b p f)
    = prefixSum (fun k => x (ix3 b k f)) (p.val + 1) := by
  have h0 : v (Shape.Idx.first h_S_) = (0 : EReal) := (congrArg v (Subsingleton.elim _ _)).trans hv
  let G : Win.Idx → EReal := fun w => if 4095 ≤ p.val + (w 1).val then
    x (ix3 b (⟨(p.val + (w 1).val + 1) % 4096, Nat.mod_lt _ (by decide)⟩ : Fin 4096) f) else 0
  have hG : ∀ w : Win.Idx, (if hin : ∀ a : Fin 3, (![0, 4095, 0] : Fin 3 → ℕ) a ≤ ((ix3 b p f : S4x4096x128.Idx) a).val * (![1, 1, 1] : Fin 3 → ℕ) a + (w a).val
        ∧ ((ix3 b p f : S4x4096x128.Idx) a).val * (![1, 1, 1] : Fin 3 → ℕ) a + (w a).val - (![0, 4095, 0] : Fin 3 → ℕ) a < S4x4096x128.size a then
      x (fun a => ⟨((ix3 b p f : S4x4096x128.Idx) a).val * (![1, 1, 1] : Fin 3 → ℕ) a + (w a).val - (![0, 4095, 0] : Fin 3 → ℕ) a, (hin a).2⟩)
      else (0 : EReal)) = G w := by
    intro w
    idx_vars w
    have hw0 := w0.isLt
    have hw1 := w1.isLt
    have hw2 := w2.isLt
    have hp := p.isLt
    show _ = if 4095 ≤ p.val + w1.val then
      x (ix3 b (⟨(p.val + w1.val + 1) % 4096, Nat.mod_lt _ (by decide)⟩ : Fin 4096) f) else 0
    by_cases h : 4095 ≤ p.val + w1.val
    · rw [if_pos h, dif_pos fun a => by
        match a with
        | ⟨0, _⟩ => show 0 ≤ b.val * 1 + w0.val ∧ b.val * 1 + w0.val - 0 < 4; omega
        | ⟨1, _⟩ => show 4095 ≤ p.val * 1 + w1.val ∧ p.val * 1 + w1.val - 4095 < 4096; omega
        | ⟨2, _⟩ => show 0 ≤ f.val * 1 + w2.val ∧ f.val * 1 + w2.val - 0 < 128; omega]
      refine congrArg x (funext fun a => Fin.ext ?_)
      match a with
      | ⟨0, _⟩ => show b.val * 1 + w0.val - 0 = b.val; omega
      | ⟨1, _⟩ => show p.val * 1 + w1.val - 4095 = (p.val + w1.val + 1) % 4096; omega
      | ⟨2, _⟩ => show f.val * 1 + w2.val - 0 = f.val; omega
    · rw [if_neg h, dif_neg fun hin => h ?_]
      have h1 : 4095 ≤ p.val * 1 + w1.val ∧ p.val * 1 + w1.val - 4095 < 4096 := hin 1
      omega
  rw [host_window _ _ _ _ _ _ _ _ h0, window_sum, ← sum_le_eq]
  refine (Finset.sum_congr rfl fun w _ => hG w).trans ?_
  refine Fintype.sum_equiv (rows.trans (Equiv.addRight (p + 1))) _ _ fun w => ?_
  have e1 : ((rows.trans (Equiv.addRight (p + 1))) w).val = (p.val + (w 1).val + 1) % 4096 := shift (w 1) p
  have hp := p.isLt
  have hw : (w 1).val < 4096 := (w 1).isLt
  show (if 4095 ≤ p.val + (w 1).val then _ else _) = _
  by_cases h : 4095 ≤ p.val + (w 1).val
  · rw [if_pos h, if_pos (Fin.le_def.2 (by rw [e1]; omega))]
    exact congrArg (fun k => x (ix3 b k f)) (Fin.ext e1.symm)
  · rw [if_neg h, if_neg fun hle => h ?_]
    have h2 := Fin.le_def.1 hle
    rw [e1] at h2
    omega

variable (m : (ℓ : Loc nD τ sig) → Buf (Elt Ideal) ℓ)

/-- The reference's result array: every element is a prefix sum of its row. -/
theorem result (c : Dev nD) (x : FVec Ideal S4x4096x128 .f32) (hx : m ((c : Thread nD τ).loc main_arg0) = x) :
    (Host.reduceWindowAdd (F := Ideal) (s := S4x4096x128) (t := S4x4096x128) ![1, 4096, 1] ![1, 1, 1] ![0, 4095, 0] ![0, 0, 0]
      (m ((c : Thread nD τ).loc main_arg0)) (broadcastInDim S_ ![] bcast_S_S_ (constant (F := Ideal) S_ .f32 0x00000000#32))
      reduceWindows_S4x4096x128_S4x4096x128_w1s1p0_0_w4096s1p4095_0_w1s1p0_0 h_S_)
      = (fun y : S4x4096x128.Idx => prefixSum (fun k => x (ix3 (y 0) k (y 2))) ((y 1).val + 1) : FVec Ideal S4x4096x128 .f32) := by
  rw [hx]
  funext y
  idx_vars y
  exact window_apply x _ zero_word y0 y1 y2

end Cert.CsumRefIdeal.Val

end
-- ==== Proof.CsumTile.lean ====
/-
  The running sum's kernel at one chunk of a row, read element by element.
-/
module

public import proofs.«01_k».proof.Proof.Gen.CsumIdeal.Value
public import proofs.«01_k».proof.Proof.CsumSpec
public import Idealize.ShloMosaic.Lib.Pointwise
public import Idealize.ShloMosaic.Lib.WordCmp

@[expose] public section

set_option maxRecDepth 16384

noncomputable section

namespace Cert.CsumIdeal.Tile

open Cert.CsumIdeal Cert.CsumIdeal.Gen Idealize.ShloMosaic Idealize.ShloMosaic.TcCoe Idealize.SL.Sem Cert.Attn
open Idealize.ShloMosaic.Pipeline (Dat)

/-- The triangle's element: one on and below the diagonal, zero above it. -/
theorem triangle (r c : Fin 512) : (FloatOps.sitofp (F := Ideal) FTy.f32
    (BitVec.setWidth 32 (IntOp.cmpi CmpIPredicate.sle (BitVec.ofNat 32 c.val) (BitVec.ofNat 32 r.val))) : EReal)
      = if c ≤ r then 1 else 0 := by
  simp (disch := word_cmp_side) only [hlo_ix]
  by_cases h : c ≤ r
  · rw [if_pos h, decide_eq_true (Fin.le_def.1 h)]
    show (((BitVec.toInt _ : ℤ) : ℝ) : EReal) = _
    simp
  · rw [if_neg h, decide_eq_false fun hle => h (Fin.le_def.2 hle)]
    show (((BitVec.toInt _ : ℤ) : ℝ) : EReal) = _
    simp

/-- A chunk's running sums: the chunk's numbers up to the row, and what is carried. -/
theorem chunk (v : Vec Ideal S1x512x128 .f32) (z : Vec Ideal S1x128 .f32) (r : Fin 512) (e : Fin 128)
    (hv : ∀ c, v (ix3 0 c e) < (⊤ : EReal)) :
    k0_pay2 (F := Ideal) v z (ix2 r e) = ∑ c : Fin 512, (if c ≤ r then v (ix3 0 c e) else 0) + z (ix2 0 e) := by
  pointwise [k0_pay2]
  have e : ∀ (c : Fin 512) (u : EReal), (if c ≤ r then (1 : EReal) else 0) * u = if c ≤ r then u else 0 := fun c u => by
    by_cases h : c ≤ r
    · rw [if_pos h, if_pos h, one_mul]
    · rw [if_neg h, if_neg h, zero_mul]
  simp only [triangle, e]
  rw [← Finset.sum_add_distrib, ← Finset.sum_add_distrib]
  congr 1
  refine Finset.sum_congr rfl fun c _ => ?_
  by_cases h : c ≤ r
  · simp only [if_pos h]; exact parts (hv c)
  · simp only [if_neg h, add_zero]

end Cert.CsumIdeal.Tile

end
-- ==== Proof.CsumFinal.lean ====
/-
  The running sum's result array: every element is a prefix sum of its row.
-/
module

public import proofs.«01_k».proof.Proof.CsumTile
public import Idealize.ShloMosaic.Lib.Pipeline.ValueKit

@[expose] public section

set_option maxRecDepth 16384

noncomputable section

namespace Cert.CsumIdeal.Tile

open Cert.CsumIdeal Cert.CsumIdeal.Gen Idealize.ShloMosaic Idealize.ShloMosaic.TcCoe Idealize.SL.Sem Cert.Attn
open Idealize.ShloMosaic.Pipeline (Dat)

/-- Which blocks a point works on, in closed form. -/
theorem idx : ∀ t : Fin cfg0.N,
    win0_0.index t = ![t.val / 8, t.val % 8, 0] ∧ win0_1.index t = ![t.val / 8, t.val % 8, 0] :=
  (by decide +kernel : ∀ t : Fin grid0.N, _)

/-- The output block is the chunk's running sums. -/
theorem pay3_apply (v : Vec Ideal S1x512x128 .f32) (z : Vec Ideal S1x128 .f32) (r : Fin 512) (e : Fin 128) :
    k0_pay3 (F := Ideal) v z (ix3 0 r e) = k0_pay2 (F := Ideal) v z (ix2 r e) := by
  pointwise [k0_pay3]

/-- What is carried is the chunk's last running sum, in every row. -/
theorem pay4_apply (v : Vec Ideal S1x512x128 .f32) (z : Vec Ideal S1x128 .f32) (j : Fin 8) (e : Fin 128) :
    k0_pay4 (F := Ideal) v z (ix2 j e) = k0_pay2 (F := Ideal) v z (ix2 511 e) := by
  pointwise [k0_pay4]

/-- A row's first point starts from zero. -/
theorem pay1_apply (j : Fin 8) (e : Fin 128) : k0_pay1 (F := Ideal) (ix2 j e) = (0 : EReal) := by
  pointwise [k0_pay1]

/-- The scratch's first row begins at the scratch's origin. -/
theorem row_idx (e : Fin 128) : (Rect.unit (s := S8x128) ![0, 0] ![1, 128] inb_S8x128_S1x128_0_0).idx (ix2 (0 : Fin 1) e)
    = (ix2 0 e : S8x128.Idx) := by
  funext a
  apply Fin.ext
  match a with
  | ⟨0, _⟩ => rfl
  | ⟨1, _⟩ => exact (Rect.idx_unit_val _ _ _ _ 1).trans (Nat.zero_add _)

/-- The scratch's first row, read back after the zeros were stored. -/
theorem zeroed (arg4 : Memref sig .tc .vmem S8x128 .f32) (e : Fin 128) :
    arg4.view.readCov [(⟨Rect.unit (s := S8x128) ![0, 0] ![8, 128] inb_S8x128_S8x128_0_0, k0_pay1 (F := Ideal)⟩ : View.Piece (Elt Ideal) S8x128 .f32)]
      (Rect.unit (s := S8x128) ![0, 0] ![1, 128] inb_S8x128_S1x128_0_0).toLoadRect (ix2 (0 : Fin 1) e) = (0 : EReal) := by
  rw [View.readCov_eq_canon', View.canon_cons_unit_lit (S := S8x128) (h := by decide)]
  refine Eq.trans (congrArg (k0_pay1 (F := Ideal)) (row_idx e)) (pay1_apply 0 e)

/-- The scratch's first row, read whole. -/
theorem first_row (xs0 : Vec Ideal S8x128 .f32) (e : Fin 128) :
    View.ld xs0 (Rect.unit (s := S8x128) ![0, 0] ![1, 128] inb_S8x128_S1x128_0_0) (ix2 (0 : Fin 1) e) = xs0 (ix2 0 e) :=
  congrArg xs0 (row_idx e)

section

variable (c : Dev nD) (i : grid0.Coords) (arg2 : Memref sig .tc .vmem S1x512x128 .f32) (harg2 : arg2.IsWhole)
  (arg3 : Memref sig .tc .vmem S1x512x128 .f32) (harg3 : arg3.IsWhole) (arg4 : Memref sig .tc .vmem S8x128 .f32) (harg4 : arg4.IsWhole)
  (x0 : Vec Ideal S1x512x128 .f32) (hv : ∀ c e, x0 (ix3 0 c e) < (⊤ : EReal))

include hv

/-- A row's first output block. -/
theorem out_A (hc0 : cond0_0 i) (r : Fin 512) (e : Fin 128) :
    out0_A_1 (F := Ideal) c i arg2 harg2 arg3 harg3 arg4 harg4 hc0 x0 (ix3 0 r e) = ∑ c : Fin 512, (if c ≤ r then x0 (ix3 0 c e) else 0) + 0 := by
  frame_out
  rw [pay3_apply, chunk _ _ _ _ (fun c => hv c e)]
  exact congrArg _ (zeroed arg4 e)

/-- A later output block, over what the point before carries. -/
theorem out_B (hc0 : ¬cond0_0 i) (xs0 : Vec Ideal S8x128 .f32) (r : Fin 512) (e : Fin 128) :
    out0_B_1 (F := Ideal) c i arg2 harg2 arg3 harg3 arg4 harg4 hc0 x0 xs0 (ix3 0 r e)
      = ∑ c : Fin 512, (if c ≤ r then x0 (ix3 0 c e) else 0) + xs0 (ix2 0 e) := by
  frame_out
  rw [pay3_apply, chunk _ _ _ _ (fun c => hv c e)]
  exact congrArg _ (first_row xs0 e)

/-- What a row's first point carries on. -/
theorem sout_A (hc0 : cond0_0 i) (j : Fin 8) (e : Fin 128) :
    sout0_A_0 (F := Ideal) c i arg2 harg2 arg3 harg3 arg4 harg4 hc0 x0 (ix2 j e) = ∑ c : Fin 512, (if c ≤ 511 then x0 (ix3 0 c e) else 0) + 0 := by
  frame_out
  rw [pay4_apply, chunk _ _ _ _ (fun c => hv c e)]
  exact congrArg _ (zeroed arg4 e)

/-- What a later point carries on. -/
theorem sout_B (hc0 : ¬cond0_0 i) (xs0 : Vec Ideal S8x128 .f32) (j : Fin 8) (e : Fin 128) :
    sout0_B_0 (F := Ideal) c i arg2 harg2 arg3 harg3 arg4 harg4 hc0 x0 xs0 (ix2 j e)
      = ∑ c : Fin 512, (if c ≤ 511 then x0 (ix3 0 c e) else 0) + xs0 (ix2 0 e) := by
  frame_out
  rw [pay4_apply, chunk _ _ _ _ (fun c => hv c e)]
  exact congrArg _ (first_row xs0 e)

end

variable (m : (ℓ : Loc nD τ sig) → Buf (Elt Ideal) ℓ)

/-- A point's chunk of its row. -/
theorem blk (c : Dev nD) (x : FVec Ideal S4x4096x128 .f32) (hx : m ((c : Thread nD τ).loc main_arg0) = x)
    (t : Fin cfg0.N) (b : Fin 4) (hb : b.val = t.val / 8) (k : Fin 512) (e : Fin 128) :
    (iblk m c 0 t : Vec Ideal S1x512x128 .f32) (ix3 0 k e) = x (ix3 b (⟨t.val % 8 * 512 + k.val, by omega⟩ : Fin 4096) e) := by
  obtain ⟨i0, i1⟩ := idx t
  subst hx
  blk_point [iblk, V, i0, hb]

/-- After every point: the output block is the row's prefix sums, and what is carried is the sum through the chunk. -/
theorem sums (c : Dev nD) (x : FVec Ideal S4x4096x128 .f32) (hx : m ((c : Thread nD τ).loc main_arg0) = x)
    (hlt : ∀ b k f, x (ix3 b k f) < (⊤ : EReal)) (n : ℕ) : ∀ (ht : n < cfg0.N) (b : Fin 4), b.val = n / 8 →
      (∀ (r : Fin 512) (e : Fin 128), (outsAt0 m c n ht).1 (ix3 0 r e) = prefixSum (fun k => x (ix3 b k e)) (n % 8 * 512 + r.val + 1))
      ∧ ∀ (j : Fin 8) (e : Fin 128), (outsAt0 m c n ht).2 (ix2 j e) = prefixSum (fun k => x (ix3 b k e)) (n % 8 * 512 + 511 + 1) := by
  induction n using Nat.strong_induction_on with
  | _ n ih =>
    intro ht b hb
    have hq : n % 8 < 8 := by omega
    obtain ⟨B, hB⟩ : ∃ B : S1x512x128.Idx → EReal, B = iblk m c 0 ⟨n, ht⟩ := ⟨_, rfl⟩
    have hk : ∀ (k : Fin 512) (e : Fin 128), B (ix3 0 k e) = x (ix3 b (⟨n % 8 * 512 + k.val, by omega⟩ : Fin 4096) e) :=
      fun k e => (congrFun hB _).trans (blk m c x hx ⟨n, ht⟩ b hb k e)
    have hv : ∀ (k : Fin 512) (e : Fin 128), B (ix3 0 k e) < (⊤ : EReal) := fun k e => by
      rw [hk]; exact hlt _ _ _
    have step : ∀ (r : Fin 512) (e : Fin 128) (s : EReal), s = prefixSum (fun k => x (ix3 b k e)) (n % 8 * 512) →
        ∑ k : Fin 512, (if k ≤ r then B (ix3 0 k e) else 0) + s
          = prefixSum (fun k => x (ix3 b k e)) (n % 8 * 512 + r.val + 1) := fun r e s hs => by
      rw [hs, ← prefixSum_chunk _ _ hq]
      congr 1
      exact Finset.sum_congr rfl fun k _ => by rw [hk]
    by_cases h0 : n % 8 = 0
    · have hz : ∀ e, (0 : EReal) = prefixSum (fun k => x (ix3 b k e)) (n % 8 * 512) := fun e => by
        rw [h0]; simp [prefixSum]
      rw [outsAt0_A m c ⟨n, ht⟩ h0]
      dsimp only
      rw [← hB]
      exact ⟨fun r e => (out_A c _ _ _ _ _ _ _ _ hv _ r e).trans (step r e _ (hz e)),
        fun j e => (sout_A c _ _ _ _ _ _ _ _ hv _ j e).trans (step 511 e _ (hz e))⟩
    · have hp : ∀ (j : Fin 8) (e : Fin 128), (outsAt0 m c (n - 1) (by omega)).2 (ix2 j e) = prefixSum (fun k => x (ix3 b k e)) (n % 8 * 512) := fun j e => by
        rw [(ih (n - 1) (by omega) (by omega) b (by omega)).2 j e]
        congr 1
        omega
      rw [outsAt0_B m c ⟨n, ht⟩ h0]
      dsimp only
      rw [← hB]
      exact ⟨fun r e => (out_B c _ _ _ _ _ _ _ _ hv _ _ r e).trans (step r e _ (hp 0 e)),
        fun j e => (sout_B c _ _ _ _ _ _ _ _ hv _ _ j e).trans (step 511 e _ (hp 0 e))⟩

/-- The result array, when every number is below plus infinity. -/
theorem final (c : Dev nD) (x : FVec Ideal S4x4096x128 .f32) (hx : m ((c : Thread nD τ).loc main_arg0) = x)
    (hlt : ∀ b k f, x (ix3 b k f) < (⊤ : EReal)) :
    (dats m 0 c).arrAt 1 (cfgs 0).N
      = (fun y : S4x4096x128.Idx => prefixSum (fun k => x (ix3 (y 0) k (y 2))) ((y 1).val + 1) : FVec Ideal S4x4096x128 .f32) := by
  refine (dats m 0 c).arrAt_eq_of_covers 1 _ (by decide +kernel) fun t _ y => ?_
  obtain ⟨i0, i1⟩ := idx t
  have ht : t.val < 32 := t.isLt
  rw [after0_1]
  idx_vars y
  obtain rfl : y0 = 0 := Subsingleton.elim _ _
  obtain ⟨b, hb⟩ : ∃ b : Fin 4, b.val = t.val / 8 := ⟨⟨t.val / 8, by omega⟩, rfl⟩
  have e : ((View.whole main_v0).slice (win0_1.rect t)).emb (ix3 0 y1 y2)
      = (ix3 b (⟨t.val % 8 * 512 + y1.val, by omega⟩ : Fin 4096) y2 : S4x4096x128.Idx) := by
    blk_ext [i1, hb]
  rw [e]
  exact (sums m c x hx hlt t.val t.isLt b hb).1 y1 y2

end Cert.CsumIdeal.Tile

end
-- ==== Proof.CsumPre.lean ====
/-
  The precondition, read at an element: every number of the running sum's argument is below plus infinity.
-/
module

public import proofs.«01_k».proof.Proof.Gen.Pre_cumsum_below
public import Idealize.ShloMosaic.Lib.Pointwise
public import Idealize.ShloMosaic.Lib.ReduceAll

@[expose] public section

set_option maxRecDepth 16384

noncomputable section

namespace Cert.Pre_cumsum_below

open Cert.Pre_cumsum_below.Gen Idealize.ShloMosaic Idealize.ShloMosaic.TcCoe Idealize.SL.Sem

/-- The pattern of plus infinity. -/
theorem pos_inf : Ideal.ofBits .f32 0x7F800000#32 = ⊤ := by
  simp [Ideal.ofBits, Ideal.ieee]

/-- A comparison's word that is one. -/
theorem lt_of_word {p : Prop} [Decidable p] (h : BitVec.ofBool (decide p) = 1#1) : p := by
  by_contra hp
  rw [decide_eq_false hp] at h
  exact absurd h (by decide)

/-- Where the precondition holds, every element of the argument is below plus infinity. -/
theorem below (x : FVec Ideal S4x4096x128 .f32) (h : fn (F := Ideal) x = fun _ => 1#1)
    (b : Fin 4) (p : Fin 4096) (f : Fin 128) : x (ix3 b p f) < (⊤ : EReal) := by
  have h0 := congrFun h ix0
  dsimp only [fn] at h0
  have e := Host.reduce_andi_all _ _ _ _ _ h0 (ix3 b p f)
  pointwise [pos_inf] at e
  exact lt_of_word e

end Cert.Pre_cumsum_below

end
-- ==== Proof.DsaSafe.lean ====
/-
  Programs that keep what they hold: from an assertion they run without fault and hand it back. How such programs compose.
-/
module

public import proofs.«01_k».proof.Proof.Gen.Dsa.Skeleton
public import proofs.«01_k».proof.Proof.Gen.Dsa.Frame
public import Idealize.ShloMosaic.Lib.Tactic

@[expose] public section

noncomputable section

namespace Cert.Dsa.Safe

open Cert.Dsa Cert.Dsa.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

/-- A program of the kernel's. -/
abbrev Body (F : FTy → Type) [BitOps F] (α : Type) : Type 1 := Prog (TpuEff nD τ sig (Elt F) Λ₀ .tc) α

/-- From `P` the program runs without fault, to its end, and hands `P` back. -/
def Keeps (c : Dev nD) (P : sProp 𝕄) {α : Type} (p : Body F α) : Prop :=
  ∀ E : Set ℕ, P ⊢ wp frame (wpE (defs₀ (F := F)) Variants.none (c : Thread nD τ) none) E p (fun _ => P)

/-- `P` holds a buffer, at contents it does not let change. -/
def Reads (c : Dev nD) (P : sProp 𝕄) {S : Shape} {e : EltTy} (M : Memref sig .tc .vmem S e) : Prop :=
  P ⊢ iprop(∃ f, (M.view.loc (c : Thread nD τ) ↦[M.view.set]{fullShare} f) ∗ ((M.view.loc (c : Thread nD τ) ↦[M.view.set]{fullShare} f) -∗ P))

/-- `P` holds a buffer, at whatever contents it has. -/
def Writes (c : Dev nD) (P : sProp 𝕄) {S : Shape} {e : EltTy} (M : Memref sig .tc .vmem S e) : Prop :=
  P ⊢ iprop(∃ f, (M.view.loc (c : Thread nD τ) ↦[M.view.set]{fullShare} f) ∗ (∀ g, (M.view.loc (c : Thread nD τ) ↦[M.view.set]{fullShare} g) -∗ P))

/-- A buffer held at whatever contents is in particular held. -/
theorem Writes.reads {c : Dev nD} {P : sProp 𝕄} {S : Shape} {e : EltTy} {M : Memref sig .tc .vmem S e} (h : Writes c P M) :
    Reads c P M := by
  unfold Reads
  refine BIBase.Entails.trans h ?_
  iintro ⟨%f, H, HP⟩
  iexists f
  isplitl [H]; · iexact H
  iapply HP

/-- A returned value keeps anything. -/
theorem keeps_pure {c : Dev nD} {P : sProp 𝕄} {α : Type} (a : α) : Keeps (F := F) c P (pure a : Body F α) := fun E => by
  rw [wp_pure]
  iintro H
  imodintro
  iexact H

/-- One program after another. -/
theorem keeps_bind {c : Dev nD} {P : sProp 𝕄} {α β : Type} {p : Body F α} {k : α → Body F β}
    (hp : Keeps c P p) (hk : ∀ a, Keeps c P (k a)) : Keeps c P (p >>= k) := fun E => by
  rw [wp_bind]
  exact BIBase.Entails.trans (hp E) (wp_mono _ _ _ fun a => hk a E)

/-- A counted loop, each of whose trips keeps what it holds. -/
theorem keeps_for {c : Dev nD} {P : sProp 𝕄} {w : ℕ} {σ : Type} {l : Scf.Loop w} {hok : l.OK} {init : σ}
    {body : Fin l.trips → σ → Body F σ} (h : ∀ t a, Keeps c P (body t a)) : Keeps c P (Scf.Loop.for l hok init body) := fun E => by
  refine BIBase.Entails.trans ?_ (Scf.wp_for frame (wpE (defs₀ (F := F)) Variants.none (c : Thread nD τ) none) E l.lb l.ub l.st hok init body (fun _ _ => P) fun t a => h t a E)
  iintro H
  isplitl [H]; · iexact H
  iintro %a H
  iexact H

/-- A choice between two programs. -/
theorem keeps_ite {c : Dev nD} {P : sProp 𝕄} {α : Type} {q : Prop} [Decidable q] {p p' : Body F α}
    (h : Keeps c P p) (h' : Keeps c P p') : Keeps c P (if q then p else p') := by
  split_ifs <;> assumption

/-- A load from a buffer held. -/
theorem keeps_load {c : Dev nD} {P : sProp 𝕄} {S : Shape} {e : EltTy} {M : Memref sig .tc .vmem S e} (h : Reads c P M)
    {r : LoadRect S} {hl : M.view.LoadsAt r} : Keeps c P (Prog.lift (.load M r hl) : Body F _) := fun E => by
  refine BIBase.Entails.trans h ?_
  unfold Prog.lift
  iintro ⟨%f, H, HP⟩
  sl_step
  sl_step
  iapply HP
  iexact H

/-- A store to a buffer held at whatever contents. -/
theorem keeps_store {c : Dev nD} {P : sProp 𝕄} {S : Shape} {e : EltTy} {M : Memref sig .tc .vmem S e} (h : Writes c P M)
    {r : Rect S} {x : r.shape.Idx → Elt F e} {Mk : Finset r.shape.Idx} {hx : (M.access r).Stores Mk} {hm : Mk = Finset.univ ∨ ∀ a, r.stride a = 1} :
    Keeps c P (Prog.lift (.store M r x Mk hx hm) : Body F _) := fun E => by
  refine BIBase.Entails.trans h ?_
  unfold Prog.lift
  iintro ⟨%f, H, HP⟩
  sl_step
  sl_step
  iapply HP
  iexact H

end Cert.Dsa.Safe

end
-- ==== Proof.DsaParts.lean ====
/-
  The sparse attention's body keeps what it holds: every stretch of it, and every trip of its loops.
-/
module

public import proofs.«01_k».proof.Proof.DsaSafe

@[expose] public section

set_option maxRecDepth 65536

noncomputable section

namespace Cert.Dsa.Safe

open Cert.Dsa Cert.Dsa.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

/-- `P` holds the body's eight buffers: the six it only reads, the result's, and the scratch's. -/
structure Held (c : Dev nD) (P : sProp 𝕄) (arg2 : Memref sig .tc .vmem S1x256x512 .bf16) (arg3 : Memref sig .tc .vmem S1x4096x512 .bf16) (arg4 : Memref sig .tc .vmem S1x4096x512 .bf16) (arg5 : Memref sig .tc .vmem S1x256x512 .bf16) (arg6 : Memref sig .tc .vmem S1x4096x128 .bf16) (arg7 : Memref sig .tc .vmem S1x256x128 .f32) (arg8 : Memref sig .tc .vmem S1x256x512 .bf16) (arg9 : Memref sig .tc .vmem S256x4096 .i32) : Prop where
  a2 : Reads (F := F) c P arg2
  a3 : Reads (F := F) c P arg3
  a4 : Reads (F := F) c P arg4
  a5 : Reads (F := F) c P arg5
  a6 : Reads (F := F) c P arg6
  a7 : Reads (F := F) c P arg7
  a8 : Writes (F := F) c P arg8
  a9 : Writes (F := F) c P arg9

set_option maxHeartbeats 400000 in
/-- Stretch 1 of the body keeps what it holds. -/
theorem part1 {c : Dev nD} {P : sProp 𝕄} (i : grid0.Coords) {arg2 : Memref sig .tc .vmem S1x256x512 .bf16} {harg2 : arg2.IsWhole} {arg3 : Memref sig .tc .vmem S1x4096x512 .bf16} {harg3 : arg3.IsWhole} {arg4 : Memref sig .tc .vmem S1x4096x512 .bf16} {harg4 : arg4.IsWhole} {arg5 : Memref sig .tc .vmem S1x256x512 .bf16} {harg5 : arg5.IsWhole} {arg6 : Memref sig .tc .vmem S1x4096x128 .bf16} {harg6 : arg6.IsWhole} {arg7 : Memref sig .tc .vmem S1x256x128 .f32} {harg7 : arg7.IsWhole} {arg8 : Memref sig .tc .vmem S1x256x512 .bf16} {harg8 : arg8.IsWhole} {arg9 : Memref sig .tc .vmem S256x4096 .i32} {harg9 : arg9.IsWhole}
    (h : Held (F := F) c P arg2 arg3 arg4 arg5 arg6 arg7 arg8 arg9) (v6 : FVec F S256x128 .f32) (c0_i32 : BitVec 32) (c1_i32_4 : BitVec 32) (k0_t1 : Fin (k0_t1_loop i).trips) :
    Keeps (F := F) c P (k0_part1 (F := F) i arg2 harg2 arg3 harg3 arg4 harg4 arg5 harg5 arg6 harg6 arg7 harg7 arg8 harg8 arg9 harg9 v6 c0_i32 c1_i32_4 k0_t1) := by
  rw [k0_part1_eq_skeleton]; unfold k0_part1_skel
  try dsimp only
  repeat' first
    | with_reducible refine keeps_bind ?_ fun _ => ?_
    | with_reducible exact keeps_pure _
    | with_reducible exact h.a5
    | with_reducible exact h.a6
    | refine keeps_load ?_

set_option maxHeartbeats 400000 in
/-- Stretch 2 of the body keeps what it holds. -/
theorem part2 {c : Dev nD} {P : sProp 𝕄} (i : grid0.Coords) {arg2 : Memref sig .tc .vmem S1x256x512 .bf16} {harg2 : arg2.IsWhole} {arg3 : Memref sig .tc .vmem S1x4096x512 .bf16} {harg3 : arg3.IsWhole} {arg4 : Memref sig .tc .vmem S1x4096x512 .bf16} {harg4 : arg4.IsWhole} {arg5 : Memref sig .tc .vmem S1x256x512 .bf16} {harg5 : arg5.IsWhole} {arg6 : Memref sig .tc .vmem S1x4096x128 .bf16} {harg6 : arg6.IsWhole} {arg7 : Memref sig .tc .vmem S1x256x128 .f32} {harg7 : arg7.IsWhole} {arg8 : Memref sig .tc .vmem S1x256x512 .bf16} {harg8 : arg8.IsWhole} {arg9 : Memref sig .tc .vmem S256x4096 .i32} {harg9 : arg9.IsWhole}
    (h : Held (F := F) c P arg2 arg3 arg4 arg5 arg6 arg7 arg8 arg9) (v6 : FVec F S256x128 .f32) (v269 : FVec F S256x128 .bf16) (v287 : FVec F S256x256 .f32) (v303 : FVec F S256x256 .f32) :
    Keeps (F := F) c P (k0_part2 (F := F) i arg2 harg2 arg3 harg3 arg4 harg4 arg5 harg5 arg6 harg6 arg7 harg7 arg8 harg8 arg9 harg9 v6 v269 v287 v303) := by
  rw [k0_part2_eq_skeleton]; unfold k0_part2_skel
  try dsimp only
  repeat' first
    | with_reducible refine keeps_bind ?_ fun _ => ?_
    | with_reducible exact keeps_pure _
    | with_reducible exact h.a5
    | refine keeps_load ?_

set_option maxHeartbeats 400000 in
/-- Stretch 3 of the body keeps what it holds. -/
theorem part3 {c : Dev nD} {P : sProp 𝕄} (i : grid0.Coords) {arg2 : Memref sig .tc .vmem S1x256x512 .bf16} {harg2 : arg2.IsWhole} {arg3 : Memref sig .tc .vmem S1x4096x512 .bf16} {harg3 : arg3.IsWhole} {arg4 : Memref sig .tc .vmem S1x4096x512 .bf16} {harg4 : arg4.IsWhole} {arg5 : Memref sig .tc .vmem S1x256x512 .bf16} {harg5 : arg5.IsWhole} {arg6 : Memref sig .tc .vmem S1x4096x128 .bf16} {harg6 : arg6.IsWhole} {arg7 : Memref sig .tc .vmem S1x256x128 .f32} {harg7 : arg7.IsWhole} {arg8 : Memref sig .tc .vmem S1x256x512 .bf16} {harg8 : arg8.IsWhole} {arg9 : Memref sig .tc .vmem S256x4096 .i32} {harg9 : arg9.IsWhole}
    (h : Held (F := F) c P arg2 arg3 arg4 arg5 arg6 arg7 arg8 arg9) (v6 : FVec F S256x128 .f32) (v269 : FVec F S256x128 .bf16) (v338 : FVec F S256x256 .f32) (v340 : FVec F S256x128 .bf16) (v341 : IVec S256x128 32) (v343 : IVec S256x128 1) :
    Keeps (F := F) c P (k0_part3 (F := F) i arg2 harg2 arg3 harg3 arg4 harg4 arg5 harg5 arg6 harg6 arg7 harg7 arg8 harg8 arg9 harg9 v6 v269 v338 v340 v341 v343) := by
  rw [k0_part3_eq_skeleton]; unfold k0_part3_skel
  try dsimp only
  repeat' first
    | with_reducible refine keeps_bind ?_ fun _ => ?_
    | with_reducible exact keeps_pure _
    | with_reducible exact h.a5
    | refine keeps_load ?_

set_option maxHeartbeats 400000 in
/-- Stretch 4 of the body keeps what it holds. -/
theorem part4 {c : Dev nD} {P : sProp 𝕄} (i : grid0.Coords) {arg2 : Memref sig .tc .vmem S1x256x512 .bf16} {harg2 : arg2.IsWhole} {arg3 : Memref sig .tc .vmem S1x4096x512 .bf16} {harg3 : arg3.IsWhole} {arg4 : Memref sig .tc .vmem S1x4096x512 .bf16} {harg4 : arg4.IsWhole} {arg5 : Memref sig .tc .vmem S1x256x512 .bf16} {harg5 : arg5.IsWhole} {arg6 : Memref sig .tc .vmem S1x4096x128 .bf16} {harg6 : arg6.IsWhole} {arg7 : Memref sig .tc .vmem S1x256x128 .f32} {harg7 : arg7.IsWhole} {arg8 : Memref sig .tc .vmem S1x256x512 .bf16} {harg8 : arg8.IsWhole} {arg9 : Memref sig .tc .vmem S256x4096 .i32} {harg9 : arg9.IsWhole}
    (h : Held (F := F) c P arg2 arg3 arg4 arg5 arg6 arg7 arg8 arg9) (arg1 : BitVec 32) (v3 : IVec S256x256 1) (v6 : FVec F S256x128 .f32) (c0_i32 : BitVec 32) (c1_i32_4 : BitVec 32) (k0_t1 : Fin (k0_t1_loop i).trips) :
    Keeps (F := F) c P (k0_part4 (F := F) i arg2 harg2 arg3 harg3 arg4 harg4 arg5 harg5 arg6 harg6 arg7 harg7 arg8 harg8 arg9 harg9 arg1 v3 v6 c0_i32 c1_i32_4 k0_t1) := by
  rw [k0_part4_eq_skeleton]; unfold k0_part4_skel
  try dsimp only
  repeat' first
    | with_reducible refine keeps_bind ?_ fun _ => ?_
    | with_reducible exact keeps_pure _
    | with_reducible exact h.a9
    | with_reducible exact h.a5
    | with_reducible exact h.a9.reads
    | with_reducible exact part1 i h _ _ _ _
    | with_reducible exact part2 i h _ _ _ _
    | with_reducible exact part3 i h _ _ _ _ _ _
    | split
    | refine keeps_load ?_
    | refine keeps_store ?_

set_option maxHeartbeats 400000 in
/-- A trip of the counted loop numbered 1 keeps what it holds. -/
theorem t1 {c : Dev nD} {P : sProp 𝕄} (i : grid0.Coords) {arg2 : Memref sig .tc .vmem S1x256x512 .bf16} {harg2 : arg2.IsWhole} {arg3 : Memref sig .tc .vmem S1x4096x512 .bf16} {harg3 : arg3.IsWhole} {arg4 : Memref sig .tc .vmem S1x4096x512 .bf16} {harg4 : arg4.IsWhole} {arg5 : Memref sig .tc .vmem S1x256x512 .bf16} {harg5 : arg5.IsWhole} {arg6 : Memref sig .tc .vmem S1x4096x128 .bf16} {harg6 : arg6.IsWhole} {arg7 : Memref sig .tc .vmem S1x256x128 .f32} {harg7 : arg7.IsWhole} {arg8 : Memref sig .tc .vmem S1x256x512 .bf16} {harg8 : arg8.IsWhole} {arg9 : Memref sig .tc .vmem S256x4096 .i32} {harg9 : arg9.IsWhole}
    (h : Held (F := F) c P arg2 arg3 arg4 arg5 arg6 arg7 arg8 arg9) (arg1 : BitVec 32) (v5 : Vec F S1x256x128 .f32) (trip : Fin (k0_t1_loop i).trips) (carried : BitVec 32) :
    Keeps (F := F) c P (k0_t1_body (F := F) i arg2 harg2 arg3 harg3 arg4 harg4 arg5 harg5 arg6 harg6 arg7 harg7 arg8 harg8 arg9 harg9 arg1 v5 trip carried) := by
  unfold k0_t1_body
  try dsimp only
  repeat' first
    | with_reducible refine keeps_bind ?_ fun _ => ?_
    | with_reducible exact keeps_pure _
    | with_reducible exact part4 i h _ _ _ _ _ _
    | split

set_option maxHeartbeats 400000 in
/-- Stretch 5 of the body keeps what it holds. -/
theorem part5 {c : Dev nD} {P : sProp 𝕄} (i : grid0.Coords) {arg2 : Memref sig .tc .vmem S1x256x512 .bf16} {harg2 : arg2.IsWhole} {arg3 : Memref sig .tc .vmem S1x4096x512 .bf16} {harg3 : arg3.IsWhole} {arg4 : Memref sig .tc .vmem S1x4096x512 .bf16} {harg4 : arg4.IsWhole} {arg5 : Memref sig .tc .vmem S1x256x512 .bf16} {harg5 : arg5.IsWhole} {arg6 : Memref sig .tc .vmem S1x4096x128 .bf16} {harg6 : arg6.IsWhole} {arg7 : Memref sig .tc .vmem S1x256x128 .f32} {harg7 : arg7.IsWhole} {arg8 : Memref sig .tc .vmem S1x256x512 .bf16} {harg8 : arg8.IsWhole} {arg9 : Memref sig .tc .vmem S256x4096 .i32} {harg9 : arg9.IsWhole}
    (h : Held (F := F) c P arg2 arg3 arg4 arg5 arg6 arg7 arg8 arg9) (v6 : FVec F S256x128 .f32) (v11 : BitVec 32) (c1_i32_5 : BitVec 32) (k0_t2 : Fin (k0_t2_loop i).trips) :
    Keeps (F := F) c P (k0_part5 (F := F) i arg2 harg2 arg3 harg3 arg4 harg4 arg5 harg5 arg6 harg6 arg7 harg7 arg8 harg8 arg9 harg9 v6 v11 c1_i32_5 k0_t2) := by
  rw [k0_part5_eq_skeleton]; unfold k0_part5_skel
  try dsimp only
  repeat' first
    | with_reducible refine keeps_bind ?_ fun _ => ?_
    | with_reducible exact keeps_pure _
    | with_reducible exact h.a5
    | with_reducible exact h.a6
    | refine keeps_load ?_

set_option maxHeartbeats 400000 in
/-- Stretch 6 of the body keeps what it holds. -/
theorem part6 {c : Dev nD} {P : sProp 𝕄} (i : grid0.Coords) {arg2 : Memref sig .tc .vmem S1x256x512 .bf16} {harg2 : arg2.IsWhole} {arg3 : Memref sig .tc .vmem S1x4096x512 .bf16} {harg3 : arg3.IsWhole} {arg4 : Memref sig .tc .vmem S1x4096x512 .bf16} {harg4 : arg4.IsWhole} {arg5 : Memref sig .tc .vmem S1x256x512 .bf16} {harg5 : arg5.IsWhole} {arg6 : Memref sig .tc .vmem S1x4096x128 .bf16} {harg6 : arg6.IsWhole} {arg7 : Memref sig .tc .vmem S1x256x128 .f32} {harg7 : arg7.IsWhole} {arg8 : Memref sig .tc .vmem S1x256x512 .bf16} {harg8 : arg8.IsWhole} {arg9 : Memref sig .tc .vmem S256x4096 .i32} {harg9 : arg9.IsWhole}
    (h : Held (F := F) c P arg2 arg3 arg4 arg5 arg6 arg7 arg8 arg9) (v6 : FVec F S256x128 .f32) (v269 : FVec F S256x128 .bf16) (v287 : FVec F S256x256 .f32) (v303 : FVec F S256x256 .f32) :
    Keeps (F := F) c P (k0_part6 (F := F) i arg2 harg2 arg3 harg3 arg4 harg4 arg5 harg5 arg6 harg6 arg7 harg7 arg8 harg8 arg9 harg9 v6 v269 v287 v303) := by
  rw [k0_part6_eq_skeleton]; unfold k0_part6_skel
  try dsimp only
  repeat' first
    | with_reducible refine keeps_bind ?_ fun _ => ?_
    | with_reducible exact keeps_pure _
    | with_reducible exact h.a5
    | refine keeps_load ?_

set_option maxHeartbeats 400000 in
/-- Stretch 7 of the body keeps what it holds. -/
theorem part7 {c : Dev nD} {P : sProp 𝕄} (i : grid0.Coords) {arg2 : Memref sig .tc .vmem S1x256x512 .bf16} {harg2 : arg2.IsWhole} {arg3 : Memref sig .tc .vmem S1x4096x512 .bf16} {harg3 : arg3.IsWhole} {arg4 : Memref sig .tc .vmem S1x4096x512 .bf16} {harg4 : arg4.IsWhole} {arg5 : Memref sig .tc .vmem S1x256x512 .bf16} {harg5 : arg5.IsWhole} {arg6 : Memref sig .tc .vmem S1x4096x128 .bf16} {harg6 : arg6.IsWhole} {arg7 : Memref sig .tc .vmem S1x256x128 .f32} {harg7 : arg7.IsWhole} {arg8 : Memref sig .tc .vmem S1x256x512 .bf16} {harg8 : arg8.IsWhole} {arg9 : Memref sig .tc .vmem S256x4096 .i32} {harg9 : arg9.IsWhole}
    (h : Held (F := F) c P arg2 arg3 arg4 arg5 arg6 arg7 arg8 arg9) (v6 : FVec F S256x128 .f32) (v269 : FVec F S256x128 .bf16) (v338 : FVec F S256x256 .f32) (v340 : FVec F S256x128 .bf16) (v341 : IVec S256x128 32) (v343 : IVec S256x128 1) :
    Keeps (F := F) c P (k0_part7 (F := F) i arg2 harg2 arg3 harg3 arg4 harg4 arg5 harg5 arg6 harg6 arg7 harg7 arg8 harg8 arg9 harg9 v6 v269 v338 v340 v341 v343) := by
  rw [k0_part7_eq_skeleton]; unfold k0_part7_skel
  try dsimp only
  repeat' first
    | with_reducible refine keeps_bind ?_ fun _ => ?_
    | with_reducible exact keeps_pure _
    | with_reducible exact h.a5
    | refine keeps_load ?_

set_option maxHeartbeats 400000 in
/-- Stretch 8 of the body keeps what it holds. -/
theorem part8 {c : Dev nD} {P : sProp 𝕄} (i : grid0.Coords) {arg2 : Memref sig .tc .vmem S1x256x512 .bf16} {harg2 : arg2.IsWhole} {arg3 : Memref sig .tc .vmem S1x4096x512 .bf16} {harg3 : arg3.IsWhole} {arg4 : Memref sig .tc .vmem S1x4096x512 .bf16} {harg4 : arg4.IsWhole} {arg5 : Memref sig .tc .vmem S1x256x512 .bf16} {harg5 : arg5.IsWhole} {arg6 : Memref sig .tc .vmem S1x4096x128 .bf16} {harg6 : arg6.IsWhole} {arg7 : Memref sig .tc .vmem S1x256x128 .f32} {harg7 : arg7.IsWhole} {arg8 : Memref sig .tc .vmem S1x256x512 .bf16} {harg8 : arg8.IsWhole} {arg9 : Memref sig .tc .vmem S256x4096 .i32} {harg9 : arg9.IsWhole}
    (h : Held (F := F) c P arg2 arg3 arg4 arg5 arg6 arg7 arg8 arg9) (arg1 : BitVec 32) (v3 : IVec S256x256 1) (v6 : FVec F S256x128 .f32) (v11 : BitVec 32) (c1_i32_5 : BitVec 32) (k0_t2 : Fin (k0_t2_loop i).trips) :
    Keeps (F := F) c P (k0_part8 (F := F) i arg2 harg2 arg3 harg3 arg4 harg4 arg5 harg5 arg6 harg6 arg7 harg7 arg8 harg8 arg9 harg9 arg1 v3 v6 v11 c1_i32_5 k0_t2) := by
  rw [k0_part8_eq_skeleton]; unfold k0_part8_skel
  try dsimp only
  repeat' first
    | with_reducible refine keeps_bind ?_ fun _ => ?_
    | with_reducible exact keeps_pure _
    | with_reducible exact h.a9
    | with_reducible exact h.a5
    | with_reducible exact h.a9.reads
    | with_reducible exact part5 i h _ _ _ _
    | with_reducible exact part6 i h _ _ _ _
    | with_reducible exact part7 i h _ _ _ _ _ _
    | split
    | refine keeps_load ?_
    | refine keeps_store ?_

set_option maxHeartbeats 400000 in
/-- A trip of the counted loop numbered 2 keeps what it holds. -/
theorem t2 {c : Dev nD} {P : sProp 𝕄} (i : grid0.Coords) {arg2 : Memref sig .tc .vmem S1x256x512 .bf16} {harg2 : arg2.IsWhole} {arg3 : Memref sig .tc .vmem S1x4096x512 .bf16} {harg3 : arg3.IsWhole} {arg4 : Memref sig .tc .vmem S1x4096x512 .bf16} {harg4 : arg4.IsWhole} {arg5 : Memref sig .tc .vmem S1x256x512 .bf16} {harg5 : arg5.IsWhole} {arg6 : Memref sig .tc .vmem S1x4096x128 .bf16} {harg6 : arg6.IsWhole} {arg7 : Memref sig .tc .vmem S1x256x128 .f32} {harg7 : arg7.IsWhole} {arg8 : Memref sig .tc .vmem S1x256x512 .bf16} {harg8 : arg8.IsWhole} {arg9 : Memref sig .tc .vmem S256x4096 .i32} {harg9 : arg9.IsWhole}
    (h : Held (F := F) c P arg2 arg3 arg4 arg5 arg6 arg7 arg8 arg9) (arg1 : BitVec 32) (v5 : Vec F S1x256x128 .f32) (v11 : BitVec 32) (trip : Fin (k0_t2_loop i).trips) (carried : BitVec 32) :
    Keeps (F := F) c P (k0_t2_body (F := F) i arg2 harg2 arg3 harg3 arg4 harg4 arg5 harg5 arg6 harg6 arg7 harg7 arg8 harg8 arg9 harg9 arg1 v5 v11 trip carried) := by
  unfold k0_t2_body
  try dsimp only
  repeat' first
    | with_reducible refine keeps_bind ?_ fun _ => ?_
    | with_reducible exact keeps_pure _
    | with_reducible exact part8 i h _ _ _ _ _ _
    | split

set_option maxHeartbeats 400000 in
/-- A trip of the counted loop numbered 3 keeps what it holds. -/
theorem t3 {c : Dev nD} {P : sProp 𝕄} (i : grid0.Coords) {arg2 : Memref sig .tc .vmem S1x256x512 .bf16} {harg2 : arg2.IsWhole} {arg3 : Memref sig .tc .vmem S1x4096x512 .bf16} {harg3 : arg3.IsWhole} {arg4 : Memref sig .tc .vmem S1x4096x512 .bf16} {harg4 : arg4.IsWhole} {arg5 : Memref sig .tc .vmem S1x256x512 .bf16} {harg5 : arg5.IsWhole} {arg6 : Memref sig .tc .vmem S1x4096x128 .bf16} {harg6 : arg6.IsWhole} {arg7 : Memref sig .tc .vmem S1x256x128 .f32} {harg7 : arg7.IsWhole} {arg8 : Memref sig .tc .vmem S1x256x512 .bf16} {harg8 : arg8.IsWhole} {arg9 : Memref sig .tc .vmem S256x4096 .i32} {harg9 : arg9.IsWhole}
    (h : Held (F := F) c P arg2 arg3 arg4 arg5 arg6 arg7 arg8 arg9) (trip : Fin (k0_t3_loop i).trips) (carried : FVec F S256x128 .f32) :
    Keeps (F := F) c P (k0_t3_body (F := F) i arg2 harg2 arg3 harg3 arg4 harg4 arg5 harg5 arg6 harg6 arg7 harg7 arg8 harg8 arg9 harg9 trip carried) := by
  unfold k0_t3_body
  try dsimp only
  repeat' first
    | with_reducible refine keeps_bind ?_ fun _ => ?_
    | with_reducible exact keeps_pure _
    | with_reducible exact h.a9.reads
    | split
    | refine keeps_load ?_

set_option maxHeartbeats 400000 in
/-- A trip of the counted loop numbered 4 keeps what it holds. -/
theorem t4 {c : Dev nD} {P : sProp 𝕄} (i : grid0.Coords) {arg2 : Memref sig .tc .vmem S1x256x512 .bf16} {harg2 : arg2.IsWhole} {arg3 : Memref sig .tc .vmem S1x4096x512 .bf16} {harg3 : arg3.IsWhole} {arg4 : Memref sig .tc .vmem S1x4096x512 .bf16} {harg4 : arg4.IsWhole} {arg5 : Memref sig .tc .vmem S1x256x512 .bf16} {harg5 : arg5.IsWhole} {arg6 : Memref sig .tc .vmem S1x4096x128 .bf16} {harg6 : arg6.IsWhole} {arg7 : Memref sig .tc .vmem S1x256x128 .f32} {harg7 : arg7.IsWhole} {arg8 : Memref sig .tc .vmem S1x256x512 .bf16} {harg8 : arg8.IsWhole} {arg9 : Memref sig .tc .vmem S256x4096 .i32} {harg9 : arg9.IsWhole}
    (h : Held (F := F) c P arg2 arg3 arg4 arg5 arg6 arg7 arg8 arg9) (trip : Fin (k0_t4_loop i).trips) (carried : FVec F S256x128 .f32) :
    Keeps (F := F) c P (k0_t4_body (F := F) i arg2 harg2 arg3 harg3 arg4 harg4 arg5 harg5 arg6 harg6 arg7 harg7 arg8 harg8 arg9 harg9 trip carried) := by
  unfold k0_t4_body
  try dsimp only
  repeat' first
    | with_reducible refine keeps_bind ?_ fun _ => ?_
    | with_reducible exact keeps_pure _
    | with_reducible exact h.a9.reads
    | split
    | refine keeps_load ?_

set_option maxHeartbeats 400000 in
/-- Stretch 9 of the body keeps what it holds. -/
theorem part9 {c : Dev nD} {P : sProp 𝕄} (i : grid0.Coords) {arg2 : Memref sig .tc .vmem S1x256x512 .bf16} {harg2 : arg2.IsWhole} {arg3 : Memref sig .tc .vmem S1x4096x512 .bf16} {harg3 : arg3.IsWhole} {arg4 : Memref sig .tc .vmem S1x4096x512 .bf16} {harg4 : arg4.IsWhole} {arg5 : Memref sig .tc .vmem S1x256x512 .bf16} {harg5 : arg5.IsWhole} {arg6 : Memref sig .tc .vmem S1x4096x128 .bf16} {harg6 : arg6.IsWhole} {arg7 : Memref sig .tc .vmem S1x256x128 .f32} {harg7 : arg7.IsWhole} {arg8 : Memref sig .tc .vmem S1x256x512 .bf16} {harg8 : arg8.IsWhole} {arg9 : Memref sig .tc .vmem S256x4096 .i32} {harg9 : arg9.IsWhole}
    (h : Held (F := F) c P arg2 arg3 arg4 arg5 arg6 arg7 arg8 arg9) :
    Keeps (F := F) c P (k0_part9 (F := F) i arg2 harg2 arg3 harg3 arg4 harg4 arg5 harg5 arg6 harg6 arg7 harg7 arg8 harg8 arg9 harg9) := by
  rw [k0_part9_eq_skeleton]; unfold k0_part9_skel
  try dsimp only
  repeat' first
    | with_reducible refine keeps_bind ?_ fun _ => ?_
    | with_reducible exact keeps_pure _
    | with_reducible exact h.a7
    | with_reducible exact keeps_for fun _ _ => t1 i h _ _ _ _
    | with_reducible exact keeps_for fun _ _ => t2 i h _ _ _ _ _
    | with_reducible exact keeps_for fun _ _ => t3 i h _ _
    | with_reducible exact keeps_for fun _ _ => t4 i h _ _
    | split
    | refine keeps_load ?_

set_option maxHeartbeats 400000 in
/-- A trip of the counted loop numbered 6 keeps what it holds. -/
theorem t6 {c : Dev nD} {P : sProp 𝕄} (i : grid0.Coords) {arg2 : Memref sig .tc .vmem S1x256x512 .bf16} {harg2 : arg2.IsWhole} {arg3 : Memref sig .tc .vmem S1x4096x512 .bf16} {harg3 : arg3.IsWhole} {arg4 : Memref sig .tc .vmem S1x4096x512 .bf16} {harg4 : arg4.IsWhole} {arg5 : Memref sig .tc .vmem S1x256x512 .bf16} {harg5 : arg5.IsWhole} {arg6 : Memref sig .tc .vmem S1x4096x128 .bf16} {harg6 : arg6.IsWhole} {arg7 : Memref sig .tc .vmem S1x256x128 .f32} {harg7 : arg7.IsWhole} {arg8 : Memref sig .tc .vmem S1x256x512 .bf16} {harg8 : arg8.IsWhole} {arg9 : Memref sig .tc .vmem S256x4096 .i32} {harg9 : arg9.IsWhole}
    (h : Held (F := F) c P arg2 arg3 arg4 arg5 arg6 arg7 arg8 arg9) (v0 : BitVec 32) (v4 : IVec S256x256 32) (v28 : IVec S256x1 32) (v34 : FVec F S256x1 .f32) (c0_i32_14 : BitVec 32) (k0_t5 : Fin k0_t5_loop.trips) (arg11 : IVec S256x1 32) (trip : Fin (k0_t6_loop i).trips) (carried : FVec F S256x128 .f32) :
    Keeps (F := F) c P (k0_t6_body (F := F) i arg2 harg2 arg3 harg3 arg4 harg4 arg5 harg5 arg6 harg6 arg7 harg7 arg8 harg8 arg9 harg9 v0 v4 v28 v34 c0_i32_14 k0_t5 arg11 trip carried) := by
  unfold k0_t6_body
  try dsimp only
  repeat' first
    | with_reducible refine keeps_bind ?_ fun _ => ?_
    | with_reducible exact keeps_pure _
    | with_reducible exact h.a9.reads
    | split
    | refine keeps_load ?_

set_option maxHeartbeats 400000 in
/-- A trip of the counted loop numbered 7 keeps what it holds. -/
theorem t7 {c : Dev nD} {P : sProp 𝕄} (i : grid0.Coords) {arg2 : Memref sig .tc .vmem S1x256x512 .bf16} {harg2 : arg2.IsWhole} {arg3 : Memref sig .tc .vmem S1x4096x512 .bf16} {harg3 : arg3.IsWhole} {arg4 : Memref sig .tc .vmem S1x4096x512 .bf16} {harg4 : arg4.IsWhole} {arg5 : Memref sig .tc .vmem S1x256x512 .bf16} {harg5 : arg5.IsWhole} {arg6 : Memref sig .tc .vmem S1x4096x128 .bf16} {harg6 : arg6.IsWhole} {arg7 : Memref sig .tc .vmem S1x256x128 .f32} {harg7 : arg7.IsWhole} {arg8 : Memref sig .tc .vmem S1x256x512 .bf16} {harg8 : arg8.IsWhole} {arg9 : Memref sig .tc .vmem S256x4096 .i32} {harg9 : arg9.IsWhole}
    (h : Held (F := F) c P arg2 arg3 arg4 arg5 arg6 arg7 arg8 arg9) (v0 : BitVec 32) (v4 : IVec S256x256 32) (v28 : IVec S256x1 32) (v34 : FVec F S256x1 .f32) (c0_i32_14 : BitVec 32) (k0_t5 : Fin k0_t5_loop.trips) (arg11 : IVec S256x1 32) (trip : Fin (k0_t7_loop i).trips) (carried : FVec F S256x128 .f32) :
    Keeps (F := F) c P (k0_t7_body (F := F) i arg2 harg2 arg3 harg3 arg4 harg4 arg5 harg5 arg6 harg6 arg7 harg7 arg8 harg8 arg9 harg9 v0 v4 v28 v34 c0_i32_14 k0_t5 arg11 trip carried) := by
  unfold k0_t7_body
  try dsimp only
  repeat' first
    | with_reducible refine keeps_bind ?_ fun _ => ?_
    | with_reducible exact keeps_pure _
    | with_reducible exact h.a9.reads
    | split
    | refine keeps_load ?_

set_option maxHeartbeats 400000 in
/-- A trip of the counted loop numbered 5 keeps what it holds. -/
theorem t5 {c : Dev nD} {P : sProp 𝕄} (i : grid0.Coords) {arg2 : Memref sig .tc .vmem S1x256x512 .bf16} {harg2 : arg2.IsWhole} {arg3 : Memref sig .tc .vmem S1x4096x512 .bf16} {harg3 : arg3.IsWhole} {arg4 : Memref sig .tc .vmem S1x4096x512 .bf16} {harg4 : arg4.IsWhole} {arg5 : Memref sig .tc .vmem S1x256x512 .bf16} {harg5 : arg5.IsWhole} {arg6 : Memref sig .tc .vmem S1x4096x128 .bf16} {harg6 : arg6.IsWhole} {arg7 : Memref sig .tc .vmem S1x256x128 .f32} {harg7 : arg7.IsWhole} {arg8 : Memref sig .tc .vmem S1x256x512 .bf16} {harg8 : arg8.IsWhole} {arg9 : Memref sig .tc .vmem S256x4096 .i32} {harg9 : arg9.IsWhole}
    (h : Held (F := F) c P arg2 arg3 arg4 arg5 arg6 arg7 arg8 arg9) (v0 : BitVec 32) (v4 : IVec S256x256 32) (v28 : IVec S256x1 32) (v34 : FVec F S256x1 .f32) (c0_i32_14 : BitVec 32) (trip : Fin k0_t5_loop.trips) (carried : IVec S256x1 32 × FVec F S256x1 .f32) :
    Keeps (F := F) c P (k0_t5_body (F := F) i arg2 harg2 arg3 harg3 arg4 harg4 arg5 harg5 arg6 harg6 arg7 harg7 arg8 harg8 arg9 harg9 v0 v4 v28 v34 c0_i32_14 trip carried) := by
  unfold k0_t5_body
  try dsimp only
  repeat' first
    | with_reducible refine keeps_bind ?_ fun _ => ?_
    | with_reducible exact keeps_pure _
    | with_reducible exact keeps_for fun _ _ => t6 i h _ _ _ _ _ _ _ _ _
    | with_reducible exact keeps_for fun _ _ => t7 i h _ _ _ _ _ _ _ _ _
    | split

set_option maxHeartbeats 400000 in
/-- A trip of the counted loop numbered 8 keeps what it holds. -/
theorem t8 {c : Dev nD} {P : sProp 𝕄} (i : grid0.Coords) {arg2 : Memref sig .tc .vmem S1x256x512 .bf16} {harg2 : arg2.IsWhole} {arg3 : Memref sig .tc .vmem S1x4096x512 .bf16} {harg3 : arg3.IsWhole} {arg4 : Memref sig .tc .vmem S1x4096x512 .bf16} {harg4 : arg4.IsWhole} {arg5 : Memref sig .tc .vmem S1x256x512 .bf16} {harg5 : arg5.IsWhole} {arg6 : Memref sig .tc .vmem S1x4096x128 .bf16} {harg6 : arg6.IsWhole} {arg7 : Memref sig .tc .vmem S1x256x128 .f32} {harg7 : arg7.IsWhole} {arg8 : Memref sig .tc .vmem S1x256x512 .bf16} {harg8 : arg8.IsWhole} {arg9 : Memref sig .tc .vmem S256x4096 .i32} {harg9 : arg9.IsWhole}
    (h : Held (F := F) c P arg2 arg3 arg4 arg5 arg6 arg7 arg8 arg9) (v0 : BitVec 32) (v4 : IVec S256x256 32) (v28 : IVec S256x1 32) (v34 : FVec F S256x1 .f32) (c0_i32_14 : BitVec 32) (v36_0 : IVec S256x1 32) (trip : Fin (k0_t8_loop i).trips) (carried : FVec F S256x128 .f32) :
    Keeps (F := F) c P (k0_t8_body (F := F) i arg2 harg2 arg3 harg3 arg4 harg4 arg5 harg5 arg6 harg6 arg7 harg7 arg8 harg8 arg9 harg9 v0 v4 v28 v34 c0_i32_14 v36_0 trip carried) := by
  unfold k0_t8_body
  try dsimp only
  repeat' first
    | with_reducible refine keeps_bind ?_ fun _ => ?_
    | with_reducible exact keeps_pure _
    | with_reducible exact h.a9.reads
    | split
    | refine keeps_load ?_

set_option maxHeartbeats 400000 in
/-- A trip of the counted loop numbered 9 keeps what it holds. -/
theorem t9 {c : Dev nD} {P : sProp 𝕄} (i : grid0.Coords) {arg2 : Memref sig .tc .vmem S1x256x512 .bf16} {harg2 : arg2.IsWhole} {arg3 : Memref sig .tc .vmem S1x4096x512 .bf16} {harg3 : arg3.IsWhole} {arg4 : Memref sig .tc .vmem S1x4096x512 .bf16} {harg4 : arg4.IsWhole} {arg5 : Memref sig .tc .vmem S1x256x512 .bf16} {harg5 : arg5.IsWhole} {arg6 : Memref sig .tc .vmem S1x4096x128 .bf16} {harg6 : arg6.IsWhole} {arg7 : Memref sig .tc .vmem S1x256x128 .f32} {harg7 : arg7.IsWhole} {arg8 : Memref sig .tc .vmem S1x256x512 .bf16} {harg8 : arg8.IsWhole} {arg9 : Memref sig .tc .vmem S256x4096 .i32} {harg9 : arg9.IsWhole}
    (h : Held (F := F) c P arg2 arg3 arg4 arg5 arg6 arg7 arg8 arg9) (v0 : BitVec 32) (v4 : IVec S256x256 32) (v28 : IVec S256x1 32) (v34 : FVec F S256x1 .f32) (c0_i32_14 : BitVec 32) (v36_0 : IVec S256x1 32) (trip : Fin (k0_t9_loop i).trips) (carried : FVec F S256x128 .f32) :
    Keeps (F := F) c P (k0_t9_body (F := F) i arg2 harg2 arg3 harg3 arg4 harg4 arg5 harg5 arg6 harg6 arg7 harg7 arg8 harg8 arg9 harg9 v0 v4 v28 v34 c0_i32_14 v36_0 trip carried) := by
  unfold k0_t9_body
  try dsimp only
  repeat' first
    | with_reducible refine keeps_bind ?_ fun _ => ?_
    | with_reducible exact keeps_pure _
    | with_reducible exact h.a9.reads
    | split
    | refine keeps_load ?_

set_option maxHeartbeats 400000 in
/-- A trip of the counted loop numbered 11 keeps what it holds. -/
theorem t11 {c : Dev nD} {P : sProp 𝕄} (i : grid0.Coords) {arg2 : Memref sig .tc .vmem S1x256x512 .bf16} {harg2 : arg2.IsWhole} {arg3 : Memref sig .tc .vmem S1x4096x512 .bf16} {harg3 : arg3.IsWhole} {arg4 : Memref sig .tc .vmem S1x4096x512 .bf16} {harg4 : arg4.IsWhole} {arg5 : Memref sig .tc .vmem S1x256x512 .bf16} {harg5 : arg5.IsWhole} {arg6 : Memref sig .tc .vmem S1x4096x128 .bf16} {harg6 : arg6.IsWhole} {arg7 : Memref sig .tc .vmem S1x256x128 .f32} {harg7 : arg7.IsWhole} {arg8 : Memref sig .tc .vmem S1x256x512 .bf16} {harg8 : arg8.IsWhole} {arg9 : Memref sig .tc .vmem S256x4096 .i32} {harg9 : arg9.IsWhole}
    (h : Held (F := F) c P arg2 arg3 arg4 arg5 arg6 arg7 arg8 arg9) (v0 : BitVec 32) (v4 : IVec S256x256 32) (v28 : IVec S256x1 32) (v34 : FVec F S256x1 .f32) (c0_i32_14 : BitVec 32) (v36_0 : IVec S256x1 32) (k0_t10 : Fin k0_t10_loop.trips) (arg11 : IVec S256x1 32) (trip : Fin (k0_t11_loop i).trips) (carried : FVec F S256x128 .f32) :
    Keeps (F := F) c P (k0_t11_body (F := F) i arg2 harg2 arg3 harg3 arg4 harg4 arg5 harg5 arg6 harg6 arg7 harg7 arg8 harg8 arg9 harg9 v0 v4 v28 v34 c0_i32_14 v36_0 k0_t10 arg11 trip carried) := by
  unfold k0_t11_body
  try dsimp only
  repeat' first
    | with_reducible refine keeps_bind ?_ fun _ => ?_
    | with_reducible exact keeps_pure _
    | with_reducible exact h.a9.reads
    | split
    | refine keeps_load ?_

set_option maxHeartbeats 400000 in
/-- A trip of the counted loop numbered 12 keeps what it holds. -/
theorem t12 {c : Dev nD} {P : sProp 𝕄} (i : grid0.Coords) {arg2 : Memref sig .tc .vmem S1x256x512 .bf16} {harg2 : arg2.IsWhole} {arg3 : Memref sig .tc .vmem S1x4096x512 .bf16} {harg3 : arg3.IsWhole} {arg4 : Memref sig .tc .vmem S1x4096x512 .bf16} {harg4 : arg4.IsWhole} {arg5 : Memref sig .tc .vmem S1x256x512 .bf16} {harg5 : arg5.IsWhole} {arg6 : Memref sig .tc .vmem S1x4096x128 .bf16} {harg6 : arg6.IsWhole} {arg7 : Memref sig .tc .vmem S1x256x128 .f32} {harg7 : arg7.IsWhole} {arg8 : Memref sig .tc .vmem S1x256x512 .bf16} {harg8 : arg8.IsWhole} {arg9 : Memref sig .tc .vmem S256x4096 .i32} {harg9 : arg9.IsWhole}
    (h : Held (F := F) c P arg2 arg3 arg4 arg5 arg6 arg7 arg8 arg9) (v0 : BitVec 32) (v4 : IVec S256x256 32) (v28 : IVec S256x1 32) (v34 : FVec F S256x1 .f32) (c0_i32_14 : BitVec 32) (v36_0 : IVec S256x1 32) (k0_t10 : Fin k0_t10_loop.trips) (arg11 : IVec S256x1 32) (trip : Fin (k0_t12_loop i).trips) (carried : FVec F S256x128 .f32) :
    Keeps (F := F) c P (k0_t12_body (F := F) i arg2 harg2 arg3 harg3 arg4 harg4 arg5 harg5 arg6 harg6 arg7 harg7 arg8 harg8 arg9 harg9 v0 v4 v28 v34 c0_i32_14 v36_0 k0_t10 arg11 trip carried) := by
  unfold k0_t12_body
  try dsimp only
  repeat' first
    | with_reducible refine keeps_bind ?_ fun _ => ?_
    | with_reducible exact keeps_pure _
    | with_reducible exact h.a9.reads
    | split
    | refine keeps_load ?_

set_option maxHeartbeats 400000 in
/-- A trip of the counted loop numbered 10 keeps what it holds. -/
theorem t10 {c : Dev nD} {P : sProp 𝕄} (i : grid0.Coords) {arg2 : Memref sig .tc .vmem S1x256x512 .bf16} {harg2 : arg2.IsWhole} {arg3 : Memref sig .tc .vmem S1x4096x512 .bf16} {harg3 : arg3.IsWhole} {arg4 : Memref sig .tc .vmem S1x4096x512 .bf16} {harg4 : arg4.IsWhole} {arg5 : Memref sig .tc .vmem S1x256x512 .bf16} {harg5 : arg5.IsWhole} {arg6 : Memref sig .tc .vmem S1x4096x128 .bf16} {harg6 : arg6.IsWhole} {arg7 : Memref sig .tc .vmem S1x256x128 .f32} {harg7 : arg7.IsWhole} {arg8 : Memref sig .tc .vmem S1x256x512 .bf16} {harg8 : arg8.IsWhole} {arg9 : Memref sig .tc .vmem S256x4096 .i32} {harg9 : arg9.IsWhole}
    (h : Held (F := F) c P arg2 arg3 arg4 arg5 arg6 arg7 arg8 arg9) (v0 : BitVec 32) (v4 : IVec S256x256 32) (v28 : IVec S256x1 32) (v34 : FVec F S256x1 .f32) (c0_i32_14 : BitVec 32) (v36_0 : IVec S256x1 32) (v272 : FVec F S256x128 .f32) (trip : Fin k0_t10_loop.trips) (carried : IVec S256x1 32) :
    Keeps (F := F) c P (k0_t10_body (F := F) i arg2 harg2 arg3 harg3 arg4 harg4 arg5 harg5 arg6 harg6 arg7 harg7 arg8 harg8 arg9 harg9 v0 v4 v28 v34 c0_i32_14 v36_0 v272 trip carried) := by
  unfold k0_t10_body
  try dsimp only
  repeat' first
    | with_reducible refine keeps_bind ?_ fun _ => ?_
    | with_reducible exact keeps_pure _
    | with_reducible exact keeps_for fun _ _ => t11 i h _ _ _ _ _ _ _ _ _ _
    | with_reducible exact keeps_for fun _ _ => t12 i h _ _ _ _ _ _ _ _ _ _
    | split

set_option maxHeartbeats 400000 in
/-- A trip of the counted loop numbered 13 keeps what it holds. -/
theorem t13 {c : Dev nD} {P : sProp 𝕄} (i : grid0.Coords) {arg2 : Memref sig .tc .vmem S1x256x512 .bf16} {harg2 : arg2.IsWhole} {arg3 : Memref sig .tc .vmem S1x4096x512 .bf16} {harg3 : arg3.IsWhole} {arg4 : Memref sig .tc .vmem S1x4096x512 .bf16} {harg4 : arg4.IsWhole} {arg5 : Memref sig .tc .vmem S1x256x512 .bf16} {harg5 : arg5.IsWhole} {arg6 : Memref sig .tc .vmem S1x4096x128 .bf16} {harg6 : arg6.IsWhole} {arg7 : Memref sig .tc .vmem S1x256x128 .f32} {harg7 : arg7.IsWhole} {arg8 : Memref sig .tc .vmem S1x256x512 .bf16} {harg8 : arg8.IsWhole} {arg9 : Memref sig .tc .vmem S256x4096 .i32} {harg9 : arg9.IsWhole}
    (h : Held (F := F) c P arg2 arg3 arg4 arg5 arg6 arg7 arg8 arg9) (v0 : BitVec 32) (v4 : IVec S256x256 32) (v28 : IVec S256x1 32) (v34 : FVec F S256x1 .f32) (c0_i32_14 : BitVec 32) (v36_0 : IVec S256x1 32) (v57 : IVec S256x1 32) (trip : Fin (k0_t13_loop i).trips) (carried : BitVec 32) :
    Keeps (F := F) c P (k0_t13_body (F := F) i arg2 harg2 arg3 harg3 arg4 harg4 arg5 harg5 arg6 harg6 arg7 harg7 arg8 harg8 arg9 harg9 v0 v4 v28 v34 c0_i32_14 v36_0 v57 trip carried) := by
  unfold k0_t13_body
  try dsimp only
  repeat' first
    | with_reducible refine keeps_bind ?_ fun _ => ?_
    | with_reducible exact keeps_pure _
    | with_reducible exact h.a9
    | with_reducible exact h.a9.reads
    | split
    | refine keeps_load ?_
    | refine keeps_store ?_

set_option maxHeartbeats 400000 in
/-- A trip of the counted loop numbered 14 keeps what it holds. -/
theorem t14 {c : Dev nD} {P : sProp 𝕄} (i : grid0.Coords) {arg2 : Memref sig .tc .vmem S1x256x512 .bf16} {harg2 : arg2.IsWhole} {arg3 : Memref sig .tc .vmem S1x4096x512 .bf16} {harg3 : arg3.IsWhole} {arg4 : Memref sig .tc .vmem S1x4096x512 .bf16} {harg4 : arg4.IsWhole} {arg5 : Memref sig .tc .vmem S1x256x512 .bf16} {harg5 : arg5.IsWhole} {arg6 : Memref sig .tc .vmem S1x4096x128 .bf16} {harg6 : arg6.IsWhole} {arg7 : Memref sig .tc .vmem S1x256x128 .f32} {harg7 : arg7.IsWhole} {arg8 : Memref sig .tc .vmem S1x256x512 .bf16} {harg8 : arg8.IsWhole} {arg9 : Memref sig .tc .vmem S256x4096 .i32} {harg9 : arg9.IsWhole}
    (h : Held (F := F) c P arg2 arg3 arg4 arg5 arg6 arg7 arg8 arg9) (v0 : BitVec 32) (v4 : IVec S256x256 32) (v28 : IVec S256x1 32) (v34 : FVec F S256x1 .f32) (c0_i32_14 : BitVec 32) (v36_0 : IVec S256x1 32) (v57 : IVec S256x1 32) (trip : Fin (k0_t14_loop i).trips) (carried : BitVec 32) :
    Keeps (F := F) c P (k0_t14_body (F := F) i arg2 harg2 arg3 harg3 arg4 harg4 arg5 harg5 arg6 harg6 arg7 harg7 arg8 harg8 arg9 harg9 v0 v4 v28 v34 c0_i32_14 v36_0 v57 trip carried) := by
  unfold k0_t14_body
  try dsimp only
  repeat' first
    | with_reducible refine keeps_bind ?_ fun _ => ?_
    | with_reducible exact keeps_pure _
    | with_reducible exact h.a9
    | with_reducible exact h.a9.reads
    | split
    | refine keeps_load ?_
    | refine keeps_store ?_

set_option maxHeartbeats 400000 in
/-- Stretch 10 of the body keeps what it holds. -/
theorem part10 {c : Dev nD} {P : sProp 𝕄} (i : grid0.Coords) {arg2 : Memref sig .tc .vmem S1x256x512 .bf16} {harg2 : arg2.IsWhole} {arg3 : Memref sig .tc .vmem S1x4096x512 .bf16} {harg3 : arg3.IsWhole} {arg4 : Memref sig .tc .vmem S1x4096x512 .bf16} {harg4 : arg4.IsWhole} {arg5 : Memref sig .tc .vmem S1x256x512 .bf16} {harg5 : arg5.IsWhole} {arg6 : Memref sig .tc .vmem S1x4096x128 .bf16} {harg6 : arg6.IsWhole} {arg7 : Memref sig .tc .vmem S1x256x128 .f32} {harg7 : arg7.IsWhole} {arg8 : Memref sig .tc .vmem S1x256x512 .bf16} {harg8 : arg8.IsWhole} {arg9 : Memref sig .tc .vmem S256x4096 .i32} {harg9 : arg9.IsWhole}
    (h : Held (F := F) c P arg2 arg3 arg4 arg5 arg6 arg7 arg8 arg9) (v0 : BitVec 32) (v4 : IVec S256x256 32) (v28 : IVec S256x1 32) (v34 : FVec F S256x1 .f32) (c0_i32_14 : BitVec 32) :
    Keeps (F := F) c P (k0_part10 (F := F) i arg2 harg2 arg3 harg3 arg4 harg4 arg5 harg5 arg6 harg6 arg7 harg7 arg8 harg8 arg9 harg9 v0 v4 v28 v34 c0_i32_14) := by
  rw [k0_part10_eq_skeleton]; unfold k0_part10_skel
  try dsimp only
  repeat' first
    | with_reducible refine keeps_bind ?_ fun _ => ?_
    | with_reducible exact keeps_pure _
    | with_reducible exact h.a2
    | with_reducible exact keeps_for fun _ _ => t5 i h _ _ _ _ _ _ _
    | with_reducible exact keeps_for fun _ _ => t8 i h _ _ _ _ _ _ _ _
    | with_reducible exact keeps_for fun _ _ => t9 i h _ _ _ _ _ _ _ _
    | with_reducible exact keeps_for fun _ _ => t10 i h _ _ _ _ _ _ _ _ _
    | with_reducible exact keeps_for fun _ _ => t13 i h _ _ _ _ _ _ _ _ _
    | with_reducible exact keeps_for fun _ _ => t14 i h _ _ _ _ _ _ _ _ _
    | with_reducible refine keeps_ite ?_ ?_
    | split
    | refine keeps_load ?_

set_option maxHeartbeats 400000 in
/-- A trip of the counted loop numbered 15 keeps what it holds. -/
theorem t15 {c : Dev nD} {P : sProp 𝕄} (i : grid0.Coords) {arg2 : Memref sig .tc .vmem S1x256x512 .bf16} {harg2 : arg2.IsWhole} {arg3 : Memref sig .tc .vmem S1x4096x512 .bf16} {harg3 : arg3.IsWhole} {arg4 : Memref sig .tc .vmem S1x4096x512 .bf16} {harg4 : arg4.IsWhole} {arg5 : Memref sig .tc .vmem S1x256x512 .bf16} {harg5 : arg5.IsWhole} {arg6 : Memref sig .tc .vmem S1x4096x128 .bf16} {harg6 : arg6.IsWhole} {arg7 : Memref sig .tc .vmem S1x256x128 .f32} {harg7 : arg7.IsWhole} {arg8 : Memref sig .tc .vmem S1x256x512 .bf16} {harg8 : arg8.IsWhole} {arg9 : Memref sig .tc .vmem S256x4096 .i32} {harg9 : arg9.IsWhole}
    (h : Held (F := F) c P arg2 arg3 arg4 arg5 arg6 arg7 arg8 arg9) (v0 : BitVec 32) (v66 : FVec F S256x128 .bf16) (v72 : IVec S256x128 1) (cst_35 : F .bf16) (trip : Fin (k0_t15_loop i).trips) (carried : FVec F S256x1 .f32 × FVec F S256x1 .f32 × FVec F S256x128 .f32) :
    Keeps (F := F) c P (k0_t15_body (F := F) i arg2 harg2 arg3 harg3 arg4 harg4 arg5 harg5 arg6 harg6 arg7 harg7 arg8 harg8 arg9 harg9 v0 v66 v72 cst_35 trip carried) := by
  unfold k0_t15_body
  try dsimp only
  repeat' first
    | with_reducible refine keeps_bind ?_ fun _ => ?_
    | with_reducible exact keeps_pure _
    | with_reducible exact h.a3
    | with_reducible exact h.a4
    | with_reducible exact h.a9.reads
    | split
    | refine keeps_load ?_

set_option maxHeartbeats 400000 in
/-- A trip of the counted loop numbered 16 keeps what it holds. -/
theorem t16 {c : Dev nD} {P : sProp 𝕄} (i : grid0.Coords) {arg2 : Memref sig .tc .vmem S1x256x512 .bf16} {harg2 : arg2.IsWhole} {arg3 : Memref sig .tc .vmem S1x4096x512 .bf16} {harg3 : arg3.IsWhole} {arg4 : Memref sig .tc .vmem S1x4096x512 .bf16} {harg4 : arg4.IsWhole} {arg5 : Memref sig .tc .vmem S1x256x512 .bf16} {harg5 : arg5.IsWhole} {arg6 : Memref sig .tc .vmem S1x4096x128 .bf16} {harg6 : arg6.IsWhole} {arg7 : Memref sig .tc .vmem S1x256x128 .f32} {harg7 : arg7.IsWhole} {arg8 : Memref sig .tc .vmem S1x256x512 .bf16} {harg8 : arg8.IsWhole} {arg9 : Memref sig .tc .vmem S256x4096 .i32} {harg9 : arg9.IsWhole}
    (h : Held (F := F) c P arg2 arg3 arg4 arg5 arg6 arg7 arg8 arg9) (v0 : BitVec 32) (v66 : FVec F S256x128 .bf16) (v72 : IVec S256x128 1) (cst_35 : F .bf16) (trip : Fin (k0_t16_loop i).trips) (carried : FVec F S256x1 .f32 × FVec F S256x1 .f32 × FVec F S256x128 .f32) :
    Keeps (F := F) c P (k0_t16_body (F := F) i arg2 harg2 arg3 harg3 arg4 harg4 arg5 harg5 arg6 harg6 arg7 harg7 arg8 harg8 arg9 harg9 v0 v66 v72 cst_35 trip carried) := by
  unfold k0_t16_body
  try dsimp only
  repeat' first
    | with_reducible refine keeps_bind ?_ fun _ => ?_
    | with_reducible exact keeps_pure _
    | with_reducible exact h.a3
    | with_reducible exact h.a4
    | with_reducible exact h.a9.reads
    | split
    | refine keeps_load ?_

set_option maxHeartbeats 400000 in
/-- A trip of the counted loop numbered 17 keeps what it holds. -/
theorem t17 {c : Dev nD} {P : sProp 𝕄} (i : grid0.Coords) {arg2 : Memref sig .tc .vmem S1x256x512 .bf16} {harg2 : arg2.IsWhole} {arg3 : Memref sig .tc .vmem S1x4096x512 .bf16} {harg3 : arg3.IsWhole} {arg4 : Memref sig .tc .vmem S1x4096x512 .bf16} {harg4 : arg4.IsWhole} {arg5 : Memref sig .tc .vmem S1x256x512 .bf16} {harg5 : arg5.IsWhole} {arg6 : Memref sig .tc .vmem S1x4096x128 .bf16} {harg6 : arg6.IsWhole} {arg7 : Memref sig .tc .vmem S1x256x128 .f32} {harg7 : arg7.IsWhole} {arg8 : Memref sig .tc .vmem S1x256x512 .bf16} {harg8 : arg8.IsWhole} {arg9 : Memref sig .tc .vmem S256x4096 .i32} {harg9 : arg9.IsWhole}
    (h : Held (F := F) c P arg2 arg3 arg4 arg5 arg6 arg7 arg8 arg9) (v0 : BitVec 32) (v66 : FVec F S256x128 .bf16) (v72 : IVec S256x128 1) (cst_35 : F .bf16) (trip : Fin (k0_t17_loop i).trips) (carried : FVec F S256x1 .f32 × FVec F S256x1 .f32 × FVec F S256x128 .f32) :
    Keeps (F := F) c P (k0_t17_body (F := F) i arg2 harg2 arg3 harg3 arg4 harg4 arg5 harg5 arg6 harg6 arg7 harg7 arg8 harg8 arg9 harg9 v0 v66 v72 cst_35 trip carried) := by
  unfold k0_t17_body
  try dsimp only
  repeat' first
    | with_reducible refine keeps_bind ?_ fun _ => ?_
    | with_reducible exact keeps_pure _
    | with_reducible exact h.a3
    | with_reducible exact h.a4
    | with_reducible exact h.a9.reads
    | split
    | refine keeps_load ?_

set_option maxHeartbeats 400000 in
/-- A trip of the counted loop numbered 18 keeps what it holds. -/
theorem t18 {c : Dev nD} {P : sProp 𝕄} (i : grid0.Coords) {arg2 : Memref sig .tc .vmem S1x256x512 .bf16} {harg2 : arg2.IsWhole} {arg3 : Memref sig .tc .vmem S1x4096x512 .bf16} {harg3 : arg3.IsWhole} {arg4 : Memref sig .tc .vmem S1x4096x512 .bf16} {harg4 : arg4.IsWhole} {arg5 : Memref sig .tc .vmem S1x256x512 .bf16} {harg5 : arg5.IsWhole} {arg6 : Memref sig .tc .vmem S1x4096x128 .bf16} {harg6 : arg6.IsWhole} {arg7 : Memref sig .tc .vmem S1x256x128 .f32} {harg7 : arg7.IsWhole} {arg8 : Memref sig .tc .vmem S1x256x512 .bf16} {harg8 : arg8.IsWhole} {arg9 : Memref sig .tc .vmem S256x4096 .i32} {harg9 : arg9.IsWhole}
    (h : Held (F := F) c P arg2 arg3 arg4 arg5 arg6 arg7 arg8 arg9) (v0 : BitVec 32) (v66 : FVec F S256x128 .bf16) (v72 : IVec S256x128 1) (cst_35 : F .bf16) (trip : Fin (k0_t18_loop i).trips) (carried : FVec F S256x1 .f32 × FVec F S256x1 .f32 × FVec F S256x128 .f32) :
    Keeps (F := F) c P (k0_t18_body (F := F) i arg2 harg2 arg3 harg3 arg4 harg4 arg5 harg5 arg6 harg6 arg7 harg7 arg8 harg8 arg9 harg9 v0 v66 v72 cst_35 trip carried) := by
  unfold k0_t18_body
  try dsimp only
  repeat' first
    | with_reducible refine keeps_bind ?_ fun _ => ?_
    | with_reducible exact keeps_pure _
    | with_reducible exact h.a3
    | with_reducible exact h.a4
    | with_reducible exact h.a9.reads
    | split
    | refine keeps_load ?_

set_option maxHeartbeats 400000 in
/-- Stretch 11 of the body keeps what it holds. -/
theorem part11 {c : Dev nD} {P : sProp 𝕄} (i : grid0.Coords) {arg2 : Memref sig .tc .vmem S1x256x512 .bf16} {harg2 : arg2.IsWhole} {arg3 : Memref sig .tc .vmem S1x4096x512 .bf16} {harg3 : arg3.IsWhole} {arg4 : Memref sig .tc .vmem S1x4096x512 .bf16} {harg4 : arg4.IsWhole} {arg5 : Memref sig .tc .vmem S1x256x512 .bf16} {harg5 : arg5.IsWhole} {arg6 : Memref sig .tc .vmem S1x4096x128 .bf16} {harg6 : arg6.IsWhole} {arg7 : Memref sig .tc .vmem S1x256x128 .f32} {harg7 : arg7.IsWhole} {arg8 : Memref sig .tc .vmem S1x256x512 .bf16} {harg8 : arg8.IsWhole} {arg9 : Memref sig .tc .vmem S256x4096 .i32} {harg9 : arg9.IsWhole}
    (h : Held (F := F) c P arg2 arg3 arg4 arg5 arg6 arg7 arg8 arg9) (v0 : BitVec 32) (v66 : FVec F S256x128 .bf16) (v72 : IVec S256x128 1) (cst_35 : F .bf16) :
    Keeps (F := F) c P (k0_part11 (F := F) i arg2 harg2 arg3 harg3 arg4 harg4 arg5 harg5 arg6 harg6 arg7 harg7 arg8 harg8 arg9 harg9 v0 v66 v72 cst_35) := by
  rw [k0_part11_eq_skeleton]; unfold k0_part11_skel
  try dsimp only
  repeat' first
    | with_reducible refine keeps_bind ?_ fun _ => ?_
    | with_reducible exact keeps_pure _
    | with_reducible exact keeps_for fun _ _ => t15 i h _ _ _ _ _ _
    | with_reducible exact keeps_for fun _ _ => t16 i h _ _ _ _ _ _
    | with_reducible exact keeps_for fun _ _ => t17 i h _ _ _ _ _ _
    | with_reducible exact keeps_for fun _ _ => t18 i h _ _ _ _ _ _
    | split

set_option maxHeartbeats 400000 in
/-- A trip of the counted loop numbered 19 keeps what it holds. -/
theorem t19 {c : Dev nD} {P : sProp 𝕄} (i : grid0.Coords) {arg2 : Memref sig .tc .vmem S1x256x512 .bf16} {harg2 : arg2.IsWhole} {arg3 : Memref sig .tc .vmem S1x4096x512 .bf16} {harg3 : arg3.IsWhole} {arg4 : Memref sig .tc .vmem S1x4096x512 .bf16} {harg4 : arg4.IsWhole} {arg5 : Memref sig .tc .vmem S1x256x512 .bf16} {harg5 : arg5.IsWhole} {arg6 : Memref sig .tc .vmem S1x4096x128 .bf16} {harg6 : arg6.IsWhole} {arg7 : Memref sig .tc .vmem S1x256x128 .f32} {harg7 : arg7.IsWhole} {arg8 : Memref sig .tc .vmem S1x256x512 .bf16} {harg8 : arg8.IsWhole} {arg9 : Memref sig .tc .vmem S256x4096 .i32} {harg9 : arg9.IsWhole}
    (h : Held (F := F) c P arg2 arg3 arg4 arg5 arg6 arg7 arg8 arg9) (v0 : BitVec 32) (v111 : FVec F S256x128 .bf16) (v115 : Vec F S1x256x128 .bf16) (trip : Fin (k0_t19_loop i).trips) (carried : FVec F S256x1 .f32 × FVec F S256x1 .f32 × FVec F S256x128 .f32) :
    Keeps (F := F) c P (k0_t19_body (F := F) i arg2 harg2 arg3 harg3 arg4 harg4 arg5 harg5 arg6 harg6 arg7 harg7 arg8 harg8 arg9 harg9 v0 v111 v115 trip carried) := by
  unfold k0_t19_body
  try dsimp only
  repeat' first
    | with_reducible refine keeps_bind ?_ fun _ => ?_
    | with_reducible exact keeps_pure _
    | with_reducible exact h.a3
    | with_reducible exact h.a4
    | with_reducible exact h.a9.reads
    | split
    | refine keeps_load ?_

set_option maxHeartbeats 400000 in
/-- A trip of the counted loop numbered 20 keeps what it holds. -/
theorem t20 {c : Dev nD} {P : sProp 𝕄} (i : grid0.Coords) {arg2 : Memref sig .tc .vmem S1x256x512 .bf16} {harg2 : arg2.IsWhole} {arg3 : Memref sig .tc .vmem S1x4096x512 .bf16} {harg3 : arg3.IsWhole} {arg4 : Memref sig .tc .vmem S1x4096x512 .bf16} {harg4 : arg4.IsWhole} {arg5 : Memref sig .tc .vmem S1x256x512 .bf16} {harg5 : arg5.IsWhole} {arg6 : Memref sig .tc .vmem S1x4096x128 .bf16} {harg6 : arg6.IsWhole} {arg7 : Memref sig .tc .vmem S1x256x128 .f32} {harg7 : arg7.IsWhole} {arg8 : Memref sig .tc .vmem S1x256x512 .bf16} {harg8 : arg8.IsWhole} {arg9 : Memref sig .tc .vmem S256x4096 .i32} {harg9 : arg9.IsWhole}
    (h : Held (F := F) c P arg2 arg3 arg4 arg5 arg6 arg7 arg8 arg9) (v0 : BitVec 32) (v111 : FVec F S256x128 .bf16) (v115 : Vec F S1x256x128 .bf16) (trip : Fin (k0_t20_loop i).trips) (carried : FVec F S256x1 .f32 × FVec F S256x1 .f32 × FVec F S256x128 .f32) :
    Keeps (F := F) c P (k0_t20_body (F := F) i arg2 harg2 arg3 harg3 arg4 harg4 arg5 harg5 arg6 harg6 arg7 harg7 arg8 harg8 arg9 harg9 v0 v111 v115 trip carried) := by
  unfold k0_t20_body
  try dsimp only
  repeat' first
    | with_reducible refine keeps_bind ?_ fun _ => ?_
    | with_reducible exact keeps_pure _
    | with_reducible exact h.a3
    | with_reducible exact h.a4
    | with_reducible exact h.a9.reads
    | split
    | refine keeps_load ?_

set_option maxHeartbeats 400000 in
/-- Stretch 12 of the body keeps what it holds. -/
theorem part12 {c : Dev nD} {P : sProp 𝕄} (i : grid0.Coords) {arg2 : Memref sig .tc .vmem S1x256x512 .bf16} {harg2 : arg2.IsWhole} {arg3 : Memref sig .tc .vmem S1x4096x512 .bf16} {harg3 : arg3.IsWhole} {arg4 : Memref sig .tc .vmem S1x4096x512 .bf16} {harg4 : arg4.IsWhole} {arg5 : Memref sig .tc .vmem S1x256x512 .bf16} {harg5 : arg5.IsWhole} {arg6 : Memref sig .tc .vmem S1x4096x128 .bf16} {harg6 : arg6.IsWhole} {arg7 : Memref sig .tc .vmem S1x256x128 .f32} {harg7 : arg7.IsWhole} {arg8 : Memref sig .tc .vmem S1x256x512 .bf16} {harg8 : arg8.IsWhole} {arg9 : Memref sig .tc .vmem S256x4096 .i32} {harg9 : arg9.IsWhole}
    (h : Held (F := F) c P arg2 arg3 arg4 arg5 arg6 arg7 arg8 arg9) (v0 : BitVec 32) (v111 : FVec F S256x128 .bf16) :
    Keeps (F := F) c P (k0_part12 (F := F) i arg2 harg2 arg3 harg3 arg4 harg4 arg5 harg5 arg6 harg6 arg7 harg7 arg8 harg8 arg9 harg9 v0 v111) := by
  rw [k0_part12_eq_skeleton]; unfold k0_part12_skel
  try dsimp only
  repeat' first
    | with_reducible refine keeps_bind ?_ fun _ => ?_
    | with_reducible exact keeps_pure _
    | with_reducible exact h.a8
    | with_reducible exact h.a2
    | with_reducible exact h.a8.reads
    | with_reducible exact keeps_for fun _ _ => t19 i h _ _ _ _ _
    | with_reducible exact keeps_for fun _ _ => t20 i h _ _ _ _ _
    | split
    | refine keeps_load ?_
    | refine keeps_store ?_

set_option maxHeartbeats 400000 in
/-- A trip of the counted loop numbered 21 keeps what it holds. -/
theorem t21 {c : Dev nD} {P : sProp 𝕄} (i : grid0.Coords) {arg2 : Memref sig .tc .vmem S1x256x512 .bf16} {harg2 : arg2.IsWhole} {arg3 : Memref sig .tc .vmem S1x4096x512 .bf16} {harg3 : arg3.IsWhole} {arg4 : Memref sig .tc .vmem S1x4096x512 .bf16} {harg4 : arg4.IsWhole} {arg5 : Memref sig .tc .vmem S1x256x512 .bf16} {harg5 : arg5.IsWhole} {arg6 : Memref sig .tc .vmem S1x4096x128 .bf16} {harg6 : arg6.IsWhole} {arg7 : Memref sig .tc .vmem S1x256x128 .f32} {harg7 : arg7.IsWhole} {arg8 : Memref sig .tc .vmem S1x256x512 .bf16} {harg8 : arg8.IsWhole} {arg9 : Memref sig .tc .vmem S256x4096 .i32} {harg9 : arg9.IsWhole}
    (h : Held (F := F) c P arg2 arg3 arg4 arg5 arg6 arg7 arg8 arg9) (v0 : BitVec 32) (v136 : FVec F S256x128 .f32) (v144 : FVec F S256x128 .bf16) (v145 : FVec F S256x1 .f32) (v146 : FVec F S256x1 .f32) (v147 : FVec F S256x128 .f32) (c0_i32_74 : BitVec 32) (v148 : BitVec 32) (c1_i32_75 : BitVec 32) (trip : Fin (k0_t21_loop i).trips) (carried : FVec F S256x1 .f32 × FVec F S256x1 .f32 × FVec F S256x128 .f32) :
    Keeps (F := F) c P (k0_t21_body (F := F) i arg2 harg2 arg3 harg3 arg4 harg4 arg5 harg5 arg6 harg6 arg7 harg7 arg8 harg8 arg9 harg9 v0 v136 v144 v145 v146 v147 c0_i32_74 v148 c1_i32_75 trip carried) := by
  unfold k0_t21_body
  try dsimp only
  repeat' first
    | with_reducible refine keeps_bind ?_ fun _ => ?_
    | with_reducible exact keeps_pure _
    | with_reducible exact h.a3
    | with_reducible exact h.a4
    | with_reducible exact h.a9.reads
    | split
    | refine keeps_load ?_

set_option maxHeartbeats 400000 in
/-- A trip of the counted loop numbered 22 keeps what it holds. -/
theorem t22 {c : Dev nD} {P : sProp 𝕄} (i : grid0.Coords) {arg2 : Memref sig .tc .vmem S1x256x512 .bf16} {harg2 : arg2.IsWhole} {arg3 : Memref sig .tc .vmem S1x4096x512 .bf16} {harg3 : arg3.IsWhole} {arg4 : Memref sig .tc .vmem S1x4096x512 .bf16} {harg4 : arg4.IsWhole} {arg5 : Memref sig .tc .vmem S1x256x512 .bf16} {harg5 : arg5.IsWhole} {arg6 : Memref sig .tc .vmem S1x4096x128 .bf16} {harg6 : arg6.IsWhole} {arg7 : Memref sig .tc .vmem S1x256x128 .f32} {harg7 : arg7.IsWhole} {arg8 : Memref sig .tc .vmem S1x256x512 .bf16} {harg8 : arg8.IsWhole} {arg9 : Memref sig .tc .vmem S256x4096 .i32} {harg9 : arg9.IsWhole}
    (h : Held (F := F) c P arg2 arg3 arg4 arg5 arg6 arg7 arg8 arg9) (v0 : BitVec 32) (v136 : FVec F S256x128 .f32) (v144 : FVec F S256x128 .bf16) (v145 : FVec F S256x1 .f32) (v146 : FVec F S256x1 .f32) (v147 : FVec F S256x128 .f32) (c0_i32_74 : BitVec 32) (v148 : BitVec 32) (c1_i32_75 : BitVec 32) (trip : Fin (k0_t22_loop i).trips) (carried : FVec F S256x1 .f32 × FVec F S256x1 .f32 × FVec F S256x128 .f32) :
    Keeps (F := F) c P (k0_t22_body (F := F) i arg2 harg2 arg3 harg3 arg4 harg4 arg5 harg5 arg6 harg6 arg7 harg7 arg8 harg8 arg9 harg9 v0 v136 v144 v145 v146 v147 c0_i32_74 v148 c1_i32_75 trip carried) := by
  unfold k0_t22_body
  try dsimp only
  repeat' first
    | with_reducible refine keeps_bind ?_ fun _ => ?_
    | with_reducible exact keeps_pure _
    | with_reducible exact h.a3
    | with_reducible exact h.a4
    | with_reducible exact h.a9.reads
    | split
    | refine keeps_load ?_

set_option maxHeartbeats 400000 in
/-- A trip of the counted loop numbered 23 keeps what it holds. -/
theorem t23 {c : Dev nD} {P : sProp 𝕄} (i : grid0.Coords) {arg2 : Memref sig .tc .vmem S1x256x512 .bf16} {harg2 : arg2.IsWhole} {arg3 : Memref sig .tc .vmem S1x4096x512 .bf16} {harg3 : arg3.IsWhole} {arg4 : Memref sig .tc .vmem S1x4096x512 .bf16} {harg4 : arg4.IsWhole} {arg5 : Memref sig .tc .vmem S1x256x512 .bf16} {harg5 : arg5.IsWhole} {arg6 : Memref sig .tc .vmem S1x4096x128 .bf16} {harg6 : arg6.IsWhole} {arg7 : Memref sig .tc .vmem S1x256x128 .f32} {harg7 : arg7.IsWhole} {arg8 : Memref sig .tc .vmem S1x256x512 .bf16} {harg8 : arg8.IsWhole} {arg9 : Memref sig .tc .vmem S256x4096 .i32} {harg9 : arg9.IsWhole}
    (h : Held (F := F) c P arg2 arg3 arg4 arg5 arg6 arg7 arg8 arg9) (v0 : BitVec 32) (v136 : FVec F S256x128 .f32) (v144 : FVec F S256x128 .bf16) (v145 : FVec F S256x1 .f32) (v146 : FVec F S256x1 .f32) (v147 : FVec F S256x128 .f32) (c0_i32_74 : BitVec 32) (v148 : BitVec 32) (c1_i32_75 : BitVec 32) (v165 : Vec F S1x256x128 .bf16) (trip : Fin (k0_t23_loop i).trips) (carried : FVec F S256x1 .f32 × FVec F S256x1 .f32 × FVec F S256x128 .f32) :
    Keeps (F := F) c P (k0_t23_body (F := F) i arg2 harg2 arg3 harg3 arg4 harg4 arg5 harg5 arg6 harg6 arg7 harg7 arg8 harg8 arg9 harg9 v0 v136 v144 v145 v146 v147 c0_i32_74 v148 c1_i32_75 v165 trip carried) := by
  unfold k0_t23_body
  try dsimp only
  repeat' first
    | with_reducible refine keeps_bind ?_ fun _ => ?_
    | with_reducible exact keeps_pure _
    | with_reducible exact h.a3
    | with_reducible exact h.a4
    | with_reducible exact h.a9.reads
    | split
    | refine keeps_load ?_

set_option maxHeartbeats 400000 in
/-- A trip of the counted loop numbered 24 keeps what it holds. -/
theorem t24 {c : Dev nD} {P : sProp 𝕄} (i : grid0.Coords) {arg2 : Memref sig .tc .vmem S1x256x512 .bf16} {harg2 : arg2.IsWhole} {arg3 : Memref sig .tc .vmem S1x4096x512 .bf16} {harg3 : arg3.IsWhole} {arg4 : Memref sig .tc .vmem S1x4096x512 .bf16} {harg4 : arg4.IsWhole} {arg5 : Memref sig .tc .vmem S1x256x512 .bf16} {harg5 : arg5.IsWhole} {arg6 : Memref sig .tc .vmem S1x4096x128 .bf16} {harg6 : arg6.IsWhole} {arg7 : Memref sig .tc .vmem S1x256x128 .f32} {harg7 : arg7.IsWhole} {arg8 : Memref sig .tc .vmem S1x256x512 .bf16} {harg8 : arg8.IsWhole} {arg9 : Memref sig .tc .vmem S256x4096 .i32} {harg9 : arg9.IsWhole}
    (h : Held (F := F) c P arg2 arg3 arg4 arg5 arg6 arg7 arg8 arg9) (v0 : BitVec 32) (v136 : FVec F S256x128 .f32) (v144 : FVec F S256x128 .bf16) (v145 : FVec F S256x1 .f32) (v146 : FVec F S256x1 .f32) (v147 : FVec F S256x128 .f32) (c0_i32_74 : BitVec 32) (v148 : BitVec 32) (c1_i32_75 : BitVec 32) (v165 : Vec F S1x256x128 .bf16) (trip : Fin (k0_t24_loop i).trips) (carried : FVec F S256x1 .f32 × FVec F S256x1 .f32 × FVec F S256x128 .f32) :
    Keeps (F := F) c P (k0_t24_body (F := F) i arg2 harg2 arg3 harg3 arg4 harg4 arg5 harg5 arg6 harg6 arg7 harg7 arg8 harg8 arg9 harg9 v0 v136 v144 v145 v146 v147 c0_i32_74 v148 c1_i32_75 v165 trip carried) := by
  unfold k0_t24_body
  try dsimp only
  repeat' first
    | with_reducible refine keeps_bind ?_ fun _ => ?_
    | with_reducible exact keeps_pure _
    | with_reducible exact h.a3
    | with_reducible exact h.a4
    | with_reducible exact h.a9.reads
    | split
    | refine keeps_load ?_

set_option maxHeartbeats 400000 in
/-- Stretch 13 of the body keeps what it holds. -/
theorem part13 {c : Dev nD} {P : sProp 𝕄} (i : grid0.Coords) {arg2 : Memref sig .tc .vmem S1x256x512 .bf16} {harg2 : arg2.IsWhole} {arg3 : Memref sig .tc .vmem S1x4096x512 .bf16} {harg3 : arg3.IsWhole} {arg4 : Memref sig .tc .vmem S1x4096x512 .bf16} {harg4 : arg4.IsWhole} {arg5 : Memref sig .tc .vmem S1x256x512 .bf16} {harg5 : arg5.IsWhole} {arg6 : Memref sig .tc .vmem S1x4096x128 .bf16} {harg6 : arg6.IsWhole} {arg7 : Memref sig .tc .vmem S1x256x128 .f32} {harg7 : arg7.IsWhole} {arg8 : Memref sig .tc .vmem S1x256x512 .bf16} {harg8 : arg8.IsWhole} {arg9 : Memref sig .tc .vmem S256x4096 .i32} {harg9 : arg9.IsWhole}
    (h : Held (F := F) c P arg2 arg3 arg4 arg5 arg6 arg7 arg8 arg9) (v0 : BitVec 32) (v136 : FVec F S256x128 .f32) (v144 : FVec F S256x128 .bf16) (v145 : FVec F S256x1 .f32) (v146 : FVec F S256x1 .f32) (v147 : FVec F S256x128 .f32) (c0_i32_74 : BitVec 32) (v148 : BitVec 32) (c1_i32_75 : BitVec 32) :
    Keeps (F := F) c P (k0_part13 (F := F) i arg2 harg2 arg3 harg3 arg4 harg4 arg5 harg5 arg6 harg6 arg7 harg7 arg8 harg8 arg9 harg9 v0 v136 v144 v145 v146 v147 c0_i32_74 v148 c1_i32_75) := by
  rw [k0_part13_eq_skeleton]; unfold k0_part13_skel
  try dsimp only
  repeat' first
    | with_reducible refine keeps_bind ?_ fun _ => ?_
    | with_reducible exact keeps_pure _
    | with_reducible exact h.a8
    | with_reducible exact h.a2
    | with_reducible exact h.a8.reads
    | with_reducible exact keeps_for fun _ _ => t21 i h _ _ _ _ _ _ _ _ _ _ _
    | with_reducible exact keeps_for fun _ _ => t22 i h _ _ _ _ _ _ _ _ _ _ _
    | with_reducible exact keeps_for fun _ _ => t23 i h _ _ _ _ _ _ _ _ _ _ _ _
    | with_reducible exact keeps_for fun _ _ => t24 i h _ _ _ _ _ _ _ _ _ _ _ _
    | split
    | refine keeps_load ?_
    | refine keeps_store ?_

set_option maxHeartbeats 400000 in
/-- A trip of the counted loop numbered 25 keeps what it holds. -/
theorem t25 {c : Dev nD} {P : sProp 𝕄} (i : grid0.Coords) {arg2 : Memref sig .tc .vmem S1x256x512 .bf16} {harg2 : arg2.IsWhole} {arg3 : Memref sig .tc .vmem S1x4096x512 .bf16} {harg3 : arg3.IsWhole} {arg4 : Memref sig .tc .vmem S1x4096x512 .bf16} {harg4 : arg4.IsWhole} {arg5 : Memref sig .tc .vmem S1x256x512 .bf16} {harg5 : arg5.IsWhole} {arg6 : Memref sig .tc .vmem S1x4096x128 .bf16} {harg6 : arg6.IsWhole} {arg7 : Memref sig .tc .vmem S1x256x128 .f32} {harg7 : arg7.IsWhole} {arg8 : Memref sig .tc .vmem S1x256x512 .bf16} {harg8 : arg8.IsWhole} {arg9 : Memref sig .tc .vmem S256x4096 .i32} {harg9 : arg9.IsWhole}
    (h : Held (F := F) c P arg2 arg3 arg4 arg5 arg6 arg7 arg8 arg9) (v0 : BitVec 32) (v166 : FVec F S256x128 .bf16) (v186 : FVec F S256x128 .f32) (v187 : IVec S256x128 32) (v188 : IVec S256x128 32) (trip : Fin (k0_t25_loop i).trips) (carried : FVec F S256x1 .f32 × FVec F S256x1 .f32 × FVec F S256x128 .f32) :
    Keeps (F := F) c P (k0_t25_body (F := F) i arg2 harg2 arg3 harg3 arg4 harg4 arg5 harg5 arg6 harg6 arg7 harg7 arg8 harg8 arg9 harg9 v0 v166 v186 v187 v188 trip carried) := by
  unfold k0_t25_body
  try dsimp only
  repeat' first
    | with_reducible refine keeps_bind ?_ fun _ => ?_
    | with_reducible exact keeps_pure _
    | with_reducible exact h.a3
    | with_reducible exact h.a4
    | with_reducible exact h.a9.reads
    | split
    | refine keeps_load ?_

set_option maxHeartbeats 400000 in
/-- A trip of the counted loop numbered 26 keeps what it holds. -/
theorem t26 {c : Dev nD} {P : sProp 𝕄} (i : grid0.Coords) {arg2 : Memref sig .tc .vmem S1x256x512 .bf16} {harg2 : arg2.IsWhole} {arg3 : Memref sig .tc .vmem S1x4096x512 .bf16} {harg3 : arg3.IsWhole} {arg4 : Memref sig .tc .vmem S1x4096x512 .bf16} {harg4 : arg4.IsWhole} {arg5 : Memref sig .tc .vmem S1x256x512 .bf16} {harg5 : arg5.IsWhole} {arg6 : Memref sig .tc .vmem S1x4096x128 .bf16} {harg6 : arg6.IsWhole} {arg7 : Memref sig .tc .vmem S1x256x128 .f32} {harg7 : arg7.IsWhole} {arg8 : Memref sig .tc .vmem S1x256x512 .bf16} {harg8 : arg8.IsWhole} {arg9 : Memref sig .tc .vmem S256x4096 .i32} {harg9 : arg9.IsWhole}
    (h : Held (F := F) c P arg2 arg3 arg4 arg5 arg6 arg7 arg8 arg9) (v0 : BitVec 32) (v166 : FVec F S256x128 .bf16) (v186 : FVec F S256x128 .f32) (v187 : IVec S256x128 32) (v188 : IVec S256x128 32) (trip : Fin (k0_t26_loop i).trips) (carried : FVec F S256x1 .f32 × FVec F S256x1 .f32 × FVec F S256x128 .f32) :
    Keeps (F := F) c P (k0_t26_body (F := F) i arg2 harg2 arg3 harg3 arg4 harg4 arg5 harg5 arg6 harg6 arg7 harg7 arg8 harg8 arg9 harg9 v0 v166 v186 v187 v188 trip carried) := by
  unfold k0_t26_body
  try dsimp only
  repeat' first
    | with_reducible refine keeps_bind ?_ fun _ => ?_
    | with_reducible exact keeps_pure _
    | with_reducible exact h.a3
    | with_reducible exact h.a4
    | with_reducible exact h.a9.reads
    | split
    | refine keeps_load ?_

set_option maxHeartbeats 400000 in
/-- Stretch 14 of the body keeps what it holds. -/
theorem part14 {c : Dev nD} {P : sProp 𝕄} (i : grid0.Coords) {arg2 : Memref sig .tc .vmem S1x256x512 .bf16} {harg2 : arg2.IsWhole} {arg3 : Memref sig .tc .vmem S1x4096x512 .bf16} {harg3 : arg3.IsWhole} {arg4 : Memref sig .tc .vmem S1x4096x512 .bf16} {harg4 : arg4.IsWhole} {arg5 : Memref sig .tc .vmem S1x256x512 .bf16} {harg5 : arg5.IsWhole} {arg6 : Memref sig .tc .vmem S1x4096x128 .bf16} {harg6 : arg6.IsWhole} {arg7 : Memref sig .tc .vmem S1x256x128 .f32} {harg7 : arg7.IsWhole} {arg8 : Memref sig .tc .vmem S1x256x512 .bf16} {harg8 : arg8.IsWhole} {arg9 : Memref sig .tc .vmem S256x4096 .i32} {harg9 : arg9.IsWhole}
    (h : Held (F := F) c P arg2 arg3 arg4 arg5 arg6 arg7 arg8 arg9) (v0 : BitVec 32) (v166 : FVec F S256x128 .bf16) (v186 : FVec F S256x128 .f32) (v187 : IVec S256x128 32) (v188 : IVec S256x128 32) :
    Keeps (F := F) c P (k0_part14 (F := F) i arg2 harg2 arg3 harg3 arg4 harg4 arg5 harg5 arg6 harg6 arg7 harg7 arg8 harg8 arg9 harg9 v0 v166 v186 v187 v188) := by
  rw [k0_part14_eq_skeleton]; unfold k0_part14_skel
  try dsimp only
  repeat' first
    | with_reducible refine keeps_bind ?_ fun _ => ?_
    | with_reducible exact keeps_pure _
    | with_reducible exact h.a8
    | with_reducible exact h.a2
    | with_reducible exact h.a8.reads
    | with_reducible exact keeps_for fun _ _ => t25 i h _ _ _ _ _ _ _
    | with_reducible exact keeps_for fun _ _ => t26 i h _ _ _ _ _ _ _
    | split
    | refine keeps_load ?_
    | refine keeps_store ?_

set_option maxHeartbeats 400000 in
/-- A trip of the counted loop numbered 27 keeps what it holds. -/
theorem t27 {c : Dev nD} {P : sProp 𝕄} (i : grid0.Coords) {arg2 : Memref sig .tc .vmem S1x256x512 .bf16} {harg2 : arg2.IsWhole} {arg3 : Memref sig .tc .vmem S1x4096x512 .bf16} {harg3 : arg3.IsWhole} {arg4 : Memref sig .tc .vmem S1x4096x512 .bf16} {harg4 : arg4.IsWhole} {arg5 : Memref sig .tc .vmem S1x256x512 .bf16} {harg5 : arg5.IsWhole} {arg6 : Memref sig .tc .vmem S1x4096x128 .bf16} {harg6 : arg6.IsWhole} {arg7 : Memref sig .tc .vmem S1x256x128 .f32} {harg7 : arg7.IsWhole} {arg8 : Memref sig .tc .vmem S1x256x512 .bf16} {harg8 : arg8.IsWhole} {arg9 : Memref sig .tc .vmem S256x4096 .i32} {harg9 : arg9.IsWhole}
    (h : Held (F := F) c P arg2 arg3 arg4 arg5 arg6 arg7 arg8 arg9) (v224 : FVec F S256x128 .bf16) (trip : Fin (k0_t27_loop i).trips) (carried : FVec F S256x1 .f32 × FVec F S256x1 .f32 × FVec F S256x128 .f32) :
    Keeps (F := F) c P (k0_t27_body (F := F) i arg2 harg2 arg3 harg3 arg4 harg4 arg5 harg5 arg6 harg6 arg7 harg7 arg8 harg8 arg9 harg9 v224 trip carried) := by
  unfold k0_t27_body
  try dsimp only
  repeat' first
    | with_reducible refine keeps_bind ?_ fun _ => ?_
    | with_reducible exact keeps_pure _
    | with_reducible exact h.a3
    | with_reducible exact h.a4
    | with_reducible exact h.a9.reads
    | split
    | refine keeps_load ?_

set_option maxHeartbeats 400000 in
/-- A trip of the counted loop numbered 28 keeps what it holds. -/
theorem t28 {c : Dev nD} {P : sProp 𝕄} (i : grid0.Coords) {arg2 : Memref sig .tc .vmem S1x256x512 .bf16} {harg2 : arg2.IsWhole} {arg3 : Memref sig .tc .vmem S1x4096x512 .bf16} {harg3 : arg3.IsWhole} {arg4 : Memref sig .tc .vmem S1x4096x512 .bf16} {harg4 : arg4.IsWhole} {arg5 : Memref sig .tc .vmem S1x256x512 .bf16} {harg5 : arg5.IsWhole} {arg6 : Memref sig .tc .vmem S1x4096x128 .bf16} {harg6 : arg6.IsWhole} {arg7 : Memref sig .tc .vmem S1x256x128 .f32} {harg7 : arg7.IsWhole} {arg8 : Memref sig .tc .vmem S1x256x512 .bf16} {harg8 : arg8.IsWhole} {arg9 : Memref sig .tc .vmem S256x4096 .i32} {harg9 : arg9.IsWhole}
    (h : Held (F := F) c P arg2 arg3 arg4 arg5 arg6 arg7 arg8 arg9) (v224 : FVec F S256x128 .bf16) (trip : Fin (k0_t28_loop i).trips) (carried : FVec F S256x1 .f32 × FVec F S256x1 .f32 × FVec F S256x128 .f32) :
    Keeps (F := F) c P (k0_t28_body (F := F) i arg2 harg2 arg3 harg3 arg4 harg4 arg5 harg5 arg6 harg6 arg7 harg7 arg8 harg8 arg9 harg9 v224 trip carried) := by
  unfold k0_t28_body
  try dsimp only
  repeat' first
    | with_reducible refine keeps_bind ?_ fun _ => ?_
    | with_reducible exact keeps_pure _
    | with_reducible exact h.a3
    | with_reducible exact h.a4
    | with_reducible exact h.a9.reads
    | split
    | refine keeps_load ?_

set_option maxHeartbeats 400000 in
/-- A trip of the counted loop numbered 29 keeps what it holds. -/
theorem t29 {c : Dev nD} {P : sProp 𝕄} (i : grid0.Coords) {arg2 : Memref sig .tc .vmem S1x256x512 .bf16} {harg2 : arg2.IsWhole} {arg3 : Memref sig .tc .vmem S1x4096x512 .bf16} {harg3 : arg3.IsWhole} {arg4 : Memref sig .tc .vmem S1x4096x512 .bf16} {harg4 : arg4.IsWhole} {arg5 : Memref sig .tc .vmem S1x256x512 .bf16} {harg5 : arg5.IsWhole} {arg6 : Memref sig .tc .vmem S1x4096x128 .bf16} {harg6 : arg6.IsWhole} {arg7 : Memref sig .tc .vmem S1x256x128 .f32} {harg7 : arg7.IsWhole} {arg8 : Memref sig .tc .vmem S1x256x512 .bf16} {harg8 : arg8.IsWhole} {arg9 : Memref sig .tc .vmem S256x4096 .i32} {harg9 : arg9.IsWhole}
    (h : Held (F := F) c P arg2 arg3 arg4 arg5 arg6 arg7 arg8 arg9) (v216 : FVec F S256x128 .bf16) (trip : Fin (k0_t29_loop i).trips) (carried : FVec F S256x1 .f32 × FVec F S256x1 .f32 × FVec F S256x128 .f32) :
    Keeps (F := F) c P (k0_t29_body (F := F) i arg2 harg2 arg3 harg3 arg4 harg4 arg5 harg5 arg6 harg6 arg7 harg7 arg8 harg8 arg9 harg9 v216 trip carried) := by
  unfold k0_t29_body
  try dsimp only
  repeat' first
    | with_reducible refine keeps_bind ?_ fun _ => ?_
    | with_reducible exact keeps_pure _
    | with_reducible exact h.a3
    | with_reducible exact h.a4
    | with_reducible exact h.a9.reads
    | split
    | refine keeps_load ?_

set_option maxHeartbeats 400000 in
/-- A trip of the counted loop numbered 30 keeps what it holds. -/
theorem t30 {c : Dev nD} {P : sProp 𝕄} (i : grid0.Coords) {arg2 : Memref sig .tc .vmem S1x256x512 .bf16} {harg2 : arg2.IsWhole} {arg3 : Memref sig .tc .vmem S1x4096x512 .bf16} {harg3 : arg3.IsWhole} {arg4 : Memref sig .tc .vmem S1x4096x512 .bf16} {harg4 : arg4.IsWhole} {arg5 : Memref sig .tc .vmem S1x256x512 .bf16} {harg5 : arg5.IsWhole} {arg6 : Memref sig .tc .vmem S1x4096x128 .bf16} {harg6 : arg6.IsWhole} {arg7 : Memref sig .tc .vmem S1x256x128 .f32} {harg7 : arg7.IsWhole} {arg8 : Memref sig .tc .vmem S1x256x512 .bf16} {harg8 : arg8.IsWhole} {arg9 : Memref sig .tc .vmem S256x4096 .i32} {harg9 : arg9.IsWhole}
    (h : Held (F := F) c P arg2 arg3 arg4 arg5 arg6 arg7 arg8 arg9) (v216 : FVec F S256x128 .bf16) (trip : Fin (k0_t30_loop i).trips) (carried : FVec F S256x1 .f32 × FVec F S256x1 .f32 × FVec F S256x128 .f32) :
    Keeps (F := F) c P (k0_t30_body (F := F) i arg2 harg2 arg3 harg3 arg4 harg4 arg5 harg5 arg6 harg6 arg7 harg7 arg8 harg8 arg9 harg9 v216 trip carried) := by
  unfold k0_t30_body
  try dsimp only
  repeat' first
    | with_reducible refine keeps_bind ?_ fun _ => ?_
    | with_reducible exact keeps_pure _
    | with_reducible exact h.a3
    | with_reducible exact h.a4
    | with_reducible exact h.a9.reads
    | split
    | refine keeps_load ?_

set_option maxHeartbeats 400000 in
/-- Stretch 15 of the body keeps what it holds. -/
theorem part15 {c : Dev nD} {P : sProp 𝕄} (i : grid0.Coords) {arg2 : Memref sig .tc .vmem S1x256x512 .bf16} {harg2 : arg2.IsWhole} {arg3 : Memref sig .tc .vmem S1x4096x512 .bf16} {harg3 : arg3.IsWhole} {arg4 : Memref sig .tc .vmem S1x4096x512 .bf16} {harg4 : arg4.IsWhole} {arg5 : Memref sig .tc .vmem S1x256x512 .bf16} {harg5 : arg5.IsWhole} {arg6 : Memref sig .tc .vmem S1x4096x128 .bf16} {harg6 : arg6.IsWhole} {arg7 : Memref sig .tc .vmem S1x256x128 .f32} {harg7 : arg7.IsWhole} {arg8 : Memref sig .tc .vmem S1x256x512 .bf16} {harg8 : arg8.IsWhole} {arg9 : Memref sig .tc .vmem S256x4096 .i32} {harg9 : arg9.IsWhole}
    (h : Held (F := F) c P arg2 arg3 arg4 arg5 arg6 arg7 arg8 arg9) :
    Keeps (F := F) c P (k0_part15 (F := F) i arg2 harg2 arg3 harg3 arg4 harg4 arg5 harg5 arg6 harg6 arg7 harg7 arg8 harg8 arg9 harg9) := by
  rw [k0_part15_eq_skeleton]; unfold k0_part15_skel
  try dsimp only
  repeat' first
    | with_reducible refine keeps_bind ?_ fun _ => ?_
    | with_reducible exact keeps_pure _
    | with_reducible exact part9 i h
    | with_reducible exact part10 i h _ _ _ _ _
    | with_reducible exact part11 i h _ _ _ _
    | with_reducible exact part12 i h _ _
    | with_reducible exact part13 i h _ _ _ _ _ _ _ _ _
    | with_reducible exact part14 i h _ _ _ _ _
    | with_reducible exact keeps_for fun _ _ => t27 i h _ _ _
    | with_reducible exact keeps_for fun _ _ => t28 i h _ _ _
    | with_reducible exact keeps_for fun _ _ => t29 i h _ _ _
    | with_reducible exact keeps_for fun _ _ => t30 i h _ _ _
    | split

set_option maxHeartbeats 400000 in
/-- The kernel's body keeps what it holds. -/
theorem whole {c : Dev nD} {P : sProp 𝕄} (i : grid0.Coords) {arg2 : Memref sig .tc .vmem S1x256x512 .bf16} {harg2 : arg2.IsWhole} {arg3 : Memref sig .tc .vmem S1x4096x512 .bf16} {harg3 : arg3.IsWhole} {arg4 : Memref sig .tc .vmem S1x4096x512 .bf16} {harg4 : arg4.IsWhole} {arg5 : Memref sig .tc .vmem S1x256x512 .bf16} {harg5 : arg5.IsWhole} {arg6 : Memref sig .tc .vmem S1x4096x128 .bf16} {harg6 : arg6.IsWhole} {arg7 : Memref sig .tc .vmem S1x256x128 .f32} {harg7 : arg7.IsWhole} {arg8 : Memref sig .tc .vmem S1x256x512 .bf16} {harg8 : arg8.IsWhole} {arg9 : Memref sig .tc .vmem S256x4096 .i32} {harg9 : arg9.IsWhole}
    (h : Held (F := F) c P arg2 arg3 arg4 arg5 arg6 arg7 arg8 arg9) :
    Keeps (F := F) c P (cc0_dsa (F := F) i arg2 harg2 arg3 harg3 arg4 harg4 arg5 harg5 arg6 harg6 arg7 harg7 arg8 harg8 arg9 harg9) := by
  rw [cc0_dsa_eq_skeleton]; unfold cc0_dsa_skel
  try dsimp only
  repeat' first
    | with_reducible refine keeps_bind ?_ fun _ => ?_
    | with_reducible exact keeps_pure _
    | with_reducible exact h.a8
    | with_reducible exact h.a8.reads
    | with_reducible exact part15 i h
    | split
    | refine keeps_load ?_
    | refine keeps_store ?_

end Cert.Dsa.Safe

end
-- ==== Proof.DsaRun.lean ====
/-
  The sparse attention's run: every grid point leaves its operands' blocks in place, and the launch ends with the arguments unchanged.
-/
module

public import proofs.«01_k».proof.Proof.DsaParts
public import Idealize.ShloMosaic.Lib.Pipeline.FrameBody
public import Idealize.ShloMosaic.Lib.Pipeline.Frame
public import Idealize.ShloMosaic.Lib.Ring
public import Idealize.ShloMosaic.Lib.Tactic
public import Idealize.ShloMosaic.Lib.Claim

@[expose] public section

set_option maxRecDepth 16384

noncomputable section

namespace Cert.Dsa.Run

open Cert.Dsa Cert.Dsa.Gen Cert.Dsa.Safe
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- What the body holds: the six operands' blocks as they were fetched, the result's and the scratch's buffers at whatever they hold. -/
def all (c : Dev nD) (arg2 : Memref sig .tc .vmem S1x256x512 .bf16) (arg3 : Memref sig .tc .vmem S1x4096x512 .bf16) (arg4 : Memref sig .tc .vmem S1x4096x512 .bf16) (arg5 : Memref sig .tc .vmem S1x256x512 .bf16) (arg6 : Memref sig .tc .vmem S1x4096x128 .bf16) (arg7 : Memref sig .tc .vmem S1x256x128 .f32) (arg8 : Memref sig .tc .vmem S1x256x512 .bf16) (arg9 : Memref sig .tc .vmem S256x4096 .i32)
    (x2 : Vec F S1x256x512 .bf16) (x3 x4 : Vec F S1x4096x512 .bf16) (x5 : Vec F S1x256x512 .bf16) (x6 : Vec F S1x4096x128 .bf16) (x7 : Vec F S1x256x128 .f32) : sProp 𝕄 :=
  iprop(owns (c : Thread nD τ) arg2 fullShare x2 ∗ owns (c : Thread nD τ) arg3 fullShare x3 ∗ owns (c : Thread nD τ) arg4 fullShare x4
    ∗ owns (c : Thread nD τ) arg5 fullShare x5 ∗ owns (c : Thread nD τ) arg6 fullShare x6 ∗ owns (c : Thread nD τ) arg7 fullShare x7
    ∗ (∃ d, owns (c : Thread nD τ) arg8 fullShare d) ∗ (∃ d, owns (c : Thread nD τ) arg9 fullShare d))

/-- A buffer held at one value, among other things, is held unchanged. -/
theorem reads_of {c : Dev nD} {P R : sProp 𝕄} {S : Shape} {e : EltTy} {M : Memref sig .tc .vmem S e} {x : Vec F S e}
    (h : P ⊢ iprop(owns (c : Thread nD τ) M fullShare x ∗ R)) (h' : iprop(owns (c : Thread nD τ) M fullShare x ∗ R) ⊢ P) : Reads (F := F) c P M := by
  unfold Reads
  refine BIBase.Entails.trans h ?_
  unfold owns
  iintro ⟨⟨%f, %hf, H⟩, HR⟩
  iexists f
  isplitl [H]; · iexact H
  iintro H
  iapply h'
  unfold owns
  isplitl [H]
  · iexists f; isplitr; · ipureintro; exact hf
    iexact H
  iexact HR

/-- A buffer held at some value, among other things, may be written. -/
theorem writes_of {c : Dev nD} {P R : sProp 𝕄} {S : Shape} {e : EltTy} {M : Memref sig .tc .vmem S e}
    (h : P ⊢ iprop((∃ d : Vec F S e, owns (c : Thread nD τ) M fullShare d) ∗ R)) (h' : iprop((∃ d : Vec F S e, owns (c : Thread nD τ) M fullShare d) ∗ R) ⊢ P) : Writes (F := F) c P M := by
  unfold Writes
  refine BIBase.Entails.trans h ?_
  unfold owns
  iintro ⟨⟨%d, %f, -, H⟩, HR⟩
  iexists f
  isplitl [H]; · iexact H
  iintro %g H
  iapply h'
  unfold owns
  isplitl [H]
  · iexists _; iexists g; isplitr; swap; · iexact H
    ipureintro; rfl
  iexact HR

/-- The body's eight buffers are held. -/
theorem held (c : Dev nD) (arg2 : Memref sig .tc .vmem S1x256x512 .bf16) (arg3 : Memref sig .tc .vmem S1x4096x512 .bf16) (arg4 : Memref sig .tc .vmem S1x4096x512 .bf16) (arg5 : Memref sig .tc .vmem S1x256x512 .bf16) (arg6 : Memref sig .tc .vmem S1x4096x128 .bf16) (arg7 : Memref sig .tc .vmem S1x256x128 .f32) (arg8 : Memref sig .tc .vmem S1x256x512 .bf16) (arg9 : Memref sig .tc .vmem S256x4096 .i32)
    (x2 : Vec F S1x256x512 .bf16) (x3 x4 : Vec F S1x4096x512 .bf16) (x5 : Vec F S1x256x512 .bf16) (x6 : Vec F S1x4096x128 .bf16) (x7 : Vec F S1x256x128 .f32) :
    Held (F := F) c (all (F := F) c arg2 arg3 arg4 arg5 arg6 arg7 arg8 arg9 x2 x3 x4 x5 x6 x7) arg2 arg3 arg4 arg5 arg6 arg7 arg8 arg9 where
  a2 := by
    refine reads_of (x := x2) (R := iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d))) ?_ ?_ <;> unfold all
    · iintro ⟨H2, H3, H4, H5, H6, H7, H8, H9⟩
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · iintro ⟨H2, H3, H4, H5, H6, H7, H8, H9⟩
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
  a3 := by
    refine reads_of (x := x3) (R := iprop(owns (c : Thread nD τ) arg2 fullShare x2 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d))) ?_ ?_ <;> unfold all
    · iintro ⟨H2, H3, H4, H5, H6, H7, H8, H9⟩
      isplitl [H3]; · iexact H3
      isplitl [H2]; · iexact H2
      isplitl [H4]; · iexact H4
      isplitl [H5]; · iexact H5
      isplitl [H6]; · iexact H6
      isplitl [H7]; · iexact H7
      isplitl [H8]; · iexact H8
      iexact H9
    · iintro ⟨H3, H2, H4, H5, H6, H7, H8, H9⟩
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
  a4 := by
    refine reads_of (x := x4) (R := iprop(owns (c : Thread nD τ) arg2 fullShare x2 ∗ owns (c : Thread nD τ) arg3 fullShare x3 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d))) ?_ ?_ <;> unfold all
    · iintro ⟨H2, H3, H4, H5, H6, H7, H8, H9⟩
      isplitl [H4]; · iexact H4
      isplitl [H2]; · iexact H2
      isplitl [H3]; · iexact H3
      isplitl [H5]; · iexact H5
      isplitl [H6]; · iexact H6
      isplitl [H7]; · iexact H7
      isplitl [H8]; · iexact H8
      iexact H9
    · iintro ⟨H4, H2, H3, H5, H6, H7, H8, H9⟩
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
  a5 := by
    refine reads_of (x := x5) (R := iprop(owns (c : Thread nD τ) arg2 fullShare x2 ∗ owns (c : Thread nD τ) arg3 fullShare x3 ∗ owns (c : Thread nD τ) arg4 fullShare x4 ∗ owns (c : Thread nD τ) arg6 fullShare x6 ∗ owns (c : Thread nD τ) arg7 fullShare x7 ∗ (∃ d, owns (c : Thread nD τ) arg8 fullShare d) ∗ (∃ d, owns (c : Thread nD τ) arg9 fullShare d))) ?_ ?_ <;> unfold all
    · iintro ⟨H2, H3, H4, H5, H6, H7, H8, H9⟩
      isplitl [H5]; · iexact H5
      isplitl [H2]; · iexact H2
      isplitl [H3]; · iexact H3
      isplitl [H4]; · iexact H4
      isplitl [H6]; · iexact H6
      isplitl [H7]; · iexact H7
      isplitl [H8]; · iexact H8
      iexact H9
    · iintro ⟨H5, H2, H3, H4, H6, H7, H8, H9⟩
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
  a6 := by
    refine reads_of (x := x6) (R := iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg7 fullShare x7 ∗ (∃ d, owns (c : Thread nD τ) arg8 fullShare d) ∗ (∃ d, owns (c : Thread nD τ) arg9 fullShare d))) ?_ ?_ <;> unfold all
    · iintro ⟨H2, H3, H4, H5, H6, H7, H8, H9⟩
      isplitl [H6]; · iexact H6
      isplitl [H2]; · iexact H2
      isplitl [H3]; · iexact H3
      isplitl [H4]; · iexact H4
      isplitl [H5]; · iexact H5
      isplitl [H7]; · iexact H7
      isplitl [H8]; · iexact H8
      iexact H9
    · iintro ⟨H6, H2, H3, H4, H5, H7, H8, H9⟩
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
  a7 := by
    refine reads_of (x := x7) (R := iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg8 fullShare d) ∗ (∃ d, owns (c : Thread nD τ) arg9 fullShare d))) ?_ ?_ <;> unfold all
    · iintro ⟨H2, H3, H4, H5, H6, H7, H8, H9⟩
      isplitl [H7]; · iexact H7
      isplitl [H2]; · iexact H2
      isplitl [H3]; · iexact H3
      isplitl [H4]; · iexact H4
      isplitl [H5]; · iexact H5
      isplitl [H6]; · iexact H6
      isplitl [H8]; · iexact H8
      iexact H9
    · iintro ⟨H7, H2, H3, H4, H5, H6, H8, H9⟩
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
  a8 := by
    refine writes_of (R := iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg9 fullShare d))) ?_ ?_ <;> unfold all
    · iintro ⟨H2, H3, H4, H5, H6, H7, H8, H9⟩
      isplitl [H8]; · iexact H8
      isplitl [H2]; · iexact H2
      isplitl [H3]; · iexact H3
      isplitl [H4]; · iexact H4
      isplitl [H5]; · iexact H5
      isplitl [H6]; · iexact H6
      isplitl [H7]; · iexact H7
      iexact H9
    · iintro ⟨H8, H2, H3, H4, H5, H6, H7, H9⟩
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
  a9 := by
    refine writes_of (R := iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d))) ?_ ?_ <;> unfold all
    · iintro ⟨H2, H3, H4, H5, H6, H7, H8, H9⟩
      isplitl [H9]; · iexact H9
      isplitl [H2]; · iexact H2
      isplitl [H3]; · iexact H3
      isplitl [H4]; · iexact H4
      isplitl [H5]; · iexact H5
      isplitl [H6]; · iexact H6
      isplitl [H7]; · iexact H7
      iexact H8
    · iintro ⟨H9, H2, H3, H4, H5, H6, H7, H8⟩
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9

/-- What the proof says of the launch: each operand's block left as fetched, nothing of the result, nothing of the scratch. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
  Φ _ := Pipeline.ΦA spec0 c
  q w := Pipeline.shareOf spec0 w
  owed _ := 0

/-- The one window nothing is said of: the result's. -/
def unsaid : Fin 7 → Bool
  | ⟨6, _⟩ => true
  | _ => false

/-- The arrays as the launch finds them. -/
theorem A_eq (c : Dev nD) (w : Fin cfg0.W) : (dats m 0 c).A w = V m c (Pipeline.arrRef spec0 w) := by dsimp only [dats]

/-- Operand 0's buffer holds its block at every point. -/
theorem before0 (c : Dev nD) (t : Fin cfg0.N) (d) : (dats m 0 c).before 0 t d = iblk m c 0 t :=
  before0_0_of m (dats m 0 c) (A_eq m c 0) (fun _ => by dsimp only [dats]) t d
/-- Operand 1's buffer holds its block at every point. -/
theorem before1 (c : Dev nD) (t : Fin cfg0.N) (d) : (dats m 0 c).before 1 t d = iblk m c 1 t :=
  before0_1_of m (dats m 0 c) (A_eq m c 1) (fun _ => by dsimp only [dats]) t d
/-- Operand 2's buffer holds its block at every point. -/
theorem before2 (c : Dev nD) (t : Fin cfg0.N) (d) : (dats m 0 c).before 2 t d = iblk m c 2 t :=
  before0_2_of m (dats m 0 c) (A_eq m c 2) (fun _ => by dsimp only [dats]) t d
/-- Operand 3's buffer holds its block at every point. -/
theorem before3 (c : Dev nD) (t : Fin cfg0.N) (d) : (dats m 0 c).before 3 t d = iblk m c 3 t :=
  before0_3_of m (dats m 0 c) (A_eq m c 3) (fun _ => by dsimp only [dats]) t d
/-- Operand 4's buffer holds its block at every point. -/
theorem before4 (c : Dev nD) (t : Fin cfg0.N) (d) : (dats m 0 c).before 4 t d = iblk m c 4 t :=
  before0_4_of m (dats m 0 c) (A_eq m c 4) (fun _ => by dsimp only [dats]) t d
/-- Operand 5's buffer holds its block at every point. -/
theorem before5 (c : Dev nD) (t : Fin cfg0.N) (d) : (dats m 0 c).before 5 t d = iblk m c 5 t :=
  before0_5_of m (dats m 0 c) (A_eq m c 5) (fun _ => by dsimp only [dats]) t d

/-- The invariant between points: the scratch at something, and the generator. -/
theorem rest_eq (c : Dev nD) :
    (Pipeline.ΦA spec0 c : sProp 𝕄)
      = iprop((∃ d, owns (c : Thread nD τ) (Memref.whole cc0_scratch0 : Memref sig .tc .vmem S256x4096 .i32) fullShare d) ∗ (∃ r, prngReg c r)) := by
  unfold Pipeline.ΦA; rw [scopedRest0_eq]; simp only [owns_whole]; try rfl

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare d))

/-- What it leaves there. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare (iblk m c 0 t)
    ∗ owns (c : Thread nD τ) (win0_1.stage (cfg0.slots t 1)) fullShare (iblk m c 1 t)
    ∗ owns (c : Thread nD τ) (win0_2.stage (cfg0.slots t 2)) fullShare (iblk m c 2 t)
    ∗ owns (c : Thread nD τ) (win0_3.stage (cfg0.slots t 3)) fullShare (iblk m c 3 t)
    ∗ owns (c : Thread nD τ) (win0_4.stage (cfg0.slots t 4)) fullShare (iblk m c 4 t)
    ∗ owns (c : Thread nD τ) (win0_5.stage (cfg0.slots t 5)) fullShare (iblk m c 5 t)
    ∗ (∃ d, owns (c : Thread nD τ) (win0_6.stage (cfg0.slots t 6)) fullShare d))

/-- The eight buffers a point's body holds. -/
abbrev mine (c : Dev nD) (t : Fin cfg0.N) : sProp 𝕄 :=
  all (F := F) c (win0_0.stage (cfg0.slots t 0)) (win0_1.stage (cfg0.slots t 1)) (win0_2.stage (cfg0.slots t 2)) (win0_3.stage (cfg0.slots t 3)) (win0_4.stage (cfg0.slots t 4)) (win0_5.stage (cfg0.slots t 5)) (win0_6.stage (cfg0.slots t 6)) (Memref.whole cc0_scratch0 : Memref sig .tc .vmem S256x4096 .i32)
    (iblk m c 0 t) (iblk m c 1 t) (iblk m c 2 t) (iblk m c 3 t) (iblk m c 4 t) (iblk m c 5 t)

set_option maxHeartbeats 4000000 in
/-- The body, at any point. -/
theorem sound_body (c : Dev nD) (t : Fin cfg0.N) :
    bodyPre m c t ⊢ wp frame (wpE (defs₀ (F := F)) Variants.none (c : Thread nD τ) none) Set.univ (bodyAt0 t) (fun _ => bodyPost m c t) := by
  have hb := whole (F := F) (c := c) (P := mine m c t) (grid0.coords t) (harg2 := hstage0_0 ((cfg0.slots t 0).cast nbuf0_0)) (harg3 := hstage0_1 ((cfg0.slots t 1).cast nbuf0_1)) (harg4 := hstage0_2 ((cfg0.slots t 2).cast nbuf0_2)) (harg5 := hstage0_3 ((cfg0.slots t 3).cast nbuf0_3)) (harg6 := hstage0_4 ((cfg0.slots t 4).cast nbuf0_4)) (harg7 := hstage0_5 ((cfg0.slots t 5).cast nbuf0_5)) (harg8 := hstage0_6 ((cfg0.slots t 6).cast nbuf0_6)) (harg9 := Memref.isWhole_whole _) (held (F := F) c _ _ _ _ _ _ _ _ _ _ _ _ _ _) Set.univ
  unfold bodyPre bodyAt0
  simp only [before0, before1, before2, before3, before4, before5]
  rw [show (dats m 0 c).Φ t.castSucc = Pipeline.ΦA spec0 c from rfl, rest_eq]
  iintro ⟨⟨HS, Hg⟩, Ho, ⟨%d0, H0⟩, ⟨%d1, H1⟩, ⟨%d2, H2⟩, ⟨%d3, H3⟩, ⟨%d4, H4⟩, ⟨%d5, H5⟩, H6⟩
  iapply (wp_wand_r frame (wpE (defs₀ (F := F)) Variants.none (c : Thread nD τ) none) Set.univ)
  isplitl [HS H0 H1 H2 H3 H4 H5 H6]
  · iapply hb
    unfold mine all
    isplitl [H0]; · iexact H0
    isplitl [H1]; · iexact H1
    isplitl [H2]; · iexact H2
    isplitl [H3]; · iexact H3
    isplitl [H4]; · iexact H4
    isplitl [H5]; · iexact H5
    isplitl [H6]; · iexact H6
    iexact HS
  · iintro %u HP
    unfold mine all bodyPost
    rw [show (dats m 0 c).Φ t.succ = Pipeline.ΦA spec0 c from rfl, rest_eq]
    icases HP with ⟨H0, H1, H2, H3, H4, H5, H6, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The launch calls the body at each point. -/
theorem defs_row (t : Fin cfg0.N) : defs₀ (F := F) .tc cfg0.body (cfg0.bodyArgs t (cfg0.slots t)) = bodyAt0 t := by
  unfold defs₀; rw [Defs.onTc_tc]

/-- The body's obligation, at every point, with nothing said of the result. -/
theorem obligation (c : Dev nD) : BodyObligation (dats (F := F) m 0 c) (defs₀ (F := F)) Variants.none () Set.univ unsaid := fun t => by
  rw [bigSep_W0, bigSep_W0, defs_row]
  exact triple_restated (sound_body m c t) rfl .rfl fun _ => .rfl

variable [∀ e, Nonempty (Elt F e)]

set_option backward.isDefEq.respectTransparency.types false in
/-- The launch: every operand's array ends as it began, every counter at zero. -/
theorem run : θ_run defs (onTc (τ := τ) (main (F := F))) (s₀ m ρ)
    (fun r => Pipeline.RDat.FramePost (cfgs 0) (fun c => (dats m 0 c).toRForget unsaid) (V m) r ∧ r.2.sem = fun _ => 0) :=
  Pipeline.θ_run_frame_forget_shared (Q' := _) cfgs (dats m) (0 : Fin 1) launch₀0 defs₀ Variants.none unsaid m ρ main
    (hbody := fun c => (obligation m c).loose) (hq := fun _ _ _ => rfl)
    (howed := fun _ _ => rfl) (V := V m) (hmain := hmain m Variants.none) (hA := A_eq m) (hΦ := fun _ _ => rfl)

/-- The arguments end as they began, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => ⟨
      ((congrFun (((dats m 0 c).toRForget unsaid).ArrAt_in 3 rfl _) _).mp ((h.1 c).1 3)).trans (V_main_arg0 m c),
      ((congrFun (((dats m 0 c).toRForget unsaid).ArrAt_in 4 rfl _) _).mp ((h.1 c).1 4)).trans (V_main_arg1 m c),
      ((congrFun (((dats m 0 c).toRForget unsaid).ArrAt_in 5 rfl _) _).mp ((h.1 c).1 5)).trans (V_main_arg2 m c)⟩, h.2⟩) (run m ρ)

end Cert.Dsa.Run

end
-- ==== Proof.lean ====
module

public import proofs.«01_k».proof.Defs
public import proofs.«01_k».proof.Proof.Gen.Fox
public import proofs.«01_k».proof.Proof.Gen.Fox.Skeleton
public import proofs.«01_k».proof.Proof.Gen.Fox.Loops
public import proofs.«01_k».proof.Proof.Gen.Fox.Launch
public import proofs.«01_k».proof.Proof.Gen.Fox.Points
public import proofs.«01_k».proof.Proof.Gen.Fox.Frame
public import proofs.«01_k».proof.Proof.Gen.FoxIdeal
public import proofs.«01_k».proof.Proof.Gen.FoxIdeal.Skeleton
public import proofs.«01_k».proof.Proof.Gen.FoxIdeal.Loops
public import proofs.«01_k».proof.Proof.Gen.FoxIdeal.Launch
public import proofs.«01_k».proof.Proof.Gen.FoxIdeal.Points
public import proofs.«01_k».proof.Proof.Gen.FoxIdeal.Frame
public import proofs.«01_k».proof.Proof.Gen.FoxRefIdeal
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutRefIdeal
public import proofs.«01_k».proof.Proof.Gen.Pre_fox_finite
public import proofs.«01_k».proof.Proof.Gen.FoxIdeal.Value
public import proofs.«01_k».proof.Proof.Gen.FoxRefIdeal.Run
public import proofs.«01_k».proof.Proof.Gen.OutIdeal.Value
public import proofs.«01_k».proof.Proof.Gen.OutRefIdeal.Run
public import proofs.«01_k».proof.Proof.FoxFinal
public import proofs.«01_k».proof.Proof.FoxRef
public import proofs.«01_k».proof.Proof.FoxPre
public import proofs.«01_k».proof.Proof.OutRef
public import proofs.«01_k».proof.Proof.OutTile
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.ProjRefIdeal.Run
public import proofs.«01_k».proof.Proof.Gen.Moba
public import proofs.«01_k».proof.Proof.Gen.Moba.Skeleton
public import proofs.«01_k».proof.Proof.Gen.Moba.Loops
public import proofs.«01_k».proof.Proof.Gen.Moba.Launch
public import proofs.«01_k».proof.Proof.Gen.Moba.Points
public import proofs.«01_k».proof.Proof.Gen.Moba.Frame
public import proofs.«01_k».proof.Proof.Gen.MobaIdeal
public import proofs.«01_k».proof.Proof.Gen.MobaIdeal.Skeleton
public import proofs.«01_k».proof.Proof.Gen.MobaIdeal.Loops
public import proofs.«01_k».proof.Proof.Gen.MobaIdeal.Launch
public import proofs.«01_k».proof.Proof.Gen.MobaIdeal.Points
public import proofs.«01_k».proof.Proof.Gen.MobaIdeal.Frame
public import proofs.«01_k».proof.Proof.Gen.MobaRefIdeal
public import proofs.«01_k».proof.Proof.Gen.Pre_moba_finite
public import proofs.«01_k».proof.Proof.Gen.MobaIdeal.Value
public import proofs.«01_k».proof.Proof.Gen.Dsa
public import proofs.«01_k».proof.Proof.Gen.Dsa.Skeleton
public import proofs.«01_k».proof.Proof.Gen.Dsa.Launch
public import proofs.«01_k».proof.Proof.Gen.Dsa.Points
public import proofs.«01_k».proof.Proof.Gen.Dsa.Frame
public import proofs.«01_k».proof.Proof.Gen.Csum
public import proofs.«01_k».proof.Proof.Gen.Csum.Skeleton
public import proofs.«01_k».proof.Proof.Gen.Csum.Launch
public import proofs.«01_k».proof.Proof.Gen.Csum.Points
public import proofs.«01_k».proof.Proof.Gen.Csum.Frame
public import proofs.«01_k».proof.Proof.Gen.CsumIdeal
public import proofs.«01_k».proof.Proof.Gen.CsumIdeal.Skeleton
public import proofs.«01_k».proof.Proof.Gen.CsumIdeal.Launch
public import proofs.«01_k».proof.Proof.Gen.CsumIdeal.Points
public import proofs.«01_k».proof.Proof.Gen.CsumIdeal.Frame
public import proofs.«01_k».proof.Proof.Gen.CsumRefIdeal
public import proofs.«01_k».proof.Proof.Gen.Pre_cumsum_below
public import proofs.«01_k».proof.Proof.Gen.CsumIdeal.Value
public import proofs.«01_k».proof.Proof.Gen.CsumRefIdeal.Run
public import proofs.«01_k».proof.Proof.Gen.MobaRefIdeal.Run
public import proofs.«01_k».proof.Proof.MobaFinal
public import proofs.«01_k».proof.Proof.MobaRef
public import proofs.«01_k».proof.Proof.MobaPre
public import proofs.«01_k».proof.Proof.ProjRun
public import proofs.«01_k».proof.Proof.ProjRef
public import proofs.«01_k».proof.Proof.ProjFinal
public import proofs.«01_k».proof.Proof.CsumRef
public import proofs.«01_k».proof.Proof.CsumFinal
public import proofs.«01_k».proof.Proof.CsumPre
public import proofs.«01_k».proof.Proof.DsaRun
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem

/-- The forgetting attention's two programs end with the same array: each element is the weighted mean of the values. -/
theorem fox_value : Cert.algebraic_FoxIdeal_FoxRefIdeal_pre_fox_finite (hFoxIdeal := Cert.FoxIdeal.Gen.facts)
    (hFoxRefIdeal := Cert.FoxRefIdeal.Gen.facts) (hPre_fox_finite := Cert.Pre_fox_finite.Gen.facts) := by
  intro m g m' g' hpre hagree
  refine ⟨fun c => (Cert.FoxIdeal.Gen.dats m 0 c).arrAt 4 Cert.FoxIdeal.cfg0.N, Cert.FoxIdeal.Value.run_blocks m g, ?_⟩
  refine (θ_run _ _ _).mono (fun r h c => ⟨(h c).1.trans ?_, (h c).2⟩) (Cert.FoxRefIdeal.Value.run (F := Ideal) m' g')
  obtain ⟨hX, hG⟩ := Cert.Pre_fox_finite.real _ _ (hpre c)
  obtain ⟨h0, h1⟩ := hagree c
  refine (Cert.FoxRefIdeal.Val.result m' c _ _ _ ?_ (fun _ _ _ => rfl) ?_).trans ((Cert.FoxIdeal.Tile.final m c _ _ _ hX ?_ hG).symm)
  · rw [h0]; exact hX
  · rw [h1]; exact hG
  · rw [h0]; exact fun _ _ _ => rfl

/-- The reference runs, keeps its arguments, and leaves every counter at zero. -/
theorem fox_ref_frame (m : (ℓ : Loc Cert.FoxRefIdeal.nD Cert.FoxRefIdeal.τ Cert.FoxRefIdeal.sig) → Buf (Elt Ideal) ℓ)
    (g : Dev Cert.FoxRefIdeal.nD → PrngReg) :
    θ_run (Cert.FoxRefIdeal.defs (F := Ideal)) (onTc (τ := Cert.FoxRefIdeal.τ) (Cert.FoxRefIdeal.main (F := Ideal)))
      ⟨m, fun _ => 0, g⟩ (fun r => (∀ c : Dev Cert.FoxRefIdeal.nD,
        r.2.mem ((c.tc : Thread Cert.FoxRefIdeal.nD Cert.FoxRefIdeal.τ).loc Cert.FoxRefIdeal.main_arg0)
          = m ((c.tc : Thread Cert.FoxRefIdeal.nD Cert.FoxRefIdeal.τ).loc Cert.FoxRefIdeal.main_arg0)
        ∧ r.2.mem ((c.tc : Thread Cert.FoxRefIdeal.nD Cert.FoxRefIdeal.τ).loc Cert.FoxRefIdeal.main_arg1)
          = m ((c.tc : Thread Cert.FoxRefIdeal.nD Cert.FoxRefIdeal.τ).loc Cert.FoxRefIdeal.main_arg1))
        ∧ r.2.sem = fun _ => 0) :=
  (θ_run _ _ _).mono (fun r h => ⟨fun c => (h c).2, sem_eq_zero_of_no_sems (by decide) r.2⟩)
    (Cert.FoxRefIdeal.Value.run (F := Ideal) m g)

/-- The output call's two programs end with the same array. -/
theorem out_value : Cert.algebraic_OutIdeal_OutRefIdeal (hOutIdeal := Cert.OutIdeal.Gen.facts)
    (hOutRefIdeal := Cert.OutRefIdeal.Gen.facts) := by
  intro m g m' g' _ hagree
  refine ⟨fun c => (Cert.OutIdeal.Gen.dats m 0 c).arrAt 13 Cert.OutIdeal.cfg0.N, Cert.OutIdeal.Value.run_blocks m g, ?_⟩
  refine (θ_run _ _ _).mono (fun r h c => ⟨(h c).1.trans ?_, (h c).2⟩) (Cert.OutRefIdeal.Value.run (F := Ideal) m' g')
  obtain ⟨h0, h1, h2, h3, h4, h5, h6, h7⟩ := hagree c
  refine (Cert.OutRefIdeal.Val.result m' c).trans (Eq.trans ?_ (Cert.OutIdeal.Tile.final m c).symm)
  rw [h0, h1, h2, h3, h4, h5, h6, h7]

/-- The output call's reference runs, keeps its arguments, and leaves every counter at zero. -/
theorem out_ref_frame (m : (ℓ : Loc Cert.OutRefIdeal.nD Cert.OutRefIdeal.τ Cert.OutRefIdeal.sig) → Buf (Elt Ideal) ℓ)
    (g : Dev Cert.OutRefIdeal.nD → PrngReg) :
    θ_run (Cert.OutRefIdeal.defs (F := Ideal)) (onTc (τ := Cert.OutRefIdeal.τ) (Cert.OutRefIdeal.main (F := Ideal)))
      ⟨m, fun _ => 0, g⟩ (fun r => (∀ c : Dev Cert.OutRefIdeal.nD,
        r.2.mem ((c.tc : Thread Cert.OutRefIdeal.nD Cert.OutRefIdeal.τ).loc Cert.OutRefIdeal.main_arg0)
          = m ((c.tc : Thread Cert.OutRefIdeal.nD Cert.OutRefIdeal.τ).loc Cert.OutRefIdeal.main_arg0)
        ∧ r.2.mem ((c.tc : Thread Cert.OutRefIdeal.nD Cert.OutRefIdeal.τ).loc Cert.OutRefIdeal.main_arg1)
          = m ((c.tc : Thread Cert.OutRefIdeal.nD Cert.OutRefIdeal.τ).loc Cert.OutRefIdeal.main_arg1)
        ∧ r.2.mem ((c.tc : Thread Cert.OutRefIdeal.nD Cert.OutRefIdeal.τ).loc Cert.OutRefIdeal.main_arg2)
          = m ((c.tc : Thread Cert.OutRefIdeal.nD Cert.OutRefIdeal.τ).loc Cert.OutRefIdeal.main_arg2)
        ∧ r.2.mem ((c.tc : Thread Cert.OutRefIdeal.nD Cert.OutRefIdeal.τ).loc Cert.OutRefIdeal.main_arg3)
          = m ((c.tc : Thread Cert.OutRefIdeal.nD Cert.OutRefIdeal.τ).loc Cert.OutRefIdeal.main_arg3)
        ∧ r.2.mem ((c.tc : Thread Cert.OutRefIdeal.nD Cert.OutRefIdeal.τ).loc Cert.OutRefIdeal.main_arg4)
          = m ((c.tc : Thread Cert.OutRefIdeal.nD Cert.OutRefIdeal.τ).loc Cert.OutRefIdeal.main_arg4)
        ∧ r.2.mem ((c.tc : Thread Cert.OutRefIdeal.nD Cert.OutRefIdeal.τ).loc Cert.OutRefIdeal.main_arg5)
          = m ((c.tc : Thread Cert.OutRefIdeal.nD Cert.OutRefIdeal.τ).loc Cert.OutRefIdeal.main_arg5)
        ∧ r.2.mem ((c.tc : Thread Cert.OutRefIdeal.nD Cert.OutRefIdeal.τ).loc Cert.OutRefIdeal.main_arg6)
          = m ((c.tc : Thread Cert.OutRefIdeal.nD Cert.OutRefIdeal.τ).loc Cert.OutRefIdeal.main_arg6)
        ∧ r.2.mem ((c.tc : Thread Cert.OutRefIdeal.nD Cert.OutRefIdeal.τ).loc Cert.OutRefIdeal.main_arg7)
          = m ((c.tc : Thread Cert.OutRefIdeal.nD Cert.OutRefIdeal.τ).loc Cert.OutRefIdeal.main_arg7))
        ∧ r.2.sem = fun _ => 0) :=
  (θ_run _ _ _).mono (fun r h => ⟨fun c => (h c).2, sem_eq_zero_of_no_sems (by decide) r.2⟩)
    (Cert.OutRefIdeal.Value.run (F := Ideal) m g)

/-- The input projection's two programs end with the same two arrays. -/
theorem proj_value : Cert.algebraic_ProjIdeal_ProjRefIdeal (hProjIdeal := Cert.ProjIdeal.Gen.facts)
    (hProjRefIdeal := Cert.ProjRefIdeal.Gen.facts) := by
  intro m g m' g' _ hagree
  refine ⟨fun c => (Cert.ProjIdeal.Run.dats m 0 c).arrAt 8 Cert.ProjIdeal.cfg0.N, fun c => (Cert.ProjIdeal.Run.dats m 0 c).arrAt 9 Cert.ProjIdeal.cfg0.N,
    Cert.ProjIdeal.Run.run_blocks m g, ?_⟩
  refine (θ_run _ _ _).mono (fun r h c => ⟨(h c).1.trans ?_, (h c).2.1.trans ?_, (h c).2.2⟩) (Cert.ProjRefIdeal.Value.run (F := Ideal) m' g')
  · obtain ⟨h0, h1, h2, h3⟩ := hagree c
    refine (Cert.ProjRefIdeal.Val.first m' c).trans (Eq.trans ?_ (Cert.ProjIdeal.Final.final8 m c).symm)
    rw [h0, h1, h2]
  · obtain ⟨h0, h1, h2, h3⟩ := hagree c
    refine (Cert.ProjRefIdeal.Val.second m' c).trans (Eq.trans ?_ (Cert.ProjIdeal.Final.final9 m c).symm)
    rw [h0, h1, h2, h3]

/-- The input projection's reference runs, keeps its arguments, and leaves every counter at zero. -/
theorem proj_ref_frame (m : (ℓ : Loc Cert.ProjRefIdeal.nD Cert.ProjRefIdeal.τ Cert.ProjRefIdeal.sig) → Buf (Elt Ideal) ℓ)
    (g : Dev Cert.ProjRefIdeal.nD → PrngReg) :
    θ_run (Cert.ProjRefIdeal.defs (F := Ideal)) (onTc (τ := Cert.ProjRefIdeal.τ) (Cert.ProjRefIdeal.main (F := Ideal)))
      ⟨m, fun _ => 0, g⟩ (fun r => (∀ c : Dev Cert.ProjRefIdeal.nD,
        r.2.mem ((c.tc : Thread Cert.ProjRefIdeal.nD Cert.ProjRefIdeal.τ).loc Cert.ProjRefIdeal.main_arg0)
          = m ((c.tc : Thread Cert.ProjRefIdeal.nD Cert.ProjRefIdeal.τ).loc Cert.ProjRefIdeal.main_arg0)
        ∧ r.2.mem ((c.tc : Thread Cert.ProjRefIdeal.nD Cert.ProjRefIdeal.τ).loc Cert.ProjRefIdeal.main_arg1)
          = m ((c.tc : Thread Cert.ProjRefIdeal.nD Cert.ProjRefIdeal.τ).loc Cert.ProjRefIdeal.main_arg1)
        ∧ r.2.mem ((c.tc : Thread Cert.ProjRefIdeal.nD Cert.ProjRefIdeal.τ).loc Cert.ProjRefIdeal.main_arg2)
          = m ((c.tc : Thread Cert.ProjRefIdeal.nD Cert.ProjRefIdeal.τ).loc Cert.ProjRefIdeal.main_arg2)
        ∧ r.2.mem ((c.tc : Thread Cert.ProjRefIdeal.nD Cert.ProjRefIdeal.τ).loc Cert.ProjRefIdeal.main_arg3)
          = m ((c.tc : Thread Cert.ProjRefIdeal.nD Cert.ProjRefIdeal.τ).loc Cert.ProjRefIdeal.main_arg3))
        ∧ r.2.sem = fun _ => 0) :=
  (θ_run _ _ _).mono (fun r h => ⟨fun c => (h c).2.2, sem_eq_zero_of_no_sems (by decide) r.2⟩)
    (Cert.ProjRefIdeal.Value.run (F := Ideal) m g)

/-- The block-sparse attention's two programs end with the same array: each element is the weighted mean of the values. -/
theorem moba_value : Cert.algebraic_MobaIdeal_MobaRefIdeal_pre_moba_finite (hMobaIdeal := Cert.MobaIdeal.Gen.facts)
    (hMobaRefIdeal := Cert.MobaRefIdeal.Gen.facts) (hPre_moba_finite := Cert.Pre_moba_finite.Gen.facts) := by
  intro m g m' g' hpre hagree
  refine ⟨fun c => (Cert.MobaIdeal.Gen.dats m 0 c).arrAt 3 Cert.MobaIdeal.cfg0.N, Cert.MobaIdeal.Value.run_blocks m g, ?_⟩
  refine (θ_run _ _ _).mono (fun r h c => ⟨(h c).1.trans ?_, (h c).2⟩) (Cert.MobaRefIdeal.Value.run (F := Ideal) m' g')
  have hX := Cert.Pre_moba_finite.real _ (hpre c)
  have h0 := hagree c
  refine (Cert.MobaRefIdeal.Val.result m' c _ _ ?_ fun _ _ _ => rfl).trans (Cert.MobaIdeal.Tile.final m c _ _ hX ?_).symm
  · rw [h0]; exact hX
  · rw [h0]; exact fun _ _ _ => rfl

/-- The block-sparse attention's reference runs, keeps its argument, and leaves every counter at zero. -/
theorem moba_ref_frame (m : (ℓ : Loc Cert.MobaRefIdeal.nD Cert.MobaRefIdeal.τ Cert.MobaRefIdeal.sig) → Buf (Elt Ideal) ℓ)
    (g : Dev Cert.MobaRefIdeal.nD → PrngReg) :
    θ_run (Cert.MobaRefIdeal.defs (F := Ideal)) (onTc (τ := Cert.MobaRefIdeal.τ) (Cert.MobaRefIdeal.main (F := Ideal)))
      ⟨m, fun _ => 0, g⟩ (fun r => (∀ c : Dev Cert.MobaRefIdeal.nD,
        r.2.mem ((c.tc : Thread Cert.MobaRefIdeal.nD Cert.MobaRefIdeal.τ).loc Cert.MobaRefIdeal.main_arg0)
          = m ((c.tc : Thread Cert.MobaRefIdeal.nD Cert.MobaRefIdeal.τ).loc Cert.MobaRefIdeal.main_arg0))
        ∧ r.2.sem = fun _ => 0) :=
  (θ_run _ _ _).mono (fun r h => ⟨fun c => (h c).2, sem_eq_zero_of_no_sems (by decide) r.2⟩)
    (Cert.MobaRefIdeal.Value.run (F := Ideal) m g)

/-- The running sum's two programs end with the same array: each element is a prefix sum of its row. -/
theorem csum_value : Cert.algebraic_CsumIdeal_CsumRefIdeal_pre_cumsum_below (hCsumIdeal := Cert.CsumIdeal.Gen.facts)
    (hCsumRefIdeal := Cert.CsumRefIdeal.Gen.facts) (hPre_cumsum_below := Cert.Pre_cumsum_below.Gen.facts) := by
  intro m g m' g' hpre hagree
  refine ⟨fun c => (Cert.CsumIdeal.Gen.dats m 0 c).arrAt 1 Cert.CsumIdeal.cfg0.N, Cert.CsumIdeal.Value.run_blocks m g, ?_⟩
  refine (θ_run _ _ _).mono (fun r h c => ⟨(h c).1.trans ?_, (h c).2⟩) (Cert.CsumRefIdeal.Value.run (F := Ideal) m' g')
  exact (Cert.CsumRefIdeal.Val.result m' c _ (hagree c)).trans
    (Cert.CsumIdeal.Tile.final m c _ rfl (Cert.Pre_cumsum_below.below _ (hpre c))).symm

/-- The running sum's reference runs, keeps its argument, and leaves every counter at zero. -/
theorem csum_ref_frame (m : (ℓ : Loc Cert.CsumRefIdeal.nD Cert.CsumRefIdeal.τ Cert.CsumRefIdeal.sig) → Buf (Elt Ideal) ℓ)
    (g : Dev Cert.CsumRefIdeal.nD → PrngReg) :
    θ_run (Cert.CsumRefIdeal.defs (F := Ideal)) (onTc (τ := Cert.CsumRefIdeal.τ) (Cert.CsumRefIdeal.main (F := Ideal)))
      ⟨m, fun _ => 0, g⟩ (fun r => (∀ c : Dev Cert.CsumRefIdeal.nD,
        r.2.mem ((c.tc : Thread Cert.CsumRefIdeal.nD Cert.CsumRefIdeal.τ).loc Cert.CsumRefIdeal.main_arg0)
          = m ((c.tc : Thread Cert.CsumRefIdeal.nD Cert.CsumRefIdeal.τ).loc Cert.CsumRefIdeal.main_arg0))
        ∧ r.2.sem = fun _ => 0) :=
  (θ_run _ _ _).mono (fun r h => ⟨fun c => (h c).2, sem_eq_zero_of_no_sems (by decide) r.2⟩)
    (Cert.CsumRefIdeal.Value.run (F := Ideal) m g)

/-- Everything claimed. -/
theorem claim : Cert.Claim := ⟨Cert.Fox.Gen.facts, Cert.FoxIdeal.Gen.facts, Cert.FoxRefIdeal.Gen.facts, Cert.Out.Gen.facts, Cert.OutIdeal.Gen.facts, Cert.OutRefIdeal.Gen.facts,
    Cert.Proj.Gen.facts, Cert.ProjIdeal.Gen.facts, Cert.ProjRefIdeal.Gen.facts,
    Cert.Moba.Gen.facts, Cert.MobaIdeal.Gen.facts, Cert.MobaRefIdeal.Gen.facts,
    Cert.Csum.Gen.facts, Cert.CsumIdeal.Gen.facts, Cert.CsumRefIdeal.Gen.facts, Cert.Dsa.Gen.facts,
    Cert.Pre_fox_finite.Gen.facts, Cert.Pre_moba_finite.Gen.facts, Cert.Pre_cumsum_below.Gen.facts, by
  exact ⟨fun m g _ => Cert.Fox.Gen.frame m g, fun m g _ => Cert.FoxIdeal.Gen.frame m g,
    fun m g _ => Cert.FoxIdeal.Gen.frame m g, fun m g _ => fox_ref_frame m g, fun m g _ => fox_ref_frame m g,
    fun m g _ => Cert.Out.Gen.frame m g, fun m g _ => Cert.OutIdeal.Gen.frame m g, fun m g _ => out_ref_frame m g,
    fun m g _ => Cert.Proj.Run.frame m g, fun m g _ => Cert.ProjIdeal.Run.frame m g, fun m g _ => proj_ref_frame m g,
    fun m g _ => Cert.Moba.Gen.frame m g, fun m g _ => Cert.MobaIdeal.Gen.frame m g,
    fun m g _ => Cert.MobaIdeal.Gen.frame m g, fun m g _ => moba_ref_frame m g, fun m g _ => moba_ref_frame m g,
    fun m g _ => Cert.Csum.Gen.frame m g, fun m g _ => Cert.CsumIdeal.Gen.frame m g,
    fun m g _ => Cert.CsumIdeal.Gen.frame m g, fun m g _ => csum_ref_frame m g, fun m g _ => csum_ref_frame m g,
    fun m g _ => Cert.Dsa.Run.frame m g,
    IdealRules.named_const.statement Cert.FoxIdeal.κ "mask" .f32 0xF149F2CA#32 ⊥ rfl, fox_value, trivial, out_value, trivial, proj_value,
    ⟨IdealRules.named_const.statement Cert.MobaIdeal.κ "mask" .f32 0xF149F2CA#32 ⊥ rfl,
      IdealRules.named_const.statement Cert.MobaIdeal.κ "floor" .f32 0xF0C9F2CA#32 ⊥ rfl,
      IdealRules.named_const.statement Cert.MobaIdeal.κ "ceiling" .f32 0x7149F2CA#32 ⊤ rfl⟩, moba_value, trivial, csum_value⟩⟩

end Cert.Proof

end
